-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_MixoutDmain (m : (ℓ : Loc Cert.MixoutDmain.nD Cert.MixoutDmain.τ Cert.MixoutDmain.sig) → Buf (Elt Bits) ℓ) : Prop :=
  True

def Pre_MixoutDmainIdeal (m : (ℓ : Loc Cert.MixoutDmainIdeal.nD Cert.MixoutDmainIdeal.τ Cert.MixoutDmainIdeal.sig) → Buf (Elt Ideal) ℓ) : Prop :=
  True

def Pre_MixoutDmainRefIdeal (m : (ℓ : Loc Cert.MixoutDmainRefIdeal.nD Cert.MixoutDmainRefIdeal.τ Cert.MixoutDmainRefIdeal.sig) → Buf (Elt Ideal) ℓ) : Prop :=
  True

def Pre_MixoutDmem (m : (ℓ : Loc Cert.MixoutDmem.nD Cert.MixoutDmem.τ Cert.MixoutDmem.sig) → Buf (Elt Bits) ℓ) : Prop :=
  True

def Pre_MixoutDmemIdeal (m : (ℓ : Loc Cert.MixoutDmemIdeal.nD Cert.MixoutDmemIdeal.τ Cert.MixoutDmemIdeal.sig) → Buf (Elt Ideal) ℓ) : Prop :=
  True

def Pre_MixoutDmemRefIdeal (m : (ℓ : Loc Cert.MixoutDmemRefIdeal.nD Cert.MixoutDmemRefIdeal.τ Cert.MixoutDmemRefIdeal.sig) → Buf (Elt Ideal) ℓ) : Prop :=
  True

def Pre_MixoutDw (m : (ℓ : Loc Cert.MixoutDw.nD Cert.MixoutDw.τ Cert.MixoutDw.sig) → Buf (Elt Bits) ℓ) : Prop :=
  True

def Pre_MixoutDwIdeal (m : (ℓ : Loc Cert.MixoutDwIdeal.nD Cert.MixoutDwIdeal.τ Cert.MixoutDwIdeal.sig) → Buf (Elt Ideal) ℓ) : Prop :=
  True

def Pre_MixoutDwRefIdeal (m : (ℓ : Loc Cert.MixoutDwRefIdeal.nD Cert.MixoutDwRefIdeal.τ Cert.MixoutDwRefIdeal.sig) → Buf (Elt Ideal) ℓ) : Prop :=
  True

def Pre_InADx (m : (ℓ : Loc Cert.InADx.nD Cert.InADx.τ Cert.InADx.sig) → Buf (Elt Bits) ℓ) : Prop :=
  True

def Pre_InADxIdeal (m : (ℓ : Loc Cert.InADxIdeal.nD Cert.InADxIdeal.τ Cert.InADxIdeal.sig) → Buf (Elt Ideal) ℓ) : Prop :=
  True

def Pre_InADxRefIdeal (m : (ℓ : Loc Cert.InADxRefIdeal.nD Cert.InADxRefIdeal.τ Cert.InADxRefIdeal.sig) → Buf (Elt Ideal) ℓ) : Prop :=
  True

def Pre_InADw (m : (ℓ : Loc Cert.InADw.nD Cert.InADw.τ Cert.InADw.sig) → Buf (Elt Bits) ℓ) : Prop :=
  True

def Pre_InADwIdeal (m : (ℓ : Loc Cert.InADwIdeal.nD Cert.InADwIdeal.τ Cert.InADwIdeal.sig) → Buf (Elt Ideal) ℓ) : Prop :=
  True

def Pre_InADwRefIdeal (m : (ℓ : Loc Cert.InADwRefIdeal.nD Cert.InADwRefIdeal.τ Cert.InADwRefIdeal.sig) → Buf (Elt Ideal) ℓ) : Prop :=
  True

def Pre_InBDx (m : (ℓ : Loc Cert.InBDx.nD Cert.InBDx.τ Cert.InBDx.sig) → Buf (Elt Bits) ℓ) : Prop :=
  True

def Pre_InBDxIdeal (m : (ℓ : Loc Cert.InBDxIdeal.nD Cert.InBDxIdeal.τ Cert.InBDxIdeal.sig) → Buf (Elt Ideal) ℓ) : Prop :=
  True

def Pre_InBDxRefIdeal (m : (ℓ : Loc Cert.InBDxRefIdeal.nD Cert.InBDxRefIdeal.τ Cert.InBDxRefIdeal.sig) → Buf (Elt Ideal) ℓ) : Prop :=
  True

def Pre_InBDw (m : (ℓ : Loc Cert.InBDw.nD Cert.InBDw.τ Cert.InBDw.sig) → Buf (Elt Bits) ℓ) : Prop :=
  True

def Pre_InBDwIdeal (m : (ℓ : Loc Cert.InBDwIdeal.nD Cert.InBDwIdeal.τ Cert.InBDwIdeal.sig) → Buf (Elt Ideal) ℓ) : Prop :=
  True

def Pre_InBDwRefIdeal (m : (ℓ : Loc Cert.InBDwRefIdeal.nD Cert.InBDwRefIdeal.τ Cert.InBDwRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Mixout (m : (ℓ : Loc Cert.Mixout.nD Cert.Mixout.τ Cert.Mixout.sig) → Buf (Elt Bits) ℓ) : Prop :=
  True

def Pre_MixoutIdeal (m : (ℓ : Loc Cert.MixoutIdeal.nD Cert.MixoutIdeal.τ Cert.MixoutIdeal.sig) → Buf (Elt Ideal) ℓ) : Prop :=
  True

def Pre_MixoutRefIdeal (m : (ℓ : Loc Cert.MixoutRefIdeal.nD Cert.MixoutRefIdeal.τ Cert.MixoutRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_GatesFwd (m : (ℓ : Loc Cert.GatesFwd.nD Cert.GatesFwd.τ Cert.GatesFwd.sig) → Buf (Elt Bits) ℓ) : Prop :=
  True

def Pre_GatesFwdIdeal (m : (ℓ : Loc Cert.GatesFwdIdeal.nD Cert.GatesFwdIdeal.τ Cert.GatesFwdIdeal.sig) → Buf (Elt Ideal) ℓ) : Prop :=
  True

def Pre_GatesFwdRefIdeal (m : (ℓ : Loc Cert.GatesFwdRefIdeal.nD Cert.GatesFwdRefIdeal.τ Cert.GatesFwdRefIdeal.sig) → Buf (Elt Ideal) ℓ) : Prop :=
  True

def Pre_KvFwd (m : (ℓ : Loc Cert.KvFwd.nD Cert.KvFwd.τ Cert.KvFwd.sig) → Buf (Elt Bits) ℓ) : Prop :=
  True

def Pre_KvFwdIdeal (m : (ℓ : Loc Cert.KvFwdIdeal.nD Cert.KvFwdIdeal.τ Cert.KvFwdIdeal.sig) → Buf (Elt Ideal) ℓ) : Prop :=
  True

def Pre_KvFwdRefIdeal (m : (ℓ : Loc Cert.KvFwdRefIdeal.nD Cert.KvFwdRefIdeal.τ Cert.KvFwdRefIdeal.sig) → Buf (Elt Ideal) ℓ) : Prop :=
  True

def Pre_MemkvFwd (m : (ℓ : Loc Cert.MemkvFwd.nD Cert.MemkvFwd.τ Cert.MemkvFwd.sig) → Buf (Elt Bits) ℓ) : Prop :=
  True

def Pre_MemkvFwdIdeal (m : (ℓ : Loc Cert.MemkvFwdIdeal.nD Cert.MemkvFwdIdeal.τ Cert.MemkvFwdIdeal.sig) → Buf (Elt Ideal) ℓ) : Prop :=
  True

def Pre_MemkvFwdRefIdeal (m : (ℓ : Loc Cert.MemkvFwdRefIdeal.nD Cert.MemkvFwdRefIdeal.τ Cert.MemkvFwdRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_RmsPair (m : (ℓ : Loc Cert.RmsPair.nD Cert.RmsPair.τ Cert.RmsPair.sig) → Buf (Elt Bits) ℓ) : Prop :=
  True

def Pre_RmsPairIdeal (m : (ℓ : Loc Cert.RmsPairIdeal.nD Cert.RmsPairIdeal.τ Cert.RmsPairIdeal.sig) → Buf (Elt Ideal) ℓ) : Prop :=
  True

def Pre_RmsPairRefIdeal (m : (ℓ : Loc Cert.RmsPairRefIdeal.nD Cert.RmsPairRefIdeal.τ Cert.RmsPairRefIdeal.sig) → Buf (Elt Ideal) ℓ) : Prop :=
  True

def Pre_RmsPost (m : (ℓ : Loc Cert.RmsPost.nD Cert.RmsPost.τ Cert.RmsPost.sig) → Buf (Elt Bits) ℓ) : Prop :=
  True

def Pre_RmsPostIdeal (m : (ℓ : Loc Cert.RmsPostIdeal.nD Cert.RmsPostIdeal.τ Cert.RmsPostIdeal.sig) → Buf (Elt Ideal) ℓ) : Prop :=
  True

def Pre_RmsPostRefIdeal (m : (ℓ : Loc Cert.RmsPostRefIdeal.nD Cert.RmsPostRefIdeal.τ Cert.RmsPostRefIdeal.sig) → Buf (Elt Ideal) ℓ) : Prop :=
  True

def Pre_RmsPre (m : (ℓ : Loc Cert.RmsPre.nD Cert.RmsPre.τ Cert.RmsPre.sig) → Buf (Elt Bits) ℓ) : Prop :=
  True

def Pre_RmsPreIdeal (m : (ℓ : Loc Cert.RmsPreIdeal.nD Cert.RmsPreIdeal.τ Cert.RmsPreIdeal.sig) → Buf (Elt Ideal) ℓ) : Prop :=
  True

def Pre_RmsPreRefIdeal (m : (ℓ : Loc Cert.RmsPreRefIdeal.nD Cert.RmsPreRefIdeal.τ Cert.RmsPreRefIdeal.sig) → Buf (Elt Ideal) ℓ) : Prop :=
  True

def Pre_RmsMem (m : (ℓ : Loc Cert.RmsMem.nD Cert.RmsMem.τ Cert.RmsMem.sig) → Buf (Elt Bits) ℓ) : Prop :=
  True

def Pre_RmsMemIdeal (m : (ℓ : Loc Cert.RmsMemIdeal.nD Cert.RmsMemIdeal.τ Cert.RmsMemIdeal.sig) → Buf (Elt Ideal) ℓ) : Prop :=
  True

def Pre_RmsMemRefIdeal (m : (ℓ : Loc Cert.RmsMemRefIdeal.nD Cert.RmsMemRefIdeal.τ Cert.RmsMemRefIdeal.sig) → Buf (Elt Ideal) ℓ) : Prop :=
  True

def Pre_Turn (m : (ℓ : Loc Cert.Turn.nD Cert.Turn.τ Cert.Turn.sig) → Buf (Elt Bits) ℓ) : Prop :=
  True

def Pre_TurnIdeal (m : (ℓ : Loc Cert.TurnIdeal.nD Cert.TurnIdeal.τ Cert.TurnIdeal.sig) → Buf (Elt Ideal) ℓ) : Prop :=
  True

def Pre_TurnRefIdeal (m : (ℓ : Loc Cert.TurnRefIdeal.nD Cert.TurnRefIdeal.τ Cert.TurnRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_RmsMemFwd (m : (ℓ : Loc Cert.RmsMemFwd.nD Cert.RmsMemFwd.τ Cert.RmsMemFwd.sig) → Buf (Elt Bits) ℓ) : Prop :=
  True

def Pre_RmsMemFwdIdeal (m : (ℓ : Loc Cert.RmsMemFwdIdeal.nD Cert.RmsMemFwdIdeal.τ Cert.RmsMemFwdIdeal.sig) → Buf (Elt Ideal) ℓ) : Prop :=
  True

def Pre_RmsMemFwdRefIdeal (m : (ℓ : Loc Cert.RmsMemFwdRefIdeal.nD Cert.RmsMemFwdRefIdeal.τ Cert.RmsMemFwdRefIdeal.sig) → Buf (Elt Ideal) ℓ) : Prop :=
  True

def Pre_RmsPairFwd (m : (ℓ : Loc Cert.RmsPairFwd.nD Cert.RmsPairFwd.τ Cert.RmsPairFwd.sig) → Buf (Elt Bits) ℓ) : Prop :=
  True

def Pre_RmsPairFwdIdeal (m : (ℓ : Loc Cert.RmsPairFwdIdeal.nD Cert.RmsPairFwdIdeal.τ Cert.RmsPairFwdIdeal.sig) → Buf (Elt Ideal) ℓ) : Prop :=
  True

def Pre_RmsPairFwdRefIdeal (m : (ℓ : Loc Cert.RmsPairFwdRefIdeal.nD Cert.RmsPairFwdRefIdeal.τ Cert.RmsPairFwdRefIdeal.sig) → Buf (Elt Ideal) ℓ) : Prop :=
  True

def Pre_RmsThreeFwd (m : (ℓ : Loc Cert.RmsThreeFwd.nD Cert.RmsThreeFwd.τ Cert.RmsThreeFwd.sig) → Buf (Elt Bits) ℓ) : Prop :=
  True

def Pre_RmsThreeFwdIdeal (m : (ℓ : Loc Cert.RmsThreeFwdIdeal.nD Cert.RmsThreeFwdIdeal.τ Cert.RmsThreeFwdIdeal.sig) → Buf (Elt Ideal) ℓ) : Prop :=
  True

def Pre_RmsThreeFwdRefIdeal (m : (ℓ : Loc Cert.RmsThreeFwdRefIdeal.nD Cert.RmsThreeFwdRefIdeal.τ Cert.RmsThreeFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_MixoutDmain [hMixoutDmain : Cert.MixoutDmain.Facts] : Prop :=
  ∀ (m : (ℓ : Loc Cert.MixoutDmain.nD Cert.MixoutDmain.τ Cert.MixoutDmain.sig) → Buf (Elt Bits) ℓ) (g : Dev Cert.MixoutDmain.nD → PrngReg), Pre_MixoutDmain m →
    θ_run (Cert.MixoutDmain.defs (F := Bits)) (onTc (τ := Cert.MixoutDmain.τ) (Cert.MixoutDmain.main (F := Bits))) ⟨m, fun _ => 0, g⟩ (fun r => (∀ c : Dev Cert.MixoutDmain.nD,
      r.2.mem ((c.tc : Thread Cert.MixoutDmain.nD Cert.MixoutDmain.τ).loc Cert.MixoutDmain.main_arg0) = m ((c.tc : Thread Cert.MixoutDmain.nD Cert.MixoutDmain.τ).loc Cert.MixoutDmain.main_arg0)
      ∧ r.2.mem ((c.tc : Thread Cert.MixoutDmain.nD Cert.MixoutDmain.τ).loc Cert.MixoutDmain.main_arg1) = m ((c.tc : Thread Cert.MixoutDmain.nD Cert.MixoutDmain.τ).loc Cert.MixoutDmain.main_arg1))
      ∧ r.2.sem = fun _ => 0)

def quiescent_MixoutDmainIdeal [hMixoutDmainIdeal : Cert.MixoutDmainIdeal.Facts] : Prop :=
  ∀ (m : (ℓ : Loc Cert.MixoutDmainIdeal.nD Cert.MixoutDmainIdeal.τ Cert.MixoutDmainIdeal.sig) → Buf (Elt Ideal) ℓ) (g : Dev Cert.MixoutDmainIdeal.nD → PrngReg), Pre_MixoutDmainIdeal m →
    θ_run (Cert.MixoutDmainIdeal.defs (F := Ideal)) (onTc (τ := Cert.MixoutDmainIdeal.τ) (Cert.MixoutDmainIdeal.main (F := Ideal))) ⟨m, fun _ => 0, g⟩ (fun r => (∀ c : Dev Cert.MixoutDmainIdeal.nD,
      r.2.mem ((c.tc : Thread Cert.MixoutDmainIdeal.nD Cert.MixoutDmainIdeal.τ).loc Cert.MixoutDmainIdeal.main_arg0) = m ((c.tc : Thread Cert.MixoutDmainIdeal.nD Cert.MixoutDmainIdeal.τ).loc Cert.MixoutDmainIdeal.main_arg0)
      ∧ r.2.mem ((c.tc : Thread Cert.MixoutDmainIdeal.nD Cert.MixoutDmainIdeal.τ).loc Cert.MixoutDmainIdeal.main_arg1) = m ((c.tc : Thread Cert.MixoutDmainIdeal.nD Cert.MixoutDmainIdeal.τ).loc Cert.MixoutDmainIdeal.main_arg1))
      ∧ r.2.sem = fun _ => 0)

def quiescent_MixoutDmainRefIdeal [hMixoutDmainRefIdeal : Cert.MixoutDmainRefIdeal.Facts] : Prop :=
  ∀ (m : (ℓ : Loc Cert.MixoutDmainRefIdeal.nD Cert.MixoutDmainRefIdeal.τ Cert.MixoutDmainRefIdeal.sig) → Buf (Elt Ideal) ℓ) (g : Dev Cert.MixoutDmainRefIdeal.nD → PrngReg), Pre_MixoutDmainRefIdeal m →
    θ_run (Cert.MixoutDmainRefIdeal.defs (F := Ideal)) (onTc (τ := Cert.MixoutDmainRefIdeal.τ) (Cert.MixoutDmainRefIdeal.main (F := Ideal))) ⟨m, fun _ => 0, g⟩ (fun r => (∀ c : Dev Cert.MixoutDmainRefIdeal.nD,
      r.2.mem ((c.tc : Thread Cert.MixoutDmainRefIdeal.nD Cert.MixoutDmainRefIdeal.τ).loc Cert.MixoutDmainRefIdeal.main_arg0) = m ((c.tc : Thread Cert.MixoutDmainRefIdeal.nD Cert.MixoutDmainRefIdeal.τ).loc Cert.MixoutDmainRefIdeal.main_arg0)
      ∧ r.2.mem ((c.tc : Thread Cert.MixoutDmainRefIdeal.nD Cert.MixoutDmainRefIdeal.τ).loc Cert.MixoutDmainRefIdeal.main_arg1) = m ((c.tc : Thread Cert.MixoutDmainRefIdeal.nD Cert.MixoutDmainRefIdeal.τ).loc Cert.MixoutDmainRefIdeal.main_arg1))
      ∧ r.2.sem = fun _ => 0)

def quiescent_MixoutDmem [hMixoutDmem : Cert.MixoutDmem.Facts] : Prop :=
  ∀ (m : (ℓ : Loc Cert.MixoutDmem.nD Cert.MixoutDmem.τ Cert.MixoutDmem.sig) → Buf (Elt Bits) ℓ) (g : Dev Cert.MixoutDmem.nD → PrngReg), Pre_MixoutDmem m →
    θ_run (Cert.MixoutDmem.defs (F := Bits)) (onTc (τ := Cert.MixoutDmem.τ) (Cert.MixoutDmem.main (F := Bits))) ⟨m, fun _ => 0, g⟩ (fun r => (∀ c : Dev Cert.MixoutDmem.nD,
      r.2.mem ((c.tc : Thread Cert.MixoutDmem.nD Cert.MixoutDmem.τ).loc Cert.MixoutDmem.main_arg0) = m ((c.tc : Thread Cert.MixoutDmem.nD Cert.MixoutDmem.τ).loc Cert.MixoutDmem.main_arg0)
      ∧ r.2.mem ((c.tc : Thread Cert.MixoutDmem.nD Cert.MixoutDmem.τ).loc Cert.MixoutDmem.main_arg1) = m ((c.tc : Thread Cert.MixoutDmem.nD Cert.MixoutDmem.τ).loc Cert.MixoutDmem.main_arg1))
      ∧ r.2.sem = fun _ => 0)

def quiescent_MixoutDmemIdeal [hMixoutDmemIdeal : Cert.MixoutDmemIdeal.Facts] : Prop :=
  ∀ (m : (ℓ : Loc Cert.MixoutDmemIdeal.nD Cert.MixoutDmemIdeal.τ Cert.MixoutDmemIdeal.sig) → Buf (Elt Ideal) ℓ) (g : Dev Cert.MixoutDmemIdeal.nD → PrngReg), Pre_MixoutDmemIdeal m →
    θ_run (Cert.MixoutDmemIdeal.defs (F := Ideal)) (onTc (τ := Cert.MixoutDmemIdeal.τ) (Cert.MixoutDmemIdeal.main (F := Ideal))) ⟨m, fun _ => 0, g⟩ (fun r => (∀ c : Dev Cert.MixoutDmemIdeal.nD,
      r.2.mem ((c.tc : Thread Cert.MixoutDmemIdeal.nD Cert.MixoutDmemIdeal.τ).loc Cert.MixoutDmemIdeal.main_arg0) = m ((c.tc : Thread Cert.MixoutDmemIdeal.nD Cert.MixoutDmemIdeal.τ).loc Cert.MixoutDmemIdeal.main_arg0)
      ∧ r.2.mem ((c.tc : Thread Cert.MixoutDmemIdeal.nD Cert.MixoutDmemIdeal.τ).loc Cert.MixoutDmemIdeal.main_arg1) = m ((c.tc : Thread Cert.MixoutDmemIdeal.nD Cert.MixoutDmemIdeal.τ).loc Cert.MixoutDmemIdeal.main_arg1))
      ∧ r.2.sem = fun _ => 0)

def quiescent_MixoutDmemRefIdeal [hMixoutDmemRefIdeal : Cert.MixoutDmemRefIdeal.Facts] : Prop :=
  ∀ (m : (ℓ : Loc Cert.MixoutDmemRefIdeal.nD Cert.MixoutDmemRefIdeal.τ Cert.MixoutDmemRefIdeal.sig) → Buf (Elt Ideal) ℓ) (g : Dev Cert.MixoutDmemRefIdeal.nD → PrngReg), Pre_MixoutDmemRefIdeal m →
    θ_run (Cert.MixoutDmemRefIdeal.defs (F := Ideal)) (onTc (τ := Cert.MixoutDmemRefIdeal.τ) (Cert.MixoutDmemRefIdeal.main (F := Ideal))) ⟨m, fun _ => 0, g⟩ (fun r => (∀ c : Dev Cert.MixoutDmemRefIdeal.nD,
      r.2.mem ((c.tc : Thread Cert.MixoutDmemRefIdeal.nD Cert.MixoutDmemRefIdeal.τ).loc Cert.MixoutDmemRefIdeal.main_arg0) = m ((c.tc : Thread Cert.MixoutDmemRefIdeal.nD Cert.MixoutDmemRefIdeal.τ).loc Cert.MixoutDmemRefIdeal.main_arg0)
      ∧ r.2.mem ((c.tc : Thread Cert.MixoutDmemRefIdeal.nD Cert.MixoutDmemRefIdeal.τ).loc Cert.MixoutDmemRefIdeal.main_arg1) = m ((c.tc : Thread Cert.MixoutDmemRefIdeal.nD Cert.MixoutDmemRefIdeal.τ).loc Cert.MixoutDmemRefIdeal.main_arg1))
      ∧ r.2.sem = fun _ => 0)

def quiescent_MixoutDw [hMixoutDw : Cert.MixoutDw.Facts] : Prop :=
  ∀ (m : (ℓ : Loc Cert.MixoutDw.nD Cert.MixoutDw.τ Cert.MixoutDw.sig) → Buf (Elt Bits) ℓ) (g : Dev Cert.MixoutDw.nD → PrngReg), Pre_MixoutDw m →
    θ_run (Cert.MixoutDw.defs (F := Bits)) (onTc (τ := Cert.MixoutDw.τ) (Cert.MixoutDw.main (F := Bits))) ⟨m, fun _ => 0, g⟩ (fun r => (∀ c : Dev Cert.MixoutDw.nD,
      r.2.mem ((c.tc : Thread Cert.MixoutDw.nD Cert.MixoutDw.τ).loc Cert.MixoutDw.main_arg0) = m ((c.tc : Thread Cert.MixoutDw.nD Cert.MixoutDw.τ).loc Cert.MixoutDw.main_arg0)
      ∧ r.2.mem ((c.tc : Thread Cert.MixoutDw.nD Cert.MixoutDw.τ).loc Cert.MixoutDw.main_arg1) = m ((c.tc : Thread Cert.MixoutDw.nD Cert.MixoutDw.τ).loc Cert.MixoutDw.main_arg1)
      ∧ r.2.mem ((c.tc : Thread Cert.MixoutDw.nD Cert.MixoutDw.τ).loc Cert.MixoutDw.main_arg2) = m ((c.tc : Thread Cert.MixoutDw.nD Cert.MixoutDw.τ).loc Cert.MixoutDw.main_arg2))
      ∧ r.2.sem = fun _ => 0)

def quiescent_MixoutDwIdeal [hMixoutDwIdeal : Cert.MixoutDwIdeal.Facts] : Prop :=
  ∀ (m : (ℓ : Loc Cert.MixoutDwIdeal.nD Cert.MixoutDwIdeal.τ Cert.MixoutDwIdeal.sig) → Buf (Elt Ideal) ℓ) (g : Dev Cert.MixoutDwIdeal.nD → PrngReg), Pre_MixoutDwIdeal m →
    θ_run (Cert.MixoutDwIdeal.defs (F := Ideal)) (onTc (τ := Cert.MixoutDwIdeal.τ) (Cert.MixoutDwIdeal.main (F := Ideal))) ⟨m, fun _ => 0, g⟩ (fun r => (∀ c : Dev Cert.MixoutDwIdeal.nD,
      r.2.mem ((c.tc : Thread Cert.MixoutDwIdeal.nD Cert.MixoutDwIdeal.τ).loc Cert.MixoutDwIdeal.main_arg0) = m ((c.tc : Thread Cert.MixoutDwIdeal.nD Cert.MixoutDwIdeal.τ).loc Cert.MixoutDwIdeal.main_arg0)
      ∧ r.2.mem ((c.tc : Thread Cert.MixoutDwIdeal.nD Cert.MixoutDwIdeal.τ).loc Cert.MixoutDwIdeal.main_arg1) = m ((c.tc : Thread Cert.MixoutDwIdeal.nD Cert.MixoutDwIdeal.τ).loc Cert.MixoutDwIdeal.main_arg1)
      ∧ r.2.mem ((c.tc : Thread Cert.MixoutDwIdeal.nD Cert.MixoutDwIdeal.τ).loc Cert.MixoutDwIdeal.main_arg2) = m ((c.tc : Thread Cert.MixoutDwIdeal.nD Cert.MixoutDwIdeal.τ).loc Cert.MixoutDwIdeal.main_arg2))
      ∧ r.2.sem = fun _ => 0)

def quiescent_MixoutDwRefIdeal [hMixoutDwRefIdeal : Cert.MixoutDwRefIdeal.Facts] : Prop :=
  ∀ (m : (ℓ : Loc Cert.MixoutDwRefIdeal.nD Cert.MixoutDwRefIdeal.τ Cert.MixoutDwRefIdeal.sig) → Buf (Elt Ideal) ℓ) (g : Dev Cert.MixoutDwRefIdeal.nD → PrngReg), Pre_MixoutDwRefIdeal m →
    θ_run (Cert.MixoutDwRefIdeal.defs (F := Ideal)) (onTc (τ := Cert.MixoutDwRefIdeal.τ) (Cert.MixoutDwRefIdeal.main (F := Ideal))) ⟨m, fun _ => 0, g⟩ (fun r => (∀ c : Dev Cert.MixoutDwRefIdeal.nD,
      r.2.mem ((c.tc : Thread Cert.MixoutDwRefIdeal.nD Cert.MixoutDwRefIdeal.τ).loc Cert.MixoutDwRefIdeal.main_arg0) = m ((c.tc : Thread Cert.MixoutDwRefIdeal.nD Cert.MixoutDwRefIdeal.τ).loc Cert.MixoutDwRefIdeal.main_arg0)
      ∧ r.2.mem ((c.tc : Thread Cert.MixoutDwRefIdeal.nD Cert.MixoutDwRefIdeal.τ).loc Cert.MixoutDwRefIdeal.main_arg1) = m ((c.tc : Thread Cert.MixoutDwRefIdeal.nD Cert.MixoutDwRefIdeal.τ).loc Cert.MixoutDwRefIdeal.main_arg1)
      ∧ r.2.mem ((c.tc : Thread Cert.MixoutDwRefIdeal.nD Cert.MixoutDwRefIdeal.τ).loc Cert.MixoutDwRefIdeal.main_arg2) = m ((c.tc : Thread Cert.MixoutDwRefIdeal.nD Cert.MixoutDwRefIdeal.τ).loc Cert.MixoutDwRefIdeal.main_arg2))
      ∧ r.2.sem = fun _ => 0)

def quiescent_InADx [hInADx : Cert.InADx.Facts] : Prop :=
  ∀ (m : (ℓ : Loc Cert.InADx.nD Cert.InADx.τ Cert.InADx.sig) → Buf (Elt Bits) ℓ) (g : Dev Cert.InADx.nD → PrngReg), Pre_InADx m →
    θ_run (Cert.InADx.defs (F := Bits)) (onTc (τ := Cert.InADx.τ) (Cert.InADx.main (F := Bits))) ⟨m, fun _ => 0, g⟩ (fun r => (∀ c : Dev Cert.InADx.nD,
      r.2.mem ((c.tc : Thread Cert.InADx.nD Cert.InADx.τ).loc Cert.InADx.main_arg0) = m ((c.tc : Thread Cert.InADx.nD Cert.InADx.τ).loc Cert.InADx.main_arg0)
      ∧ r.2.mem ((c.tc : Thread Cert.InADx.nD Cert.InADx.τ).loc Cert.InADx.main_arg1) = m ((c.tc : Thread Cert.InADx.nD Cert.InADx.τ).loc Cert.InADx.main_arg1)
      ∧ r.2.mem ((c.tc : Thread Cert.InADx.nD Cert.InADx.τ).loc Cert.InADx.main_arg2) = m ((c.tc : Thread Cert.InADx.nD Cert.InADx.τ).loc Cert.InADx.main_arg2)
      ∧ r.2.mem ((c.tc : Thread Cert.InADx.nD Cert.InADx.τ).loc Cert.InADx.main_arg3) = m ((c.tc : Thread Cert.InADx.nD Cert.InADx.τ).loc Cert.InADx.main_arg3))
      ∧ r.2.sem = fun _ => 0)

def quiescent_InADxIdeal [hInADxIdeal : Cert.InADxIdeal.Facts] : Prop :=
  ∀ (m : (ℓ : Loc Cert.InADxIdeal.nD Cert.InADxIdeal.τ Cert.InADxIdeal.sig) → Buf (Elt Ideal) ℓ) (g : Dev Cert.InADxIdeal.nD → PrngReg), Pre_InADxIdeal m →
    θ_run (Cert.InADxIdeal.defs (F := Ideal)) (onTc (τ := Cert.InADxIdeal.τ) (Cert.InADxIdeal.main (F := Ideal))) ⟨m, fun _ => 0, g⟩ (fun r => (∀ c : Dev Cert.InADxIdeal.nD,
      r.2.mem ((c.tc : Thread Cert.InADxIdeal.nD Cert.InADxIdeal.τ).loc Cert.InADxIdeal.main_arg0) = m ((c.tc : Thread Cert.InADxIdeal.nD Cert.InADxIdeal.τ).loc Cert.InADxIdeal.main_arg0)
      ∧ r.2.mem ((c.tc : Thread Cert.InADxIdeal.nD Cert.InADxIdeal.τ).loc Cert.InADxIdeal.main_arg1) = m ((c.tc : Thread Cert.InADxIdeal.nD Cert.InADxIdeal.τ).loc Cert.InADxIdeal.main_arg1)
      ∧ r.2.mem ((c.tc : Thread Cert.InADxIdeal.nD Cert.InADxIdeal.τ).loc Cert.InADxIdeal.main_arg2) = m ((c.tc : Thread Cert.InADxIdeal.nD Cert.InADxIdeal.τ).loc Cert.InADxIdeal.main_arg2)
      ∧ r.2.mem ((c.tc : Thread Cert.InADxIdeal.nD Cert.InADxIdeal.τ).loc Cert.InADxIdeal.main_arg3) = m ((c.tc : Thread Cert.InADxIdeal.nD Cert.InADxIdeal.τ).loc Cert.InADxIdeal.main_arg3))
      ∧ r.2.sem = fun _ => 0)

def quiescent_InADxRefIdeal [hInADxRefIdeal : Cert.InADxRefIdeal.Facts] : Prop :=
  ∀ (m : (ℓ : Loc Cert.InADxRefIdeal.nD Cert.InADxRefIdeal.τ Cert.InADxRefIdeal.sig) → Buf (Elt Ideal) ℓ) (g : Dev Cert.InADxRefIdeal.nD → PrngReg), Pre_InADxRefIdeal m →
    θ_run (Cert.InADxRefIdeal.defs (F := Ideal)) (onTc (τ := Cert.InADxRefIdeal.τ) (Cert.InADxRefIdeal.main (F := Ideal))) ⟨m, fun _ => 0, g⟩ (fun r => (∀ c : Dev Cert.InADxRefIdeal.nD,
      r.2.mem ((c.tc : Thread Cert.InADxRefIdeal.nD Cert.InADxRefIdeal.τ).loc Cert.InADxRefIdeal.main_arg0) = m ((c.tc : Thread Cert.InADxRefIdeal.nD Cert.InADxRefIdeal.τ).loc Cert.InADxRefIdeal.main_arg0)
      ∧ r.2.mem ((c.tc : Thread Cert.InADxRefIdeal.nD Cert.InADxRefIdeal.τ).loc Cert.InADxRefIdeal.main_arg1) = m ((c.tc : Thread Cert.InADxRefIdeal.nD Cert.InADxRefIdeal.τ).loc Cert.InADxRefIdeal.main_arg1)
      ∧ r.2.mem ((c.tc : Thread Cert.InADxRefIdeal.nD Cert.InADxRefIdeal.τ).loc Cert.InADxRefIdeal.main_arg2) = m ((c.tc : Thread Cert.InADxRefIdeal.nD Cert.InADxRefIdeal.τ).loc Cert.InADxRefIdeal.main_arg2)
      ∧ r.2.mem ((c.tc : Thread Cert.InADxRefIdeal.nD Cert.InADxRefIdeal.τ).loc Cert.InADxRefIdeal.main_arg3) = m ((c.tc : Thread Cert.InADxRefIdeal.nD Cert.InADxRefIdeal.τ).loc Cert.InADxRefIdeal.main_arg3))
      ∧ r.2.sem = fun _ => 0)

def quiescent_InADw [hInADw : Cert.InADw.Facts] : Prop :=
  ∀ (m : (ℓ : Loc Cert.InADw.nD Cert.InADw.τ Cert.InADw.sig) → Buf (Elt Bits) ℓ) (g : Dev Cert.InADw.nD → PrngReg), Pre_InADw m →
    θ_run (Cert.InADw.defs (F := Bits)) (onTc (τ := Cert.InADw.τ) (Cert.InADw.main (F := Bits))) ⟨m, fun _ => 0, g⟩ (fun r => (∀ c : Dev Cert.InADw.nD,
      r.2.mem ((c.tc : Thread Cert.InADw.nD Cert.InADw.τ).loc Cert.InADw.main_arg0) = m ((c.tc : Thread Cert.InADw.nD Cert.InADw.τ).loc Cert.InADw.main_arg0)
      ∧ r.2.mem ((c.tc : Thread Cert.InADw.nD Cert.InADw.τ).loc Cert.InADw.main_arg1) = m ((c.tc : Thread Cert.InADw.nD Cert.InADw.τ).loc Cert.InADw.main_arg1)
      ∧ r.2.mem ((c.tc : Thread Cert.InADw.nD Cert.InADw.τ).loc Cert.InADw.main_arg2) = m ((c.tc : Thread Cert.InADw.nD Cert.InADw.τ).loc Cert.InADw.main_arg2)
      ∧ r.2.mem ((c.tc : Thread Cert.InADw.nD Cert.InADw.τ).loc Cert.InADw.main_arg3) = m ((c.tc : Thread Cert.InADw.nD Cert.InADw.τ).loc Cert.InADw.main_arg3))
      ∧ r.2.sem = fun _ => 0)

def quiescent_InADwIdeal [hInADwIdeal : Cert.InADwIdeal.Facts] : Prop :=
  ∀ (m : (ℓ : Loc Cert.InADwIdeal.nD Cert.InADwIdeal.τ Cert.InADwIdeal.sig) → Buf (Elt Ideal) ℓ) (g : Dev Cert.InADwIdeal.nD → PrngReg), Pre_InADwIdeal m →
    θ_run (Cert.InADwIdeal.defs (F := Ideal)) (onTc (τ := Cert.InADwIdeal.τ) (Cert.InADwIdeal.main (F := Ideal))) ⟨m, fun _ => 0, g⟩ (fun r => (∀ c : Dev Cert.InADwIdeal.nD,
      r.2.mem ((c.tc : Thread Cert.InADwIdeal.nD Cert.InADwIdeal.τ).loc Cert.InADwIdeal.main_arg0) = m ((c.tc : Thread Cert.InADwIdeal.nD Cert.InADwIdeal.τ).loc Cert.InADwIdeal.main_arg0)
      ∧ r.2.mem ((c.tc : Thread Cert.InADwIdeal.nD Cert.InADwIdeal.τ).loc Cert.InADwIdeal.main_arg1) = m ((c.tc : Thread Cert.InADwIdeal.nD Cert.InADwIdeal.τ).loc Cert.InADwIdeal.main_arg1)
      ∧ r.2.mem ((c.tc : Thread Cert.InADwIdeal.nD Cert.InADwIdeal.τ).loc Cert.InADwIdeal.main_arg2) = m ((c.tc : Thread Cert.InADwIdeal.nD Cert.InADwIdeal.τ).loc Cert.InADwIdeal.main_arg2)
      ∧ r.2.mem ((c.tc : Thread Cert.InADwIdeal.nD Cert.InADwIdeal.τ).loc Cert.InADwIdeal.main_arg3) = m ((c.tc : Thread Cert.InADwIdeal.nD Cert.InADwIdeal.τ).loc Cert.InADwIdeal.main_arg3))
      ∧ r.2.sem = fun _ => 0)

def quiescent_InADwRefIdeal [hInADwRefIdeal : Cert.InADwRefIdeal.Facts] : Prop :=
  ∀ (m : (ℓ : Loc Cert.InADwRefIdeal.nD Cert.InADwRefIdeal.τ Cert.InADwRefIdeal.sig) → Buf (Elt Ideal) ℓ) (g : Dev Cert.InADwRefIdeal.nD → PrngReg), Pre_InADwRefIdeal m →
    θ_run (Cert.InADwRefIdeal.defs (F := Ideal)) (onTc (τ := Cert.InADwRefIdeal.τ) (Cert.InADwRefIdeal.main (F := Ideal))) ⟨m, fun _ => 0, g⟩ (fun r => (∀ c : Dev Cert.InADwRefIdeal.nD,
      r.2.mem ((c.tc : Thread Cert.InADwRefIdeal.nD Cert.InADwRefIdeal.τ).loc Cert.InADwRefIdeal.main_arg0) = m ((c.tc : Thread Cert.InADwRefIdeal.nD Cert.InADwRefIdeal.τ).loc Cert.InADwRefIdeal.main_arg0)
      ∧ r.2.mem ((c.tc : Thread Cert.InADwRefIdeal.nD Cert.InADwRefIdeal.τ).loc Cert.InADwRefIdeal.main_arg1) = m ((c.tc : Thread Cert.InADwRefIdeal.nD Cert.InADwRefIdeal.τ).loc Cert.InADwRefIdeal.main_arg1)
      ∧ r.2.mem ((c.tc : Thread Cert.InADwRefIdeal.nD Cert.InADwRefIdeal.τ).loc Cert.InADwRefIdeal.main_arg2) = m ((c.tc : Thread Cert.InADwRefIdeal.nD Cert.InADwRefIdeal.τ).loc Cert.InADwRefIdeal.main_arg2)
      ∧ r.2.mem ((c.tc : Thread Cert.InADwRefIdeal.nD Cert.InADwRefIdeal.τ).loc Cert.InADwRefIdeal.main_arg3) = m ((c.tc : Thread Cert.InADwRefIdeal.nD Cert.InADwRefIdeal.τ).loc Cert.InADwRefIdeal.main_arg3))
      ∧ r.2.sem = fun _ => 0)

def quiescent_InBDx [hInBDx : Cert.InBDx.Facts] : Prop :=
  ∀ (m : (ℓ : Loc Cert.InBDx.nD Cert.InBDx.τ Cert.InBDx.sig) → Buf (Elt Bits) ℓ) (g : Dev Cert.InBDx.nD → PrngReg), Pre_InBDx m →
    θ_run (Cert.InBDx.defs (F := Bits)) (onTc (τ := Cert.InBDx.τ) (Cert.InBDx.main (F := Bits))) ⟨m, fun _ => 0, g⟩ (fun r => (∀ c : Dev Cert.InBDx.nD,
      r.2.mem ((c.tc : Thread Cert.InBDx.nD Cert.InBDx.τ).loc Cert.InBDx.main_arg0) = m ((c.tc : Thread Cert.InBDx.nD Cert.InBDx.τ).loc Cert.InBDx.main_arg0)
      ∧ r.2.mem ((c.tc : Thread Cert.InBDx.nD Cert.InBDx.τ).loc Cert.InBDx.main_arg1) = m ((c.tc : Thread Cert.InBDx.nD Cert.InBDx.τ).loc Cert.InBDx.main_arg1)
      ∧ r.2.mem ((c.tc : Thread Cert.InBDx.nD Cert.InBDx.τ).loc Cert.InBDx.main_arg2) = m ((c.tc : Thread Cert.InBDx.nD Cert.InBDx.τ).loc Cert.InBDx.main_arg2))
      ∧ r.2.sem = fun _ => 0)

def quiescent_InBDxIdeal [hInBDxIdeal : Cert.InBDxIdeal.Facts] : Prop :=
  ∀ (m : (ℓ : Loc Cert.InBDxIdeal.nD Cert.InBDxIdeal.τ Cert.InBDxIdeal.sig) → Buf (Elt Ideal) ℓ) (g : Dev Cert.InBDxIdeal.nD → PrngReg), Pre_InBDxIdeal m →
    θ_run (Cert.InBDxIdeal.defs (F := Ideal)) (onTc (τ := Cert.InBDxIdeal.τ) (Cert.InBDxIdeal.main (F := Ideal))) ⟨m, fun _ => 0, g⟩ (fun r => (∀ c : Dev Cert.InBDxIdeal.nD,
      r.2.mem ((c.tc : Thread Cert.InBDxIdeal.nD Cert.InBDxIdeal.τ).loc Cert.InBDxIdeal.main_arg0) = m ((c.tc : Thread Cert.InBDxIdeal.nD Cert.InBDxIdeal.τ).loc Cert.InBDxIdeal.main_arg0)
      ∧ r.2.mem ((c.tc : Thread Cert.InBDxIdeal.nD Cert.InBDxIdeal.τ).loc Cert.InBDxIdeal.main_arg1) = m ((c.tc : Thread Cert.InBDxIdeal.nD Cert.InBDxIdeal.τ).loc Cert.InBDxIdeal.main_arg1)
      ∧ r.2.mem ((c.tc : Thread Cert.InBDxIdeal.nD Cert.InBDxIdeal.τ).loc Cert.InBDxIdeal.main_arg2) = m ((c.tc : Thread Cert.InBDxIdeal.nD Cert.InBDxIdeal.τ).loc Cert.InBDxIdeal.main_arg2))
      ∧ r.2.sem = fun _ => 0)

def quiescent_InBDxRefIdeal [hInBDxRefIdeal : Cert.InBDxRefIdeal.Facts] : Prop :=
  ∀ (m : (ℓ : Loc Cert.InBDxRefIdeal.nD Cert.InBDxRefIdeal.τ Cert.InBDxRefIdeal.sig) → Buf (Elt Ideal) ℓ) (g : Dev Cert.InBDxRefIdeal.nD → PrngReg), Pre_InBDxRefIdeal m →
    θ_run (Cert.InBDxRefIdeal.defs (F := Ideal)) (onTc (τ := Cert.InBDxRefIdeal.τ) (Cert.InBDxRefIdeal.main (F := Ideal))) ⟨m, fun _ => 0, g⟩ (fun r => (∀ c : Dev Cert.InBDxRefIdeal.nD,
      r.2.mem ((c.tc : Thread Cert.InBDxRefIdeal.nD Cert.InBDxRefIdeal.τ).loc Cert.InBDxRefIdeal.main_arg0) = m ((c.tc : Thread Cert.InBDxRefIdeal.nD Cert.InBDxRefIdeal.τ).loc Cert.InBDxRefIdeal.main_arg0)
      ∧ r.2.mem ((c.tc : Thread Cert.InBDxRefIdeal.nD Cert.InBDxRefIdeal.τ).loc Cert.InBDxRefIdeal.main_arg1) = m ((c.tc : Thread Cert.InBDxRefIdeal.nD Cert.InBDxRefIdeal.τ).loc Cert.InBDxRefIdeal.main_arg1)
      ∧ r.2.mem ((c.tc : Thread Cert.InBDxRefIdeal.nD Cert.InBDxRefIdeal.τ).loc Cert.InBDxRefIdeal.main_arg2) = m ((c.tc : Thread Cert.InBDxRefIdeal.nD Cert.InBDxRefIdeal.τ).loc Cert.InBDxRefIdeal.main_arg2))
      ∧ r.2.sem = fun _ => 0)

def quiescent_InBDw [hInBDw : Cert.InBDw.Facts] : Prop :=
  ∀ (m : (ℓ : Loc Cert.InBDw.nD Cert.InBDw.τ Cert.InBDw.sig) → Buf (Elt Bits) ℓ) (g : Dev Cert.InBDw.nD → PrngReg), Pre_InBDw m →
    θ_run (Cert.InBDw.defs (F := Bits)) (onTc (τ := Cert.InBDw.τ) (Cert.InBDw.main (F := Bits))) ⟨m, fun _ => 0, g⟩ (fun r => (∀ c : Dev Cert.InBDw.nD,
      r.2.mem ((c.tc : Thread Cert.InBDw.nD Cert.InBDw.τ).loc Cert.InBDw.main_arg0) = m ((c.tc : Thread Cert.InBDw.nD Cert.InBDw.τ).loc Cert.InBDw.main_arg0)
      ∧ r.2.mem ((c.tc : Thread Cert.InBDw.nD Cert.InBDw.τ).loc Cert.InBDw.main_arg1) = m ((c.tc : Thread Cert.InBDw.nD Cert.InBDw.τ).loc Cert.InBDw.main_arg1)
      ∧ r.2.mem ((c.tc : Thread Cert.InBDw.nD Cert.InBDw.τ).loc Cert.InBDw.main_arg2) = m ((c.tc : Thread Cert.InBDw.nD Cert.InBDw.τ).loc Cert.InBDw.main_arg2))
      ∧ r.2.sem = fun _ => 0)

def quiescent_InBDwIdeal [hInBDwIdeal : Cert.InBDwIdeal.Facts] : Prop :=
  ∀ (m : (ℓ : Loc Cert.InBDwIdeal.nD Cert.InBDwIdeal.τ Cert.InBDwIdeal.sig) → Buf (Elt Ideal) ℓ) (g : Dev Cert.InBDwIdeal.nD → PrngReg), Pre_InBDwIdeal m →
    θ_run (Cert.InBDwIdeal.defs (F := Ideal)) (onTc (τ := Cert.InBDwIdeal.τ) (Cert.InBDwIdeal.main (F := Ideal))) ⟨m, fun _ => 0, g⟩ (fun r => (∀ c : Dev Cert.InBDwIdeal.nD,
      r.2.mem ((c.tc : Thread Cert.InBDwIdeal.nD Cert.InBDwIdeal.τ).loc Cert.InBDwIdeal.main_arg0) = m ((c.tc : Thread Cert.InBDwIdeal.nD Cert.InBDwIdeal.τ).loc Cert.InBDwIdeal.main_arg0)
      ∧ r.2.mem ((c.tc : Thread Cert.InBDwIdeal.nD Cert.InBDwIdeal.τ).loc Cert.InBDwIdeal.main_arg1) = m ((c.tc : Thread Cert.InBDwIdeal.nD Cert.InBDwIdeal.τ).loc Cert.InBDwIdeal.main_arg1)
      ∧ r.2.mem ((c.tc : Thread Cert.InBDwIdeal.nD Cert.InBDwIdeal.τ).loc Cert.InBDwIdeal.main_arg2) = m ((c.tc : Thread Cert.InBDwIdeal.nD Cert.InBDwIdeal.τ).loc Cert.InBDwIdeal.main_arg2))
      ∧ r.2.sem = fun _ => 0)

def quiescent_InBDwRefIdeal [hInBDwRefIdeal : Cert.InBDwRefIdeal.Facts] : Prop :=
  ∀ (m : (ℓ : Loc Cert.InBDwRefIdeal.nD Cert.InBDwRefIdeal.τ Cert.InBDwRefIdeal.sig) → Buf (Elt Ideal) ℓ) (g : Dev Cert.InBDwRefIdeal.nD → PrngReg), Pre_InBDwRefIdeal m →
    θ_run (Cert.InBDwRefIdeal.defs (F := Ideal)) (onTc (τ := Cert.InBDwRefIdeal.τ) (Cert.InBDwRefIdeal.main (F := Ideal))) ⟨m, fun _ => 0, g⟩ (fun r => (∀ c : Dev Cert.InBDwRefIdeal.nD,
      r.2.mem ((c.tc : Thread Cert.InBDwRefIdeal.nD Cert.InBDwRefIdeal.τ).loc Cert.InBDwRefIdeal.main_arg0) = m ((c.tc : Thread Cert.InBDwRefIdeal.nD Cert.InBDwRefIdeal.τ).loc Cert.InBDwRefIdeal.main_arg0)
      ∧ r.2.mem ((c.tc : Thread Cert.InBDwRefIdeal.nD Cert.InBDwRefIdeal.τ).loc Cert.InBDwRefIdeal.main_arg1) = m ((c.tc : Thread Cert.InBDwRefIdeal.nD Cert.InBDwRefIdeal.τ).loc Cert.InBDwRefIdeal.main_arg1)
      ∧ r.2.mem ((c.tc : Thread Cert.InBDwRefIdeal.nD Cert.InBDwRefIdeal.τ).loc Cert.InBDwRefIdeal.main_arg2) = m ((c.tc : Thread Cert.InBDwRefIdeal.nD Cert.InBDwRefIdeal.τ).loc Cert.InBDwRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Mixout [hMixout : Cert.Mixout.Facts] : Prop :=
  ∀ (m : (ℓ : Loc Cert.Mixout.nD Cert.Mixout.τ Cert.Mixout.sig) → Buf (Elt Bits) ℓ) (g : Dev Cert.Mixout.nD → PrngReg), Pre_Mixout m →
    θ_run (Cert.Mixout.defs (F := Bits)) (onTc (τ := Cert.Mixout.τ) (Cert.Mixout.main (F := Bits))) ⟨m, fun _ => 0, g⟩ (fun r => (∀ c : Dev Cert.Mixout.nD,
      r.2.mem ((c.tc : Thread Cert.Mixout.nD Cert.Mixout.τ).loc Cert.Mixout.main_arg0) = m ((c.tc : Thread Cert.Mixout.nD Cert.Mixout.τ).loc Cert.Mixout.main_arg0)
      ∧ r.2.mem ((c.tc : Thread Cert.Mixout.nD Cert.Mixout.τ).loc Cert.Mixout.main_arg1) = m ((c.tc : Thread Cert.Mixout.nD Cert.Mixout.τ).loc Cert.Mixout.main_arg1)
      ∧ r.2.mem ((c.tc : Thread Cert.Mixout.nD Cert.Mixout.τ).loc Cert.Mixout.main_arg2) = m ((c.tc : Thread Cert.Mixout.nD Cert.Mixout.τ).loc Cert.Mixout.main_arg2))
      ∧ r.2.sem = fun _ => 0)

def quiescent_MixoutIdeal [hMixoutIdeal : Cert.MixoutIdeal.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2))
      ∧ r.2.sem = fun _ => 0)

def quiescent_MixoutRefIdeal [hMixoutRefIdeal : Cert.MixoutRefIdeal.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1)
      ∧ r.2.mem ((c.tc : Thread Cert.MixoutRefIdeal.nD Cert.MixoutRefIdeal.τ).loc Cert.MixoutRefIdeal.main_arg2) = m ((c.tc : Thread Cert.MixoutRefIdeal.nD Cert.MixoutRefIdeal.τ).loc Cert.MixoutRefIdeal.main_arg2))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_GatesFwd [hGatesFwd : Cert.GatesFwd.Facts] : Prop :=
  ∀ (m : (ℓ : Loc Cert.GatesFwd.nD Cert.GatesFwd.τ Cert.GatesFwd.sig) → Buf (Elt Bits) ℓ) (g : Dev Cert.GatesFwd.nD → PrngReg), Pre_GatesFwd m →
    θ_run (Cert.GatesFwd.defs (F := Bits)) (onTc (τ := Cert.GatesFwd.τ) (Cert.GatesFwd.main (F := Bits))) ⟨m, fun _ => 0, g⟩ (fun r => (∀ c : Dev Cert.GatesFwd.nD,
      r.2.mem ((c.tc : Thread Cert.GatesFwd.nD Cert.GatesFwd.τ).loc Cert.GatesFwd.main_arg0) = m ((c.tc : Thread Cert.GatesFwd.nD Cert.GatesFwd.τ).loc Cert.GatesFwd.main_arg0)
      ∧ r.2.mem ((c.tc : Thread Cert.GatesFwd.nD Cert.GatesFwd.τ).loc Cert.GatesFwd.main_arg1) = m ((c.tc : Thread Cert.GatesFwd.nD Cert.GatesFwd.τ).loc Cert.GatesFwd.main_arg1))
      ∧ r.2.sem = fun _ => 0)

def quiescent_GatesFwdIdeal [hGatesFwdIdeal : Cert.GatesFwdIdeal.Facts] : Prop :=
  ∀ (m : (ℓ : Loc Cert.GatesFwdIdeal.nD Cert.GatesFwdIdeal.τ Cert.GatesFwdIdeal.sig) → Buf (Elt Ideal) ℓ) (g : Dev Cert.GatesFwdIdeal.nD → PrngReg), Pre_GatesFwdIdeal m →
    θ_run (Cert.GatesFwdIdeal.defs (F := Ideal)) (onTc (τ := Cert.GatesFwdIdeal.τ) (Cert.GatesFwdIdeal.main (F := Ideal))) ⟨m, fun _ => 0, g⟩ (fun r => (∀ c : Dev Cert.GatesFwdIdeal.nD,
      r.2.mem ((c.tc : Thread Cert.GatesFwdIdeal.nD Cert.GatesFwdIdeal.τ).loc Cert.GatesFwdIdeal.main_arg0) = m ((c.tc : Thread Cert.GatesFwdIdeal.nD Cert.GatesFwdIdeal.τ).loc Cert.GatesFwdIdeal.main_arg0)
      ∧ r.2.mem ((c.tc : Thread Cert.GatesFwdIdeal.nD Cert.GatesFwdIdeal.τ).loc Cert.GatesFwdIdeal.main_arg1) = m ((c.tc : Thread Cert.GatesFwdIdeal.nD Cert.GatesFwdIdeal.τ).loc Cert.GatesFwdIdeal.main_arg1))
      ∧ r.2.sem = fun _ => 0)

def quiescent_GatesFwdRefIdeal [hGatesFwdRefIdeal : Cert.GatesFwdRefIdeal.Facts] : Prop :=
  ∀ (m : (ℓ : Loc Cert.GatesFwdRefIdeal.nD Cert.GatesFwdRefIdeal.τ Cert.GatesFwdRefIdeal.sig) → Buf (Elt Ideal) ℓ) (g : Dev Cert.GatesFwdRefIdeal.nD → PrngReg), Pre_GatesFwdRefIdeal m →
    θ_run (Cert.GatesFwdRefIdeal.defs (F := Ideal)) (onTc (τ := Cert.GatesFwdRefIdeal.τ) (Cert.GatesFwdRefIdeal.main (F := Ideal))) ⟨m, fun _ => 0, g⟩ (fun r => (∀ c : Dev Cert.GatesFwdRefIdeal.nD,
      r.2.mem ((c.tc : Thread Cert.GatesFwdRefIdeal.nD Cert.GatesFwdRefIdeal.τ).loc Cert.GatesFwdRefIdeal.main_arg0) = m ((c.tc : Thread Cert.GatesFwdRefIdeal.nD Cert.GatesFwdRefIdeal.τ).loc Cert.GatesFwdRefIdeal.main_arg0)
      ∧ r.2.mem ((c.tc : Thread Cert.GatesFwdRefIdeal.nD Cert.GatesFwdRefIdeal.τ).loc Cert.GatesFwdRefIdeal.main_arg1) = m ((c.tc : Thread Cert.GatesFwdRefIdeal.nD Cert.GatesFwdRefIdeal.τ).loc Cert.GatesFwdRefIdeal.main_arg1))
      ∧ r.2.sem = fun _ => 0)

def quiescent_KvFwd [hKvFwd : Cert.KvFwd.Facts] : Prop :=
  ∀ (m : (ℓ : Loc Cert.KvFwd.nD Cert.KvFwd.τ Cert.KvFwd.sig) → Buf (Elt Bits) ℓ) (g : Dev Cert.KvFwd.nD → PrngReg), Pre_KvFwd m →
    θ_run (Cert.KvFwd.defs (F := Bits)) (onTc (τ := Cert.KvFwd.τ) (Cert.KvFwd.main (F := Bits))) ⟨m, fun _ => 0, g⟩ (fun r => (∀ c : Dev Cert.KvFwd.nD,
      r.2.mem ((c.tc : Thread Cert.KvFwd.nD Cert.KvFwd.τ).loc Cert.KvFwd.main_arg0) = m ((c.tc : Thread Cert.KvFwd.nD Cert.KvFwd.τ).loc Cert.KvFwd.main_arg0)
      ∧ r.2.mem ((c.tc : Thread Cert.KvFwd.nD Cert.KvFwd.τ).loc Cert.KvFwd.main_arg1) = m ((c.tc : Thread Cert.KvFwd.nD Cert.KvFwd.τ).loc Cert.KvFwd.main_arg1))
      ∧ r.2.sem = fun _ => 0)

def quiescent_KvFwdIdeal [hKvFwdIdeal : Cert.KvFwdIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg), Pre_KvFwdIdeal m →
    θ_run (Cert.KvFwdIdeal.defs (F := Ideal)) (onTc (τ := Cert.KvFwdIdeal.τ) (Cert.KvFwdIdeal.main (F := Ideal))) ⟨m, fun _ => 0, g⟩ (fun r => (∀ c : Dev Cert.KvFwdIdeal.nD,
      r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
      ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1))
      ∧ r.2.sem = fun _ => 0)

def quiescent_KvFwdRefIdeal [hKvFwdRefIdeal : Cert.KvFwdRefIdeal.Facts] : Prop :=
  ∀ (m : (ℓ : Loc Cert.KvFwdRefIdeal.nD Cert.KvFwdRefIdeal.τ Cert.KvFwdRefIdeal.sig) → Buf (Elt Ideal) ℓ) (g : Dev Cert.KvFwdRefIdeal.nD → PrngReg), Pre_KvFwdRefIdeal m →
    θ_run (Cert.KvFwdRefIdeal.defs (F := Ideal)) (onTc (τ := Cert.KvFwdRefIdeal.τ) (Cert.KvFwdRefIdeal.main (F := Ideal))) ⟨m, fun _ => 0, g⟩ (fun r => (∀ c : Dev Cert.KvFwdRefIdeal.nD,
      r.2.mem ((c.tc : Thread Cert.KvFwdRefIdeal.nD Cert.KvFwdRefIdeal.τ).loc Cert.KvFwdRefIdeal.main_arg0) = m ((c.tc : Thread Cert.KvFwdRefIdeal.nD Cert.KvFwdRefIdeal.τ).loc Cert.KvFwdRefIdeal.main_arg0)
      ∧ r.2.mem ((c.tc : Thread Cert.KvFwdRefIdeal.nD Cert.KvFwdRefIdeal.τ).loc Cert.KvFwdRefIdeal.main_arg1) = m ((c.tc : Thread Cert.KvFwdRefIdeal.nD Cert.KvFwdRefIdeal.τ).loc Cert.KvFwdRefIdeal.main_arg1))
      ∧ r.2.sem = fun _ => 0)

def quiescent_MemkvFwd [hMemkvFwd : Cert.MemkvFwd.Facts] : Prop :=
  ∀ (m : (ℓ : Loc Cert.MemkvFwd.nD Cert.MemkvFwd.τ Cert.MemkvFwd.sig) → Buf (Elt Bits) ℓ) (g : Dev Cert.MemkvFwd.nD → PrngReg), Pre_MemkvFwd m →
    θ_run (Cert.MemkvFwd.defs (F := Bits)) (onTc (τ := Cert.MemkvFwd.τ) (Cert.MemkvFwd.main (F := Bits))) ⟨m, fun _ => 0, g⟩ (fun r => (∀ c : Dev Cert.MemkvFwd.nD,
      r.2.mem ((c.tc : Thread Cert.MemkvFwd.nD Cert.MemkvFwd.τ).loc Cert.MemkvFwd.main_arg0) = m ((c.tc : Thread Cert.MemkvFwd.nD Cert.MemkvFwd.τ).loc Cert.MemkvFwd.main_arg0)
      ∧ r.2.mem ((c.tc : Thread Cert.MemkvFwd.nD Cert.MemkvFwd.τ).loc Cert.MemkvFwd.main_arg1) = m ((c.tc : Thread Cert.MemkvFwd.nD Cert.MemkvFwd.τ).loc Cert.MemkvFwd.main_arg1))
      ∧ r.2.sem = fun _ => 0)

def quiescent_MemkvFwdIdeal [hMemkvFwdIdeal : Cert.MemkvFwdIdeal.Facts] : Prop :=
  ∀ (m : (ℓ : Loc Cert.MemkvFwdIdeal.nD Cert.MemkvFwdIdeal.τ Cert.MemkvFwdIdeal.sig) → Buf (Elt Ideal) ℓ) (g : Dev Cert.MemkvFwdIdeal.nD → PrngReg), Pre_MemkvFwdIdeal m →
    θ_run (Cert.MemkvFwdIdeal.defs (F := Ideal)) (onTc (τ := Cert.MemkvFwdIdeal.τ) (Cert.MemkvFwdIdeal.main (F := Ideal))) ⟨m, fun _ => 0, g⟩ (fun r => (∀ c : Dev Cert.MemkvFwdIdeal.nD,
      r.2.mem ((c.tc : Thread Cert.MemkvFwdIdeal.nD Cert.MemkvFwdIdeal.τ).loc Cert.MemkvFwdIdeal.main_arg0) = m ((c.tc : Thread Cert.MemkvFwdIdeal.nD Cert.MemkvFwdIdeal.τ).loc Cert.MemkvFwdIdeal.main_arg0)
      ∧ r.2.mem ((c.tc : Thread Cert.MemkvFwdIdeal.nD Cert.MemkvFwdIdeal.τ).loc Cert.MemkvFwdIdeal.main_arg1) = m ((c.tc : Thread Cert.MemkvFwdIdeal.nD Cert.MemkvFwdIdeal.τ).loc Cert.MemkvFwdIdeal.main_arg1))
      ∧ r.2.sem = fun _ => 0)

def quiescent_MemkvFwdRefIdeal [hMemkvFwdRefIdeal : Cert.MemkvFwdRefIdeal.Facts] : Prop :=
  ∀ (m : (ℓ : Loc Cert.MemkvFwdRefIdeal.nD Cert.MemkvFwdRefIdeal.τ Cert.MemkvFwdRefIdeal.sig) → Buf (Elt Ideal) ℓ) (g : Dev Cert.MemkvFwdRefIdeal.nD → PrngReg), Pre_MemkvFwdRefIdeal m →
    θ_run (Cert.MemkvFwdRefIdeal.defs (F := Ideal)) (onTc (τ := Cert.MemkvFwdRefIdeal.τ) (Cert.MemkvFwdRefIdeal.main (F := Ideal))) ⟨m, fun _ => 0, g⟩ (fun r => (∀ c : Dev Cert.MemkvFwdRefIdeal.nD,
      r.2.mem ((c.tc : Thread Cert.MemkvFwdRefIdeal.nD Cert.MemkvFwdRefIdeal.τ).loc Cert.MemkvFwdRefIdeal.main_arg0) = m ((c.tc : Thread Cert.MemkvFwdRefIdeal.nD Cert.MemkvFwdRefIdeal.τ).loc Cert.MemkvFwdRefIdeal.main_arg0)
      ∧ r.2.mem ((c.tc : Thread Cert.MemkvFwdRefIdeal.nD Cert.MemkvFwdRefIdeal.τ).loc Cert.MemkvFwdRefIdeal.main_arg1) = m ((c.tc : Thread Cert.MemkvFwdRefIdeal.nD Cert.MemkvFwdRefIdeal.τ).loc Cert.MemkvFwdRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_RmsPair [hRmsPair : Cert.RmsPair.Facts] : Prop :=
  ∀ (m : (ℓ : Loc Cert.RmsPair.nD Cert.RmsPair.τ Cert.RmsPair.sig) → Buf (Elt Bits) ℓ) (g : Dev Cert.RmsPair.nD → PrngReg), Pre_RmsPair m →
    θ_run (Cert.RmsPair.defs (F := Bits)) (onTc (τ := Cert.RmsPair.τ) (Cert.RmsPair.main (F := Bits))) ⟨m, fun _ => 0, g⟩ (fun r => (∀ c : Dev Cert.RmsPair.nD,
      r.2.mem ((c.tc : Thread Cert.RmsPair.nD Cert.RmsPair.τ).loc Cert.RmsPair.main_arg0) = m ((c.tc : Thread Cert.RmsPair.nD Cert.RmsPair.τ).loc Cert.RmsPair.main_arg0)
      ∧ r.2.mem ((c.tc : Thread Cert.RmsPair.nD Cert.RmsPair.τ).loc Cert.RmsPair.main_arg1) = m ((c.tc : Thread Cert.RmsPair.nD Cert.RmsPair.τ).loc Cert.RmsPair.main_arg1)
      ∧ r.2.mem ((c.tc : Thread Cert.RmsPair.nD Cert.RmsPair.τ).loc Cert.RmsPair.main_arg2) = m ((c.tc : Thread Cert.RmsPair.nD Cert.RmsPair.τ).loc Cert.RmsPair.main_arg2)
      ∧ r.2.mem ((c.tc : Thread Cert.RmsPair.nD Cert.RmsPair.τ).loc Cert.RmsPair.main_arg3) = m ((c.tc : Thread Cert.RmsPair.nD Cert.RmsPair.τ).loc Cert.RmsPair.main_arg3)
      ∧ r.2.mem ((c.tc : Thread Cert.RmsPair.nD Cert.RmsPair.τ).loc Cert.RmsPair.main_arg4) = m ((c.tc : Thread Cert.RmsPair.nD Cert.RmsPair.τ).loc Cert.RmsPair.main_arg4)
      ∧ r.2.mem ((c.tc : Thread Cert.RmsPair.nD Cert.RmsPair.τ).loc Cert.RmsPair.main_arg5) = m ((c.tc : Thread Cert.RmsPair.nD Cert.RmsPair.τ).loc Cert.RmsPair.main_arg5))
      ∧ r.2.sem = fun _ => 0)

def quiescent_RmsPairIdeal [hRmsPairIdeal : Cert.RmsPairIdeal.Facts] : Prop :=
  ∀ (m : (ℓ : Loc Cert.RmsPairIdeal.nD Cert.RmsPairIdeal.τ Cert.RmsPairIdeal.sig) → Buf (Elt Ideal) ℓ) (g : Dev Cert.RmsPairIdeal.nD → PrngReg), Pre_RmsPairIdeal m →
    θ_run (Cert.RmsPairIdeal.defs (F := Ideal)) (onTc (τ := Cert.RmsPairIdeal.τ) (Cert.RmsPairIdeal.main (F := Ideal))) ⟨m, fun _ => 0, g⟩ (fun r => (∀ c : Dev Cert.RmsPairIdeal.nD,
      r.2.mem ((c.tc : Thread Cert.RmsPairIdeal.nD Cert.RmsPairIdeal.τ).loc Cert.RmsPairIdeal.main_arg0) = m ((c.tc : Thread Cert.RmsPairIdeal.nD Cert.RmsPairIdeal.τ).loc Cert.RmsPairIdeal.main_arg0)
      ∧ r.2.mem ((c.tc : Thread Cert.RmsPairIdeal.nD Cert.RmsPairIdeal.τ).loc Cert.RmsPairIdeal.main_arg1) = m ((c.tc : Thread Cert.RmsPairIdeal.nD Cert.RmsPairIdeal.τ).loc Cert.RmsPairIdeal.main_arg1)
      ∧ r.2.mem ((c.tc : Thread Cert.RmsPairIdeal.nD Cert.RmsPairIdeal.τ).loc Cert.RmsPairIdeal.main_arg2) = m ((c.tc : Thread Cert.RmsPairIdeal.nD Cert.RmsPairIdeal.τ).loc Cert.RmsPairIdeal.main_arg2)
      ∧ r.2.mem ((c.tc : Thread Cert.RmsPairIdeal.nD Cert.RmsPairIdeal.τ).loc Cert.RmsPairIdeal.main_arg3) = m ((c.tc : Thread Cert.RmsPairIdeal.nD Cert.RmsPairIdeal.τ).loc Cert.RmsPairIdeal.main_arg3)
      ∧ r.2.mem ((c.tc : Thread Cert.RmsPairIdeal.nD Cert.RmsPairIdeal.τ).loc Cert.RmsPairIdeal.main_arg4) = m ((c.tc : Thread Cert.RmsPairIdeal.nD Cert.RmsPairIdeal.τ).loc Cert.RmsPairIdeal.main_arg4)
      ∧ r.2.mem ((c.tc : Thread Cert.RmsPairIdeal.nD Cert.RmsPairIdeal.τ).loc Cert.RmsPairIdeal.main_arg5) = m ((c.tc : Thread Cert.RmsPairIdeal.nD Cert.RmsPairIdeal.τ).loc Cert.RmsPairIdeal.main_arg5))
      ∧ r.2.sem = fun _ => 0)

def quiescent_RmsPairRefIdeal [hRmsPairRefIdeal : Cert.RmsPairRefIdeal.Facts] : Prop :=
  ∀ (m : (ℓ : Loc Cert.RmsPairRefIdeal.nD Cert.RmsPairRefIdeal.τ Cert.RmsPairRefIdeal.sig) → Buf (Elt Ideal) ℓ) (g : Dev Cert.RmsPairRefIdeal.nD → PrngReg), Pre_RmsPairRefIdeal m →
    θ_run (Cert.RmsPairRefIdeal.defs (F := Ideal)) (onTc (τ := Cert.RmsPairRefIdeal.τ) (Cert.RmsPairRefIdeal.main (F := Ideal))) ⟨m, fun _ => 0, g⟩ (fun r => (∀ c : Dev Cert.RmsPairRefIdeal.nD,
      r.2.mem ((c.tc : Thread Cert.RmsPairRefIdeal.nD Cert.RmsPairRefIdeal.τ).loc Cert.RmsPairRefIdeal.main_arg0) = m ((c.tc : Thread Cert.RmsPairRefIdeal.nD Cert.RmsPairRefIdeal.τ).loc Cert.RmsPairRefIdeal.main_arg0)
      ∧ r.2.mem ((c.tc : Thread Cert.RmsPairRefIdeal.nD Cert.RmsPairRefIdeal.τ).loc Cert.RmsPairRefIdeal.main_arg1) = m ((c.tc : Thread Cert.RmsPairRefIdeal.nD Cert.RmsPairRefIdeal.τ).loc Cert.RmsPairRefIdeal.main_arg1)
      ∧ r.2.mem ((c.tc : Thread Cert.RmsPairRefIdeal.nD Cert.RmsPairRefIdeal.τ).loc Cert.RmsPairRefIdeal.main_arg2) = m ((c.tc : Thread Cert.RmsPairRefIdeal.nD Cert.RmsPairRefIdeal.τ).loc Cert.RmsPairRefIdeal.main_arg2)
      ∧ r.2.mem ((c.tc : Thread Cert.RmsPairRefIdeal.nD Cert.RmsPairRefIdeal.τ).loc Cert.RmsPairRefIdeal.main_arg3) = m ((c.tc : Thread Cert.RmsPairRefIdeal.nD Cert.RmsPairRefIdeal.τ).loc Cert.RmsPairRefIdeal.main_arg3)
      ∧ r.2.mem ((c.tc : Thread Cert.RmsPairRefIdeal.nD Cert.RmsPairRefIdeal.τ).loc Cert.RmsPairRefIdeal.main_arg4) = m ((c.tc : Thread Cert.RmsPairRefIdeal.nD Cert.RmsPairRefIdeal.τ).loc Cert.RmsPairRefIdeal.main_arg4)
      ∧ r.2.mem ((c.tc : Thread Cert.RmsPairRefIdeal.nD Cert.RmsPairRefIdeal.τ).loc Cert.RmsPairRefIdeal.main_arg5) = m ((c.tc : Thread Cert.RmsPairRefIdeal.nD Cert.RmsPairRefIdeal.τ).loc Cert.RmsPairRefIdeal.main_arg5))
      ∧ r.2.sem = fun _ => 0)

def quiescent_RmsPost [hRmsPost : Cert.RmsPost.Facts] : Prop :=
  ∀ (m : (ℓ : Loc Cert.RmsPost.nD Cert.RmsPost.τ Cert.RmsPost.sig) → Buf (Elt Bits) ℓ) (g : Dev Cert.RmsPost.nD → PrngReg), Pre_RmsPost m →
    θ_run (Cert.RmsPost.defs (F := Bits)) (onTc (τ := Cert.RmsPost.τ) (Cert.RmsPost.main (F := Bits))) ⟨m, fun _ => 0, g⟩ (fun r => (∀ c : Dev Cert.RmsPost.nD,
      r.2.mem ((c.tc : Thread Cert.RmsPost.nD Cert.RmsPost.τ).loc Cert.RmsPost.main_arg0) = m ((c.tc : Thread Cert.RmsPost.nD Cert.RmsPost.τ).loc Cert.RmsPost.main_arg0)
      ∧ r.2.mem ((c.tc : Thread Cert.RmsPost.nD Cert.RmsPost.τ).loc Cert.RmsPost.main_arg1) = m ((c.tc : Thread Cert.RmsPost.nD Cert.RmsPost.τ).loc Cert.RmsPost.main_arg1)
      ∧ r.2.mem ((c.tc : Thread Cert.RmsPost.nD Cert.RmsPost.τ).loc Cert.RmsPost.main_arg2) = m ((c.tc : Thread Cert.RmsPost.nD Cert.RmsPost.τ).loc Cert.RmsPost.main_arg2))
      ∧ r.2.sem = fun _ => 0)

def quiescent_RmsPostIdeal [hRmsPostIdeal : Cert.RmsPostIdeal.Facts] : Prop :=
  ∀ (m : (ℓ : Loc Cert.RmsPostIdeal.nD Cert.RmsPostIdeal.τ Cert.RmsPostIdeal.sig) → Buf (Elt Ideal) ℓ) (g : Dev Cert.RmsPostIdeal.nD → PrngReg), Pre_RmsPostIdeal m →
    θ_run (Cert.RmsPostIdeal.defs (F := Ideal)) (onTc (τ := Cert.RmsPostIdeal.τ) (Cert.RmsPostIdeal.main (F := Ideal))) ⟨m, fun _ => 0, g⟩ (fun r => (∀ c : Dev Cert.RmsPostIdeal.nD,
      r.2.mem ((c.tc : Thread Cert.RmsPostIdeal.nD Cert.RmsPostIdeal.τ).loc Cert.RmsPostIdeal.main_arg0) = m ((c.tc : Thread Cert.RmsPostIdeal.nD Cert.RmsPostIdeal.τ).loc Cert.RmsPostIdeal.main_arg0)
      ∧ r.2.mem ((c.tc : Thread Cert.RmsPostIdeal.nD Cert.RmsPostIdeal.τ).loc Cert.RmsPostIdeal.main_arg1) = m ((c.tc : Thread Cert.RmsPostIdeal.nD Cert.RmsPostIdeal.τ).loc Cert.RmsPostIdeal.main_arg1)
      ∧ r.2.mem ((c.tc : Thread Cert.RmsPostIdeal.nD Cert.RmsPostIdeal.τ).loc Cert.RmsPostIdeal.main_arg2) = m ((c.tc : Thread Cert.RmsPostIdeal.nD Cert.RmsPostIdeal.τ).loc Cert.RmsPostIdeal.main_arg2))
      ∧ r.2.sem = fun _ => 0)

def quiescent_RmsPostRefIdeal [hRmsPostRefIdeal : Cert.RmsPostRefIdeal.Facts] : Prop :=
  ∀ (m : (ℓ : Loc Cert.RmsPostRefIdeal.nD Cert.RmsPostRefIdeal.τ Cert.RmsPostRefIdeal.sig) → Buf (Elt Ideal) ℓ) (g : Dev Cert.RmsPostRefIdeal.nD → PrngReg), Pre_RmsPostRefIdeal m →
    θ_run (Cert.RmsPostRefIdeal.defs (F := Ideal)) (onTc (τ := Cert.RmsPostRefIdeal.τ) (Cert.RmsPostRefIdeal.main (F := Ideal))) ⟨m, fun _ => 0, g⟩ (fun r => (∀ c : Dev Cert.RmsPostRefIdeal.nD,
      r.2.mem ((c.tc : Thread Cert.RmsPostRefIdeal.nD Cert.RmsPostRefIdeal.τ).loc Cert.RmsPostRefIdeal.main_arg0) = m ((c.tc : Thread Cert.RmsPostRefIdeal.nD Cert.RmsPostRefIdeal.τ).loc Cert.RmsPostRefIdeal.main_arg0)
      ∧ r.2.mem ((c.tc : Thread Cert.RmsPostRefIdeal.nD Cert.RmsPostRefIdeal.τ).loc Cert.RmsPostRefIdeal.main_arg1) = m ((c.tc : Thread Cert.RmsPostRefIdeal.nD Cert.RmsPostRefIdeal.τ).loc Cert.RmsPostRefIdeal.main_arg1)
      ∧ r.2.mem ((c.tc : Thread Cert.RmsPostRefIdeal.nD Cert.RmsPostRefIdeal.τ).loc Cert.RmsPostRefIdeal.main_arg2) = m ((c.tc : Thread Cert.RmsPostRefIdeal.nD Cert.RmsPostRefIdeal.τ).loc Cert.RmsPostRefIdeal.main_arg2))
      ∧ r.2.sem = fun _ => 0)

def quiescent_RmsPre [hRmsPre : Cert.RmsPre.Facts] : Prop :=
  ∀ (m : (ℓ : Loc Cert.RmsPre.nD Cert.RmsPre.τ Cert.RmsPre.sig) → Buf (Elt Bits) ℓ) (g : Dev Cert.RmsPre.nD → PrngReg), Pre_RmsPre m →
    θ_run (Cert.RmsPre.defs (F := Bits)) (onTc (τ := Cert.RmsPre.τ) (Cert.RmsPre.main (F := Bits))) ⟨m, fun _ => 0, g⟩ (fun r => (∀ c : Dev Cert.RmsPre.nD,
      r.2.mem ((c.tc : Thread Cert.RmsPre.nD Cert.RmsPre.τ).loc Cert.RmsPre.main_arg0) = m ((c.tc : Thread Cert.RmsPre.nD Cert.RmsPre.τ).loc Cert.RmsPre.main_arg0)
      ∧ r.2.mem ((c.tc : Thread Cert.RmsPre.nD Cert.RmsPre.τ).loc Cert.RmsPre.main_arg1) = m ((c.tc : Thread Cert.RmsPre.nD Cert.RmsPre.τ).loc Cert.RmsPre.main_arg1)
      ∧ r.2.mem ((c.tc : Thread Cert.RmsPre.nD Cert.RmsPre.τ).loc Cert.RmsPre.main_arg2) = m ((c.tc : Thread Cert.RmsPre.nD Cert.RmsPre.τ).loc Cert.RmsPre.main_arg2)
      ∧ r.2.mem ((c.tc : Thread Cert.RmsPre.nD Cert.RmsPre.τ).loc Cert.RmsPre.main_arg3) = m ((c.tc : Thread Cert.RmsPre.nD Cert.RmsPre.τ).loc Cert.RmsPre.main_arg3))
      ∧ r.2.sem = fun _ => 0)

def quiescent_RmsPreIdeal [hRmsPreIdeal : Cert.RmsPreIdeal.Facts] : Prop :=
  ∀ (m : (ℓ : Loc Cert.RmsPreIdeal.nD Cert.RmsPreIdeal.τ Cert.RmsPreIdeal.sig) → Buf (Elt Ideal) ℓ) (g : Dev Cert.RmsPreIdeal.nD → PrngReg), Pre_RmsPreIdeal m →
    θ_run (Cert.RmsPreIdeal.defs (F := Ideal)) (onTc (τ := Cert.RmsPreIdeal.τ) (Cert.RmsPreIdeal.main (F := Ideal))) ⟨m, fun _ => 0, g⟩ (fun r => (∀ c : Dev Cert.RmsPreIdeal.nD,
      r.2.mem ((c.tc : Thread Cert.RmsPreIdeal.nD Cert.RmsPreIdeal.τ).loc Cert.RmsPreIdeal.main_arg0) = m ((c.tc : Thread Cert.RmsPreIdeal.nD Cert.RmsPreIdeal.τ).loc Cert.RmsPreIdeal.main_arg0)
      ∧ r.2.mem ((c.tc : Thread Cert.RmsPreIdeal.nD Cert.RmsPreIdeal.τ).loc Cert.RmsPreIdeal.main_arg1) = m ((c.tc : Thread Cert.RmsPreIdeal.nD Cert.RmsPreIdeal.τ).loc Cert.RmsPreIdeal.main_arg1)
      ∧ r.2.mem ((c.tc : Thread Cert.RmsPreIdeal.nD Cert.RmsPreIdeal.τ).loc Cert.RmsPreIdeal.main_arg2) = m ((c.tc : Thread Cert.RmsPreIdeal.nD Cert.RmsPreIdeal.τ).loc Cert.RmsPreIdeal.main_arg2)
      ∧ r.2.mem ((c.tc : Thread Cert.RmsPreIdeal.nD Cert.RmsPreIdeal.τ).loc Cert.RmsPreIdeal.main_arg3) = m ((c.tc : Thread Cert.RmsPreIdeal.nD Cert.RmsPreIdeal.τ).loc Cert.RmsPreIdeal.main_arg3))
      ∧ r.2.sem = fun _ => 0)

def quiescent_RmsPreRefIdeal [hRmsPreRefIdeal : Cert.RmsPreRefIdeal.Facts] : Prop :=
  ∀ (m : (ℓ : Loc Cert.RmsPreRefIdeal.nD Cert.RmsPreRefIdeal.τ Cert.RmsPreRefIdeal.sig) → Buf (Elt Ideal) ℓ) (g : Dev Cert.RmsPreRefIdeal.nD → PrngReg), Pre_RmsPreRefIdeal m →
    θ_run (Cert.RmsPreRefIdeal.defs (F := Ideal)) (onTc (τ := Cert.RmsPreRefIdeal.τ) (Cert.RmsPreRefIdeal.main (F := Ideal))) ⟨m, fun _ => 0, g⟩ (fun r => (∀ c : Dev Cert.RmsPreRefIdeal.nD,
      r.2.mem ((c.tc : Thread Cert.RmsPreRefIdeal.nD Cert.RmsPreRefIdeal.τ).loc Cert.RmsPreRefIdeal.main_arg0) = m ((c.tc : Thread Cert.RmsPreRefIdeal.nD Cert.RmsPreRefIdeal.τ).loc Cert.RmsPreRefIdeal.main_arg0)
      ∧ r.2.mem ((c.tc : Thread Cert.RmsPreRefIdeal.nD Cert.RmsPreRefIdeal.τ).loc Cert.RmsPreRefIdeal.main_arg1) = m ((c.tc : Thread Cert.RmsPreRefIdeal.nD Cert.RmsPreRefIdeal.τ).loc Cert.RmsPreRefIdeal.main_arg1)
      ∧ r.2.mem ((c.tc : Thread Cert.RmsPreRefIdeal.nD Cert.RmsPreRefIdeal.τ).loc Cert.RmsPreRefIdeal.main_arg2) = m ((c.tc : Thread Cert.RmsPreRefIdeal.nD Cert.RmsPreRefIdeal.τ).loc Cert.RmsPreRefIdeal.main_arg2)
      ∧ r.2.mem ((c.tc : Thread Cert.RmsPreRefIdeal.nD Cert.RmsPreRefIdeal.τ).loc Cert.RmsPreRefIdeal.main_arg3) = m ((c.tc : Thread Cert.RmsPreRefIdeal.nD Cert.RmsPreRefIdeal.τ).loc Cert.RmsPreRefIdeal.main_arg3))
      ∧ r.2.sem = fun _ => 0)

def quiescent_RmsMem [hRmsMem : Cert.RmsMem.Facts] : Prop :=
  ∀ (m : (ℓ : Loc Cert.RmsMem.nD Cert.RmsMem.τ Cert.RmsMem.sig) → Buf (Elt Bits) ℓ) (g : Dev Cert.RmsMem.nD → PrngReg), Pre_RmsMem m →
    θ_run (Cert.RmsMem.defs (F := Bits)) (onTc (τ := Cert.RmsMem.τ) (Cert.RmsMem.main (F := Bits))) ⟨m, fun _ => 0, g⟩ (fun r => (∀ c : Dev Cert.RmsMem.nD,
      r.2.mem ((c.tc : Thread Cert.RmsMem.nD Cert.RmsMem.τ).loc Cert.RmsMem.main_arg0) = m ((c.tc : Thread Cert.RmsMem.nD Cert.RmsMem.τ).loc Cert.RmsMem.main_arg0)
      ∧ r.2.mem ((c.tc : Thread Cert.RmsMem.nD Cert.RmsMem.τ).loc Cert.RmsMem.main_arg1) = m ((c.tc : Thread Cert.RmsMem.nD Cert.RmsMem.τ).loc Cert.RmsMem.main_arg1)
      ∧ r.2.mem ((c.tc : Thread Cert.RmsMem.nD Cert.RmsMem.τ).loc Cert.RmsMem.main_arg2) = m ((c.tc : Thread Cert.RmsMem.nD Cert.RmsMem.τ).loc Cert.RmsMem.main_arg2))
      ∧ r.2.sem = fun _ => 0)

def quiescent_RmsMemIdeal [hRmsMemIdeal : Cert.RmsMemIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg), Pre_RmsMemIdeal m →
    θ_run (Cert.RmsMemIdeal.defs (F := Ideal)) (onTc (τ := Cert.RmsMemIdeal.τ) (Cert.RmsMemIdeal.main (F := Ideal))) ⟨m, fun _ => 0, g⟩ (fun r => (∀ c : Dev Cert.RmsMemIdeal.nD,
      r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
      ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1)
      ∧ r.2.mem ((c.tc : Thread Cert.RmsMemIdeal.nD Cert.RmsMemIdeal.τ).loc Cert.RmsMemIdeal.main_arg2) = m ((c.tc : Thread Cert.RmsMemIdeal.nD Cert.RmsMemIdeal.τ).loc Cert.RmsMemIdeal.main_arg2))
      ∧ r.2.sem = fun _ => 0)

def quiescent_RmsMemRefIdeal [hRmsMemRefIdeal : Cert.RmsMemRefIdeal.Facts] : Prop :=
  ∀ (m : (ℓ : Loc Cert.RmsMemRefIdeal.nD Cert.RmsMemRefIdeal.τ Cert.RmsMemRefIdeal.sig) → Buf (Elt Ideal) ℓ) (g : Dev Cert.RmsMemRefIdeal.nD → PrngReg), Pre_RmsMemRefIdeal m →
    θ_run (Cert.RmsMemRefIdeal.defs (F := Ideal)) (onTc (τ := Cert.RmsMemRefIdeal.τ) (Cert.RmsMemRefIdeal.main (F := Ideal))) ⟨m, fun _ => 0, g⟩ (fun r => (∀ c : Dev Cert.RmsMemRefIdeal.nD,
      r.2.mem ((c.tc : Thread Cert.RmsMemRefIdeal.nD Cert.RmsMemRefIdeal.τ).loc Cert.RmsMemRefIdeal.main_arg0) = m ((c.tc : Thread Cert.RmsMemRefIdeal.nD Cert.RmsMemRefIdeal.τ).loc Cert.RmsMemRefIdeal.main_arg0)
      ∧ r.2.mem ((c.tc : Thread Cert.RmsMemRefIdeal.nD Cert.RmsMemRefIdeal.τ).loc Cert.RmsMemRefIdeal.main_arg1) = m ((c.tc : Thread Cert.RmsMemRefIdeal.nD Cert.RmsMemRefIdeal.τ).loc Cert.RmsMemRefIdeal.main_arg1)
      ∧ r.2.mem ((c.tc : Thread Cert.RmsMemRefIdeal.nD Cert.RmsMemRefIdeal.τ).loc Cert.RmsMemRefIdeal.main_arg2) = m ((c.tc : Thread Cert.RmsMemRefIdeal.nD Cert.RmsMemRefIdeal.τ).loc Cert.RmsMemRefIdeal.main_arg2))
      ∧ r.2.sem = fun _ => 0)

def quiescent_Turn [hTurn : Cert.Turn.Facts] : Prop :=
  ∀ (m : (ℓ : Loc Cert.Turn.nD Cert.Turn.τ Cert.Turn.sig) → Buf (Elt Bits) ℓ) (g : Dev Cert.Turn.nD → PrngReg), Pre_Turn m →
    θ_run (Cert.Turn.defs (F := Bits)) (onTc (τ := Cert.Turn.τ) (Cert.Turn.main (F := Bits))) ⟨m, fun _ => 0, g⟩ (fun r => (∀ c : Dev Cert.Turn.nD,
      r.2.mem ((c.tc : Thread Cert.Turn.nD Cert.Turn.τ).loc Cert.Turn.main_arg0) = m ((c.tc : Thread Cert.Turn.nD Cert.Turn.τ).loc Cert.Turn.main_arg0)
      ∧ r.2.mem ((c.tc : Thread Cert.Turn.nD Cert.Turn.τ).loc Cert.Turn.main_arg1) = m ((c.tc : Thread Cert.Turn.nD Cert.Turn.τ).loc Cert.Turn.main_arg1)
      ∧ r.2.mem ((c.tc : Thread Cert.Turn.nD Cert.Turn.τ).loc Cert.Turn.main_arg2) = m ((c.tc : Thread Cert.Turn.nD Cert.Turn.τ).loc Cert.Turn.main_arg2)
      ∧ r.2.mem ((c.tc : Thread Cert.Turn.nD Cert.Turn.τ).loc Cert.Turn.main_arg3) = m ((c.tc : Thread Cert.Turn.nD Cert.Turn.τ).loc Cert.Turn.main_arg3))
      ∧ r.2.sem = fun _ => 0)

def quiescent_TurnIdeal [hTurnIdeal : Cert.TurnIdeal.Facts] : Prop :=
  ∀ (m : (ℓ : Loc Cert.TurnIdeal.nD Cert.TurnIdeal.τ Cert.TurnIdeal.sig) → Buf (Elt Ideal) ℓ) (g : Dev Cert.TurnIdeal.nD → PrngReg), Pre_TurnIdeal m →
    θ_run (Cert.TurnIdeal.defs (F := Ideal)) (onTc (τ := Cert.TurnIdeal.τ) (Cert.TurnIdeal.main (F := Ideal))) ⟨m, fun _ => 0, g⟩ (fun r => (∀ c : Dev Cert.TurnIdeal.nD,
      r.2.mem ((c.tc : Thread Cert.TurnIdeal.nD Cert.TurnIdeal.τ).loc Cert.TurnIdeal.main_arg0) = m ((c.tc : Thread Cert.TurnIdeal.nD Cert.TurnIdeal.τ).loc Cert.TurnIdeal.main_arg0)
      ∧ r.2.mem ((c.tc : Thread Cert.TurnIdeal.nD Cert.TurnIdeal.τ).loc Cert.TurnIdeal.main_arg1) = m ((c.tc : Thread Cert.TurnIdeal.nD Cert.TurnIdeal.τ).loc Cert.TurnIdeal.main_arg1)
      ∧ r.2.mem ((c.tc : Thread Cert.TurnIdeal.nD Cert.TurnIdeal.τ).loc Cert.TurnIdeal.main_arg2) = m ((c.tc : Thread Cert.TurnIdeal.nD Cert.TurnIdeal.τ).loc Cert.TurnIdeal.main_arg2)
      ∧ r.2.mem ((c.tc : Thread Cert.TurnIdeal.nD Cert.TurnIdeal.τ).loc Cert.TurnIdeal.main_arg3) = m ((c.tc : Thread Cert.TurnIdeal.nD Cert.TurnIdeal.τ).loc Cert.TurnIdeal.main_arg3))
      ∧ r.2.sem = fun _ => 0)

def quiescent_TurnRefIdeal [hTurnRefIdeal : Cert.TurnRefIdeal.Facts] : Prop :=
  ∀ (m : (ℓ : Loc Cert.TurnRefIdeal.nD Cert.TurnRefIdeal.τ Cert.TurnRefIdeal.sig) → Buf (Elt Ideal) ℓ) (g : Dev Cert.TurnRefIdeal.nD → PrngReg), Pre_TurnRefIdeal m →
    θ_run (Cert.TurnRefIdeal.defs (F := Ideal)) (onTc (τ := Cert.TurnRefIdeal.τ) (Cert.TurnRefIdeal.main (F := Ideal))) ⟨m, fun _ => 0, g⟩ (fun r => (∀ c : Dev Cert.TurnRefIdeal.nD,
      r.2.mem ((c.tc : Thread Cert.TurnRefIdeal.nD Cert.TurnRefIdeal.τ).loc Cert.TurnRefIdeal.main_arg0) = m ((c.tc : Thread Cert.TurnRefIdeal.nD Cert.TurnRefIdeal.τ).loc Cert.TurnRefIdeal.main_arg0)
      ∧ r.2.mem ((c.tc : Thread Cert.TurnRefIdeal.nD Cert.TurnRefIdeal.τ).loc Cert.TurnRefIdeal.main_arg1) = m ((c.tc : Thread Cert.TurnRefIdeal.nD Cert.TurnRefIdeal.τ).loc Cert.TurnRefIdeal.main_arg1)
      ∧ r.2.mem ((c.tc : Thread Cert.TurnRefIdeal.nD Cert.TurnRefIdeal.τ).loc Cert.TurnRefIdeal.main_arg2) = m ((c.tc : Thread Cert.TurnRefIdeal.nD Cert.TurnRefIdeal.τ).loc Cert.TurnRefIdeal.main_arg2)
      ∧ r.2.mem ((c.tc : Thread Cert.TurnRefIdeal.nD Cert.TurnRefIdeal.τ).loc Cert.TurnRefIdeal.main_arg3) = m ((c.tc : Thread Cert.TurnRefIdeal.nD Cert.TurnRefIdeal.τ).loc Cert.TurnRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_RmsMemFwd [hRmsMemFwd : Cert.RmsMemFwd.Facts] : Prop :=
  ∀ (m : (ℓ : Loc Cert.RmsMemFwd.nD Cert.RmsMemFwd.τ Cert.RmsMemFwd.sig) → Buf (Elt Bits) ℓ) (g : Dev Cert.RmsMemFwd.nD → PrngReg), Pre_RmsMemFwd m →
    θ_run (Cert.RmsMemFwd.defs (F := Bits)) (onTc (τ := Cert.RmsMemFwd.τ) (Cert.RmsMemFwd.main (F := Bits))) ⟨m, fun _ => 0, g⟩ (fun r => (∀ c : Dev Cert.RmsMemFwd.nD,
      r.2.mem ((c.tc : Thread Cert.RmsMemFwd.nD Cert.RmsMemFwd.τ).loc Cert.RmsMemFwd.main_arg0) = m ((c.tc : Thread Cert.RmsMemFwd.nD Cert.RmsMemFwd.τ).loc Cert.RmsMemFwd.main_arg0)
      ∧ r.2.mem ((c.tc : Thread Cert.RmsMemFwd.nD Cert.RmsMemFwd.τ).loc Cert.RmsMemFwd.main_arg1) = m ((c.tc : Thread Cert.RmsMemFwd.nD Cert.RmsMemFwd.τ).loc Cert.RmsMemFwd.main_arg1))
      ∧ r.2.sem = fun _ => 0)

def quiescent_RmsMemFwdIdeal [hRmsMemFwdIdeal : Cert.RmsMemFwdIdeal.Facts] : Prop :=
  ∀ (m : (ℓ : Loc Cert.RmsMemFwdIdeal.nD Cert.RmsMemFwdIdeal.τ Cert.RmsMemFwdIdeal.sig) → Buf (Elt Ideal) ℓ) (g : Dev Cert.RmsMemFwdIdeal.nD → PrngReg), Pre_RmsMemFwdIdeal m →
    θ_run (Cert.RmsMemFwdIdeal.defs (F := Ideal)) (onTc (τ := Cert.RmsMemFwdIdeal.τ) (Cert.RmsMemFwdIdeal.main (F := Ideal))) ⟨m, fun _ => 0, g⟩ (fun r => (∀ c : Dev Cert.RmsMemFwdIdeal.nD,
      r.2.mem ((c.tc : Thread Cert.RmsMemFwdIdeal.nD Cert.RmsMemFwdIdeal.τ).loc Cert.RmsMemFwdIdeal.main_arg0) = m ((c.tc : Thread Cert.RmsMemFwdIdeal.nD Cert.RmsMemFwdIdeal.τ).loc Cert.RmsMemFwdIdeal.main_arg0)
      ∧ r.2.mem ((c.tc : Thread Cert.RmsMemFwdIdeal.nD Cert.RmsMemFwdIdeal.τ).loc Cert.RmsMemFwdIdeal.main_arg1) = m ((c.tc : Thread Cert.RmsMemFwdIdeal.nD Cert.RmsMemFwdIdeal.τ).loc Cert.RmsMemFwdIdeal.main_arg1))
      ∧ r.2.sem = fun _ => 0)

def quiescent_RmsMemFwdRefIdeal [hRmsMemFwdRefIdeal : Cert.RmsMemFwdRefIdeal.Facts] : Prop :=
  ∀ (m : (ℓ : Loc Cert.RmsMemFwdRefIdeal.nD Cert.RmsMemFwdRefIdeal.τ Cert.RmsMemFwdRefIdeal.sig) → Buf (Elt Ideal) ℓ) (g : Dev Cert.RmsMemFwdRefIdeal.nD → PrngReg), Pre_RmsMemFwdRefIdeal m →
    θ_run (Cert.RmsMemFwdRefIdeal.defs (F := Ideal)) (onTc (τ := Cert.RmsMemFwdRefIdeal.τ) (Cert.RmsMemFwdRefIdeal.main (F := Ideal))) ⟨m, fun _ => 0, g⟩ (fun r => (∀ c : Dev Cert.RmsMemFwdRefIdeal.nD,
      r.2.mem ((c.tc : Thread Cert.RmsMemFwdRefIdeal.nD Cert.RmsMemFwdRefIdeal.τ).loc Cert.RmsMemFwdRefIdeal.main_arg0) = m ((c.tc : Thread Cert.RmsMemFwdRefIdeal.nD Cert.RmsMemFwdRefIdeal.τ).loc Cert.RmsMemFwdRefIdeal.main_arg0)
      ∧ r.2.mem ((c.tc : Thread Cert.RmsMemFwdRefIdeal.nD Cert.RmsMemFwdRefIdeal.τ).loc Cert.RmsMemFwdRefIdeal.main_arg1) = m ((c.tc : Thread Cert.RmsMemFwdRefIdeal.nD Cert.RmsMemFwdRefIdeal.τ).loc Cert.RmsMemFwdRefIdeal.main_arg1))
      ∧ r.2.sem = fun _ => 0)

def quiescent_RmsPairFwd [hRmsPairFwd : Cert.RmsPairFwd.Facts] : Prop :=
  ∀ (m : (ℓ : Loc Cert.RmsPairFwd.nD Cert.RmsPairFwd.τ Cert.RmsPairFwd.sig) → Buf (Elt Bits) ℓ) (g : Dev Cert.RmsPairFwd.nD → PrngReg), Pre_RmsPairFwd m →
    θ_run (Cert.RmsPairFwd.defs (F := Bits)) (onTc (τ := Cert.RmsPairFwd.τ) (Cert.RmsPairFwd.main (F := Bits))) ⟨m, fun _ => 0, g⟩ (fun r => (∀ c : Dev Cert.RmsPairFwd.nD,
      r.2.mem ((c.tc : Thread Cert.RmsPairFwd.nD Cert.RmsPairFwd.τ).loc Cert.RmsPairFwd.main_arg0) = m ((c.tc : Thread Cert.RmsPairFwd.nD Cert.RmsPairFwd.τ).loc Cert.RmsPairFwd.main_arg0)
      ∧ r.2.mem ((c.tc : Thread Cert.RmsPairFwd.nD Cert.RmsPairFwd.τ).loc Cert.RmsPairFwd.main_arg1) = m ((c.tc : Thread Cert.RmsPairFwd.nD Cert.RmsPairFwd.τ).loc Cert.RmsPairFwd.main_arg1)
      ∧ r.2.mem ((c.tc : Thread Cert.RmsPairFwd.nD Cert.RmsPairFwd.τ).loc Cert.RmsPairFwd.main_arg2) = m ((c.tc : Thread Cert.RmsPairFwd.nD Cert.RmsPairFwd.τ).loc Cert.RmsPairFwd.main_arg2)
      ∧ r.2.mem ((c.tc : Thread Cert.RmsPairFwd.nD Cert.RmsPairFwd.τ).loc Cert.RmsPairFwd.main_arg3) = m ((c.tc : Thread Cert.RmsPairFwd.nD Cert.RmsPairFwd.τ).loc Cert.RmsPairFwd.main_arg3))
      ∧ r.2.sem = fun _ => 0)

def quiescent_RmsPairFwdIdeal [hRmsPairFwdIdeal : Cert.RmsPairFwdIdeal.Facts] : Prop :=
  ∀ (m : (ℓ : Loc Cert.RmsPairFwdIdeal.nD Cert.RmsPairFwdIdeal.τ Cert.RmsPairFwdIdeal.sig) → Buf (Elt Ideal) ℓ) (g : Dev Cert.RmsPairFwdIdeal.nD → PrngReg), Pre_RmsPairFwdIdeal m →
    θ_run (Cert.RmsPairFwdIdeal.defs (F := Ideal)) (onTc (τ := Cert.RmsPairFwdIdeal.τ) (Cert.RmsPairFwdIdeal.main (F := Ideal))) ⟨m, fun _ => 0, g⟩ (fun r => (∀ c : Dev Cert.RmsPairFwdIdeal.nD,
      r.2.mem ((c.tc : Thread Cert.RmsPairFwdIdeal.nD Cert.RmsPairFwdIdeal.τ).loc Cert.RmsPairFwdIdeal.main_arg0) = m ((c.tc : Thread Cert.RmsPairFwdIdeal.nD Cert.RmsPairFwdIdeal.τ).loc Cert.RmsPairFwdIdeal.main_arg0)
      ∧ r.2.mem ((c.tc : Thread Cert.RmsPairFwdIdeal.nD Cert.RmsPairFwdIdeal.τ).loc Cert.RmsPairFwdIdeal.main_arg1) = m ((c.tc : Thread Cert.RmsPairFwdIdeal.nD Cert.RmsPairFwdIdeal.τ).loc Cert.RmsPairFwdIdeal.main_arg1)
      ∧ r.2.mem ((c.tc : Thread Cert.RmsPairFwdIdeal.nD Cert.RmsPairFwdIdeal.τ).loc Cert.RmsPairFwdIdeal.main_arg2) = m ((c.tc : Thread Cert.RmsPairFwdIdeal.nD Cert.RmsPairFwdIdeal.τ).loc Cert.RmsPairFwdIdeal.main_arg2)
      ∧ r.2.mem ((c.tc : Thread Cert.RmsPairFwdIdeal.nD Cert.RmsPairFwdIdeal.τ).loc Cert.RmsPairFwdIdeal.main_arg3) = m ((c.tc : Thread Cert.RmsPairFwdIdeal.nD Cert.RmsPairFwdIdeal.τ).loc Cert.RmsPairFwdIdeal.main_arg3))
      ∧ r.2.sem = fun _ => 0)

def quiescent_RmsPairFwdRefIdeal [hRmsPairFwdRefIdeal : Cert.RmsPairFwdRefIdeal.Facts] : Prop :=
  ∀ (m : (ℓ : Loc Cert.RmsPairFwdRefIdeal.nD Cert.RmsPairFwdRefIdeal.τ Cert.RmsPairFwdRefIdeal.sig) → Buf (Elt Ideal) ℓ) (g : Dev Cert.RmsPairFwdRefIdeal.nD → PrngReg), Pre_RmsPairFwdRefIdeal m →
    θ_run (Cert.RmsPairFwdRefIdeal.defs (F := Ideal)) (onTc (τ := Cert.RmsPairFwdRefIdeal.τ) (Cert.RmsPairFwdRefIdeal.main (F := Ideal))) ⟨m, fun _ => 0, g⟩ (fun r => (∀ c : Dev Cert.RmsPairFwdRefIdeal.nD,
      r.2.mem ((c.tc : Thread Cert.RmsPairFwdRefIdeal.nD Cert.RmsPairFwdRefIdeal.τ).loc Cert.RmsPairFwdRefIdeal.main_arg0) = m ((c.tc : Thread Cert.RmsPairFwdRefIdeal.nD Cert.RmsPairFwdRefIdeal.τ).loc Cert.RmsPairFwdRefIdeal.main_arg0)
      ∧ r.2.mem ((c.tc : Thread Cert.RmsPairFwdRefIdeal.nD Cert.RmsPairFwdRefIdeal.τ).loc Cert.RmsPairFwdRefIdeal.main_arg1) = m ((c.tc : Thread Cert.RmsPairFwdRefIdeal.nD Cert.RmsPairFwdRefIdeal.τ).loc Cert.RmsPairFwdRefIdeal.main_arg1)
      ∧ r.2.mem ((c.tc : Thread Cert.RmsPairFwdRefIdeal.nD Cert.RmsPairFwdRefIdeal.τ).loc Cert.RmsPairFwdRefIdeal.main_arg2) = m ((c.tc : Thread Cert.RmsPairFwdRefIdeal.nD Cert.RmsPairFwdRefIdeal.τ).loc Cert.RmsPairFwdRefIdeal.main_arg2)
      ∧ r.2.mem ((c.tc : Thread Cert.RmsPairFwdRefIdeal.nD Cert.RmsPairFwdRefIdeal.τ).loc Cert.RmsPairFwdRefIdeal.main_arg3) = m ((c.tc : Thread Cert.RmsPairFwdRefIdeal.nD Cert.RmsPairFwdRefIdeal.τ).loc Cert.RmsPairFwdRefIdeal.main_arg3))
      ∧ r.2.sem = fun _ => 0)

def quiescent_RmsThreeFwd [hRmsThreeFwd : Cert.RmsThreeFwd.Facts] : Prop :=
  ∀ (m : (ℓ : Loc Cert.RmsThreeFwd.nD Cert.RmsThreeFwd.τ Cert.RmsThreeFwd.sig) → Buf (Elt Bits) ℓ) (g : Dev Cert.RmsThreeFwd.nD → PrngReg), Pre_RmsThreeFwd m →
    θ_run (Cert.RmsThreeFwd.defs (F := Bits)) (onTc (τ := Cert.RmsThreeFwd.τ) (Cert.RmsThreeFwd.main (F := Bits))) ⟨m, fun _ => 0, g⟩ (fun r => (∀ c : Dev Cert.RmsThreeFwd.nD,
      r.2.mem ((c.tc : Thread Cert.RmsThreeFwd.nD Cert.RmsThreeFwd.τ).loc Cert.RmsThreeFwd.main_arg0) = m ((c.tc : Thread Cert.RmsThreeFwd.nD Cert.RmsThreeFwd.τ).loc Cert.RmsThreeFwd.main_arg0)
      ∧ r.2.mem ((c.tc : Thread Cert.RmsThreeFwd.nD Cert.RmsThreeFwd.τ).loc Cert.RmsThreeFwd.main_arg1) = m ((c.tc : Thread Cert.RmsThreeFwd.nD Cert.RmsThreeFwd.τ).loc Cert.RmsThreeFwd.main_arg1)
      ∧ r.2.mem ((c.tc : Thread Cert.RmsThreeFwd.nD Cert.RmsThreeFwd.τ).loc Cert.RmsThreeFwd.main_arg2) = m ((c.tc : Thread Cert.RmsThreeFwd.nD Cert.RmsThreeFwd.τ).loc Cert.RmsThreeFwd.main_arg2)
      ∧ r.2.mem ((c.tc : Thread Cert.RmsThreeFwd.nD Cert.RmsThreeFwd.τ).loc Cert.RmsThreeFwd.main_arg3) = m ((c.tc : Thread Cert.RmsThreeFwd.nD Cert.RmsThreeFwd.τ).loc Cert.RmsThreeFwd.main_arg3)
      ∧ r.2.mem ((c.tc : Thread Cert.RmsThreeFwd.nD Cert.RmsThreeFwd.τ).loc Cert.RmsThreeFwd.main_arg4) = m ((c.tc : Thread Cert.RmsThreeFwd.nD Cert.RmsThreeFwd.τ).loc Cert.RmsThreeFwd.main_arg4))
      ∧ r.2.sem = fun _ => 0)

def quiescent_RmsThreeFwdIdeal [hRmsThreeFwdIdeal : Cert.RmsThreeFwdIdeal.Facts] : Prop :=
  ∀ (m : (ℓ : Loc Cert.RmsThreeFwdIdeal.nD Cert.RmsThreeFwdIdeal.τ Cert.RmsThreeFwdIdeal.sig) → Buf (Elt Ideal) ℓ) (g : Dev Cert.RmsThreeFwdIdeal.nD → PrngReg), Pre_RmsThreeFwdIdeal m →
    θ_run (Cert.RmsThreeFwdIdeal.defs (F := Ideal)) (onTc (τ := Cert.RmsThreeFwdIdeal.τ) (Cert.RmsThreeFwdIdeal.main (F := Ideal))) ⟨m, fun _ => 0, g⟩ (fun r => (∀ c : Dev Cert.RmsThreeFwdIdeal.nD,
      r.2.mem ((c.tc : Thread Cert.RmsThreeFwdIdeal.nD Cert.RmsThreeFwdIdeal.τ).loc Cert.RmsThreeFwdIdeal.main_arg0) = m ((c.tc : Thread Cert.RmsThreeFwdIdeal.nD Cert.RmsThreeFwdIdeal.τ).loc Cert.RmsThreeFwdIdeal.main_arg0)
      ∧ r.2.mem ((c.tc : Thread Cert.RmsThreeFwdIdeal.nD Cert.RmsThreeFwdIdeal.τ).loc Cert.RmsThreeFwdIdeal.main_arg1) = m ((c.tc : Thread Cert.RmsThreeFwdIdeal.nD Cert.RmsThreeFwdIdeal.τ).loc Cert.RmsThreeFwdIdeal.main_arg1)
      ∧ r.2.mem ((c.tc : Thread Cert.RmsThreeFwdIdeal.nD Cert.RmsThreeFwdIdeal.τ).loc Cert.RmsThreeFwdIdeal.main_arg2) = m ((c.tc : Thread Cert.RmsThreeFwdIdeal.nD Cert.RmsThreeFwdIdeal.τ).loc Cert.RmsThreeFwdIdeal.main_arg2)
      ∧ r.2.mem ((c.tc : Thread Cert.RmsThreeFwdIdeal.nD Cert.RmsThreeFwdIdeal.τ).loc Cert.RmsThreeFwdIdeal.main_arg3) = m ((c.tc : Thread Cert.RmsThreeFwdIdeal.nD Cert.RmsThreeFwdIdeal.τ).loc Cert.RmsThreeFwdIdeal.main_arg3)
      ∧ r.2.mem ((c.tc : Thread Cert.RmsThreeFwdIdeal.nD Cert.RmsThreeFwdIdeal.τ).loc Cert.RmsThreeFwdIdeal.main_arg4) = m ((c.tc : Thread Cert.RmsThreeFwdIdeal.nD Cert.RmsThreeFwdIdeal.τ).loc Cert.RmsThreeFwdIdeal.main_arg4))
      ∧ r.2.sem = fun _ => 0)

def quiescent_RmsThreeFwdRefIdeal [hRmsThreeFwdRefIdeal : Cert.RmsThreeFwdRefIdeal.Facts] : Prop :=
  ∀ (m : (ℓ : Loc Cert.RmsThreeFwdRefIdeal.nD Cert.RmsThreeFwdRefIdeal.τ Cert.RmsThreeFwdRefIdeal.sig) → Buf (Elt Ideal) ℓ) (g : Dev Cert.RmsThreeFwdRefIdeal.nD → PrngReg), Pre_RmsThreeFwdRefIdeal m →
    θ_run (Cert.RmsThreeFwdRefIdeal.defs (F := Ideal)) (onTc (τ := Cert.RmsThreeFwdRefIdeal.τ) (Cert.RmsThreeFwdRefIdeal.main (F := Ideal))) ⟨m, fun _ => 0, g⟩ (fun r => (∀ c : Dev Cert.RmsThreeFwdRefIdeal.nD,
      r.2.mem ((c.tc : Thread Cert.RmsThreeFwdRefIdeal.nD Cert.RmsThreeFwdRefIdeal.τ).loc Cert.RmsThreeFwdRefIdeal.main_arg0) = m ((c.tc : Thread Cert.RmsThreeFwdRefIdeal.nD Cert.RmsThreeFwdRefIdeal.τ).loc Cert.RmsThreeFwdRefIdeal.main_arg0)
      ∧ r.2.mem ((c.tc : Thread Cert.RmsThreeFwdRefIdeal.nD Cert.RmsThreeFwdRefIdeal.τ).loc Cert.RmsThreeFwdRefIdeal.main_arg1) = m ((c.tc : Thread Cert.RmsThreeFwdRefIdeal.nD Cert.RmsThreeFwdRefIdeal.τ).loc Cert.RmsThreeFwdRefIdeal.main_arg1)
      ∧ r.2.mem ((c.tc : Thread Cert.RmsThreeFwdRefIdeal.nD Cert.RmsThreeFwdRefIdeal.τ).loc Cert.RmsThreeFwdRefIdeal.main_arg2) = m ((c.tc : Thread Cert.RmsThreeFwdRefIdeal.nD Cert.RmsThreeFwdRefIdeal.τ).loc Cert.RmsThreeFwdRefIdeal.main_arg2)
      ∧ r.2.mem ((c.tc : Thread Cert.RmsThreeFwdRefIdeal.nD Cert.RmsThreeFwdRefIdeal.τ).loc Cert.RmsThreeFwdRefIdeal.main_arg3) = m ((c.tc : Thread Cert.RmsThreeFwdRefIdeal.nD Cert.RmsThreeFwdRefIdeal.τ).loc Cert.RmsThreeFwdRefIdeal.main_arg3)
      ∧ r.2.mem ((c.tc : Thread Cert.RmsThreeFwdRefIdeal.nD Cert.RmsThreeFwdRefIdeal.τ).loc Cert.RmsThreeFwdRefIdeal.main_arg4) = m ((c.tc : Thread Cert.RmsThreeFwdRefIdeal.nD Cert.RmsThreeFwdRefIdeal.τ).loc Cert.RmsThreeFwdRefIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_v159) = v2 c
          ∧ r.2.mem ((c.tc : Thread Cert.ReferenceIdeal.nD Cert.ReferenceIdeal.τ).loc Cert.ReferenceIdeal.main_v163) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v7) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v6) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v1)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v1) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v9) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_MixoutDmain_MixoutDmainIdeal : Prop :=
  True

def algebraic_MixoutDmainIdeal_MixoutDmainRefIdeal [hMixoutDmainIdeal : Cert.MixoutDmainIdeal.Facts] [hMixoutDmainRefIdeal : Cert.MixoutDmainRefIdeal.Facts] : Prop :=
  ∀ (m : (ℓ : Loc Cert.MixoutDmainIdeal.nD Cert.MixoutDmainIdeal.τ Cert.MixoutDmainIdeal.sig) → Buf (Elt Ideal) ℓ) (g : Dev Cert.MixoutDmainIdeal.nD → PrngReg)
    (m' : (ℓ : Loc Cert.MixoutDmainRefIdeal.nD Cert.MixoutDmainRefIdeal.τ Cert.MixoutDmainRefIdeal.sig) → Buf (Elt Ideal) ℓ) (g' : Dev Cert.MixoutDmainRefIdeal.nD → PrngReg), Pre_MixoutDmainIdeal m →
    (∀ c : Dev Cert.MixoutDmainIdeal.nD,
      m' ((c.tc : Thread Cert.MixoutDmainRefIdeal.nD Cert.MixoutDmainRefIdeal.τ).loc Cert.MixoutDmainRefIdeal.main_arg0) = m ((c.tc : Thread Cert.MixoutDmainIdeal.nD Cert.MixoutDmainIdeal.τ).loc Cert.MixoutDmainIdeal.main_arg0)
      ∧ m' ((c.tc : Thread Cert.MixoutDmainRefIdeal.nD Cert.MixoutDmainRefIdeal.τ).loc Cert.MixoutDmainRefIdeal.main_arg1) = m ((c.tc : Thread Cert.MixoutDmainIdeal.nD Cert.MixoutDmainIdeal.τ).loc Cert.MixoutDmainIdeal.main_arg1)) →
    ∃ (v0 : (c : Dev Cert.MixoutDmainIdeal.nD) → Buf (Elt Ideal) ((c.tc : Thread Cert.MixoutDmainIdeal.nD Cert.MixoutDmainIdeal.τ).loc Cert.MixoutDmainIdeal.main_v0)),
      θ_run (Cert.MixoutDmainIdeal.defs (F := Ideal)) (onTc (τ := Cert.MixoutDmainIdeal.τ) (Cert.MixoutDmainIdeal.main (F := Ideal))) ⟨m, fun _ => 0, g⟩ (fun r => ∀ c : Dev Cert.MixoutDmainIdeal.nD,
          r.2.mem ((c.tc : Thread Cert.MixoutDmainIdeal.nD Cert.MixoutDmainIdeal.τ).loc Cert.MixoutDmainIdeal.main_v0) = v0 c
          ∧ r.2.mem ((c.tc : Thread Cert.MixoutDmainIdeal.nD Cert.MixoutDmainIdeal.τ).loc Cert.MixoutDmainIdeal.main_arg0) = m ((c.tc : Thread Cert.MixoutDmainIdeal.nD Cert.MixoutDmainIdeal.τ).loc Cert.MixoutDmainIdeal.main_arg0)
          ∧ r.2.mem ((c.tc : Thread Cert.MixoutDmainIdeal.nD Cert.MixoutDmainIdeal.τ).loc Cert.MixoutDmainIdeal.main_arg1) = m ((c.tc : Thread Cert.MixoutDmainIdeal.nD Cert.MixoutDmainIdeal.τ).loc Cert.MixoutDmainIdeal.main_arg1))
      ∧ θ_run (Cert.MixoutDmainRefIdeal.defs (F := Ideal)) (onTc (τ := Cert.MixoutDmainRefIdeal.τ) (Cert.MixoutDmainRefIdeal.main (F := Ideal))) ⟨m', fun _ => 0, g'⟩ (fun r => ∀ c : Dev Cert.MixoutDmainRefIdeal.nD,
          r.2.mem ((c.tc : Thread Cert.MixoutDmainRefIdeal.nD Cert.MixoutDmainRefIdeal.τ).loc Cert.MixoutDmainRefIdeal.main_v7) = v0 c
          ∧ r.2.mem ((c.tc : Thread Cert.MixoutDmainRefIdeal.nD Cert.MixoutDmainRefIdeal.τ).loc Cert.MixoutDmainRefIdeal.main_arg0) = m' ((c.tc : Thread Cert.MixoutDmainRefIdeal.nD Cert.MixoutDmainRefIdeal.τ).loc Cert.MixoutDmainRefIdeal.main_arg0)
          ∧ r.2.mem ((c.tc : Thread Cert.MixoutDmainRefIdeal.nD Cert.MixoutDmainRefIdeal.τ).loc Cert.MixoutDmainRefIdeal.main_arg1) = m' ((c.tc : Thread Cert.MixoutDmainRefIdeal.nD Cert.MixoutDmainRefIdeal.τ).loc Cert.MixoutDmainRefIdeal.main_arg1))

def preserves_MixoutDmem_MixoutDmemIdeal : Prop :=
  True

def algebraic_MixoutDmemIdeal_MixoutDmemRefIdeal [hMixoutDmemIdeal : Cert.MixoutDmemIdeal.Facts] [hMixoutDmemRefIdeal : Cert.MixoutDmemRefIdeal.Facts] : Prop :=
  ∀ (m : (ℓ : Loc Cert.MixoutDmemIdeal.nD Cert.MixoutDmemIdeal.τ Cert.MixoutDmemIdeal.sig) → Buf (Elt Ideal) ℓ) (g : Dev Cert.MixoutDmemIdeal.nD → PrngReg)
    (m' : (ℓ : Loc Cert.MixoutDmemRefIdeal.nD Cert.MixoutDmemRefIdeal.τ Cert.MixoutDmemRefIdeal.sig) → Buf (Elt Ideal) ℓ) (g' : Dev Cert.MixoutDmemRefIdeal.nD → PrngReg), Pre_MixoutDmemIdeal m →
    (∀ c : Dev Cert.MixoutDmemIdeal.nD,
      m' ((c.tc : Thread Cert.MixoutDmemRefIdeal.nD Cert.MixoutDmemRefIdeal.τ).loc Cert.MixoutDmemRefIdeal.main_arg0) = m ((c.tc : Thread Cert.MixoutDmemIdeal.nD Cert.MixoutDmemIdeal.τ).loc Cert.MixoutDmemIdeal.main_arg0)
      ∧ m' ((c.tc : Thread Cert.MixoutDmemRefIdeal.nD Cert.MixoutDmemRefIdeal.τ).loc Cert.MixoutDmemRefIdeal.main_arg1) = m ((c.tc : Thread Cert.MixoutDmemIdeal.nD Cert.MixoutDmemIdeal.τ).loc Cert.MixoutDmemIdeal.main_arg1)) →
    ∃ (v0 : (c : Dev Cert.MixoutDmemIdeal.nD) → Buf (Elt Ideal) ((c.tc : Thread Cert.MixoutDmemIdeal.nD Cert.MixoutDmemIdeal.τ).loc Cert.MixoutDmemIdeal.main_v0)),
      θ_run (Cert.MixoutDmemIdeal.defs (F := Ideal)) (onTc (τ := Cert.MixoutDmemIdeal.τ) (Cert.MixoutDmemIdeal.main (F := Ideal))) ⟨m, fun _ => 0, g⟩ (fun r => ∀ c : Dev Cert.MixoutDmemIdeal.nD,
          r.2.mem ((c.tc : Thread Cert.MixoutDmemIdeal.nD Cert.MixoutDmemIdeal.τ).loc Cert.MixoutDmemIdeal.main_v0) = v0 c
          ∧ r.2.mem ((c.tc : Thread Cert.MixoutDmemIdeal.nD Cert.MixoutDmemIdeal.τ).loc Cert.MixoutDmemIdeal.main_arg0) = m ((c.tc : Thread Cert.MixoutDmemIdeal.nD Cert.MixoutDmemIdeal.τ).loc Cert.MixoutDmemIdeal.main_arg0)
          ∧ r.2.mem ((c.tc : Thread Cert.MixoutDmemIdeal.nD Cert.MixoutDmemIdeal.τ).loc Cert.MixoutDmemIdeal.main_arg1) = m ((c.tc : Thread Cert.MixoutDmemIdeal.nD Cert.MixoutDmemIdeal.τ).loc Cert.MixoutDmemIdeal.main_arg1))
      ∧ θ_run (Cert.MixoutDmemRefIdeal.defs (F := Ideal)) (onTc (τ := Cert.MixoutDmemRefIdeal.τ) (Cert.MixoutDmemRefIdeal.main (F := Ideal))) ⟨m', fun _ => 0, g'⟩ (fun r => ∀ c : Dev Cert.MixoutDmemRefIdeal.nD,
          r.2.mem ((c.tc : Thread Cert.MixoutDmemRefIdeal.nD Cert.MixoutDmemRefIdeal.τ).loc Cert.MixoutDmemRefIdeal.main_v8) = v0 c
          ∧ r.2.mem ((c.tc : Thread Cert.MixoutDmemRefIdeal.nD Cert.MixoutDmemRefIdeal.τ).loc Cert.MixoutDmemRefIdeal.main_arg0) = m' ((c.tc : Thread Cert.MixoutDmemRefIdeal.nD Cert.MixoutDmemRefIdeal.τ).loc Cert.MixoutDmemRefIdeal.main_arg0)
          ∧ r.2.mem ((c.tc : Thread Cert.MixoutDmemRefIdeal.nD Cert.MixoutDmemRefIdeal.τ).loc Cert.MixoutDmemRefIdeal.main_arg1) = m' ((c.tc : Thread Cert.MixoutDmemRefIdeal.nD Cert.MixoutDmemRefIdeal.τ).loc Cert.MixoutDmemRefIdeal.main_arg1))

def preserves_MixoutDw_MixoutDwIdeal : Prop :=
  True

def algebraic_MixoutDwIdeal_MixoutDwRefIdeal [hMixoutDwIdeal : Cert.MixoutDwIdeal.Facts] [hMixoutDwRefIdeal : Cert.MixoutDwRefIdeal.Facts] : Prop :=
  ∀ (m : (ℓ : Loc Cert.MixoutDwIdeal.nD Cert.MixoutDwIdeal.τ Cert.MixoutDwIdeal.sig) → Buf (Elt Ideal) ℓ) (g : Dev Cert.MixoutDwIdeal.nD → PrngReg)
    (m' : (ℓ : Loc Cert.MixoutDwRefIdeal.nD Cert.MixoutDwRefIdeal.τ Cert.MixoutDwRefIdeal.sig) → Buf (Elt Ideal) ℓ) (g' : Dev Cert.MixoutDwRefIdeal.nD → PrngReg), Pre_MixoutDwIdeal m →
    (∀ c : Dev Cert.MixoutDwIdeal.nD,
      m' ((c.tc : Thread Cert.MixoutDwRefIdeal.nD Cert.MixoutDwRefIdeal.τ).loc Cert.MixoutDwRefIdeal.main_arg0) = m ((c.tc : Thread Cert.MixoutDwIdeal.nD Cert.MixoutDwIdeal.τ).loc Cert.MixoutDwIdeal.main_arg0)
      ∧ m' ((c.tc : Thread Cert.MixoutDwRefIdeal.nD Cert.MixoutDwRefIdeal.τ).loc Cert.MixoutDwRefIdeal.main_arg1) = m ((c.tc : Thread Cert.MixoutDwIdeal.nD Cert.MixoutDwIdeal.τ).loc Cert.MixoutDwIdeal.main_arg1)
      ∧ m' ((c.tc : Thread Cert.MixoutDwRefIdeal.nD Cert.MixoutDwRefIdeal.τ).loc Cert.MixoutDwRefIdeal.main_arg2) = m ((c.tc : Thread Cert.MixoutDwIdeal.nD Cert.MixoutDwIdeal.τ).loc Cert.MixoutDwIdeal.main_arg2)) →
    ∃ (v0 : (c : Dev Cert.MixoutDwIdeal.nD) → Buf (Elt Ideal) ((c.tc : Thread Cert.MixoutDwIdeal.nD Cert.MixoutDwIdeal.τ).loc Cert.MixoutDwIdeal.main_v1)),
      θ_run (Cert.MixoutDwIdeal.defs (F := Ideal)) (onTc (τ := Cert.MixoutDwIdeal.τ) (Cert.MixoutDwIdeal.main (F := Ideal))) ⟨m, fun _ => 0, g⟩ (fun r => ∀ c : Dev Cert.MixoutDwIdeal.nD,
          r.2.mem ((c.tc : Thread Cert.MixoutDwIdeal.nD Cert.MixoutDwIdeal.τ).loc Cert.MixoutDwIdeal.main_v1) = v0 c
          ∧ r.2.mem ((c.tc : Thread Cert.MixoutDwIdeal.nD Cert.MixoutDwIdeal.τ).loc Cert.MixoutDwIdeal.main_arg0) = m ((c.tc : Thread Cert.MixoutDwIdeal.nD Cert.MixoutDwIdeal.τ).loc Cert.MixoutDwIdeal.main_arg0)
          ∧ r.2.mem ((c.tc : Thread Cert.MixoutDwIdeal.nD Cert.MixoutDwIdeal.τ).loc Cert.MixoutDwIdeal.main_arg1) = m ((c.tc : Thread Cert.MixoutDwIdeal.nD Cert.MixoutDwIdeal.τ).loc Cert.MixoutDwIdeal.main_arg1)
          ∧ r.2.mem ((c.tc : Thread Cert.MixoutDwIdeal.nD Cert.MixoutDwIdeal.τ).loc Cert.MixoutDwIdeal.main_arg2) = m ((c.tc : Thread Cert.MixoutDwIdeal.nD Cert.MixoutDwIdeal.τ).loc Cert.MixoutDwIdeal.main_arg2))
      ∧ θ_run (Cert.MixoutDwRefIdeal.defs (F := Ideal)) (onTc (τ := Cert.MixoutDwRefIdeal.τ) (Cert.MixoutDwRefIdeal.main (F := Ideal))) ⟨m', fun _ => 0, g'⟩ (fun r => ∀ c : Dev Cert.MixoutDwRefIdeal.nD,
          r.2.mem ((c.tc : Thread Cert.MixoutDwRefIdeal.nD Cert.MixoutDwRefIdeal.τ).loc Cert.MixoutDwRefIdeal.main_v9) = v0 c
          ∧ r.2.mem ((c.tc : Thread Cert.MixoutDwRefIdeal.nD Cert.MixoutDwRefIdeal.τ).loc Cert.MixoutDwRefIdeal.main_arg0) = m' ((c.tc : Thread Cert.MixoutDwRefIdeal.nD Cert.MixoutDwRefIdeal.τ).loc Cert.MixoutDwRefIdeal.main_arg0)
          ∧ r.2.mem ((c.tc : Thread Cert.MixoutDwRefIdeal.nD Cert.MixoutDwRefIdeal.τ).loc Cert.MixoutDwRefIdeal.main_arg1) = m' ((c.tc : Thread Cert.MixoutDwRefIdeal.nD Cert.MixoutDwRefIdeal.τ).loc Cert.MixoutDwRefIdeal.main_arg1)
          ∧ r.2.mem ((c.tc : Thread Cert.MixoutDwRefIdeal.nD Cert.MixoutDwRefIdeal.τ).loc Cert.MixoutDwRefIdeal.main_arg2) = m' ((c.tc : Thread Cert.MixoutDwRefIdeal.nD Cert.MixoutDwRefIdeal.τ).loc Cert.MixoutDwRefIdeal.main_arg2))

def preserves_InADx_InADxIdeal : Prop :=
  True

def algebraic_InADxIdeal_InADxRefIdeal [hInADxIdeal : Cert.InADxIdeal.Facts] [hInADxRefIdeal : Cert.InADxRefIdeal.Facts] : Prop :=
  ∀ (m : (ℓ : Loc Cert.InADxIdeal.nD Cert.InADxIdeal.τ Cert.InADxIdeal.sig) → Buf (Elt Ideal) ℓ) (g : Dev Cert.InADxIdeal.nD → PrngReg)
    (m' : (ℓ : Loc Cert.InADxRefIdeal.nD Cert.InADxRefIdeal.τ Cert.InADxRefIdeal.sig) → Buf (Elt Ideal) ℓ) (g' : Dev Cert.InADxRefIdeal.nD → PrngReg), Pre_InADxIdeal m →
    (∀ c : Dev Cert.InADxIdeal.nD,
      m' ((c.tc : Thread Cert.InADxRefIdeal.nD Cert.InADxRefIdeal.τ).loc Cert.InADxRefIdeal.main_arg0) = m ((c.tc : Thread Cert.InADxIdeal.nD Cert.InADxIdeal.τ).loc Cert.InADxIdeal.main_arg0)
      ∧ m' ((c.tc : Thread Cert.InADxRefIdeal.nD Cert.InADxRefIdeal.τ).loc Cert.InADxRefIdeal.main_arg1) = m ((c.tc : Thread Cert.InADxIdeal.nD Cert.InADxIdeal.τ).loc Cert.InADxIdeal.main_arg1)
      ∧ m' ((c.tc : Thread Cert.InADxRefIdeal.nD Cert.InADxRefIdeal.τ).loc Cert.InADxRefIdeal.main_arg2) = m ((c.tc : Thread Cert.InADxIdeal.nD Cert.InADxIdeal.τ).loc Cert.InADxIdeal.main_arg2)
      ∧ m' ((c.tc : Thread Cert.InADxRefIdeal.nD Cert.InADxRefIdeal.τ).loc Cert.InADxRefIdeal.main_arg3) = m ((c.tc : Thread Cert.InADxIdeal.nD Cert.InADxIdeal.τ).loc Cert.InADxIdeal.main_arg3)) →
    ∃ (v0 : (c : Dev Cert.InADxIdeal.nD) → Buf (Elt Ideal) ((c.tc : Thread Cert.InADxIdeal.nD Cert.InADxIdeal.τ).loc Cert.InADxIdeal.main_v0)),
      θ_run (Cert.InADxIdeal.defs (F := Ideal)) (onTc (τ := Cert.InADxIdeal.τ) (Cert.InADxIdeal.main (F := Ideal))) ⟨m, fun _ => 0, g⟩ (fun r => ∀ c : Dev Cert.InADxIdeal.nD,
          r.2.mem ((c.tc : Thread Cert.InADxIdeal.nD Cert.InADxIdeal.τ).loc Cert.InADxIdeal.main_v0) = v0 c
          ∧ r.2.mem ((c.tc : Thread Cert.InADxIdeal.nD Cert.InADxIdeal.τ).loc Cert.InADxIdeal.main_arg0) = m ((c.tc : Thread Cert.InADxIdeal.nD Cert.InADxIdeal.τ).loc Cert.InADxIdeal.main_arg0)
          ∧ r.2.mem ((c.tc : Thread Cert.InADxIdeal.nD Cert.InADxIdeal.τ).loc Cert.InADxIdeal.main_arg1) = m ((c.tc : Thread Cert.InADxIdeal.nD Cert.InADxIdeal.τ).loc Cert.InADxIdeal.main_arg1)
          ∧ r.2.mem ((c.tc : Thread Cert.InADxIdeal.nD Cert.InADxIdeal.τ).loc Cert.InADxIdeal.main_arg2) = m ((c.tc : Thread Cert.InADxIdeal.nD Cert.InADxIdeal.τ).loc Cert.InADxIdeal.main_arg2)
          ∧ r.2.mem ((c.tc : Thread Cert.InADxIdeal.nD Cert.InADxIdeal.τ).loc Cert.InADxIdeal.main_arg3) = m ((c.tc : Thread Cert.InADxIdeal.nD Cert.InADxIdeal.τ).loc Cert.InADxIdeal.main_arg3))
      ∧ θ_run (Cert.InADxRefIdeal.defs (F := Ideal)) (onTc (τ := Cert.InADxRefIdeal.τ) (Cert.InADxRefIdeal.main (F := Ideal))) ⟨m', fun _ => 0, g'⟩ (fun r => ∀ c : Dev Cert.InADxRefIdeal.nD,
          r.2.mem ((c.tc : Thread Cert.InADxRefIdeal.nD Cert.InADxRefIdeal.τ).loc Cert.InADxRefIdeal.main_v15) = v0 c
          ∧ r.2.mem ((c.tc : Thread Cert.InADxRefIdeal.nD Cert.InADxRefIdeal.τ).loc Cert.InADxRefIdeal.main_arg0) = m' ((c.tc : Thread Cert.InADxRefIdeal.nD Cert.InADxRefIdeal.τ).loc Cert.InADxRefIdeal.main_arg0)
          ∧ r.2.mem ((c.tc : Thread Cert.InADxRefIdeal.nD Cert.InADxRefIdeal.τ).loc Cert.InADxRefIdeal.main_arg1) = m' ((c.tc : Thread Cert.InADxRefIdeal.nD Cert.InADxRefIdeal.τ).loc Cert.InADxRefIdeal.main_arg1)
          ∧ r.2.mem ((c.tc : Thread Cert.InADxRefIdeal.nD Cert.InADxRefIdeal.τ).loc Cert.InADxRefIdeal.main_arg2) = m' ((c.tc : Thread Cert.InADxRefIdeal.nD Cert.InADxRefIdeal.τ).loc Cert.InADxRefIdeal.main_arg2)
          ∧ r.2.mem ((c.tc : Thread Cert.InADxRefIdeal.nD Cert.InADxRefIdeal.τ).loc Cert.InADxRefIdeal.main_arg3) = m' ((c.tc : Thread Cert.InADxRefIdeal.nD Cert.InADxRefIdeal.τ).loc Cert.InADxRefIdeal.main_arg3))

def preserves_InADw_InADwIdeal : Prop :=
  True

def algebraic_InADwIdeal_InADwRefIdeal [hInADwIdeal : Cert.InADwIdeal.Facts] [hInADwRefIdeal : Cert.InADwRefIdeal.Facts] : Prop :=
  ∀ (m : (ℓ : Loc Cert.InADwIdeal.nD Cert.InADwIdeal.τ Cert.InADwIdeal.sig) → Buf (Elt Ideal) ℓ) (g : Dev Cert.InADwIdeal.nD → PrngReg)
    (m' : (ℓ : Loc Cert.InADwRefIdeal.nD Cert.InADwRefIdeal.τ Cert.InADwRefIdeal.sig) → Buf (Elt Ideal) ℓ) (g' : Dev Cert.InADwRefIdeal.nD → PrngReg), Pre_InADwIdeal m →
    (∀ c : Dev Cert.InADwIdeal.nD,
      m' ((c.tc : Thread Cert.InADwRefIdeal.nD Cert.InADwRefIdeal.τ).loc Cert.InADwRefIdeal.main_arg0) = m ((c.tc : Thread Cert.InADwIdeal.nD Cert.InADwIdeal.τ).loc Cert.InADwIdeal.main_arg0)
      ∧ m' ((c.tc : Thread Cert.InADwRefIdeal.nD Cert.InADwRefIdeal.τ).loc Cert.InADwRefIdeal.main_arg1) = m ((c.tc : Thread Cert.InADwIdeal.nD Cert.InADwIdeal.τ).loc Cert.InADwIdeal.main_arg1)
      ∧ m' ((c.tc : Thread Cert.InADwRefIdeal.nD Cert.InADwRefIdeal.τ).loc Cert.InADwRefIdeal.main_arg2) = m ((c.tc : Thread Cert.InADwIdeal.nD Cert.InADwIdeal.τ).loc Cert.InADwIdeal.main_arg2)
      ∧ m' ((c.tc : Thread Cert.InADwRefIdeal.nD Cert.InADwRefIdeal.τ).loc Cert.InADwRefIdeal.main_arg3) = m ((c.tc : Thread Cert.InADwIdeal.nD Cert.InADwIdeal.τ).loc Cert.InADwIdeal.main_arg3)) →
    ∃ (v0 : (c : Dev Cert.InADwIdeal.nD) → Buf (Elt Ideal) ((c.tc : Thread Cert.InADwIdeal.nD Cert.InADwIdeal.τ).loc Cert.InADwIdeal.main_v2)),
      θ_run (Cert.InADwIdeal.defs (F := Ideal)) (onTc (τ := Cert.InADwIdeal.τ) (Cert.InADwIdeal.main (F := Ideal))) ⟨m, fun _ => 0, g⟩ (fun r => ∀ c : Dev Cert.InADwIdeal.nD,
          r.2.mem ((c.tc : Thread Cert.InADwIdeal.nD Cert.InADwIdeal.τ).loc Cert.InADwIdeal.main_v2) = v0 c
          ∧ r.2.mem ((c.tc : Thread Cert.InADwIdeal.nD Cert.InADwIdeal.τ).loc Cert.InADwIdeal.main_arg0) = m ((c.tc : Thread Cert.InADwIdeal.nD Cert.InADwIdeal.τ).loc Cert.InADwIdeal.main_arg0)
          ∧ r.2.mem ((c.tc : Thread Cert.InADwIdeal.nD Cert.InADwIdeal.τ).loc Cert.InADwIdeal.main_arg1) = m ((c.tc : Thread Cert.InADwIdeal.nD Cert.InADwIdeal.τ).loc Cert.InADwIdeal.main_arg1)
          ∧ r.2.mem ((c.tc : Thread Cert.InADwIdeal.nD Cert.InADwIdeal.τ).loc Cert.InADwIdeal.main_arg2) = m ((c.tc : Thread Cert.InADwIdeal.nD Cert.InADwIdeal.τ).loc Cert.InADwIdeal.main_arg2)
          ∧ r.2.mem ((c.tc : Thread Cert.InADwIdeal.nD Cert.InADwIdeal.τ).loc Cert.InADwIdeal.main_arg3) = m ((c.tc : Thread Cert.InADwIdeal.nD Cert.InADwIdeal.τ).loc Cert.InADwIdeal.main_arg3))
      ∧ θ_run (Cert.InADwRefIdeal.defs (F := Ideal)) (onTc (τ := Cert.InADwRefIdeal.τ) (Cert.InADwRefIdeal.main (F := Ideal))) ⟨m', fun _ => 0, g'⟩ (fun r => ∀ c : Dev Cert.InADwRefIdeal.nD,
          r.2.mem ((c.tc : Thread Cert.InADwRefIdeal.nD Cert.InADwRefIdeal.τ).loc Cert.InADwRefIdeal.main_v18) = v0 c
          ∧ r.2.mem ((c.tc : Thread Cert.InADwRefIdeal.nD Cert.InADwRefIdeal.τ).loc Cert.InADwRefIdeal.main_arg0) = m' ((c.tc : Thread Cert.InADwRefIdeal.nD Cert.InADwRefIdeal.τ).loc Cert.InADwRefIdeal.main_arg0)
          ∧ r.2.mem ((c.tc : Thread Cert.InADwRefIdeal.nD Cert.InADwRefIdeal.τ).loc Cert.InADwRefIdeal.main_arg1) = m' ((c.tc : Thread Cert.InADwRefIdeal.nD Cert.InADwRefIdeal.τ).loc Cert.InADwRefIdeal.main_arg1)
          ∧ r.2.mem ((c.tc : Thread Cert.InADwRefIdeal.nD Cert.InADwRefIdeal.τ).loc Cert.InADwRefIdeal.main_arg2) = m' ((c.tc : Thread Cert.InADwRefIdeal.nD Cert.InADwRefIdeal.τ).loc Cert.InADwRefIdeal.main_arg2)
          ∧ r.2.mem ((c.tc : Thread Cert.InADwRefIdeal.nD Cert.InADwRefIdeal.τ).loc Cert.InADwRefIdeal.main_arg3) = m' ((c.tc : Thread Cert.InADwRefIdeal.nD Cert.InADwRefIdeal.τ).loc Cert.InADwRefIdeal.main_arg3))

def preserves_InBDx_InBDxIdeal : Prop :=
  True

def algebraic_InBDxIdeal_InBDxRefIdeal [hInBDxIdeal : Cert.InBDxIdeal.Facts] [hInBDxRefIdeal : Cert.InBDxRefIdeal.Facts] : Prop :=
  ∀ (m : (ℓ : Loc Cert.InBDxIdeal.nD Cert.InBDxIdeal.τ Cert.InBDxIdeal.sig) → Buf (Elt Ideal) ℓ) (g : Dev Cert.InBDxIdeal.nD → PrngReg)
    (m' : (ℓ : Loc Cert.InBDxRefIdeal.nD Cert.InBDxRefIdeal.τ Cert.InBDxRefIdeal.sig) → Buf (Elt Ideal) ℓ) (g' : Dev Cert.InBDxRefIdeal.nD → PrngReg), Pre_InBDxIdeal m →
    (∀ c : Dev Cert.InBDxIdeal.nD,
      m' ((c.tc : Thread Cert.InBDxRefIdeal.nD Cert.InBDxRefIdeal.τ).loc Cert.InBDxRefIdeal.main_arg0) = m ((c.tc : Thread Cert.InBDxIdeal.nD Cert.InBDxIdeal.τ).loc Cert.InBDxIdeal.main_arg0)
      ∧ m' ((c.tc : Thread Cert.InBDxRefIdeal.nD Cert.InBDxRefIdeal.τ).loc Cert.InBDxRefIdeal.main_arg1) = m ((c.tc : Thread Cert.InBDxIdeal.nD Cert.InBDxIdeal.τ).loc Cert.InBDxIdeal.main_arg1)
      ∧ m' ((c.tc : Thread Cert.InBDxRefIdeal.nD Cert.InBDxRefIdeal.τ).loc Cert.InBDxRefIdeal.main_arg2) = m ((c.tc : Thread Cert.InBDxIdeal.nD Cert.InBDxIdeal.τ).loc Cert.InBDxIdeal.main_arg2)) →
    ∃ (v0 : (c : Dev Cert.InBDxIdeal.nD) → Buf (Elt Ideal) ((c.tc : Thread Cert.InBDxIdeal.nD Cert.InBDxIdeal.τ).loc Cert.InBDxIdeal.main_v0)),
      θ_run (Cert.InBDxIdeal.defs (F := Ideal)) (onTc (τ := Cert.InBDxIdeal.τ) (Cert.InBDxIdeal.main (F := Ideal))) ⟨m, fun _ => 0, g⟩ (fun r => ∀ c : Dev Cert.InBDxIdeal.nD,
          r.2.mem ((c.tc : Thread Cert.InBDxIdeal.nD Cert.InBDxIdeal.τ).loc Cert.InBDxIdeal.main_v0) = v0 c
          ∧ r.2.mem ((c.tc : Thread Cert.InBDxIdeal.nD Cert.InBDxIdeal.τ).loc Cert.InBDxIdeal.main_arg0) = m ((c.tc : Thread Cert.InBDxIdeal.nD Cert.InBDxIdeal.τ).loc Cert.InBDxIdeal.main_arg0)
          ∧ r.2.mem ((c.tc : Thread Cert.InBDxIdeal.nD Cert.InBDxIdeal.τ).loc Cert.InBDxIdeal.main_arg1) = m ((c.tc : Thread Cert.InBDxIdeal.nD Cert.InBDxIdeal.τ).loc Cert.InBDxIdeal.main_arg1)
          ∧ r.2.mem ((c.tc : Thread Cert.InBDxIdeal.nD Cert.InBDxIdeal.τ).loc Cert.InBDxIdeal.main_arg2) = m ((c.tc : Thread Cert.InBDxIdeal.nD Cert.InBDxIdeal.τ).loc Cert.InBDxIdeal.main_arg2))
      ∧ θ_run (Cert.InBDxRefIdeal.defs (F := Ideal)) (onTc (τ := Cert.InBDxRefIdeal.τ) (Cert.InBDxRefIdeal.main (F := Ideal))) ⟨m', fun _ => 0, g'⟩ (fun r => ∀ c : Dev Cert.InBDxRefIdeal.nD,
          r.2.mem ((c.tc : Thread Cert.InBDxRefIdeal.nD Cert.InBDxRefIdeal.τ).loc Cert.InBDxRefIdeal.main_v10) = v0 c
          ∧ r.2.mem ((c.tc : Thread Cert.InBDxRefIdeal.nD Cert.InBDxRefIdeal.τ).loc Cert.InBDxRefIdeal.main_arg0) = m' ((c.tc : Thread Cert.InBDxRefIdeal.nD Cert.InBDxRefIdeal.τ).loc Cert.InBDxRefIdeal.main_arg0)
          ∧ r.2.mem ((c.tc : Thread Cert.InBDxRefIdeal.nD Cert.InBDxRefIdeal.τ).loc Cert.InBDxRefIdeal.main_arg1) = m' ((c.tc : Thread Cert.InBDxRefIdeal.nD Cert.InBDxRefIdeal.τ).loc Cert.InBDxRefIdeal.main_arg1)
          ∧ r.2.mem ((c.tc : Thread Cert.InBDxRefIdeal.nD Cert.InBDxRefIdeal.τ).loc Cert.InBDxRefIdeal.main_arg2) = m' ((c.tc : Thread Cert.InBDxRefIdeal.nD Cert.InBDxRefIdeal.τ).loc Cert.InBDxRefIdeal.main_arg2))

def preserves_InBDw_InBDwIdeal : Prop :=
  True

def algebraic_InBDwIdeal_InBDwRefIdeal [hInBDwIdeal : Cert.InBDwIdeal.Facts] [hInBDwRefIdeal : Cert.InBDwRefIdeal.Facts] : Prop :=
  ∀ (m : (ℓ : Loc Cert.InBDwIdeal.nD Cert.InBDwIdeal.τ Cert.InBDwIdeal.sig) → Buf (Elt Ideal) ℓ) (g : Dev Cert.InBDwIdeal.nD → PrngReg)
    (m' : (ℓ : Loc Cert.InBDwRefIdeal.nD Cert.InBDwRefIdeal.τ Cert.InBDwRefIdeal.sig) → Buf (Elt Ideal) ℓ) (g' : Dev Cert.InBDwRefIdeal.nD → PrngReg), Pre_InBDwIdeal m →
    (∀ c : Dev Cert.InBDwIdeal.nD,
      m' ((c.tc : Thread Cert.InBDwRefIdeal.nD Cert.InBDwRefIdeal.τ).loc Cert.InBDwRefIdeal.main_arg0) = m ((c.tc : Thread Cert.InBDwIdeal.nD Cert.InBDwIdeal.τ).loc Cert.InBDwIdeal.main_arg0)
      ∧ m' ((c.tc : Thread Cert.InBDwRefIdeal.nD Cert.InBDwRefIdeal.τ).loc Cert.InBDwRefIdeal.main_arg1) = m ((c.tc : Thread Cert.InBDwIdeal.nD Cert.InBDwIdeal.τ).loc Cert.InBDwIdeal.main_arg1)
      ∧ m' ((c.tc : Thread Cert.InBDwRefIdeal.nD Cert.InBDwRefIdeal.τ).loc Cert.InBDwRefIdeal.main_arg2) = m ((c.tc : Thread Cert.InBDwIdeal.nD Cert.InBDwIdeal.τ).loc Cert.InBDwIdeal.main_arg2)) →
    ∃ (v0 : (c : Dev Cert.InBDwIdeal.nD) → Buf (Elt Ideal) ((c.tc : Thread Cert.InBDwIdeal.nD Cert.InBDwIdeal.τ).loc Cert.InBDwIdeal.main_v1)),
      θ_run (Cert.InBDwIdeal.defs (F := Ideal)) (onTc (τ := Cert.InBDwIdeal.τ) (Cert.InBDwIdeal.main (F := Ideal))) ⟨m, fun _ => 0, g⟩ (fun r => ∀ c : Dev Cert.InBDwIdeal.nD,
          r.2.mem ((c.tc : Thread Cert.InBDwIdeal.nD Cert.InBDwIdeal.τ).loc Cert.InBDwIdeal.main_v1) = v0 c
          ∧ r.2.mem ((c.tc : Thread Cert.InBDwIdeal.nD Cert.InBDwIdeal.τ).loc Cert.InBDwIdeal.main_arg0) = m ((c.tc : Thread Cert.InBDwIdeal.nD Cert.InBDwIdeal.τ).loc Cert.InBDwIdeal.main_arg0)
          ∧ r.2.mem ((c.tc : Thread Cert.InBDwIdeal.nD Cert.InBDwIdeal.τ).loc Cert.InBDwIdeal.main_arg1) = m ((c.tc : Thread Cert.InBDwIdeal.nD Cert.InBDwIdeal.τ).loc Cert.InBDwIdeal.main_arg1)
          ∧ r.2.mem ((c.tc : Thread Cert.InBDwIdeal.nD Cert.InBDwIdeal.τ).loc Cert.InBDwIdeal.main_arg2) = m ((c.tc : Thread Cert.InBDwIdeal.nD Cert.InBDwIdeal.τ).loc Cert.InBDwIdeal.main_arg2))
      ∧ θ_run (Cert.InBDwRefIdeal.defs (F := Ideal)) (onTc (τ := Cert.InBDwRefIdeal.τ) (Cert.InBDwRefIdeal.main (F := Ideal))) ⟨m', fun _ => 0, g'⟩ (fun r => ∀ c : Dev Cert.InBDwRefIdeal.nD,
          r.2.mem ((c.tc : Thread Cert.InBDwRefIdeal.nD Cert.InBDwRefIdeal.τ).loc Cert.InBDwRefIdeal.main_v13) = v0 c
          ∧ r.2.mem ((c.tc : Thread Cert.InBDwRefIdeal.nD Cert.InBDwRefIdeal.τ).loc Cert.InBDwRefIdeal.main_arg0) = m' ((c.tc : Thread Cert.InBDwRefIdeal.nD Cert.InBDwRefIdeal.τ).loc Cert.InBDwRefIdeal.main_arg0)
          ∧ r.2.mem ((c.tc : Thread Cert.InBDwRefIdeal.nD Cert.InBDwRefIdeal.τ).loc Cert.InBDwRefIdeal.main_arg1) = m' ((c.tc : Thread Cert.InBDwRefIdeal.nD Cert.InBDwRefIdeal.τ).loc Cert.InBDwRefIdeal.main_arg1)
          ∧ r.2.mem ((c.tc : Thread Cert.InBDwRefIdeal.nD Cert.InBDwRefIdeal.τ).loc Cert.InBDwRefIdeal.main_arg2) = m' ((c.tc : Thread Cert.InBDwRefIdeal.nD Cert.InBDwRefIdeal.τ).loc Cert.InBDwRefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v2)) (v1 : (c : Dev Cert.GatesIdeal.nD) → Buf (Elt Ideal) ((c.tc : Thread Cert.GatesIdeal.nD Cert.GatesIdeal.τ).loc Cert.GatesIdeal.main_v0)) (v2 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2) = v0 c
          ∧ r.2.mem ((c.tc : Thread Cert.GatesIdeal.nD Cert.GatesIdeal.τ).loc Cert.GatesIdeal.main_v0) = v1 c
          ∧ r.2.mem ((c.tc : Thread Cert.GatesIdeal.nD Cert.GatesIdeal.τ).loc Cert.GatesIdeal.main_v1) = v2 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v14) = v0 c
          ∧ r.2.mem ((c.tc : Thread Cert.GatesRefIdeal.nD Cert.GatesRefIdeal.τ).loc Cert.GatesRefIdeal.main_v12) = v1 c
          ∧ r.2.mem ((c.tc : Thread Cert.GatesRefIdeal.nD Cert.GatesRefIdeal.τ).loc Cert.GatesRefIdeal.main_v8) = v2 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v1)) (v1 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v1) = v0 c
          ∧ r.2.mem ((c.tc : Thread Cert.KvIdeal.nD Cert.KvIdeal.τ).loc Cert.KvIdeal.main_v0) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v6) = v0 c
          ∧ r.2.mem ((c.tc : Thread Cert.KvRefIdeal.nD Cert.KvRefIdeal.τ).loc Cert.KvRefIdeal.main_v8) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v1)) (v1 : (c : Dev Cert.MemkvIdeal.nD) → Buf (Elt Ideal) ((c.tc : Thread Cert.MemkvIdeal.nD Cert.MemkvIdeal.τ).loc Cert.MemkvIdeal.main_v0)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v1) = v0 c
          ∧ r.2.mem ((c.tc : Thread Cert.MemkvIdeal.nD Cert.MemkvIdeal.τ).loc Cert.MemkvIdeal.main_v0) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v5) = v0 c
          ∧ r.2.mem ((c.tc : Thread Cert.MemkvRefIdeal.nD Cert.MemkvRefIdeal.τ).loc Cert.MemkvRefIdeal.main_v7) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Mixout_MixoutIdeal : Prop :=
  True

def algebraic_MixoutIdeal_MixoutRefIdeal [hMixoutIdeal : Cert.MixoutIdeal.Facts] [hMixoutRefIdeal : Cert.MixoutRefIdeal.Facts] : Prop :=
  ∀ (m : (ℓ : Loc Cert.MixoutIdeal.nD Cert.MixoutIdeal.τ Cert.MixoutIdeal.sig) → Buf (Elt Ideal) ℓ) (g : Dev Cert.MixoutIdeal.nD → PrngReg)
    (m' : (ℓ : Loc Cert.MixoutRefIdeal.nD Cert.MixoutRefIdeal.τ Cert.MixoutRefIdeal.sig) → Buf (Elt Ideal) ℓ) (g' : Dev Cert.MixoutRefIdeal.nD → PrngReg), Pre_MixoutIdeal m →
    (∀ c : Dev Cert.MixoutIdeal.nD,
      m' ((c.tc : Thread Cert.MixoutRefIdeal.nD Cert.MixoutRefIdeal.τ).loc Cert.MixoutRefIdeal.main_arg0) = m ((c.tc : Thread Cert.MixoutIdeal.nD Cert.MixoutIdeal.τ).loc Cert.MixoutIdeal.main_arg0)
      ∧ m' ((c.tc : Thread Cert.MixoutRefIdeal.nD Cert.MixoutRefIdeal.τ).loc Cert.MixoutRefIdeal.main_arg1) = m ((c.tc : Thread Cert.MixoutIdeal.nD Cert.MixoutIdeal.τ).loc Cert.MixoutIdeal.main_arg1)
      ∧ m' ((c.tc : Thread Cert.MixoutRefIdeal.nD Cert.MixoutRefIdeal.τ).loc Cert.MixoutRefIdeal.main_arg2) = m ((c.tc : Thread Cert.MixoutIdeal.nD Cert.MixoutIdeal.τ).loc Cert.MixoutIdeal.main_arg2)) →
    ∃ (v0 : (c : Dev Cert.MixoutIdeal.nD) → Buf (Elt Ideal) ((c.tc : Thread Cert.MixoutIdeal.nD Cert.MixoutIdeal.τ).loc Cert.MixoutIdeal.main_v0)),
      θ_run (Cert.MixoutIdeal.defs (F := Ideal)) (onTc (τ := Cert.MixoutIdeal.τ) (Cert.MixoutIdeal.main (F := Ideal))) ⟨m, fun _ => 0, g⟩ (fun r => ∀ c : Dev Cert.MixoutIdeal.nD,
          r.2.mem ((c.tc : Thread Cert.MixoutIdeal.nD Cert.MixoutIdeal.τ).loc Cert.MixoutIdeal.main_v0) = v0 c
          ∧ r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
          ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
          ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2))
      ∧ θ_run (Cert.MixoutRefIdeal.defs (F := Ideal)) (onTc (τ := Cert.MixoutRefIdeal.τ) (Cert.MixoutRefIdeal.main (F := Ideal))) ⟨m', fun _ => 0, g'⟩ (fun r => ∀ c : Dev Cert.MixoutRefIdeal.nD,
          r.2.mem ((c.tc : Thread Cert.MixoutRefIdeal.nD Cert.MixoutRefIdeal.τ).loc Cert.MixoutRefIdeal.main_v4) = v0 c
          ∧ r.2.mem ((c.tc : Thread Cert.MixoutRefIdeal.nD Cert.MixoutRefIdeal.τ).loc Cert.MixoutRefIdeal.main_arg0) = m' ((c.tc : Thread Cert.MixoutRefIdeal.nD Cert.MixoutRefIdeal.τ).loc Cert.MixoutRefIdeal.main_arg0)
          ∧ r.2.mem ((c.tc : Thread Cert.MixoutRefIdeal.nD Cert.MixoutRefIdeal.τ).loc Cert.MixoutRefIdeal.main_arg1) = m' ((c.tc : Thread Cert.MixoutRefIdeal.nD Cert.MixoutRefIdeal.τ).loc Cert.MixoutRefIdeal.main_arg1)
          ∧ r.2.mem ((c.tc : Thread Cert.MixoutRefIdeal.nD Cert.MixoutRefIdeal.τ).loc Cert.MixoutRefIdeal.main_arg2) = m' ((c.tc : Thread Cert.MixoutRefIdeal.nD Cert.MixoutRefIdeal.τ).loc Cert.MixoutRefIdeal.main_arg2))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v0)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v0) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v3) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v0)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v2) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_GatesFwd_GatesFwdIdeal : Prop :=
  True

def algebraic_GatesFwdIdeal_GatesFwdRefIdeal [hGatesFwdIdeal : Cert.GatesFwdIdeal.Facts] [hGatesFwdRefIdeal : Cert.GatesFwdRefIdeal.Facts] : Prop :=
  ∀ (m : (ℓ : Loc Cert.GatesFwdIdeal.nD Cert.GatesFwdIdeal.τ Cert.GatesFwdIdeal.sig) → Buf (Elt Ideal) ℓ) (g : Dev Cert.GatesFwdIdeal.nD → PrngReg)
    (m' : (ℓ : Loc Cert.GatesFwdRefIdeal.nD Cert.GatesFwdRefIdeal.τ Cert.GatesFwdRefIdeal.sig) → Buf (Elt Ideal) ℓ) (g' : Dev Cert.GatesFwdRefIdeal.nD → PrngReg), Pre_GatesFwdIdeal m →
    (∀ c : Dev Cert.GatesFwdIdeal.nD,
      m' ((c.tc : Thread Cert.GatesFwdRefIdeal.nD Cert.GatesFwdRefIdeal.τ).loc Cert.GatesFwdRefIdeal.main_arg0) = m ((c.tc : Thread Cert.GatesFwdIdeal.nD Cert.GatesFwdIdeal.τ).loc Cert.GatesFwdIdeal.main_arg0)
      ∧ m' ((c.tc : Thread Cert.GatesFwdRefIdeal.nD Cert.GatesFwdRefIdeal.τ).loc Cert.GatesFwdRefIdeal.main_arg1) = m ((c.tc : Thread Cert.GatesFwdIdeal.nD Cert.GatesFwdIdeal.τ).loc Cert.GatesFwdIdeal.main_arg1)) →
    ∃ (v0 : (c : Dev Cert.GatesFwdIdeal.nD) → Buf (Elt Ideal) ((c.tc : Thread Cert.GatesFwdIdeal.nD Cert.GatesFwdIdeal.τ).loc Cert.GatesFwdIdeal.main_v0)),
      θ_run (Cert.GatesFwdIdeal.defs (F := Ideal)) (onTc (τ := Cert.GatesFwdIdeal.τ) (Cert.GatesFwdIdeal.main (F := Ideal))) ⟨m, fun _ => 0, g⟩ (fun r => ∀ c : Dev Cert.GatesFwdIdeal.nD,
          r.2.mem ((c.tc : Thread Cert.GatesFwdIdeal.nD Cert.GatesFwdIdeal.τ).loc Cert.GatesFwdIdeal.main_v0) = v0 c
          ∧ r.2.mem ((c.tc : Thread Cert.GatesFwdIdeal.nD Cert.GatesFwdIdeal.τ).loc Cert.GatesFwdIdeal.main_arg0) = m ((c.tc : Thread Cert.GatesFwdIdeal.nD Cert.GatesFwdIdeal.τ).loc Cert.GatesFwdIdeal.main_arg0)
          ∧ r.2.mem ((c.tc : Thread Cert.GatesFwdIdeal.nD Cert.GatesFwdIdeal.τ).loc Cert.GatesFwdIdeal.main_arg1) = m ((c.tc : Thread Cert.GatesFwdIdeal.nD Cert.GatesFwdIdeal.τ).loc Cert.GatesFwdIdeal.main_arg1))
      ∧ θ_run (Cert.GatesFwdRefIdeal.defs (F := Ideal)) (onTc (τ := Cert.GatesFwdRefIdeal.τ) (Cert.GatesFwdRefIdeal.main (F := Ideal))) ⟨m', fun _ => 0, g'⟩ (fun r => ∀ c : Dev Cert.GatesFwdRefIdeal.nD,
          r.2.mem ((c.tc : Thread Cert.GatesFwdRefIdeal.nD Cert.GatesFwdRefIdeal.τ).loc Cert.GatesFwdRefIdeal.main_v5) = v0 c
          ∧ r.2.mem ((c.tc : Thread Cert.GatesFwdRefIdeal.nD Cert.GatesFwdRefIdeal.τ).loc Cert.GatesFwdRefIdeal.main_arg0) = m' ((c.tc : Thread Cert.GatesFwdRefIdeal.nD Cert.GatesFwdRefIdeal.τ).loc Cert.GatesFwdRefIdeal.main_arg0)
          ∧ r.2.mem ((c.tc : Thread Cert.GatesFwdRefIdeal.nD Cert.GatesFwdRefIdeal.τ).loc Cert.GatesFwdRefIdeal.main_arg1) = m' ((c.tc : Thread Cert.GatesFwdRefIdeal.nD Cert.GatesFwdRefIdeal.τ).loc Cert.GatesFwdRefIdeal.main_arg1))

def preserves_KvFwd_KvFwdIdeal : Prop :=
  True

def algebraic_KvFwdIdeal_KvFwdRefIdeal [hKvFwdIdeal : Cert.KvFwdIdeal.Facts] [hKvFwdRefIdeal : Cert.KvFwdRefIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg)
    (m' : (ℓ : Loc Cert.KvFwdRefIdeal.nD Cert.KvFwdRefIdeal.τ Cert.KvFwdRefIdeal.sig) → Buf (Elt Ideal) ℓ) (g' : Dev Cert.KvFwdRefIdeal.nD → PrngReg), Pre_KvFwdIdeal m →
    (∀ c : Dev Cert.KvFwdIdeal.nD,
      m' ((c.tc : Thread Cert.KvFwdRefIdeal.nD Cert.KvFwdRefIdeal.τ).loc Cert.KvFwdRefIdeal.main_arg0) = m ((c.tc : Thread Cert.KvFwdIdeal.nD Cert.KvFwdIdeal.τ).loc Cert.KvFwdIdeal.main_arg0)
      ∧ m' ((c.tc : Thread Cert.KvFwdRefIdeal.nD Cert.KvFwdRefIdeal.τ).loc Cert.KvFwdRefIdeal.main_arg1) = m ((c.tc : Thread Cert.KvFwdIdeal.nD Cert.KvFwdIdeal.τ).loc Cert.KvFwdIdeal.main_arg1)) →
    ∃ (v0 : (c : Dev Cert.KvFwdIdeal.nD) → Buf (Elt Ideal) ((c.tc : Thread Cert.KvFwdIdeal.nD Cert.KvFwdIdeal.τ).loc Cert.KvFwdIdeal.main_v0)),
      θ_run (Cert.KvFwdIdeal.defs (F := Ideal)) (onTc (τ := Cert.KvFwdIdeal.τ) (Cert.KvFwdIdeal.main (F := Ideal))) ⟨m, fun _ => 0, g⟩ (fun r => ∀ c : Dev Cert.KvFwdIdeal.nD,
          r.2.mem ((c.tc : Thread Cert.KvFwdIdeal.nD Cert.KvFwdIdeal.τ).loc Cert.KvFwdIdeal.main_v0) = v0 c
          ∧ r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
          ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1))
      ∧ θ_run (Cert.KvFwdRefIdeal.defs (F := Ideal)) (onTc (τ := Cert.KvFwdRefIdeal.τ) (Cert.KvFwdRefIdeal.main (F := Ideal))) ⟨m', fun _ => 0, g'⟩ (fun r => ∀ c : Dev Cert.KvFwdRefIdeal.nD,
          r.2.mem ((c.tc : Thread Cert.KvFwdRefIdeal.nD Cert.KvFwdRefIdeal.τ).loc Cert.KvFwdRefIdeal.main_v2) = v0 c
          ∧ r.2.mem ((c.tc : Thread Cert.KvFwdRefIdeal.nD Cert.KvFwdRefIdeal.τ).loc Cert.KvFwdRefIdeal.main_arg0) = m' ((c.tc : Thread Cert.KvFwdRefIdeal.nD Cert.KvFwdRefIdeal.τ).loc Cert.KvFwdRefIdeal.main_arg0)
          ∧ r.2.mem ((c.tc : Thread Cert.KvFwdRefIdeal.nD Cert.KvFwdRefIdeal.τ).loc Cert.KvFwdRefIdeal.main_arg1) = m' ((c.tc : Thread Cert.KvFwdRefIdeal.nD Cert.KvFwdRefIdeal.τ).loc Cert.KvFwdRefIdeal.main_arg1))

def preserves_MemkvFwd_MemkvFwdIdeal : Prop :=
  True

def algebraic_MemkvFwdIdeal_MemkvFwdRefIdeal [hMemkvFwdIdeal : Cert.MemkvFwdIdeal.Facts] [hMemkvFwdRefIdeal : Cert.MemkvFwdRefIdeal.Facts] : Prop :=
  ∀ (m : (ℓ : Loc Cert.MemkvFwdIdeal.nD Cert.MemkvFwdIdeal.τ Cert.MemkvFwdIdeal.sig) → Buf (Elt Ideal) ℓ) (g : Dev Cert.MemkvFwdIdeal.nD → PrngReg)
    (m' : (ℓ : Loc Cert.MemkvFwdRefIdeal.nD Cert.MemkvFwdRefIdeal.τ Cert.MemkvFwdRefIdeal.sig) → Buf (Elt Ideal) ℓ) (g' : Dev Cert.MemkvFwdRefIdeal.nD → PrngReg), Pre_MemkvFwdIdeal m →
    (∀ c : Dev Cert.MemkvFwdIdeal.nD,
      m' ((c.tc : Thread Cert.MemkvFwdRefIdeal.nD Cert.MemkvFwdRefIdeal.τ).loc Cert.MemkvFwdRefIdeal.main_arg0) = m ((c.tc : Thread Cert.MemkvFwdIdeal.nD Cert.MemkvFwdIdeal.τ).loc Cert.MemkvFwdIdeal.main_arg0)
      ∧ m' ((c.tc : Thread Cert.MemkvFwdRefIdeal.nD Cert.MemkvFwdRefIdeal.τ).loc Cert.MemkvFwdRefIdeal.main_arg1) = m ((c.tc : Thread Cert.MemkvFwdIdeal.nD Cert.MemkvFwdIdeal.τ).loc Cert.MemkvFwdIdeal.main_arg1)) →
    ∃ (v0 : (c : Dev Cert.MemkvFwdIdeal.nD) → Buf (Elt Ideal) ((c.tc : Thread Cert.MemkvFwdIdeal.nD Cert.MemkvFwdIdeal.τ).loc Cert.MemkvFwdIdeal.main_v0)),
      θ_run (Cert.MemkvFwdIdeal.defs (F := Ideal)) (onTc (τ := Cert.MemkvFwdIdeal.τ) (Cert.MemkvFwdIdeal.main (F := Ideal))) ⟨m, fun _ => 0, g⟩ (fun r => ∀ c : Dev Cert.MemkvFwdIdeal.nD,
          r.2.mem ((c.tc : Thread Cert.MemkvFwdIdeal.nD Cert.MemkvFwdIdeal.τ).loc Cert.MemkvFwdIdeal.main_v0) = v0 c
          ∧ r.2.mem ((c.tc : Thread Cert.MemkvFwdIdeal.nD Cert.MemkvFwdIdeal.τ).loc Cert.MemkvFwdIdeal.main_arg0) = m ((c.tc : Thread Cert.MemkvFwdIdeal.nD Cert.MemkvFwdIdeal.τ).loc Cert.MemkvFwdIdeal.main_arg0)
          ∧ r.2.mem ((c.tc : Thread Cert.MemkvFwdIdeal.nD Cert.MemkvFwdIdeal.τ).loc Cert.MemkvFwdIdeal.main_arg1) = m ((c.tc : Thread Cert.MemkvFwdIdeal.nD Cert.MemkvFwdIdeal.τ).loc Cert.MemkvFwdIdeal.main_arg1))
      ∧ θ_run (Cert.MemkvFwdRefIdeal.defs (F := Ideal)) (onTc (τ := Cert.MemkvFwdRefIdeal.τ) (Cert.MemkvFwdRefIdeal.main (F := Ideal))) ⟨m', fun _ => 0, g'⟩ (fun r => ∀ c : Dev Cert.MemkvFwdRefIdeal.nD,
          r.2.mem ((c.tc : Thread Cert.MemkvFwdRefIdeal.nD Cert.MemkvFwdRefIdeal.τ).loc Cert.MemkvFwdRefIdeal.main_v2) = v0 c
          ∧ r.2.mem ((c.tc : Thread Cert.MemkvFwdRefIdeal.nD Cert.MemkvFwdRefIdeal.τ).loc Cert.MemkvFwdRefIdeal.main_arg0) = m' ((c.tc : Thread Cert.MemkvFwdRefIdeal.nD Cert.MemkvFwdRefIdeal.τ).loc Cert.MemkvFwdRefIdeal.main_arg0)
          ∧ r.2.mem ((c.tc : Thread Cert.MemkvFwdRefIdeal.nD Cert.MemkvFwdRefIdeal.τ).loc Cert.MemkvFwdRefIdeal.main_arg1) = m' ((c.tc : Thread Cert.MemkvFwdRefIdeal.nD Cert.MemkvFwdRefIdeal.τ).loc Cert.MemkvFwdRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v80) = v0 c
          ∧ r.2.mem ((c.tc : Thread Cert.ConvRefIdeal.nD Cert.ConvRefIdeal.τ).loc Cert.ConvRefIdeal.main_v77) = v1 c
          ∧ r.2.mem ((c.tc : Thread Cert.ConvRefIdeal.nD Cert.ConvRefIdeal.τ).loc Cert.ConvRefIdeal.main_v35) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_RmsPair_RmsPairIdeal : Prop :=
  True

def algebraic_RmsPairIdeal_RmsPairRefIdeal [hRmsPairIdeal : Cert.RmsPairIdeal.Facts] [hRmsPairRefIdeal : Cert.RmsPairRefIdeal.Facts] : Prop :=
  ∀ (m : (ℓ : Loc Cert.RmsPairIdeal.nD Cert.RmsPairIdeal.τ Cert.RmsPairIdeal.sig) → Buf (Elt Ideal) ℓ) (g : Dev Cert.RmsPairIdeal.nD → PrngReg)
    (m' : (ℓ : Loc Cert.RmsPairRefIdeal.nD Cert.RmsPairRefIdeal.τ Cert.RmsPairRefIdeal.sig) → Buf (Elt Ideal) ℓ) (g' : Dev Cert.RmsPairRefIdeal.nD → PrngReg), Pre_RmsPairIdeal m →
    (∀ c : Dev Cert.RmsPairIdeal.nD,
      m' ((c.tc : Thread Cert.RmsPairRefIdeal.nD Cert.RmsPairRefIdeal.τ).loc Cert.RmsPairRefIdeal.main_arg0) = m ((c.tc : Thread Cert.RmsPairIdeal.nD Cert.RmsPairIdeal.τ).loc Cert.RmsPairIdeal.main_arg0)
      ∧ m' ((c.tc : Thread Cert.RmsPairRefIdeal.nD Cert.RmsPairRefIdeal.τ).loc Cert.RmsPairRefIdeal.main_arg1) = m ((c.tc : Thread Cert.RmsPairIdeal.nD Cert.RmsPairIdeal.τ).loc Cert.RmsPairIdeal.main_arg1)
      ∧ m' ((c.tc : Thread Cert.RmsPairRefIdeal.nD Cert.RmsPairRefIdeal.τ).loc Cert.RmsPairRefIdeal.main_arg2) = m ((c.tc : Thread Cert.RmsPairIdeal.nD Cert.RmsPairIdeal.τ).loc Cert.RmsPairIdeal.main_arg2)
      ∧ m' ((c.tc : Thread Cert.RmsPairRefIdeal.nD Cert.RmsPairRefIdeal.τ).loc Cert.RmsPairRefIdeal.main_arg3) = m ((c.tc : Thread Cert.RmsPairIdeal.nD Cert.RmsPairIdeal.τ).loc Cert.RmsPairIdeal.main_arg3)
      ∧ m' ((c.tc : Thread Cert.RmsPairRefIdeal.nD Cert.RmsPairRefIdeal.τ).loc Cert.RmsPairRefIdeal.main_arg4) = m ((c.tc : Thread Cert.RmsPairIdeal.nD Cert.RmsPairIdeal.τ).loc Cert.RmsPairIdeal.main_arg4)
      ∧ m' ((c.tc : Thread Cert.RmsPairRefIdeal.nD Cert.RmsPairRefIdeal.τ).loc Cert.RmsPairRefIdeal.main_arg5) = m ((c.tc : Thread Cert.RmsPairIdeal.nD Cert.RmsPairIdeal.τ).loc Cert.RmsPairIdeal.main_arg5)) →
    ∃ (v0 : (c : Dev Cert.RmsPairIdeal.nD) → Buf (Elt Ideal) ((c.tc : Thread Cert.RmsPairIdeal.nD Cert.RmsPairIdeal.τ).loc Cert.RmsPairIdeal.main_v0_0)) (v1 : (c : Dev Cert.RmsPairIdeal.nD) → Buf (Elt Ideal) ((c.tc : Thread Cert.RmsPairIdeal.nD Cert.RmsPairIdeal.τ).loc Cert.RmsPairIdeal.main_v0_1)) (v2 : (c : Dev Cert.RmsPairIdeal.nD) → Buf (Elt Ideal) ((c.tc : Thread Cert.RmsPairIdeal.nD Cert.RmsPairIdeal.τ).loc Cert.RmsPairIdeal.main_v0_2)) (v3 : (c : Dev Cert.RmsPairIdeal.nD) → Buf (Elt Ideal) ((c.tc : Thread Cert.RmsPairIdeal.nD Cert.RmsPairIdeal.τ).loc Cert.RmsPairIdeal.main_v0_3)),
      θ_run (Cert.RmsPairIdeal.defs (F := Ideal)) (onTc (τ := Cert.RmsPairIdeal.τ) (Cert.RmsPairIdeal.main (F := Ideal))) ⟨m, fun _ => 0, g⟩ (fun r => ∀ c : Dev Cert.RmsPairIdeal.nD,
          r.2.mem ((c.tc : Thread Cert.RmsPairIdeal.nD Cert.RmsPairIdeal.τ).loc Cert.RmsPairIdeal.main_v0_0) = v0 c
          ∧ r.2.mem ((c.tc : Thread Cert.RmsPairIdeal.nD Cert.RmsPairIdeal.τ).loc Cert.RmsPairIdeal.main_v0_1) = v1 c
          ∧ r.2.mem ((c.tc : Thread Cert.RmsPairIdeal.nD Cert.RmsPairIdeal.τ).loc Cert.RmsPairIdeal.main_v0_2) = v2 c
          ∧ r.2.mem ((c.tc : Thread Cert.RmsPairIdeal.nD Cert.RmsPairIdeal.τ).loc Cert.RmsPairIdeal.main_v0_3) = v3 c
          ∧ r.2.mem ((c.tc : Thread Cert.RmsPairIdeal.nD Cert.RmsPairIdeal.τ).loc Cert.RmsPairIdeal.main_arg0) = m ((c.tc : Thread Cert.RmsPairIdeal.nD Cert.RmsPairIdeal.τ).loc Cert.RmsPairIdeal.main_arg0)
          ∧ r.2.mem ((c.tc : Thread Cert.RmsPairIdeal.nD Cert.RmsPairIdeal.τ).loc Cert.RmsPairIdeal.main_arg1) = m ((c.tc : Thread Cert.RmsPairIdeal.nD Cert.RmsPairIdeal.τ).loc Cert.RmsPairIdeal.main_arg1)
          ∧ r.2.mem ((c.tc : Thread Cert.RmsPairIdeal.nD Cert.RmsPairIdeal.τ).loc Cert.RmsPairIdeal.main_arg2) = m ((c.tc : Thread Cert.RmsPairIdeal.nD Cert.RmsPairIdeal.τ).loc Cert.RmsPairIdeal.main_arg2)
          ∧ r.2.mem ((c.tc : Thread Cert.RmsPairIdeal.nD Cert.RmsPairIdeal.τ).loc Cert.RmsPairIdeal.main_arg3) = m ((c.tc : Thread Cert.RmsPairIdeal.nD Cert.RmsPairIdeal.τ).loc Cert.RmsPairIdeal.main_arg3)
          ∧ r.2.mem ((c.tc : Thread Cert.RmsPairIdeal.nD Cert.RmsPairIdeal.τ).loc Cert.RmsPairIdeal.main_arg4) = m ((c.tc : Thread Cert.RmsPairIdeal.nD Cert.RmsPairIdeal.τ).loc Cert.RmsPairIdeal.main_arg4)
          ∧ r.2.mem ((c.tc : Thread Cert.RmsPairIdeal.nD Cert.RmsPairIdeal.τ).loc Cert.RmsPairIdeal.main_arg5) = m ((c.tc : Thread Cert.RmsPairIdeal.nD Cert.RmsPairIdeal.τ).loc Cert.RmsPairIdeal.main_arg5))
      ∧ θ_run (Cert.RmsPairRefIdeal.defs (F := Ideal)) (onTc (τ := Cert.RmsPairRefIdeal.τ) (Cert.RmsPairRefIdeal.main (F := Ideal))) ⟨m', fun _ => 0, g'⟩ (fun r => ∀ c : Dev Cert.RmsPairRefIdeal.nD,
          r.2.mem ((c.tc : Thread Cert.RmsPairRefIdeal.nD Cert.RmsPairRefIdeal.τ).loc Cert.RmsPairRefIdeal.main_v34) = v0 c
          ∧ r.2.mem ((c.tc : Thread Cert.RmsPairRefIdeal.nD Cert.RmsPairRefIdeal.τ).loc Cert.RmsPairRefIdeal.main_v69) = v1 c
          ∧ r.2.mem ((c.tc : Thread Cert.RmsPairRefIdeal.nD Cert.RmsPairRefIdeal.τ).loc Cert.RmsPairRefIdeal.main_v17) = v2 c
          ∧ r.2.mem ((c.tc : Thread Cert.RmsPairRefIdeal.nD Cert.RmsPairRefIdeal.τ).loc Cert.RmsPairRefIdeal.main_v52) = v3 c
          ∧ r.2.mem ((c.tc : Thread Cert.RmsPairRefIdeal.nD Cert.RmsPairRefIdeal.τ).loc Cert.RmsPairRefIdeal.main_arg0) = m' ((c.tc : Thread Cert.RmsPairRefIdeal.nD Cert.RmsPairRefIdeal.τ).loc Cert.RmsPairRefIdeal.main_arg0)
          ∧ r.2.mem ((c.tc : Thread Cert.RmsPairRefIdeal.nD Cert.RmsPairRefIdeal.τ).loc Cert.RmsPairRefIdeal.main_arg1) = m' ((c.tc : Thread Cert.RmsPairRefIdeal.nD Cert.RmsPairRefIdeal.τ).loc Cert.RmsPairRefIdeal.main_arg1)
          ∧ r.2.mem ((c.tc : Thread Cert.RmsPairRefIdeal.nD Cert.RmsPairRefIdeal.τ).loc Cert.RmsPairRefIdeal.main_arg2) = m' ((c.tc : Thread Cert.RmsPairRefIdeal.nD Cert.RmsPairRefIdeal.τ).loc Cert.RmsPairRefIdeal.main_arg2)
          ∧ r.2.mem ((c.tc : Thread Cert.RmsPairRefIdeal.nD Cert.RmsPairRefIdeal.τ).loc Cert.RmsPairRefIdeal.main_arg3) = m' ((c.tc : Thread Cert.RmsPairRefIdeal.nD Cert.RmsPairRefIdeal.τ).loc Cert.RmsPairRefIdeal.main_arg3)
          ∧ r.2.mem ((c.tc : Thread Cert.RmsPairRefIdeal.nD Cert.RmsPairRefIdeal.τ).loc Cert.RmsPairRefIdeal.main_arg4) = m' ((c.tc : Thread Cert.RmsPairRefIdeal.nD Cert.RmsPairRefIdeal.τ).loc Cert.RmsPairRefIdeal.main_arg4)
          ∧ r.2.mem ((c.tc : Thread Cert.RmsPairRefIdeal.nD Cert.RmsPairRefIdeal.τ).loc Cert.RmsPairRefIdeal.main_arg5) = m' ((c.tc : Thread Cert.RmsPairRefIdeal.nD Cert.RmsPairRefIdeal.τ).loc Cert.RmsPairRefIdeal.main_arg5))

def preserves_RmsPost_RmsPostIdeal : Prop :=
  True

def algebraic_RmsPostIdeal_RmsPostRefIdeal [hRmsPostIdeal : Cert.RmsPostIdeal.Facts] [hRmsPostRefIdeal : Cert.RmsPostRefIdeal.Facts] : Prop :=
  ∀ (m : (ℓ : Loc Cert.RmsPostIdeal.nD Cert.RmsPostIdeal.τ Cert.RmsPostIdeal.sig) → Buf (Elt Ideal) ℓ) (g : Dev Cert.RmsPostIdeal.nD → PrngReg)
    (m' : (ℓ : Loc Cert.RmsPostRefIdeal.nD Cert.RmsPostRefIdeal.τ Cert.RmsPostRefIdeal.sig) → Buf (Elt Ideal) ℓ) (g' : Dev Cert.RmsPostRefIdeal.nD → PrngReg), Pre_RmsPostIdeal m →
    (∀ c : Dev Cert.RmsPostIdeal.nD,
      m' ((c.tc : Thread Cert.RmsPostRefIdeal.nD Cert.RmsPostRefIdeal.τ).loc Cert.RmsPostRefIdeal.main_arg0) = m ((c.tc : Thread Cert.RmsPostIdeal.nD Cert.RmsPostIdeal.τ).loc Cert.RmsPostIdeal.main_arg0)
      ∧ m' ((c.tc : Thread Cert.RmsPostRefIdeal.nD Cert.RmsPostRefIdeal.τ).loc Cert.RmsPostRefIdeal.main_arg1) = m ((c.tc : Thread Cert.RmsPostIdeal.nD Cert.RmsPostIdeal.τ).loc Cert.RmsPostIdeal.main_arg1)
      ∧ m' ((c.tc : Thread Cert.RmsPostRefIdeal.nD Cert.RmsPostRefIdeal.τ).loc Cert.RmsPostRefIdeal.main_arg2) = m ((c.tc : Thread Cert.RmsPostIdeal.nD Cert.RmsPostIdeal.τ).loc Cert.RmsPostIdeal.main_arg2)) →
    ∃ (v0 : (c : Dev Cert.RmsPostIdeal.nD) → Buf (Elt Ideal) ((c.tc : Thread Cert.RmsPostIdeal.nD Cert.RmsPostIdeal.τ).loc Cert.RmsPostIdeal.main_v0_0)) (v1 : (c : Dev Cert.RmsPostIdeal.nD) → Buf (Elt Ideal) ((c.tc : Thread Cert.RmsPostIdeal.nD Cert.RmsPostIdeal.τ).loc Cert.RmsPostIdeal.main_v0_1)),
      θ_run (Cert.RmsPostIdeal.defs (F := Ideal)) (onTc (τ := Cert.RmsPostIdeal.τ) (Cert.RmsPostIdeal.main (F := Ideal))) ⟨m, fun _ => 0, g⟩ (fun r => ∀ c : Dev Cert.RmsPostIdeal.nD,
          r.2.mem ((c.tc : Thread Cert.RmsPostIdeal.nD Cert.RmsPostIdeal.τ).loc Cert.RmsPostIdeal.main_v0_0) = v0 c
          ∧ r.2.mem ((c.tc : Thread Cert.RmsPostIdeal.nD Cert.RmsPostIdeal.τ).loc Cert.RmsPostIdeal.main_v0_1) = v1 c
          ∧ r.2.mem ((c.tc : Thread Cert.RmsPostIdeal.nD Cert.RmsPostIdeal.τ).loc Cert.RmsPostIdeal.main_arg0) = m ((c.tc : Thread Cert.RmsPostIdeal.nD Cert.RmsPostIdeal.τ).loc Cert.RmsPostIdeal.main_arg0)
          ∧ r.2.mem ((c.tc : Thread Cert.RmsPostIdeal.nD Cert.RmsPostIdeal.τ).loc Cert.RmsPostIdeal.main_arg1) = m ((c.tc : Thread Cert.RmsPostIdeal.nD Cert.RmsPostIdeal.τ).loc Cert.RmsPostIdeal.main_arg1)
          ∧ r.2.mem ((c.tc : Thread Cert.RmsPostIdeal.nD Cert.RmsPostIdeal.τ).loc Cert.RmsPostIdeal.main_arg2) = m ((c.tc : Thread Cert.RmsPostIdeal.nD Cert.RmsPostIdeal.τ).loc Cert.RmsPostIdeal.main_arg2))
      ∧ θ_run (Cert.RmsPostRefIdeal.defs (F := Ideal)) (onTc (τ := Cert.RmsPostRefIdeal.τ) (Cert.RmsPostRefIdeal.main (F := Ideal))) ⟨m', fun _ => 0, g'⟩ (fun r => ∀ c : Dev Cert.RmsPostRefIdeal.nD,
          r.2.mem ((c.tc : Thread Cert.RmsPostRefIdeal.nD Cert.RmsPostRefIdeal.τ).loc Cert.RmsPostRefIdeal.main_v34) = v0 c
          ∧ r.2.mem ((c.tc : Thread Cert.RmsPostRefIdeal.nD Cert.RmsPostRefIdeal.τ).loc Cert.RmsPostRefIdeal.main_v17) = v1 c
          ∧ r.2.mem ((c.tc : Thread Cert.RmsPostRefIdeal.nD Cert.RmsPostRefIdeal.τ).loc Cert.RmsPostRefIdeal.main_arg0) = m' ((c.tc : Thread Cert.RmsPostRefIdeal.nD Cert.RmsPostRefIdeal.τ).loc Cert.RmsPostRefIdeal.main_arg0)
          ∧ r.2.mem ((c.tc : Thread Cert.RmsPostRefIdeal.nD Cert.RmsPostRefIdeal.τ).loc Cert.RmsPostRefIdeal.main_arg1) = m' ((c.tc : Thread Cert.RmsPostRefIdeal.nD Cert.RmsPostRefIdeal.τ).loc Cert.RmsPostRefIdeal.main_arg1)
          ∧ r.2.mem ((c.tc : Thread Cert.RmsPostRefIdeal.nD Cert.RmsPostRefIdeal.τ).loc Cert.RmsPostRefIdeal.main_arg2) = m' ((c.tc : Thread Cert.RmsPostRefIdeal.nD Cert.RmsPostRefIdeal.τ).loc Cert.RmsPostRefIdeal.main_arg2))

def preserves_RmsPre_RmsPreIdeal : Prop :=
  True

def algebraic_RmsPreIdeal_RmsPreRefIdeal [hRmsPreIdeal : Cert.RmsPreIdeal.Facts] [hRmsPreRefIdeal : Cert.RmsPreRefIdeal.Facts] : Prop :=
  ∀ (m : (ℓ : Loc Cert.RmsPreIdeal.nD Cert.RmsPreIdeal.τ Cert.RmsPreIdeal.sig) → Buf (Elt Ideal) ℓ) (g : Dev Cert.RmsPreIdeal.nD → PrngReg)
    (m' : (ℓ : Loc Cert.RmsPreRefIdeal.nD Cert.RmsPreRefIdeal.τ Cert.RmsPreRefIdeal.sig) → Buf (Elt Ideal) ℓ) (g' : Dev Cert.RmsPreRefIdeal.nD → PrngReg), Pre_RmsPreIdeal m →
    (∀ c : Dev Cert.RmsPreIdeal.nD,
      m' ((c.tc : Thread Cert.RmsPreRefIdeal.nD Cert.RmsPreRefIdeal.τ).loc Cert.RmsPreRefIdeal.main_arg0) = m ((c.tc : Thread Cert.RmsPreIdeal.nD Cert.RmsPreIdeal.τ).loc Cert.RmsPreIdeal.main_arg0)
      ∧ m' ((c.tc : Thread Cert.RmsPreRefIdeal.nD Cert.RmsPreRefIdeal.τ).loc Cert.RmsPreRefIdeal.main_arg1) = m ((c.tc : Thread Cert.RmsPreIdeal.nD Cert.RmsPreIdeal.τ).loc Cert.RmsPreIdeal.main_arg1)
      ∧ m' ((c.tc : Thread Cert.RmsPreRefIdeal.nD Cert.RmsPreRefIdeal.τ).loc Cert.RmsPreRefIdeal.main_arg2) = m ((c.tc : Thread Cert.RmsPreIdeal.nD Cert.RmsPreIdeal.τ).loc Cert.RmsPreIdeal.main_arg2)
      ∧ m' ((c.tc : Thread Cert.RmsPreRefIdeal.nD Cert.RmsPreRefIdeal.τ).loc Cert.RmsPreRefIdeal.main_arg3) = m ((c.tc : Thread Cert.RmsPreIdeal.nD Cert.RmsPreIdeal.τ).loc Cert.RmsPreIdeal.main_arg3)) →
    ∃ (v0 : (c : Dev Cert.RmsPreIdeal.nD) → Buf (Elt Ideal) ((c.tc : Thread Cert.RmsPreIdeal.nD Cert.RmsPreIdeal.τ).loc Cert.RmsPreIdeal.main_v0_0)) (v1 : (c : Dev Cert.RmsPreIdeal.nD) → Buf (Elt Ideal) ((c.tc : Thread Cert.RmsPreIdeal.nD Cert.RmsPreIdeal.τ).loc Cert.RmsPreIdeal.main_v0_1)),
      θ_run (Cert.RmsPreIdeal.defs (F := Ideal)) (onTc (τ := Cert.RmsPreIdeal.τ) (Cert.RmsPreIdeal.main (F := Ideal))) ⟨m, fun _ => 0, g⟩ (fun r => ∀ c : Dev Cert.RmsPreIdeal.nD,
          r.2.mem ((c.tc : Thread Cert.RmsPreIdeal.nD Cert.RmsPreIdeal.τ).loc Cert.RmsPreIdeal.main_v0_0) = v0 c
          ∧ r.2.mem ((c.tc : Thread Cert.RmsPreIdeal.nD Cert.RmsPreIdeal.τ).loc Cert.RmsPreIdeal.main_v0_1) = v1 c
          ∧ r.2.mem ((c.tc : Thread Cert.RmsPreIdeal.nD Cert.RmsPreIdeal.τ).loc Cert.RmsPreIdeal.main_arg0) = m ((c.tc : Thread Cert.RmsPreIdeal.nD Cert.RmsPreIdeal.τ).loc Cert.RmsPreIdeal.main_arg0)
          ∧ r.2.mem ((c.tc : Thread Cert.RmsPreIdeal.nD Cert.RmsPreIdeal.τ).loc Cert.RmsPreIdeal.main_arg1) = m ((c.tc : Thread Cert.RmsPreIdeal.nD Cert.RmsPreIdeal.τ).loc Cert.RmsPreIdeal.main_arg1)
          ∧ r.2.mem ((c.tc : Thread Cert.RmsPreIdeal.nD Cert.RmsPreIdeal.τ).loc Cert.RmsPreIdeal.main_arg2) = m ((c.tc : Thread Cert.RmsPreIdeal.nD Cert.RmsPreIdeal.τ).loc Cert.RmsPreIdeal.main_arg2)
          ∧ r.2.mem ((c.tc : Thread Cert.RmsPreIdeal.nD Cert.RmsPreIdeal.τ).loc Cert.RmsPreIdeal.main_arg3) = m ((c.tc : Thread Cert.RmsPreIdeal.nD Cert.RmsPreIdeal.τ).loc Cert.RmsPreIdeal.main_arg3))
      ∧ θ_run (Cert.RmsPreRefIdeal.defs (F := Ideal)) (onTc (τ := Cert.RmsPreRefIdeal.τ) (Cert.RmsPreRefIdeal.main (F := Ideal))) ⟨m', fun _ => 0, g'⟩ (fun r => ∀ c : Dev Cert.RmsPreRefIdeal.nD,
          r.2.mem ((c.tc : Thread Cert.RmsPreRefIdeal.nD Cert.RmsPreRefIdeal.τ).loc Cert.RmsPreRefIdeal.main_v34) = v0 c
          ∧ r.2.mem ((c.tc : Thread Cert.RmsPreRefIdeal.nD Cert.RmsPreRefIdeal.τ).loc Cert.RmsPreRefIdeal.main_v17) = v1 c
          ∧ r.2.mem ((c.tc : Thread Cert.RmsPreRefIdeal.nD Cert.RmsPreRefIdeal.τ).loc Cert.RmsPreRefIdeal.main_arg0) = m' ((c.tc : Thread Cert.RmsPreRefIdeal.nD Cert.RmsPreRefIdeal.τ).loc Cert.RmsPreRefIdeal.main_arg0)
          ∧ r.2.mem ((c.tc : Thread Cert.RmsPreRefIdeal.nD Cert.RmsPreRefIdeal.τ).loc Cert.RmsPreRefIdeal.main_arg1) = m' ((c.tc : Thread Cert.RmsPreRefIdeal.nD Cert.RmsPreRefIdeal.τ).loc Cert.RmsPreRefIdeal.main_arg1)
          ∧ r.2.mem ((c.tc : Thread Cert.RmsPreRefIdeal.nD Cert.RmsPreRefIdeal.τ).loc Cert.RmsPreRefIdeal.main_arg2) = m' ((c.tc : Thread Cert.RmsPreRefIdeal.nD Cert.RmsPreRefIdeal.τ).loc Cert.RmsPreRefIdeal.main_arg2)
          ∧ r.2.mem ((c.tc : Thread Cert.RmsPreRefIdeal.nD Cert.RmsPreRefIdeal.τ).loc Cert.RmsPreRefIdeal.main_arg3) = m' ((c.tc : Thread Cert.RmsPreRefIdeal.nD Cert.RmsPreRefIdeal.τ).loc Cert.RmsPreRefIdeal.main_arg3))

def preserves_RmsMem_RmsMemIdeal : Prop :=
  True

def algebraic_RmsMemIdeal_RmsMemRefIdeal [hRmsMemIdeal : Cert.RmsMemIdeal.Facts] [hRmsMemRefIdeal : Cert.RmsMemRefIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg)
    (m' : (ℓ : Loc Cert.RmsMemRefIdeal.nD Cert.RmsMemRefIdeal.τ Cert.RmsMemRefIdeal.sig) → Buf (Elt Ideal) ℓ) (g' : Dev Cert.RmsMemRefIdeal.nD → PrngReg), Pre_RmsMemIdeal m →
    (∀ c : Dev Cert.RmsMemIdeal.nD,
      m' ((c.tc : Thread Cert.RmsMemRefIdeal.nD Cert.RmsMemRefIdeal.τ).loc Cert.RmsMemRefIdeal.main_arg0) = m ((c.tc : Thread Cert.RmsMemIdeal.nD Cert.RmsMemIdeal.τ).loc Cert.RmsMemIdeal.main_arg0)
      ∧ m' ((c.tc : Thread Cert.RmsMemRefIdeal.nD Cert.RmsMemRefIdeal.τ).loc Cert.RmsMemRefIdeal.main_arg1) = m ((c.tc : Thread Cert.RmsMemIdeal.nD Cert.RmsMemIdeal.τ).loc Cert.RmsMemIdeal.main_arg1)
      ∧ m' ((c.tc : Thread Cert.RmsMemRefIdeal.nD Cert.RmsMemRefIdeal.τ).loc Cert.RmsMemRefIdeal.main_arg2) = m ((c.tc : Thread Cert.RmsMemIdeal.nD Cert.RmsMemIdeal.τ).loc Cert.RmsMemIdeal.main_arg2)) →
    ∃ (v0 : (c : Dev Cert.RmsMemIdeal.nD) → Buf (Elt Ideal) ((c.tc : Thread Cert.RmsMemIdeal.nD Cert.RmsMemIdeal.τ).loc Cert.RmsMemIdeal.main_v0_0)) (v1 : (c : Dev Cert.RmsMemIdeal.nD) → Buf (Elt Ideal) ((c.tc : Thread Cert.RmsMemIdeal.nD Cert.RmsMemIdeal.τ).loc Cert.RmsMemIdeal.main_v0_1)),
      θ_run (Cert.RmsMemIdeal.defs (F := Ideal)) (onTc (τ := Cert.RmsMemIdeal.τ) (Cert.RmsMemIdeal.main (F := Ideal))) ⟨m, fun _ => 0, g⟩ (fun r => ∀ c : Dev Cert.RmsMemIdeal.nD,
          r.2.mem ((c.tc : Thread Cert.RmsMemIdeal.nD Cert.RmsMemIdeal.τ).loc Cert.RmsMemIdeal.main_v0_0) = v0 c
          ∧ r.2.mem ((c.tc : Thread Cert.RmsMemIdeal.nD Cert.RmsMemIdeal.τ).loc Cert.RmsMemIdeal.main_v0_1) = v1 c
          ∧ r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
          ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1)
          ∧ r.2.mem ((c.tc : Thread Cert.RmsMemIdeal.nD Cert.RmsMemIdeal.τ).loc Cert.RmsMemIdeal.main_arg2) = m ((c.tc : Thread Cert.RmsMemIdeal.nD Cert.RmsMemIdeal.τ).loc Cert.RmsMemIdeal.main_arg2))
      ∧ θ_run (Cert.RmsMemRefIdeal.defs (F := Ideal)) (onTc (τ := Cert.RmsMemRefIdeal.τ) (Cert.RmsMemRefIdeal.main (F := Ideal))) ⟨m', fun _ => 0, g'⟩ (fun r => ∀ c : Dev Cert.RmsMemRefIdeal.nD,
          r.2.mem ((c.tc : Thread Cert.RmsMemRefIdeal.nD Cert.RmsMemRefIdeal.τ).loc Cert.RmsMemRefIdeal.main_v33) = v0 c
          ∧ r.2.mem ((c.tc : Thread Cert.RmsMemRefIdeal.nD Cert.RmsMemRefIdeal.τ).loc Cert.RmsMemRefIdeal.main_v17) = v1 c
          ∧ r.2.mem ((c.tc : Thread Cert.RmsMemRefIdeal.nD Cert.RmsMemRefIdeal.τ).loc Cert.RmsMemRefIdeal.main_arg0) = m' ((c.tc : Thread Cert.RmsMemRefIdeal.nD Cert.RmsMemRefIdeal.τ).loc Cert.RmsMemRefIdeal.main_arg0)
          ∧ r.2.mem ((c.tc : Thread Cert.RmsMemRefIdeal.nD Cert.RmsMemRefIdeal.τ).loc Cert.RmsMemRefIdeal.main_arg1) = m' ((c.tc : Thread Cert.RmsMemRefIdeal.nD Cert.RmsMemRefIdeal.τ).loc Cert.RmsMemRefIdeal.main_arg1)
          ∧ r.2.mem ((c.tc : Thread Cert.RmsMemRefIdeal.nD Cert.RmsMemRefIdeal.τ).loc Cert.RmsMemRefIdeal.main_arg2) = m' ((c.tc : Thread Cert.RmsMemRefIdeal.nD Cert.RmsMemRefIdeal.τ).loc Cert.RmsMemRefIdeal.main_arg2))

def preserves_Turn_TurnIdeal : Prop :=
  True

def algebraic_TurnIdeal_TurnRefIdeal [hTurnIdeal : Cert.TurnIdeal.Facts] [hTurnRefIdeal : Cert.TurnRefIdeal.Facts] : Prop :=
  ∀ (m : (ℓ : Loc Cert.TurnIdeal.nD Cert.TurnIdeal.τ Cert.TurnIdeal.sig) → Buf (Elt Ideal) ℓ) (g : Dev Cert.TurnIdeal.nD → PrngReg)
    (m' : (ℓ : Loc Cert.TurnRefIdeal.nD Cert.TurnRefIdeal.τ Cert.TurnRefIdeal.sig) → Buf (Elt Ideal) ℓ) (g' : Dev Cert.TurnRefIdeal.nD → PrngReg), Pre_TurnIdeal m →
    (∀ c : Dev Cert.TurnIdeal.nD,
      m' ((c.tc : Thread Cert.TurnRefIdeal.nD Cert.TurnRefIdeal.τ).loc Cert.TurnRefIdeal.main_arg0) = m ((c.tc : Thread Cert.TurnIdeal.nD Cert.TurnIdeal.τ).loc Cert.TurnIdeal.main_arg0)
      ∧ m' ((c.tc : Thread Cert.TurnRefIdeal.nD Cert.TurnRefIdeal.τ).loc Cert.TurnRefIdeal.main_arg1) = m ((c.tc : Thread Cert.TurnIdeal.nD Cert.TurnIdeal.τ).loc Cert.TurnIdeal.main_arg1)
      ∧ m' ((c.tc : Thread Cert.TurnRefIdeal.nD Cert.TurnRefIdeal.τ).loc Cert.TurnRefIdeal.main_arg2) = m ((c.tc : Thread Cert.TurnIdeal.nD Cert.TurnIdeal.τ).loc Cert.TurnIdeal.main_arg2)
      ∧ m' ((c.tc : Thread Cert.TurnRefIdeal.nD Cert.TurnRefIdeal.τ).loc Cert.TurnRefIdeal.main_arg3) = m ((c.tc : Thread Cert.TurnIdeal.nD Cert.TurnIdeal.τ).loc Cert.TurnIdeal.main_arg3)) →
    ∃ (v0 : (c : Dev Cert.TurnIdeal.nD) → Buf (Elt Ideal) ((c.tc : Thread Cert.TurnIdeal.nD Cert.TurnIdeal.τ).loc Cert.TurnIdeal.main_v0_0)) (v1 : (c : Dev Cert.TurnIdeal.nD) → Buf (Elt Ideal) ((c.tc : Thread Cert.TurnIdeal.nD Cert.TurnIdeal.τ).loc Cert.TurnIdeal.main_v0_1)) (v2 : (c : Dev Cert.TurnIdeal.nD) → Buf (Elt Ideal) ((c.tc : Thread Cert.TurnIdeal.nD Cert.TurnIdeal.τ).loc Cert.TurnIdeal.main_v0_2)) (v3 : (c : Dev Cert.TurnIdeal.nD) → Buf (Elt Ideal) ((c.tc : Thread Cert.TurnIdeal.nD Cert.TurnIdeal.τ).loc Cert.TurnIdeal.main_v0_3)),
      θ_run (Cert.TurnIdeal.defs (F := Ideal)) (onTc (τ := Cert.TurnIdeal.τ) (Cert.TurnIdeal.main (F := Ideal))) ⟨m, fun _ => 0, g⟩ (fun r => ∀ c : Dev Cert.TurnIdeal.nD,
          r.2.mem ((c.tc : Thread Cert.TurnIdeal.nD Cert.TurnIdeal.τ).loc Cert.TurnIdeal.main_v0_0) = v0 c
          ∧ r.2.mem ((c.tc : Thread Cert.TurnIdeal.nD Cert.TurnIdeal.τ).loc Cert.TurnIdeal.main_v0_1) = v1 c
          ∧ r.2.mem ((c.tc : Thread Cert.TurnIdeal.nD Cert.TurnIdeal.τ).loc Cert.TurnIdeal.main_v0_2) = v2 c
          ∧ r.2.mem ((c.tc : Thread Cert.TurnIdeal.nD Cert.TurnIdeal.τ).loc Cert.TurnIdeal.main_v0_3) = v3 c
          ∧ r.2.mem ((c.tc : Thread Cert.TurnIdeal.nD Cert.TurnIdeal.τ).loc Cert.TurnIdeal.main_arg0) = m ((c.tc : Thread Cert.TurnIdeal.nD Cert.TurnIdeal.τ).loc Cert.TurnIdeal.main_arg0)
          ∧ r.2.mem ((c.tc : Thread Cert.TurnIdeal.nD Cert.TurnIdeal.τ).loc Cert.TurnIdeal.main_arg1) = m ((c.tc : Thread Cert.TurnIdeal.nD Cert.TurnIdeal.τ).loc Cert.TurnIdeal.main_arg1)
          ∧ r.2.mem ((c.tc : Thread Cert.TurnIdeal.nD Cert.TurnIdeal.τ).loc Cert.TurnIdeal.main_arg2) = m ((c.tc : Thread Cert.TurnIdeal.nD Cert.TurnIdeal.τ).loc Cert.TurnIdeal.main_arg2)
          ∧ r.2.mem ((c.tc : Thread Cert.TurnIdeal.nD Cert.TurnIdeal.τ).loc Cert.TurnIdeal.main_arg3) = m ((c.tc : Thread Cert.TurnIdeal.nD Cert.TurnIdeal.τ).loc Cert.TurnIdeal.main_arg3))
      ∧ θ_run (Cert.TurnRefIdeal.defs (F := Ideal)) (onTc (τ := Cert.TurnRefIdeal.τ) (Cert.TurnRefIdeal.main (F := Ideal))) ⟨m', fun _ => 0, g'⟩ (fun r => ∀ c : Dev Cert.TurnRefIdeal.nD,
          r.2.mem ((c.tc : Thread Cert.TurnRefIdeal.nD Cert.TurnRefIdeal.τ).loc Cert.TurnRefIdeal.main_v30) = v0 c
          ∧ r.2.mem ((c.tc : Thread Cert.TurnRefIdeal.nD Cert.TurnRefIdeal.τ).loc Cert.TurnRefIdeal.main_v50) = v1 c
          ∧ r.2.mem ((c.tc : Thread Cert.TurnRefIdeal.nD Cert.TurnRefIdeal.τ).loc Cert.TurnRefIdeal.main_v58) = v2 c
          ∧ r.2.mem ((c.tc : Thread Cert.TurnRefIdeal.nD Cert.TurnRefIdeal.τ).loc Cert.TurnRefIdeal.main_v33) = v3 c
          ∧ r.2.mem ((c.tc : Thread Cert.TurnRefIdeal.nD Cert.TurnRefIdeal.τ).loc Cert.TurnRefIdeal.main_arg0) = m' ((c.tc : Thread Cert.TurnRefIdeal.nD Cert.TurnRefIdeal.τ).loc Cert.TurnRefIdeal.main_arg0)
          ∧ r.2.mem ((c.tc : Thread Cert.TurnRefIdeal.nD Cert.TurnRefIdeal.τ).loc Cert.TurnRefIdeal.main_arg1) = m' ((c.tc : Thread Cert.TurnRefIdeal.nD Cert.TurnRefIdeal.τ).loc Cert.TurnRefIdeal.main_arg1)
          ∧ r.2.mem ((c.tc : Thread Cert.TurnRefIdeal.nD Cert.TurnRefIdeal.τ).loc Cert.TurnRefIdeal.main_arg2) = m' ((c.tc : Thread Cert.TurnRefIdeal.nD Cert.TurnRefIdeal.τ).loc Cert.TurnRefIdeal.main_arg2)
          ∧ r.2.mem ((c.tc : Thread Cert.TurnRefIdeal.nD Cert.TurnRefIdeal.τ).loc Cert.TurnRefIdeal.main_arg3) = m' ((c.tc : Thread Cert.TurnRefIdeal.nD Cert.TurnRefIdeal.τ).loc Cert.TurnRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_RmsMemFwd_RmsMemFwdIdeal : Prop :=
  True

def algebraic_RmsMemFwdIdeal_RmsMemFwdRefIdeal [hRmsMemFwdIdeal : Cert.RmsMemFwdIdeal.Facts] [hRmsMemFwdRefIdeal : Cert.RmsMemFwdRefIdeal.Facts] : Prop :=
  ∀ (m : (ℓ : Loc Cert.RmsMemFwdIdeal.nD Cert.RmsMemFwdIdeal.τ Cert.RmsMemFwdIdeal.sig) → Buf (Elt Ideal) ℓ) (g : Dev Cert.RmsMemFwdIdeal.nD → PrngReg)
    (m' : (ℓ : Loc Cert.RmsMemFwdRefIdeal.nD Cert.RmsMemFwdRefIdeal.τ Cert.RmsMemFwdRefIdeal.sig) → Buf (Elt Ideal) ℓ) (g' : Dev Cert.RmsMemFwdRefIdeal.nD → PrngReg), Pre_RmsMemFwdIdeal m →
    (∀ c : Dev Cert.RmsMemFwdIdeal.nD,
      m' ((c.tc : Thread Cert.RmsMemFwdRefIdeal.nD Cert.RmsMemFwdRefIdeal.τ).loc Cert.RmsMemFwdRefIdeal.main_arg0) = m ((c.tc : Thread Cert.RmsMemFwdIdeal.nD Cert.RmsMemFwdIdeal.τ).loc Cert.RmsMemFwdIdeal.main_arg0)
      ∧ m' ((c.tc : Thread Cert.RmsMemFwdRefIdeal.nD Cert.RmsMemFwdRefIdeal.τ).loc Cert.RmsMemFwdRefIdeal.main_arg1) = m ((c.tc : Thread Cert.RmsMemFwdIdeal.nD Cert.RmsMemFwdIdeal.τ).loc Cert.RmsMemFwdIdeal.main_arg1)) →
    ∃ (v0 : (c : Dev Cert.RmsMemFwdIdeal.nD) → Buf (Elt Ideal) ((c.tc : Thread Cert.RmsMemFwdIdeal.nD Cert.RmsMemFwdIdeal.τ).loc Cert.RmsMemFwdIdeal.main_v0)),
      θ_run (Cert.RmsMemFwdIdeal.defs (F := Ideal)) (onTc (τ := Cert.RmsMemFwdIdeal.τ) (Cert.RmsMemFwdIdeal.main (F := Ideal))) ⟨m, fun _ => 0, g⟩ (fun r => ∀ c : Dev Cert.RmsMemFwdIdeal.nD,
          r.2.mem ((c.tc : Thread Cert.RmsMemFwdIdeal.nD Cert.RmsMemFwdIdeal.τ).loc Cert.RmsMemFwdIdeal.main_v0) = v0 c
          ∧ r.2.mem ((c.tc : Thread Cert.RmsMemFwdIdeal.nD Cert.RmsMemFwdIdeal.τ).loc Cert.RmsMemFwdIdeal.main_arg0) = m ((c.tc : Thread Cert.RmsMemFwdIdeal.nD Cert.RmsMemFwdIdeal.τ).loc Cert.RmsMemFwdIdeal.main_arg0)
          ∧ r.2.mem ((c.tc : Thread Cert.RmsMemFwdIdeal.nD Cert.RmsMemFwdIdeal.τ).loc Cert.RmsMemFwdIdeal.main_arg1) = m ((c.tc : Thread Cert.RmsMemFwdIdeal.nD Cert.RmsMemFwdIdeal.τ).loc Cert.RmsMemFwdIdeal.main_arg1))
      ∧ θ_run (Cert.RmsMemFwdRefIdeal.defs (F := Ideal)) (onTc (τ := Cert.RmsMemFwdRefIdeal.τ) (Cert.RmsMemFwdRefIdeal.main (F := Ideal))) ⟨m', fun _ => 0, g'⟩ (fun r => ∀ c : Dev Cert.RmsMemFwdRefIdeal.nD,
          r.2.mem ((c.tc : Thread Cert.RmsMemFwdRefIdeal.nD Cert.RmsMemFwdRefIdeal.τ).loc Cert.RmsMemFwdRefIdeal.main_v12) = v0 c
          ∧ r.2.mem ((c.tc : Thread Cert.RmsMemFwdRefIdeal.nD Cert.RmsMemFwdRefIdeal.τ).loc Cert.RmsMemFwdRefIdeal.main_arg0) = m' ((c.tc : Thread Cert.RmsMemFwdRefIdeal.nD Cert.RmsMemFwdRefIdeal.τ).loc Cert.RmsMemFwdRefIdeal.main_arg0)
          ∧ r.2.mem ((c.tc : Thread Cert.RmsMemFwdRefIdeal.nD Cert.RmsMemFwdRefIdeal.τ).loc Cert.RmsMemFwdRefIdeal.main_arg1) = m' ((c.tc : Thread Cert.RmsMemFwdRefIdeal.nD Cert.RmsMemFwdRefIdeal.τ).loc Cert.RmsMemFwdRefIdeal.main_arg1))

def preserves_RmsPairFwd_RmsPairFwdIdeal : Prop :=
  True

def algebraic_RmsPairFwdIdeal_RmsPairFwdRefIdeal [hRmsPairFwdIdeal : Cert.RmsPairFwdIdeal.Facts] [hRmsPairFwdRefIdeal : Cert.RmsPairFwdRefIdeal.Facts] : Prop :=
  ∀ (m : (ℓ : Loc Cert.RmsPairFwdIdeal.nD Cert.RmsPairFwdIdeal.τ Cert.RmsPairFwdIdeal.sig) → Buf (Elt Ideal) ℓ) (g : Dev Cert.RmsPairFwdIdeal.nD → PrngReg)
    (m' : (ℓ : Loc Cert.RmsPairFwdRefIdeal.nD Cert.RmsPairFwdRefIdeal.τ Cert.RmsPairFwdRefIdeal.sig) → Buf (Elt Ideal) ℓ) (g' : Dev Cert.RmsPairFwdRefIdeal.nD → PrngReg), Pre_RmsPairFwdIdeal m →
    (∀ c : Dev Cert.RmsPairFwdIdeal.nD,
      m' ((c.tc : Thread Cert.RmsPairFwdRefIdeal.nD Cert.RmsPairFwdRefIdeal.τ).loc Cert.RmsPairFwdRefIdeal.main_arg0) = m ((c.tc : Thread Cert.RmsPairFwdIdeal.nD Cert.RmsPairFwdIdeal.τ).loc Cert.RmsPairFwdIdeal.main_arg0)
      ∧ m' ((c.tc : Thread Cert.RmsPairFwdRefIdeal.nD Cert.RmsPairFwdRefIdeal.τ).loc Cert.RmsPairFwdRefIdeal.main_arg1) = m ((c.tc : Thread Cert.RmsPairFwdIdeal.nD Cert.RmsPairFwdIdeal.τ).loc Cert.RmsPairFwdIdeal.main_arg1)
      ∧ m' ((c.tc : Thread Cert.RmsPairFwdRefIdeal.nD Cert.RmsPairFwdRefIdeal.τ).loc Cert.RmsPairFwdRefIdeal.main_arg2) = m ((c.tc : Thread Cert.RmsPairFwdIdeal.nD Cert.RmsPairFwdIdeal.τ).loc Cert.RmsPairFwdIdeal.main_arg2)
      ∧ m' ((c.tc : Thread Cert.RmsPairFwdRefIdeal.nD Cert.RmsPairFwdRefIdeal.τ).loc Cert.RmsPairFwdRefIdeal.main_arg3) = m ((c.tc : Thread Cert.RmsPairFwdIdeal.nD Cert.RmsPairFwdIdeal.τ).loc Cert.RmsPairFwdIdeal.main_arg3)) →
    ∃ (v0 : (c : Dev Cert.RmsPairFwdIdeal.nD) → Buf (Elt Ideal) ((c.tc : Thread Cert.RmsPairFwdIdeal.nD Cert.RmsPairFwdIdeal.τ).loc Cert.RmsPairFwdIdeal.main_v0_0)) (v1 : (c : Dev Cert.RmsPairFwdIdeal.nD) → Buf (Elt Ideal) ((c.tc : Thread Cert.RmsPairFwdIdeal.nD Cert.RmsPairFwdIdeal.τ).loc Cert.RmsPairFwdIdeal.main_v0_1)),
      θ_run (Cert.RmsPairFwdIdeal.defs (F := Ideal)) (onTc (τ := Cert.RmsPairFwdIdeal.τ) (Cert.RmsPairFwdIdeal.main (F := Ideal))) ⟨m, fun _ => 0, g⟩ (fun r => ∀ c : Dev Cert.RmsPairFwdIdeal.nD,
          r.2.mem ((c.tc : Thread Cert.RmsPairFwdIdeal.nD Cert.RmsPairFwdIdeal.τ).loc Cert.RmsPairFwdIdeal.main_v0_0) = v0 c
          ∧ r.2.mem ((c.tc : Thread Cert.RmsPairFwdIdeal.nD Cert.RmsPairFwdIdeal.τ).loc Cert.RmsPairFwdIdeal.main_v0_1) = v1 c
          ∧ r.2.mem ((c.tc : Thread Cert.RmsPairFwdIdeal.nD Cert.RmsPairFwdIdeal.τ).loc Cert.RmsPairFwdIdeal.main_arg0) = m ((c.tc : Thread Cert.RmsPairFwdIdeal.nD Cert.RmsPairFwdIdeal.τ).loc Cert.RmsPairFwdIdeal.main_arg0)
          ∧ r.2.mem ((c.tc : Thread Cert.RmsPairFwdIdeal.nD Cert.RmsPairFwdIdeal.τ).loc Cert.RmsPairFwdIdeal.main_arg1) = m ((c.tc : Thread Cert.RmsPairFwdIdeal.nD Cert.RmsPairFwdIdeal.τ).loc Cert.RmsPairFwdIdeal.main_arg1)
          ∧ r.2.mem ((c.tc : Thread Cert.RmsPairFwdIdeal.nD Cert.RmsPairFwdIdeal.τ).loc Cert.RmsPairFwdIdeal.main_arg2) = m ((c.tc : Thread Cert.RmsPairFwdIdeal.nD Cert.RmsPairFwdIdeal.τ).loc Cert.RmsPairFwdIdeal.main_arg2)
          ∧ r.2.mem ((c.tc : Thread Cert.RmsPairFwdIdeal.nD Cert.RmsPairFwdIdeal.τ).loc Cert.RmsPairFwdIdeal.main_arg3) = m ((c.tc : Thread Cert.RmsPairFwdIdeal.nD Cert.RmsPairFwdIdeal.τ).loc Cert.RmsPairFwdIdeal.main_arg3))
      ∧ θ_run (Cert.RmsPairFwdRefIdeal.defs (F := Ideal)) (onTc (τ := Cert.RmsPairFwdRefIdeal.τ) (Cert.RmsPairFwdRefIdeal.main (F := Ideal))) ⟨m', fun _ => 0, g'⟩ (fun r => ∀ c : Dev Cert.RmsPairFwdRefIdeal.nD,
          r.2.mem ((c.tc : Thread Cert.RmsPairFwdRefIdeal.nD Cert.RmsPairFwdRefIdeal.τ).loc Cert.RmsPairFwdRefIdeal.main_v12) = v0 c
          ∧ r.2.mem ((c.tc : Thread Cert.RmsPairFwdRefIdeal.nD Cert.RmsPairFwdRefIdeal.τ).loc Cert.RmsPairFwdRefIdeal.main_v25) = v1 c
          ∧ r.2.mem ((c.tc : Thread Cert.RmsPairFwdRefIdeal.nD Cert.RmsPairFwdRefIdeal.τ).loc Cert.RmsPairFwdRefIdeal.main_arg0) = m' ((c.tc : Thread Cert.RmsPairFwdRefIdeal.nD Cert.RmsPairFwdRefIdeal.τ).loc Cert.RmsPairFwdRefIdeal.main_arg0)
          ∧ r.2.mem ((c.tc : Thread Cert.RmsPairFwdRefIdeal.nD Cert.RmsPairFwdRefIdeal.τ).loc Cert.RmsPairFwdRefIdeal.main_arg1) = m' ((c.tc : Thread Cert.RmsPairFwdRefIdeal.nD Cert.RmsPairFwdRefIdeal.τ).loc Cert.RmsPairFwdRefIdeal.main_arg1)
          ∧ r.2.mem ((c.tc : Thread Cert.RmsPairFwdRefIdeal.nD Cert.RmsPairFwdRefIdeal.τ).loc Cert.RmsPairFwdRefIdeal.main_arg2) = m' ((c.tc : Thread Cert.RmsPairFwdRefIdeal.nD Cert.RmsPairFwdRefIdeal.τ).loc Cert.RmsPairFwdRefIdeal.main_arg2)
          ∧ r.2.mem ((c.tc : Thread Cert.RmsPairFwdRefIdeal.nD Cert.RmsPairFwdRefIdeal.τ).loc Cert.RmsPairFwdRefIdeal.main_arg3) = m' ((c.tc : Thread Cert.RmsPairFwdRefIdeal.nD Cert.RmsPairFwdRefIdeal.τ).loc Cert.RmsPairFwdRefIdeal.main_arg3))

def preserves_RmsThreeFwd_RmsThreeFwdIdeal : Prop :=
  True

def algebraic_RmsThreeFwdIdeal_RmsThreeFwdRefIdeal [hRmsThreeFwdIdeal : Cert.RmsThreeFwdIdeal.Facts] [hRmsThreeFwdRefIdeal : Cert.RmsThreeFwdRefIdeal.Facts] : Prop :=
  ∀ (m : (ℓ : Loc Cert.RmsThreeFwdIdeal.nD Cert.RmsThreeFwdIdeal.τ Cert.RmsThreeFwdIdeal.sig) → Buf (Elt Ideal) ℓ) (g : Dev Cert.RmsThreeFwdIdeal.nD → PrngReg)
    (m' : (ℓ : Loc Cert.RmsThreeFwdRefIdeal.nD Cert.RmsThreeFwdRefIdeal.τ Cert.RmsThreeFwdRefIdeal.sig) → Buf (Elt Ideal) ℓ) (g' : Dev Cert.RmsThreeFwdRefIdeal.nD → PrngReg), Pre_RmsThreeFwdIdeal m →
    (∀ c : Dev Cert.RmsThreeFwdIdeal.nD,
      m' ((c.tc : Thread Cert.RmsThreeFwdRefIdeal.nD Cert.RmsThreeFwdRefIdeal.τ).loc Cert.RmsThreeFwdRefIdeal.main_arg0) = m ((c.tc : Thread Cert.RmsThreeFwdIdeal.nD Cert.RmsThreeFwdIdeal.τ).loc Cert.RmsThreeFwdIdeal.main_arg0)
      ∧ m' ((c.tc : Thread Cert.RmsThreeFwdRefIdeal.nD Cert.RmsThreeFwdRefIdeal.τ).loc Cert.RmsThreeFwdRefIdeal.main_arg1) = m ((c.tc : Thread Cert.RmsThreeFwdIdeal.nD Cert.RmsThreeFwdIdeal.τ).loc Cert.RmsThreeFwdIdeal.main_arg1)
      ∧ m' ((c.tc : Thread Cert.RmsThreeFwdRefIdeal.nD Cert.RmsThreeFwdRefIdeal.τ).loc Cert.RmsThreeFwdRefIdeal.main_arg2) = m ((c.tc : Thread Cert.RmsThreeFwdIdeal.nD Cert.RmsThreeFwdIdeal.τ).loc Cert.RmsThreeFwdIdeal.main_arg2)
      ∧ m' ((c.tc : Thread Cert.RmsThreeFwdRefIdeal.nD Cert.RmsThreeFwdRefIdeal.τ).loc Cert.RmsThreeFwdRefIdeal.main_arg3) = m ((c.tc : Thread Cert.RmsThreeFwdIdeal.nD Cert.RmsThreeFwdIdeal.τ).loc Cert.RmsThreeFwdIdeal.main_arg3)
      ∧ m' ((c.tc : Thread Cert.RmsThreeFwdRefIdeal.nD Cert.RmsThreeFwdRefIdeal.τ).loc Cert.RmsThreeFwdRefIdeal.main_arg4) = m ((c.tc : Thread Cert.RmsThreeFwdIdeal.nD Cert.RmsThreeFwdIdeal.τ).loc Cert.RmsThreeFwdIdeal.main_arg4)) →
    ∃ (v0 : (c : Dev Cert.RmsThreeFwdIdeal.nD) → Buf (Elt Ideal) ((c.tc : Thread Cert.RmsThreeFwdIdeal.nD Cert.RmsThreeFwdIdeal.τ).loc Cert.RmsThreeFwdIdeal.main_v0_0)) (v1 : (c : Dev Cert.RmsThreeFwdIdeal.nD) → Buf (Elt Ideal) ((c.tc : Thread Cert.RmsThreeFwdIdeal.nD Cert.RmsThreeFwdIdeal.τ).loc Cert.RmsThreeFwdIdeal.main_v0_1)) (v2 : (c : Dev Cert.RmsThreeFwdIdeal.nD) → Buf (Elt Ideal) ((c.tc : Thread Cert.RmsThreeFwdIdeal.nD Cert.RmsThreeFwdIdeal.τ).loc Cert.RmsThreeFwdIdeal.main_v0_2)),
      θ_run (Cert.RmsThreeFwdIdeal.defs (F := Ideal)) (onTc (τ := Cert.RmsThreeFwdIdeal.τ) (Cert.RmsThreeFwdIdeal.main (F := Ideal))) ⟨m, fun _ => 0, g⟩ (fun r => ∀ c : Dev Cert.RmsThreeFwdIdeal.nD,
          r.2.mem ((c.tc : Thread Cert.RmsThreeFwdIdeal.nD Cert.RmsThreeFwdIdeal.τ).loc Cert.RmsThreeFwdIdeal.main_v0_0) = v0 c
          ∧ r.2.mem ((c.tc : Thread Cert.RmsThreeFwdIdeal.nD Cert.RmsThreeFwdIdeal.τ).loc Cert.RmsThreeFwdIdeal.main_v0_1) = v1 c
          ∧ r.2.mem ((c.tc : Thread Cert.RmsThreeFwdIdeal.nD Cert.RmsThreeFwdIdeal.τ).loc Cert.RmsThreeFwdIdeal.main_v0_2) = v2 c
          ∧ r.2.mem ((c.tc : Thread Cert.RmsThreeFwdIdeal.nD Cert.RmsThreeFwdIdeal.τ).loc Cert.RmsThreeFwdIdeal.main_arg0) = m ((c.tc : Thread Cert.RmsThreeFwdIdeal.nD Cert.RmsThreeFwdIdeal.τ).loc Cert.RmsThreeFwdIdeal.main_arg0)
          ∧ r.2.mem ((c.tc : Thread Cert.RmsThreeFwdIdeal.nD Cert.RmsThreeFwdIdeal.τ).loc Cert.RmsThreeFwdIdeal.main_arg1) = m ((c.tc : Thread Cert.RmsThreeFwdIdeal.nD Cert.RmsThreeFwdIdeal.τ).loc Cert.RmsThreeFwdIdeal.main_arg1)
          ∧ r.2.mem ((c.tc : Thread Cert.RmsThreeFwdIdeal.nD Cert.RmsThreeFwdIdeal.τ).loc Cert.RmsThreeFwdIdeal.main_arg2) = m ((c.tc : Thread Cert.RmsThreeFwdIdeal.nD Cert.RmsThreeFwdIdeal.τ).loc Cert.RmsThreeFwdIdeal.main_arg2)
          ∧ r.2.mem ((c.tc : Thread Cert.RmsThreeFwdIdeal.nD Cert.RmsThreeFwdIdeal.τ).loc Cert.RmsThreeFwdIdeal.main_arg3) = m ((c.tc : Thread Cert.RmsThreeFwdIdeal.nD Cert.RmsThreeFwdIdeal.τ).loc Cert.RmsThreeFwdIdeal.main_arg3)
          ∧ r.2.mem ((c.tc : Thread Cert.RmsThreeFwdIdeal.nD Cert.RmsThreeFwdIdeal.τ).loc Cert.RmsThreeFwdIdeal.main_arg4) = m ((c.tc : Thread Cert.RmsThreeFwdIdeal.nD Cert.RmsThreeFwdIdeal.τ).loc Cert.RmsThreeFwdIdeal.main_arg4))
      ∧ θ_run (Cert.RmsThreeFwdRefIdeal.defs (F := Ideal)) (onTc (τ := Cert.RmsThreeFwdRefIdeal.τ) (Cert.RmsThreeFwdRefIdeal.main (F := Ideal))) ⟨m', fun _ => 0, g'⟩ (fun r => ∀ c : Dev Cert.RmsThreeFwdRefIdeal.nD,
          r.2.mem ((c.tc : Thread Cert.RmsThreeFwdRefIdeal.nD Cert.RmsThreeFwdRefIdeal.τ).loc Cert.RmsThreeFwdRefIdeal.main_v12) = v0 c
          ∧ r.2.mem ((c.tc : Thread Cert.RmsThreeFwdRefIdeal.nD Cert.RmsThreeFwdRefIdeal.τ).loc Cert.RmsThreeFwdRefIdeal.main_v25) = v1 c
          ∧ r.2.mem ((c.tc : Thread Cert.RmsThreeFwdRefIdeal.nD Cert.RmsThreeFwdRefIdeal.τ).loc Cert.RmsThreeFwdRefIdeal.main_v38) = v2 c
          ∧ r.2.mem ((c.tc : Thread Cert.RmsThreeFwdRefIdeal.nD Cert.RmsThreeFwdRefIdeal.τ).loc Cert.RmsThreeFwdRefIdeal.main_arg0) = m' ((c.tc : Thread Cert.RmsThreeFwdRefIdeal.nD Cert.RmsThreeFwdRefIdeal.τ).loc Cert.RmsThreeFwdRefIdeal.main_arg0)
          ∧ r.2.mem ((c.tc : Thread Cert.RmsThreeFwdRefIdeal.nD Cert.RmsThreeFwdRefIdeal.τ).loc Cert.RmsThreeFwdRefIdeal.main_arg1) = m' ((c.tc : Thread Cert.RmsThreeFwdRefIdeal.nD Cert.RmsThreeFwdRefIdeal.τ).loc Cert.RmsThreeFwdRefIdeal.main_arg1)
          ∧ r.2.mem ((c.tc : Thread Cert.RmsThreeFwdRefIdeal.nD Cert.RmsThreeFwdRefIdeal.τ).loc Cert.RmsThreeFwdRefIdeal.main_arg2) = m' ((c.tc : Thread Cert.RmsThreeFwdRefIdeal.nD Cert.RmsThreeFwdRefIdeal.τ).loc Cert.RmsThreeFwdRefIdeal.main_arg2)
          ∧ r.2.mem ((c.tc : Thread Cert.RmsThreeFwdRefIdeal.nD Cert.RmsThreeFwdRefIdeal.τ).loc Cert.RmsThreeFwdRefIdeal.main_arg3) = m' ((c.tc : Thread Cert.RmsThreeFwdRefIdeal.nD Cert.RmsThreeFwdRefIdeal.τ).loc Cert.RmsThreeFwdRefIdeal.main_arg3)
          ∧ r.2.mem ((c.tc : Thread Cert.RmsThreeFwdRefIdeal.nD Cert.RmsThreeFwdRefIdeal.τ).loc Cert.RmsThreeFwdRefIdeal.main_arg4) = m' ((c.tc : Thread Cert.RmsThreeFwdRefIdeal.nD Cert.RmsThreeFwdRefIdeal.τ).loc Cert.RmsThreeFwdRefIdeal.main_arg4))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v28) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_FfnMid_FfnMidIdeal : Prop :=
  True

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)) →
    ∃ (v0 : (c : Dev Cert.FfnMidIdeal.nD) → Buf (Elt Ideal) ((c.tc : Thread Cert.FfnMidIdeal.nD Cert.FfnMidIdeal.τ).loc Cert.FfnMidIdeal.main_v0)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v0) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v38) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hMixoutDmain : Cert.MixoutDmain.Facts) (hMixoutDmainIdeal : Cert.MixoutDmainIdeal.Facts) (hMixoutDmainRefIdeal : Cert.MixoutDmainRefIdeal.Facts) (hMixoutDmem : Cert.MixoutDmem.Facts) (hMixoutDmemIdeal : Cert.MixoutDmemIdeal.Facts) (hMixoutDmemRefIdeal : Cert.MixoutDmemRefIdeal.Facts) (hMixoutDw : Cert.MixoutDw.Facts) (hMixoutDwIdeal : Cert.MixoutDwIdeal.Facts) (hMixoutDwRefIdeal : Cert.MixoutDwRefIdeal.Facts) (hInADx : Cert.InADx.Facts) (hInADxIdeal : Cert.InADxIdeal.Facts) (hInADxRefIdeal : Cert.InADxRefIdeal.Facts) (hInADw : Cert.InADw.Facts) (hInADwIdeal : Cert.InADwIdeal.Facts) (hInADwRefIdeal : Cert.InADwRefIdeal.Facts) (hInBDx : Cert.InBDx.Facts) (hInBDxIdeal : Cert.InBDxIdeal.Facts) (hInBDxRefIdeal : Cert.InBDxRefIdeal.Facts) (hInBDw : Cert.InBDw.Facts) (hInBDwIdeal : Cert.InBDwIdeal.Facts) (hInBDwRefIdeal : Cert.InBDwRefIdeal.Facts) (hGates : Cert.Gates.Facts) (hGatesIdeal : Cert.GatesIdeal.Facts) (hGatesRefIdeal : Cert.GatesRefIdeal.Facts) (hKv : Cert.Kv.Facts) (hKvIdeal : Cert.KvIdeal.Facts) (hKvRefIdeal : Cert.KvRefIdeal.Facts) (hMemkv : Cert.Memkv.Facts) (hMemkvIdeal : Cert.MemkvIdeal.Facts) (hMemkvRefIdeal : Cert.MemkvRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMixout : Cert.Mixout.Facts) (hMixoutIdeal : Cert.MixoutIdeal.Facts) (hMixoutRefIdeal : Cert.MixoutRefIdeal.Facts) (hInA : Cert.InA.Facts) (hInAIdeal : Cert.InAIdeal.Facts) (hInARefIdeal : Cert.InARefIdeal.Facts) (hInB : Cert.InB.Facts) (hInBIdeal : Cert.InBIdeal.Facts) (hInBRefIdeal : Cert.InBRefIdeal.Facts) (hGatesFwd : Cert.GatesFwd.Facts) (hGatesFwdIdeal : Cert.GatesFwdIdeal.Facts) (hGatesFwdRefIdeal : Cert.GatesFwdRefIdeal.Facts) (hKvFwd : Cert.KvFwd.Facts) (hKvFwdIdeal : Cert.KvFwdIdeal.Facts) (hKvFwdRefIdeal : Cert.KvFwdRefIdeal.Facts) (hMemkvFwd : Cert.MemkvFwd.Facts) (hMemkvFwdIdeal : Cert.MemkvFwdIdeal.Facts) (hMemkvFwdRefIdeal : Cert.MemkvFwdRefIdeal.Facts) (hConv : Cert.Conv.Facts) (hConvIdeal : Cert.ConvIdeal.Facts) (hConvRefIdeal : Cert.ConvRefIdeal.Facts) (hRmsPair : Cert.RmsPair.Facts) (hRmsPairIdeal : Cert.RmsPairIdeal.Facts) (hRmsPairRefIdeal : Cert.RmsPairRefIdeal.Facts) (hRmsPost : Cert.RmsPost.Facts) (hRmsPostIdeal : Cert.RmsPostIdeal.Facts) (hRmsPostRefIdeal : Cert.RmsPostRefIdeal.Facts) (hRmsPre : Cert.RmsPre.Facts) (hRmsPreIdeal : Cert.RmsPreIdeal.Facts) (hRmsPreRefIdeal : Cert.RmsPreRefIdeal.Facts) (hRmsMem : Cert.RmsMem.Facts) (hRmsMemIdeal : Cert.RmsMemIdeal.Facts) (hRmsMemRefIdeal : Cert.RmsMemRefIdeal.Facts) (hTurn : Cert.Turn.Facts) (hTurnIdeal : Cert.TurnIdeal.Facts) (hTurnRefIdeal : Cert.TurnRefIdeal.Facts) (hRmsFwd : Cert.RmsFwd.Facts) (hRmsFwdIdeal : Cert.RmsFwdIdeal.Facts) (hRmsFwdRefIdeal : Cert.RmsFwdRefIdeal.Facts) (hRmsMemFwd : Cert.RmsMemFwd.Facts) (hRmsMemFwdIdeal : Cert.RmsMemFwdIdeal.Facts) (hRmsMemFwdRefIdeal : Cert.RmsMemFwdRefIdeal.Facts) (hRmsPairFwd : Cert.RmsPairFwd.Facts) (hRmsPairFwdIdeal : Cert.RmsPairFwdIdeal.Facts) (hRmsPairFwdRefIdeal : Cert.RmsPairFwdRefIdeal.Facts) (hRmsThreeFwd : Cert.RmsThreeFwd.Facts) (hRmsThreeFwdIdeal : Cert.RmsThreeFwdIdeal.Facts) (hRmsThreeFwdRefIdeal : Cert.RmsThreeFwdRefIdeal.Facts) (hConvFwd : Cert.ConvFwd.Facts) (hConvFwdIdeal : Cert.ConvFwdIdeal.Facts) (hConvFwdRefIdeal : Cert.ConvFwdRefIdeal.Facts) (hFfnMid : Cert.FfnMid.Facts) (hFfnMidIdeal : Cert.FfnMidIdeal.Facts) (hFfnMidRefIdeal : Cert.FfnMidRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_MixoutDmain (hMixoutDmain := hMixoutDmain)
    ∧ quiescent_MixoutDmainIdeal (hMixoutDmainIdeal := hMixoutDmainIdeal)
    ∧ quiescent_MixoutDmainRefIdeal (hMixoutDmainRefIdeal := hMixoutDmainRefIdeal)
    ∧ quiescent_MixoutDmem (hMixoutDmem := hMixoutDmem)
    ∧ quiescent_MixoutDmemIdeal (hMixoutDmemIdeal := hMixoutDmemIdeal)
    ∧ quiescent_MixoutDmemRefIdeal (hMixoutDmemRefIdeal := hMixoutDmemRefIdeal)
    ∧ quiescent_MixoutDw (hMixoutDw := hMixoutDw)
    ∧ quiescent_MixoutDwIdeal (hMixoutDwIdeal := hMixoutDwIdeal)
    ∧ quiescent_MixoutDwRefIdeal (hMixoutDwRefIdeal := hMixoutDwRefIdeal)
    ∧ quiescent_InADx (hInADx := hInADx)
    ∧ quiescent_InADxIdeal (hInADxIdeal := hInADxIdeal)
    ∧ quiescent_InADxRefIdeal (hInADxRefIdeal := hInADxRefIdeal)
    ∧ quiescent_InADw (hInADw := hInADw)
    ∧ quiescent_InADwIdeal (hInADwIdeal := hInADwIdeal)
    ∧ quiescent_InADwRefIdeal (hInADwRefIdeal := hInADwRefIdeal)
    ∧ quiescent_InBDx (hInBDx := hInBDx)
    ∧ quiescent_InBDxIdeal (hInBDxIdeal := hInBDxIdeal)
    ∧ quiescent_InBDxRefIdeal (hInBDxRefIdeal := hInBDxRefIdeal)
    ∧ quiescent_InBDw (hInBDw := hInBDw)
    ∧ quiescent_InBDwIdeal (hInBDwIdeal := hInBDwIdeal)
    ∧ quiescent_InBDwRefIdeal (hInBDwRefIdeal := hInBDwRefIdeal)
    ∧ quiescent_Gates (hGates := hGates)
    ∧ quiescent_GatesIdeal (hGatesIdeal := hGatesIdeal)
    ∧ quiescent_GatesRefIdeal (hGatesRefIdeal := hGatesRefIdeal)
    ∧ quiescent_Kv (hKv := hKv)
    ∧ quiescent_KvIdeal (hKvIdeal := hKvIdeal)
    ∧ quiescent_KvRefIdeal (hKvRefIdeal := hKvRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Mixout (hMixout := hMixout)
    ∧ quiescent_MixoutIdeal (hMixoutIdeal := hMixoutIdeal)
    ∧ quiescent_MixoutRefIdeal (hMixoutRefIdeal := hMixoutRefIdeal)
    ∧ quiescent_InA (hInA := hInA)
    ∧ quiescent_InAIdeal (hInAIdeal := hInAIdeal)
    ∧ quiescent_InARefIdeal (hInARefIdeal := hInARefIdeal)
    ∧ quiescent_InB (hInB := hInB)
    ∧ quiescent_InBIdeal (hInBIdeal := hInBIdeal)
    ∧ quiescent_InBRefIdeal (hInBRefIdeal := hInBRefIdeal)
    ∧ quiescent_GatesFwd (hGatesFwd := hGatesFwd)
    ∧ quiescent_GatesFwdIdeal (hGatesFwdIdeal := hGatesFwdIdeal)
    ∧ quiescent_GatesFwdRefIdeal (hGatesFwdRefIdeal := hGatesFwdRefIdeal)
    ∧ quiescent_KvFwd (hKvFwd := hKvFwd)
    ∧ quiescent_KvFwdIdeal (hKvFwdIdeal := hKvFwdIdeal)
    ∧ quiescent_KvFwdRefIdeal (hKvFwdRefIdeal := hKvFwdRefIdeal)
    ∧ quiescent_MemkvFwd (hMemkvFwd := hMemkvFwd)
    ∧ quiescent_MemkvFwdIdeal (hMemkvFwdIdeal := hMemkvFwdIdeal)
    ∧ quiescent_MemkvFwdRefIdeal (hMemkvFwdRefIdeal := hMemkvFwdRefIdeal)
    ∧ quiescent_Conv (hConv := hConv)
    ∧ quiescent_ConvIdeal (hConvIdeal := hConvIdeal)
    ∧ quiescent_ConvRefIdeal (hConvRefIdeal := hConvRefIdeal)
    ∧ quiescent_RmsPair (hRmsPair := hRmsPair)
    ∧ quiescent_RmsPairIdeal (hRmsPairIdeal := hRmsPairIdeal)
    ∧ quiescent_RmsPairRefIdeal (hRmsPairRefIdeal := hRmsPairRefIdeal)
    ∧ quiescent_RmsPost (hRmsPost := hRmsPost)
    ∧ quiescent_RmsPostIdeal (hRmsPostIdeal := hRmsPostIdeal)
    ∧ quiescent_RmsPostRefIdeal (hRmsPostRefIdeal := hRmsPostRefIdeal)
    ∧ quiescent_RmsPre (hRmsPre := hRmsPre)
    ∧ quiescent_RmsPreIdeal (hRmsPreIdeal := hRmsPreIdeal)
    ∧ quiescent_RmsPreRefIdeal (hRmsPreRefIdeal := hRmsPreRefIdeal)
    ∧ quiescent_RmsMem (hRmsMem := hRmsMem)
    ∧ quiescent_RmsMemIdeal (hRmsMemIdeal := hRmsMemIdeal)
    ∧ quiescent_RmsMemRefIdeal (hRmsMemRefIdeal := hRmsMemRefIdeal)
    ∧ quiescent_Turn (hTurn := hTurn)
    ∧ quiescent_TurnIdeal (hTurnIdeal := hTurnIdeal)
    ∧ quiescent_TurnRefIdeal (hTurnRefIdeal := hTurnRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_RmsMemFwd (hRmsMemFwd := hRmsMemFwd)
    ∧ quiescent_RmsMemFwdIdeal (hRmsMemFwdIdeal := hRmsMemFwdIdeal)
    ∧ quiescent_RmsMemFwdRefIdeal (hRmsMemFwdRefIdeal := hRmsMemFwdRefIdeal)
    ∧ quiescent_RmsPairFwd (hRmsPairFwd := hRmsPairFwd)
    ∧ quiescent_RmsPairFwdIdeal (hRmsPairFwdIdeal := hRmsPairFwdIdeal)
    ∧ quiescent_RmsPairFwdRefIdeal (hRmsPairFwdRefIdeal := hRmsPairFwdRefIdeal)
    ∧ quiescent_RmsThreeFwd (hRmsThreeFwd := hRmsThreeFwd)
    ∧ quiescent_RmsThreeFwdIdeal (hRmsThreeFwdIdeal := hRmsThreeFwdIdeal)
    ∧ quiescent_RmsThreeFwdRefIdeal (hRmsThreeFwdRefIdeal := hRmsThreeFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_MixoutDmain_MixoutDmainIdeal
    ∧ algebraic_MixoutDmainIdeal_MixoutDmainRefIdeal (hMixoutDmainIdeal := hMixoutDmainIdeal) (hMixoutDmainRefIdeal := hMixoutDmainRefIdeal)
    ∧ preserves_MixoutDmem_MixoutDmemIdeal
    ∧ algebraic_MixoutDmemIdeal_MixoutDmemRefIdeal (hMixoutDmemIdeal := hMixoutDmemIdeal) (hMixoutDmemRefIdeal := hMixoutDmemRefIdeal)
    ∧ preserves_MixoutDw_MixoutDwIdeal
    ∧ algebraic_MixoutDwIdeal_MixoutDwRefIdeal (hMixoutDwIdeal := hMixoutDwIdeal) (hMixoutDwRefIdeal := hMixoutDwRefIdeal)
    ∧ preserves_InADx_InADxIdeal
    ∧ algebraic_InADxIdeal_InADxRefIdeal (hInADxIdeal := hInADxIdeal) (hInADxRefIdeal := hInADxRefIdeal)
    ∧ preserves_InADw_InADwIdeal
    ∧ algebraic_InADwIdeal_InADwRefIdeal (hInADwIdeal := hInADwIdeal) (hInADwRefIdeal := hInADwRefIdeal)
    ∧ preserves_InBDx_InBDxIdeal
    ∧ algebraic_InBDxIdeal_InBDxRefIdeal (hInBDxIdeal := hInBDxIdeal) (hInBDxRefIdeal := hInBDxRefIdeal)
    ∧ preserves_InBDw_InBDwIdeal
    ∧ algebraic_InBDwIdeal_InBDwRefIdeal (hInBDwIdeal := hInBDwIdeal) (hInBDwRefIdeal := hInBDwRefIdeal)
    ∧ preserves_Gates_GatesIdeal
    ∧ algebraic_GatesIdeal_GatesRefIdeal (hGatesIdeal := hGatesIdeal) (hGatesRefIdeal := hGatesRefIdeal)
    ∧ preserves_Kv_KvIdeal
    ∧ algebraic_KvIdeal_KvRefIdeal (hKvIdeal := hKvIdeal) (hKvRefIdeal := hKvRefIdeal)
    ∧ preserves_Memkv_MemkvIdeal
    ∧ algebraic_MemkvIdeal_MemkvRefIdeal (hMemkvIdeal := hMemkvIdeal) (hMemkvRefIdeal := hMemkvRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Mixout_MixoutIdeal
    ∧ algebraic_MixoutIdeal_MixoutRefIdeal (hMixoutIdeal := hMixoutIdeal) (hMixoutRefIdeal := hMixoutRefIdeal)
    ∧ preserves_InA_InAIdeal
    ∧ algebraic_InAIdeal_InARefIdeal (hInAIdeal := hInAIdeal) (hInARefIdeal := hInARefIdeal)
    ∧ preserves_InB_InBIdeal
    ∧ algebraic_InBIdeal_InBRefIdeal (hInBIdeal := hInBIdeal) (hInBRefIdeal := hInBRefIdeal)
    ∧ preserves_GatesFwd_GatesFwdIdeal
    ∧ algebraic_GatesFwdIdeal_GatesFwdRefIdeal (hGatesFwdIdeal := hGatesFwdIdeal) (hGatesFwdRefIdeal := hGatesFwdRefIdeal)
    ∧ preserves_KvFwd_KvFwdIdeal
    ∧ algebraic_KvFwdIdeal_KvFwdRefIdeal (hKvFwdIdeal := hKvFwdIdeal) (hKvFwdRefIdeal := hKvFwdRefIdeal)
    ∧ preserves_MemkvFwd_MemkvFwdIdeal
    ∧ algebraic_MemkvFwdIdeal_MemkvFwdRefIdeal (hMemkvFwdIdeal := hMemkvFwdIdeal) (hMemkvFwdRefIdeal := hMemkvFwdRefIdeal)
    ∧ preserves_Conv_ConvIdeal
    ∧ algebraic_ConvIdeal_ConvRefIdeal (hConvIdeal := hConvIdeal) (hConvRefIdeal := hConvRefIdeal)
    ∧ preserves_RmsPair_RmsPairIdeal
    ∧ algebraic_RmsPairIdeal_RmsPairRefIdeal (hRmsPairIdeal := hRmsPairIdeal) (hRmsPairRefIdeal := hRmsPairRefIdeal)
    ∧ preserves_RmsPost_RmsPostIdeal
    ∧ algebraic_RmsPostIdeal_RmsPostRefIdeal (hRmsPostIdeal := hRmsPostIdeal) (hRmsPostRefIdeal := hRmsPostRefIdeal)
    ∧ preserves_RmsPre_RmsPreIdeal
    ∧ algebraic_RmsPreIdeal_RmsPreRefIdeal (hRmsPreIdeal := hRmsPreIdeal) (hRmsPreRefIdeal := hRmsPreRefIdeal)
    ∧ preserves_RmsMem_RmsMemIdeal
    ∧ algebraic_RmsMemIdeal_RmsMemRefIdeal (hRmsMemIdeal := hRmsMemIdeal) (hRmsMemRefIdeal := hRmsMemRefIdeal)
    ∧ preserves_Turn_TurnIdeal
    ∧ algebraic_TurnIdeal_TurnRefIdeal (hTurnIdeal := hTurnIdeal) (hTurnRefIdeal := hTurnRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_RmsMemFwd_RmsMemFwdIdeal
    ∧ algebraic_RmsMemFwdIdeal_RmsMemFwdRefIdeal (hRmsMemFwdIdeal := hRmsMemFwdIdeal) (hRmsMemFwdRefIdeal := hRmsMemFwdRefIdeal)
    ∧ preserves_RmsPairFwd_RmsPairFwdIdeal
    ∧ algebraic_RmsPairFwdIdeal_RmsPairFwdRefIdeal (hRmsPairFwdIdeal := hRmsPairFwdIdeal) (hRmsPairFwdRefIdeal := hRmsPairFwdRefIdeal)
    ∧ preserves_RmsThreeFwd_RmsThreeFwdIdeal
    ∧ algebraic_RmsThreeFwdIdeal_RmsThreeFwdRefIdeal (hRmsThreeFwdIdeal := hRmsThreeFwdIdeal) (hRmsThreeFwdRefIdeal := hRmsThreeFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_FfnMid_FfnMidIdeal
    ∧ algebraic_FfnMidIdeal_FfnMidRefIdeal (hFfnMidIdeal := hFfnMidIdeal) (hFfnMidRefIdeal := hFfnMidRefIdeal)
-- ==== Pre_finite.lean ====
abbrev S2x2048x1024 : Shape := ⟨3, ![2, 2048, 1024]⟩
abbrev S2x2048x512 : Shape := ⟨3, ![2, 2048, 512]⟩
abbrev S12 : Shape := ⟨1, ![12]⟩
abbrev S2x2048x768 : Shape := ⟨3, ![2, 2048, 768]⟩
abbrev S_ : Shape := ⟨0, ![]⟩

class Facts : Prop where
  slices_S2x2048x1024_S2x2048x768_0_0_0 : S2x2048x1024.Slices ![0, 0, 0] S2x2048x768
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S2x2048x512 : S_.BroadcastsInDim S2x2048x512 (![] : Fin 0 → Fin S2x2048x512.rank)
  reducesTo_S2x2048x512_S_d0_1_2 : S2x2048x512.ReducesTo [0, 1, 2] S_
  bcast_S_S12 : S_.BroadcastsInDim S12 (![] : Fin 0 → Fin S12.rank)
  reducesTo_S12_S_d0 : S12.ReducesTo [0] S_

variable [Facts]

def fn_part1 {F : FTy → Type} [FloatOps F] (main_v14 : IVec S_ 1) (main_v15 : FVec F S2x2048x768 .f32) (main_v16 : FVec F S2x2048x768 .f32) : IVec S_ 1 :=
  let main_v17 : IVec S2x2048x768 1 := cmpf .olt main_v15 main_v16
  let main_c_5 : IVec S_ 1 := constantI S_ 1 1#1
  let main_v18 : IVec S_ 1 := (fun x v => Host.reduce IntOp.andi x v reducesTo_S2x2048x768_S_d0_1_2 h_S_) main_v17 main_c_5
  let main_v19 : IVec S_ 1 := andi main_v14 main_v18
  main_v19

def fn {F : FTy → Type} [FloatOps F] (main_arg0 : FVec F S2x2048x1024 .f32) (main_arg1 : FVec F S2x2048x512 .f32) (main_arg2 : FVec F S12 .f32) (main_arg3 : FVec F S2x2048x768 .f32) : IVec S_ 1 :=
  let main_v0 : FVec F S2x2048x768 .f32 := (extractStridedSlice S2x2048x768 ![0, 0, 0] · slices_S2x2048x1024_S2x2048x768_0_0_0) main_arg0
  let main_v1 : FVec F S2x2048x768 .f32 := Host.absf main_v0
  let main_cst : FVec F S_ .f32 := constant S_ .f32 0x7F800000#32
  let main_v2 : FVec F S2x2048x768 .f32 := broadcastInDim S2x2048x768 ![] bcast_S_S2x2048x768 main_cst
  let main_v3 : IVec S2x2048x768 1 := cmpf .olt main_v1 main_v2
  let main_c : IVec S_ 1 := constantI S_ 1 1#1
  let main_v4 : IVec S_ 1 := (fun x v => Host.reduce IntOp.andi x v reducesTo_S2x2048x768_S_d0_1_2 h_S_) main_v3 main_c
  let main_v5 : FVec F S2x2048x512 .f32 := Host.absf main_arg1
  let main_cst_0 : FVec F S_ .f32 := constant S_ .f32 0x7F800000#32
  let main_v6 : FVec F S2x2048x512 .f32 := broadcastInDim S2x2048x512 ![] bcast_S_S2x2048x512 main_cst_0
  let main_v7 : IVec S2x2048x512 1 := cmpf .olt main_v5 main_v6
  let main_c_1 : IVec S_ 1 := constantI S_ 1 1#1
  let main_v8 : IVec S_ 1 := (fun x v => Host.reduce IntOp.andi x v reducesTo_S2x2048x512_S_d0_1_2 h_S_) main_v7 main_c_1
  let main_v9 : IVec S_ 1 := andi main_v4 main_v8
  let main_v10 : FVec F S12 .f32 := Host.absf main_arg2
  let main_cst_2 : FVec F S_ .f32 := constant S_ .f32 0x7F800000#32
  let main_v11 : FVec F S12 .f32 := broadcastInDim S12 ![] bcast_S_S12 main_cst_2
  let main_v12 : IVec S12 1 := cmpf .olt main_v10 main_v11
  let main_c_3 : IVec S_ 1 := constantI S_ 1 1#1
  let main_v13 : IVec S_ 1 := (fun x v => Host.reduce IntOp.andi x v reducesTo_S12_S_d0 h_S_) main_v12 main_c_3
  let main_v14 : IVec S_ 1 := andi main_v9 main_v13
  let main_v15 : FVec F S2x2048x768 .f32 := Host.absf main_arg3
  let main_cst_4 : FVec F S_ .f32 := constant S_ .f32 0x7F800000#32
  let main_v16 : FVec F S2x2048x768 .f32 := broadcastInDim S2x2048x768 ![] bcast_S_S2x2048x768 main_cst_4
  fn_part1 (F := F) main_v14 main_v15 main_v16
-- ==== Kernel.lean ====
abbrev S2x2048x1024 : Shape := ⟨3, ![2, 2048, 1024]⟩
abbrev S2x2048x512 : Shape := ⟨3, ![2, 2048, 512]⟩
abbrev S12 : Shape := ⟨1, ![12]⟩
abbrev S2x2048x768 : Shape := ⟨3, ![2, 2048, 768]⟩
abbrev S8x128 : Shape := ⟨2, ![8, 128]⟩
abbrev S1x128x768 : Shape := ⟨3, ![1, 128, 768]⟩
abbrev S1x128x256 : Shape := ⟨3, ![1, 128, 256]⟩
abbrev S1x128x512 : Shape := ⟨3, ![1, 128, 512]⟩
abbrev S128x768 : Shape := ⟨2, ![128, 768]⟩
abbrev S128x256 : Shape := ⟨2, ![128, 256]⟩
abbrev S384x1 : Shape := ⟨2, ![384, 1]⟩
abbrev S128x64 : Shape := ⟨2, ![128, 64]⟩
abbrev S384x64 : Shape := ⟨2, ![384, 64]⟩
abbrev S1 : Shape := ⟨1, ![1]⟩
abbrev S384x128 : Shape := ⟨2, ![384, 128]⟩
abbrev S384 : Shape := ⟨1, ![384]⟩
abbrev S1x384x1 : Shape := ⟨3, ![1, 384, 1]⟩
abbrev S1x1x1 : Shape := ⟨3, ![1, 1, 1]⟩
abbrev S128x512 : Shape := ⟨2, ![128, 512]⟩

abbrev nBuf : Space → Nat
  | .hbm => 8
  | .vmem => 19
  | .smem => 1
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S12, .f32⟩
  | .hbm, ⟨3, _⟩ => ⟨S2x2048x768, .f32⟩
  | .hbm, ⟨4, _⟩ => ⟨S2x2048x768, .bf16⟩
  | .hbm, ⟨5, _⟩ => ⟨S2x2048x512, .f32⟩
  | .hbm, ⟨6, _⟩ => ⟨S2x2048x512, .f32⟩
  | .hbm, ⟨7, _⟩ => ⟨S8x128, .f32⟩
  | .local _ .vmem, ⟨0, _⟩ => ⟨S1x128x768, .f32⟩
  | .local _ .vmem, ⟨1, _⟩ => ⟨S1x128x768, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x768, .f32⟩
  | .local _ .vmem, ⟨11, _⟩ => ⟨S1x128x768, .f32⟩
  | .local _ .vmem, ⟨12, _⟩ => ⟨S1x128x768, .bf16⟩
  | .local _ .vmem, ⟨13, _⟩ => ⟨S1x128x768, .bf16⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .vmem, ⟨18, _⟩ => ⟨S8x128, .f32⟩
  | .local _ .smem, ⟨0, _⟩ => ⟨S12, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .smem S12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S2x2048x1024 : Shape := ⟨3, ![2, 2048, 1024]⟩
abbrev S2x2048x512 : Shape := ⟨3, ![2, 2048, 512]⟩
abbrev S12 : Shape := ⟨1, ![12]⟩
abbrev S2x2048x768 : Shape := ⟨3, ![2, 2048, 768]⟩
abbrev S2x2048x12x64 : Shape := ⟨4, ![2, 2048, 12, 64]⟩
abbrev S2x2048x2x4x64 : Shape := ⟨5, ![2, 2048, 2, 4, 64]⟩
abbrev S2x2048x1x4x64 : Shape := ⟨5, ![2, 2048, 1, 4, 64]⟩
abbrev S2x2048x4x64 : Shape := ⟨4, ![2, 2048, 4, 64]⟩
abbrev S2x16x128x4x64 : Shape := ⟨5, ![2, 16, 128, 4, 64]⟩
abbrev S2x15x128x4x64 : Shape := ⟨5, ![2, 15, 128, 4, 64]⟩
abbrev S_ : Shape := ⟨0, ![]⟩
abbrev S2x16x256x4x64 : Shape := ⟨5, ![2, 16, 256, 4, 64]⟩
abbrev S2x16x128x4x3x64 : Shape := ⟨6, ![2, 16, 128, 4, 3, 64]⟩
abbrev S2x16x4x256x128x3 : Shape := ⟨6, ![2, 16, 4, 256, 128, 3]⟩
abbrev S2x16x4x3x128x256 : Shape := ⟨6, ![2, 16, 4, 3, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S4x3x1x1 : Shape := ⟨4, ![4, 3, 1, 1]⟩
abbrev S1x1x128x256 : Shape := ⟨4, ![1, 1, 128, 256]⟩
abbrev S4x3x128x256 : Shape := ⟨4, ![4, 3, 128, 256]⟩
abbrev S1x16x1x1x128x256 : Shape := ⟨6, ![1, 16, 1, 1, 128, 256]⟩
abbrev S1x1x4x3x128x256 : Shape := ⟨6, ![1, 1, 4, 3, 128, 256]⟩
abbrev S1x1x4x3x1x1 : Shape := ⟨6, ![1, 1, 4, 3, 1, 1]⟩
abbrev S2x16x4x3x128 : Shape := ⟨5, ![2, 16, 4, 3, 128]⟩
abbrev S2x16x4x3x128x1 : Shape := ⟨6, ![2, 16, 4, 3, 128, 1]⟩
abbrev S2x16x4x64x3x128 : Shape := ⟨6, ![2, 16, 4, 64, 3, 128]⟩
abbrev S2x16x4x64x256 : Shape := ⟨5, ![2, 16, 4, 64, 256]⟩
abbrev S4x3x1 : Shape := ⟨3, ![4, 3, 1]⟩
abbrev S2x16x4x128x3x64 : Shape := ⟨6, ![2, 16, 4, 128, 3, 64]⟩
abbrev S2x16x4x256x64 : Shape := ⟨5, ![2, 16, 4, 256, 64]⟩
abbrev S2x2048x256 : Shape := ⟨3, ![2, 2048, 256]⟩
abbrev S1x12 : Shape := ⟨2, ![1, 12]⟩
abbrev S8x128 : Shape := ⟨2, ![8, 128]⟩

abbrev nBuf : Space → Nat
  | .hbm => 206
  | .vmem => 0
  | .smem => 0
  | _ => 0

abbrev hbmTy0_0 (i : Nat) : BufTy := match i % 128 with
  | 0 => ⟨S2x2048x1024, .f32⟩
  | 1 => ⟨S2x2048x512, .f32⟩
  | 2 => ⟨S12, .f32⟩
  | 3 => ⟨S2x2048x768, .f32⟩
  | 4 => ⟨S12, .f32⟩
  | 5 => ⟨S2x2048x768, .f32⟩
  | 6 => ⟨S2x2048x12x64, .f32⟩
  | 7 => ⟨S2x2048x2x4x64, .f32⟩
  | 8 => ⟨S2x2048x1x4x64, .f32⟩
  | 9 => ⟨S2x2048x4x64, .f32⟩
  | 10 => ⟨S2x16x128x4x64, .f32⟩
  | 11 => ⟨S2x15x128x4x64, .f32⟩
  | 12 => ⟨S_, .i32⟩
  | 13 => ⟨S_, .f32⟩
  | 14 => ⟨S2x16x128x4x64, .f32⟩
  | 15 => ⟨S2x16x256x4x64, .f32⟩
  | 16 => ⟨S2x2048x1x4x64, .f32⟩
  | 17 => ⟨S2x2048x4x64, .f32⟩
  | 18 => ⟨S2x16x128x4x64, .f32⟩
  | 19 => ⟨S2x15x128x4x64, .f32⟩
  | 20 => ⟨S_, .i32⟩
  | 21 => ⟨S_, .f32⟩
  | 22 => ⟨S2x16x128x4x64, .f32⟩
  | 23 => ⟨S2x16x256x4x64, .f32⟩
  | 24 => ⟨S2x16x128x4x3x64, .f32⟩
  | 25 => ⟨S2x16x4x256x128x3, .f32⟩
  | 26 => ⟨S2x16x4x3x128x256, .f32⟩
  | 27 => ⟨S_, .f32⟩
  | 28 => ⟨S2x16x4x3x128x256, .f32⟩
  | 29 => ⟨S2x16x4x3x128x256, .f32⟩
  | 30 => ⟨S128, .i32⟩
  | 31 => ⟨S128x1, .i32⟩
  | 32 => ⟨S_, .i32⟩
  | 33 => ⟨S128x1, .i32⟩
  | 34 => ⟨S128x1, .i32⟩
  | 35 => ⟨S256, .i32⟩
  | 36 => ⟨S1x256, .i32⟩
  | 37 => ⟨S128x256, .i32⟩
  | 38 => ⟨S128x256, .i32⟩
  | 39 => ⟨S128x256, .i32⟩
  | 40 => ⟨S_, .i32⟩
  | 41 => ⟨S128x256, .i32⟩
  | 42 => ⟨S128x256, .i1⟩
  | 43 => ⟨S_, .i32⟩
  | 44 => ⟨S128x256, .i32⟩
  | 45 => ⟨S128x256, .i1⟩
  | 46 => ⟨S128x256, .i1⟩
  | 47 => ⟨S16, .i32⟩
  | 48 => ⟨S16x1x1, .i32⟩
  | 49 => ⟨S_, .i32⟩
  | 50 => ⟨S16x1x1, .i32⟩
  | 51 => ⟨S16x1x1, .i1⟩
  | 52 => ⟨S1x1x256, .i32⟩
  | 53 => ⟨S_, .i32⟩
  | 54 => ⟨S1x1x256, .i32⟩
  | 55 => ⟨S1x1x256, .i1⟩
  | 56 => ⟨S16x1x256, .i1⟩
  | 57 => ⟨S16x1x256, .i1⟩
  | 58 => ⟨S16x1x256, .i1⟩
  | 59 => ⟨S1x128x256, .i1⟩
  | 60 => ⟨S16x128x256, .i1⟩
  | 61 => ⟨S16x128x256, .i1⟩
  | 62 => ⟨S16x128x256, .i1⟩
  | 63 => ⟨S4x3x1x1, .f32⟩
  | 64 => ⟨S4x3x1x1, .f32⟩
  | 65 => ⟨S128x256, .f32⟩
  | 66 => ⟨S1x1x128x256, .f32⟩
  | 67 => ⟨S4x3x128x256, .f32⟩
  | 68 => ⟨S4x3x128x256, .f32⟩
  | 69 => ⟨S4x3x128x256, .f32⟩
  | 70 => ⟨S1x16x1x1x128x256, .i1⟩
  | 71 => ⟨S1x1x4x3x128x256, .f32⟩
  | 72 => ⟨S2x16x4x3x128x256, .f32⟩
  | 73 => ⟨S2x16x4x3x128x256, .f32⟩
  | 74 => ⟨S_, .f32⟩
  | 75 => ⟨S_, .f32⟩
  | 76 => ⟨S2x16x4x3x128x256, .i1⟩
  | 77 => ⟨S2x16x4x3x128x256, .f32⟩
  | 78 => ⟨S2x16x4x3x128x256, .f32⟩
  | 79 => ⟨S_, .f32⟩
  | 80 => ⟨S2x16x4x3x128x256, .f32⟩
  | 81 => ⟨S1x1x4x3x1x1, .f32⟩
  | 82 => ⟨S_, .f32⟩
  | 83 => ⟨S2x16x4x3x128, .f32⟩
  | 84 => ⟨S2x16x4x3x128x1, .f32⟩
  | 85 => ⟨S2x16x4x3x128x256, .f32⟩
  | 86 => ⟨S2x16x4x3x128x256, .i1⟩
  | 87 => ⟨S2x16x4x3x128x256, .f32⟩
  | 88 => ⟨S_, .f32⟩
  | 89 => ⟨S2x16x4x3x128, .f32⟩
  | 90 => ⟨S2x16x4x3x128x1, .f32⟩
  | 91 => ⟨S2x16x4x3x128x1, .f32⟩
  | 92 => ⟨S2x16x4x3x128x1, .f32⟩
  | 93 => ⟨S2x16x4x3x128x1, .f32⟩
  | 94 => ⟨S2x16x4x3x128x1, .i1⟩
  | 95 => ⟨S2x16x4x3x128x1, .f32⟩
  | 96 => ⟨S2x16x4x3x128x1, .i1⟩
  | 97 => ⟨S_, .f32⟩
  | 98 => ⟨S2x16x4x3x128x1, .f32⟩
  | 99 => ⟨S_, .f32⟩
  | 100 => ⟨S2x16x4x3x128x1, .f32⟩
  | 101 => ⟨S_, .f32⟩
  | 102 => ⟨S2x16x4x3x128x1, .f32⟩
  | 103 => ⟨S2x16x4x3x128x1, .f32⟩
  | 104 => ⟨S2x16x4x3x128x1, .f32⟩
  | 105 => ⟨S2x16x4x3x128x1, .f32⟩
  | 106 => ⟨S2x16x4x3x128x1, .i1⟩
  | 107 => ⟨S2x16x4x3x128x1, .f32⟩
  | 108 => ⟨S2x16x4x3x128x1, .i1⟩
  | 109 => ⟨S_, .f32⟩
  | 110 => ⟨S2x16x4x3x128x1, .f32⟩
  | 111 => ⟨S_, .f32⟩
  | 112 => ⟨S2x16x4x3x128x1, .f32⟩
  | 113 => ⟨S_, .f32⟩
  | 114 => ⟨S2x16x4x3x128x1, .f32⟩
  | 115 => ⟨S2x16x4x3x128x1, .f32⟩
  | 116 => ⟨S2x16x4x3x128x1, .f32⟩
  | 117 => ⟨S2x16x4x3x128x256, .f32⟩
  | 118 => ⟨S2x16x4x3x128x256, .f32⟩
  | 119 => ⟨S2x16x4x3x128x256, .f32⟩
  | 120 => ⟨S_, .f32⟩
  | 121 => ⟨S2x16x4x3x128, .f32⟩
  | 122 => ⟨S2x16x4x3x128x1, .f32⟩
  | 123 => ⟨S2x16x4x3x128x1, .f32⟩
  | 124 => ⟨S2x16x4x3x128x1, .f32⟩
  | 125 => ⟨S2x16x4x3x128x1, .f32⟩
  | 126 => ⟨S2x16x4x3x128x1, .f32⟩
  | 127 => ⟨S2x16x4x3x128x256, .f32⟩
  | _ => ⟨S2x2048x1024, .f32⟩

abbrev hbmTy0_1 (i : Nat) : BufTy := match i % 128 with
  | 0 => ⟨S2x16x4x3x128x256, .f32⟩
  | 1 => ⟨S2x16x4x3x128x1, .f32⟩
  | 2 => ⟨S_, .f32⟩
  | 3 => ⟨S2x16x4x3x128x1, .f32⟩
  | 4 => ⟨S2x16x4x3x128x1, .f32⟩
  | 5 => ⟨S2x16x4x64x3x128, .f32⟩
  | 6 => ⟨S2x16x128x4x3x64, .f32⟩
  | 7 => ⟨S2x2048x768, .f32⟩
  | 8 => ⟨S2x16x128x4x3x64, .f32⟩
  | 9 => ⟨S2x16x4x64x3x128, .f32⟩
  | 10 => ⟨S2x16x4x3x128x256, .f32⟩
  | 11 => ⟨S2x16x4x64x256, .f32⟩
  | 12 => ⟨S2x16x256x4x64, .f32⟩
  | 13 => ⟨S2x16x4x3x128x256, .f32⟩
  | 14 => ⟨S2x16x4x3x128x256, .f32⟩
  | 15 => ⟨S2x16x4x3x128x256, .f32⟩
  | 16 => ⟨S_, .f32⟩
  | 17 => ⟨S2x16x4x3x128, .f32⟩
  | 18 => ⟨S2x16x4x3x128x1, .f32⟩
  | 19 => ⟨S2x16x4x3x128x1, .f32⟩
  | 20 => ⟨S2x16x4x3x128x256, .f32⟩
  | 21 => ⟨S2x16x4x3x128x256, .f32⟩
  | 22 => ⟨S2x16x4x3x128x1, .f32⟩
  | 23 => ⟨S_, .f32⟩
  | 24 => ⟨S4x3x1, .f32⟩
  | 25 => ⟨S1x1x4x3x1x1, .f32⟩
  | 26 => ⟨S2x16x4x3x128x1, .f32⟩
  | 27 => ⟨S_, .f32⟩
  | 28 => ⟨S2x16x4x3x128, .f32⟩
  | 29 => ⟨S2x16x4x3x128x256, .f32⟩
  | 30 => ⟨S2x16x4x3x128x256, .f32⟩
  | 31 => ⟨S2x16x4x3x128x256, .f32⟩
  | 32 => ⟨S2x16x4x3x128x256, .f32⟩
  | 33 => ⟨S_, .f32⟩
  | 34 => ⟨S2x16x4x3x128, .f32⟩
  | 35 => ⟨S2x16x4x3x128x1, .f32⟩
  | 36 => ⟨S2x16x4x3x128x1, .f32⟩
  | 37 => ⟨S2x16x4x3x128x1, .f32⟩
  | 38 => ⟨S_, .f32⟩
  | 39 => ⟨S4x3x1, .f32⟩
  | 40 => ⟨S1x1x4x3x1x1, .f32⟩
  | 41 => ⟨S1x1x4x3x1x1, .f32⟩
  | 42 => ⟨S2x16x4x3x128x1, .f32⟩
  | 43 => ⟨S_, .f32⟩
  | 44 => ⟨S2x16x4x3x128, .f32⟩
  | 45 => ⟨S2x16x4x3x128, .f32⟩
  | 46 => ⟨S2x16x4x3x128x256, .f32⟩
  | 47 => ⟨S2x16x4x3x128x256, .f32⟩
  | 48 => ⟨S2x16x4x3x128x256, .f32⟩
  | 49 => ⟨S12, .f32⟩
  | 50 => ⟨S_, .f32⟩
  | 51 => ⟨S2x16x4x3x128x256, .f32⟩
  | 52 => ⟨S2x16x4x3x128x256, .f32⟩
  | 53 => ⟨S_, .f32⟩
  | 54 => ⟨S2x16x4x3x128x256, .f32⟩
  | 55 => ⟨S2x16x4x3x128x256, .f32⟩
  | 56 => ⟨S2x16x4x256x128x3, .f32⟩
  | 57 => ⟨S2x16x4x128x3x64, .f32⟩
  | 58 => ⟨S2x16x128x4x3x64, .f32⟩
  | 59 => ⟨S2x16x4x256x64, .f32⟩
  | 60 => ⟨S2x16x256x4x64, .f32⟩
  | 61 => ⟨S2x2048x12x64, .f32⟩
  | 62 => ⟨S2x16x128x4x64, .f32⟩
  | 63 => ⟨S2x2048x256, .f32⟩
  | 64 => ⟨S2x16x128x4x64, .f32⟩
  | 65 => ⟨S2x2048x256, .f32⟩
  | 66 => ⟨S2x2048x512, .f32⟩
  | 67 => ⟨S2x16x128x4x64, .f32⟩
  | 68 => ⟨S2x2048x256, .f32⟩
  | 69 => ⟨S2x16x128x4x64, .f32⟩
  | 70 => ⟨S2x2048x256, .f32⟩
  | 71 => ⟨S2x2048x512, .f32⟩
  | 72 => ⟨S2x2048x768, .f32⟩
  | 73 => ⟨S2x2048x768, .bf16⟩
  | 74 => ⟨S1x12, .f32⟩
  | 75 => ⟨S_, .i32⟩
  | 76 => ⟨S_, .f32⟩
  | 77 => ⟨S8x128, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_call2_v0 : Ref sig .tc := ⟨.hbm, 75, rfl⟩
abbrev main_v59_1 : Ref sig .tc := ⟨.hbm, 76, rfl⟩
abbrev main_call2_v2 : Ref sig .tc := ⟨.hbm, 77, rfl⟩
abbrev main_v59_0 : Ref sig .tc := ⟨.hbm, 78, rfl⟩
abbrev main_call2_cst : Ref sig .tc := ⟨.hbm, 79, rfl⟩
abbrev main_v59_2 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_9 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_10 : Ref sig .tc := ⟨.hbm, 97, rfl⟩
abbrev main_v74 : Ref sig .tc := ⟨.hbm, 98, rfl⟩
abbrev main_cst_11 : Ref sig .tc := ⟨.hbm, 99, rfl⟩
abbrev main_v75 : Ref sig .tc := ⟨.hbm, 100, rfl⟩
abbrev main_cst_12 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_13 : Ref sig .tc := ⟨.hbm, 109, rfl⟩
abbrev main_v83 : Ref sig .tc := ⟨.hbm, 110, rfl⟩
abbrev main_cst_14 : Ref sig .tc := ⟨.hbm, 111, rfl⟩
abbrev main_v84 : Ref sig .tc := ⟨.hbm, 112, rfl⟩
abbrev main_cst_15 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_16 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_17 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_18 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_19 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_20 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_21 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_22 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_23 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_call3_cst : Ref sig .tc := ⟨.hbm, 178, rfl⟩
abbrev main_call3_v0 : Ref sig .tc := ⟨.hbm, 179, rfl⟩
abbrev main_v141 : Ref sig .tc := ⟨.hbm, 180, rfl⟩
abbrev main_cst_24 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_c_25 : Ref sig .tc := ⟨.hbm, 203, rfl⟩
abbrev main_call4_v0 : Ref sig .tc := ⟨.hbm, 204, rfl⟩
abbrev main_v163 : Ref sig .tc := ⟨.hbm, 205, rfl⟩

abbrev nD : Nat := 1
abbrev τ : Topo := Topo.v7x

variable {F : FTy → Type} [FloatOps F]
-- ==== DownDx.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S1x2816x1024 : Shape := ⟨3, ![1, 2816, 1024]⟩
abbrev S4096x256 : Shape := ⟨2, ![4096, 256]⟩
abbrev S1x256x1024 : Shape := ⟨3, ![1, 256, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S1x256x1024, .bf16⟩
  | .local _ .vmem, ⟨4, _⟩ => ⟨S1x256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpDx.lean ====
abbrev S4096x2816 : Shape := ⟨2, ![4096, 2816]⟩
abbrev S5632x1024 : Shape := ⟨2, ![5632, 1024]⟩
abbrev S4096x1024 : Shape := ⟨2, ![4096, 1024]⟩
abbrev S1024x2816 : Shape := ⟨2, ![1024, 2816]⟩
abbrev S2816x256 : Shape := ⟨2, ![2816, 256]⟩
abbrev S1024x256 : Shape := ⟨2, ![1024, 256]⟩

abbrev nBuf : Space → Nat
  | .hbm => 4
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S5632x1024, .bf16⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S2816x256, .bf16⟩
  | .local _ .vmem, ⟨5, _⟩ => ⟨S2816x256, .bf16⟩
  | .local _ .vmem, ⟨6, _⟩ => ⟨S2816x256, .bf16⟩
  | .local _ .vmem, ⟨7, _⟩ => ⟨S2816x256, .bf16⟩
  | .local _ .vmem, ⟨8, _⟩ => ⟨S1024x256, .f32⟩
  | .local _ .vmem, ⟨9, _⟩ => ⟨S1024x256, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  ![c1_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2816x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2816x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpDxRefIdeal.lean ====
abbrev S4096x2816 : Shape := ⟨2, ![4096, 2816]⟩
abbrev S5632x1024 : Shape := ⟨2, ![5632, 1024]⟩
abbrev S1024x5632 : Shape := ⟨2, ![1024, 5632]⟩
abbrev S_ : Shape := ⟨0, ![]⟩
abbrev S4096x1024 : Shape := ⟨2, ![4096, 1024]⟩
abbrev S4096x5632 : Shape := ⟨2, ![4096, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S5632x1024, .bf16⟩
  | .hbm, ⟨3, _⟩ => ⟨S1024x5632, .bf16⟩
  | .hbm, ⟨4, _⟩ => ⟨S1024x5632, .f32⟩
  | .hbm, ⟨5, _⟩ => ⟨S_, .f32⟩
  | .hbm, ⟨6, _⟩ => ⟨S4096x1024, .f32⟩
  | .hbm, ⟨7, _⟩ => ⟨S4096x5632, .f32⟩
  | .hbm, ⟨8, _⟩ => ⟨S4096x5632, .bf16⟩
  | .hbm, ⟨9, _⟩ => ⟨S4096x5632, .f32⟩
  | .hbm, ⟨10, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== UpDw.lean ====
abbrev S4096x2816 : Shape := ⟨2, ![4096, 2816]⟩
abbrev S4096x1024 : Shape := ⟨2, ![4096, 1024]⟩
abbrev S1x5632x1024 : Shape := ⟨3, ![1, 5632, 1024]⟩
abbrev S4096x256 : Shape := ⟨2, ![4096, 256]⟩
abbrev S1x256x1024 : Shape := ⟨3, ![1, 256, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S1x5632x1024, .bf16⟩
  | .hbm, ⟨4, _⟩ => ⟨S1x5632x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S4096x256, .bf16⟩
  | .local _ .vmem, ⟨6, _⟩ => ⟨S4096x256, .bf16⟩
  | .local _ .vmem, ⟨7, _⟩ => ⟨S4096x1024, .bf16⟩
  | .local _ .vmem, ⟨8, _⟩ => ⟨S1x256x1024, .bf16⟩
  | .local _ .vmem, ⟨9, _⟩ => ⟨S1x256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![11, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg0 c11_i32
  let c0_i32 : BitVec 32 := 0#32
  let v1 : BitVec 32 := Scalar.addi arg1 c0_i32
  let c0_i32_0 : BitVec 32 := 0#32
  let c0_i32_1 : BitVec 32 := 0#32
  ![c0_i32_0.toNat, v0.toNat, v1.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== UpDwRefIdeal.lean ====
abbrev S4096x2816 : Shape := ⟨2, ![4096, 2816]⟩
abbrev S4096x1024 : Shape := ⟨2, ![4096, 1024]⟩
abbrev S_ : Shape := ⟨0, ![]⟩
abbrev S1024x5632 : Shape := ⟨2, ![1024, 5632]⟩
abbrev S4096x5632 : Shape := ⟨2, ![4096, 5632]⟩
abbrev S5632x1024 : Shape := ⟨2, ![5632, 1024]⟩
abbrev S1x5632x1024 : Shape := ⟨3, ![1, 5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S_, .f32⟩
  | .hbm, ⟨4, _⟩ => ⟨S1024x5632, .f32⟩
  | .hbm, ⟨5, _⟩ => ⟨S4096x1024, .f32⟩
  | .hbm, ⟨6, _⟩ => ⟨S4096x5632, .f32⟩
  | .hbm, ⟨7, _⟩ => ⟨S4096x5632, .bf16⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S5632x1024, .bf16⟩
  | .hbm, ⟨13, _⟩ => ⟨S1x5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== MixoutDmain.lean ====
abbrev S1024x1024 : Shape := ⟨2, ![1024, 1024]⟩
abbrev S4096x1024 : Shape := ⟨2, ![4096, 1024]⟩
abbrev S4096x768 : Shape := ⟨2, ![4096, 768]⟩
abbrev S768x1024 : Shape := ⟨2, ![768, 1024]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S4096x1024, .bf16⟩
  | .hbm, ⟨2, _⟩ => ⟨S4096x768, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S1024x768, .f32⟩
  | .local _ .vmem, ⟨4, _⟩ => ⟨S1024x768, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixoutDmainRefIdeal.lean ====
abbrev S1024x1024 : Shape := ⟨2, ![1024, 1024]⟩
abbrev S4096x1024 : Shape := ⟨2, ![4096, 1024]⟩
abbrev S_ : Shape := ⟨0, ![]⟩
abbrev S4096x768 : Shape := ⟨2, ![4096, 768]⟩
abbrev S4096x256 : Shape := ⟨2, ![4096, 256]⟩

abbrev nBuf : Space → Nat
  | .hbm => 13
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S4096x1024, .bf16⟩
  | .hbm, ⟨2, _⟩ => ⟨S_, .f32⟩
  | .hbm, ⟨3, _⟩ => ⟨S4096x768, .f32⟩
  | .hbm, ⟨4, _⟩ => ⟨S_, .f32⟩
  | .hbm, ⟨5, _⟩ => ⟨S4096x256, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x768, .f32⟩
  | .hbm, ⟨12, _⟩ => ⟨S4096x256, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MixoutDmem.lean ====
abbrev S1024x1024 : Shape := ⟨2, ![1024, 1024]⟩
abbrev S4096x1024 : Shape := ⟨2, ![4096, 1024]⟩
abbrev S4096x256 : Shape := ⟨2, ![4096, 256]⟩
abbrev S256x1024 : Shape := ⟨2, ![256, 1024]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S4096x1024, .bf16⟩
  | .hbm, ⟨2, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixoutDmemRefIdeal.lean ====
abbrev S1024x1024 : Shape := ⟨2, ![1024, 1024]⟩
abbrev S4096x1024 : Shape := ⟨2, ![4096, 1024]⟩
abbrev S_ : Shape := ⟨0, ![]⟩
abbrev S4096x768 : Shape := ⟨2, ![4096, 768]⟩
abbrev S4096x256 : Shape := ⟨2, ![4096, 256]⟩

abbrev nBuf : Space → Nat
  | .hbm => 13
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S4096x1024, .bf16⟩
  | .hbm, ⟨2, _⟩ => ⟨S_, .f32⟩
  | .hbm, ⟨3, _⟩ => ⟨S4096x768, .f32⟩
  | .hbm, ⟨4, _⟩ => ⟨S_, .f32⟩
  | .hbm, ⟨5, _⟩ => ⟨S4096x256, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x768, .f32⟩
  | .hbm, ⟨12, _⟩ => ⟨S4096x256, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MixoutDw.lean ====
abbrev S4096x768 : Shape := ⟨2, ![4096, 768]⟩
abbrev S4096x256 : Shape := ⟨2, ![4096, 256]⟩
abbrev S4096x1024 : Shape := ⟨2, ![4096, 1024]⟩
abbrev S1x1024x1024 : Shape := ⟨3, ![1, 1024, 1024]⟩
abbrev S1x256x1024 : Shape := ⟨3, ![1, 256, 1024]⟩
abbrev S256x1024 : Shape := ⟨2, ![256, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x768, .bf16⟩
  | .hbm, ⟨1, _⟩ => ⟨S4096x256, .bf16⟩
  | .hbm, ⟨2, _⟩ => ⟨S4096x1024, .bf16⟩
  | .hbm, ⟨3, _⟩ => ⟨S1x1024x1024, .bf16⟩
  | .hbm, ⟨4, _⟩ => ⟨S1x1024x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S4096x256, .bf16⟩
  | .local _ .vmem, ⟨6, _⟩ => ⟨S4096x1024, .bf16⟩
  | .local _ .vmem, ⟨7, _⟩ => ⟨S1x256x1024, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg0 c3_i32
  let c0_i32 : BitVec 32 := 0#32
  let v1 : BitVec 32 := Scalar.addi arg1 c0_i32
  let c0_i32_0 : BitVec 32 := 0#32
  let c0_i32_1 : BitVec 32 := 0#32
  ![c0_i32_0.toNat, v0.toNat, v1.toNat]

abbrev stage1_0 : Fin 1 → Memref sig .tc .vmem S4096x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S1x256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]
-- ==== MixoutDwRefIdeal.lean ====
abbrev S4096x768 : Shape := ⟨2, ![4096, 768]⟩
abbrev S4096x256 : Shape := ⟨2, ![4096, 256]⟩
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x256, .bf16⟩
  | .hbm, ⟨2, _⟩ => ⟨S4096x1024, .bf16⟩
  | .hbm, ⟨3, _⟩ => ⟨S_, .f32⟩
  | .hbm, ⟨4, _⟩ => ⟨S1024x1024, .f32⟩
  | .hbm, ⟨5, _⟩ => ⟨S4096x768, .f32⟩
  | .hbm, ⟨6, _⟩ => ⟨S4096x256, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S1x1024x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== InADx.lean ====
abbrev S1792x1024 : Shape := ⟨2, ![1792, 1024]⟩
abbrev S4096x768 : Shape := ⟨2, ![4096, 768]⟩
abbrev S4096x256 : Shape := ⟨2, ![4096, 256]⟩
abbrev S4096x1024 : Shape := ⟨2, ![4096, 1024]⟩
abbrev S1024x768 : Shape := ⟨2, ![1024, 768]⟩
abbrev S1024x256 : Shape := ⟨2, ![1024, 256]⟩
abbrev S768x1024 : Shape := ⟨2, ![768, 1024]⟩
abbrev S256x1024 : Shape := ⟨2, ![256, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S1792x1024, .bf16⟩
  | .hbm, ⟨1, _⟩ => ⟨S4096x768, .bf16⟩
  | .hbm, ⟨2, _⟩ => ⟨S4096x768, .bf16⟩
  | .hbm, ⟨3, _⟩ => ⟨S4096x256, .bf16⟩
  | .hbm, ⟨4, _⟩ => ⟨S4096x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x256, .bf16⟩
  | .local _ .vmem, ⟨5, _⟩ => ⟨S1024x256, .bf16⟩
  | .local _ .vmem, ⟨6, _⟩ => ⟨S768x1024, .bf16⟩
  | .local _ .vmem, ⟨7, _⟩ => ⟨S768x1024, .bf16⟩
  | .local _ .vmem, ⟨8, _⟩ => ⟨S256x1024, .bf16⟩
  | .local _ .vmem, ⟨9, _⟩ => ⟨S1024x1024, .f32⟩
  | .local _ .vmem, ⟨10, _⟩ => ⟨S1024x1024, .f32⟩
  | _, _ => ⟨S1792x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  ![c1_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c6_i32 : BitVec 32 := 6#32
  let c0_i32_0 : BitVec 32 := 0#32
  ![c6_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InADxRefIdeal.lean ====
abbrev S1792x1024 : Shape := ⟨2, ![1792, 1024]⟩
abbrev S4096x768 : Shape := ⟨2, ![4096, 768]⟩
abbrev S4096x256 : Shape := ⟨2, ![4096, 256]⟩
abbrev S_ : Shape := ⟨0, ![]⟩
abbrev S4096x1024 : Shape := ⟨2, ![4096, 1024]⟩
abbrev S1024x1792 : Shape := ⟨2, ![1024, 1792]⟩
abbrev S4096x1792 : Shape := ⟨2, ![4096, 1792]⟩

abbrev nBuf : Space → Nat
  | .hbm => 24
  | .vmem => 0
  | .smem => 0
  | _ => 0

abbrev bufTy : (tb : Table) → Fin (tcTables nBuf tb) → BufTy
  | .hbm, ⟨0, _⟩ => ⟨S1792x1024, .bf16⟩
  | .hbm, ⟨1, _⟩ => ⟨S4096x768, .bf16⟩
  | .hbm, ⟨2, _⟩ => ⟨S4096x768, .bf16⟩
  | .hbm, ⟨3, _⟩ => ⟨S4096x256, .bf16⟩
  | .hbm, ⟨4, _⟩ => ⟨S_, .f32⟩
  | .hbm, ⟨5, _⟩ => ⟨S4096x1024, .f32⟩
  | .hbm, ⟨6, _⟩ => ⟨S1024x1792, .bf16⟩
  | .hbm, ⟨7, _⟩ => ⟨S1024x1792, .f32⟩
  | .hbm, ⟨8, _⟩ => ⟨S4096x1792, .f32⟩
  | .hbm, ⟨9, _⟩ => ⟨S4096x768, .f32⟩
  | .hbm, ⟨10, _⟩ => ⟨S4096x768, .f32⟩
  | .hbm, ⟨11, _⟩ => ⟨S4096x256, .f32⟩
  | .hbm, ⟨12, _⟩ => ⟨S4096x768, .f32⟩
  | .hbm, ⟨13, _⟩ => ⟨S4096x768, .f32⟩
  | .hbm, ⟨14, _⟩ => ⟨S4096x256, .f32⟩
  | .hbm, ⟨15, _⟩ => ⟨S_, .f32⟩
  | .hbm, ⟨16, _⟩ => ⟨S4096x1792, .f32⟩
  | .hbm, ⟨17, _⟩ => ⟨S_, .f32⟩
  | .hbm, ⟨18, _⟩ => ⟨S4096x1792, .f32⟩
  | .hbm, ⟨19, _⟩ => ⟨S4096x1792, .f32⟩
  | .hbm, ⟨20, _⟩ => ⟨S_, .f32⟩
  | .hbm, ⟨21, _⟩ => ⟨S4096x1792, .f32⟩
  | .hbm, ⟨22, _⟩ => ⟨S4096x1792, .f32⟩
  | .hbm, ⟨23, _⟩ => ⟨S4096x1024, .f32⟩
  | _, _ => ⟨S1792x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== InADw.lean ====
abbrev S4096x1024 : Shape := ⟨2, ![4096, 1024]⟩
abbrev S4096x768 : Shape := ⟨2, ![4096, 768]⟩
abbrev S4096x256 : Shape := ⟨2, ![4096, 256]⟩
abbrev S1x1792x1024 : Shape := ⟨3, ![1, 1792, 1024]⟩
abbrev S1x256x1024 : Shape := ⟨3, ![1, 256, 1024]⟩
abbrev S256x1024 : Shape := ⟨2, ![256, 1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S4096x768, .bf16⟩
  | .hbm, ⟨3, _⟩ => ⟨S4096x256, .bf16⟩
  | .hbm, ⟨4, _⟩ => ⟨S1x1792x1024, .bf16⟩
  | .hbm, ⟨5, _⟩ => ⟨S1x1792x1024, .bf16⟩
  | .hbm, ⟨6, _⟩ => ⟨S1x1792x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S4096x256, .bf16⟩
  | .local _ .vmem, ⟨6, _⟩ => ⟨S4096x256, .bf16⟩
  | .local _ .vmem, ⟨7, _⟩ => ⟨S4096x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S4096x256, .bf16⟩
  | .local _ .vmem, ⟨11, _⟩ => ⟨S4096x1024, .bf16⟩
  | .local _ .vmem, ⟨12, _⟩ => ⟨S1x256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![3, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg0 c3_i32
  let c0_i32 : BitVec 32 := 0#32
  let v1 : BitVec 32 := Scalar.addi arg1 c0_i32
  let c0_i32_0 : BitVec 32 := 0#32
  let c0_i32_1 : BitVec 32 := 0#32
  ![c0_i32_0.toNat, v0.toNat, v1.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg0 c6_i32
  let c0_i32 : BitVec 32 := 0#32
  let v1 : BitVec 32 := Scalar.addi arg1 c0_i32
  let c0_i32_0 : BitVec 32 := 0#32
  let c0_i32_1 : BitVec 32 := 0#32
  ![c0_i32_0.toNat, v0.toNat, v1.toNat]

abbrev stage2_0 : Fin 1 → Memref sig .tc .vmem S4096x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S1x256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]
-- ==== InADwRefIdeal.lean ====
abbrev S4096x1024 : Shape := ⟨2, ![4096, 1024]⟩
abbrev S4096x768 : Shape := ⟨2, ![4096, 768]⟩
abbrev S4096x256 : Shape := ⟨2, ![4096, 256]⟩
abbrev S_ : Shape := ⟨0, ![]⟩
abbrev S1024x1792 : Shape := ⟨2, ![1024, 1792]⟩
abbrev S4096x1792 : Shape := ⟨2, ![4096, 1792]⟩
abbrev S1792x1024 : Shape := ⟨2, ![1792, 1024]⟩
abbrev S1x1792x1024 : Shape := ⟨3, ![1, 1792, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S4096x768, .bf16⟩
  | .hbm, ⟨3, _⟩ => ⟨S4096x256, .bf16⟩
  | .hbm, ⟨4, _⟩ => ⟨S_, .f32⟩
  | .hbm, ⟨5, _⟩ => ⟨S1024x1792, .f32⟩
  | .hbm, ⟨6, _⟩ => ⟨S4096x1024, .f32⟩
  | .hbm, ⟨7, _⟩ => ⟨S4096x1792, .f32⟩
  | .hbm, ⟨8, _⟩ => ⟨S4096x768, .f32⟩
  | .hbm, ⟨9, _⟩ => ⟨S4096x768, .f32⟩
  | .hbm, ⟨10, _⟩ => ⟨S4096x256, .f32⟩
  | .hbm, ⟨11, _⟩ => ⟨S4096x768, .f32⟩
  | .hbm, ⟨12, _⟩ => ⟨S4096x768, .f32⟩
  | .hbm, ⟨13, _⟩ => ⟨S4096x256, .f32⟩
  | .hbm, ⟨14, _⟩ => ⟨S_, .f32⟩
  | .hbm, ⟨15, _⟩ => ⟨S4096x1792, .f32⟩
  | .hbm, ⟨16, _⟩ => ⟨S_, .f32⟩
  | .hbm, ⟨17, _⟩ => ⟨S4096x1792, .f32⟩
  | .hbm, ⟨18, _⟩ => ⟨S4096x1792, .f32⟩
  | .hbm, ⟨19, _⟩ => ⟨S_, .f32⟩
  | .hbm, ⟨20, _⟩ => ⟨S4096x1792, .f32⟩
  | .hbm, ⟨21, _⟩ => ⟨S4096x1792, .f32⟩
  | .hbm, ⟨22, _⟩ => ⟨S1792x1024, .f32⟩
  | .hbm, ⟨23, _⟩ => ⟨S1024x1792, .f32⟩
  | .hbm, ⟨24, _⟩ => ⟨S1792x1024, .f32⟩
  | .hbm, ⟨25, _⟩ => ⟨S1792x1024, .bf16⟩
  | .hbm, ⟨26, _⟩ => ⟨S1x1792x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== InBDx.lean ====
abbrev S1024x1024 : Shape := ⟨2, ![1024, 1024]⟩
abbrev S4096x768 : Shape := ⟨2, ![4096, 768]⟩
abbrev S4096x256 : Shape := ⟨2, ![4096, 256]⟩
abbrev S4096x1024 : Shape := ⟨2, ![4096, 1024]⟩
abbrev S1024x768 : Shape := ⟨2, ![1024, 768]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S1024x1024, .bf16⟩
  | .hbm, ⟨1, _⟩ => ⟨S4096x768, .bf16⟩
  | .hbm, ⟨2, _⟩ => ⟨S4096x256, .bf16⟩
  | .hbm, ⟨3, _⟩ => ⟨S4096x1024, .f32⟩
  | .local _ .vmem, ⟨0, _⟩ => ⟨S1024x768, .bf16⟩
  | .local _ .vmem, ⟨1, _⟩ => ⟨S1024x768, .bf16⟩
  | .local _ .vmem, ⟨2, _⟩ => ⟨S1024x256, .bf16⟩
  | .local _ .vmem, ⟨3, _⟩ => ⟨S1024x256, .bf16⟩
  | .local _ .vmem, ⟨4, _⟩ => ⟨S1024x768, .bf16⟩
  | .local _ .vmem, ⟨5, _⟩ => ⟨S1024x256, .bf16⟩
  | .local _ .vmem, ⟨6, _⟩ => ⟨S1024x1024, .f32⟩
  | .local _ .vmem, ⟨7, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c3_i32 : BitVec 32 := 3#32
  let c0_i32_0 : BitVec 32 := 0#32
  ![v0.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InBDxRefIdeal.lean ====
abbrev S1024x1024 : Shape := ⟨2, ![1024, 1024]⟩
abbrev S4096x768 : Shape := ⟨2, ![4096, 768]⟩
abbrev S4096x256 : Shape := ⟨2, ![4096, 256]⟩
abbrev S_ : Shape := ⟨0, ![]⟩
abbrev S4096x1024 : Shape := ⟨2, ![4096, 1024]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S4096x768, .bf16⟩
  | .hbm, ⟨2, _⟩ => ⟨S4096x256, .bf16⟩
  | .hbm, ⟨3, _⟩ => ⟨S_, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x768, .f32⟩
  | .hbm, ⟨8, _⟩ => ⟨S4096x256, .f32⟩
  | .hbm, ⟨9, _⟩ => ⟨S4096x768, .f32⟩
  | .hbm, ⟨10, _⟩ => ⟨S4096x256, .f32⟩
  | .hbm, ⟨11, _⟩ => ⟨S_, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== InBDw.lean ====
abbrev S4096x1024 : Shape := ⟨2, ![4096, 1024]⟩
abbrev S4096x768 : Shape := ⟨2, ![4096, 768]⟩
abbrev S4096x256 : Shape := ⟨2, ![4096, 256]⟩
abbrev S1x1024x1024 : Shape := ⟨3, ![1, 1024, 1024]⟩
abbrev S1x1024x768 : Shape := ⟨3, ![1, 1024, 768]⟩
abbrev S1024x768 : Shape := ⟨2, ![1024, 768]⟩
abbrev S1x1024x256 : Shape := ⟨3, ![1, 1024, 256]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S4096x256, .bf16⟩
  | .hbm, ⟨3, _⟩ => ⟨S1x1024x1024, .bf16⟩
  | .hbm, ⟨4, _⟩ => ⟨S1x1024x1024, .bf16⟩
  | .local _ .vmem, ⟨0, _⟩ => ⟨S4096x1024, .bf16⟩
  | .local _ .vmem, ⟨1, _⟩ => ⟨S4096x768, .bf16⟩
  | .local _ .vmem, ⟨2, _⟩ => ⟨S1x1024x768, .bf16⟩
  | .local _ .vmem, ⟨3, _⟩ => ⟨S4096x1024, .bf16⟩
  | .local _ .vmem, ⟨4, _⟩ => ⟨S4096x256, .bf16⟩
  | .local _ .vmem, ⟨5, _⟩ => ⟨S1x1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev grid1 : Pipeline.Grid := ⟨3, ![1, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c3_i32 : BitVec 32 := 3#32
  let v1 : BitVec 32 := Scalar.addi arg1 c3_i32
  let c0_i32_0 : BitVec 32 := 0#32
  let c0_i32_1 : BitVec 32 := 0#32
  ![c0_i32_0.toNat, v0.toNat, v1.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S1x1024x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]
-- ==== InBDwRefIdeal.lean ====
abbrev S4096x1024 : Shape := ⟨2, ![4096, 1024]⟩
abbrev S4096x768 : Shape := ⟨2, ![4096, 768]⟩
abbrev S4096x256 : Shape := ⟨2, ![4096, 256]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S4096x256, .bf16⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x768, .f32⟩
  | .hbm, ⟨8, _⟩ => ⟨S4096x256, .f32⟩
  | .hbm, ⟨9, _⟩ => ⟨S4096x768, .f32⟩
  | .hbm, ⟨10, _⟩ => ⟨S4096x256, .f32⟩
  | .hbm, ⟨11, _⟩ => ⟨S_, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Gates.lean ====
abbrev S4096x768 : Shape := ⟨2, ![4096, 768]⟩
abbrev S768x1536 : Shape := ⟨2, ![768, 1536]⟩
abbrev S768x768 : Shape := ⟨2, ![768, 768]⟩
abbrev S4096x256 : Shape := ⟨2, ![4096, 256]⟩
abbrev S256x768 : Shape := ⟨2, ![256, 768]⟩
abbrev S1024x768 : Shape := ⟨2, ![1024, 768]⟩

abbrev nBuf : Space → Nat
  | .hbm => 8
  | .vmem => 20
  | .smem => 0
  | _ => 0

abbrev bufTy : (tb : Table) → Fin (tcTables nBuf tb) → BufTy
  | .hbm, ⟨0, _⟩ => ⟨S4096x768, .f32⟩
  | .hbm, ⟨1, _⟩ => ⟨S768x1536, .bf16⟩
  | .hbm, ⟨2, _⟩ => ⟨S4096x768, .bf16⟩
  | .hbm, ⟨3, _⟩ => ⟨S4096x768, .bf16⟩
  | .hbm, ⟨4, _⟩ => ⟨S4096x768, .f32⟩
  | .hbm, ⟨5, _⟩ => ⟨S768x768, .f32⟩
  | .hbm, ⟨6, _⟩ => ⟨S768x768, .f32⟩
  | .hbm, ⟨7, _⟩ => ⟨S4096x768, .f32⟩
  | .local _ .vmem, ⟨0, _⟩ => ⟨S4096x256, .f32⟩
  | .local _ .vmem, ⟨1, _⟩ => ⟨S4096x256, .f32⟩
  | .local _ .vmem, ⟨2, _⟩ => ⟨S4096x768, .bf16⟩
  | .local _ .vmem, ⟨3, _⟩ => ⟨S256x768, .f32⟩
  | .local _ .vmem, ⟨4, _⟩ => ⟨S256x768, .f32⟩
  | .local _ .vmem, ⟨5, _⟩ => ⟨S4096x256, .f32⟩
  | .local _ .vmem, ⟨6, _⟩ => ⟨S4096x256, .f32⟩
  | .local _ .vmem, ⟨7, _⟩ => ⟨S4096x768, .bf16⟩
  | .local _ .vmem, ⟨8, _⟩ => ⟨S256x768, .f32⟩
  | .local _ .vmem, ⟨9, _⟩ => ⟨S256x768, .f32⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | .local _ .vmem, ⟨13, _⟩ => ⟨S1024x768, .bf16⟩
  | .local _ .vmem, ⟨14, _⟩ => ⟨S768x768, .bf16⟩
  | .local _ .vmem, ⟨15, _⟩ => ⟨S768x768, .bf16⟩
  | .local _ .vmem, ⟨16, _⟩ => ⟨S1024x768, .f32⟩
  | .local _ .vmem, ⟨17, _⟩ => ⟨S1024x768, .f32⟩
  | .local _ .vmem, ⟨18, _⟩ => ⟨S1024x768, .f32⟩
  | .local _ .vmem, ⟨19, _⟩ => ⟨S1024x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![3, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S256x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  ![v0.toNat, c1_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S768x768 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 1 → Memref sig .tc .vmem S768x768 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true]

abbrev stage2_4 : Fin 2 → Memref sig .tc .vmem S1024x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== GatesRefIdeal.lean ====
abbrev S4096x768 : Shape := ⟨2, ![4096, 768]⟩
abbrev S768x1536 : Shape := ⟨2, ![768, 1536]⟩
abbrev S768x768 : Shape := ⟨2, ![768, 768]⟩

abbrev nBuf : Space → Nat
  | .hbm => 20
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x1536, .bf16⟩
  | .hbm, ⟨2, _⟩ => ⟨S4096x768, .bf16⟩
  | .hbm, ⟨3, _⟩ => ⟨S4096x768, .bf16⟩
  | .hbm, ⟨4, _⟩ => ⟨S4096x768, .f32⟩
  | .hbm, ⟨5, _⟩ => ⟨S768x1536, .f32⟩
  | .hbm, ⟨6, _⟩ => ⟨S768x768, .f32⟩
  | .hbm, ⟨7, _⟩ => ⟨S768x768, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S4096x768, .f32⟩
  | .hbm, ⟨12, _⟩ => ⟨S768x768, .f32⟩
  | .hbm, ⟨13, _⟩ => ⟨S768x768, .f32⟩
  | .hbm, ⟨14, _⟩ => ⟨S4096x768, .f32⟩
  | .hbm, ⟨15, _⟩ => ⟨S4096x768, .f32⟩
  | .hbm, ⟨16, _⟩ => ⟨S768x768, .f32⟩
  | .hbm, ⟨17, _⟩ => ⟨S768x768, .f32⟩
  | .hbm, ⟨18, _⟩ => ⟨S4096x768, .f32⟩
  | .hbm, ⟨19, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kv.lean ====
abbrev S4096x1024 : Shape := ⟨2, ![4096, 1024]⟩
abbrev S1024x512 : Shape := ⟨2, ![1024, 512]⟩
abbrev S4096x512 : Shape := ⟨2, ![4096, 512]⟩
abbrev S1x1024x512 : Shape := ⟨3, ![1, 1024, 512]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .bf16⟩
  | .hbm, ⟨3, _⟩ => ⟨S1x1024x512, .bf16⟩
  | .hbm, ⟨4, _⟩ => ⟨S4096x1024, .f32⟩
  | .local _ .vmem, ⟨0, _⟩ => ⟨S4096x1024, .bf16⟩
  | .local _ .vmem, ⟨1, _⟩ => ⟨S4096x512, .bf16⟩
  | .local _ .vmem, ⟨2, _⟩ => ⟨S1x1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .f32⟩
  | .local _ .vmem, ⟨7, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== KvRefIdeal.lean ====
abbrev S4096x1024 : Shape := ⟨2, ![4096, 1024]⟩
abbrev S1024x512 : Shape := ⟨2, ![1024, 512]⟩
abbrev S4096x512 : Shape := ⟨2, ![4096, 512]⟩
abbrev S512x1024 : Shape := ⟨2, ![512, 1024]⟩
abbrev S1x1024x512 : Shape := ⟨3, ![1, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .bf16⟩
  | .hbm, ⟨3, _⟩ => ⟨S4096x1024, .f32⟩
  | .hbm, ⟨4, _⟩ => ⟨S1024x512, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S4096x1024, .f32⟩
  | .hbm, ⟨10, _⟩ => ⟨S1024x512, .bf16⟩
  | .hbm, ⟨11, _⟩ => ⟨S1x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Memkv.lean ====
abbrev S512x1024 : Shape := ⟨2, ![512, 1024]⟩
abbrev S1024x512 : Shape := ⟨2, ![1024, 512]⟩
abbrev S512x512 : Shape := ⟨2, ![512, 512]⟩
abbrev S1x1024x512 : Shape := ⟨3, ![1, 1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .hbm, ⟨2, _⟩ => ⟨S512x512, .f32⟩
  | .hbm, ⟨3, _⟩ => ⟨S1x1024x512, .bf16⟩
  | .hbm, ⟨4, _⟩ => ⟨S512x1024, .f32⟩
  | .local _ .vmem, ⟨0, _⟩ => ⟨S512x1024, .bf16⟩
  | .local _ .vmem, ⟨1, _⟩ => ⟨S512x512, .f32⟩
  | .local _ .vmem, ⟨2, _⟩ => ⟨S1x1024x512, .bf16⟩
  | .local _ .vmem, ⟨3, _⟩ => ⟨S512x512, .f32⟩
  | .local _ .vmem, ⟨4, _⟩ => ⟨S1024x512, .bf16⟩
  | .local _ .vmem, ⟨5, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev grid1 : Pipeline.Grid := ⟨3, ![1, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S512x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]
-- ==== MemkvRefIdeal.lean ====
abbrev S512x1024 : Shape := ⟨2, ![512, 1024]⟩
abbrev S1024x512 : Shape := ⟨2, ![1024, 512]⟩
abbrev S512x512 : Shape := ⟨2, ![512, 512]⟩
abbrev S1x1024x512 : Shape := ⟨3, ![1, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .hbm, ⟨2, _⟩ => ⟨S512x512, .f32⟩
  | .hbm, ⟨3, _⟩ => ⟨S512x1024, .f32⟩
  | .hbm, ⟨4, _⟩ => ⟨S1024x512, .f32⟩
  | .hbm, ⟨5, _⟩ => ⟨S512x512, .f32⟩
  | .hbm, ⟨6, _⟩ => ⟨S512x1024, .f32⟩
  | .hbm, ⟨7, _⟩ => ⟨S1024x512, .f32⟩
  | .hbm, ⟨8, _⟩ => ⟨S512x1024, .f32⟩
  | .hbm, ⟨9, _⟩ => ⟨S1024x512, .bf16⟩
  | .hbm, ⟨10, _⟩ => ⟨S1x1024x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Up.lean ====
abbrev S4096x1024 : Shape := ⟨2, ![4096, 1024]⟩
abbrev S5632x1024 : Shape := ⟨2, ![5632, 1024]⟩
abbrev S4096x5632 : Shape := ⟨2, ![4096, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S1024x5632, .bf16⟩
  | .hbm, ⟨4, _⟩ => ⟨S1024x5632, .f32⟩
  | .hbm, ⟨5, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mixout.lean ====
abbrev S4096x768 : Shape := ⟨2, ![4096, 768]⟩
abbrev S4096x256 : Shape := ⟨2, ![4096, 256]⟩
abbrev S1024x1024 : Shape := ⟨2, ![1024, 1024]⟩
abbrev S4096x1024 : Shape := ⟨2, ![4096, 1024]⟩
abbrev S1024x768 : Shape := ⟨2, ![1024, 768]⟩
abbrev S1024x256 : Shape := ⟨2, ![1024, 256]⟩
abbrev S768x1024 : Shape := ⟨2, ![768, 1024]⟩
abbrev S256x1024 : Shape := ⟨2, ![256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x768, .bf16⟩
  | .hbm, ⟨1, _⟩ => ⟨S4096x256, .bf16⟩
  | .hbm, ⟨2, _⟩ => ⟨S1024x1024, .bf16⟩
  | .hbm, ⟨3, _⟩ => ⟨S4096x1024, .f32⟩
  | .local _ .vmem, ⟨0, _⟩ => ⟨S1024x768, .bf16⟩
  | .local _ .vmem, ⟨1, _⟩ => ⟨S1024x768, .bf16⟩
  | .local _ .vmem, ⟨2, _⟩ => ⟨S1024x256, .bf16⟩
  | .local _ .vmem, ⟨3, _⟩ => ⟨S1024x256, .bf16⟩
  | .local _ .vmem, ⟨4, _⟩ => ⟨S768x1024, .bf16⟩
  | .local _ .vmem, ⟨5, _⟩ => ⟨S256x1024, .bf16⟩
  | .local _ .vmem, ⟨6, _⟩ => ⟨S1024x1024, .f32⟩
  | .local _ .vmem, ⟨7, _⟩ => ⟨S1024x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c3_i32 : BitVec 32 := 3#32
  let c0_i32_0 : BitVec 32 := 0#32
  ![c3_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixoutRefIdeal.lean ====
abbrev S4096x768 : Shape := ⟨2, ![4096, 768]⟩
abbrev S4096x256 : Shape := ⟨2, ![4096, 256]⟩
abbrev S1024x1024 : Shape := ⟨2, ![1024, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x256, .bf16⟩
  | .hbm, ⟨2, _⟩ => ⟨S1024x1024, .bf16⟩
  | .hbm, ⟨3, _⟩ => ⟨S4096x768, .f32⟩
  | .hbm, ⟨4, _⟩ => ⟨S4096x256, .f32⟩
  | .hbm, ⟨5, _⟩ => ⟨S1024x1024, .f32⟩
  | .hbm, ⟨6, _⟩ => ⟨S4096x1024, .f32⟩
  | .hbm, ⟨7, _⟩ => ⟨S4096x1024, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InA.lean ====
abbrev S4096x1024 : Shape := ⟨2, ![4096, 1024]⟩
abbrev S1792x1024 : Shape := ⟨2, ![1792, 1024]⟩
abbrev S4096x1792 : Shape := ⟨2, ![4096, 1792]⟩
abbrev S1024x1024 : Shape := ⟨2, ![1024, 1024]⟩
abbrev S896x1024 : Shape := ⟨2, ![896, 1024]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1792x1024, .bf16⟩
  | .hbm, ⟨2, _⟩ => ⟨S4096x1792, .f32⟩
  | .local _ .vmem, ⟨0, _⟩ => ⟨S1024x1024, .bf16⟩
  | .local _ .vmem, ⟨1, _⟩ => ⟨S1024x1024, .bf16⟩
  | .local _ .vmem, ⟨2, _⟩ => ⟨S896x1024, .bf16⟩
  | .local _ .vmem, ⟨3, _⟩ => ⟨S896x1024, .bf16⟩
  | .local _ .vmem, ⟨4, _⟩ => ⟨S1024x896, .f32⟩
  | .local _ .vmem, ⟨5, _⟩ => ⟨S1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InARefIdeal.lean ====
abbrev S4096x1024 : Shape := ⟨2, ![4096, 1024]⟩
abbrev S1792x1024 : Shape := ⟨2, ![1792, 1024]⟩
abbrev S1024x1792 : Shape := ⟨2, ![1024, 1792]⟩
abbrev S4096x1792 : Shape := ⟨2, ![4096, 1792]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1792x1024, .bf16⟩
  | .hbm, ⟨2, _⟩ => ⟨S4096x1024, .f32⟩
  | .hbm, ⟨3, _⟩ => ⟨S1024x1792, .bf16⟩
  | .hbm, ⟨4, _⟩ => ⟨S1024x1792, .f32⟩
  | .hbm, ⟨5, _⟩ => ⟨S4096x1792, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InB.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GatesFwd.lean ====
abbrev S4096x768 : Shape := ⟨2, ![4096, 768]⟩
abbrev S768x1536 : Shape := ⟨2, ![768, 1536]⟩
abbrev S4096x1536 : Shape := ⟨2, ![4096, 1536]⟩
abbrev S1024x768 : Shape := ⟨2, ![1024, 768]⟩
abbrev S768x768 : Shape := ⟨2, ![768, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x768, .f32⟩
  | .hbm, ⟨1, _⟩ => ⟨S768x1536, .bf16⟩
  | .hbm, ⟨2, _⟩ => ⟨S4096x1536, .f32⟩
  | .local _ .vmem, ⟨0, _⟩ => ⟨S1024x768, .f32⟩
  | .local _ .vmem, ⟨1, _⟩ => ⟨S1024x768, .f32⟩
  | .local _ .vmem, ⟨2, _⟩ => ⟨S768x768, .bf16⟩
  | .local _ .vmem, ⟨3, _⟩ => ⟨S768x768, .bf16⟩
  | .local _ .vmem, ⟨4, _⟩ => ⟨S1024x768, .f32⟩
  | .local _ .vmem, ⟨5, _⟩ => ⟨S1024x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesFwdRefIdeal.lean ====
abbrev S4096x768 : Shape := ⟨2, ![4096, 768]⟩
abbrev S768x1536 : Shape := ⟨2, ![768, 1536]⟩
abbrev S768x768 : Shape := ⟨2, ![768, 768]⟩
abbrev S4096x1536 : Shape := ⟨2, ![4096, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x1536, .bf16⟩
  | .hbm, ⟨2, _⟩ => ⟨S768x1536, .f32⟩
  | .hbm, ⟨3, _⟩ => ⟨S768x768, .f32⟩
  | .hbm, ⟨4, _⟩ => ⟨S4096x768, .f32⟩
  | .hbm, ⟨5, _⟩ => ⟨S768x768, .f32⟩
  | .hbm, ⟨6, _⟩ => ⟨S4096x768, .f32⟩
  | .hbm, ⟨7, _⟩ => ⟨S4096x1536, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KvFwd.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvFwdRefIdeal.lean ====
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x1024, .f32⟩
  | .hbm, ⟨3, _⟩ => ⟨S1024x512, .f32⟩
  | .hbm, ⟨4, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemkvFwd.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .hbm, ⟨2, _⟩ => ⟨S512x512, .f32⟩
  | .local _ .vmem, ⟨0, _⟩ => ⟨S512x1024, .bf16⟩
  | .local _ .vmem, ⟨1, _⟩ => ⟨S1024x512, .bf16⟩
  | .local _ .vmem, ⟨2, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemkvFwdRefIdeal.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .hbm, ⟨2, _⟩ => ⟨S512x1024, .f32⟩
  | .hbm, ⟨3, _⟩ => ⟨S1024x512, .f32⟩
  | .hbm, ⟨4, _⟩ => ⟨S512x512, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Conv.lean ====
abbrev S2x2048x768 : Shape := ⟨3, ![2, 2048, 768]⟩
abbrev S2x2048x1792 : Shape := ⟨3, ![2, 2048, 1792]⟩
abbrev S4x768 : Shape := ⟨2, ![4, 768]⟩
abbrev S1x768 : Shape := ⟨2, ![1, 768]⟩
abbrev S1x2048x128 : Shape := ⟨3, ![1, 2048, 128]⟩
abbrev S4x128 : Shape := ⟨2, ![4, 128]⟩
abbrev S1x128 : Shape := ⟨2, ![1, 128]⟩
abbrev S2048x128 : Shape := ⟨2, ![2048, 128]⟩
abbrev S16x128 : Shape := ⟨2, ![16, 128]⟩
abbrev S2032x128 : Shape := ⟨2, ![2032, 128]⟩
abbrev S128 : Shape := ⟨1, ![128]⟩

abbrev nBuf : Space → Nat
  | .hbm => 6
  | .vmem => 12
  | .smem => 0
  | _ => 0

abbrev bufTy : (tb : Table) → Fin (tcTables nBuf tb) → BufTy
  | .hbm, ⟨0, _⟩ => ⟨S2x2048x768, .f32⟩
  | .hbm, ⟨1, _⟩ => ⟨S2x2048x1792, .f32⟩
  | .hbm, ⟨2, _⟩ => ⟨S4x768, .f32⟩
  | .hbm, ⟨3, _⟩ => ⟨S2x2048x768, .bf16⟩
  | .hbm, ⟨4, _⟩ => ⟨S4x768, .f32⟩
  | .hbm, ⟨5, _⟩ => ⟨S1x768, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S4x128, .f32⟩
  | .local _ .vmem, ⟨5, _⟩ => ⟨S4x128, .f32⟩
  | .local _ .vmem, ⟨6, _⟩ => ⟨S1x2048x128, .bf16⟩
  | .local _ .vmem, ⟨7, _⟩ => ⟨S1x2048x128, .bf16⟩
  | .local _ .vmem, ⟨8, _⟩ => ⟨S4x128, .f32⟩
  | .local _ .vmem, ⟨9, _⟩ => ⟨S4x128, .f32⟩
  | .local _ .vmem, ⟨10, _⟩ => ⟨S1x128, .f32⟩
  | .local _ .vmem, ⟨11, _⟩ => ⟨S1x128, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![arg1.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![arg1.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ConvRefIdeal.lean ====
abbrev S2x2048x768 : Shape := ⟨3, ![2, 2048, 768]⟩
abbrev S2x2048x1792 : Shape := ⟨3, ![2, 2048, 1792]⟩
abbrev S4x768 : Shape := ⟨2, ![4, 768]⟩
abbrev S_ : Shape := ⟨0, ![]⟩
abbrev S1x768 : Shape := ⟨2, ![1, 768]⟩
abbrev S2x3x768 : Shape := ⟨3, ![2, 3, 768]⟩
abbrev S2x2051x768 : Shape := ⟨3, ![2, 2051, 768]⟩
abbrev S1x1x768 : Shape := ⟨3, ![1, 1, 768]⟩
abbrev S768 : Shape := ⟨1, ![768]⟩

abbrev nBuf : Space → Nat
  | .hbm => 105
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x1792, .f32⟩
  | .hbm, ⟨2, _⟩ => ⟨S4x768, .f32⟩
  | .hbm, ⟨3, _⟩ => ⟨S2x2048x768, .f32⟩
  | .hbm, ⟨4, _⟩ => ⟨S_, .f32⟩
  | .hbm, ⟨5, _⟩ => ⟨S1x768, .f32⟩
  | .hbm, ⟨6, _⟩ => ⟨S_, .f32⟩
  | .hbm, ⟨7, _⟩ => ⟨S2x3x768, .f32⟩
  | .hbm, ⟨8, _⟩ => ⟨S2x2051x768, .f32⟩
  | .hbm, ⟨9, _⟩ => ⟨S_, .f32⟩
  | .hbm, ⟨10, _⟩ => ⟨S2x3x768, .f32⟩
  | .hbm, ⟨11, _⟩ => ⟨S1x768, .f32⟩
  | .hbm, ⟨12, _⟩ => ⟨S2x2048x768, .f32⟩
  | .hbm, ⟨13, _⟩ => ⟨S1x1x768, .f32⟩
  | .hbm, ⟨14, _⟩ => ⟨S2x2048x768, .f32⟩
  | .hbm, ⟨15, _⟩ => ⟨S2x2048x768, .f32⟩
  | .hbm, ⟨16, _⟩ => ⟨S1x768, .f32⟩
  | .hbm, ⟨17, _⟩ => ⟨S2x2048x768, .f32⟩
  | .hbm, ⟨18, _⟩ => ⟨S1x1x768, .f32⟩
  | .hbm, ⟨19, _⟩ => ⟨S2x2048x768, .f32⟩
  | .hbm, ⟨20, _⟩ => ⟨S2x2048x768, .f32⟩
  | .hbm, ⟨21, _⟩ => ⟨S2x2048x768, .f32⟩
  | .hbm, ⟨22, _⟩ => ⟨S1x768, .f32⟩
  | .hbm, ⟨23, _⟩ => ⟨S2x2048x768, .f32⟩
  | .hbm, ⟨24, _⟩ => ⟨S1x1x768, .f32⟩
  | .hbm, ⟨25, _⟩ => ⟨S2x2048x768, .f32⟩
  | .hbm, ⟨26, _⟩ => ⟨S2x2048x768, .f32⟩
  | .hbm, ⟨27, _⟩ => ⟨S2x2048x768, .f32⟩
  | .hbm, ⟨28, _⟩ => ⟨S1x768, .f32⟩
  | .hbm, ⟨29, _⟩ => ⟨S2x2048x768, .f32⟩
  | .hbm, ⟨30, _⟩ => ⟨S1x1x768, .f32⟩
  | .hbm, ⟨31, _⟩ => ⟨S2x2048x768, .f32⟩
  | .hbm, ⟨32, _⟩ => ⟨S2x2048x768, .f32⟩
  | .hbm, ⟨33, _⟩ => ⟨S2x2048x768, .f32⟩
  | .hbm, ⟨34, _⟩ => ⟨S1x1x768, .f32⟩
  | .hbm, ⟨35, _⟩ => ⟨S2x2048x768, .f32⟩
  | .hbm, ⟨36, _⟩ => ⟨S2x2048x768, .f32⟩
  | .hbm, ⟨37, _⟩ => ⟨S2x2048x768, .f32⟩
  | .hbm, ⟨38, _⟩ => ⟨S_, .f32⟩
  | .hbm, ⟨39, _⟩ => ⟨S768, .f32⟩
  | .hbm, ⟨40, _⟩ => ⟨S1x1x768, .f32⟩
  | .hbm, ⟨41, _⟩ => ⟨S_, .f32⟩
  | .hbm, ⟨42, _⟩ => ⟨S768, .f32⟩
  | .hbm, ⟨43, _⟩ => ⟨S1x768, .f32⟩
  | .hbm, ⟨44, _⟩ => ⟨S2x2048x768, .f32⟩
  | .hbm, ⟨45, _⟩ => ⟨S2x2048x768, .f32⟩
  | .hbm, ⟨46, _⟩ => ⟨S2x2048x768, .f32⟩
  | .hbm, ⟨47, _⟩ => ⟨S_, .f32⟩
  | .hbm, ⟨48, _⟩ => ⟨S768, .f32⟩
  | .hbm, ⟨49, _⟩ => ⟨S1x1x768, .f32⟩
  | .hbm, ⟨50, _⟩ => ⟨S_, .f32⟩
  | .hbm, ⟨51, _⟩ => ⟨S768, .f32⟩
  | .hbm, ⟨52, _⟩ => ⟨S1x768, .f32⟩
  | .hbm, ⟨53, _⟩ => ⟨S_, .f32⟩
  | .hbm, ⟨54, _⟩ => ⟨S2x2051x768, .f32⟩
  | .hbm, ⟨55, _⟩ => ⟨S_, .f32⟩
  | .hbm, ⟨56, _⟩ => ⟨S4x768, .f32⟩
  | .hbm, ⟨57, _⟩ => ⟨S2x2048x768, .f32⟩
  | .hbm, ⟨58, _⟩ => ⟨S2x2048x768, .f32⟩
  | .hbm, ⟨59, _⟩ => ⟨S2x2048x768, .f32⟩
  | .hbm, ⟨60, _⟩ => ⟨S_, .f32⟩
  | .hbm, ⟨61, _⟩ => ⟨S768, .f32⟩
  | .hbm, ⟨62, _⟩ => ⟨S1x1x768, .f32⟩
  | .hbm, ⟨63, _⟩ => ⟨S_, .f32⟩
  | .hbm, ⟨64, _⟩ => ⟨S768, .f32⟩
  | .hbm, ⟨65, _⟩ => ⟨S1x768, .f32⟩
  | .hbm, ⟨66, _⟩ => ⟨S_, .f32⟩
  | .hbm, ⟨67, _⟩ => ⟨S2x2051x768, .f32⟩
  | .hbm, ⟨68, _⟩ => ⟨S2x2051x768, .f32⟩
  | .hbm, ⟨69, _⟩ => ⟨S_, .f32⟩
  | .hbm, ⟨70, _⟩ => ⟨S4x768, .f32⟩
  | .hbm, ⟨71, _⟩ => ⟨S4x768, .f32⟩
  | .hbm, ⟨72, _⟩ => ⟨S2x2048x768, .f32⟩
  | .hbm, ⟨73, _⟩ => ⟨S2x2048x768, .f32⟩
  | .hbm, ⟨74, _⟩ => ⟨S2x2048x768, .f32⟩
  | .hbm, ⟨75, _⟩ => ⟨S_, .f32⟩
  | .hbm, ⟨76, _⟩ => ⟨S768, .f32⟩
  | .hbm, ⟨77, _⟩ => ⟨S1x1x768, .f32⟩
  | .hbm, ⟨78, _⟩ => ⟨S_, .f32⟩
  | .hbm, ⟨79, _⟩ => ⟨S768, .f32⟩
  | .hbm, ⟨80, _⟩ => ⟨S1x768, .f32⟩
  | .hbm, ⟨81, _⟩ => ⟨S_, .f32⟩
  | .hbm, ⟨82, _⟩ => ⟨S2x2051x768, .f32⟩
  | .hbm, ⟨83, _⟩ => ⟨S2x2051x768, .f32⟩
  | .hbm, ⟨84, _⟩ => ⟨S_, .f32⟩
  | .hbm, ⟨85, _⟩ => ⟨S4x768, .f32⟩
  | .hbm, ⟨86, _⟩ => ⟨S4x768, .f32⟩
  | .hbm, ⟨87, _⟩ => ⟨S2x2048x768, .f32⟩
  | .hbm, ⟨88, _⟩ => ⟨S2x2048x768, .f32⟩
  | .hbm, ⟨89, _⟩ => ⟨S2x2048x768, .f32⟩
  | .hbm, ⟨90, _⟩ => ⟨S_, .f32⟩
  | .hbm, ⟨91, _⟩ => ⟨S768, .f32⟩
  | .hbm, ⟨92, _⟩ => ⟨S1x1x768, .f32⟩
  | .hbm, ⟨93, _⟩ => ⟨S_, .f32⟩
  | .hbm, ⟨94, _⟩ => ⟨S768, .f32⟩
  | .hbm, ⟨95, _⟩ => ⟨S1x768, .f32⟩
  | .hbm, ⟨96, _⟩ => ⟨S_, .f32⟩
  | .hbm, ⟨97, _⟩ => ⟨S2x2051x768, .f32⟩
  | .hbm, ⟨98, _⟩ => ⟨S2x2051x768, .f32⟩
  | .hbm, ⟨99, _⟩ => ⟨S_, .f32⟩
  | .hbm, ⟨100, _⟩ => ⟨S4x768, .f32⟩
  | .hbm, ⟨101, _⟩ => ⟨S4x768, .f32⟩
  | .hbm, ⟨102, _⟩ => ⟨S2x3x768, .f32⟩
  | .hbm, ⟨103, _⟩ => ⟨S2x2048x768, .f32⟩
  | .hbm, ⟨104, _⟩ => ⟨S2x2048x768, .bf16⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_cst_14 : Ref sig .tc := ⟨.hbm, 81, rfl⟩
abbrev main_v63 : Ref sig .tc := ⟨.hbm, 82, rfl⟩
abbrev main_v64 : Ref sig .tc := ⟨.hbm, 83, rfl⟩
abbrev main_cst_15 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_16 : Ref sig .tc := ⟨.hbm, 90, rfl⟩
abbrev main_v70 : Ref sig .tc := ⟨.hbm, 91, rfl⟩
abbrev main_v71 : Ref sig .tc := ⟨.hbm, 92, rfl⟩
abbrev main_cst_17 : Ref sig .tc := ⟨.hbm, 93, rfl⟩
abbrev main_v72 : Ref sig .tc := ⟨.hbm, 94, rfl⟩
abbrev main_v73 : Ref sig .tc := ⟨.hbm, 95, rfl⟩
abbrev main_cst_18 : Ref sig .tc := ⟨.hbm, 96, rfl⟩
abbrev main_v74 : Ref sig .tc := ⟨.hbm, 97, rfl⟩
abbrev main_v75 : Ref sig .tc := ⟨.hbm, 98, rfl⟩
abbrev main_cst_19 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== RmsPair.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RmsPairRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== RmsPost.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsPostRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== RmsPre.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsPreRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== RmsMem.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S512x1024, .f32⟩
  | .hbm, ⟨4, _⟩ => ⟨S1x1024, .f32⟩
  | .local _ .vmem, ⟨0, _⟩ => ⟨S512x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsMemRefIdeal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512, .f32⟩
  | .hbm, ⟨31, _⟩ => ⟨S512x1, .f32⟩
  | .hbm, ⟨32, _⟩ => ⟨S512x1024, .f32⟩
  | .hbm, ⟨33, _⟩ => ⟨S512x1024, .f32⟩
  | .hbm, ⟨34, _⟩ => ⟨S512x1, .f32⟩
  | .hbm, ⟨35, _⟩ => ⟨S_, .f32⟩
  | .hbm, ⟨36, _⟩ => ⟨S512x1, .f32⟩
  | .hbm, ⟨37, _⟩ => ⟨S512x1, .f32⟩
  | .hbm, ⟨38, _⟩ => ⟨S_, .f32⟩
  | .hbm, ⟨39, _⟩ => ⟨S512, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S512x1024, .f32⟩
  | .hbm, ⟨44, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Turn.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== TurnRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .bf16⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S_, .f32⟩
  | .hbm, ⟨80, _⟩ => ⟨S1x1024, .f32⟩
  | .hbm, ⟨81, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_15 : Ref sig .tc := ⟨.hbm, 73, rfl⟩
abbrev main_v53 : Ref sig .tc := ⟨.hbm, 74, rfl⟩
abbrev main_v54 : Ref sig .tc := ⟨.hbm, 75, rfl⟩
abbrev main_cst_16 : Ref sig .tc := ⟨.hbm, 76, rfl⟩
abbrev main_v55 : Ref sig .tc := ⟨.hbm, 77, rfl⟩
abbrev main_v56 : Ref sig .tc := ⟨.hbm, 78, rfl⟩
abbrev main_cst_17 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== RmsFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdIdeal.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsMemFwd.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RmsMemFwdRefIdeal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsPairFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RmsPairFwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== RmsThreeFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RmsThreeFwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== ConvFwd.lean ====
abbrev S2x2048x1792 : Shape := ⟨3, ![2, 2048, 1792]⟩
abbrev S4x768 : Shape := ⟨2, ![4, 768]⟩
abbrev S1x768 : Shape := ⟨2, ![1, 768]⟩
abbrev S2x2048x768 : Shape := ⟨3, ![2, 2048, 768]⟩
abbrev S1x2048x128 : Shape := ⟨3, ![1, 2048, 128]⟩
abbrev S4x128 : Shape := ⟨2, ![4, 128]⟩
abbrev S1x128 : Shape := ⟨2, ![1, 128]⟩
abbrev S2048x128 : Shape := ⟨2, ![2048, 128]⟩
abbrev S2032x128 : Shape := ⟨2, ![2032, 128]⟩
abbrev S1x2032x128 : Shape := ⟨3, ![1, 2032, 128]⟩
abbrev S1x16x128 : Shape := ⟨3, ![1, 16, 128]⟩
abbrev S16x128 : Shape := ⟨2, ![16, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x2048x1792, .f32⟩
  | .hbm, ⟨1, _⟩ => ⟨S4x768, .f32⟩
  | .hbm, ⟨2, _⟩ => ⟨S1x768, .f32⟩
  | .hbm, ⟨3, _⟩ => ⟨S2x2048x768, .f32⟩
  | .local _ .vmem, ⟨0, _⟩ => ⟨S1x2048x128, .f32⟩
  | .local _ .vmem, ⟨1, _⟩ => ⟨S1x2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S1x2048x128, .f32⟩
  | .local _ .vmem, ⟨7, _⟩ => ⟨S1x2048x128, .f32⟩
  | _, _ => ⟨S2x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 2], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![arg1.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![arg1.toNat, c0_i32_0.toNat, v0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvFwdRefIdeal.lean ====
abbrev S2x2048x1792 : Shape := ⟨3, ![2, 2048, 1792]⟩
abbrev S4x768 : Shape := ⟨2, ![4, 768]⟩
abbrev S1x768 : Shape := ⟨2, ![1, 768]⟩
abbrev S2x2048x768 : Shape := ⟨3, ![2, 2048, 768]⟩
abbrev S_ : Shape := ⟨0, ![]⟩
abbrev S2x3x768 : Shape := ⟨3, ![2, 3, 768]⟩
abbrev S2x2051x768 : Shape := ⟨3, ![2, 2051, 768]⟩
abbrev S1x1x768 : Shape := ⟨3, ![1, 1, 768]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x1792, .f32⟩
  | .hbm, ⟨1, _⟩ => ⟨S4x768, .f32⟩
  | .hbm, ⟨2, _⟩ => ⟨S1x768, .f32⟩
  | .hbm, ⟨3, _⟩ => ⟨S2x2048x768, .f32⟩
  | .hbm, ⟨4, _⟩ => ⟨S_, .f32⟩
  | .hbm, ⟨5, _⟩ => ⟨S2x3x768, .f32⟩
  | .hbm, ⟨6, _⟩ => ⟨S2x2051x768, .f32⟩
  | .hbm, ⟨7, _⟩ => ⟨S1x768, .f32⟩
  | .hbm, ⟨8, _⟩ => ⟨S2x2048x768, .f32⟩
  | .hbm, ⟨9, _⟩ => ⟨S1x1x768, .f32⟩
  | .hbm, ⟨10, _⟩ => ⟨S2x2048x768, .f32⟩
  | .hbm, ⟨11, _⟩ => ⟨S2x2048x768, .f32⟩
  | .hbm, ⟨12, _⟩ => ⟨S1x768, .f32⟩
  | .hbm, ⟨13, _⟩ => ⟨S2x2048x768, .f32⟩
  | .hbm, ⟨14, _⟩ => ⟨S1x1x768, .f32⟩
  | .hbm, ⟨15, _⟩ => ⟨S2x2048x768, .f32⟩
  | .hbm, ⟨16, _⟩ => ⟨S2x2048x768, .f32⟩
  | .hbm, ⟨17, _⟩ => ⟨S2x2048x768, .f32⟩
  | .hbm, ⟨18, _⟩ => ⟨S1x768, .f32⟩
  | .hbm, ⟨19, _⟩ => ⟨S2x2048x768, .f32⟩
  | .hbm, ⟨20, _⟩ => ⟨S1x1x768, .f32⟩
  | .hbm, ⟨21, _⟩ => ⟨S2x2048x768, .f32⟩
  | .hbm, ⟨22, _⟩ => ⟨S2x2048x768, .f32⟩
  | .hbm, ⟨23, _⟩ => ⟨S2x2048x768, .f32⟩
  | .hbm, ⟨24, _⟩ => ⟨S1x768, .f32⟩
  | .hbm, ⟨25, _⟩ => ⟨S2x2048x768, .f32⟩
  | .hbm, ⟨26, _⟩ => ⟨S1x1x768, .f32⟩
  | .hbm, ⟨27, _⟩ => ⟨S2x2048x768, .f32⟩
  | .hbm, ⟨28, _⟩ => ⟨S2x2048x768, .f32⟩
  | .hbm, ⟨29, _⟩ => ⟨S2x2048x768, .f32⟩
  | .hbm, ⟨30, _⟩ => ⟨S1x1x768, .f32⟩
  | .hbm, ⟨31, _⟩ => ⟨S2x2048x768, .f32⟩
  | .hbm, ⟨32, _⟩ => ⟨S2x2048x768, .f32⟩
  | _, _ => ⟨S2x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== FfnMid.lean ====
abbrev S2x2048x5632 : Shape := ⟨3, ![2, 2048, 5632]⟩
abbrev S3x5632 : Shape := ⟨2, ![3, 5632]⟩
abbrev S1x5632 : Shape := ⟨2, ![1, 5632]⟩
abbrev S2x2048x2816 : Shape := ⟨3, ![2, 2048, 2816]⟩
abbrev S1x2048x128 : Shape := ⟨3, ![1, 2048, 128]⟩
abbrev S3x128 : Shape := ⟨2, ![3, 128]⟩
abbrev S1x128 : Shape := ⟨2, ![1, 128]⟩
abbrev S2048x128 : Shape := ⟨2, ![2048, 128]⟩
abbrev S2032x128 : Shape := ⟨2, ![2032, 128]⟩
abbrev S1x2032x128 : Shape := ⟨3, ![1, 2032, 128]⟩
abbrev S1x16x128 : Shape := ⟨3, ![1, 16, 128]⟩
abbrev S16x128 : Shape := ⟨2, ![16, 128]⟩

abbrev nBuf : Space → Nat
  | .hbm => 4
  | .vmem => 14
  | .smem => 0
  | _ => 0

abbrev bufTy : (tb : Table) → Fin (tcTables nBuf tb) → BufTy
  | .hbm, ⟨0, _⟩ => ⟨S2x2048x5632, .f32⟩
  | .hbm, ⟨1, _⟩ => ⟨S3x5632, .f32⟩
  | .hbm, ⟨2, _⟩ => ⟨S1x5632, .f32⟩
  | .hbm, ⟨3, _⟩ => ⟨S2x2048x2816, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x2048x128, .bf16⟩
  | .local _ .vmem, ⟨13, _⟩ => ⟨S1x2048x128, .bf16⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![22, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi arg0 c22_i32
  let c0_i32 : BitVec 32 := 0#32
  let c0_i32_0 : BitVec 32 := 0#32
  ![arg1.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![arg1.toNat, c0_i32_0.toNat, v0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnMidRefIdeal.lean ====
abbrev S2x2048x5632 : Shape := ⟨3, ![2, 2048, 5632]⟩
abbrev S3x5632 : Shape := ⟨2, ![3, 5632]⟩
abbrev S1x5632 : Shape := ⟨2, ![1, 5632]⟩
abbrev S_ : Shape := ⟨0, ![]⟩
abbrev S2x2x5632 : Shape := ⟨3, ![2, 2, 5632]⟩
abbrev S2x2050x5632 : Shape := ⟨3, ![2, 2050, 5632]⟩
abbrev S1x1x5632 : Shape := ⟨3, ![1, 1, 5632]⟩
abbrev S2x2048x2816 : Shape := ⟨3, ![2, 2048, 2816]⟩

abbrev nBuf : Space → Nat
  | .hbm => 47
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S3x5632, .f32⟩
  | .hbm, ⟨2, _⟩ => ⟨S1x5632, .f32⟩
  | .hbm, ⟨3, _⟩ => ⟨S_, .f32⟩
  | .hbm, ⟨4, _⟩ => ⟨S2x2x5632, .f32⟩
  | .hbm, ⟨5, _⟩ => ⟨S2x2050x5632, .f32⟩
  | .hbm, ⟨6, _⟩ => ⟨S1x5632, .f32⟩
  | .hbm, ⟨7, _⟩ => ⟨S2x2048x5632, .f32⟩
  | .hbm, ⟨8, _⟩ => ⟨S1x1x5632, .f32⟩
  | .hbm, ⟨9, _⟩ => ⟨S2x2048x5632, .f32⟩
  | .hbm, ⟨10, _⟩ => ⟨S2x2048x5632, .f32⟩
  | .hbm, ⟨11, _⟩ => ⟨S1x5632, .f32⟩
  | .hbm, ⟨12, _⟩ => ⟨S2x2048x5632, .f32⟩
  | .hbm, ⟨13, _⟩ => ⟨S1x1x5632, .f32⟩
  | .hbm, ⟨14, _⟩ => ⟨S2x2048x5632, .f32⟩
  | .hbm, ⟨15, _⟩ => ⟨S2x2048x5632, .f32⟩
  | .hbm, ⟨16, _⟩ => ⟨S2x2048x5632, .f32⟩
  | .hbm, ⟨17, _⟩ => ⟨S1x5632, .f32⟩
  | .hbm, ⟨18, _⟩ => ⟨S2x2048x5632, .f32⟩
  | .hbm, ⟨19, _⟩ => ⟨S1x1x5632, .f32⟩
  | .hbm, ⟨20, _⟩ => ⟨S2x2048x5632, .f32⟩
  | .hbm, ⟨21, _⟩ => ⟨S2x2048x5632, .f32⟩
  | .hbm, ⟨22, _⟩ => ⟨S2x2048x5632, .f32⟩
  | .hbm, ⟨23, _⟩ => ⟨S1x1x5632, .f32⟩
  | .hbm, ⟨24, _⟩ => ⟨S2x2048x5632, .f32⟩
  | .hbm, ⟨25, _⟩ => ⟨S2x2048x5632, .f32⟩
  | .hbm, ⟨26, _⟩ => ⟨S2x2048x2816, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S_, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S_, .f32⟩
  | .hbm, ⟨39, _⟩ => ⟨S2x2048x2816, .f32⟩
  | .hbm, ⟨40, _⟩ => ⟨S2x2048x2816, .f32⟩
  | .hbm, ⟨41, _⟩ => ⟨S_, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S2x2048x2816, .bf16⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Proof.Softmax.lean ====
/- One row of masked attention with a sink, over the real numbers, and the two orders in which it is computed: with the
   scores in two halves and a reciprocal, as the kernel does, and with the scores in one piece and the chain of
   derivatives written out, as differentiating the forward pass does. Both subtract the largest score first; neither
   result depends on it, since a factor common to every exponential cancels. -/
module

public import Idealize.ShloMosaic.Lib.Pointwise

@[expose] public section

noncomputable section

namespace Swa

open Idealize.ShloMosaic
open scoped Classical

/-- One query's view of its window of 256 keys: which keys it sees, its score against each, its sink, and the
    cotangent of each attention probability. -/
structure Row where
  ok : Fin 256 → Prop
  x : Fin 256 → ℝ
  sink : ℝ
  dp : Fin 256 → ℝ

namespace Row

variable (R : Row)

/-- A key's weight before normalising. -/
def wt (j : Fin 256) : ℝ := if R.ok j then Real.exp (R.x j) else 0

/-- The sum of all weights, the sink's among them. -/
def tot : ℝ := ∑ j, R.wt j + Real.exp R.sink

/-- A key's attention probability. -/
def prob (j : Fin 256) : ℝ := R.wt j / R.tot

/-- The probability that goes to the sink. -/
def probSink : ℝ := Real.exp R.sink / R.tot

/-- The mean of the cotangents under the probabilities. -/
def mean : ℝ := ∑ j, R.prob j * R.dp j

/-- The cotangent of a score before its scale of one eighth. -/
def ds (j : Fin 256) : ℝ := R.prob j * (R.dp j - R.mean) * (1 / 8)

theorem wt_nonneg (j : Fin 256) : 0 ≤ R.wt j := by
  unfold wt; split_ifs
  · exact (Real.exp_pos _).le
  · exact le_rfl

theorem tot_pos : 0 < R.tot := add_pos_of_nonneg_of_pos (Finset.sum_nonneg fun j _ => R.wt_nonneg j) (Real.exp_pos _)

theorem prob_of_not {j : Fin 256} (h : ¬R.ok j) : R.prob j = 0 := by simp [prob, wt, h]

theorem ds_of_not {j : Fin 256} (h : ¬R.ok j) : R.ds j = 0 := by simp [ds, R.prob_of_not h]

/-- Two rows that agree at the keys they see agree in every result. -/
theorem results_congr {R R' : Row} (hok : ∀ j, R.ok j ↔ R'.ok j) (hx : ∀ j, R.ok j → R.x j = R'.x j) (hs : R.sink = R'.sink)
    (hd : ∀ j, R.ok j → R.dp j = R'.dp j) :
    (∀ j, R.prob j = R'.prob j) ∧ R.probSink = R'.probSink ∧ R.mean = R'.mean ∧ ∀ j, R.ds j = R'.ds j := by
  have hw : ∀ j, R.wt j = R'.wt j := fun j => by
    unfold wt
    by_cases h : R.ok j
    · rw [if_pos h, if_pos ((hok j).1 h), hx j h]
    · rw [if_neg h, if_neg (fun h' => h ((hok j).2 h'))]
  have ht : R.tot = R'.tot := by unfold tot; rw [hs, Finset.sum_congr rfl fun j _ => hw j]
  have hp : ∀ j, R.prob j = R'.prob j := fun j => by unfold prob; rw [hw, ht]
  have hm : R.mean = R'.mean := Finset.sum_congr rfl fun j _ => by
    by_cases h : R.ok j
    · rw [hp, hd j h]
    · rw [R.prob_of_not h, R'.prob_of_not (fun h' => h ((hok j).2 h')), zero_mul, zero_mul]
  refine ⟨hp, by unfold probSink; rw [hs, ht], hm, fun j => ?_⟩
  by_cases h : R.ok j
  · unfold ds; rw [hp, hd j h, hm]
  · rw [R.ds_of_not h, R'.ds_of_not (fun h' => h ((hok j).2 h'))]

/-- The masked score as the computation holds it: minus infinity where the key is not seen. -/
def score (j : Fin 256) : EReal := if R.ok j then (R.x j : EReal) else ⊥

end Row

/-- A sum of real numbers taken in the extended reals. -/
theorem coe_sum {ι : Type} (s : Finset ι) (f : ι → ℝ) : ((∑ i ∈ s, f i : ℝ) : EReal) = ∑ i ∈ s, (f i : EReal) := by
  induction s using Finset.cons_induction with
  | empty => simp
  | cons a s h ih => rw [Finset.sum_cons, Finset.sum_cons, EReal.coe_add, ih]

/-- The first and the second half of a window's keys. -/
def lo (j : Fin 128) : Fin 256 := ⟨j, by omega⟩

def hi (j : Fin 128) : Fin 256 := ⟨128 + j, by omega⟩

/-- A sum over a window is the sum over its two halves. -/
theorem sum_halves {M : Type} [AddCommMonoid M] (f : Fin 256 → M) : ∑ j, f j = ∑ j, f (lo j) + ∑ j, f (hi j) :=
  Fin.sum_univ_add (a := 128) (b := 128) f

/-- The largest of finitely many numbers below infinity is below infinity. -/
theorem fold_lt_top {n : ℕ} (s : Fin n → EReal) (h : ∀ j, s j < ⊤) : Finset.univ.fold max ⊥ s < ⊤ :=
  (Finset.fold_max_lt _).2 ⟨bot_lt_top, fun j _ => h j⟩

/-- The larger of a real number and a number below infinity is a real number. -/
theorem max_real {a : EReal} (h : a < ⊤) (σ : ℝ) : ∃ μ : ℝ, max a σ = μ :=
  ⟨(max a σ).toReal, (EReal.coe_toReal (max_lt h (EReal.coe_lt_top σ)).ne
    (lt_of_lt_of_le (EReal.bot_lt_coe σ) (le_max_right a _)).ne').symm⟩

namespace Row

variable (R : Row)

theorem score_lt_top (j : Fin 256) : R.score j < ⊤ := by
  unfold score; split_ifs
  · exact EReal.coe_lt_top _
  · exact bot_lt_top

/-- The exponential of a shifted score is the weight times a factor common to the row. -/
theorem exp_score (μ : ℝ) (j : Fin 256) : Ideal.exp (R.score j - (μ : EReal)) = ((R.wt j * Real.exp (-μ) : ℝ) : EReal) := by
  unfold score wt
  split_ifs
  · rw [← EReal.coe_sub, Ideal.exp_coe, sub_eq_add_neg, Real.exp_add]
  · rw [EReal.bot_sub, Ideal.exp_bot, zero_mul, EReal.coe_zero]

theorem exp_sink (μ : ℝ) : Ideal.exp ((R.sink : EReal) - (μ : EReal)) = ((Real.exp R.sink * Real.exp (-μ) : ℝ) : EReal) := by
  rw [← EReal.coe_sub, Ideal.exp_coe, sub_eq_add_neg, Real.exp_add]

/-- The common factor of the row's exponentials for a shift by `μ`, times the total. -/
theorem scaled_tot (μ : ℝ) : ∑ j, R.wt j * Real.exp (-μ) + Real.exp R.sink * Real.exp (-μ) = R.tot * Real.exp (-μ) := by
  rw [← Finset.sum_mul, ← add_mul, tot]

theorem scaled_ne (μ : ℝ) : R.tot * Real.exp (-μ) ≠ 0 := (mul_pos R.tot_pos (Real.exp_pos _)).ne'

end Row

/-! ## The kernel's order -/

namespace Row

variable (R : Row) (M : EReal)

/-- What the kernel subtracts from a row's scores is a real number. -/
theorem shift_real : ∃ μ : ℝ, max (max (Finset.univ.fold max ⊥ fun j => R.score (lo j))
    (Finset.univ.fold max ⊥ fun j => R.score (hi j))) (R.sink : EReal) = μ :=
  max_real (max_lt (fold_lt_top _ fun j => R.score_lt_top _) (fold_lt_top _ fun j => R.score_lt_top _)) _

/-- The reciprocal of the denominator, summed in two halves. -/
theorem recip_halves (μ : ℝ) :
    Ideal.div 1 ((∑ j, Ideal.exp (R.score (lo j) - (μ : EReal)) + ∑ j, Ideal.exp (R.score (hi j) - (μ : EReal))) +
      Ideal.exp ((R.sink : EReal) - (μ : EReal))) = ((1 / (R.tot * Real.exp (-μ)) : ℝ) : EReal) := by
  rw [← sum_halves fun j => Ideal.exp (R.score j - (μ : EReal)), Finset.sum_congr rfl fun j _ => R.exp_score μ j, ← coe_sum,
    R.exp_sink, ← EReal.coe_add, R.scaled_tot, Ideal.div_coe (R.scaled_ne μ), one_mul]

theorem prob_recip (μ : ℝ) (j : Fin 256) :
    Ideal.exp (R.score j - (μ : EReal)) * ((1 / (R.tot * Real.exp (-μ)) : ℝ) : EReal) = (R.prob j : EReal) := by
  rw [R.exp_score, ← EReal.coe_mul, prob, mul_one_div, mul_div_mul_right _ _ (Real.exp_ne_zero _)]

theorem probSink_recip (μ : ℝ) :
    Ideal.exp ((R.sink : EReal) - (μ : EReal)) * ((1 / (R.tot * Real.exp (-μ)) : ℝ) : EReal) = (R.probSink : EReal) := by
  rw [R.exp_sink, ← EReal.coe_mul, probSink, mul_one_div, mul_div_mul_right _ _ (Real.exp_ne_zero _)]

theorem mean_halves : ∑ j, (R.prob (lo j) : EReal) * (R.dp (lo j) : EReal) + ∑ j, (R.prob (hi j) : EReal) * (R.dp (hi j) : EReal) =
    (R.mean : EReal) := by
  rw [← sum_halves fun j => (R.prob j : EReal) * (R.dp j : EReal), mean, coe_sum]
  exact Finset.sum_congr rfl fun j _ => (EReal.coe_mul _ _).symm

theorem ds_coe (j : Fin 256) : (R.prob j : EReal) * ((R.dp j : EReal) - (R.mean : EReal)) * ((1 / 8 : ℝ) : EReal) = (R.ds j : EReal) := by
  rw [← EReal.coe_sub, ← EReal.coe_mul, ← EReal.coe_mul, ds]

end Row

/-! ## The order of the differentiated forward pass -/

namespace Row

variable (R : Row)

/-- What the forward pass subtracts from a row's scores is a real number. -/
theorem whole_shift_real : ∃ μ : ℝ, max (Finset.univ.fold max ⊥ R.score) (R.sink : EReal) = μ :=
  max_real (fold_lt_top _ R.score_lt_top) _

/-- The denominator, summed in one piece. -/
theorem denom (μ : ℝ) : (0 + ∑ j, Ideal.exp (R.score j - (μ : EReal))) + Ideal.exp ((R.sink : EReal) - (μ : EReal)) =
    ((R.tot * Real.exp (-μ) : ℝ) : EReal) := by
  rw [zero_add, Finset.sum_congr rfl fun j _ => R.exp_score μ j, ← coe_sum, R.exp_sink, ← EReal.coe_add, R.scaled_tot]

theorem prob_div (μ : ℝ) (j : Fin 256) :
    Ideal.div (Ideal.exp (R.score j - (μ : EReal))) ((R.tot * Real.exp (-μ) : ℝ) : EReal) = (R.prob j : EReal) := by
  rw [Ideal.div_coe (R.scaled_ne μ), R.prob_recip]

/-- The cotangent of the denominator. -/
theorem denom_ct (μ : ℝ) :
    -(0 + ∑ j, (R.dp j : EReal) * Ideal.div 1 (((R.tot * Real.exp (-μ) : ℝ) : EReal) * ((R.tot * Real.exp (-μ) : ℝ) : EReal)) *
      Ideal.exp (R.score j - (μ : EReal))) = ((-(R.mean / (R.tot * Real.exp (-μ))) : ℝ) : EReal) := by
  have hne := R.scaled_ne μ
  rw [zero_add, ← EReal.coe_mul, Ideal.div_coe (mul_ne_zero hne hne), one_mul, EReal.coe_neg]
  refine congrArg _ ?_
  rw [mean, Finset.sum_div, coe_sum]
  refine Finset.sum_congr rfl fun j _ => ?_
  rw [R.exp_score, ← EReal.coe_mul, ← EReal.coe_mul, prob]
  refine congrArg _ ?_
  have h1 := R.tot_pos.ne'
  have h2 := Real.exp_ne_zero (-μ)
  field_simp

/-- The sink's own part of the gradient of its row. -/
theorem sink_ct (μ : ℝ) :
    ((-(R.mean / (R.tot * Real.exp (-μ))) : ℝ) : EReal) * Ideal.exp ((R.sink : EReal) - (μ : EReal)) =
      ((-(R.probSink * R.mean) : ℝ) : EReal) := by
  rw [R.exp_sink, ← EReal.coe_mul, probSink]
  refine congrArg _ ?_
  have h1 := R.tot_pos.ne'
  have h2 := Real.exp_ne_zero (-μ)
  field_simp

/-- The cotangent of a score, before what reaches it through the largest score. -/
theorem score_ct (μ : ℝ) (j : Fin 256) :
    (Ideal.div (R.dp j : EReal) ((R.tot * Real.exp (-μ) : ℝ) : EReal) + (0 + ((-(R.mean / (R.tot * Real.exp (-μ))) : ℝ) : EReal))) *
      Ideal.exp (R.score j - (μ : EReal)) = ((R.prob j * (R.dp j - R.mean) : ℝ) : EReal) := by
  rw [Ideal.div_coe (R.scaled_ne μ), R.exp_score, zero_add, ← EReal.coe_mul, ← EReal.coe_add, ← EReal.coe_mul, prob]
  refine congrArg _ ?_
  have h1 := R.tot_pos.ne'
  have h2 := Real.exp_ne_zero (-μ)
  field_simp
  ring

theorem sum_prob : ∑ j, R.prob j + R.probSink = 1 := by
  unfold prob probSink
  rw [← Finset.sum_div, ← add_div, ← tot, div_self R.tot_pos.ne']

/-- The cotangent of the subtracted number is zero. -/
theorem shift_ct : -((-(R.probSink * R.mean) : ℝ) : EReal) + (0 + ∑ j, -((R.prob j * (R.dp j - R.mean) : ℝ) : EReal)) = 0 := by
  have h : ∑ j, -(R.prob j * (R.dp j - R.mean)) = -(R.mean - R.mean * (1 - R.probSink)) := by
    have hs : ∑ j, R.prob j = 1 - R.probSink := by linarith [R.sum_prob]
    rw [Finset.sum_neg_distrib, ← hs, Finset.mul_sum]
    nth_rewrite 2 [mean]
    rw [← Finset.sum_sub_distrib]
    exact congrArg _ (Finset.sum_congr rfl fun j _ => by ring)
  rw [zero_add, ← EReal.coe_neg, Finset.sum_congr rfl fun j _ => (EReal.coe_neg _).symm, ← coe_sum, ← EReal.coe_add, h,
    ← EReal.coe_zero]
  exact congrArg _ (by ring)

/-- The largest of a row's scores is one of them. -/
theorem max_attained (s : Fin 256 → EReal) : ∃ j, s j = Finset.univ.fold max ⊥ s := by
  have hle : ∀ j, s j ≤ Finset.univ.fold max ⊥ s := fun j => Finset.le_fold_max _ |>.2 (.inr ⟨j, Finset.mem_univ _, le_rfl⟩)
  rcases (Finset.le_fold_max _).1 (le_refl (Finset.univ.fold max ⊥ s)) with h | ⟨j, _, h⟩
  · exact ⟨0, le_antisymm (hle 0) (h.trans bot_le)⟩
  · exact ⟨j, le_antisymm (hle j) h⟩

/-- Nothing divided by the number of largest scores is nothing: there is at least one. -/
theorem div_ties (s : Fin 256 → EReal) :
    Ideal.div 0 (0 + ∑ j, (if s j = Finset.univ.fold max ⊥ s then (1 : EReal) else 0)) = 0 := by
  obtain ⟨j, hj⟩ := max_attained s
  have h : (0 + ∑ j, (if s j = Finset.univ.fold max ⊥ s then (1 : EReal) else 0)) =
      ((∑ j, (if s j = Finset.univ.fold max ⊥ s then (1 : ℝ) else 0) : ℝ) : EReal) := by
    rw [zero_add, coe_sum]
    exact Finset.sum_congr rfl fun j _ => by split_ifs <;> simp
  have hpos : (0 : ℝ) < ∑ j, (if s j = Finset.univ.fold max ⊥ s then (1 : ℝ) else 0) :=
    Finset.sum_pos' (fun j _ => by split_ifs <;> norm_num) ⟨j, Finset.mem_univ _, by rw [if_pos hj]; norm_num⟩
  rw [h, Ideal.div_coe hpos.ne', zero_mul]

end Row

end Swa

end
-- ==== Proof.Spec.lean ====
/- The gradient of sliding-window attention with sinks, over the real numbers: for one block of 128 queries of one
   key/value head (`Head`), and for the whole arrays (`Data`). -/
module

public import proofs.«01_k».proof.Proof.Softmax

@[expose] public section

noncomputable section

namespace Swa

open scoped Classical

/-- One block of 128 queries of the three query heads that share a key/value head: the queries and the cotangent of
    the attention's output (query head, position, feature), the window of 256 keys and values, the sinks and slopes,
    and whether the first half of the window exists. -/
structure Head where
  q : Fin 3 → Fin 128 → Fin 64 → ℝ
  ct : Fin 3 → Fin 128 → Fin 64 → ℝ
  k : Fin 256 → Fin 64 → ℝ
  v : Fin 256 → Fin 64 → ℝ
  sink : Fin 3 → ℝ
  slope : Fin 3 → ℝ
  prev : Prop

namespace Head

variable (H : Head)

/-- Query `i` sees key `j` of its window: within the 128 positions up to its own, and in an existing half. -/
def ok (i : Fin 128) (j : Fin 256) : Prop := i.val < j.val ∧ j.val ≤ 128 + i.val ∧ (H.prev ∨ 128 ≤ j.val)

/-- The row of query `i` of query head `g`: scaled products, less the slope times the distance. -/
def row (g : Fin 3) (i : Fin 128) : Row where
  ok := H.ok i
  x j := (∑ d, H.q g i d * H.k j d) * (1 / 8) - H.slope g * (128 + i.val - j.val)
  sink := H.sink g
  dp j := ∑ d, H.ct g i d * H.v j d

/-- The gradient of the queries. -/
def dq (g : Fin 3) (i : Fin 128) (d : Fin 64) : ℝ := ∑ j, (H.row g i).ds j * H.k j d

/-- The gradient of the window's keys. -/
def dk (j : Fin 256) (d : Fin 64) : ℝ := ∑ g, ∑ i, (H.row g i).ds j * H.q g i d

/-- The gradient of the window's values. -/
def dv (j : Fin 256) (d : Fin 64) : ℝ := ∑ g, ∑ i, (H.row g i).prob j * H.ct g i d

/-- The block's part of the gradient of the sinks. -/
def dsink (g : Fin 3) : ℝ := ∑ i, -((H.row g i).probSink * (H.row g i).mean)

/-- The results do not depend on the keys and values of a half that does not exist. -/
theorem results_congr {H H' : Head} (hq : H.q = H'.q) (hc : H.ct = H'.ct) (hs : H.sink = H'.sink) (hl : H.slope = H'.slope)
    (hp : H.prev = H'.prev) (hk : ∀ j, H.prev ∨ 128 ≤ j.val → H.k j = H'.k j)
    (hv : ∀ j, H.prev ∨ 128 ≤ j.val → H.v j = H'.v j) :
    H.dq = H'.dq ∧ H.dk = H'.dk ∧ H.dv = H'.dv ∧ H.dsink = H'.dsink := by
  have hrow : ∀ g i, (∀ j, (H.row g i).prob j = (H'.row g i).prob j) ∧ (H.row g i).probSink = (H'.row g i).probSink ∧
      (H.row g i).mean = (H'.row g i).mean ∧ ∀ j, (H.row g i).ds j = (H'.row g i).ds j := fun g i => by
    refine Row.results_congr (fun j => ?_) (fun j h => ?_) (congrFun hs g) (fun j h => ?_)
    · simp only [row, ok, hp]
    · simp only [row, hq, hl, hk j h.2.2]
    · simp only [row, hc, hv j h.2.2]
  refine ⟨?_, ?_, ?_, ?_⟩
  · funext g i d
    refine Finset.sum_congr rfl fun j _ => ?_
    rw [(hrow g i).2.2.2 j]
    by_cases h : H.prev ∨ 128 ≤ j.val
    · rw [hk j h]
    · rw [Row.ds_of_not _ (fun h' : H'.ok i j => h (hp ▸ h'.2.2)), zero_mul, zero_mul]
  · funext j d
    exact Finset.sum_congr rfl fun g _ => Finset.sum_congr rfl fun i _ => by rw [(hrow g i).2.2.2 j, hq]
  · funext j d
    exact Finset.sum_congr rfl fun g _ => Finset.sum_congr rfl fun i _ => by rw [(hrow g i).1 j, hc]
  · funext g
    exact Finset.sum_congr rfl fun i _ => by rw [(hrow g i).2.1, (hrow g i).2.2.1]

end Head

/-- The whole arrays: two sequences of 2048 positions, 12 query heads of 64 columns each, and four key/value heads
    whose keys are the first 256 columns of `kv` and whose values the last 256. -/
structure Data where
  q : Fin 2 → Fin 2048 → Fin 768 → ℝ
  kv : Fin 2 → Fin 2048 → Fin 512 → ℝ
  sink : Fin 12 → ℝ
  ct : Fin 2 → Fin 2048 → Fin 768 → ℝ
  slope : Fin 12 → ℝ

/-- Position `i` of block `n`. -/
def at_ (n : Fin 16) (i : Fin 128) : Fin 2048 := ⟨128 * n + i, by omega⟩

/-- Query head `g` of key/value head `k`. -/
def qhead (k : Fin 4) (g : Fin 3) : Fin 12 := ⟨3 * k + g, by omega⟩

/-- Feature `d` of query head `h`. -/
def qcol (h : Fin 12) (d : Fin 64) : Fin 768 := ⟨64 * h + d, by omega⟩

/-- Feature `d` of the keys, and of the values, of key/value head `k`. -/
def kcol (k : Fin 4) (d : Fin 64) : Fin 512 := ⟨64 * k + d, by omega⟩

def vcol (k : Fin 4) (d : Fin 64) : Fin 512 := ⟨256 + 64 * k + d, by omega⟩

namespace Data

variable (D : Data)

/-- Column `c` of `kv` at key `j` of block `n`'s window: the block before and the block itself, with zeros before the
    first block. -/
def window (b : Fin 2) (n : Fin 16) (j : Fin 256) (c : Fin 512) : ℝ :=
  if j.val < 128 then if n.val = 0 then 0 else D.kv b ⟨128 * (n - 1) + j % 128, by omega⟩ c
  else D.kv b ⟨128 * n + (j - 128), by omega⟩ c

/-- The operands of key/value head `k` at block `n` of sequence `b`. -/
def head (b : Fin 2) (n : Fin 16) (k : Fin 4) : Head where
  q g i d := D.q b (at_ n i) (qcol (qhead k g) d)
  ct g i d := D.ct b (at_ n i) (qcol (qhead k g) d)
  k j d := D.window b n j (kcol k d)
  v j d := D.window b n j (vcol k d)
  sink g := D.sink (qhead k g)
  slope g := D.slope (qhead k g)
  prev := 0 < n.val

end Data

end Swa

end
-- ==== Proof.Finite.lean ====
/- The precondition `finite` in plain terms: where it holds, every entry the call reads is a real number. -/
module

public import proofs.«01_k».proof.Pre_finite
public import proofs.«01_k».proof.Proof.Spec
public import Idealize.ShloMosaic.Lib.Affine
public import Idealize.ShloMosaic.Lib.Decide
public import Idealize.ShloMosaic.Lib.Pointwise

@[expose] public section

set_option maxRecDepth 16384

noncomputable section

namespace Cert.Pre_finite

open Idealize.ShloMosaic

/-- The shape facts the precondition states. -/
theorem facts : Facts where
  slices_S2x2048x1024_S2x2048x768_0_0_0 := by decide
  bcast_S_S2x2048x768 := by decide
  reducesTo_S2x2048x768_S_d0_1_2 := by decide
  h_S_ := by decide
  bcast_S_S2x2048x512 := by decide
  reducesTo_S2x2048x512_S_d0_1_2 := by decide
  bcast_S_S12 := by decide
  reducesTo_S12_S_d0 := by decide

/-- If the conjunction of a family of bits is one, each bit is. -/
theorem fold_and {ι : Type} (S : Finset ι) (b : BitVec 1) (x : ι → BitVec 1) (h : S.fold IntOp.andi b x = 1#1) :
    ∀ i ∈ S, x i = 1#1 := by
  induction S using Finset.cons_induction with
  | empty => simp
  | cons a s ha ih =>
    rw [Finset.fold_cons, IntOp.andi_eq_one] at h
    intro i hi
    rcases Finset.mem_cons.1 hi with rfl | hi
    · exact h.1
    · exact ih h.2 i hi

/-- If the conjunction over a whole array is one, each entry is. -/
theorem reduce_and {s : Shape} {axes : List (Fin s.rank)} (x : s.Idx → BitVec 1) (init : S_.Idx → BitVec 1) (h : s.ReducesTo axes S_)
    (hu : 0 < S_.numel) (j : S_.Idx) (hr : Host.reduce IntOp.andi x init h hu j = 1#1) (i : s.Idx) : x i = 1#1 := by
  rw [Host.reduce_eq_fold] at hr
  exact fold_and _ _ _ hr i (Finset.mem_filter.2 ⟨Finset.mem_univ i, funext fun a => a.elim0⟩)

/-- A number whose magnitude is below infinity is a real number. -/
theorem real_of_lt (x : Ideal .f32) (h : FloatOps.cmpf .olt (FloatOps.absf x) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | coe r => exact ⟨r, rfl⟩
  | bot => exfalso; revert h; simp [FloatOps.absf, FloatOps.cmpf, Ideal.cmp]
  | top => exfalso; revert h; simp [FloatOps.absf, FloatOps.cmpf, Ideal.cmp]

/-- An array all of whose magnitudes are below infinity holds real numbers. -/
theorem real_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) (i : s.Idx) : ∃ r : ℝ, x i = (r : EReal) :=
  real_of_lt _ (reduce_and _ _ hr hu ix0 h i)

section
variable [Facts] (x₀ : FVec Ideal S2x2048x1024 .f32) (x₁ : FVec Ideal S2x2048x512 .f32) (x₂ : FVec Ideal S12 .f32) (x₃ : FVec Ideal S2x2048x768 .f32)

omit [Facts] in
theorem cut_at (h : S2x2048x1024.Slices ![0, 0, 0] S2x2048x768) (b : Fin 2) (t : Fin 2048) (c : Fin 768) :
    extractStridedSlice S2x2048x768 ![0, 0, 0] x₀ h (ix3 b t c) = x₀ (ix3 b t ⟨c, by omega⟩) := by
  pointwise []

/-- Where the precondition holds every entry read is a real number. -/
theorem all_real (h : fn x₀ x₁ x₂ x₃ = fun _ => 1#1) :
    (∀ b t (c : Fin 768), ∃ r : ℝ, x₀ (ix3 b t ⟨c, by omega⟩) = (r : EReal)) ∧ (∀ i, ∃ r : ℝ, x₁ i = (r : EReal)) ∧
      (∀ i, ∃ r : ℝ, x₂ i = (r : EReal)) ∧ ∀ i, ∃ r : ℝ, x₃ i = (r : EReal) := by
  have h := congrFun h ix0
  unfold fn fn_part1 at h
  beta_reduce at h
  obtain ⟨h, h3⟩ := IntOp.andi_eq_one.1 h
  obtain ⟨h, h2⟩ := IntOp.andi_eq_one.1 h
  obtain ⟨h0, h1⟩ := IntOp.andi_eq_one.1 h
  refine ⟨fun b t c => ?_, real_of_all x₁ Facts.bcast_S_S2x2048x512 Facts.reducesTo_S2x2048x512_S_d0_1_2 Facts.h_S_ h1,
    real_of_all x₂ Facts.bcast_S_S12 Facts.reducesTo_S12_S_d0 Facts.h_S_ h2,
    real_of_all x₃ Facts.bcast_S_S2x2048x768 Facts.reducesTo_S2x2048x768_S_d0_1_2 Facts.h_S_ h3⟩
  obtain ⟨r, hr⟩ := real_of_all _ _ _ _ h0 (ix3 b t c : S2x2048x768.Idx)
  exact ⟨r, (cut_at x₀ _ b t c).symm.trans hr⟩
end

end Cert.Pre_finite

namespace Swa

open Idealize.ShloMosaic

/-- The twelve slopes, as float words. -/
def slopeWords : Fin 12 → BitVec 32 := ![0x3F000000#32, 0x3E800000#32, 0x3E000000#32, 0x3D800000#32, 0x3D000000#32, 0x3C800000#32,
  0x3C000000#32, 0x3B800000#32, 0x3F3504F3#32, 0x3EB504F3#32, 0x3E3504F3#32, 0x3DB504F3#32]

/-- A float word whose exponent is not the largest is a real number. -/
theorem word_real (w : BitVec 32) (h : w.toNat >>> 23 % 256 ≠ 255) : ∃ r : ℝ, Ideal.ofBits .f32 w = (r : EReal) := by
  simp only [Ideal.ofBits, Ideal.ieee]
  split_ifs with h1 h2 h3
  all_goals first | exact ⟨_, rfl⟩ | exact absurd (by simpa using h1) h

theorem slope_real (h : Fin 12) : ∃ r : ℝ, Ideal.ofBits .f32 (slopeWords h) = (r : EReal) :=
  word_real _ ((by decide : ∀ h, (slopeWords h).toNat >>> 23 % 256 ≠ 255) h)

/-- The call's arguments are the real arrays of `D`. -/
structure Reals (x₀ : FVec Ideal ⟨3, ![2, 2048, 1024]⟩ .f32) (x₁ : FVec Ideal ⟨3, ![2, 2048, 512]⟩ .f32) (x₂ : FVec Ideal ⟨1, ![12]⟩ .f32)
    (x₃ : FVec Ideal ⟨3, ![2, 2048, 768]⟩ .f32) (D : Data) : Prop where
  q : ∀ b t (c : Fin 768), x₀ (ix3 b t ⟨c, by omega⟩) = (D.q b t c : EReal)
  kv : ∀ b t c, x₁ (ix3 b t c) = (D.kv b t c : EReal)
  sink : ∀ h, x₂ (ix1 h) = (D.sink h : EReal)
  ct : ∀ b t c, x₃ (ix3 b t c) = (D.ct b t c : EReal)
  slope : ∀ h, Ideal.ofBits .f32 (slopeWords h) = (D.slope h : EReal)

theorem exists_reals [Cert.Pre_finite.Facts] (x₀ : FVec Ideal ⟨3, ![2, 2048, 1024]⟩ .f32) (x₁ : FVec Ideal ⟨3, ![2, 2048, 512]⟩ .f32)
    (x₂ : FVec Ideal ⟨1, ![12]⟩ .f32) (x₃ : FVec Ideal ⟨3, ![2, 2048, 768]⟩ .f32)
    (h : Cert.Pre_finite.fn x₀ x₁ x₂ x₃ = fun _ => 1#1) : ∃ D, Reals x₀ x₁ x₂ x₃ D := by
  obtain ⟨h0, h1, h2, h3⟩ := Cert.Pre_finite.all_real x₀ x₁ x₂ x₃ h
  choose q hq using h0
  choose kv hkv using h1
  choose sink hsink using h2
  choose ct hct using h3
  choose slope hslope using slope_real
  exact ⟨⟨q, fun b t c => kv (ix3 b t c), fun h => sink (ix1 h), fun b t c => ct (ix3 b t c), slope⟩, hq, fun b t c => hkv _, fun h => hsink _,
    fun b t c => hct _, hslope⟩

end Swa

end
-- ==== Proof.Head.lean ====
/- What one grid point of the kernel computes, as array functions of the blocks it reads. The kernel treats the four
   key/value heads one after the other, each with its three query heads stacked into 384 rows; `Group` holds the
   operands of one such head and the functions below it the intermediate arrays, so that all four heads are instances
   of one text. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Swa

open Cert.KernelIdeal Cert.KernelIdeal.Gen Idealize.ShloMosaic Idealize.ShloMosaic.TcCoe Idealize.SL.Sem
open Idealize.ShloMosaic.Pipeline (Dat)

variable {F : FTy → Type} [FloatOps F]

/-- The operands of one key/value head at one grid point: the stacked query rows and their cotangent, the head's
    columns of the previous and the current key and value blocks, the sinks and the slopes of its three query heads
    spread over the rows, and whether there is a previous block. -/
structure Group (F : FTy → Type) where
  q : FVec F S384x64 .bf16
  ct : FVec F S384x64 .bf16
  kPrev : FVec F S128x64 .bf16
  kCur : FVec F S128x64 .bf16
  vPrev : FVec F S128x64 .bf16
  vCur : FVec F S128x64 .bf16
  sink : FVec F S384x1 .f32
  slope : FVec F S384x1 .f32
  hasPrev : BitVec 1

/-- Which of the three stacked query heads a row belongs to. -/
def which : IVec S384x1 32 := shrui (iota .tc S384x1 32 [0] iota_S384x1_d0_w32) (broadcast S384x1 7#32)

/-- The position of a stacked row inside its block of 128 queries. -/
def qpos : IVec S384x128 32 := andi (iota .tc S384x128 32 [0] iota_S384x128_d0_w32) (broadcast S384x128 127#32)

/-- The position of a key inside its block of 128 keys. -/
def kpos : IVec S384x128 32 := iota .tc S384x128 32 [1] iota_S384x128_d1_w32

/-- Three numbers, one per stacked query head, spread over the 384 rows. -/
def spread (a b c : F .f32) : FVec F S384x1 .f32 :=
  select (cmpi .eq which (broadcast S384x1 0#32)) (broadcast S384x1 a)
    (select (cmpi .eq which (broadcast S384x1 1#32)) (broadcast S384x1 b) (broadcast S384x1 c))

/-- The product of the rows with one block of keys or values, row by row. -/
def rowsTimes (x : FVec F S384x64 .bf16) (y : FVec F S128x64 .bf16) : FVec F S384x128 .f32 :=
  matmul dot_S384x64_S128x64_S384x128_1_1_0_0_n_n none x y (constant S384x128 .f32 0x00000000#32)

/-- The masked, biased scores against the previous block. -/
def Group.scorePrev (G : Group F) : FVec F S384x128 .f32 :=
  select (cmpi .sgt kpos (addi qpos (broadcast S384x128 (Scalar.select G.hasPrev 0#32 128#32))))
    (subf (mulf (rowsTimes G.q G.kPrev) (broadcast S384x128 (Scalar.ofBits .f32 0x3E000000#32)))
      (mulf (broadcastTo S384x128 G.slope broadcasts_S384x1_S384x128)
        (sitofp .f32 (subi (addi qpos (broadcast S384x128 128#32)) kpos))))
    (broadcast S384x128 (Scalar.ofBits .f32 0xFF800000#32))

/-- The masked, biased scores against the current block. -/
def Group.scoreCur (G : Group F) : FVec F S384x128 .f32 :=
  select (cmpi .sle kpos qpos)
    (subf (mulf (rowsTimes G.q G.kCur) (broadcast S384x128 (Scalar.ofBits .f32 0x3E000000#32)))
      (mulf (broadcastTo S384x128 G.slope broadcasts_S384x1_S384x128) (sitofp .f32 (subi qpos kpos))))
    (broadcast S384x128 (Scalar.ofBits .f32 0xFF800000#32))

/-- The largest entry of each row. -/
def rowMax (x : FVec F S384x128 .f32) : FVec F S384x1 .f32 :=
  shapeCast S384x1 (multiReduction .maximumf [1] S384 x 0xFF800000#32 reduces_S384x128_S384 (.inl rfl) rfl) shapeCasts_S384_S384x1

/-- The sum of each row. -/
def rowSum (x : FVec F S384x128 .f32) : FVec F S384x1 .f32 :=
  shapeCast S384x1 (multiReduction .add [1] S384 x 0x00000000#32 reduces_S384x128_S384 (.inl rfl) rfl) shapeCasts_S384_S384x1

/-- The number each row's scores are shifted by: its largest score or its sink. -/
def Group.shift (G : Group F) : FVec F S384x1 .f32 :=
  maximumf (maximumf (rowMax G.scorePrev) (rowMax G.scoreCur)) G.sink

def Group.expPrev (G : Group F) : FVec F S384x128 .f32 :=
  exp (subf G.scorePrev (broadcastTo S384x128 G.shift broadcasts_S384x1_S384x128))

def Group.expCur (G : Group F) : FVec F S384x128 .f32 :=
  exp (subf G.scoreCur (broadcastTo S384x128 G.shift broadcasts_S384x1_S384x128))

def Group.expSink (G : Group F) : FVec F S384x1 .f32 := exp (subf G.sink G.shift)

/-- The reciprocal of each row's softmax denominator. -/
def Group.recip (G : Group F) : FVec F S384x1 .f32 :=
  divf (broadcast S384x1 (Scalar.ofBits .f32 0x3F800000#32)) (addf (addf (rowSum G.expPrev) (rowSum G.expCur)) G.expSink)

/-- The attention probabilities on the previous block, … -/
def Group.probPrev (G : Group F) : FVec F S384x128 .f32 :=
  mulf G.expPrev (broadcastTo S384x128 G.recip broadcasts_S384x1_S384x128)

/-- … on the current block, … -/
def Group.probCur (G : Group F) : FVec F S384x128 .f32 :=
  mulf G.expCur (broadcastTo S384x128 G.recip broadcasts_S384x1_S384x128)

/-- … and on the sink. -/
def Group.probSink (G : Group F) : FVec F S384x1 .f32 := mulf G.expSink G.recip

/-- The cotangents of the probabilities. -/
def Group.dprobPrev (G : Group F) : FVec F S384x128 .f32 := rowsTimes G.ct G.vPrev

def Group.dprobCur (G : Group F) : FVec F S384x128 .f32 := rowsTimes G.ct G.vCur

/-- The mean of a row's cotangents under its probabilities. -/
def Group.mean (G : Group F) : FVec F S384x1 .f32 :=
  addf (rowSum (mulf G.probPrev G.dprobPrev)) (rowSum (mulf G.probCur G.dprobCur))

/-- The cotangents of the unscaled scores against the previous block. -/
def Group.dscorePrev (G : Group F) : FVec F S384x128 .bf16 :=
  truncf .bf16 (mulf (mulf G.probPrev (subf G.dprobPrev (broadcastTo S384x128 G.mean broadcasts_S384x1_S384x128)))
    (broadcast S384x128 (Scalar.ofBits .f32 0x3E000000#32))) bitsLt_bf16_f32

/-- The cotangents of the unscaled scores against the current block. -/
def Group.dscoreCur (G : Group F) : FVec F S384x128 .bf16 :=
  truncf .bf16 (mulf (mulf G.probCur (subf G.dprobCur (broadcastTo S384x128 G.mean broadcasts_S384x1_S384x128)))
    (broadcast S384x128 (Scalar.ofBits .f32 0x3E000000#32))) bitsLt_bf16_f32

/-- The gradient of the stacked query rows. -/
def Group.dq (G : Group F) : FVec F S384x64 .f32 :=
  addf (matmul dot_S384x128_S128x64_S384x64_1_0_0_1_n_n none G.dscorePrev G.kPrev (constant S384x64 .f32 0x00000000#32))
    (matmul dot_S384x128_S128x64_S384x64_1_0_0_1_n_n none G.dscoreCur G.kCur (constant S384x64 .f32 0x00000000#32))

/-- Rows summed against rows: the product that gathers the gradient of a block of keys or values. -/
def gather (x : FVec F S384x128 .bf16) (y : FVec F S384x64 .bf16) : FVec F S128x64 .f32 :=
  matmul dot_S384x128_S384x64_S128x64_0_0_1_1_n_n none x y (constant S128x64 .f32 0x00000000#32)

def Group.dkCur (G : Group F) : FVec F S128x64 .f32 := gather G.dscoreCur G.q

def Group.dkPrev (G : Group F) : FVec F S128x64 .f32 := gather G.dscorePrev G.q

def Group.dvCur (G : Group F) : FVec F S128x64 .f32 := gather (truncf .bf16 G.probCur bitsLt_bf16_f32) G.ct

def Group.dvPrev (G : Group F) : FVec F S128x64 .f32 := gather (truncf .bf16 G.probPrev bitsLt_bf16_f32) G.ct

/-- What each row takes from the gradient of its sink. -/
def Group.dsink (G : Group F) : FVec F S384x1 .f32 := mulf G.probSink G.mean

/-- Minus the sum of `x` over the rows of stacked query head `g`. -/
def minusSumOf (g : BitVec 32) (x : FVec F S384x1 .f32) : F .f32 :=
  Scalar.subf (Scalar.ofBits .f32 0x00000000#32) (extractAt ![0, 0, 0] (shapeCast S1x1x1 (multiReduction .add [1, 2] S1
    (shapeCast S1x384x1 (select (cmpi .eq which (broadcast S384x1 g)) x (broadcast S384x1 (Scalar.ofBits .f32 0x00000000#32)))
      shapeCasts_S384x1_S1x384x1) 0x00000000#32 reduces_S1x384x1_S1 (.inl rfl) rfl) shapeCasts_S1_S1x1x1) inpos_S1x1x1_p0_0_0)

/-- `v` placed at lane `h` of the first row, the lanes and the rows being numbered by `l` and `r`. -/
def atLane (l r : IVec S8x128 32) (h : BitVec 32) (v : F .f32) : FVec F S8x128 .f32 :=
  select (andi (cmpi .eq l (broadcast S8x128 h)) (cmpi .eq r (broadcast S8x128 0#32)))
    (broadcast S8x128 v) (broadcast S8x128 (Scalar.ofBits .f32 0x00000000#32))

/-- A head's three lanes of the sinks' gradient, added onto `x`. -/
def Group.addSinks (G : Group F) (l r : IVec S8x128 32) (h₀ h₁ h₂ : BitVec 32) (x : FVec F S8x128 .f32) : FVec F S8x128 .f32 :=
  addf (addf (addf x (atLane l r h₀ (minusSumOf 0#32 G.dsink))) (atLane l r h₁ (minusSumOf 1#32 G.dsink)))
    (atLane l r h₂ (minusSumOf 2#32 G.dsink))

/-- The blocks one grid point reads. -/
structure Blocks (F : FTy → Type) where
  q : Vec F S1x128x768 .f32
  kPrev : Vec F S1x128x256 .f32
  kCur : Vec F S1x128x256 .f32
  vPrev : Vec F S1x128x256 .f32
  vCur : Vec F S1x128x256 .f32
  sink : Fin 12 → F .f32
  ct : Vec F S1x128x768 .f32
  hasPrev : BitVec 1

/-- A block of queries (or of their cotangent) as a matrix. -/
def wide (x : Vec F S1x128x768 .f32) : FVec F S128x768 .bf16 :=
  truncf .bf16 (shapeCast S128x768 x shapeCasts_S1x128x768_S128x768) bitsLt_bf16_f32

/-- A block of keys or values as a matrix. -/
def narrow (x : Vec F S1x128x256 .f32) : FVec F S128x256 .bf16 :=
  truncf .bf16 (shapeCast S128x256 x shapeCasts_S1x128x256_S128x256) bitsLt_bf16_f32

/-- Three 64-column pieces stacked. -/
def stack (x y z : FVec F S128x64 .bf16) : FVec F S384x64 .bf16 :=
  concatenate S384x64 0 [⟨S128x64, x⟩, ⟨S128x64, y⟩, ⟨S128x64, z⟩] concatenates_S128x64_S128x64_S128x64_S384x64_d0

/-- The stacked columns of each key/value head's query heads. -/
def stacked (x : Vec F S1x128x768 .f32) : Fin 4 → FVec F S384x64 .bf16 := ![
  stack (extractStridedSlice S128x64 ![0, 0] (wide x) slices_S128x768_o0_0_S128x64) (extractStridedSlice S128x64 ![0, 64] (wide x) slices_S128x768_o0_64_S128x64) (extractStridedSlice S128x64 ![0, 128] (wide x) slices_S128x768_o0_128_S128x64),
  stack (extractStridedSlice S128x64 ![0, 192] (wide x) slices_S128x768_o0_192_S128x64) (extractStridedSlice S128x64 ![0, 256] (wide x) slices_S128x768_o0_256_S128x64) (extractStridedSlice S128x64 ![0, 320] (wide x) slices_S128x768_o0_320_S128x64),
  stack (extractStridedSlice S128x64 ![0, 384] (wide x) slices_S128x768_o0_384_S128x64) (extractStridedSlice S128x64 ![0, 448] (wide x) slices_S128x768_o0_448_S128x64) (extractStridedSlice S128x64 ![0, 512] (wide x) slices_S128x768_o0_512_S128x64),
  stack (extractStridedSlice S128x64 ![0, 576] (wide x) slices_S128x768_o0_576_S128x64) (extractStridedSlice S128x64 ![0, 640] (wide x) slices_S128x768_o0_640_S128x64) (extractStridedSlice S128x64 ![0, 704] (wide x) slices_S128x768_o0_704_S128x64)]

/-- The columns of each key/value head. -/
def headOf (x : Vec F S1x128x256 .f32) : Fin 4 → FVec F S128x64 .bf16 := ![
  extractStridedSlice S128x64 ![0, 0] (narrow x) slices_S128x256_o0_0_S128x64,
  extractStridedSlice S128x64 ![0, 64] (narrow x) slices_S128x256_o0_64_S128x64,
  extractStridedSlice S128x64 ![0, 128] (narrow x) slices_S128x256_o0_128_S128x64,
  extractStridedSlice S128x64 ![0, 192] (narrow x) slices_S128x256_o0_192_S128x64]

/-- The slopes of each key/value head's query heads, spread over the rows. -/
def slopes : Fin 4 → FVec F S384x1 .f32 := ![
  spread (Scalar.ofBits .f32 0x3F000000#32) (Scalar.ofBits .f32 0x3E800000#32) (Scalar.ofBits .f32 0x3E000000#32),
  spread (Scalar.ofBits .f32 0x3D800000#32) (Scalar.ofBits .f32 0x3D000000#32) (Scalar.ofBits .f32 0x3C800000#32),
  spread (Scalar.ofBits .f32 0x3C000000#32) (Scalar.ofBits .f32 0x3B800000#32) (Scalar.ofBits .f32 0x3F3504F3#32),
  spread (Scalar.ofBits .f32 0x3EB504F3#32) (Scalar.ofBits .f32 0x3E3504F3#32) (Scalar.ofBits .f32 0x3DB504F3#32)]

/-- The sinks of each key/value head's query heads, spread over the rows. -/
def sinks (s : Fin 12 → F .f32) : Fin 4 → FVec F S384x1 .f32 :=
  ![spread (s 0) (s 1) (s 2), spread (s 3) (s 4) (s 5), spread (s 6) (s 7) (s 8), spread (s 9) (s 10) (s 11)]

/-- The operands of key/value head `k`. -/
def Blocks.group (B : Blocks F) (k : Fin 4) : Group F where
  q := stacked B.q k
  ct := stacked B.ct k
  kPrev := headOf B.kPrev k
  kCur := headOf B.kCur k
  vPrev := headOf B.vPrev k
  vCur := headOf B.vCur k
  sink := sinks B.sink k
  slope := slopes k
  hasPrev := B.hasPrev

/-- The block of the queries' gradient a grid point writes. -/
def Blocks.dq (B : Blocks F) : FVec F S1x128x768 .bf16 :=
  let piece (k : Fin 4) : Fin 3 → FVec F S128x64 .f32 := ![
    extractStridedSlice S128x64 ![0, 0] (B.group k).dq slices_S384x64_o0_0_S128x64,
    extractStridedSlice S128x64 ![128, 0] (B.group k).dq slices_S384x64_o128_0_S128x64,
    extractStridedSlice S128x64 ![256, 0] (B.group k).dq slices_S384x64_o256_0_S128x64]
  shapeCast S1x128x768 (truncf .bf16 (concatenate S128x768 1
    [⟨S128x64, piece 0 0⟩, ⟨S128x64, piece 0 1⟩, ⟨S128x64, piece 0 2⟩, ⟨S128x64, piece 1 0⟩, ⟨S128x64, piece 1 1⟩, ⟨S128x64, piece 1 2⟩,
     ⟨S128x64, piece 2 0⟩, ⟨S128x64, piece 2 1⟩, ⟨S128x64, piece 2 2⟩, ⟨S128x64, piece 3 0⟩, ⟨S128x64, piece 3 1⟩, ⟨S128x64, piece 3 2⟩]
    concatenates_S128x64_S128x64_S128x64_S128x64_S128x64_S128x64_S128x64_S128x64_S128x64_S128x64_S128x64_S128x64_S128x768_d1) bitsLt_bf16_f32)
    shapeCasts_S128x768_S1x128x768

/-- Four key pieces and four value pieces side by side. -/
def beside (x y : Fin 4 → FVec F S128x64 .f32) : FVec F S1x128x512 .f32 :=
  shapeCast S1x128x512 (concatenate S128x512 1
    [⟨S128x64, x 0⟩, ⟨S128x64, x 1⟩, ⟨S128x64, x 2⟩, ⟨S128x64, x 3⟩, ⟨S128x64, y 0⟩, ⟨S128x64, y 1⟩, ⟨S128x64, y 2⟩, ⟨S128x64, y 3⟩]
    concatenates_S128x64_S128x64_S128x64_S128x64_S128x64_S128x64_S128x64_S128x64_S128x512_d1) shapeCasts_S128x512_S1x128x512

/-- The block of the current keys' and values' gradient a grid point writes. -/
def Blocks.dkvCur (B : Blocks F) : FVec F S1x128x512 .f32 := beside (fun k => (B.group k).dkCur) fun k => (B.group k).dvCur

/-- The block of the previous keys' and values' gradient a grid point writes. -/
def Blocks.dkvPrev (B : Blocks F) : FVec F S1x128x512 .f32 := beside (fun k => (B.group k).dkPrev) fun k => (B.group k).dvPrev

/-- What a grid point adds to the sinks' gradient. -/
def Blocks.dsinks (B : Blocks F) : FVec F S8x128 .f32 :=
  let l := iota .tc S8x128 32 [1] iota_S8x128_d1_w32
  let r := iota .tc S8x128 32 [0] iota_S8x128_d0_w32
  (B.group 3).addSinks l r 9#32 10#32 11#32 ((B.group 2).addSinks l r 6#32 7#32 8#32 ((B.group 1).addSinks l r 3#32 4#32 5#32
    ((B.group 0).addSinks l r 0#32 1#32 2#32 (broadcast S8x128 (Scalar.ofBits .f32 0x00000000#32)))))

variable (m : (ℓ : Loc nD τ sig) → Buf (Elt F) ℓ)

theorem S1_pos : 0 < S1.numel := by decide

/-- One of the sinks, as grid point `t` reads it. -/
abbrev sinkAt (c : Dev nD) (t : Fin cfg0.N) (h : Nat) (inb : ∀ a, (![h] : Fin 1 → Nat) a + S1.size a ≤ S12.size a) : F .f32 :=
  View.ld (iblk m c 5 t) (Rect.unit (s := S12) ![h] ![1] inb) (Shape.Idx.first S1_pos)

/-- The blocks grid point `t` reads. -/
@[reducible] def at_ (c : Dev nD) (t : Fin cfg0.N) : Blocks F where
  q := X0_0 m c t
  kPrev := iblk m c 1 t
  kCur := iblk m c 2 t
  vPrev := iblk m c 3 t
  vCur := iblk m c 4 t
  sink := ![sinkAt m c t 0 inb_S12_S1_0,
    sinkAt m c t 1 inb_S12_S1_1,
    sinkAt m c t 2 inb_S12_S1_2,
    sinkAt m c t 3 inb_S12_S1_3,
    sinkAt m c t 4 inb_S12_S1_4,
    sinkAt m c t 5 inb_S12_S1_5,
    sinkAt m c t 6 inb_S12_S1_6,
    sinkAt m c t 7 inb_S12_S1_7,
    sinkAt m c t 8 inb_S12_S1_8,
    sinkAt m c t 9 inb_S12_S1_9,
    sinkAt m c t 10 inb_S12_S1_10,
    sinkAt m c t 11 inb_S12_S1_11]
  ct := iblk m c 6 t
  hasPrev := Scalar.cmpi .sgt (BitVec.ofNat 32 (grid0.coords t 1).val) 0#32

section
variable (B : Blocks F) (l r : IVec S8x128 32)
theorem pay3 : k0_pay3 B.q = wide B.q := rfl
theorem pay4 : k0_pay4 B.kPrev = narrow B.kPrev := rfl
theorem pay5 : k0_pay5 B.kCur = narrow B.kCur := rfl
theorem pay6 : k0_pay6 B.vPrev = narrow B.vPrev := rfl
theorem pay7 : k0_pay7 B.vCur = narrow B.vCur := rfl
theorem pay8 : k0_pay8 B.ct = wide B.ct := rfl
theorem pay9 : k0_pay9 (F := F)  = broadcast S8x128 (Scalar.ofBits .f32 0x00000000#32) := rfl
theorem pay10 : k0_pay10  = which := rfl
theorem pay11 : k0_pay11 B.q = (B.group 0).q := rfl
theorem pay12 : k0_pay12 B.ct = (B.group 0).ct := rfl
theorem pay13 : k0_pay13 B.kPrev = (B.group 0).kPrev := rfl
theorem pay14 : k0_pay14 B.kCur = (B.group 0).kCur := rfl
theorem pay16 : k0_pay16 (F := F)  = (B.group 0).slope := rfl
theorem pay17 : k0_pay17  = qpos := rfl
theorem pay18 : k0_pay18 (B.group 0).q (B.group 0).kPrev = mulf (rowsTimes (B.group 0).q (B.group 0).kPrev) (broadcast S384x128 (Scalar.ofBits .f32 0x3E000000#32)) := rfl
theorem pay19 : k0_pay19 (B.group 0).q (B.group 0).kCur = mulf (rowsTimes (B.group 0).q (B.group 0).kCur) (broadcast S384x128 (Scalar.ofBits .f32 0x3E000000#32)) := rfl
theorem pay20 : k0_pay20 (F := F)  = sitofp .f32 (subi (addi qpos (broadcast S384x128 128#32)) (iota .tc S384x128 32 [1] iota_S384x128_d1_w32)) := rfl
theorem pay21 : k0_pay21 (F := F)  = sitofp .f32 (subi qpos (iota .tc S384x128 32 [1] iota_S384x128_d1_w32)) := rfl
theorem pay29 : k0_pay29 B.hasPrev (B.group 0).sink (B.group 0).slope qpos (iota .tc S384x128 32 [1] iota_S384x128_d1_w32) (mulf (rowsTimes (B.group 0).q (B.group 0).kPrev) (broadcast S384x128 (Scalar.ofBits .f32 0x3E000000#32))) (mulf (rowsTimes (B.group 0).q (B.group 0).kCur) (broadcast S384x128 (Scalar.ofBits .f32 0x3E000000#32))) (sitofp .f32 (subi (addi qpos (broadcast S384x128 128#32)) (iota .tc S384x128 32 [1] iota_S384x128_d1_w32))) (sitofp .f32 (subi qpos (iota .tc S384x128 32 [1] iota_S384x128_d1_w32))) 0#32 = (B.group 0).probPrev := rfl
theorem pay30 : k0_pay30 B.hasPrev (B.group 0).sink (B.group 0).slope qpos (iota .tc S384x128 32 [1] iota_S384x128_d1_w32) (mulf (rowsTimes (B.group 0).q (B.group 0).kPrev) (broadcast S384x128 (Scalar.ofBits .f32 0x3E000000#32))) (mulf (rowsTimes (B.group 0).q (B.group 0).kCur) (broadcast S384x128 (Scalar.ofBits .f32 0x3E000000#32))) (sitofp .f32 (subi (addi qpos (broadcast S384x128 128#32)) (iota .tc S384x128 32 [1] iota_S384x128_d1_w32))) (sitofp .f32 (subi qpos (iota .tc S384x128 32 [1] iota_S384x128_d1_w32))) 0#32 = (B.group 0).probCur := rfl
theorem pay31 : k0_pay31 B.hasPrev (B.group 0).sink (B.group 0).slope qpos (iota .tc S384x128 32 [1] iota_S384x128_d1_w32) (mulf (rowsTimes (B.group 0).q (B.group 0).kPrev) (broadcast S384x128 (Scalar.ofBits .f32 0x3E000000#32))) (mulf (rowsTimes (B.group 0).q (B.group 0).kCur) (broadcast S384x128 (Scalar.ofBits .f32 0x3E000000#32))) (sitofp .f32 (subi (addi qpos (broadcast S384x128 128#32)) (iota .tc S384x128 32 [1] iota_S384x128_d1_w32))) (sitofp .f32 (subi qpos (iota .tc S384x128 32 [1] iota_S384x128_d1_w32))) 0#32 = (B.group 0).probSink := rfl
theorem pay32 : k0_pay32 (narrow B.vPrev) (B.group 0).ct = (B.group 0).dprobPrev := rfl
theorem pay33 : k0_pay33 (narrow B.vCur) (B.group 0).ct = (B.group 0).dprobCur := rfl
theorem pay34 : k0_pay34 B.hasPrev (narrow B.vPrev) (B.group 0).ct (B.group 0).sink (B.group 0).slope qpos (iota .tc S384x128 32 [1] iota_S384x128_d1_w32) (mulf (rowsTimes (B.group 0).q (B.group 0).kPrev) (broadcast S384x128 (Scalar.ofBits .f32 0x3E000000#32))) (mulf (rowsTimes (B.group 0).q (B.group 0).kCur) (broadcast S384x128 (Scalar.ofBits .f32 0x3E000000#32))) (sitofp .f32 (subi (addi qpos (broadcast S384x128 128#32)) (iota .tc S384x128 32 [1] iota_S384x128_d1_w32))) (sitofp .f32 (subi qpos (iota .tc S384x128 32 [1] iota_S384x128_d1_w32))) 0#32 = rowSum (mulf (B.group 0).probPrev (B.group 0).dprobPrev) := rfl
theorem pay39 : k0_pay39 (narrow B.kPrev) (narrow B.kCur) (B.group 0).probPrev (B.group 0).probCur (B.group 0).dprobPrev (B.group 0).dprobCur (rowSum (mulf (B.group 0).probPrev (B.group 0).dprobPrev)) = extractStridedSlice S128x64 ![0, 0] (B.group 0).dq slices_S384x64_o0_0_S128x64 := rfl
theorem pay40 : k0_pay40 (narrow B.kPrev) (narrow B.kCur) (B.group 0).probPrev (B.group 0).probCur (B.group 0).dprobPrev (B.group 0).dprobCur (rowSum (mulf (B.group 0).probPrev (B.group 0).dprobPrev)) = extractStridedSlice S128x64 ![128, 0] (B.group 0).dq slices_S384x64_o128_0_S128x64 := rfl
theorem pay41 : k0_pay41 (narrow B.kPrev) (narrow B.kCur) (B.group 0).probPrev (B.group 0).probCur (B.group 0).dprobPrev (B.group 0).dprobCur (rowSum (mulf (B.group 0).probPrev (B.group 0).dprobPrev)) = extractStridedSlice S128x64 ![256, 0] (B.group 0).dq slices_S384x64_o256_0_S128x64 := rfl
theorem pay42 : k0_pay42 (B.group 0).q (B.group 0).probCur (B.group 0).dprobCur (rowSum (mulf (B.group 0).probPrev (B.group 0).dprobPrev)) = (B.group 0).dkCur := rfl
theorem pay43 : k0_pay43 (B.group 0).q (B.group 0).probPrev (B.group 0).probCur (B.group 0).dprobPrev (B.group 0).dprobCur (rowSum (mulf (B.group 0).probPrev (B.group 0).dprobPrev)) = (B.group 0).dkPrev := rfl
theorem pay44 : k0_pay44 (B.group 0).ct (B.group 0).probCur = (B.group 0).dvCur := rfl
theorem pay45 : k0_pay45 (B.group 0).ct (B.group 0).probPrev = (B.group 0).dvPrev := rfl
theorem pay46 : k0_pay46 (B.group 0).probCur (B.group 0).probSink (B.group 0).dprobCur (rowSum (mulf (B.group 0).probPrev (B.group 0).dprobPrev)) = (B.group 0).dsink := rfl
theorem pay47 : k0_pay47 l r = andi (cmpi .eq l (broadcast S8x128 0#32)) (cmpi .eq r (broadcast S8x128 0#32)) := rfl
theorem pay48 : k0_pay48 which (B.group 0).probCur (B.group 0).probSink (B.group 0).dprobCur (rowSum (mulf (B.group 0).probPrev (B.group 0).dprobPrev)) = minusSumOf 0#32 (B.group 0).dsink := rfl
theorem pay49 : k0_pay49 l r (broadcast S8x128 (Scalar.ofBits .f32 0x00000000#32)) which (B.group 0).dsink (andi (cmpi .eq l (broadcast S8x128 0#32)) (cmpi .eq r (broadcast S8x128 0#32))) (minusSumOf 0#32 (B.group 0).dsink) = (B.group 0).addSinks l r 0#32 1#32 2#32 (broadcast S8x128 (Scalar.ofBits .f32 0x00000000#32)) := rfl
theorem pay50 : k0_pay50 (wide B.q) = (B.group 1).q := rfl
theorem pay51 : k0_pay51 (wide B.ct) = extractStridedSlice S128x64 ![0, 192] (wide B.ct) slices_S128x768_o0_192_S128x64 := rfl
theorem pay52 : k0_pay52 (wide B.ct) (extractStridedSlice S128x64 ![0, 192] (wide B.ct) slices_S128x768_o0_192_S128x64) = (B.group 1).ct := rfl
theorem pay54 : k0_pay54 (F := F)  = (B.group 1).slope := rfl
theorem pay55 : k0_pay55  = qpos := rfl
theorem pay56 : k0_pay56 (narrow B.kPrev) (B.group 1).q = mulf (rowsTimes (B.group 1).q (B.group 1).kPrev) (broadcast S384x128 (Scalar.ofBits .f32 0x3E000000#32)) := rfl
theorem pay57 : k0_pay57 (narrow B.kCur) (B.group 1).q = mulf (rowsTimes (B.group 1).q (B.group 1).kCur) (broadcast S384x128 (Scalar.ofBits .f32 0x3E000000#32)) := rfl
theorem pay65 : k0_pay65 B.hasPrev (B.group 1).sink (B.group 1).slope qpos (iota .tc S384x128 32 [1] iota_S384x128_d1_w32) (mulf (rowsTimes (B.group 1).q (B.group 1).kPrev) (broadcast S384x128 (Scalar.ofBits .f32 0x3E000000#32))) (mulf (rowsTimes (B.group 1).q (B.group 1).kCur) (broadcast S384x128 (Scalar.ofBits .f32 0x3E000000#32))) 128#32 = (B.group 1).probPrev := rfl
theorem pay66 : k0_pay66 B.hasPrev (B.group 1).sink (B.group 1).slope qpos (iota .tc S384x128 32 [1] iota_S384x128_d1_w32) (mulf (rowsTimes (B.group 1).q (B.group 1).kPrev) (broadcast S384x128 (Scalar.ofBits .f32 0x3E000000#32))) (mulf (rowsTimes (B.group 1).q (B.group 1).kCur) (broadcast S384x128 (Scalar.ofBits .f32 0x3E000000#32))) 128#32 = (B.group 1).probCur := rfl
theorem pay67 : k0_pay67 B.hasPrev (B.group 1).sink (B.group 1).slope qpos (iota .tc S384x128 32 [1] iota_S384x128_d1_w32) (mulf (rowsTimes (B.group 1).q (B.group 1).kPrev) (broadcast S384x128 (Scalar.ofBits .f32 0x3E000000#32))) (mulf (rowsTimes (B.group 1).q (B.group 1).kCur) (broadcast S384x128 (Scalar.ofBits .f32 0x3E000000#32))) 128#32 = (B.group 1).probSink := rfl
theorem pay68 : k0_pay68 (narrow B.vPrev) (B.group 1).ct = (B.group 1).dprobPrev := rfl
theorem pay74 : k0_pay74 (narrow B.kPrev) (narrow B.kCur) (narrow B.vCur) (B.group 1).ct (B.group 1).probPrev (B.group 1).probCur (B.group 1).dprobPrev = extractStridedSlice S128x64 ![0, 0] (B.group 1).dq slices_S384x64_o0_0_S128x64 := rfl
theorem pay75 : k0_pay75 (narrow B.kPrev) (narrow B.kCur) (narrow B.vCur) (B.group 1).ct (B.group 1).probPrev (B.group 1).probCur (B.group 1).dprobPrev = extractStridedSlice S128x64 ![128, 0] (B.group 1).dq slices_S384x64_o128_0_S128x64 := rfl
theorem pay76 : k0_pay76 (narrow B.kPrev) (narrow B.kCur) (narrow B.vCur) (B.group 1).ct (B.group 1).probPrev (B.group 1).probCur (B.group 1).dprobPrev = extractStridedSlice S128x64 ![256, 0] (B.group 1).dq slices_S384x64_o256_0_S128x64 := rfl
theorem pay77 : k0_pay77 (narrow B.vCur) (B.group 1).q (B.group 1).ct (B.group 1).probPrev (B.group 1).probCur (B.group 1).dprobPrev = (B.group 1).dkCur := rfl
theorem pay78 : k0_pay78 (narrow B.vCur) (B.group 1).q (B.group 1).ct (B.group 1).probPrev (B.group 1).probCur (B.group 1).dprobPrev = (B.group 1).dkPrev := rfl
theorem pay79 : k0_pay79 (B.group 1).ct (B.group 1).probCur = (B.group 1).dvCur := rfl
theorem pay80 : k0_pay80 (B.group 1).ct (B.group 1).probPrev = (B.group 1).dvPrev := rfl
theorem pay81 : k0_pay81 (narrow B.vCur) (B.group 1).ct (B.group 1).probPrev (B.group 1).probCur (B.group 1).probSink (B.group 1).dprobPrev = (B.group 1).dsink := rfl
theorem pay82 : k0_pay82 l r = andi (cmpi .eq l (broadcast S8x128 3#32)) (cmpi .eq r (broadcast S8x128 0#32)) := rfl
theorem pay83 : k0_pay83 (narrow B.vCur) which (B.group 1).ct (B.group 1).probPrev (B.group 1).probCur (B.group 1).probSink (B.group 1).dprobPrev = select (cmpi .eq which (broadcast S384x1 0#32)) (B.group 1).dsink (broadcast S384x1 (Scalar.ofBits .f32 0x00000000#32)) := rfl
theorem pay84 : k0_pay84 l r which ((B.group 0).addSinks l r 0#32 1#32 2#32 (broadcast S8x128 (Scalar.ofBits .f32 0x00000000#32))) (B.group 1).dsink (andi (cmpi .eq l (broadcast S8x128 3#32)) (cmpi .eq r (broadcast S8x128 0#32))) (select (cmpi .eq which (broadcast S384x1 0#32)) (B.group 1).dsink (broadcast S384x1 (Scalar.ofBits .f32 0x00000000#32))) = addf (addf ((B.group 0).addSinks l r 0#32 1#32 2#32 (broadcast S8x128 (Scalar.ofBits .f32 0x00000000#32))) (atLane l r 3#32 (minusSumOf 0#32 (B.group 1).dsink))) (atLane l r 4#32 (minusSumOf 1#32 (B.group 1).dsink)) := rfl
theorem pay85 : k0_pay85 l r = andi (cmpi .eq l (broadcast S8x128 5#32)) (cmpi .eq r (broadcast S8x128 0#32)) := rfl
theorem pay86 : k0_pay86 which (B.group 1).dsink = broadcast S8x128 (minusSumOf 2#32 (B.group 1).dsink) := rfl
theorem pay87 : k0_pay87 (F := F)  = (broadcast S8x128 (Scalar.ofBits .f32 0x00000000#32)) := rfl
theorem pay88 : k0_pay88 (addf (addf ((B.group 0).addSinks l r 0#32 1#32 2#32 (broadcast S8x128 (Scalar.ofBits .f32 0x00000000#32))) (atLane l r 3#32 (minusSumOf 0#32 (B.group 1).dsink))) (atLane l r 4#32 (minusSumOf 1#32 (B.group 1).dsink))) (andi (cmpi .eq l (broadcast S8x128 5#32)) (cmpi .eq r (broadcast S8x128 0#32))) (broadcast S8x128 (minusSumOf 2#32 (B.group 1).dsink)) ((broadcast S8x128 (Scalar.ofBits .f32 0x00000000#32))) = (B.group 1).addSinks l r 3#32 4#32 5#32 ((B.group 0).addSinks l r 0#32 1#32 2#32 (broadcast S8x128 (Scalar.ofBits .f32 0x00000000#32))) := rfl
theorem pay89 : k0_pay89 (wide B.q) = (B.group 2).q := rfl
theorem pay90 : k0_pay90 (wide B.ct) = (B.group 2).ct := rfl
theorem pay91 : k0_pay91 (narrow B.kCur) = (B.group 2).kCur := rfl
theorem pay93 : k0_pay93 (F := F)  = (B.group 2).slope := rfl
theorem pay94 : k0_pay94  = qpos := rfl
theorem pay95 : k0_pay95 (wide B.q) (narrow B.kPrev) = rowsTimes (B.group 2).q (B.group 2).kPrev := rfl
theorem pay96 : k0_pay96 (F := F)  = broadcast S384x128 (Scalar.ofBits .f32 0x3E000000#32) := rfl
theorem pay100 : k0_pay100 B.hasPrev (B.group 2).q (B.group 2).kCur (B.group 2).sink (B.group 2).slope qpos (iota .tc S384x128 32 [1] iota_S384x128_d1_w32) (rowsTimes (B.group 2).q (B.group 2).kPrev) (broadcast S384x128 (Scalar.ofBits .f32 0x3E000000#32)) = (B.group 2).expPrev := rfl
theorem pay101 : k0_pay101 B.hasPrev (B.group 2).q (B.group 2).kCur (B.group 2).sink (B.group 2).slope qpos (iota .tc S384x128 32 [1] iota_S384x128_d1_w32) (rowsTimes (B.group 2).q (B.group 2).kPrev) (broadcast S384x128 (Scalar.ofBits .f32 0x3E000000#32)) = (B.group 2).expCur := rfl
theorem pay102 : k0_pay102 B.hasPrev (B.group 2).q (B.group 2).kCur (B.group 2).sink (B.group 2).slope qpos (iota .tc S384x128 32 [1] iota_S384x128_d1_w32) (rowsTimes (B.group 2).q (B.group 2).kPrev) (broadcast S384x128 (Scalar.ofBits .f32 0x3E000000#32)) = (B.group 2).expSink := rfl
theorem pay103 : k0_pay103 B.hasPrev (B.group 2).q (B.group 2).kCur (B.group 2).sink (B.group 2).slope qpos (iota .tc S384x128 32 [1] iota_S384x128_d1_w32) (rowsTimes (B.group 2).q (B.group 2).kPrev) (broadcast S384x128 (Scalar.ofBits .f32 0x3E000000#32)) = (B.group 2).recip := rfl
theorem pay104 : k0_pay104 B.hasPrev (B.group 2).q (B.group 2).kCur (B.group 2).sink (B.group 2).slope qpos (iota .tc S384x128 32 [1] iota_S384x128_d1_w32) (rowsTimes (B.group 2).q (B.group 2).kPrev) (broadcast S384x128 (Scalar.ofBits .f32 0x3E000000#32)) = broadcastTo S384x128 (B.group 2).recip broadcasts_S384x1_S384x128 := rfl
theorem pay113 : k0_pay113 (narrow B.kPrev) (narrow B.kCur) (narrow B.vPrev) (narrow B.vCur) (B.group 2).ct (B.group 2).expPrev (B.group 2).expCur (B.group 2).recip (broadcastTo S384x128 (B.group 2).recip broadcasts_S384x1_S384x128) = extractStridedSlice S128x64 ![0, 0] (B.group 2).dq slices_S384x64_o0_0_S128x64 := rfl
theorem pay114 : k0_pay114 (narrow B.kPrev) (narrow B.kCur) (narrow B.vPrev) (narrow B.vCur) (B.group 2).ct (B.group 2).expPrev (B.group 2).expCur (B.group 2).recip (broadcastTo S384x128 (B.group 2).recip broadcasts_S384x1_S384x128) = extractStridedSlice S128x64 ![128, 0] (B.group 2).dq slices_S384x64_o128_0_S128x64 := rfl
theorem pay115 : k0_pay115 (narrow B.kPrev) (narrow B.kCur) (narrow B.vPrev) (narrow B.vCur) (B.group 2).ct (B.group 2).expPrev (B.group 2).expCur (B.group 2).recip (broadcastTo S384x128 (B.group 2).recip broadcasts_S384x1_S384x128) = extractStridedSlice S128x64 ![256, 0] (B.group 2).dq slices_S384x64_o256_0_S128x64 := rfl
theorem pay116 : k0_pay116 (narrow B.vPrev) (narrow B.vCur) (B.group 2).q (B.group 2).ct (B.group 2).expPrev (B.group 2).expCur (B.group 2).recip (broadcastTo S384x128 (B.group 2).recip broadcasts_S384x1_S384x128) = (B.group 2).dkCur := rfl
theorem pay117 : k0_pay117 (narrow B.vPrev) (narrow B.vCur) (B.group 2).q (B.group 2).ct (B.group 2).expPrev (B.group 2).expCur (B.group 2).recip (broadcastTo S384x128 (B.group 2).recip broadcasts_S384x1_S384x128) = (B.group 2).dkPrev := rfl
theorem pay118 : k0_pay118 (B.group 2).ct (B.group 2).expCur (B.group 2).recip = (B.group 2).dvCur := rfl
theorem pay119 : k0_pay119 (B.group 2).ct (B.group 2).expPrev (broadcastTo S384x128 (B.group 2).recip broadcasts_S384x1_S384x128) = (B.group 2).dvPrev := rfl
theorem pay120 : k0_pay120 (narrow B.vPrev) (narrow B.vCur) (B.group 2).ct (B.group 2).expPrev (B.group 2).expCur (B.group 2).expSink (B.group 2).recip (broadcastTo S384x128 (B.group 2).recip broadcasts_S384x1_S384x128) = (B.group 2).dsink := rfl
theorem pay121 : k0_pay121 l = cmpi .eq l (broadcast S8x128 6#32) := rfl
theorem pay122 : k0_pay122 r = cmpi .eq r (broadcast S8x128 0#32) := rfl
theorem pay123 : k0_pay123 l r which ((B.group 1).addSinks l r 3#32 4#32 5#32 ((B.group 0).addSinks l r 0#32 1#32 2#32 (broadcast S8x128 (Scalar.ofBits .f32 0x00000000#32)))) (B.group 2).dsink (cmpi .eq l (broadcast S8x128 6#32)) (cmpi .eq r (broadcast S8x128 0#32)) = addf (addf ((B.group 1).addSinks l r 3#32 4#32 5#32 ((B.group 0).addSinks l r 0#32 1#32 2#32 (broadcast S8x128 (Scalar.ofBits .f32 0x00000000#32)))) (atLane l r 6#32 (minusSumOf 0#32 (B.group 2).dsink))) (atLane l r 7#32 (minusSumOf 1#32 (B.group 2).dsink)) := rfl
theorem pay124 : k0_pay124 l r = andi (cmpi .eq l (broadcast S8x128 8#32)) (cmpi .eq r (broadcast S8x128 0#32)) := rfl
theorem pay125 : k0_pay125 which (B.group 2).dsink = multiReduction .add [1, 2] S1 (shapeCast S1x384x1 (select (cmpi .eq which (broadcast S384x1 2#32)) (B.group 2).dsink (broadcast S384x1 (Scalar.ofBits .f32 0x00000000#32))) shapeCasts_S384x1_S1x384x1) 0x00000000#32 reduces_S1x384x1_S1 (.inl rfl) rfl := rfl
theorem pay126 : k0_pay126 (addf (addf ((B.group 1).addSinks l r 3#32 4#32 5#32 ((B.group 0).addSinks l r 0#32 1#32 2#32 (broadcast S8x128 (Scalar.ofBits .f32 0x00000000#32)))) (atLane l r 6#32 (minusSumOf 0#32 (B.group 2).dsink))) (atLane l r 7#32 (minusSumOf 1#32 (B.group 2).dsink))) (andi (cmpi .eq l (broadcast S8x128 8#32)) (cmpi .eq r (broadcast S8x128 0#32))) (multiReduction .add [1, 2] S1 (shapeCast S1x384x1 (select (cmpi .eq which (broadcast S384x1 2#32)) (B.group 2).dsink (broadcast S384x1 (Scalar.ofBits .f32 0x00000000#32))) shapeCasts_S384x1_S1x384x1) 0x00000000#32 reduces_S1x384x1_S1 (.inl rfl) rfl) = (B.group 2).addSinks l r 6#32 7#32 8#32 ((B.group 1).addSinks l r 3#32 4#32 5#32 ((B.group 0).addSinks l r 0#32 1#32 2#32 (broadcast S8x128 (Scalar.ofBits .f32 0x00000000#32)))) := rfl
theorem pay127 : k0_pay127 (wide B.q) = (B.group 3).q := rfl
theorem pay128 : k0_pay128 (wide B.ct) = (B.group 3).ct := rfl
theorem pay129 : k0_pay129 (narrow B.kPrev) = (B.group 3).kPrev := rfl
theorem pay130 : k0_pay130 (narrow B.kCur) = (B.group 3).kCur := rfl
theorem pay132 : k0_pay132 (F := F)  = (B.group 3).slope := rfl
theorem pay137 : k0_pay137 B.hasPrev (B.group 3).q (B.group 3).kPrev (B.group 3).kCur (B.group 3).sink (B.group 3).slope (iota .tc S384x128 32 [0] iota_S384x128_d0_w32) 127#32 = (B.group 3).expPrev := rfl
theorem pay138 : k0_pay138 B.hasPrev (B.group 3).q (B.group 3).kPrev (B.group 3).kCur (B.group 3).sink (B.group 3).slope (iota .tc S384x128 32 [0] iota_S384x128_d0_w32) 127#32 = (B.group 3).expCur := rfl
theorem pay139 : k0_pay139 B.hasPrev (B.group 3).q (B.group 3).kPrev (B.group 3).kCur (B.group 3).sink (B.group 3).slope (iota .tc S384x128 32 [0] iota_S384x128_d0_w32) 127#32 = (B.group 3).expSink := rfl
theorem pay140 : k0_pay140 B.hasPrev (B.group 3).q (B.group 3).kPrev (B.group 3).kCur (B.group 3).sink (B.group 3).slope (iota .tc S384x128 32 [0] iota_S384x128_d0_w32) 127#32 = rowSum (B.group 3).expPrev := rfl
theorem pay141 : k0_pay141 B.hasPrev (B.group 3).q (B.group 3).kPrev (B.group 3).kCur (B.group 3).sink (B.group 3).slope (iota .tc S384x128 32 [0] iota_S384x128_d0_w32) 127#32 = multiReduction .add [1] S384 (B.group 3).expCur 0x00000000#32 reduces_S384x128_S384 (.inl rfl) rfl := rfl
theorem pay145 : k0_pay145 (B.group 3).expSink (rowSum (B.group 3).expPrev) (multiReduction .add [1] S384 (B.group 3).expCur 0x00000000#32 reduces_S384x128_S384 (.inl rfl) rfl) = (B.group 3).probSink := rfl
theorem pay148 : k0_pay148 (narrow B.vPrev) (narrow B.vCur) (B.group 3).ct (B.group 3).expPrev (B.group 3).expCur (B.group 3).expSink (rowSum (B.group 3).expPrev) (multiReduction .add [1] S384 (B.group 3).expCur 0x00000000#32 reduces_S384x128_S384 (.inl rfl) rfl) = (B.group 3).mean := rfl
theorem pay152 : k0_pay152 (narrow B.kPrev) (narrow B.kCur) (narrow B.vPrev) (narrow B.vCur) (B.group 3).ct (B.group 3).expPrev (B.group 3).expCur (B.group 3).expSink (rowSum (B.group 3).expPrev) (multiReduction .add [1] S384 (B.group 3).expCur 0x00000000#32 reduces_S384x128_S384 (.inl rfl) rfl) = extractStridedSlice S128x64 ![0, 0] (B.group 3).dq slices_S384x64_o0_0_S128x64 := rfl
theorem pay153 : k0_pay153 (narrow B.kPrev) (narrow B.kCur) (narrow B.vPrev) (narrow B.vCur) (B.group 3).ct (B.group 3).expPrev (B.group 3).expCur (B.group 3).expSink (rowSum (B.group 3).expPrev) (multiReduction .add [1] S384 (B.group 3).expCur 0x00000000#32 reduces_S384x128_S384 (.inl rfl) rfl) = extractStridedSlice S128x64 ![128, 0] (B.group 3).dq slices_S384x64_o128_0_S128x64 := rfl
theorem pay154 : k0_pay154 (narrow B.kPrev) (narrow B.kCur) (narrow B.vPrev) (narrow B.vCur) (B.group 3).ct (B.group 3).expPrev (B.group 3).expCur (B.group 3).expSink (rowSum (B.group 3).expPrev) (multiReduction .add [1] S384 (B.group 3).expCur 0x00000000#32 reduces_S384x128_S384 (.inl rfl) rfl) = extractStridedSlice S128x64 ![256, 0] (B.group 3).dq slices_S384x64_o256_0_S128x64 := rfl
theorem pay155 : k0_pay155 (narrow B.vPrev) (narrow B.vCur) (B.group 3).q (B.group 3).ct (B.group 3).expPrev (B.group 3).expCur (B.group 3).expSink (rowSum (B.group 3).expPrev) (multiReduction .add [1] S384 (B.group 3).expCur 0x00000000#32 reduces_S384x128_S384 (.inl rfl) rfl) = (B.group 3).dkCur := rfl
theorem pay156 : k0_pay156 (narrow B.vPrev) (narrow B.vCur) (B.group 3).q (B.group 3).ct (B.group 3).expPrev (B.group 3).expCur (B.group 3).expSink (rowSum (B.group 3).expPrev) (multiReduction .add [1] S384 (B.group 3).expCur 0x00000000#32 reduces_S384x128_S384 (.inl rfl) rfl) = (B.group 3).dkPrev := rfl
theorem pay157 : k0_pay157 (B.group 3).ct (B.group 3).expCur (B.group 3).expSink (rowSum (B.group 3).expPrev) (multiReduction .add [1] S384 (B.group 3).expCur 0x00000000#32 reduces_S384x128_S384 (.inl rfl) rfl) = (B.group 3).dvCur := rfl
theorem pay158 : k0_pay158 (B.group 3).ct (B.group 3).expPrev (B.group 3).expSink (rowSum (B.group 3).expPrev) (multiReduction .add [1] S384 (B.group 3).expCur 0x00000000#32 reduces_S384x128_S384 (.inl rfl) rfl) = (B.group 3).dvPrev := rfl
theorem pay159 : k0_pay159 (B.group 3).probSink (B.group 3).mean = (B.group 3).dsink := rfl
theorem pay160 : k0_pay160 l r which ((B.group 2).addSinks l r 6#32 7#32 8#32 ((B.group 1).addSinks l r 3#32 4#32 5#32 ((B.group 0).addSinks l r 0#32 1#32 2#32 (broadcast S8x128 (Scalar.ofBits .f32 0x00000000#32))))) (B.group 3).probSink (B.group 3).mean = addf (addf ((B.group 2).addSinks l r 6#32 7#32 8#32 ((B.group 1).addSinks l r 3#32 4#32 5#32 ((B.group 0).addSinks l r 0#32 1#32 2#32 (broadcast S8x128 (Scalar.ofBits .f32 0x00000000#32))))) (atLane l r 9#32 (minusSumOf 0#32 (B.group 3).dsink))) (atLane l r 10#32 (minusSumOf 1#32 (B.group 3).dsink)) := rfl
theorem pay161 : k0_pay161 l r = andi (cmpi .eq l (broadcast S8x128 11#32)) (cmpi .eq r (broadcast S8x128 0#32)) := rfl
theorem pay162 : k0_pay162  = broadcast S384x1 2#32 := rfl
theorem pay163 : k0_pay163 which (B.group 3).dsink (addf (addf ((B.group 2).addSinks l r 6#32 7#32 8#32 ((B.group 1).addSinks l r 3#32 4#32 5#32 ((B.group 0).addSinks l r 0#32 1#32 2#32 (broadcast S8x128 (Scalar.ofBits .f32 0x00000000#32))))) (atLane l r 9#32 (minusSumOf 0#32 (B.group 3).dsink))) (atLane l r 10#32 (minusSumOf 1#32 (B.group 3).dsink))) (andi (cmpi .eq l (broadcast S8x128 11#32)) (cmpi .eq r (broadcast S8x128 0#32))) (broadcast S384x1 2#32) = (B.group 3).addSinks l r 9#32 10#32 11#32 ((B.group 2).addSinks l r 6#32 7#32 8#32 ((B.group 1).addSinks l r 3#32 4#32 5#32 ((B.group 0).addSinks l r 0#32 1#32 2#32 (broadcast S8x128 (Scalar.ofBits .f32 0x00000000#32))))) := rfl
theorem pay164 : k0_pay164 (extractStridedSlice S128x64 ![0, 0] (B.group 0).dq slices_S384x64_o0_0_S128x64) (extractStridedSlice S128x64 ![128, 0] (B.group 0).dq slices_S384x64_o128_0_S128x64) (extractStridedSlice S128x64 ![256, 0] (B.group 0).dq slices_S384x64_o256_0_S128x64) (extractStridedSlice S128x64 ![0, 0] (B.group 1).dq slices_S384x64_o0_0_S128x64) (extractStridedSlice S128x64 ![128, 0] (B.group 1).dq slices_S384x64_o128_0_S128x64) (extractStridedSlice S128x64 ![256, 0] (B.group 1).dq slices_S384x64_o256_0_S128x64) (extractStridedSlice S128x64 ![0, 0] (B.group 2).dq slices_S384x64_o0_0_S128x64) (extractStridedSlice S128x64 ![128, 0] (B.group 2).dq slices_S384x64_o128_0_S128x64) (extractStridedSlice S128x64 ![256, 0] (B.group 2).dq slices_S384x64_o256_0_S128x64) (extractStridedSlice S128x64 ![0, 0] (B.group 3).dq slices_S384x64_o0_0_S128x64) (extractStridedSlice S128x64 ![128, 0] (B.group 3).dq slices_S384x64_o128_0_S128x64) (extractStridedSlice S128x64 ![256, 0] (B.group 3).dq slices_S384x64_o256_0_S128x64) = B.dq := rfl
theorem pay165 : k0_pay165 (B.group 0).dkCur (B.group 0).dvCur (B.group 1).dkCur (B.group 1).dvCur (B.group 2).dkCur (B.group 2).dvCur (B.group 3).dkCur (B.group 3).dvCur = B.dkvCur := rfl
theorem pay166 : k0_pay166 (B.group 0).dkPrev (B.group 0).dvPrev (B.group 1).dkPrev (B.group 1).dvPrev (B.group 2).dkPrev (B.group 2).dvPrev (B.group 3).dkPrev (B.group 3).dvPrev = B.dkvPrev := rfl
end

section
variable (c : Dev nD) (t : Fin cfg0.N)
theorem pay15 : k0_pay15 (sinkAt m c t 0 inb_S12_S1_0) (sinkAt m c t 1 inb_S12_S1_1) (sinkAt m c t 2 inb_S12_S1_2) = ((at_ m c t).group 0).sink := rfl
theorem pay53 : k0_pay53 (sinkAt m c t 3 inb_S12_S1_3) (sinkAt m c t 4 inb_S12_S1_4) (sinkAt m c t 5 inb_S12_S1_5) = ((at_ m c t).group 1).sink := rfl
theorem pay92 : k0_pay92 (sinkAt m c t 6 inb_S12_S1_6) (sinkAt m c t 7 inb_S12_S1_7) (sinkAt m c t 8 inb_S12_S1_8) = ((at_ m c t).group 2).sink := rfl
theorem pay131 : k0_pay131 (sinkAt m c t 9 inb_S12_S1_9) (sinkAt m c t 10 inb_S12_S1_10) (sinkAt m c t 11 inb_S12_S1_11) = ((at_ m c t).group 3).sink := rfl
end

/-- What a grid point leaves in the three blocks it alone writes. -/
theorem after_blocks (c : Dev nD) (t : Fin cfg0.N) :
    (∀ y, (dats m 0 c).after 7 t y = (at_ m c t).dq y) ∧ (∀ y, (dats m 0 c).after 8 t y = (at_ m c t).dkvCur y) ∧
      ∀ y, (dats m 0 c).after 9 t y = (at_ m c t).dkvPrev y := by
  rw [after0_7, after0_8, after0_9]
  by_cases h0 : t.val % 32 = 0
  · rw [outsAt0_A m c t h0]
    refine ⟨fun y => ?_, fun y => ?_, fun y => ?_⟩ <;> frame_out <;>
    simp only [pay3 (at_ m c t), pay4 (at_ m c t), pay5 (at_ m c t), pay6 (at_ m c t), pay7 (at_ m c t), pay8 (at_ m c t), pay9, pay10, pay11 (at_ m c t), pay12 (at_ m c t), pay13 (at_ m c t), pay14 (at_ m c t), pay15 m c t, pay16 (at_ m c t), pay17, pay18 (at_ m c t), pay19 (at_ m c t), pay20, pay21, pay29 (at_ m c t), pay30 (at_ m c t), pay31 (at_ m c t), pay32 (at_ m c t), pay33 (at_ m c t), pay34 (at_ m c t), pay39 (at_ m c t), pay40 (at_ m c t), pay41 (at_ m c t), pay42 (at_ m c t), pay43 (at_ m c t), pay44 (at_ m c t), pay45 (at_ m c t), pay46 (at_ m c t), pay47, pay48 (at_ m c t), pay49 (at_ m c t), pay50 (at_ m c t), pay51 (at_ m c t), pay52 (at_ m c t), pay53 m c t, pay54 (at_ m c t), pay55, pay56 (at_ m c t), pay57 (at_ m c t), pay65 (at_ m c t), pay66 (at_ m c t), pay67 (at_ m c t), pay68 (at_ m c t), pay74 (at_ m c t), pay75 (at_ m c t), pay76 (at_ m c t), pay77 (at_ m c t), pay78 (at_ m c t), pay79 (at_ m c t), pay80 (at_ m c t), pay81 (at_ m c t), pay82, pay83 (at_ m c t), pay84 (at_ m c t), pay85, pay86 (at_ m c t), pay87, pay88 (at_ m c t), pay89 (at_ m c t), pay90 (at_ m c t), pay91 (at_ m c t), pay92 m c t, pay93 (at_ m c t), pay94, pay95 (at_ m c t), pay96, pay100 (at_ m c t), pay101 (at_ m c t), pay102 (at_ m c t), pay103 (at_ m c t), pay104 (at_ m c t), pay113 (at_ m c t), pay114 (at_ m c t), pay115 (at_ m c t), pay116 (at_ m c t), pay117 (at_ m c t), pay118 (at_ m c t), pay119 (at_ m c t), pay120 (at_ m c t), pay121, pay122, pay123 (at_ m c t), pay124, pay125 (at_ m c t), pay126 (at_ m c t), pay127 (at_ m c t), pay128 (at_ m c t), pay129 (at_ m c t), pay130 (at_ m c t), pay131 m c t, pay132 (at_ m c t), pay137 (at_ m c t), pay138 (at_ m c t), pay139 (at_ m c t), pay140 (at_ m c t), pay141 (at_ m c t), pay145 (at_ m c t), pay148 (at_ m c t), pay152 (at_ m c t), pay153 (at_ m c t), pay154 (at_ m c t), pay155 (at_ m c t), pay156 (at_ m c t), pay157 (at_ m c t), pay158 (at_ m c t), pay159 (at_ m c t), pay160 (at_ m c t), pay161, pay162, pay163 (at_ m c t), pay164 (at_ m c t), pay165 (at_ m c t), pay166 (at_ m c t)]
  · rw [outsAt0_B m c t h0]
    refine ⟨fun y => ?_, fun y => ?_, fun y => ?_⟩ <;> frame_out <;>
    simp only [pay3 (at_ m c t), pay4 (at_ m c t), pay5 (at_ m c t), pay6 (at_ m c t), pay7 (at_ m c t), pay8 (at_ m c t), pay9, pay10, pay11 (at_ m c t), pay12 (at_ m c t), pay13 (at_ m c t), pay14 (at_ m c t), pay15 m c t, pay16 (at_ m c t), pay17, pay18 (at_ m c t), pay19 (at_ m c t), pay20, pay21, pay29 (at_ m c t), pay30 (at_ m c t), pay31 (at_ m c t), pay32 (at_ m c t), pay33 (at_ m c t), pay34 (at_ m c t), pay39 (at_ m c t), pay40 (at_ m c t), pay41 (at_ m c t), pay42 (at_ m c t), pay43 (at_ m c t), pay44 (at_ m c t), pay45 (at_ m c t), pay46 (at_ m c t), pay47, pay48 (at_ m c t), pay49 (at_ m c t), pay50 (at_ m c t), pay51 (at_ m c t), pay52 (at_ m c t), pay53 m c t, pay54 (at_ m c t), pay55, pay56 (at_ m c t), pay57 (at_ m c t), pay65 (at_ m c t), pay66 (at_ m c t), pay67 (at_ m c t), pay68 (at_ m c t), pay74 (at_ m c t), pay75 (at_ m c t), pay76 (at_ m c t), pay77 (at_ m c t), pay78 (at_ m c t), pay79 (at_ m c t), pay80 (at_ m c t), pay81 (at_ m c t), pay82, pay83 (at_ m c t), pay84 (at_ m c t), pay85, pay86 (at_ m c t), pay87, pay88 (at_ m c t), pay89 (at_ m c t), pay90 (at_ m c t), pay91 (at_ m c t), pay92 m c t, pay93 (at_ m c t), pay94, pay95 (at_ m c t), pay96, pay100 (at_ m c t), pay101 (at_ m c t), pay102 (at_ m c t), pay103 (at_ m c t), pay104 (at_ m c t), pay113 (at_ m c t), pay114 (at_ m c t), pay115 (at_ m c t), pay116 (at_ m c t), pay117 (at_ m c t), pay118 (at_ m c t), pay119 (at_ m c t), pay120 (at_ m c t), pay121, pay122, pay123 (at_ m c t), pay124, pay125 (at_ m c t), pay126 (at_ m c t), pay127 (at_ m c t), pay128 (at_ m c t), pay129 (at_ m c t), pay130 (at_ m c t), pay131 m c t, pay132 (at_ m c t), pay137 (at_ m c t), pay138 (at_ m c t), pay139 (at_ m c t), pay140 (at_ m c t), pay141 (at_ m c t), pay145 (at_ m c t), pay148 (at_ m c t), pay152 (at_ m c t), pay153 (at_ m c t), pay154 (at_ m c t), pay155 (at_ m c t), pay156 (at_ m c t), pay157 (at_ m c t), pay158 (at_ m c t), pay159 (at_ m c t), pay160 (at_ m c t), pay161, pay162, pay163 (at_ m c t), pay164 (at_ m c t), pay165 (at_ m c t), pay166 (at_ m c t)]

/-- The first grid point leaves its own part of the sinks' gradient, added onto zeros. -/
theorem after_first (c : Dev nD) (t : Fin cfg0.N) (h0 : t.val % 32 = 0) (y) :
    (dats m 0 c).after 10 t y = k0_pay2 (at_ m c t).dsinks k0_pay1 y := by
  rw [after0_10, outsAt0_A m c t h0]
  frame_out
  simp only [pay3 (at_ m c t), pay4 (at_ m c t), pay5 (at_ m c t), pay6 (at_ m c t), pay7 (at_ m c t), pay8 (at_ m c t), pay9, pay10, pay11 (at_ m c t), pay12 (at_ m c t), pay13 (at_ m c t), pay14 (at_ m c t), pay15 m c t, pay16 (at_ m c t), pay17, pay18 (at_ m c t), pay19 (at_ m c t), pay20, pay21, pay29 (at_ m c t), pay30 (at_ m c t), pay31 (at_ m c t), pay32 (at_ m c t), pay33 (at_ m c t), pay34 (at_ m c t), pay39 (at_ m c t), pay40 (at_ m c t), pay41 (at_ m c t), pay42 (at_ m c t), pay43 (at_ m c t), pay44 (at_ m c t), pay45 (at_ m c t), pay46 (at_ m c t), pay47, pay48 (at_ m c t), pay49 (at_ m c t), pay50 (at_ m c t), pay51 (at_ m c t), pay52 (at_ m c t), pay53 m c t, pay54 (at_ m c t), pay55, pay56 (at_ m c t), pay57 (at_ m c t), pay65 (at_ m c t), pay66 (at_ m c t), pay67 (at_ m c t), pay68 (at_ m c t), pay74 (at_ m c t), pay75 (at_ m c t), pay76 (at_ m c t), pay77 (at_ m c t), pay78 (at_ m c t), pay79 (at_ m c t), pay80 (at_ m c t), pay81 (at_ m c t), pay82, pay83 (at_ m c t), pay84 (at_ m c t), pay85, pay86 (at_ m c t), pay87, pay88 (at_ m c t), pay89 (at_ m c t), pay90 (at_ m c t), pay91 (at_ m c t), pay92 m c t, pay93 (at_ m c t), pay94, pay95 (at_ m c t), pay96, pay100 (at_ m c t), pay101 (at_ m c t), pay102 (at_ m c t), pay103 (at_ m c t), pay104 (at_ m c t), pay113 (at_ m c t), pay114 (at_ m c t), pay115 (at_ m c t), pay116 (at_ m c t), pay117 (at_ m c t), pay118 (at_ m c t), pay119 (at_ m c t), pay120 (at_ m c t), pay121, pay122, pay123 (at_ m c t), pay124, pay125 (at_ m c t), pay126 (at_ m c t), pay127 (at_ m c t), pay128 (at_ m c t), pay129 (at_ m c t), pay130 (at_ m c t), pay131 m c t, pay132 (at_ m c t), pay137 (at_ m c t), pay138 (at_ m c t), pay139 (at_ m c t), pay140 (at_ m c t), pay141 (at_ m c t), pay145 (at_ m c t), pay148 (at_ m c t), pay152 (at_ m c t), pay153 (at_ m c t), pay154 (at_ m c t), pay155 (at_ m c t), pay156 (at_ m c t), pay157 (at_ m c t), pay158 (at_ m c t), pay159 (at_ m c t), pay160 (at_ m c t), pay161, pay162, pay163 (at_ m c t), pay164 (at_ m c t), pay165 (at_ m c t), pay166 (at_ m c t)]
  rfl

/-- Every other grid point adds its own part onto what the one before it left. -/
theorem after_next (c : Dev nD) (t : Fin cfg0.N) (h0 : ¬t.val % 32 = 0) (y) :
    (dats m 0 c).after 10 t y = k0_pay2 (at_ m c t).dsinks ((dats m 0 c).after 10 ⟨t.val - 1, by omega⟩) y := by
  rw [after0_10, after0_10, outsAt0_B m c t h0]
  frame_out
  simp only [pay3 (at_ m c t), pay4 (at_ m c t), pay5 (at_ m c t), pay6 (at_ m c t), pay7 (at_ m c t), pay8 (at_ m c t), pay9, pay10, pay11 (at_ m c t), pay12 (at_ m c t), pay13 (at_ m c t), pay14 (at_ m c t), pay15 m c t, pay16 (at_ m c t), pay17, pay18 (at_ m c t), pay19 (at_ m c t), pay20, pay21, pay29 (at_ m c t), pay30 (at_ m c t), pay31 (at_ m c t), pay32 (at_ m c t), pay33 (at_ m c t), pay34 (at_ m c t), pay39 (at_ m c t), pay40 (at_ m c t), pay41 (at_ m c t), pay42 (at_ m c t), pay43 (at_ m c t), pay44 (at_ m c t), pay45 (at_ m c t), pay46 (at_ m c t), pay47, pay48 (at_ m c t), pay49 (at_ m c t), pay50 (at_ m c t), pay51 (at_ m c t), pay52 (at_ m c t), pay53 m c t, pay54 (at_ m c t), pay55, pay56 (at_ m c t), pay57 (at_ m c t), pay65 (at_ m c t), pay66 (at_ m c t), pay67 (at_ m c t), pay68 (at_ m c t), pay74 (at_ m c t), pay75 (at_ m c t), pay76 (at_ m c t), pay77 (at_ m c t), pay78 (at_ m c t), pay79 (at_ m c t), pay80 (at_ m c t), pay81 (at_ m c t), pay82, pay83 (at_ m c t), pay84 (at_ m c t), pay85, pay86 (at_ m c t), pay87, pay88 (at_ m c t), pay89 (at_ m c t), pay90 (at_ m c t), pay91 (at_ m c t), pay92 m c t, pay93 (at_ m c t), pay94, pay95 (at_ m c t), pay96, pay100 (at_ m c t), pay101 (at_ m c t), pay102 (at_ m c t), pay103 (at_ m c t), pay104 (at_ m c t), pay113 (at_ m c t), pay114 (at_ m c t), pay115 (at_ m c t), pay116 (at_ m c t), pay117 (at_ m c t), pay118 (at_ m c t), pay119 (at_ m c t), pay120 (at_ m c t), pay121, pay122, pay123 (at_ m c t), pay124, pay125 (at_ m c t), pay126 (at_ m c t), pay127 (at_ m c t), pay128 (at_ m c t), pay129 (at_ m c t), pay130 (at_ m c t), pay131 m c t, pay132 (at_ m c t), pay137 (at_ m c t), pay138 (at_ m c t), pay139 (at_ m c t), pay140 (at_ m c t), pay141 (at_ m c t), pay145 (at_ m c t), pay148 (at_ m c t), pay152 (at_ m c t), pay153 (at_ m c t), pay154 (at_ m c t), pay155 (at_ m c t), pay156 (at_ m c t), pay157 (at_ m c t), pay158 (at_ m c t), pay159 (at_ m c t), pay160 (at_ m c t), pay161, pay162, pay163 (at_ m c t), pay164 (at_ m c t), pay165 (at_ m c t), pay166 (at_ m c t)]
  rfl

end Cert.KernelIdeal.Swa

end
-- ==== Proof.HeadValue.lean ====
/- The kernel's arrays for one key/value head, read entry by entry over the extended reals: where its operands are real
   numbers, each is the corresponding quantity of `Swa.Head`. -/
module

public import proofs.«01_k».proof.Proof.Head
public import proofs.«01_k».proof.Proof.Spec

@[expose] public section

set_option maxRecDepth 16384

noncomputable section

namespace Cert.KernelIdeal.Swa

open Cert.KernelIdeal Cert.KernelIdeal.Gen Idealize.ShloMosaic Idealize.ShloMosaic.TcCoe Idealize.SL.Sem
open _root_.Swa (Head Row lo hi coe_sum sum_halves)
open scoped Classical

/-- Row `128 g + i` of the stacked rows. -/
def srow (g : Fin 3) (i : Fin 128) : Fin 384 := ⟨128 * g + i, by omega⟩

/-- Every stacked row is one. -/
theorem srow_surj (r : Fin 384) : ∃ g i, r = srow g i :=
  ⟨⟨r / 128, by omega⟩, ⟨r % 128, by omega⟩, Fin.ext (by simp only [srow]; omega)⟩

/-- A sum over the stacked rows, query head by query head. -/
theorem sum_srow {M : Type} [AddCommMonoid M] (f : Fin 384 → M) : ∑ r, f r = ∑ g, ∑ i, f (srow g i) := by
  rw [Fin.sum_univ_tiles 3 128 rfl f]
  exact Finset.sum_congr rfl fun g _ => Finset.sum_congr rfl fun i _ => congrArg f (Fin.ext (by simp only [srow]; omega))

/-! ## Positions as machine words -/

theorem qpos_word (g : Fin 3) (i : Fin 128) : IntOp.andi (BitVec.ofNat 32 (srow g i).val) 127#32 = BitVec.ofNat 32 i.val := by
  apply BitVec.eq_of_toNat_eq
  simp only [IntOp.andi, BitVec.toNat_and, BitVec.toNat_ofNat, srow]
  rw [show 127 % 2 ^ 32 = 2 ^ 7 - 1 by norm_num, Nat.and_two_pow_sub_one_eq_mod]
  omega

theorem which_word (g : Fin 3) (i : Fin 128) :
    IntOp.shrui ArithUnit.vector (BitVec.ofNat 32 (srow g i).val) 7#32 = BitVec.ofNat 32 g.val := by
  apply BitVec.eq_of_toNat_eq
  have h : (128 * g.val + i.val) / 2 ^ 7 = g.val := by omega
  simp only [IntOp.shrui, srow, BitVec.toNat_ofNat, BitVec.ushiftRight_eq', BitVec.toNat_ushiftRight]
  rw [if_pos (by norm_num), BitVec.toNat_ushiftRight, BitVec.toNat_ofNat, Nat.mod_eq_of_lt (show 128 * g.val + i.val < 2 ^ 32 by omega),
    Nat.shiftRight_eq_div_pow, h, Nat.mod_eq_of_lt (show g.val < 2 ^ 32 by omega)]

/-- The difference of two small positions, as a word and as a number. -/
theorem subi_word {a b : ℕ} (hb : b ≤ a) (ha : a < 1024) :
    IntOp.subi (BitVec.ofNat 32 a) (BitVec.ofNat 32 b) = BitVec.ofNat 32 (a - b) := by
  apply BitVec.eq_of_toNat_eq
  simp only [IntOp.subi, BitVec.toNat_sub, BitVec.toNat_ofNat]
  omega

theorem addi_word (a b : ℕ) : IntOp.addi (BitVec.ofNat 32 a) (BitVec.ofNat 32 b) = BitVec.ofNat 32 (a + b) :=
  (BitVec.ofNat_add a b).symm

/-- A small word read as a number. -/
theorem sitofp_word {a : ℕ} (h : a < 1024) : (FloatOps.sitofp (F := Ideal) FTy.f32 (BitVec.ofNat 32 a)) = ((a : ℝ) : EReal) := by
  change (((BitVec.ofNat 32 a).toInt : ℝ) : EReal) = _
  rw [WordCmp.toInt_ofNat_of_lt (by omega)]
  norm_cast

/-- The constant one eighth. -/
theorem eighth : Ideal.ofBits .f32 0x3E000000#32 = ((1 / 8 : ℝ) : EReal) := by
  simp [Ideal.ofBits, Ideal.ieee, -EReal.coe_mul]
  norm_num

theorem minus_inf : Ideal.ofBits .f32 0xFF800000#32 = ⊥ := by
  simp [Ideal.ofBits, Ideal.ieee]

/-- The operands of `G` are the real numbers of `H`. -/
structure Holds (G : Group Ideal) (H : Head) : Prop where
  q : ∀ g i d, G.q (ix2 (srow g i) d) = ((H.q g i d : ℝ) : EReal)
  ct : ∀ g i d, G.ct (ix2 (srow g i) d) = ((H.ct g i d : ℝ) : EReal)
  kPrev : ∀ j d, G.kPrev (ix2 j d) = ((H.k (lo j) d : ℝ) : EReal)
  kCur : ∀ j d, G.kCur (ix2 j d) = ((H.k (hi j) d : ℝ) : EReal)
  vPrev : ∀ j d, G.vPrev (ix2 j d) = ((H.v (lo j) d : ℝ) : EReal)
  vCur : ∀ j d, G.vCur (ix2 j d) = ((H.v (hi j) d : ℝ) : EReal)
  sink : ∀ g i, G.sink (ix2 (srow g i) 0) = ((H.sink g : ℝ) : EReal)
  slope : ∀ g i, G.slope (ix2 (srow g i) 0) = ((H.slope g : ℝ) : EReal)
  hasPrev : G.hasPrev = if H.prev then 1#1 else 0#1

variable {G : Group Ideal} {H : Head} (h : Holds G H)

/-- A product of real rows. -/
theorem rowsTimes_coe {x : FVec Ideal S384x64 .bf16} {y : FVec Ideal S128x64 .bf16} {x' : Fin 64 → ℝ} {y' : Fin 64 → ℝ} (r : Fin 384)
    (j : Fin 128) (hx : ∀ d, x (ix2 r d) = ((x' d : ℝ) : EReal)) (hy : ∀ d, y (ix2 j d) = ((y' d : ℝ) : EReal)) :
    rowsTimes x y (ix2 r j) = ((∑ d, x' d * y' d : ℝ) : EReal) := by
  pointwise [rowsTimes]
  rw [coe_sum]
  exact Finset.sum_congr rfl fun d _ => by rw [hx, hy, EReal.coe_mul]

include h

theorem scorePrev_eq (g : Fin 3) (i : Fin 128) (j : Fin 128) : G.scorePrev (ix2 (srow g i) j) = (H.row g i).score (lo j) := by
  pointwise [Group.scorePrev, qpos, kpos]
  rw [qpos_word, rowsTimes_coe _ _ (h.q g i) (h.kPrev j), h.slope, eighth, minus_inf, h.hasPrev, addi_word i 128,
    subi_word (by omega) (by omega), sitofp_word (by omega)]
  have hsel : Scalar.select (if H.prev then 1#1 else 0#1) 0#32 128#32 = BitVec.ofNat 32 (if H.prev then 0 else 128) := by
    split_ifs <;> rfl
  have hb : (if H.prev then 0 else 128) ≤ 128 := by split_ifs <;> omega
  rw [hsel, addi_word]
  generalize hn : (if H.prev then 0 else 128) = n at hb
  have hok : (H.row g i).ok (lo j) ↔ i.val + n < j.val := by
    simp only [Head.row, Head.ok, lo]
    by_cases hp : H.prev
    · rw [if_pos hp] at hn; subst hn; exact ⟨fun h => h.1, fun h => ⟨h, by omega, .inl hp⟩⟩
    · rw [if_neg hp] at hn; simp only [hp, false_or]; omega
  word_cmp
  rw [Row.score]
  refine if_congr hok.symm ?_ rfl
  rw [← EReal.coe_mul, ← EReal.coe_mul, ← EReal.coe_sub]
  congr 1
  simp only [Head.row, lo]
  push_cast [show j.val ≤ i.val + 128 by omega]
  ring

theorem scoreCur_eq (g : Fin 3) (i : Fin 128) (j : Fin 128) : G.scoreCur (ix2 (srow g i) j) = (H.row g i).score (hi j) := by
  pointwise [Group.scoreCur, qpos, kpos]
  rw [qpos_word, rowsTimes_coe _ _ (h.q g i) (h.kCur j), h.slope, eighth, minus_inf]
  have hok : (H.row g i).ok (hi j) ↔ j.val ≤ i.val := by
    simp only [Head.row, Head.ok, hi]
    exact ⟨fun h => Nat.le_of_add_le_add_left h.2.1, fun h => ⟨by omega, by omega, .inr (by omega)⟩⟩
  word_cmp
  rw [Row.score]
  by_cases hji : j.val ≤ i.val
  · rw [if_pos hji, if_pos (hok.2 hji), subi_word hji (by omega), sitofp_word (by omega),
      ← EReal.coe_mul, ← EReal.coe_mul, ← EReal.coe_sub]
    congr 1
    simp only [Head.row, hi]
    push_cast [hji]
    ring
  · rw [if_neg hji, if_neg fun h => hji (hok.1 h)]

/-! ## The softmax of a row -/

/-- Each row's shift is a real number. -/
theorem shift_eq (g : Fin 3) (i : Fin 128) : ∃ μ : ℝ, G.shift (ix2 (srow g i) 0) = (μ : EReal) := by
  obtain ⟨μ, hμ⟩ := (H.row g i).shift_real
  refine ⟨μ, ?_⟩
  pointwise [Group.shift, rowMax]
  rw [h.sink]
  simp only [scorePrev_eq h, scoreCur_eq h, minus_inf]
  exact hμ

theorem expPrev_eq (g : Fin 3) (i j : Fin 128) {μ : ℝ} (hμ : G.shift (ix2 (srow g i) 0) = (μ : EReal)) :
    G.expPrev (ix2 (srow g i) j) = Ideal.exp ((H.row g i).score (lo j) - (μ : EReal)) := by
  pointwise [Group.expPrev]
  rw [hμ, scorePrev_eq h]

theorem expCur_eq (g : Fin 3) (i j : Fin 128) {μ : ℝ} (hμ : G.shift (ix2 (srow g i) 0) = (μ : EReal)) :
    G.expCur (ix2 (srow g i) j) = Ideal.exp ((H.row g i).score (hi j) - (μ : EReal)) := by
  pointwise [Group.expCur]
  rw [hμ, scoreCur_eq h]

theorem expSink_eq (g : Fin 3) (i : Fin 128) {μ : ℝ} (hμ : G.shift (ix2 (srow g i) 0) = (μ : EReal)) :
    G.expSink (ix2 (srow g i) 0) = Ideal.exp (((H.row g i).sink : EReal) - (μ : EReal)) := by
  pointwise [Group.expSink]
  rw [hμ, h.sink]
  rfl

theorem recip_eq (g : Fin 3) (i : Fin 128) {μ : ℝ} (hμ : G.shift (ix2 (srow g i) 0) = (μ : EReal)) :
    G.recip (ix2 (srow g i) 0) = ((1 / ((H.row g i).tot * Real.exp (-μ)) : ℝ) : EReal) := by
  pointwise [Group.recip, rowSum]
  simp only [expPrev_eq h g i _ hμ, expCur_eq h g i _ hμ, expSink_eq h g i hμ]
  exact (H.row g i).recip_halves μ

/-- The probabilities are the row's. -/
theorem probPrev_eq (g : Fin 3) (i j : Fin 128) : G.probPrev (ix2 (srow g i) j) = (((H.row g i).prob (lo j) : ℝ) : EReal) := by
  obtain ⟨μ, hμ⟩ := shift_eq h g i
  pointwise [Group.probPrev]
  rw [expPrev_eq h g i _ hμ, recip_eq h g i hμ, Row.prob_recip]

theorem probCur_eq (g : Fin 3) (i j : Fin 128) : G.probCur (ix2 (srow g i) j) = (((H.row g i).prob (hi j) : ℝ) : EReal) := by
  obtain ⟨μ, hμ⟩ := shift_eq h g i
  pointwise [Group.probCur]
  rw [expCur_eq h g i _ hμ, recip_eq h g i hμ, Row.prob_recip]

theorem probSink_eq (g : Fin 3) (i : Fin 128) : G.probSink (ix2 (srow g i) 0) = (((H.row g i).probSink : ℝ) : EReal) := by
  obtain ⟨μ, hμ⟩ := shift_eq h g i
  pointwise [Group.probSink]
  rw [expSink_eq h g i hμ, recip_eq h g i hμ, Row.probSink_recip]

theorem dprobPrev_eq (g : Fin 3) (i j : Fin 128) : G.dprobPrev (ix2 (srow g i) j) = (((H.row g i).dp (lo j) : ℝ) : EReal) :=
  rowsTimes_coe _ _ (h.ct g i) (h.vPrev j)

theorem dprobCur_eq (g : Fin 3) (i j : Fin 128) : G.dprobCur (ix2 (srow g i) j) = (((H.row g i).dp (hi j) : ℝ) : EReal) :=
  rowsTimes_coe _ _ (h.ct g i) (h.vCur j)

theorem mean_eq (g : Fin 3) (i : Fin 128) : G.mean (ix2 (srow g i) 0) = (((H.row g i).mean : ℝ) : EReal) := by
  pointwise [Group.mean, rowSum]
  simp only [probPrev_eq h, probCur_eq h, dprobPrev_eq h, dprobCur_eq h]
  exact (H.row g i).mean_halves

/-- The cotangents of the scores are the row's. -/
theorem dscorePrev_eq (g : Fin 3) (i j : Fin 128) : G.dscorePrev (ix2 (srow g i) j) = (((H.row g i).ds (lo j) : ℝ) : EReal) := by
  pointwise [Group.dscorePrev]
  rw [probPrev_eq h, dprobPrev_eq h, mean_eq h, eighth, Row.ds_coe]

theorem dscoreCur_eq (g : Fin 3) (i j : Fin 128) : G.dscoreCur (ix2 (srow g i) j) = (((H.row g i).ds (hi j) : ℝ) : EReal) := by
  pointwise [Group.dscoreCur]
  rw [probCur_eq h, dprobCur_eq h, mean_eq h, eighth, Row.ds_coe]

/-! ## The gradients -/

/-- The gradient of the queries. -/
theorem dq_eq (g : Fin 3) (i : Fin 128) (d : Fin 64) : G.dq (ix2 (srow g i) d) = ((H.dq g i d : ℝ) : EReal) := by
  pointwise [Group.dq]
  simp only [dscorePrev_eq h, dscoreCur_eq h, h.kPrev, h.kCur, ← EReal.coe_mul]
  rw [← coe_sum, ← coe_sum, ← EReal.coe_add, Head.dq, sum_halves]

omit h in
/-- A sum over the stacked rows of a product of real numbers. -/
theorem gather_coe {x : FVec Ideal S384x128 .bf16} {y : FVec Ideal S384x64 .bf16} {x' y' : Fin 3 → Fin 128 → ℝ} (j : Fin 128) (d : Fin 64)
    (hx : ∀ g i, x (ix2 (srow g i) j) = ((x' g i : ℝ) : EReal)) (hy : ∀ g i, y (ix2 (srow g i) d) = ((y' g i : ℝ) : EReal)) :
    gather x y (ix2 j d) = ((∑ g, ∑ i, x' g i * y' g i : ℝ) : EReal) := by
  pointwise [gather]
  rw [sum_srow, coe_sum]
  refine Finset.sum_congr rfl fun g _ => ?_
  rw [coe_sum]
  exact Finset.sum_congr rfl fun i _ => by rw [hx, hy, EReal.coe_mul]

theorem dkPrev_eq (j : Fin 128) (d : Fin 64) : G.dkPrev (ix2 j d) = ((H.dk (lo j) d : ℝ) : EReal) :=
  gather_coe j d (fun g i => dscorePrev_eq h g i j) fun g i => h.q g i d

theorem dkCur_eq (j : Fin 128) (d : Fin 64) : G.dkCur (ix2 j d) = ((H.dk (hi j) d : ℝ) : EReal) :=
  gather_coe j d (fun g i => dscoreCur_eq h g i j) fun g i => h.q g i d

theorem dvPrev_eq (j : Fin 128) (d : Fin 64) : G.dvPrev (ix2 j d) = ((H.dv (lo j) d : ℝ) : EReal) :=
  gather_coe j d (fun g i => (probPrev_eq h g i j :)) fun g i => h.ct g i d

theorem dvCur_eq (j : Fin 128) (d : Fin 64) : G.dvCur (ix2 j d) = ((H.dv (hi j) d : ℝ) : EReal) :=
  gather_coe j d (fun g i => (probCur_eq h g i j :)) fun g i => h.ct g i d

omit h in
/-- A choice by the number of a query head. -/
theorem which_eq (g g' : Fin 3) (a : EReal) :
    Scalar.select (IntOp.cmpi .eq (BitVec.ofNat 32 g'.val) (BitVec.ofNat 32 g.val)) a 0 = if g' = g then a else 0 := by
  word_cmp
  exact if_congr Fin.ext_iff.symm rfl rfl

omit h in
/-- The query head of a stacked row. -/
theorem which_at (g : Fin 3) (i : Fin 128) : which (ix2 (srow g i) 0) = BitVec.ofNat 32 g.val := by
  pointwise [which]
  rw [which_word]

theorem dsinkRow_eq (g : Fin 3) (i : Fin 128) :
    G.dsink (ix2 (srow g i) 0) = (((H.row g i).probSink * (H.row g i).mean : ℝ) : EReal) := by
  pointwise [Group.dsink]
  rw [probSink_eq h, mean_eq h, EReal.coe_mul]

omit h in
/-- Minus the sum of one query head's rows of a column. -/
theorem minusSumOf_at (g : Fin 3) (x : FVec Ideal S384x1 .f32) :
    minusSumOf (BitVec.ofNat 32 g.val) x = 0 - ∑ r : Fin 384, Scalar.select (IntOp.cmpi .eq (which (ix2 r 0)) (BitVec.ofNat 32 g.val)) (x (ix2 r 0)) 0 := by
  pointwise [minusSumOf]
  simp only [Fin.sum_univ_one]

omit h in
theorem minus_sum (g : Fin 3) (y : Fin 3 → Fin 128 → ℝ) :
    (0 : EReal) - ∑ g', ∑ i, (if g' = g then ((y g' i : ℝ) : EReal) else 0) = ((∑ i, -y g i : ℝ) : EReal) := by
  rw [Finset.sum_eq_single g (fun g' _ hg => Finset.sum_eq_zero fun i _ => if_neg hg) (fun hg => absurd (Finset.mem_univ g) hg)]
  simp only [if_true]
  rw [← coe_sum, ← EReal.coe_zero, ← EReal.coe_sub, Finset.sum_neg_distrib, zero_sub]

/-- The block's part of the gradient of sink `g`. -/
theorem dsink_eq (g : Fin 3) : minusSumOf (BitVec.ofNat 32 g.val) G.dsink = ((H.dsink g : ℝ) : EReal) := by
  rw [minusSumOf_at, sum_srow]
  simp only [which_at, which_eq, dsinkRow_eq h]
  exact minus_sum g _

end Cert.KernelIdeal.Swa

end
-- ==== Proof.Results.lean ====
/- The four arrays the call returns, over the real numbers. -/
module

public import proofs.«01_k».proof.Proof.Spec

@[expose] public section

noncomputable section

namespace Swa

/-- Twelve numbers in the first lanes of the first row, and zeros elsewhere. -/
def lanes (f : Fin 12 → ℝ) (r : Fin 8) (l : Fin 128) : ℝ := if h : l.val < 12 ∧ r.val = 0 then f ⟨l.val, h.1⟩ else 0

namespace Data

variable (D : Data)

/-- The operands of the block that holds position `t`, for key/value head `k`. -/
def headAt (b : Fin 2) (t : Fin 2048) (k : Fin 4) : Head := D.head b ⟨t / 128, by omega⟩ k

/-- A position inside its block. -/
def inBlock (t : Fin 2048) : Fin 128 := ⟨t % 128, by omega⟩

/-- The gradient of the queries. -/
def dq (b : Fin 2) (t : Fin 2048) (c : Fin 768) : ℝ :=
  (D.headAt b t ⟨c / 64 / 3, by omega⟩).dq ⟨c / 64 % 3, by omega⟩ (inBlock t) ⟨c % 64, by omega⟩

/-- The gradient that half of each block's window gives its keys and values; `half` picks the key of the window. -/
def dkv (half : Fin 128 → Fin 256) (b : Fin 2) (t : Fin 2048) (c : Fin 512) : ℝ :=
  if c.val < 256 then (D.headAt b t ⟨c / 64 % 4, by omega⟩).dk (half (inBlock t)) ⟨c % 64, by omega⟩
  else (D.headAt b t ⟨c / 64 % 4, by omega⟩).dv (half (inBlock t)) ⟨c % 64, by omega⟩

/-- The gradient of each sink: the sum over all blocks. -/
def dsink (h : Fin 12) : ℝ := ∑ b : Fin 2, ∑ n : Fin 16, (D.head b n ⟨h / 3, by omega⟩).dsink ⟨h % 3, by omega⟩

end Data

end Swa

end
-- ==== Proof.BlockValue.lean ====
/- What one grid point computes from blocks of real numbers: the gradients of its four key/value heads. -/
module

public import proofs.«01_k».proof.Proof.HeadValue
public import proofs.«01_k».proof.Proof.Finite
public import proofs.«01_k».proof.Proof.Results

@[expose] public section

set_option maxRecDepth 16384

noncomputable section

namespace Cert.KernelIdeal.Swa

open Cert.KernelIdeal Cert.KernelIdeal.Gen Idealize.ShloMosaic Idealize.ShloMosaic.TcCoe Idealize.SL.Sem
open _root_.Swa (Head Row lo hi coe_sum lanes qhead qcol kcol vcol slopeWords)
open scoped Classical

theorem four (k : Fin 4) : k = 0 ∨ k = 1 ∨ k = 2 ∨ k = 3 := by omega

theorem three (g : Fin 3) : g = 0 ∨ g = 1 ∨ g = 2 := by omega

/-- Feature `d` of key/value head `k` in a block of keys or of values. -/
def hcol (k : Fin 4) (d : Fin 64) : Fin 256 := ⟨64 * k + d, by omega⟩

/-- Equal pieces in a row, at an index of the `n`th. -/
theorem parts_at {α : Type} {t s₁ : Shape} (a : Fin t.rank) {N : ℕ} (f : Fin N → (s₁.Idx → α)) (xs : List ((s : Shape) × (s.Idx → α)))
    (hxs : xs = List.ofFn fun n => ⟨s₁, f n⟩) (h : Shape.Concatenates (xs.map (·.1)) t a) (hr : s₁.rank = t.rank) (K : ℕ)
    (hK : s₁.size (a.cast hr.symm) = K) (j : t.Idx) (n : Fin N) (hn : (j a).val / K = n.val) (i : s₁.Idx)
    (hia : (i (a.cast hr.symm)).val = (j a).val % K) (hi : ∀ b : Fin s₁.rank, b.cast hr ≠ a → (i b).val = (j (b.cast hr)).val) :
    concatenate t a xs h j = f n i := by
  subst hxs
  exact concatenate_ofFn_apply a f h hr K hK j n hn i hia hi

/-- Three matrices stacked, at a row of the `g`th. -/
theorem stack_at (p : Fin 3 → FVec Ideal S128x64 .bf16) (g : Fin 3) (i : Fin 128) (d : Fin 64) :
    stack (p 0) (p 1) (p 2) (ix2 (srow g i) d) = p g (ix2 i d) := by
  refine parts_at (t := S384x64) 0 p _ rfl concatenates_S128x64_S128x64_S128x64_S384x64_d0 rfl 128 rfl (ix2 (srow g i) d) g ?_ (ix2 i d) ?_ ?_
  · show (128 * g.val + i.val) / 128 = g.val
    omega
  · show i.val = (128 * g.val + i.val) % 128
    omega
  · intro b hb
    fin_cases b
    · exact absurd rfl hb
    · rfl

theorem stack_of (x y z : FVec Ideal S128x64 .bf16) (g : Fin 3) (i : Fin 128) (d : Fin 64) :
    stack x y z (ix2 (srow g i) d) = (![x, y, z] : Fin 3 → FVec Ideal S128x64 .bf16) g (ix2 i d) := stack_at ![x, y, z] g i d

/-- Sixty-four columns of a block of queries. -/
theorem cut_at (x : Vec Ideal S1x128x768 .f32) (o : ℕ) (h : S128x768.Slices ![0, o] S128x64) (i : Fin 128) (d : Fin 64)
    {c : Fin 768} (hc : c.val = o + d.val) :
    extractStridedSlice S128x64 ![0, o] (wide x) h (ix2 i d) = x (ix3 0 i c) := by
  have hd : o + d.val < 768 := hc ▸ c.isLt
  have e : (⟨o + d.val, hd⟩ : Fin 768) = c := Fin.ext hc.symm
  pointwise [wide]
  rw [← e]

/-- A stacked row is a row of its query head's columns. -/
theorem stacked_at (x : Vec Ideal S1x128x768 .f32) (k : Fin 4) (g : Fin 3) (i : Fin 128) (d : Fin 64) :
    stacked x k (ix2 (srow g i) d) = x (ix3 0 i (qcol (qhead k g) d)) := by
  rcases four k with rfl | rfl | rfl | rfl
  · rw [show stacked x 0 = stack (extractStridedSlice S128x64 ![0, 0] (wide x) slices_S128x768_o0_0_S128x64) (extractStridedSlice S128x64 ![0, 64] (wide x) slices_S128x768_o0_64_S128x64) (extractStridedSlice S128x64 ![0, 128] (wide x) slices_S128x768_o0_128_S128x64) from rfl, stack_of]
    rcases three g with rfl | rfl | rfl
    · exact cut_at x 0 slices_S128x768_o0_0_S128x64 i d rfl
    · exact cut_at x 64 slices_S128x768_o0_64_S128x64 i d rfl
    · exact cut_at x 128 slices_S128x768_o0_128_S128x64 i d rfl
  · rw [show stacked x 1 = stack (extractStridedSlice S128x64 ![0, 192] (wide x) slices_S128x768_o0_192_S128x64) (extractStridedSlice S128x64 ![0, 256] (wide x) slices_S128x768_o0_256_S128x64) (extractStridedSlice S128x64 ![0, 320] (wide x) slices_S128x768_o0_320_S128x64) from rfl, stack_of]
    rcases three g with rfl | rfl | rfl
    · exact cut_at x 192 slices_S128x768_o0_192_S128x64 i d rfl
    · exact cut_at x 256 slices_S128x768_o0_256_S128x64 i d rfl
    · exact cut_at x 320 slices_S128x768_o0_320_S128x64 i d rfl
  · rw [show stacked x 2 = stack (extractStridedSlice S128x64 ![0, 384] (wide x) slices_S128x768_o0_384_S128x64) (extractStridedSlice S128x64 ![0, 448] (wide x) slices_S128x768_o0_448_S128x64) (extractStridedSlice S128x64 ![0, 512] (wide x) slices_S128x768_o0_512_S128x64) from rfl, stack_of]
    rcases three g with rfl | rfl | rfl
    · exact cut_at x 384 slices_S128x768_o0_384_S128x64 i d rfl
    · exact cut_at x 448 slices_S128x768_o0_448_S128x64 i d rfl
    · exact cut_at x 512 slices_S128x768_o0_512_S128x64 i d rfl
  · rw [show stacked x 3 = stack (extractStridedSlice S128x64 ![0, 576] (wide x) slices_S128x768_o0_576_S128x64) (extractStridedSlice S128x64 ![0, 640] (wide x) slices_S128x768_o0_640_S128x64) (extractStridedSlice S128x64 ![0, 704] (wide x) slices_S128x768_o0_704_S128x64) from rfl, stack_of]
    rcases three g with rfl | rfl | rfl
    · exact cut_at x 576 slices_S128x768_o0_576_S128x64 i d rfl
    · exact cut_at x 640 slices_S128x768_o0_640_S128x64 i d rfl
    · exact cut_at x 704 slices_S128x768_o0_704_S128x64 i d rfl

/-- The columns of a key/value head. -/
theorem headOf_at (x : Vec Ideal S1x128x256 .f32) (k : Fin 4) (j : Fin 128) (d : Fin 64) :
    headOf x k (ix2 j d) = x (ix3 0 j (hcol k d)) := by
  rcases four k with rfl | rfl | rfl | rfl <;> pointwise [headOf, narrow, hcol]

/-- A number per query head, spread over the rows. -/
theorem spread_at (a : Fin 3 → Ideal .f32) (g : Fin 3) (i : Fin 128) : spread (a 0) (a 1) (a 2) (ix2 (srow g i) 0) = a g := by
  rcases three g with rfl | rfl | rfl <;>
  · pointwise [spread]
    rw [which_at]
    rfl

theorem slopes_at (k : Fin 4) (g : Fin 3) (i : Fin 128) :
    slopes (F := Ideal) k (ix2 (srow g i) 0) = Ideal.ofBits .f32 (slopeWords (qhead k g)) := by
  have hs : ∀ a b c : Ideal .f32, spread a b c (ix2 (srow g i) 0) = (![a, b, c] : Fin 3 → Ideal .f32) g := fun a b c =>
    spread_at ![a, b, c] g i
  rcases four k with rfl | rfl | rfl | rfl <;> refine (hs _ _ _).trans ?_ <;> rcases three g with rfl | rfl | rfl <;> rfl

theorem sinks_at (s : Fin 12 → Ideal .f32) (k : Fin 4) (g : Fin 3) (i : Fin 128) : sinks s k (ix2 (srow g i) 0) = s (qhead k g) := by
  rcases four k with rfl | rfl | rfl | rfl
  · exact spread_at (fun g => s (qhead 0 g)) g i
  · exact spread_at (fun g => s (qhead 1 g)) g i
  · exact spread_at (fun g => s (qhead 2 g)) g i
  · exact spread_at (fun g => s (qhead 3 g)) g i

/-- The blocks are those of the real heads `H`. -/
structure Blocks.Real (B : Blocks Ideal) (H : Fin 4 → Head) : Prop where
  q : ∀ k g i d, B.q (ix3 0 i (qcol (qhead k g) d)) = (((H k).q g i d : ℝ) : EReal)
  ct : ∀ k g i d, B.ct (ix3 0 i (qcol (qhead k g) d)) = (((H k).ct g i d : ℝ) : EReal)
  kPrev : ∀ k j d, B.kPrev (ix3 0 j (hcol k d)) = (((H k).k (lo j) d : ℝ) : EReal)
  kCur : ∀ k j d, B.kCur (ix3 0 j (hcol k d)) = (((H k).k (hi j) d : ℝ) : EReal)
  vPrev : ∀ k j d, B.vPrev (ix3 0 j (hcol k d)) = (((H k).v (lo j) d : ℝ) : EReal)
  vCur : ∀ k j d, B.vCur (ix3 0 j (hcol k d)) = (((H k).v (hi j) d : ℝ) : EReal)
  sink : ∀ k g, B.sink (qhead k g) = (((H k).sink g : ℝ) : EReal)
  slope : ∀ k g, Ideal.ofBits .f32 (slopeWords (qhead k g)) = (((H k).slope g : ℝ) : EReal)
  hasPrev : ∀ k, B.hasPrev = if (H k).prev then 1#1 else 0#1

variable {B : Blocks Ideal} {H : Fin 4 → Head} (h : B.Real H)
include h

/-- Each key/value head's operands are real. -/
theorem group_holds (k : Fin 4) : Holds (B.group k) (H k) where
  q g i d := (stacked_at B.q k g i d).trans (h.q k g i d)
  ct g i d := (stacked_at B.ct k g i d).trans (h.ct k g i d)
  kPrev j d := (headOf_at B.kPrev k j d).trans (h.kPrev k j d)
  kCur j d := (headOf_at B.kCur k j d).trans (h.kCur k j d)
  vPrev j d := (headOf_at B.vPrev k j d).trans (h.vPrev k j d)
  vCur j d := (headOf_at B.vCur k j d).trans (h.vCur k j d)
  sink g i := (sinks_at B.sink k g i).trans (h.sink k g)
  slope g i := (slopes_at k g i).trans (h.slope k g)
  hasPrev := h.hasPrev k

omit h in
/-- Twelve pieces of 64 columns side by side. -/
theorem twelve_at (p : Fin 12 → FVec Ideal S128x64 .f32) (i : Fin 128) (c : Fin 768) :
    shapeCast S1x128x768 (truncf .bf16 (concatenate S128x768 1
      [⟨S128x64, p 0⟩, ⟨S128x64, p 1⟩, ⟨S128x64, p 2⟩, ⟨S128x64, p 3⟩, ⟨S128x64, p 4⟩, ⟨S128x64, p 5⟩, ⟨S128x64, p 6⟩, ⟨S128x64, p 7⟩, ⟨S128x64, p 8⟩, ⟨S128x64, p 9⟩, ⟨S128x64, p 10⟩, ⟨S128x64, p 11⟩]
      concatenates_S128x64_S128x64_S128x64_S128x64_S128x64_S128x64_S128x64_S128x64_S128x64_S128x64_S128x64_S128x64_S128x768_d1) bitsLt_bf16_f32)
      shapeCasts_S128x768_S1x128x768 (ix3 0 i c) = p ⟨c / 64, by omega⟩ (ix2 i ⟨c % 64, by omega⟩) := by
  generalize hX : concatenate S128x768 1 _ _ = X
  have hx : X (ix2 i c) = p ⟨c / 64, by omega⟩ (ix2 i ⟨c % 64, by omega⟩) := by
    rw [← hX]
    refine parts_at (t := S128x768) 1 p _ rfl _ rfl 64 rfl (ix2 i c) ⟨c / 64, by omega⟩ rfl (ix2 i ⟨c % 64, by omega⟩) rfl ?_
    intro b hb
    fin_cases b
    · rfl
    · exact absurd rfl hb
  rw [← hx]
  pointwise []

omit h in
/-- Eight pieces of 64 columns side by side. -/
theorem eight_at (p : Fin 8 → FVec Ideal S128x64 .f32) (i : Fin 128) (c : Fin 512) :
    shapeCast S1x128x512 (concatenate S128x512 1
      [⟨S128x64, p 0⟩, ⟨S128x64, p 1⟩, ⟨S128x64, p 2⟩, ⟨S128x64, p 3⟩, ⟨S128x64, p 4⟩, ⟨S128x64, p 5⟩, ⟨S128x64, p 6⟩, ⟨S128x64, p 7⟩]
      concatenates_S128x64_S128x64_S128x64_S128x64_S128x64_S128x64_S128x64_S128x64_S128x512_d1)
      shapeCasts_S128x512_S1x128x512 (ix3 0 i c) = p ⟨c / 64, by omega⟩ (ix2 i ⟨c % 64, by omega⟩) := by
  generalize hX : concatenate S128x512 1 _ _ = X
  have hx : X (ix2 i c) = p ⟨c / 64, by omega⟩ (ix2 i ⟨c % 64, by omega⟩) := by
    rw [← hX]
    refine parts_at (t := S128x512) 1 p _ rfl _ rfl 64 rfl (ix2 i c) ⟨c / 64, by omega⟩ rfl (ix2 i ⟨c % 64, by omega⟩) rfl ?_
    intro b hb
    fin_cases b
    · rfl
    · exact absurd rfl hb
  rw [← hx]
  pointwise []

/-- The block of the queries' gradient. -/
theorem dq_at (k : Fin 4) (g : Fin 3) (i : Fin 128) (d : Fin 64) :
    B.dq (ix3 0 i (qcol (qhead k g) d)) = (((H k).dq g i d : ℝ) : EReal) := by
  rw [← dq_eq (group_holds h k)]
  refine (twelve_at (fun n => (![
    extractStridedSlice S128x64 ![0, 0] (B.group ⟨n / 3, by omega⟩).dq slices_S384x64_o0_0_S128x64,
    extractStridedSlice S128x64 ![128, 0] (B.group ⟨n / 3, by omega⟩).dq slices_S384x64_o128_0_S128x64,
    extractStridedSlice S128x64 ![256, 0] (B.group ⟨n / 3, by omega⟩).dq slices_S384x64_o256_0_S128x64] :
      Fin 3 → FVec Ideal S128x64 .f32) ⟨n % 3, by omega⟩) i (qcol (qhead k g) d)).trans ?_
  have h1 : (qcol (qhead k g) d).val / 64 / 3 = k.val := by simp only [qcol, qhead]; omega
  have h2 : (qcol (qhead k g) d).val / 64 % 3 = g.val := by simp only [qcol, qhead]; omega
  have h3 : (qcol (qhead k g) d).val % 64 = d.val := by simp only [qcol, qhead]; omega
  simp only [h1, h2, h3, Fin.eta]
  rcases three g with rfl | rfl | rfl <;> pointwise [srow]

omit h in
theorem beside_at (x y : Fin 4 → FVec Ideal S128x64 .f32) (j : Fin 128) (c : Fin 512) :
    beside x y (ix3 0 j c) = (![x 0, x 1, x 2, x 3, y 0, y 1, y 2, y 3] : Fin 8 → FVec Ideal S128x64 .f32) ⟨c / 64, by omega⟩
      (ix2 j ⟨c % 64, by omega⟩) :=
  eight_at (![x 0, x 1, x 2, x 3, y 0, y 1, y 2, y 3]) j c

omit h in
theorem beside_left (x y : Fin 4 → FVec Ideal S128x64 .f32) (k : Fin 4) (j : Fin 128) (d : Fin 64) :
    beside x y (ix3 0 j (kcol k d)) = x k (ix2 j d) := by
  have h1 : (kcol k d).val / 64 = k.val := by simp only [kcol]; omega
  have h2 : (kcol k d).val % 64 = d.val := by simp only [kcol]; omega
  rw [beside_at]
  simp only [h1, h2, Fin.eta]
  rcases four k with rfl | rfl | rfl | rfl <;> rfl

omit h in
theorem beside_right (x y : Fin 4 → FVec Ideal S128x64 .f32) (k : Fin 4) (j : Fin 128) (d : Fin 64) :
    beside x y (ix3 0 j (vcol k d)) = y k (ix2 j d) := by
  have h1 : (vcol k d).val / 64 = 4 + k.val := by simp only [vcol]; omega
  have h2 : (vcol k d).val % 64 = d.val := by simp only [vcol]; omega
  rw [beside_at]
  simp only [h1, h2, Fin.eta]
  rcases four k with rfl | rfl | rfl | rfl <;> rfl

/-- The block of the current keys' and values' gradient. -/
theorem dkCur_at (k : Fin 4) (j : Fin 128) (d : Fin 64) : B.dkvCur (ix3 0 j (kcol k d)) = (((H k).dk (hi j) d : ℝ) : EReal) :=
  (beside_left _ _ k j d).trans (dkCur_eq (group_holds h k) j d)

theorem dvCur_at (k : Fin 4) (j : Fin 128) (d : Fin 64) : B.dkvCur (ix3 0 j (vcol k d)) = (((H k).dv (hi j) d : ℝ) : EReal) :=
  (beside_right _ _ k j d).trans (dvCur_eq (group_holds h k) j d)

/-- The block of the previous keys' and values' gradient. -/
theorem dkPrev_at (k : Fin 4) (j : Fin 128) (d : Fin 64) : B.dkvPrev (ix3 0 j (kcol k d)) = (((H k).dk (lo j) d : ℝ) : EReal) :=
  (beside_left _ _ k j d).trans (dkPrev_eq (group_holds h k) j d)

theorem dvPrev_at (k : Fin 4) (j : Fin 128) (d : Fin 64) : B.dkvPrev (ix3 0 j (vcol k d)) = (((H k).dv (lo j) d : ℝ) : EReal) :=
  (beside_right _ _ k j d).trans (dvPrev_eq (group_holds h k) j d)

omit h in
/-- A number at lane `n` of the first row, and zeros elsewhere. -/
theorem atLane_at (n : ℕ) (hn : n < 12) (v : ℝ) (r : Fin 8) (l : Fin 128) :
    atLane (F := Ideal) (iota .tc S8x128 32 [1] iota_S8x128_d1_w32) (iota .tc S8x128 32 [0] iota_S8x128_d0_w32) (BitVec.ofNat 32 n)
      ((v : ℝ) : EReal) (ix2 r l) = ((if l.val = n ∧ r.val = 0 then v else 0 : ℝ) : EReal) := by
  pointwise [atLane]
  word_cmp
  split_ifs <;> rfl

omit h in
theorem lanes_sum (f : Fin 12 → ℝ) (r : Fin 8) (l : Fin 128) :
    ∑ h : Fin 12, (if l.val = h.val ∧ r.val = 0 then f h else 0) = lanes f r l := by
  unfold lanes
  split_ifs with hl
  · refine (Finset.sum_eq_single (⟨l.val, hl.1⟩ : Fin 12) (fun h _ hne => if_neg ?_) fun hh => absurd (Finset.mem_univ _) hh).trans
      (if_pos ⟨rfl, hl.2⟩)
    intro hh
    exact hne (Fin.ext hh.1.symm)
  · refine Finset.sum_eq_zero fun h _ => if_neg ?_
    intro hh
    exact hl ⟨hh.1 ▸ h.isLt, hh.2⟩

/-- What the grid point adds to the sinks' gradient. -/
theorem dsinks_at (f : Fin 12 → ℝ) (hf : ∀ k g, f (qhead k g) = (H k).dsink g) (r : Fin 8) (l : Fin 128) :
    B.dsinks (ix2 r l) = ((lanes f r l : ℝ) : EReal) := by
  have hs : ∀ k g, minusSumOf (BitVec.ofNat 32 g.val) (B.group k).dsink = ((f (qhead k g) : ℝ) : EReal) := fun k g => by
    rw [hf, dsink_eq (group_holds h k)]
  have h0 : ∀ k, minusSumOf 0#32 (B.group k).dsink = ((f (qhead k 0) : ℝ) : EReal) := fun k => hs k 0
  have h1 : ∀ k, minusSumOf 1#32 (B.group k).dsink = ((f (qhead k 1) : ℝ) : EReal) := fun k => hs k 1
  have h2 : ∀ k, minusSumOf 2#32 (B.group k).dsink = ((f (qhead k 2) : ℝ) : EReal) := fun k => hs k 2
  pointwise [Blocks.dsinks, Group.addSinks]
  simp only [h0, h1, h2]
  have ha := fun (n : ℕ) (hn : n < 12) (v : ℝ) => atLane_at n hn v r l
  rw [show (0#32) = BitVec.ofNat 32 0 from rfl, ha 0 (by omega), ha 1 (by omega), ha 2 (by omega), ha 3 (by omega), ha 4 (by omega),
    ha 5 (by omega), ha 6 (by omega), ha 7 (by omega), ha 8 (by omega), ha 9 (by omega), ha 10 (by omega), ha 11 (by omega)]
  simp only [← EReal.coe_add]
  rw [← lanes_sum]
  refine congrArg _ ?_
  simp only [Fin.sum_univ_castSucc, Finset.univ_eq_empty, Finset.sum_empty, zero_add]
  rfl

end Cert.KernelIdeal.Swa

end
-- ==== Proof.Points.lean ====
/- The blocks a grid point reads, as parts of the argument arrays, and what the kernel's four result arrays hold. -/
module

public import proofs.«01_k».proof.Proof.BlockValue

@[expose] public section

set_option maxRecDepth 16384

noncomputable section

namespace Cert.KernelIdeal.Swa

open Cert.KernelIdeal Cert.KernelIdeal.Gen Idealize.ShloMosaic Idealize.ShloMosaic.TcCoe Idealize.SL.Sem
open _root_.Swa (Head Row Data Reals lo hi coe_sum qhead qcol kcol vcol slopeWords)
open scoped Classical

/-! ## Where the blocks lie -/

theorem idx0 : ∀ t : Fin cfg0.N, win0_0.index t = ![t.val / 16, t.val % 16, 0] := (by decide +kernel : ∀ t : Fin grid0.N, _)
theorem idx1 : ∀ t : Fin cfg0.N, win0_1.index t = ![t.val / 16, t.val % 16 - 1, 0] := (by decide +kernel : ∀ t : Fin grid0.N, _)
theorem idx2 : ∀ t : Fin cfg0.N, win0_2.index t = ![t.val / 16, t.val % 16, 0] := (by decide +kernel : ∀ t : Fin grid0.N, _)
theorem idx3 : ∀ t : Fin cfg0.N, win0_3.index t = ![t.val / 16, t.val % 16 - 1, 1] := (by decide +kernel : ∀ t : Fin grid0.N, _)
theorem idx4 : ∀ t : Fin cfg0.N, win0_4.index t = ![t.val / 16, t.val % 16, 1] := (by decide +kernel : ∀ t : Fin grid0.N, _)
theorem idx5 : ∀ t : Fin cfg0.N, win0_5.index t = ![0] := (by decide +kernel : ∀ t : Fin grid0.N, _)
theorem idx6 : ∀ t : Fin cfg0.N, win0_6.index t = ![t.val / 16, t.val % 16, 0] := (by decide +kernel : ∀ t : Fin grid0.N, _)
theorem idx7 : ∀ t : Fin cfg0.N, win0_7.index t = ![t.val / 16, t.val % 16, 0] := (by decide +kernel : ∀ t : Fin grid0.N, _)
theorem idx8 : ∀ t : Fin cfg0.N, win0_8.index t = ![t.val / 16, t.val % 16, 0] := (by decide +kernel : ∀ t : Fin grid0.N, _)
theorem idx9 : ∀ t : Fin cfg0.N, win0_9.index t = ![t.val / 16, t.val % 16, 0] := (by decide +kernel : ∀ t : Fin grid0.N, _)
theorem idx10 : ∀ t : Fin cfg0.N, win0_10.index t = ![0, 0] := (by decide +kernel : ∀ t : Fin grid0.N, _)
theorem coord1 : ∀ t : Fin cfg0.N, (grid0.coords t 1).val = t.val % 16 := (by decide +kernel : ∀ t : Fin grid0.N, _)

theorem lt32 (t : Fin cfg0.N) : t.val < 32 := t.isLt

/-- The sequence of a grid point, and its block of queries. -/
def seq (t : Fin cfg0.N) : Fin 2 := ⟨t.val / 16, by have := lt32 t; omega⟩
def blk (t : Fin cfg0.N) : Fin 16 := ⟨t.val % 16, by omega⟩

variable (m : (ℓ : Loc nD τ sig) → Buf (Elt Ideal) ℓ) (c : Dev nD) (t : Fin cfg0.N)

theorem q_block (i : Fin 128) (d : Fin 768) :
    X0_0 m c t (ix3 0 i d) = m ((c.tc : Thread nD τ).loc main_arg0) (ix3 (seq t) (_root_.Swa.at_ (blk t) i) ⟨d, by omega⟩) := by
  unfold X0_0 Pipeline.Window.fill
  rw [dif_pos (moved0_0 t _)]
  blk_ext [iblk, V, idx0 t, seq, blk, _root_.Swa.at_]

theorem kPrev_block (j : Fin 128) (d : Fin 256) :
    iblk m c 1 t (ix3 0 j d) = m ((c.tc : Thread nD τ).loc main_arg1) (ix3 (seq t) ⟨128 * (blk t - 1) + j, by have := (blk t).isLt; omega⟩ ⟨d, by omega⟩) := by
  blk_ext [iblk, V, idx1 t, seq, blk]

theorem kCur_block (j : Fin 128) (d : Fin 256) :
    iblk m c 2 t (ix3 0 j d) = m ((c.tc : Thread nD τ).loc main_arg1) (ix3 (seq t) (_root_.Swa.at_ (blk t) j) ⟨d, by omega⟩) := by
  blk_ext [iblk, V, idx2 t, seq, blk, _root_.Swa.at_]

theorem vPrev_block (j : Fin 128) (d : Fin 256) :
    iblk m c 3 t (ix3 0 j d) = m ((c.tc : Thread nD τ).loc main_arg1) (ix3 (seq t) ⟨128 * (blk t - 1) + j, by have := (blk t).isLt; omega⟩ ⟨256 + d, by omega⟩) := by
  blk_ext [iblk, V, idx3 t, seq, blk]

theorem vCur_block (j : Fin 128) (d : Fin 256) :
    iblk m c 4 t (ix3 0 j d) = m ((c.tc : Thread nD τ).loc main_arg1) (ix3 (seq t) (_root_.Swa.at_ (blk t) j) ⟨256 + d, by omega⟩) := by
  blk_ext [iblk, V, idx4 t, seq, blk, _root_.Swa.at_]

theorem ct_block (i : Fin 128) (d : Fin 768) :
    iblk m c 6 t (ix3 0 i d) = m ((c.tc : Thread nD τ).loc main_arg3) (ix3 (seq t) (_root_.Swa.at_ (blk t) i) d) := by
  blk_ext [iblk, V, idx6 t, seq, blk, _root_.Swa.at_]

theorem sink_block (h : Fin 12) : iblk m c 5 t (ix1 h) = m ((c.tc : Thread nD τ).loc main_arg2) (ix1 h) := by
  blk_ext [iblk, V, idx5 t]

/-- One sink, as a grid point reads it. -/
theorem sinkAt_eq (h : Fin 12) (inb : ∀ a, (![h.val] : Fin 1 → Nat) a + S1.size a ≤ S12.size a) :
    sinkAt m c t h.val inb = m ((c.tc : Thread nD τ).loc main_arg2) (ix1 h) := by
  rw [← sink_block m c t h]
  refine congrArg (iblk m c 5 t) ?_
  funext a
  fin_cases a
  exact Fin.ext (by simp)

end Cert.KernelIdeal.Swa

end
-- ==== Proof.Arrays.lean ====
/- What the kernel's four result arrays hold, where the arguments are real numbers. -/
module

public import proofs.«01_k».proof.Proof.Points

@[expose] public section

set_option maxRecDepth 16384

noncomputable section

namespace Cert.KernelIdeal.Swa

open Cert.KernelIdeal Cert.KernelIdeal.Gen Idealize.ShloMosaic Idealize.ShloMosaic.TcCoe Idealize.SL.Sem
open _root_.Swa (Head Row Data Reals lo hi coe_sum lanes qhead qcol kcol vcol slopeWords)
open scoped Classical

theorem pay2_at (a b : FVec Ideal S8x128 .f32) (r : Fin 8) (l : Fin 128) : k0_pay2 a b (ix2 r l) = b (ix2 r l) + a (ix2 r l) := by
  pointwise [k0_pay2]

theorem pay1_at (r : Fin 8) (l : Fin 128) : (k0_pay1 : FVec Ideal S8x128 .f32) (ix2 r l) = 0 := by
  pointwise [k0_pay1]

theorem lanes_add (f g : Fin 12 → ℝ) (r : Fin 8) (l : Fin 128) : lanes f r l + lanes g r l = lanes (fun x => f x + g x) r l := by
  simp only [lanes]
  split_ifs
  · rfl
  · exact add_zero _

/-- What grid point `s` adds to sink `x`. -/
def sinkPart (D : Data) (s : ℕ) (x : Fin 12) : ℝ := (D.head ⟨s / 16 % 2, by omega⟩ ⟨s % 16, by omega⟩ ⟨x / 3, by omega⟩).dsink ⟨x % 3, by omega⟩

theorem sum_points (D : Data) : (fun x => ∑ s ∈ Finset.range (31 + 1), sinkPart D s x) = D.dsink := by
  funext x
  simp only [Data.dsink, Finset.sum_range]
  refine (Fin.sum_univ_tiles 2 16 rfl fun s : Fin 32 => sinkPart D s x).trans ?_
  refine Finset.sum_congr rfl fun b _ => Finset.sum_congr rfl fun n _ => ?_
  simp only [sinkPart]
  have e1 : (⟨(b.val * 16 + n.val) / 16 % 2, by omega⟩ : Fin 2) = b := Fin.ext (by show _ = _; simp only []; omega)
  have e2 : (⟨(b.val * 16 + n.val) % 16, by omega⟩ : Fin 16) = n := Fin.ext (by simp only []; omega)
  rw [e1, e2]

theorem headAt_block (D : Data) (b : Fin 2) (n : Fin 16) (i : Fin 128) (k : Fin 4) :
    D.headAt b (_root_.Swa.at_ n i) k = D.head b n k :=
  congrArg (fun n => D.head b n k) (Fin.ext (by simp only [_root_.Swa.at_]; omega))

theorem inBlock_block (n : Fin 16) (i : Fin 128) : Data.inBlock (_root_.Swa.at_ n i) = i :=
  Fin.ext (by simp only [_root_.Swa.at_, Data.inBlock]; omega)

theorem row_eq {b : Nat} (y : (⟨3, ![1, 128, b]⟩ : Shape).Idx) : y = ix3 0 (y 1) (y 2) := by
  funext a
  fin_cases a
  · exact Subsingleton.elim (α := Fin 1) _ _
  · rfl
  · rfl

theorem emb7 (t : Fin cfg0.N) (y : S1x128x768.Idx) : (win0_7.blk t).view.emb y = ix3 (seq t) (_root_.Swa.at_ (blk t) (y 1)) (y 2) := by
  blk_ext [idx7 t, seq, blk, _root_.Swa.at_]

theorem emb8 (t : Fin cfg0.N) (y : S1x128x512.Idx) : (win0_8.blk t).view.emb y = ix3 (seq t) (_root_.Swa.at_ (blk t) (y 1)) (y 2) := by
  blk_ext [idx8 t, seq, blk, _root_.Swa.at_]

theorem row2_eq (y : S8x128.Idx) : y = ix2 (y 0) (y 1) := by
  funext a
  fin_cases a <;> rfl

theorem emb9 (t : Fin cfg0.N) (y : S1x128x512.Idx) : (win0_9.blk t).view.emb y = ix3 (seq t) (_root_.Swa.at_ (blk t) (y 1)) (y 2) := by
  blk_ext [idx9 t, seq, blk, _root_.Swa.at_]

/-- The operands a grid point reads: the first block's missing half is read from the block itself. -/
def readHead (D : Data) (b : Fin 2) (n : Fin 16) (k : Fin 4) : Head where
  q g i d := D.q b (_root_.Swa.at_ n i) (qcol (qhead k g) d)
  ct g i d := D.ct b (_root_.Swa.at_ n i) (qcol (qhead k g) d)
  k j d := if j.val < 128 then D.kv b ⟨128 * (n - 1) + j % 128, by omega⟩ (kcol k d) else D.kv b ⟨128 * n + (j - 128), by omega⟩ (kcol k d)
  v j d := if j.val < 128 then D.kv b ⟨128 * (n - 1) + j % 128, by omega⟩ (vcol k d) else D.kv b ⟨128 * n + (j - 128), by omega⟩ (vcol k d)
  sink g := D.sink (qhead k g)
  slope g := D.slope (qhead k g)
  prev := 0 < n.val

theorem readHead_results (D : Data) (b : Fin 2) (n : Fin 16) (k : Fin 4) :
    (readHead D b n k).dq = (D.head b n k).dq ∧ (readHead D b n k).dk = (D.head b n k).dk ∧ (readHead D b n k).dv = (D.head b n k).dv ∧
      (readHead D b n k).dsink = (D.head b n k).dsink := by
  refine Head.results_congr rfl rfl rfl rfl rfl (fun j h => ?_) fun j h => ?_ <;> funext d <;>
    simp only [readHead, Data.head, Data.window] at h ⊢ <;> by_cases hj : j.val < 128
  · rw [if_pos hj, if_pos hj, if_neg (by omega)]
  · rw [if_neg hj, if_neg hj]
  · rw [if_pos hj, if_pos hj, if_neg (by omega)]
  · rw [if_neg hj, if_neg hj]

theorem later_word (n : Fin 16) :
    (0 < n.val ∧ Scalar.cmpi .sgt (BitVec.ofNat 32 n.val) 0#32 = 1#1) ∨ (¬0 < n.val ∧ Scalar.cmpi .sgt (BitVec.ofNat 32 n.val) 0#32 = 0#1) := by
  revert n
  decide

variable (m : (ℓ : Loc nD τ sig) → Buf (Elt Ideal) ℓ) (c : Dev nD) (t : Fin cfg0.N)

theorem sink_value (n : Fin 12) : (at_ m c t).sink n = m ((c.tc : Thread nD τ).loc main_arg2) (ix1 n) :=
  match n with
  | ⟨0, _⟩ => sinkAt_eq m c t 0 _
  | ⟨1, _⟩ => sinkAt_eq m c t 1 _
  | ⟨2, _⟩ => sinkAt_eq m c t 2 _
  | ⟨3, _⟩ => sinkAt_eq m c t 3 _
  | ⟨4, _⟩ => sinkAt_eq m c t 4 _
  | ⟨5, _⟩ => sinkAt_eq m c t 5 _
  | ⟨6, _⟩ => sinkAt_eq m c t 6 _
  | ⟨7, _⟩ => sinkAt_eq m c t 7 _
  | ⟨8, _⟩ => sinkAt_eq m c t 8 _
  | ⟨9, _⟩ => sinkAt_eq m c t 9 _
  | ⟨10, _⟩ => sinkAt_eq m c t 10 _
  | ⟨11, _⟩ => sinkAt_eq m c t 11 _

variable (D : Data)
  (h : Reals (m ((c.tc : Thread nD τ).loc main_arg0)) (m ((c.tc : Thread nD τ).loc main_arg1))
    (m ((c.tc : Thread nD τ).loc main_arg2)) (m ((c.tc : Thread nD τ).loc main_arg3)) D)
include h

/-- Every grid point's blocks are real. -/
theorem point_real : (at_ m c t).Real (readHead D (seq t) (blk t)) where
  q k g i d := (q_block m c t i (qcol (qhead k g) d)).trans (h.q _ _ _)
  ct k g i d := (ct_block m c t i (qcol (qhead k g) d)).trans (h.ct _ _ _)
  kPrev k j d := by
    refine (kPrev_block m c t j (hcol k d)).trans ((h.kv _ _ _).trans ?_)
    have hj : (lo j).val < 128 := j.isLt
    simp only [readHead, if_pos hj]
    exact congrArg _ (congrArg₂ (D.kv (seq t)) (Fin.ext (by simp only [lo]; omega)) (Fin.ext (by simp only [hcol, kcol]; try omega)))
  kCur k j d := by
    refine (kCur_block m c t j (hcol k d)).trans ((h.kv _ _ _).trans ?_)
    have hj : ¬(hi j).val < 128 := by simp only [hi]; omega
    simp only [readHead, if_neg hj]
    exact congrArg _ (congrArg₂ (D.kv (seq t)) (Fin.ext (by simp only [hi, _root_.Swa.at_]; omega)) (Fin.ext (by simp only [hcol, kcol]; try omega)))
  vPrev k j d := by
    refine (vPrev_block m c t j (hcol k d)).trans ((h.kv _ _ _).trans ?_)
    have hj : (lo j).val < 128 := j.isLt
    simp only [readHead, if_pos hj]
    exact congrArg _ (congrArg₂ (D.kv (seq t)) (Fin.ext (by simp only [lo]; omega)) (Fin.ext (by simp only [hcol, vcol]; try omega)))
  vCur k j d := by
    refine (vCur_block m c t j (hcol k d)).trans ((h.kv _ _ _).trans ?_)
    have hj : ¬(hi j).val < 128 := by simp only [hi]; omega
    simp only [readHead, if_neg hj]
    exact congrArg _ (congrArg₂ (D.kv (seq t)) (Fin.ext (by simp only [hi, _root_.Swa.at_]; omega)) (Fin.ext (by simp only [hcol, vcol]; try omega)))
  sink k g := (sink_value m c t (qhead k g)).trans (h.sink _)
  slope k g := h.slope _
  hasPrev k := by
    have e : (grid0.coords t 1).val = (blk t).val := coord1 t
    show Scalar.cmpi .sgt (BitVec.ofNat 32 (grid0.coords t 1).val) 0#32 = _
    rw [e]
    rcases later_word (blk t) with ⟨a, b⟩ | ⟨a, b⟩
    · exact b.trans (if_pos (c := (readHead D (seq t) (blk t) k).prev) a).symm
    · exact b.trans (if_neg (c := (readHead D (seq t) (blk t) k).prev) a).symm

theorem dq_point (i : Fin 128) (d : Fin 768) :
    (at_ m c t).dq (ix3 0 i d) = ((D.dq (seq t) (_root_.Swa.at_ (blk t) i) d : ℝ) : EReal) := by
  have hd : d = qcol (qhead ⟨d / 64 / 3, by omega⟩ ⟨d / 64 % 3, by omega⟩) ⟨d % 64, by omega⟩ :=
    Fin.ext (by simp only [qcol, qhead]; omega)
  have e := dq_at (point_real m c t D h) ⟨d / 64 / 3, by omega⟩ ⟨d / 64 % 3, by omega⟩ i ⟨d % 64, by omega⟩
  rw [← hd, (readHead_results D _ _ _).1] at e
  rw [e, Data.dq, headAt_block, inBlock_block]

theorem dkv_point (half : Fin 128 → Fin 256) (B : FVec Ideal S1x128x512 .f32)
    (hk : ∀ k j d, B (ix3 0 j (kcol k d)) = (((readHead D (seq t) (blk t) k).dk (half j) d : ℝ) : EReal))
    (hv : ∀ k j d, B (ix3 0 j (vcol k d)) = (((readHead D (seq t) (blk t) k).dv (half j) d : ℝ) : EReal))
    (j : Fin 128) (d : Fin 512) :
    B (ix3 0 j d) = ((D.dkv half (seq t) (_root_.Swa.at_ (blk t) j) d : ℝ) : EReal) := by
  rw [Data.dkv, headAt_block, inBlock_block]
  by_cases hd : d.val < 256
  · rw [if_pos hd, ← (readHead_results D _ _ _).2.1, ← hk]
    exact congrArg (fun x => B (ix3 0 j x)) (Fin.ext (by simp only [kcol]; omega))
  · rw [if_neg hd, ← (readHead_results D _ _ _).2.2.1, ← hv]
    exact congrArg (fun x => B (ix3 0 j x)) (Fin.ext (by simp only [vcol]; omega))

theorem dq_array :
    (dats m 0 c).arrAt 7 cfg0.N = fun y : S2x2048x768.Idx => ((D.dq (y 0) (y 1) (y 2) : ℝ) : EReal) := by
  refine (dats m 0 c).arrAt_eq_of_covers 7 _ (by decide +kernel) fun t hf y => ?_
  blk_simp
  rw [emb7, (after_blocks m c t).1]
  exact (congrArg _ (row_eq y)).trans (dq_point m c t D h _ _)

theorem dkvCur_array :
    (dats m 0 c).arrAt 8 cfg0.N = fun y : S2x2048x512.Idx => ((D.dkv hi (y 0) (y 1) (y 2) : ℝ) : EReal) := by
  refine (dats m 0 c).arrAt_eq_of_covers 8 _ (by decide +kernel) fun t hf y => ?_
  blk_simp
  rw [emb8, (after_blocks m c t).2.1]
  exact (congrArg _ (row_eq y)).trans (dkv_point m c t D h hi _ (dkCur_at (point_real m c t D h)) (dvCur_at (point_real m c t D h)) _ _)

theorem dkvPrev_array :
    (dats m 0 c).arrAt 9 cfg0.N = fun y : S2x2048x512.Idx => ((D.dkv lo (y 0) (y 1) (y 2) : ℝ) : EReal) := by
  refine (dats m 0 c).arrAt_eq_of_covers 9 _ (by decide +kernel) fun t hf y => ?_
  blk_simp
  rw [emb9, (after_blocks m c t).2.2]
  exact (congrArg _ (row_eq y)).trans (dkv_point m c t D h lo _ (dkPrev_at (point_real m c t D h)) (dvPrev_at (point_real m c t D h)) _ _)

theorem dsinks_point (r : Fin 8) (l : Fin 128) : (at_ m c t).dsinks (ix2 r l) = ((lanes (sinkPart D t) r l : ℝ) : EReal) := by
  refine dsinks_at (point_real m c t D h) _ (fun k g => ?_) r l
  rw [(readHead_results D _ _ _).2.2.2]
  have e : seq t = ⟨t / 16 % 2, by omega⟩ := Fin.ext (by have := lt32 t; simp only [seq]; omega)
  have e1 : (⟨qhead k g / 3, by omega⟩ : Fin 4) = k := Fin.ext (by simp only [qhead]; omega)
  have e2 : (⟨qhead k g % 3, by omega⟩ : Fin 3) = g := Fin.ext (by simp only [qhead]; omega)
  rw [sinkPart, e1, e2, e]
  rfl

theorem dsinks_after (n : ℕ) : ∀ t : Fin cfg0.N, t.val = n → ∀ (r : Fin 8) (l : Fin 128),
    (dats m 0 c).after 10 t (ix2 r l) = ((lanes (fun x => ∑ s ∈ Finset.range (n + 1), sinkPart D s x) r l : ℝ) : EReal) := by
  induction n with
  | zero =>
    intro t ht r l
    rw [after_first m c t (by omega), pay2_at, dsinks_point m c t D h, pay1_at, zero_add, ht]
    simp only [zero_add, Finset.sum_range_one]
  | succ n ih =>
    intro t ht r l
    have := lt32 t
    rw [after_next m c t (by omega), pay2_at, ih ⟨t.val - 1, by omega⟩ (by simp only [ht]; omega), dsinks_point m c t D h, ht,
      ← EReal.coe_add, lanes_add]
    simp only [Finset.sum_range_succ _ (n + 1)]

theorem dsinks_array :
    (dats m 0 c).arrAt 10 cfg0.N = fun y : S8x128.Idx => ((lanes D.dsink (y 0) (y 1) : ℝ) : EReal) := by
  refine (dats m 0 c).arrAt_eq_of_after_last 10 ⟨31, by decide⟩ (by decide +kernel) _ fun y => ?_
  blk_simp
  have e := dsinks_after m c D h 31 ⟨31, by decide⟩ rfl (y 0) (y 1)
  rw [sum_points] at e
  refine Eq.trans (congrArg ((dats m 0 c).after 10 ⟨31, by decide⟩) ?_) e
  exact row2_eq y

end Cert.KernelIdeal.Swa

end
-- ==== Proof.Reference.lean ====
/- What the reference computes, where the arguments are real numbers: every intermediate array at an index, as the row
   it belongs to. -/
module

public import proofs.«01_k».proof.Proof.HeadValue
public import proofs.«01_k».proof.Proof.Finite
public import proofs.«01_k».proof.Proof.Results
public import proofs.«01_k».proof.Proof.Gen.ReferenceIdeal.Run
public import Idealize.ShloMosaic.Lib.Pointwise

@[expose] public section

set_option maxRecDepth 16384

noncomputable section

namespace Cert.ReferenceIdeal.Swa

open Cert.ReferenceIdeal Cert.ReferenceIdeal.Gen Cert.ReferenceIdeal.Value Idealize.ShloMosaic Idealize.ShloMosaic.TcCoe Idealize.SL.Sem
open Cert.KernelIdeal.Swa (addi_word subi_word sitofp_word eighth minus_inf)
open _root_.Swa (Head Row Data Reals at_ lo hi coe_sum qhead qcol kcol vcol slopeWords lanes)
open scoped Classical

theorem at_mul (n : Fin 16) (j : Fin 128) (h : n.val * 128 + j.val < 2048) : (⟨n.val * 128 + j.val, h⟩ : Fin 2048) = at_ n j :=
  Fin.ext (by simp only [at_]; omega)

theorem qhead_mul (k : Fin 4) (g : Fin 3) (h : k.val * 3 + g.val < 12) : (⟨k.val * 3 + g.val, h⟩ : Fin 12) = qhead k g :=
  Fin.ext (by simp only [qhead]; omega)

/-! ## Names for the reference's intermediate arrays -/

section Names

variable (V : Valuation τ sig (Elt Ideal))

/-- The windows of keys. -/
abbrev kWin : FVec Ideal S2x16x256x4x64 .f32 := res_main_v8 V
/-- The windows of values. -/
abbrev vWin : FVec Ideal S2x16x256x4x64 .f32 := res_main_v14 V
/-- The queries. -/
abbrev qs : FVec Ideal S2x16x128x4x3x64 .f32 := res_main_v15 V
/-- The masked scores. -/
abbrev scores : FVec Ideal S2x16x4x3x128x256 .f32 := res_main_v59_0 V
/-- The sinks. -/
abbrev sinks : FVec Ideal S1x1x4x3x1x1 .f32 := res_main_v60 V
/-- The largest score of each row. -/
abbrev rowMax : FVec Ideal S2x16x4x3x128 .f32 := res_main_v61 V
/-- One where a score is its row's largest, zero elsewhere. -/
abbrev ties : FVec Ideal S2x16x4x3x128x256 .f32 := res_main_v65 V
/-- The largest score of each row, as a column. -/
abbrev colMax : FVec Ideal S2x16x4x3x128x1 .f32 := res_main_v67 V
/-- The number subtracted from each row. -/
abbrev shift : FVec Ideal S2x16x4x3x128x1 .f32 := res_main_v69 V
/-- The exponentials of the scores. -/
abbrev wts : FVec Ideal S2x16x4x3x128x256 .f32 := res_main_v90 V
/-- The exponential of the sink. -/
abbrev sinkWt : FVec Ideal S2x16x4x3x128x1 .f32 := res_main_v95 V
/-- The denominators. -/
abbrev den : FVec Ideal S2x16x4x3x128x1 .f32 := res_main_v96 V
/-- The probabilities. -/
abbrev probs : FVec Ideal S2x16x4x3x128x256 .f32 := res_main_v98 V
/-- The cotangents of the output. -/
abbrev cts : FVec Ideal S2x16x4x64x3x128 .f32 := res_main_v106 V
/-- The cotangents of the probabilities. -/
abbrev dps : FVec Ideal S2x16x4x3x128x256 .f32 := res_main_v107 V
/-- The gradients of the windows' values. -/
abbrev dvs : FVec Ideal S2x16x256x4x64 .f32 := res_main_v109 V
/-- The cotangents of the denominators. -/
abbrev denCt : FVec Ideal S2x16x4x3x128x1 .f32 := res_main_v115 V
/-- The sinks' own cotangents. -/
abbrev sinkCt : FVec Ideal S2x16x4x3x128x1 .f32 := res_main_v118 V
/-- The cotangents of the scores, without what comes through the shift. -/
abbrev scoreCt : FVec Ideal S2x16x4x3x128x256 .f32 := res_main_v125 V
/-- The cotangents of the shift. -/
abbrev shiftCt : FVec Ideal S2x16x4x3x128x1 .f32 := res_main_v129 V
/-- The cotangents of the products of queries and keys. -/
abbrev dss : FVec Ideal S2x16x4x256x128x3 .f32 := res_main_v144 V
/-- The gradients of the windows' keys. -/
abbrev dks : FVec Ideal S2x16x256x4x64 .f32 := res_main_v148 V
/-- The mask, and the distances. -/
abbrev mask : IVec S2x16x4x3x128x256 1 := res_main_v59_1 V
abbrev dist : IVec S128x256 32 := res_main_v28 V

end Names

/-! ## The arguments, cut in heads and blocks -/

theorem q_read (x : FVec Ideal S2x2048x1024 .f32) (b : Fin 2) (n : Fin 16) (i : Fin 128) (k : Fin 4) (g : Fin 3) (d : Fin 64) :
    shapeCast S2x16x128x4x3x64 (shapeCast S2x2048x12x64 (extractStridedSlice S2x2048x768 ![0, 0, 0] x slices_S2x2048x1024_S2x2048x768_0_0_0)
      shapeCasts_S2x2048x768_S2x2048x12x64) shapeCasts_S2x2048x12x64_S2x16x128x4x3x64 (ix6 b n i k g d) =
    x (ix3 b (at_ n i) ⟨qcol (qhead k g) d, by omega⟩) := by
  pointwise [at_mul]
  exact congrArg x (congrArg (ix3 b (at_ n i)) (Fin.ext (by simp only [qcol, qhead]; omega)))

theorem ct_read (x : FVec Ideal S2x2048x768 .f32) (b : Fin 2) (n : Fin 16) (i : Fin 128) (k : Fin 4) (g : Fin 3) (d : Fin 64) :
    transpose S2x16x4x64x3x128 [0, 1, 3, 5, 4, 2] (shapeCast S2x16x128x4x3x64 x shapeCasts_S2x2048x768_S2x16x128x4x3x64)
      transposes_S2x16x128x4x3x64_S2x16x4x64x3x128_0_1_3_5_4_2 (ix6 b n k d g i) = x (ix3 b (at_ n i) (qcol (qhead k g) d)) := by
  pointwise [at_mul]
  exact congrArg x (congrArg (ix3 b (at_ n i)) (Fin.ext (by simp only [qcol, qhead]; omega)))

theorem kv_read (x : FVec Ideal S2x2048x512 .f32) (b : Fin 2) (t : Fin 2048) (s : Fin 2) (k : Fin 4) (d : Fin 64) :
    shapeCast S2x2048x2x4x64 x shapeCasts_S2x2048x512_S2x2048x2x4x64 (ix5 b t s k d) = x (ix3 b t ⟨256 * s + 64 * k + d, by omega⟩) := by
  pointwise []
  exact congrArg x (congrArg (ix3 b t) (Fin.ext (by simp only []; omega)))

theorem own_k_read (x : FVec Ideal S2x2048x2x4x64 .f32) (b : Fin 2) (n : Fin 16) (j : Fin 128) (k : Fin 4) (d : Fin 64) :
    shapeCast S2x16x128x4x64 (shapeCast S2x2048x4x64 (extractStridedSlice S2x2048x1x4x64 ![0, 0, 0, 0, 0] x
      slices_S2x2048x2x4x64_S2x2048x1x4x64_0_0_0_0_0) shapeCasts_S2x2048x1x4x64_S2x2048x4x64) shapeCasts_S2x2048x4x64_S2x16x128x4x64
      (ix5 b n j k d) = x (ix5 b (at_ n j) 0 k d) := by
  pointwise [at_mul]

theorem own_v_read (x : FVec Ideal S2x2048x2x4x64 .f32) (b : Fin 2) (n : Fin 16) (j : Fin 128) (k : Fin 4) (d : Fin 64) :
    shapeCast S2x16x128x4x64 (shapeCast S2x2048x4x64 (extractStridedSlice S2x2048x1x4x64 ![0, 0, 1, 0, 0] x
      slices_S2x2048x2x4x64_S2x2048x1x4x64_0_0_1_0_0) shapeCasts_S2x2048x1x4x64_S2x2048x4x64) shapeCasts_S2x2048x4x64_S2x16x128x4x64
      (ix5 b n j k d) = x (ix5 b (at_ n j) 1 k d) := by
  pointwise [at_mul]

theorem window_read (x : FVec Ideal S2x16x128x4x64 .f32) (b : Fin 2) (n : Fin 16) (j : Fin 256) (k : Fin 4) (d : Fin 64) :
    concatenate S2x16x256x4x64 2 [⟨S2x16x128x4x64, (pad S2x16x128x4x64 ![0, 1, 0, 0, 0] ![0, 0, 0, 0, 0] ![0, 0, 0, 0, 0]
      (extractStridedSlice S2x15x128x4x64 ![0, 0, 0, 0, 0] x slices_S2x16x128x4x64_S2x15x128x4x64_0_0_0_0_0) (sitofp .f32 (constantI S_ 32 0#32))
      pads_S2x15x128x4x64_S2x16x128x4x64_000_100_000_000_000 h_S_)⟩, ⟨S2x16x128x4x64, x⟩] concatenates_S2x16x128x4x64_S2x16x128x4x64_S2x16x256x4x64_d2
      (ix5 b n j k d) =
    if j.val < 128 then if n.val = 0 then 0 else x (ix5 b ⟨n - 1, by omega⟩ ⟨j % 128, by omega⟩ k d) else x (ix5 b n ⟨j - 128, by omega⟩ k d) := by
  pointwise []
  by_cases hj : j.val < 128
  · by_cases hn : n.val = 0
    · rw [dif_pos hj, if_pos hj, if_pos hn, dif_neg (by omega)]
      exact (sitofp_word (a := 0) (by decide)).trans (by norm_num)
    · rw [dif_pos hj, if_pos hj, if_neg hn, dif_pos (by omega)]
      exact congrArg x (congrArg (fun j => ix5 b _ j k d) (Fin.ext (by simp only []; omega)))
  · rw [dif_neg hj, if_neg hj]

/-! ## The mask -/

section Words

variable (V : Valuation τ sig (Elt Ideal))

theorem dist_read (i : Fin 128) (j : Fin 256) :
    dist V (ix2 i j) = IntOp.subi (BitVec.ofNat 32 (i.val + 128)) (BitVec.ofNat 32 j.val) := by
  pointwise [dist, res_main_v28, res_main_v25]
  exact congrArg (fun a => IntOp.subi a _) (addi_word i.val 128)

theorem mask_read (b : Fin 2) (n : Fin 16) (k : Fin 4) (g : Fin 3) (i : Fin 128) (j : Fin 256) :
    mask V (ix6 b n k g i j) =
      IntOp.andi (IntOp.andi (IntOp.cmpi .sge (dist V (ix2 i j)) 0#32) (IntOp.cmpi .slt (dist V (ix2 i j)) 128#32))
        (IntOp.ori (IntOp.cmpi .sgt (BitVec.ofNat 32 n.val) 0#32) (IntOp.cmpi .sge (BitVec.ofNat 32 j.val) 128#32)) := by
  unfold mask dist res_main_v59_1 res_main_v25
  generalize res_main_v28 V = x
  change IVec S128x256 32 at x
  pointwise []

theorem far_word (a c : ℕ) (ha : a < 1024) (hc : c < 1024) (h : ¬c ≤ a) :
    IntOp.cmpi .sge (IntOp.subi (BitVec.ofNat 32 a) (BitVec.ofNat 32 c)) 0#32 = 0#1 := by
  have : (IntOp.subi (BitVec.ofNat 32 a) (BitVec.ofNat 32 c)).toInt < 0 := by
    simp only [IntOp.subi]
    rw [BitVec.toInt_sub, WordCmp.toInt_ofNat_of_lt (by omega), WordCmp.toInt_ofNat_of_lt (by omega)]
    simp only [Int.bmod]
    omega
  simp only [IntOp.cmpi, BitVec.sle]
  rw [show (0#32).toInt = 0 from rfl, decide_eq_false (by omega)]
  rfl

/-- The mask at a query and a key of its window: the key is at most 127 before the query and in a half that exists. -/
theorem mask_at (b : Fin 2) (n : Fin 16) (k : Fin 4) (g : Fin 3) (i : Fin 128) (j : Fin 256) :
    mask V (ix6 b n k g i j) = if i.val < j.val ∧ j.val ≤ 128 + i.val ∧ (0 < n.val ∨ 128 ≤ j.val) then 1#1 else 0#1 := by
  rw [mask_read, dist_read]
  by_cases h : j.val ≤ i.val + 128
  · rw [subi_word h (by omega)]
    word_cmp
    have e : (decide (0 ≤ i.val + 128 - j.val) && decide (i.val + 128 - j.val < 128) && (decide (0 < n.val) || decide (128 ≤ j.val))) =
        decide (i.val < j.val ∧ j.val ≤ 128 + i.val ∧ (0 < n.val ∨ 128 ≤ j.val)) := by
      rw [← Bool.decide_and, ← Bool.decide_or, ← Bool.decide_and]
      exact decide_eq_decide.2 (by omega)
    rw [e]
    split_ifs with h'
    · rw [decide_eq_true h']; rfl
    · rw [decide_eq_false h']; rfl
  · rw [far_word _ _ (by omega) (by omega) h]
    rw [if_neg (by omega)]
    simp only [IntOp.andi, BitVec.zero_and]

theorem dist_at (i : Fin 128) (j : Fin 256) (h : j.val ≤ 128 + i.val) :
    FloatOps.sitofp (F := Ideal) .f32 (dist V (ix2 i j)) = ((128 + i.val - j.val : ℝ) : EReal) := by
  rw [dist_read, subi_word (by omega) (by omega), sitofp_word (by omega), Nat.cast_sub (by omega)]
  exact congrArg _ (by push_cast; ring)

theorem slope_word (h : Fin 12) : lit0 (S12.rowMajor (ix1 h)) = slopeWords h := by
  fin_cases h <;> rfl

theorem score_read (b : Fin 2) (n : Fin 16) (k : Fin 4) (g : Fin 3) (i : Fin 128) (j : Fin 256) :
    scores V (ix6 b n k g i j) = Scalar.select (mask V (ix6 b n k g i j))
      ((∑ d : Fin 64, kWin V (ix5 b n j k d) * qs V (ix6 b n i k g d)) * ((1 / 8 : ℝ) : EReal) +
        -Ideal.ofBits FTy.f32 (slopeWords (qhead k g)) * FloatOps.sitofp FTy.f32 (dist V (ix2 i j))) (⊥ : EReal) := by
  unfold scores mask dist kWin qs res_main_v59_0
  generalize res_main_v59_1 V = mask
  change IVec S2x16x4x3x128x256 1 at mask
  generalize res_main_v28 V = dist
  change IVec S128x256 32 at dist
  generalize res_main_v8 V = x
  generalize res_main_v15 V = y
  change FVec Ideal S2x16x256x4x64 .f32 at x
  change FVec Ideal S2x16x128x4x3x64 .f32 at y
  pointwise [qhead_mul]
  rw [eighth, slope_word, show (id (constant S_ FTy.f32 4286578688#32 : FVec Ideal S_ .f32) ix0) = ⊥ from minus_inf]

end Words

/-! ## Sums and maxima along the last axis, and over blocks and queries -/

theorem row_fiber {w : ℕ} (r : (⟨6, ![2, 16, 4, 3, 128, w]⟩ : Shape).ReducesTo [5] ⟨5, ![2, 16, 4, 3, 128]⟩)
    (b : Fin 2) (n : Fin 16) (k : Fin 4) (g : Fin 3) (i : Fin 128) (y : (⟨6, ![2, 16, 4, 3, 128, w]⟩ : Shape).Idx) :
    r.drop y = ix5 b n k g i ↔ ∃ j : Fin w, ix6 b n k g i j = y := by
  constructor
  · intro e
    refine ⟨y 5, funext fun a => Fin.ext ?_⟩
    match a with
    | ⟨0, _⟩ => exact (congrArg Fin.val (congrFun e (0 : Fin 5))).symm
    | ⟨1, _⟩ => exact (congrArg Fin.val (congrFun e (1 : Fin 5))).symm
    | ⟨2, _⟩ => exact (congrArg Fin.val (congrFun e (2 : Fin 5))).symm
    | ⟨3, _⟩ => exact (congrArg Fin.val (congrFun e (3 : Fin 5))).symm
    | ⟨4, _⟩ => exact (congrArg Fin.val (congrFun e (4 : Fin 5))).symm
    | ⟨5, _⟩ => rfl
  · rintro ⟨j, rfl⟩
    funext a
    match a with
    | ⟨0, _⟩ => rfl
    | ⟨1, _⟩ => rfl
    | ⟨2, _⟩ => rfl
    | ⟨3, _⟩ => rfl
    | ⟨4, _⟩ => rfl

theorem row_sum {w : ℕ} (r : (⟨6, ![2, 16, 4, 3, 128, w]⟩ : Shape).ReducesTo [5] ⟨5, ![2, 16, 4, 3, 128]⟩)
    (x : (⟨6, ![2, 16, 4, 3, 128, w]⟩ : Shape).Idx → EReal) (s : EReal) (b : Fin 2) (n : Fin 16) (k : Fin 4) (g : Fin 3) (i : Fin 128) :
    Ideal.hostReduceAdd r x s (ix5 b n k g i) = s + ∑ j : Fin w, x (ix6 b n k g i j) :=
  congrArg (s + ·) (Finset.sum_filter_eq_sum_of_fiber _ (fun j : Fin w => ix6 b n k g i j) (fun _ _ e => congrFun e 5) (row_fiber r b n k g i) x)

theorem row_max {w : ℕ} (r : (⟨6, ![2, 16, 4, 3, 128, w]⟩ : Shape).ReducesTo [5] ⟨5, ![2, 16, 4, 3, 128]⟩)
    (x : (⟨6, ![2, 16, 4, 3, 128, w]⟩ : Shape).Idx → EReal) (s : EReal) (b : Fin 2) (n : Fin 16) (k : Fin 4) (g : Fin 3) (i : Fin 128)
    [DecidablePred fun y => r.drop y = ix5 b n k g i] :
    Finset.fold max s x (Finset.univ.filter fun y => r.drop y = ix5 b n k g i) = Finset.univ.fold max s fun j : Fin w => x (ix6 b n k g i j) :=
  Finset.fold_filter_eq_fold_of_fiber max _ (fun j : Fin w => ix6 b n k g i j) (fun _ _ e => congrFun e 5) (row_fiber r b n k g i) s x

theorem head_fiber (r : (⟨6, ![2, 16, 4, 3, 128, 1]⟩ : Shape).ReducesTo [0, 1, 4] ⟨3, ![4, 3, 1]⟩) (k : Fin 4) (g : Fin 3)
    (y : (⟨6, ![2, 16, 4, 3, 128, 1]⟩ : Shape).Idx) :
    r.drop y = ix3 k g 0 ↔ ∃ p : Fin 2 × Fin 16 × Fin 128, ix6 p.1 p.2.1 k g p.2.2 0 = y := by
  constructor
  · intro e
    refine ⟨(y 0, y 1, y 4), funext fun a => Fin.ext ?_⟩
    match a with
    | ⟨0, _⟩ => rfl
    | ⟨1, _⟩ => rfl
    | ⟨2, _⟩ => exact (congrArg Fin.val (congrFun e (0 : Fin 3))).symm
    | ⟨3, _⟩ => exact (congrArg Fin.val (congrFun e (1 : Fin 3))).symm
    | ⟨4, _⟩ => rfl
    | ⟨5, _⟩ => exact (congrArg Fin.val (congrFun e (2 : Fin 3))).symm
  · rintro ⟨p, rfl⟩
    funext a
    match a with
    | ⟨0, _⟩ => rfl
    | ⟨1, _⟩ => rfl
    | ⟨2, _⟩ => rfl

theorem head_sum (r : (⟨6, ![2, 16, 4, 3, 128, 1]⟩ : Shape).ReducesTo [0, 1, 4] ⟨3, ![4, 3, 1]⟩)
    (x : (⟨6, ![2, 16, 4, 3, 128, 1]⟩ : Shape).Idx → EReal) (s : EReal) (k : Fin 4) (g : Fin 3) :
    Ideal.hostReduceAdd r x s (ix3 k g 0) = s + ∑ b : Fin 2, ∑ n : Fin 16, ∑ i : Fin 128, x (ix6 b n k g i 0) := by
  refine congrArg (s + ·) ((Finset.sum_filter_eq_sum_of_fiber _ (fun p : Fin 2 × Fin 16 × Fin 128 => ix6 p.1 p.2.1 k g p.2.2 0)
    (fun p q e => ?_) (head_fiber r k g) x).trans ?_)
  · exact Prod.ext (congrFun e 0) (Prod.ext (congrFun e 1) (congrFun e 4))
  · rw [Fintype.sum_prod_type]
    exact Finset.sum_congr rfl fun b _ => Fintype.sum_prod_type _

/-! ## The arrays of the forward pass -/

section Values

variable (V : Valuation τ sig (Elt Ideal)) (D : Data)
  (h : Reals (V (Proc.devRef .tc main_arg0)) (V (Proc.devRef .tc main_arg1)) (V (Proc.devRef .tc main_arg2)) (V (Proc.devRef .tc main_arg3)) D)
  (b : Fin 2) (n : Fin 16) (k : Fin 4) (g : Fin 3) (i : Fin 128)
include h

theorem qs_at (d : Fin 64) : qs V (ix6 b n i k g d) = (((D.head b n k).q g i d : ℝ) : EReal) :=
  (q_read _ b n i k g d).trans (h.q _ _ _)

theorem cts_at (d : Fin 64) : cts V (ix6 b n k d g i) = (((D.head b n k).ct g i d : ℝ) : EReal) :=
  (ct_read _ b n i k g d).trans (h.ct _ _ _)

theorem own_k_at (j : Fin 128) (d : Fin 64) : (res_main_v5 V : FVec Ideal S2x16x128x4x64 .f32) (ix5 b n j k d) = ((D.kv b (at_ n j) (kcol k d) : ℝ) : EReal) :=
  (own_k_read _ b n j k d).trans ((kv_read _ b _ 0 k d).trans ((h.kv _ _ _).trans
    (congrArg _ (congrArg (D.kv b _) (Fin.ext (by simp only [kcol]; simp))))))

theorem own_v_at (j : Fin 128) (d : Fin 64) : (res_main_v11 V : FVec Ideal S2x16x128x4x64 .f32) (ix5 b n j k d) = ((D.kv b (at_ n j) (vcol k d) : ℝ) : EReal) :=
  (own_v_read _ b n j k d).trans ((kv_read _ b _ 1 k d).trans ((h.kv _ _ _).trans
    (congrArg _ (congrArg (D.kv b _) (Fin.ext (by simp only [vcol]; simp))))))

omit h in
theorem window_at (x : FVec Ideal S2x16x128x4x64 .f32) (col : Fin 4 → Fin 64 → Fin 512)
    (hx : ∀ b n j k d, x (ix5 b n j k d) = ((D.kv b (at_ n j) (col k d) : ℝ) : EReal)) (j : Fin 256) (d : Fin 64) :
    (if j.val < 128 then if n.val = 0 then 0 else x (ix5 b ⟨n - 1, by omega⟩ ⟨j % 128, by omega⟩ k d) else x (ix5 b n ⟨j - 128, by omega⟩ k d)) =
      ((D.window b n j (col k d) : ℝ) : EReal) := by
  rw [Data.window, hx, hx]
  split_ifs <;> rfl

theorem kWin_at (j : Fin 256) (d : Fin 64) : kWin V (ix5 b n j k d) = (((D.head b n k).k j d : ℝ) : EReal) :=
  (window_read _ b n j k d).trans (window_at D b n k _ kcol (fun b n j k d => own_k_at V D h b n k j d) j d)

theorem vWin_at (j : Fin 256) (d : Fin 64) : vWin V (ix5 b n j k d) = (((D.head b n k).v j d : ℝ) : EReal) :=
  (window_read _ b n j k d).trans (window_at D b n k _ vcol (fun b n j k d => own_v_at V D h b n k j d) j d)

theorem scores_at (j : Fin 256) : scores V (ix6 b n k g i j) = ((D.head b n k).row g i).score j := by
  rw [score_read, mask_at, Row.score]
  by_cases hj : ((D.head b n k).row g i).ok j
  · have hj' : i.val < j.val ∧ j.val ≤ 128 + i.val ∧ (0 < n.val ∨ 128 ≤ j.val) := hj
    rw [if_pos hj, if_pos hj', dist_at V i j hj'.2.1, h.slope]
    simp only [kWin_at V D h, qs_at V D h]
    rw [Finset.sum_congr rfl fun d _ => (EReal.coe_mul _ _).symm, ← coe_sum, ← EReal.coe_neg, ← EReal.coe_mul, ← EReal.coe_mul, ← EReal.coe_add]
    refine congrArg Real.toEReal ?_
    simp only [Head.row, mul_comm ((D.head b n k).k j _)]
    simp only [Data.head]
    ring
  · have hj' : ¬(i.val < j.val ∧ j.val ≤ 128 + i.val ∧ (0 < n.val ∨ 128 ≤ j.val)) := hj
    rw [if_neg hj, if_neg hj']
    rfl

theorem sinks_at : sinks V (ix6 0 0 k g 0 0) = (((D.head b n k).row g i).sink : EReal) := by
  refine Eq.trans ?_ (h.sink (qhead k g))
  unfold sinks res_main_v60
  generalize V (Proc.devRef .tc main_arg2) = x
  change FVec Ideal S12 .f32 at x
  pointwise [qhead_mul]

theorem rowMax_at : rowMax V (ix5 b n k g i) = Finset.univ.fold max ⊥ ((D.head b n k).row g i).score := by
  have e : (fun j => scores V (ix6 b n k g i j)) = ((D.head b n k).row g i).score := funext fun j => scores_at V D h b n k g i j
  rw [← e]
  unfold rowMax scores res_main_v61
  generalize res_main_v59_0 V = x
  change FVec Ideal S2x16x4x3x128x256 .f32 at x
  pointwise []
  rw [minus_inf]
  exact row_max _ _ _ b n k g i

omit h in
theorem colMax_read : colMax V (ix6 b n k g i 0) = rowMax V (ix5 b n k g i) := by
  unfold colMax rowMax res_main_v67
  generalize res_main_v61 V = x
  change FVec Ideal S2x16x4x3x128 .f32 at x
  pointwise []

omit h in
theorem shift_read : shift V (ix6 b n k g i 0) = max (colMax V (ix6 b n k g i 0)) (sinks V (ix6 0 0 k g 0 0)) := by
  unfold shift colMax sinks res_main_v69
  generalize res_main_v67 V = x
  generalize res_main_v60 V = y
  change FVec Ideal S2x16x4x3x128x1 .f32 at x
  change FVec Ideal S1x1x4x3x1x1 .f32 at y
  pointwise []

omit h in
theorem wts_read (j : Fin 256) : wts V (ix6 b n k g i j) = Ideal.exp (scores V (ix6 b n k g i j) - shift V (ix6 b n k g i 0)) := by
  unfold wts scores shift res_main_v90
  generalize res_main_v59_0 V = x
  generalize res_main_v69 V = y
  change FVec Ideal S2x16x4x3x128x256 .f32 at x
  change FVec Ideal S2x16x4x3x128x1 .f32 at y
  pointwise []

omit h in
theorem sinkWt_read : sinkWt V (ix6 b n k g i 0) = Ideal.exp (sinks V (ix6 0 0 k g 0 0) - shift V (ix6 b n k g i 0)) := by
  unfold sinkWt sinks shift res_main_v95
  generalize res_main_v60 V = x
  generalize res_main_v69 V = y
  change FVec Ideal S1x1x4x3x1x1 .f32 at x
  change FVec Ideal S2x16x4x3x128x1 .f32 at y
  pointwise []

omit h in
theorem den_read : den V (ix6 b n k g i 0) = ∑ j, wts V (ix6 b n k g i j) + sinkWt V (ix6 b n k g i 0) := by
  unfold den wts sinkWt res_main_v96
  generalize res_main_v90 V = x
  generalize res_main_v95 V = y
  change FVec Ideal S2x16x4x3x128x256 .f32 at x
  change FVec Ideal S2x16x4x3x128x1 .f32 at y
  pointwise [row_sum]

omit h in
theorem probs_read (j : Fin 256) : probs V (ix6 b n k g i j) = Ideal.div (wts V (ix6 b n k g i j)) (den V (ix6 b n k g i 0)) := by
  unfold probs wts den res_main_v98
  generalize res_main_v90 V = x
  generalize res_main_v96 V = y
  change FVec Ideal S2x16x4x3x128x256 .f32 at x
  change FVec Ideal S2x16x4x3x128x1 .f32 at y
  pointwise []

end Values

/-! ## The arrays of the backward pass, read one step back -/

section Reads

variable (V : Valuation τ sig (Elt Ideal)) (b : Fin 2) (n : Fin 16) (k : Fin 4) (g : Fin 3) (i : Fin 128)

theorem ties_read (j : Fin 256) : ties V (ix6 b n k g i j) = if scores V (ix6 b n k g i j) = rowMax V (ix5 b n k g i) then 1 else 0 := by
  unfold ties scores rowMax res_main_v65
  generalize res_main_v59_0 V = x
  generalize res_main_v61 V = y
  change FVec Ideal S2x16x4x3x128x256 .f32 at x
  change FVec Ideal S2x16x4x3x128 .f32 at y
  pointwise []
  by_cases e : x (ix6 b n k g i j) = y (ix5 b n k g i)
  · rw [if_pos e, decide_eq_true e]
    exact (congrArg Real.toEReal (by norm_num : (((1#1).toNat : ℕ) : ℝ) = 1)).trans EReal.coe_one
  · rw [if_neg e, decide_eq_false e]
    exact (congrArg Real.toEReal (by norm_num : (((0#1).toNat : ℕ) : ℝ) = 0)).trans EReal.coe_zero

theorem dps_read (j : Fin 256) : dps V (ix6 b n k g i j) = ∑ d, cts V (ix6 b n k d g i) * vWin V (ix5 b n j k d) := by
  unfold dps cts vWin res_main_v107
  generalize res_main_v106 V = x
  generalize res_main_v14 V = y
  change FVec Ideal S2x16x4x64x3x128 .f32 at x
  change FVec Ideal S2x16x256x4x64 .f32 at y
  pointwise []

theorem dvs_read (j : Fin 256) (d : Fin 64) :
    dvs V (ix5 b n j k d) = ∑ g, ∑ i, cts V (ix6 b n k d g i) * probs V (ix6 b n k g i j) := by
  unfold dvs cts probs res_main_v109
  generalize res_main_v106 V = x
  generalize res_main_v98 V = y
  change FVec Ideal S2x16x4x64x3x128 .f32 at x
  change FVec Ideal S2x16x4x3x128x256 .f32 at y
  pointwise []

theorem denCt_read : denCt V (ix6 b n k g i 0) =
    -∑ j, dps V (ix6 b n k g i j) * Ideal.div 1 (den V (ix6 b n k g i 0) * den V (ix6 b n k g i 0)) * wts V (ix6 b n k g i j) := by
  unfold denCt dps den wts res_main_v115
  generalize res_main_v107 V = x
  generalize res_main_v96 V = y
  generalize res_main_v90 V = z
  change FVec Ideal S2x16x4x3x128x256 .f32 at x
  change FVec Ideal S2x16x4x3x128x1 .f32 at y
  change FVec Ideal S2x16x4x3x128x256 .f32 at z
  pointwise [row_sum]

theorem sinkCt_read : sinkCt V (ix6 b n k g i 0) = denCt V (ix6 b n k g i 0) * sinkWt V (ix6 b n k g i 0) := by
  unfold sinkCt denCt sinkWt res_main_v118
  generalize res_main_v115 V = x
  generalize res_main_v95 V = y
  change FVec Ideal S2x16x4x3x128x1 .f32 at x
  change FVec Ideal S2x16x4x3x128x1 .f32 at y
  pointwise []

theorem scoreCt_read (j : Fin 256) : scoreCt V (ix6 b n k g i j) =
    (Ideal.div (dps V (ix6 b n k g i j)) (den V (ix6 b n k g i 0)) + denCt V (ix6 b n k g i 0)) * wts V (ix6 b n k g i j) := by
  unfold scoreCt dps den denCt wts res_main_v125
  generalize res_main_v107 V = x
  generalize res_main_v96 V = y
  generalize res_main_v90 V = z
  generalize res_main_v115 V = w
  change FVec Ideal S2x16x4x3x128x256 .f32 at x
  change FVec Ideal S2x16x4x3x128x1 .f32 at y
  change FVec Ideal S2x16x4x3x128x256 .f32 at z
  change FVec Ideal S2x16x4x3x128x1 .f32 at w
  pointwise [row_sum]
  rw [Fin.sum_univ_one]

theorem shiftCt_read : shiftCt V (ix6 b n k g i 0) = -sinkCt V (ix6 b n k g i 0) + ∑ j, -scoreCt V (ix6 b n k g i j) := by
  unfold shiftCt sinkCt scoreCt res_main_v129
  generalize res_main_v118 V = x
  generalize res_main_v125 V = y
  change FVec Ideal S2x16x4x3x128x1 .f32 at x
  change FVec Ideal S2x16x4x3x128x256 .f32 at y
  pointwise [row_sum]

theorem dss_read (j : Fin 256) : ∃ s : EReal, dss V (ix6 b n k j i g) =
    Scalar.select (mask V (ix6 b n k g i j)) ((scoreCt V (ix6 b n k g i j) +
      Ideal.div (shiftCt V (ix6 b n k g i 0) * s) (∑ j, ties V (ix6 b n k g i j)) * ties V (ix6 b n k g i j)) * ((1 / 8 : ℝ) : EReal)) 0 := by
  unfold dss mask scoreCt shiftCt ties res_main_v144
  generalize res_main_v59_1 V = m
  generalize res_main_v125 V = x
  generalize res_main_v129 V = y
  generalize res_main_v67 V = z
  generalize res_main_v60 V = w
  generalize res_main_v65 V = t
  change IVec S2x16x4x3x128x256 1 at m
  change FVec Ideal S2x16x4x3x128x256 .f32 at x
  change FVec Ideal S2x16x4x3x128x1 .f32 at y
  change FVec Ideal S2x16x4x3x128x1 .f32 at z
  change FVec Ideal S1x1x4x3x1x1 .f32 at w
  change FVec Ideal S2x16x4x3x128x256 .f32 at t
  pointwise [row_sum]
  rw [Fin.sum_univ_one, eighth]
  exact ⟨_, rfl⟩

theorem dks_read (j : Fin 256) (d : Fin 64) :
    dks V (ix5 b n j k d) = ∑ i, ∑ g, dss V (ix6 b n k j i g) * qs V (ix6 b n i k g d) := by
  unfold dks dss qs res_main_v148
  generalize res_main_v144 V = x
  generalize res_main_v15 V = y
  change FVec Ideal S2x16x4x256x128x3 .f32 at x
  change FVec Ideal S2x16x128x4x3x64 .f32 at y
  pointwise []

end Reads

/-! ## The values of those arrays -/

section Backward

variable (V : Valuation τ sig (Elt Ideal)) (D : Data)
  (h : Reals (V (Proc.devRef .tc main_arg0)) (V (Proc.devRef .tc main_arg1)) (V (Proc.devRef .tc main_arg2)) (V (Proc.devRef .tc main_arg3)) D)
  (b : Fin 2) (n : Fin 16) (k : Fin 4) (g : Fin 3) (i : Fin 128)
include h

theorem shift_at : ∃ μ : ℝ, shift V (ix6 b n k g i 0) = μ := by
  rw [shift_read, colMax_read, rowMax_at V D h, sinks_at V D h b n]
  rw [show ((D.head b n k).row g 0).sink = ((D.head b n k).row g i).sink from rfl]
  exact Row.whole_shift_real _

section Shifted

variable {μ : ℝ} (hμ : shift V (ix6 b n k g i 0) = μ)
include hμ

theorem wts_at (j : Fin 256) : wts V (ix6 b n k g i j) = Ideal.exp (((D.head b n k).row g i).score j - (μ : EReal)) := by
  rw [wts_read, scores_at V D h, hμ]

theorem sinkWt_at : sinkWt V (ix6 b n k g i 0) = Ideal.exp ((((D.head b n k).row g i).sink : EReal) - (μ : EReal)) := by
  rw [sinkWt_read, sinks_at V D h b n k g i, hμ]

theorem den_at : den V (ix6 b n k g i 0) = ((((D.head b n k).row g i).tot * Real.exp (-μ) : ℝ) : EReal) := by
  rw [den_read, sinkWt_at V D h b n k g i hμ, Finset.sum_congr rfl fun j _ => wts_at V D h b n k g i hμ j, ← Row.denom, zero_add]

end Shifted

theorem probs_at (j : Fin 256) : probs V (ix6 b n k g i j) = (((D.head b n k).row g i).prob j : EReal) := by
  obtain ⟨μ, hμ⟩ := shift_at V D h b n k g i
  rw [probs_read, wts_at V D h b n k g i hμ, den_at V D h b n k g i hμ, Row.prob_div]

theorem dps_at (j : Fin 256) : dps V (ix6 b n k g i j) = (((D.head b n k).row g i).dp j : EReal) := by
  rw [dps_read]
  simp only [cts_at V D h, vWin_at V D h]
  rw [Head.row, coe_sum]
  exact Finset.sum_congr rfl fun d _ => (EReal.coe_mul _ _).symm

theorem denCt_at {μ : ℝ} (hμ : shift V (ix6 b n k g i 0) = μ) : denCt V (ix6 b n k g i 0) =
    ((-(((D.head b n k).row g i).mean / (((D.head b n k).row g i).tot * Real.exp (-μ))) : ℝ) : EReal) := by
  rw [denCt_read, den_at V D h b n k g i hμ, Finset.sum_congr rfl fun j _ => by rw [wts_at V D h b n k g i hμ, dps_at V D h],
    ← Row.denom_ct, zero_add]

theorem sinkCt_at : sinkCt V (ix6 b n k g i 0) = ((-(((D.head b n k).row g i).probSink * ((D.head b n k).row g i).mean) : ℝ) : EReal) := by
  obtain ⟨μ, hμ⟩ := shift_at V D h b n k g i
  rw [sinkCt_read, denCt_at V D h b n k g i hμ, sinkWt_at V D h b n k g i hμ, Row.sink_ct]

theorem scoreCt_at (j : Fin 256) : scoreCt V (ix6 b n k g i j) =
    ((((D.head b n k).row g i).prob j * (((D.head b n k).row g i).dp j - ((D.head b n k).row g i).mean) : ℝ) : EReal) := by
  obtain ⟨μ, hμ⟩ := shift_at V D h b n k g i
  rw [scoreCt_read, denCt_at V D h b n k g i hμ, wts_at V D h b n k g i hμ, den_at V D h b n k g i hμ, dps_at V D h, ← Row.score_ct _ μ, zero_add]

theorem shiftCt_at : shiftCt V (ix6 b n k g i 0) = 0 := by
  rw [shiftCt_read, sinkCt_at V D h, Finset.sum_congr rfl fun j _ => by rw [scoreCt_at V D h], ← Row.shift_ct ((D.head b n k).row g i), zero_add]

theorem ties_at (j : Fin 256) : ties V (ix6 b n k g i j) =
    if ((D.head b n k).row g i).score j = Finset.univ.fold max ⊥ ((D.head b n k).row g i).score then 1 else 0 := by
  rw [ties_read, scores_at V D h, rowMax_at V D h]

theorem dss_at (j : Fin 256) : dss V (ix6 b n k j i g) = (((D.head b n k).row g i).ds j : EReal) := by
  obtain ⟨s, hs⟩ := dss_read V b n k g i j
  have ht := Row.div_ties ((D.head b n k).row g i).score
  rw [zero_add] at ht
  rw [hs, shiftCt_at V D h, zero_mul, Finset.sum_congr rfl fun j _ => ties_at V D h b n k g i j, ht, zero_mul, add_zero, scoreCt_at V D h, mask_at]
  by_cases hj : ((D.head b n k).row g i).ok j
  · have hj' : i.val < j.val ∧ j.val ≤ 128 + i.val ∧ (0 < n.val ∨ 128 ≤ j.val) := hj
    rw [if_pos hj', ← EReal.coe_mul]
    rfl
  · have hj' : ¬(i.val < j.val ∧ j.val ≤ 128 + i.val ∧ (0 < n.val ∨ 128 ≤ j.val)) := hj
    rw [if_neg hj', Row.ds_of_not _ hj]
    rfl

theorem dks_at (j : Fin 256) (d : Fin 64) : dks V (ix5 b n j k d) = (((D.head b n k).dk j d : ℝ) : EReal) := by
  rw [dks_read, Head.dk, coe_sum, Finset.sum_comm]
  refine Finset.sum_congr rfl fun g _ => ?_
  rw [coe_sum]
  exact Finset.sum_congr rfl fun i _ => by rw [dss_at V D h, qs_at V D h, ← EReal.coe_mul]

theorem dvs_at (j : Fin 256) (d : Fin 64) : dvs V (ix5 b n j k d) = (((D.head b n k).dv j d : ℝ) : EReal) := by
  rw [dvs_read, Head.dv, coe_sum]
  refine Finset.sum_congr rfl fun g _ => ?_
  rw [coe_sum]
  exact Finset.sum_congr rfl fun i _ => by rw [cts_at V D h, probs_at V D h, mul_comm, ← EReal.coe_mul]

end Backward

end Cert.ReferenceIdeal.Swa

end
-- ==== Proof.RefArrays.lean ====
/- The reference's four results, where the arguments are real numbers. -/
module

public import proofs.«01_k».proof.Proof.Reference

@[expose] public section

set_option maxRecDepth 16384

noncomputable section

namespace Cert.ReferenceIdeal.Swa

open Cert.ReferenceIdeal Cert.ReferenceIdeal.Gen Cert.ReferenceIdeal.Value Idealize.ShloMosaic Idealize.ShloMosaic.TcCoe Idealize.SL.Sem
open Cert.KernelIdeal.Swa (sitofp_word)
open _root_.Swa (Head Row Data Reals at_ lo hi coe_sum qhead qcol kcol vcol slopeWords lanes)
open scoped Classical

/-! ## Read one step back -/

theorem dq_read (x : FVec Ideal S2x16x4x256x128x3 .f32) (z : FVec Ideal S2x16x256x4x64 .f32) (b : Fin 2) (t : Fin 2048) (c : Fin 768) :
    (truncf .bf16 (shapeCast S2x2048x768 (shapeCast S2x2048x12x64 (transpose S2x16x128x4x3x64 [0, 1, 3, 2, 4, 5]
      (Host.dotGeneral dot_S2x16x4x256x128x3_S2x16x256x4x64_S2x16x4x128x3x64_3_2_45_4_012_013 none x z)
      transposes_S2x16x4x128x3x64_S2x16x128x4x3x64_0_1_3_2_4_5) shapeCasts_S2x16x128x4x3x64_S2x2048x12x64)
      shapeCasts_S2x2048x12x64_S2x2048x768) bitsLt_bf16_f32 : FVec Ideal S2x2048x768 .bf16) (ix3 b t c) =
    ∑ j, x (ix6 b ⟨t / 128, by omega⟩ ⟨c / 64 / 3, by omega⟩ j ⟨t % 128, by omega⟩ ⟨c / 64 % 3, by omega⟩) *
      z (ix5 b ⟨t / 128, by omega⟩ j ⟨c / 64 / 3, by omega⟩ ⟨c % 64, by omega⟩) := by
  pointwise []
  have e : (⟨c / 192, by omega⟩ : Fin 4) = ⟨c / 64 / 3, by omega⟩ := Fin.ext (by simp only []; omega)
  rw [e]

theorem cur_read (x z : FVec Ideal S2x16x256x4x64 .f32) (b : Fin 2) (t : Fin 2048) (c : Fin 512) :
    (concatenate S2x2048x512 2 [⟨S2x2048x256, (shapeCast S2x2048x256 (extractStridedSlice S2x16x128x4x64 ![0, 0, 128, 0, 0] x
      slices_S2x16x256x4x64_S2x16x128x4x64_0_0_128_0_0) shapeCasts_S2x16x128x4x64_S2x2048x256)⟩, ⟨S2x2048x256, (shapeCast S2x2048x256
      (extractStridedSlice S2x16x128x4x64 ![0, 0, 128, 0, 0] z slices_S2x16x256x4x64_S2x16x128x4x64_0_0_128_0_0)
      shapeCasts_S2x16x128x4x64_S2x2048x256)⟩] concatenates_S2x2048x256_S2x2048x256_S2x2048x512_d2 : FVec Ideal S2x2048x512 .f32) (ix3 b t c) =
    (if c.val < 256 then x else z) (ix5 b ⟨t / 128, by omega⟩ (hi ⟨t % 128, by omega⟩) ⟨c / 64 % 4, by omega⟩ ⟨c % 64, by omega⟩) := by
  pointwise []
  by_cases hc : c.val < 256
  · rw [dif_pos hc, if_pos hc]
    exact congrArg x (congrArg (fun k => ix5 b _ _ k _) (Fin.ext (by simp only []; omega)))
  · rw [dif_neg hc, if_neg hc]
    exact congrArg z (congrArg₂ (fun k d => ix5 b _ _ k d) (Fin.ext (by simp only []; omega)) (Fin.ext (by simp only []; omega)))

theorem prev_read (x z : FVec Ideal S2x16x256x4x64 .f32) (b : Fin 2) (t : Fin 2048) (c : Fin 512) :
    (concatenate S2x2048x512 2 [⟨S2x2048x256, (shapeCast S2x2048x256 (extractStridedSlice S2x16x128x4x64 ![0, 0, 0, 0, 0] x
      slices_S2x16x256x4x64_S2x16x128x4x64_0_0_0_0_0) shapeCasts_S2x16x128x4x64_S2x2048x256)⟩, ⟨S2x2048x256, (shapeCast S2x2048x256
      (extractStridedSlice S2x16x128x4x64 ![0, 0, 0, 0, 0] z slices_S2x16x256x4x64_S2x16x128x4x64_0_0_0_0_0)
      shapeCasts_S2x16x128x4x64_S2x2048x256)⟩] concatenates_S2x2048x256_S2x2048x256_S2x2048x512_d2 : FVec Ideal S2x2048x512 .f32) (ix3 b t c) =
    (if c.val < 256 then x else z) (ix5 b ⟨t / 128, by omega⟩ (lo ⟨t % 128, by omega⟩) ⟨c / 64 % 4, by omega⟩ ⟨c % 64, by omega⟩) := by
  pointwise []
  by_cases hc : c.val < 256
  · rw [dif_pos hc, if_pos hc]
    exact congrArg x (congrArg (fun k => ix5 b _ _ k _) (Fin.ext (by simp only []; omega)))
  · rw [dif_neg hc, if_neg hc]
    exact congrArg z (congrArg₂ (fun k d => ix5 b _ _ k d) (Fin.ext (by simp only []; omega)) (Fin.ext (by simp only []; omega)))

theorem sinks_read (x : FVec Ideal S12 .f32) (r : Fin 8) (l : Fin 128) :
    (pad S8x128 ![0, 0] ![7, 116] ![0, 0] (broadcastInDim S1x12 ![1] bcast_S12_S1x12_1 x) (sitofp .f32 (constantI S_ 32 0#32))
      pads_S1x12_S8x128_070_01160 h_S_ : FVec Ideal S8x128 .f32) (ix2 r l) = if h : l.val < 12 ∧ r.val = 0 then x (ix1 ⟨l, h.1⟩) else 0 := by
  pointwise []
  by_cases h : l.val < 12 ∧ r.val = 0
  · rw [dif_pos h, dif_pos (by omega)]
  · rw [dif_neg h, dif_neg (by omega)]
    exact (sitofp_word (a := 0) (by decide)).trans (by norm_num)

theorem sink_sum_read (y z : FVec Ideal S2x16x4x3x128x1 .f32) (w : FVec Ideal S1x1x4x3x1x1 .f32) (x : FVec Ideal S2x16x4x3x128x1 .f32) (e : Fin 12)
    (hy : ∀ b n k g i, y (ix6 b n k g i 0) = 0) :
    (shapeCast S12 (addf (shapeCast S1x1x4x3x1x1 (Host.reduceAdd x (constant S_ .f32 0x00000000#32) reducesTo_S2x16x4x3x128x1_S4x3x1_d0_1_4 h_S_)
      shapeCasts_S4x3x1_S1x1x4x3x1x1) (shapeCast S1x1x4x3x1x1 (Host.reduceAdd (mulf y (select (cmpf .ogt (broadcastInDim S2x16x4x3x128x1
      ![0, 1, 2, 3, 4, 5] bcast_S1x1x4x3x1x1_S2x16x4x3x128x1_0_1_2_3_4_5 w) z) (broadcastInDim S2x16x4x3x128x1 ![]
      bcast_S_S2x16x4x3x128x1 (constant S_ .f32 0x3F800000#32)) (select (cmpf .oeq (broadcastInDim S2x16x4x3x128x1 ![0, 1, 2, 3, 4, 5]
      bcast_S1x1x4x3x1x1_S2x16x4x3x128x1_0_1_2_3_4_5 w) z) (broadcastInDim S2x16x4x3x128x1 ![]
      bcast_S_S2x16x4x3x128x1 (constant S_ .f32 0x3F000000#32)) (broadcastInDim S2x16x4x3x128x1 ![] bcast_S_S2x16x4x3x128x1
      (constant S_ .f32 0x00000000#32))))) (constant S_ .f32 0x00000000#32) reducesTo_S2x16x4x3x128x1_S4x3x1_d0_1_4 h_S_)
      shapeCasts_S4x3x1_S1x1x4x3x1x1)) shapeCasts_S1x1x4x3x1x1_S12 : FVec Ideal S12 .f32) (ix1 e) =
    ∑ b : Fin 2, ∑ n : Fin 16, ∑ i : Fin 128, x (ix6 b n ⟨e / 3, by omega⟩ ⟨e % 3, by omega⟩ i 0) := by
  pointwise [head_sum, hy]
  simp only [zero_mul, Finset.sum_const_zero, add_zero]

/-! ## The values -/

variable (V : Valuation τ sig (Elt Ideal)) (D : Data)
  (h : Reals (V (Proc.devRef .tc main_arg0)) (V (Proc.devRef .tc main_arg1)) (V (Proc.devRef .tc main_arg2)) (V (Proc.devRef .tc main_arg3)) D)
include h

theorem dq_value (b : Fin 2) (t : Fin 2048) (c : Fin 768) :
    ∑ j, dss V (ix6 b ⟨t / 128, by omega⟩ ⟨c / 64 / 3, by omega⟩ j ⟨t % 128, by omega⟩ ⟨c / 64 % 3, by omega⟩) *
      kWin V (ix5 b ⟨t / 128, by omega⟩ j ⟨c / 64 / 3, by omega⟩ ⟨c % 64, by omega⟩) = ((D.dq b t c : ℝ) : EReal) := by
  rw [Data.dq, Head.dq, coe_sum]
  exact Finset.sum_congr rfl fun j _ => by rw [dss_at V D h, kWin_at V D h, ← EReal.coe_mul]; rfl

theorem dkv_value (half : Fin 128 → Fin 256) (b : Fin 2) (t : Fin 2048) (c : Fin 512) :
    (if c.val < 256 then dks V else dvs V) (ix5 b ⟨t / 128, by omega⟩ (half ⟨t % 128, by omega⟩) ⟨c / 64 % 4, by omega⟩ ⟨c % 64, by omega⟩) =
      ((D.dkv half b t c : ℝ) : EReal) := by
  rw [Data.dkv]
  split_ifs
  · exact dks_at V D h _ _ _ _ _
  · exact dvs_at V D h _ _ _ _ _

theorem dsink_value (e : Fin 12) :
    ∑ b : Fin 2, ∑ n : Fin 16, ∑ i : Fin 128, sinkCt V (ix6 b n ⟨e / 3, by omega⟩ ⟨e % 3, by omega⟩ i 0) = ((D.dsink e : ℝ) : EReal) := by
  rw [Data.dsink, coe_sum]
  refine Finset.sum_congr rfl fun b _ => ?_
  rw [coe_sum]
  refine Finset.sum_congr rfl fun n _ => ?_
  rw [Head.dsink, coe_sum]
  exact Finset.sum_congr rfl fun i _ => sinkCt_at V D h _ _ _ _ _

end Cert.ReferenceIdeal.Swa

end
-- ==== Proof.Swa.lean ====
/- The claims about the backward pass of the sliding-window attention: its frames, and its four results against the reference's. -/
module

public import proofs.«01_k».proof.Defs
public import proofs.«01_k».proof.Proof.Finite
public import proofs.«01_k».proof.Proof.Arrays
public import proofs.«01_k».proof.Proof.RefArrays
public import proofs.«01_k».proof.Proof.Gen.Kernel.Frame
public import proofs.«01_k».proof.Proof.Gen.KernelIdeal.Frame

@[expose] public section

set_option maxRecDepth 16384

noncomputable section

namespace Cert.ReferenceIdeal.Swa

open Cert.ReferenceIdeal Cert.ReferenceIdeal.Gen Cert.ReferenceIdeal.Value Idealize.ShloMosaic Idealize.ShloMosaic.TcCoe Idealize.SL.Sem
open _root_.Swa (Data Reals lo hi lanes)

variable (m : (ℓ : Loc nD τ sig) → Buf (Elt Ideal) ℓ) (ρ : Dev nD → PrngReg) (D : Dev nD → Data)
  (h : ∀ c : Dev nD, Reals (m ((c.tc : Thread nD τ).loc main_arg0)) (m ((c.tc : Thread nD τ).loc main_arg1))
    (m ((c.tc : Thread nD τ).loc main_arg2)) (m ((c.tc : Thread nD τ).loc main_arg3)) (D c))
include h

/-- The reference ends with the gradients of `Results`, and with its arguments as they were. -/
theorem run_values : θ_run defs (onTc (τ := τ) (main (F := Ideal))) ⟨m, fun _ => 0, ρ⟩ fun r => ∀ c : Dev nD,
    r.2.mem ((c.tc : Thread nD τ).loc main_v161) = (fun y : S2x2048x768.Idx => (((D c).dq (y 0) (y 1) (y 2) : ℝ) : EReal))
    ∧ r.2.mem ((c.tc : Thread nD τ).loc main_v154) = (fun y : S2x2048x512.Idx => (((D c).dkv hi (y 0) (y 1) (y 2) : ℝ) : EReal))
    ∧ r.2.mem ((c.tc : Thread nD τ).loc main_v159) = (fun y : S2x2048x512.Idx => (((D c).dkv lo (y 0) (y 1) (y 2) : ℝ) : EReal))
    ∧ r.2.mem ((c.tc : Thread nD τ).loc main_v163) = (fun y : S8x128.Idx => ((lanes (D c).dsink (y 0) (y 1) : ℝ) : EReal))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r hr c => ?_) (run m ρ)
  obtain ⟨e0, e1, e2, e3, ha⟩ := hr c
  have hc : Reals (StableHlo.launchContents m c (Proc.devRef .tc main_arg0)) (StableHlo.launchContents m c (Proc.devRef .tc main_arg1))
    (StableHlo.launchContents m c (Proc.devRef .tc main_arg2)) (StableHlo.launchContents m c (Proc.devRef .tc main_arg3)) (D c) := h c
  refine ⟨e0.trans (funext fun y => ?_), e1.trans (funext fun y => ?_), e2.trans (funext fun y => ?_), e3.trans (funext fun y => ?_), ha⟩
  · obtain ⟨b, t, k, rfl⟩ : ∃ b t k, y = ix3 b t k := ⟨_, _, _, eq_ix3 y⟩
    exact (dq_read _ _ b t k).trans (dq_value _ _ hc b t k)
  · obtain ⟨b, t, k, rfl⟩ : ∃ b t k, y = ix3 b t k := ⟨_, _, _, eq_ix3 y⟩
    exact (cur_read _ _ b t k).trans (dkv_value _ _ hc hi b t k)
  · obtain ⟨b, t, k, rfl⟩ : ∃ b t k, y = ix3 b t k := ⟨_, _, _, eq_ix3 y⟩
    exact (prev_read _ _ b t k).trans (dkv_value _ _ hc lo b t k)
  · obtain ⟨r, l, rfl⟩ : ∃ r l, y = ix2 r l := ⟨_, _, eq_ix2 y⟩
    refine (sinks_read _ r l).trans ?_
    change _ = ((lanes (D c).dsink r l : ℝ) : EReal)
    rw [lanes]
    split_ifs with hl
    · exact (sink_sum_read _ _ _ _ _ (shiftCt_at _ _ hc)).trans (dsink_value _ _ hc _)
    · rfl

end Cert.ReferenceIdeal.Swa

namespace Cert.Proof

open Idealize.ShloMosaic Idealize.SL.Sem
open _root_.Swa (exists_reals hi lo lanes)

attribute [local instance] Cert.Kernel.Gen.facts Cert.KernelIdeal.Gen.facts Cert.ReferenceIdeal.Gen.facts Cert.Pre_finite.facts

theorem frame_kernel : Cert.quiescent_Kernel := fun m ρ _ => Cert.Kernel.Gen.frame m ρ
theorem frame_kernelIdeal : Cert.quiescent_KernelIdeal := fun m ρ _ => Cert.KernelIdeal.Gen.frame m ρ
theorem frame_kernelIdeal_finite : Cert.quiescent_KernelIdeal_pre_finite := fun m ρ _ => Cert.KernelIdeal.Gen.frame m ρ

/-- The reference is host operations only, and declares no semaphore. -/
theorem frame_referenceIdeal : Cert.quiescent_ReferenceIdeal := fun m ρ _ =>
  (θ_run Cert.ReferenceIdeal.defs _ _).mono
    (fun r hr => ⟨fun c => (hr c).2.2.2.2, sem_eq_zero_of_no_sems (by decide) r.2⟩) (Cert.ReferenceIdeal.Value.run m ρ)

theorem frame_referenceIdeal_finite : Cert.quiescent_ReferenceIdeal_pre_finite := fun m ρ _ => frame_referenceIdeal m ρ trivial

theorem preserves : Cert.preserves_Kernel_KernelIdeal := trivial

/-- Kernel and reference end with the same four gradients. -/
theorem algebraic : Cert.algebraic_KernelIdeal_ReferenceIdeal_pre_finite := by
  intro m g m' g' hpre hargs
  choose D hD using fun c => exists_reals _ _ _ _ (hpre c)
  refine ⟨fun c y => (((D c).dq (y 0) (y 1) (y 2) : ℝ) : EReal), fun c y => (((D c).dkv hi (y 0) (y 1) (y 2) : ℝ) : EReal),
    fun c y => (((D c).dkv lo (y 0) (y 1) (y 2) : ℝ) : EReal), fun c y => ((lanes (D c).dsink (y 0) (y 1) : ℝ) : EReal), ?_, ?_⟩
  · refine (θ_run Cert.KernelIdeal.defs _ _).mono (fun r hr c => ?_) (Cert.KernelIdeal.Value.run_blocks m g)
    obtain ⟨e0, e1, e2, e3, ha⟩ := hr c
    exact ⟨e0.trans (Cert.KernelIdeal.Swa.dq_array m c (D c) (hD c)), e1.trans (Cert.KernelIdeal.Swa.dkvCur_array m c (D c) (hD c)),
      e2.trans (Cert.KernelIdeal.Swa.dkvPrev_array m c (D c) (hD c)), e3.trans (Cert.KernelIdeal.Swa.dsinks_array m c (D c) (hD c)), ha⟩
  · refine Cert.ReferenceIdeal.Swa.run_values m' g' D fun c => ?_
    rw [(hargs c).1, (hargs c).2.1, (hargs c).2.2.1, (hargs c).2.2.2]
    exact hD c

end Cert.Proof

end
-- ==== Proof.DownDx.lean ====
/- The gradient of the FFN's gated activation, `df · w_downᵀ`, against the reference's. -/
module

public import proofs.«01_k».proof.Defs
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal.Run
public import Idealize.ShloMosaic.Lib.Pipeline.ValueKit
public import Idealize.ShloMosaic.Lib.Pointwise

@[expose] public section

set_option maxRecDepth 16384

noncomputable section

namespace Ffn

open Idealize.ShloMosaic

/-- The gradient of the gated activation: each row of `df` against each row of `w_down`. -/
def downDx (df : (⟨2, ![4096, 1024]⟩ : Shape).Idx → EReal) (w : (⟨2, ![2816, 1024]⟩ : Shape).Idx → EReal) (r : Fin 4096) (f : Fin 2816) : EReal :=
  ∑ k : Fin 1024, df (ix2 r k) * w (ix2 f k)

end Ffn

namespace Cert.DownDxIdeal.Ffn

open Cert.DownDxIdeal Cert.DownDxIdeal.Gen Idealize.ShloMosaic Idealize.ShloMosaic.TcCoe Idealize.SL.Sem
open _root_.Ffn (downDx)

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

theorem lt8 (t : Fin cfg0.N) : t.val < 8 := t.isLt

/-- Row `i` of a grid point's row block, and column `j` of its column block. -/
def row (t : Fin cfg0.N) (i : Fin 1024) : Fin 4096 := ⟨1024 * (t.val / 2) + i, by have := lt8 t; omega⟩
def col (t : Fin cfg0.N) (j : Fin 1408) : Fin 2816 := ⟨1408 * (t.val % 2) + j, by omega⟩

theorem product_at (a : Vec Ideal S1024x1024 .bf16) (b : Vec Ideal S1408x1024 .bf16) (i : Fin 1024) (j : Fin 1408) :
    k0_pay1 (F := Ideal) a b (ix2 i j) = ∑ k : Fin 1024, a (ix2 i k) * b (ix2 j k) := by
  pointwise [k0_pay1]

theorem out_eq (a : Vec Ideal S1024x1024 .bf16) (b : Vec Ideal S1408x1024 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

variable (m : (ℓ : Loc nD τ sig) → Buf (Elt Ideal) ℓ) (c : Dev nD) (t : Fin cfg0.N)

theorem df_block (i : Fin 1024) (k : Fin 1024) : iblk m c 0 t (ix2 i k) = m ((c.tc : Thread nD τ).loc main_arg0) (ix2 (row t i) k) := by
  blk_ext [iblk, V, idx0 t, row]

theorem w_block (j : Fin 1408) (k : Fin 1024) : iblk m c 1 t (ix2 j k) = m ((c.tc : Thread nD τ).loc main_arg1) (ix2 (col t j) k) := by
  blk_ext [iblk, V, idx1 t, col]

theorem emb2 (y : S1024x1408.Idx) : (win0_2.blk t).view.emb y = ix2 (row t (y 0)) (col t (y 1)) := by
  blk_ext [idx2 t, row, col]

theorem array : (dats m 0 c).arrAt 2 cfg0.N =
    fun y : S4096x2816.Idx => downDx (m ((c.tc : Thread nD τ).loc main_arg0)) (m ((c.tc : Thread nD τ).loc main_arg1)) (y 0) (y 1) := by
  refine (dats m 0 c).arrAt_eq_of_covers 2 _ (by decide +kernel) fun t hf y => ?_
  blk_simp
  rw [emb2, after0_2, out_eq]
  refine (congrArg _ (eq_ix2 y)).trans ((product_at _ _ _ _).trans ?_)
  exact Finset.sum_congr rfl fun k _ => congrArg₂ (· * ·) (df_block m c t _ _) (w_block m c t _ _)

end Cert.DownDxIdeal.Ffn

namespace Cert.DownDxRefIdeal.Ffn

open Cert.DownDxRefIdeal Cert.DownDxRefIdeal.Gen Idealize.ShloMosaic Idealize.ShloMosaic.TcCoe Idealize.SL.Sem
open _root_.Ffn (downDx)

theorem product_at (a : FVec Ideal S4096x1024 .bf16) (b : FVec Ideal S2816x1024 .bf16) (r : Fin 4096) (f : Fin 2816) :
    (Host.dotGeneral dot_S4096x1024_S2816x1024_S4096x2816_1_1_0_0_n_n none (extf .f32 a bitsLt_bf16_f32) (extf .f32 b bitsLt_bf16_f32) :
      FVec Ideal S4096x2816 .f32) (ix2 r f) = downDx a b r f := by
  unfold downDx
  pointwise []

theorem result (a : FVec Ideal S4096x1024 .bf16) (b : FVec Ideal S2816x1024 .bf16) :
    (Host.dotGeneral dot_S4096x1024_S2816x1024_S4096x2816_1_1_0_0_n_n none (extf .f32 a bitsLt_bf16_f32) (extf .f32 b bitsLt_bf16_f32) :
      FVec Ideal S4096x2816 .f32) = fun y => downDx a b (y 0) (y 1) :=
  funext fun y => (congrArg _ (eq_ix2 y)).trans (product_at a b (y 0) (y 1))

end Cert.DownDxRefIdeal.Ffn

namespace Cert.Proof

open Idealize.ShloMosaic Idealize.SL.Sem

attribute [local instance] Cert.DownDx.Gen.facts Cert.DownDxIdeal.Gen.facts Cert.DownDxRefIdeal.Gen.facts

theorem frame_downDx : Cert.quiescent_DownDx := fun m ρ _ => Cert.DownDx.Gen.frame m ρ
theorem frame_downDxIdeal : Cert.quiescent_DownDxIdeal := fun m ρ _ => Cert.DownDxIdeal.Gen.frame m ρ

theorem frame_downDxRefIdeal : Cert.quiescent_DownDxRefIdeal := fun m ρ _ =>
  (θ_run Cert.DownDxRefIdeal.defs _ _).mono
    (fun r hr => ⟨fun c => (hr c).2, sem_eq_zero_of_no_sems (by decide) r.2⟩) (Cert.DownDxRefIdeal.Value.run m ρ)

theorem preserves_downDx : Cert.preserves_DownDx_DownDxIdeal := trivial

/-- Kernel and reference end with the same gradient of the gated activation. -/
theorem algebraic_downDx : Cert.algebraic_DownDxIdeal_DownDxRefIdeal := by
  intro m g m' g' _ hargs
  refine ⟨fun c y => _root_.Ffn.downDx (m ((c.tc : Thread Cert.DownDxIdeal.nD Cert.DownDxIdeal.τ).loc Cert.DownDxIdeal.main_arg0))
    (m ((c.tc : Thread Cert.DownDxIdeal.nD Cert.DownDxIdeal.τ).loc Cert.DownDxIdeal.main_arg1)) (y 0) (y 1), ?_, ?_⟩
  · exact (θ_run Cert.DownDxIdeal.defs _ _).mono (fun r hr c => ⟨(hr c).1.trans (Cert.DownDxIdeal.Ffn.array m c), (hr c).2⟩)
      (Cert.DownDxIdeal.Value.run_blocks m g)
  · refine (θ_run Cert.DownDxRefIdeal.defs _ _).mono (fun r hr c => ⟨(hr c).1.trans ?_, (hr c).2⟩) (Cert.DownDxRefIdeal.Value.run m' g')
    refine (Cert.DownDxRefIdeal.Ffn.result _ _).trans ?_
    rw [(hargs c).1, (hargs c).2]
    rfl

end Cert.Proof

end
-- ==== Proof.DownDw.lean ====
/- The gradient of the FFN's down projection, `actᵀ · df`, against the reference's. -/
module

public import proofs.«01_k».proof.Defs
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import Idealize.ShloMosaic.Lib.Pipeline.ValueKit
public import Idealize.ShloMosaic.Lib.Pointwise

@[expose] public section

set_option maxRecDepth 16384

noncomputable section

namespace Ffn

open Idealize.ShloMosaic

/-- The gradient of `w_down`: each column of the activations against each column of `df`, over the tokens. -/
def downDw (act : (⟨2, ![4096, 2816]⟩ : Shape).Idx → EReal) (df : (⟨2, ![4096, 1024]⟩ : Shape).Idx → EReal) (f : Fin 2816) (d : Fin 1024) : EReal :=
  ∑ k : Fin 4096, act (ix2 k f) * df (ix2 k d)

end Ffn

namespace Cert.DownDwIdeal.Ffn

open Cert.DownDwIdeal Cert.DownDwIdeal.Gen Idealize.ShloMosaic Idealize.ShloMosaic.TcCoe Idealize.SL.Sem
open _root_.Ffn (downDw)

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val, 0] := (by decide +kernel : ∀ t : Fin grid0.N, _)

theorem lt11 (t : Fin cfg0.N) : t.val < 11 := t.isLt

/-- Row `i` of a grid point's block of the result. -/
def row (t : Fin cfg0.N) (i : Fin 256) : Fin 2816 := ⟨256 * t.val + i, by have := lt11 t; omega⟩

theorem product_at (a : Vec Ideal S4096x256 .bf16) (b : Vec Ideal S4096x1024 .bf16) (i : Fin 256) (j : Fin 1024) :
    k0_pay1 (F := Ideal) a b (ix3 0 i j) = ∑ k : Fin 4096, a (ix2 k i) * b (ix2 k j) := by
  pointwise [k0_pay1]

theorem out_eq (a : Vec Ideal S4096x256 .bf16) (b : Vec Ideal S4096x1024 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

theorem row_eq {a b : Nat} (y : (⟨3, ![1, a, b]⟩ : Shape).Idx) : y = ix3 0 (y 1) (y 2) := by
  funext a
  fin_cases a
  · exact Subsingleton.elim (α := Fin 1) _ _
  · rfl
  · rfl

variable (m : (ℓ : Loc nD τ sig) → Buf (Elt Ideal) ℓ) (c : Dev nD) (t : Fin cfg0.N)

theorem act_block (k : Fin 4096) (i : Fin 256) : iblk m c 0 t (ix2 k i) = m ((c.tc : Thread nD τ).loc main_arg0) (ix2 k (row t i)) := by
  blk_ext [iblk, V, idx0 t, row]

theorem df_block (k : Fin 4096) (j : Fin 1024) : iblk m c 1 t (ix2 k j) = m ((c.tc : Thread nD τ).loc main_arg1) (ix2 k j) := by
  blk_ext [iblk, V, idx1 t]

theorem emb2 (y : S1x256x1024.Idx) : (win0_2.blk t).view.emb y = ix3 0 (row t (y 1)) (y 2) := by
  blk_ext [idx2 t, row]

theorem array : (dats m 0 c).arrAt 2 cfg0.N =
    fun y : S1x2816x1024.Idx => downDw (m ((c.tc : Thread nD τ).loc main_arg0)) (m ((c.tc : Thread nD τ).loc main_arg1)) (y 1) (y 2) := by
  refine (dats m 0 c).arrAt_eq_of_covers 2 _ (by decide +kernel) fun t hf y => ?_
  blk_simp
  rw [emb2, after0_2, out_eq]
  refine (congrArg _ (row_eq y)).trans ((product_at _ _ _ _).trans ?_)
  exact Finset.sum_congr rfl fun k _ => congrArg₂ (· * ·) (act_block m c t _ _) (df_block m c t _ _)

end Cert.DownDwIdeal.Ffn

namespace Cert.DownDwRefIdeal.Ffn

open Cert.DownDwRefIdeal Cert.DownDwRefIdeal.Gen Idealize.ShloMosaic Idealize.ShloMosaic.TcCoe Idealize.SL.Sem
open _root_.Ffn (downDw)

theorem product_at (a : FVec Ideal S4096x2816 .bf16) (b : FVec Ideal S4096x1024 .bf16) (o : Fin 1) (f : Fin 2816) (d : Fin 1024) :
    (broadcastInDim S1x2816x1024 ![1, 2] bcast_S2816x1024_S1x2816x1024_1_2 (truncf .bf16 (transpose S2816x1024 [1, 0]
      (Host.dotGeneral dot_S4096x1024_S4096x2816_S1024x2816_0_0_1_1_n_n none (extf .f32 b bitsLt_bf16_f32) (extf .f32 a bitsLt_bf16_f32) :
      FVec Ideal S1024x2816 .f32) transposes_S1024x2816_S2816x1024_1_0) bitsLt_bf16_f32) : FVec Ideal S1x2816x1024 .bf16) (ix3 o f d) = downDw a b f d := by
  unfold downDw
  have e : ∀ k : Fin 4096, a (ix2 k f) * b (ix2 k d) = b (ix2 k d) * a (ix2 k f) := fun k => mul_comm _ _
  simp only [e]
  pointwise []

end Cert.DownDwRefIdeal.Ffn

namespace Cert.Proof

open Idealize.ShloMosaic Idealize.SL.Sem

attribute [local instance] Cert.DownDw.Gen.facts Cert.DownDwIdeal.Gen.facts Cert.DownDwRefIdeal.Gen.facts

theorem frame_downDw : Cert.quiescent_DownDw := fun m ρ _ => Cert.DownDw.Gen.frame m ρ
theorem frame_downDwIdeal : Cert.quiescent_DownDwIdeal := fun m ρ _ => Cert.DownDwIdeal.Gen.frame m ρ

theorem frame_downDwRefIdeal : Cert.quiescent_DownDwRefIdeal := fun m ρ _ =>
  (θ_run Cert.DownDwRefIdeal.defs _ _).mono
    (fun r hr => ⟨fun c => (hr c).2, sem_eq_zero_of_no_sems (by decide) r.2⟩) (Cert.DownDwRefIdeal.Value.run m ρ)

theorem preserves_downDw : Cert.preserves_DownDw_DownDwIdeal := trivial

/-- Kernel and reference end with the same gradient of the down projection. -/
theorem algebraic_downDw : Cert.algebraic_DownDwIdeal_DownDwRefIdeal := by
  intro m g m' g' _ hargs
  refine ⟨fun c y => _root_.Ffn.downDw (m ((c.tc : Thread Cert.DownDwIdeal.nD Cert.DownDwIdeal.τ).loc Cert.DownDwIdeal.main_arg0))
    (m ((c.tc : Thread Cert.DownDwIdeal.nD Cert.DownDwIdeal.τ).loc Cert.DownDwIdeal.main_arg1)) (y 1) (y 2), ?_, ?_⟩
  · exact (θ_run Cert.DownDwIdeal.defs _ _).mono (fun r hr c => ⟨(hr c).1.trans (Cert.DownDwIdeal.Ffn.array m c), (hr c).2⟩)
      (Cert.DownDwIdeal.Value.run_blocks m g)
  · refine (θ_run Cert.DownDwRefIdeal.defs _ _).mono (fun r hr c => ⟨(hr c).1.trans ?_, (hr c).2⟩) (Cert.DownDwRefIdeal.Value.run m' g')
    refine funext fun y => (congrArg _ (eq_ix3 y)).trans ((Cert.DownDwRefIdeal.Ffn.product_at _ _ (y 0) (y 1) (y 2)).trans ?_)
    rw [(hargs c).1, (hargs c).2]

end Cert.Proof

end
-- ==== Proof.UpDx.lean ====
/- The gradient of the FFN's input, from both halves of the up projection, against the reference's. -/
module

public import proofs.«01_k».proof.Defs
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal.Run
public import Idealize.ShloMosaic.Lib.Pipeline.ValueKit
public import Idealize.ShloMosaic.Lib.Pointwise

@[expose] public section

set_option maxRecDepth 16384

noncomputable section

namespace Ffn

open Idealize.ShloMosaic

/-- A row of the gates' half and a row of the values' half of the transposed up projection. -/
def gateRow (f : Fin 2816) : Fin 5632 := ⟨f, by omega⟩
def valueRow (f : Fin 2816) : Fin 5632 := ⟨2816 + f, by omega⟩

/-- The gradient of the FFN's input: the gates' gradients against the gates' half of the up projection, plus the
    values' gradients against the values' half. -/
def upDx (dug duv : (⟨2, ![4096, 2816]⟩ : Shape).Idx → EReal) (w : (⟨2, ![5632, 1024]⟩ : Shape).Idx → EReal) (r : Fin 4096) (d : Fin 1024) : EReal :=
  (∑ k : Fin 2816, dug (ix2 r k) * w (ix2 (gateRow k) d)) + ∑ k : Fin 2816, duv (ix2 r k) * w (ix2 (valueRow k) d)

end Ffn

namespace Cert.UpDxIdeal.Ffn

open Cert.UpDxIdeal Cert.UpDxIdeal.Gen Idealize.ShloMosaic Idealize.ShloMosaic.TcCoe Idealize.SL.Sem
open _root_.Ffn (upDx gateRow valueRow)

theorem idx0 : ∀ t : Fin cfg0.N, win0_0.index t = ![t.val / 4, 0] := (by decide +kernel : ∀ t : Fin grid0.N, _)
theorem idx1 : ∀ t : Fin cfg0.N, win0_1.index t = ![t.val / 4, 0] := (by decide +kernel : ∀ t : Fin grid0.N, _)
theorem idx2 : ∀ t : Fin cfg0.N, win0_2.index t = ![0, t.val % 4] := (by decide +kernel : ∀ t : Fin grid0.N, _)
theorem idx3 : ∀ t : Fin cfg0.N, win0_3.index t = ![1, t.val % 4] := (by decide +kernel : ∀ t : Fin grid0.N, _)
theorem idx4 : ∀ t : Fin cfg0.N, win0_4.index t = ![t.val / 4, t.val % 4] := (by decide +kernel : ∀ t : Fin grid0.N, _)

theorem lt16 (t : Fin cfg0.N) : t.val < 16 := t.isLt

/-- Row `i` of a grid point's row block, and column `j` of its column block. -/
def row (t : Fin cfg0.N) (i : Fin 1024) : Fin 4096 := ⟨1024 * (t.val / 4) + i, by have := lt16 t; omega⟩
def col (t : Fin cfg0.N) (j : Fin 256) : Fin 1024 := ⟨256 * (t.val % 4) + j, by omega⟩

theorem product_at (a : Vec Ideal S1024x2816 .bf16) (w : Vec Ideal S2816x256 .bf16) (a' : Vec Ideal S1024x2816 .bf16) (w' : Vec Ideal S2816x256 .bf16)
    (i : Fin 1024) (j : Fin 256) :
    k0_pay1 (F := Ideal) a w a' w' (ix2 i j) = (∑ k : Fin 2816, a (ix2 i k) * w (ix2 k j)) + ∑ k : Fin 2816, a' (ix2 i k) * w' (ix2 k j) := by
  pointwise [k0_pay1]

theorem out_eq (a a' : Vec Ideal S1024x2816 .bf16) (w w' : Vec Ideal S2816x256 .bf16) : out0_4 a a' w w' = k0_pay1 a w a' w' := by
  unfold out0_4
  rw [View.canon_unit_zero (by funext a; fin_cases a <;> rfl), View.ld_unit_zero (by funext a; fin_cases a <;> rfl),
    View.ld_unit_zero (by funext a; fin_cases a <;> rfl), View.ld_unit_zero (by funext a; fin_cases a <;> rfl),
    View.ld_unit_zero (by funext a; fin_cases a <;> rfl)]

variable (m : (ℓ : Loc nD τ sig) → Buf (Elt Ideal) ℓ) (c : Dev nD) (t : Fin cfg0.N)

theorem dug_block (i : Fin 1024) (k : Fin 2816) : iblk m c 0 t (ix2 i k) = m ((c.tc : Thread nD τ).loc main_arg0) (ix2 (row t i) k) := by
  blk_ext [iblk, V, idx0 t, row]

theorem duv_block (i : Fin 1024) (k : Fin 2816) : iblk m c 1 t (ix2 i k) = m ((c.tc : Thread nD τ).loc main_arg1) (ix2 (row t i) k) := by
  blk_ext [iblk, V, idx1 t, row]

theorem gates_block (k : Fin 2816) (j : Fin 256) : iblk m c 2 t (ix2 k j) = m ((c.tc : Thread nD τ).loc main_arg2) (ix2 (gateRow k) (col t j)) := by
  blk_ext [iblk, V, idx2 t, gateRow, col]

theorem values_block (k : Fin 2816) (j : Fin 256) : iblk m c 3 t (ix2 k j) = m ((c.tc : Thread nD τ).loc main_arg2) (ix2 (valueRow k) (col t j)) := by
  blk_ext [iblk, V, idx3 t, valueRow, col]

theorem emb4 (y : S1024x256.Idx) : (win0_4.blk t).view.emb y = ix2 (row t (y 0)) (col t (y 1)) := by
  blk_ext [idx4 t, row, col]

theorem array : (dats m 0 c).arrAt 4 cfg0.N = fun y : S4096x1024.Idx => upDx (m ((c.tc : Thread nD τ).loc main_arg0))
    (m ((c.tc : Thread nD τ).loc main_arg1)) (m ((c.tc : Thread nD τ).loc main_arg2)) (y 0) (y 1) := by
  refine (dats m 0 c).arrAt_eq_of_covers 4 _ (by decide +kernel) fun t hf y => ?_
  blk_simp
  rw [emb4, after0_4, out_eq]
  refine (congrArg _ (eq_ix2 y)).trans ((product_at _ _ _ _ _ _).trans ?_)
  exact congrArg₂ (· + ·)
    (Finset.sum_congr rfl fun k _ => congrArg₂ (· * ·) (dug_block m c t _ _) (gates_block m c t _ _))
    (Finset.sum_congr rfl fun k _ => congrArg₂ (· * ·) (duv_block m c t _ _) (values_block m c t _ _))

end Cert.UpDxIdeal.Ffn

namespace Cert.UpDxRefIdeal.Ffn

open Cert.UpDxRefIdeal Cert.UpDxRefIdeal.Gen Idealize.ShloMosaic Idealize.ShloMosaic.TcCoe Idealize.SL.Sem
open _root_.Ffn (upDx gateRow valueRow)

/-- The gradients of gates and values side by side. -/
def both (a a' : FVec Ideal S4096x2816 .bf16) : FVec Ideal S4096x5632 .bf16 :=
  concatenate S4096x5632 1 [⟨S4096x2816, a⟩, ⟨S4096x2816, a'⟩] concatenates_S4096x2816_S4096x2816_S4096x5632_d1

theorem both_gate (a a' : FVec Ideal S4096x2816 .bf16) (r : Fin 4096) (k : Fin 2816) : both a a' (ix2 r (gateRow k)) = a (ix2 r k) := by
  have hk := k.isLt
  unfold both gateRow
  pointwise []

theorem both_value (a a' : FVec Ideal S4096x2816 .bf16) (r : Fin 4096) (k : Fin 2816) : both a a' (ix2 r (valueRow k)) = a' (ix2 r k) := by
  have hk := k.isLt
  unfold both valueRow
  pointwise []

theorem product_at (u : FVec Ideal S4096x5632 .bf16) (w : FVec Ideal S5632x1024 .bf16) (r : Fin 4096) (d : Fin 1024) :
    (Host.dotGeneral dot_S4096x5632_S1024x5632_S4096x1024_1_1_0_0_n_n none (extf .f32 u bitsLt_bf16_f32)
      (extf .f32 (transpose S1024x5632 [1, 0] w transposes_S5632x1024_S1024x5632_1_0) bitsLt_bf16_f32) :
      FVec Ideal S4096x1024 .f32) (ix2 r d) = ∑ k : Fin 5632, u (ix2 r k) * w (ix2 k d) := by
  pointwise []

theorem halves (f : Fin 5632 → EReal) : ∑ k, f k = (∑ k, f (gateRow k)) + ∑ k, f (valueRow k) :=
  Fin.sum_univ_add (a := 2816) (b := 2816) f

theorem value_at (a a' : FVec Ideal S4096x2816 .bf16) (w : FVec Ideal S5632x1024 .bf16) (r : Fin 4096) (d : Fin 1024) :
    ∑ k : Fin 5632, both a a' (ix2 r k) * w (ix2 k d) = upDx a a' w r d := by
  rw [halves, upDx]
  simp only [both_gate, both_value]

end Cert.UpDxRefIdeal.Ffn

namespace Cert.Proof

open Idealize.ShloMosaic Idealize.SL.Sem

attribute [local instance] Cert.UpDx.Gen.facts Cert.UpDxIdeal.Gen.facts Cert.UpDxRefIdeal.Gen.facts

theorem frame_upDx : Cert.quiescent_UpDx := fun m ρ _ => Cert.UpDx.Gen.frame m ρ
theorem frame_upDxIdeal : Cert.quiescent_UpDxIdeal := fun m ρ _ => Cert.UpDxIdeal.Gen.frame m ρ

theorem frame_upDxRefIdeal : Cert.quiescent_UpDxRefIdeal := fun m ρ _ =>
  (θ_run Cert.UpDxRefIdeal.defs _ _).mono
    (fun r hr => ⟨fun c => (hr c).2, sem_eq_zero_of_no_sems (by decide) r.2⟩) (Cert.UpDxRefIdeal.Value.run m ρ)

theorem preserves_upDx : Cert.preserves_UpDx_UpDxIdeal := trivial

/-- Kernel and reference end with the same gradient of the FFN's input. -/
theorem algebraic_upDx : Cert.algebraic_UpDxIdeal_UpDxRefIdeal := by
  intro m g m' g' _ hargs
  refine ⟨fun c y => _root_.Ffn.upDx (m ((c.tc : Thread Cert.UpDxIdeal.nD Cert.UpDxIdeal.τ).loc Cert.UpDxIdeal.main_arg0))
    (m ((c.tc : Thread Cert.UpDxIdeal.nD Cert.UpDxIdeal.τ).loc Cert.UpDxIdeal.main_arg1))
    (m ((c.tc : Thread Cert.UpDxIdeal.nD Cert.UpDxIdeal.τ).loc Cert.UpDxIdeal.main_arg2)) (y 0) (y 1), ?_, ?_⟩
  · exact (θ_run Cert.UpDxIdeal.defs _ _).mono (fun r hr c => ⟨(hr c).1.trans (Cert.UpDxIdeal.Ffn.array m c), (hr c).2⟩)
      (Cert.UpDxIdeal.Value.run_blocks m g)
  · refine (θ_run Cert.UpDxRefIdeal.defs _ _).mono (fun r hr c => ⟨(hr c).1.trans ?_, (hr c).2⟩) (Cert.UpDxRefIdeal.Value.run m' g')
    refine funext fun y => (congrArg _ (eq_ix2 y)).trans ((Cert.UpDxRefIdeal.Ffn.product_at _ _ (y 0) (y 1)).trans ?_)
    refine (Cert.UpDxRefIdeal.Ffn.value_at _ _ _ (y 0) (y 1)).trans ?_
    rw [(hargs c).1, (hargs c).2.1, (hargs c).2.2]

end Cert.Proof

end
-- ==== Proof.UpDw.lean ====
/- The gradient of the FFN's up projection, written by two calls into the halves of one array, against the reference's. -/
module

public import proofs.«01_k».proof.Defs
public import proofs.«01_k».proof.Proof.Gen.UpDw.Frame
public import proofs.«01_k».proof.Proof.Gen.UpDwIdeal.Frame
public import proofs.«01_k».proof.Proof.Gen.UpDwRefIdeal.Run
public import Idealize.ShloMosaic.Lib.Pipeline.ValueKit
public import Idealize.ShloMosaic.Lib.Pointwise

@[expose] public section

set_option maxRecDepth 16384

noncomputable section

namespace Ffn

open Idealize.ShloMosaic

/-- Column `f` of the gates' gradients followed by the values'. -/
def sideBySide (dug duv : (⟨2, ![4096, 2816]⟩ : Shape).Idx → EReal) (k : Fin 4096) (f : Fin 5632) : EReal :=
  if h : f.val < 2816 then dug (ix2 k ⟨f, h⟩) else duv (ix2 k ⟨f - 2816, by omega⟩)

/-- The gradient of the up projection: each column of the gates' and values' gradients against each column of the FFN's
    input, over the tokens. -/
def upDw (dug duv : (⟨2, ![4096, 2816]⟩ : Shape).Idx → EReal) (h : (⟨2, ![4096, 1024]⟩ : Shape).Idx → EReal) (f : Fin 5632) (d : Fin 1024) : EReal :=
  ∑ k : Fin 4096, sideBySide dug duv k f * h (ix2 k d)

end Ffn

namespace Cert.UpDwIdeal.Ffn

open Cert.UpDwIdeal Cert.UpDwIdeal.Gen Idealize.ShloMosaic Idealize.ShloMosaic.TcCoe Idealize.SL.Sem
open _root_.Ffn (upDw sideBySide)

/-! ## The two calls' blocks -/

theorem idx0_0 : ∀ t : Fin cfg0.N, win0_0.index t = ![0, t.val] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, t.val, 0] := (by decide +kernel : ∀ t : Fin grid0.N, _)
theorem idx1_0 : ∀ t : Fin cfg1.N, win1_0.index t = ![0, t.val] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 11 + t.val, 0] := (by decide +kernel : ∀ t : Fin grid1.N, _)

theorem lt0 (t : Fin cfg0.N) : t.val < 11 := t.isLt
theorem lt1 (t : Fin cfg1.N) : t.val < 11 := t.isLt

/-- Column `i` of a grid point's block of gradients. -/
def gate (t : Fin cfg0.N) (i : Fin 256) : Fin 2816 := ⟨256 * t.val + i, by have := lt0 t; omega⟩
def value (t : Fin cfg1.N) (i : Fin 256) : Fin 2816 := ⟨256 * t.val + i, by have := lt1 t; omega⟩

/-- Its row of the result. -/
def gateRow (t : Fin cfg0.N) (i : Fin 256) : Fin 5632 := ⟨256 * t.val + i, by have := lt0 t; omega⟩
def valueRow (t : Fin cfg1.N) (i : Fin 256) : Fin 5632 := ⟨2816 + 256 * t.val + i, by have := lt1 t; omega⟩

theorem product0_at (a : Vec Ideal S4096x256 .bf16) (b : Vec Ideal S4096x1024 .bf16) (i : Fin 256) (j : Fin 1024) :
    k0_pay1 (F := Ideal) a b (ix3 0 i j) = ∑ k : Fin 4096, a (ix2 k i) * b (ix2 k j) := by
  pointwise [k0_pay1]

theorem product1_at (a : Vec Ideal S4096x256 .bf16) (b : Vec Ideal S4096x1024 .bf16) (i : Fin 256) (j : Fin 1024) :
    k1_pay1 (F := Ideal) a b (ix3 0 i j) = ∑ k : Fin 4096, a (ix2 k i) * b (ix2 k j) := by
  pointwise [k1_pay1]

theorem out0_eq (a : Vec Ideal S4096x256 .bf16) (b : Vec Ideal S4096x1024 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

theorem row_eq {a b : Nat} (y : (⟨3, ![1, a, b]⟩ : Shape).Idx) : y = ix3 0 (y 1) (y 2) := by
  funext a
  fin_cases a
  · exact Subsingleton.elim (α := Fin 1) _ _
  · rfl
  · rfl

variable (V : (c : Dev nD) → (b : Ref sig .tc) → Buf (Elt Ideal) ((c : Thread nD τ).loc b)) (c : Dev nD)

theorem out1_eq (t : Fin cfg1.N) : outsAt1 V c t = k1_pay1 (F := Ideal) (iblk1 V c 0 t) (iblk1 V c 1 t) := by
  unfold outsAt1 out1_A_2
  rw [View.read_writes_eq_canon _ _ _ (cover1_A_2 c _ _ _ _ _ _ _ _ _)]
  refine (View.canon_unit_zero (by funext a; fin_cases a <;> rfl) _ _).trans ?_
  refine congrArg₂ (k1_pay1 (F := Ideal)) ?_ ?_
  · exact (congrArg (fun x => View.ld x _) ((hs1_0 t).read_unread _)).trans (View.ld_unit_zero (by funext a; fin_cases a <;> rfl) _ _)
  · exact (congrArg (fun x => View.ld x _) ((hs1_1 t).read_unread _)).trans (View.ld_unit_zero (by funext a; fin_cases a <;> rfl) _ _)

theorem dug_block (t : Fin cfg0.N) (k : Fin 4096) (i : Fin 256) : iblk0 V c 0 t (ix2 k i) = V c main_arg0 (ix2 k (gate t i)) := by
  blk_ext [iblk0, idx0_0 t, gate]

theorem h_block0 (t : Fin cfg0.N) (k : Fin 4096) (j : Fin 1024) : iblk0 V c 1 t (ix2 k j) = V c main_arg2 (ix2 k j) := by
  blk_ext [iblk0, idx0_1 t]

theorem duv_block (t : Fin cfg1.N) (k : Fin 4096) (i : Fin 256) : iblk1 V c 0 t (ix2 k i) = V c main_arg1 (ix2 k (value t i)) := by
  blk_ext [iblk1, idx1_0 t, value]

theorem h_block1 (t : Fin cfg1.N) (k : Fin 4096) (j : Fin 1024) : iblk1 V c 1 t (ix2 k j) = V c main_arg2 (ix2 k j) := by
  blk_ext [iblk1, idx1_1 t]

theorem emb0 (t : Fin cfg0.N) (y : S1x256x1024.Idx) : (win0_2.blk t).view.emb y = ix3 0 (gateRow t (y 1)) (y 2) := by
  blk_ext [idx0_2 t, gateRow]

theorem emb1 (t : Fin cfg1.N) (y : S1x256x1024.Idx) : (win1_2.blk t).view.emb y = ix3 0 (valueRow t (y 1)) (y 2) := by
  blk_ext [idx1_2 t, valueRow]

theorem sideBySide_gate (dug duv : (⟨2, ![4096, 2816]⟩ : Shape).Idx → EReal) (k : Fin 4096) (t : Fin cfg0.N) (i : Fin 256) :
    sideBySide dug duv k (gateRow t i) = dug (ix2 k (gate t i)) := by
  have := lt0 t
  have h : (gateRow t i).val < 2816 := by simp only [gateRow]; omega
  rw [sideBySide, dif_pos h]
  rfl

theorem sideBySide_value (dug duv : (⟨2, ![4096, 2816]⟩ : Shape).Idx → EReal) (k : Fin 4096) (t : Fin cfg1.N) (i : Fin 256) :
    sideBySide dug duv k (valueRow t i) = duv (ix2 k (value t i)) := by
  have h : ¬(valueRow t i).val < 2816 := by simp only [valueRow]; omega
  rw [sideBySide, dif_neg h]
  exact congrArg (fun f => duv (ix2 k f)) (Fin.ext (by simp only [valueRow, value]; omega))

/-! ## The array after each call -/

/-- The first call leaves the gates' half of the result. -/
theorem array0 (y : S1x5632x1024.Idx) (hy : (y 1).val < 2816) :
    (dat0 V c).arrAt 2 cfg0.N y = upDw (V c main_arg0) (V c main_arg1) (V c main_arg2) (y 1) (y 2) := by
  have e := (dat0 V c).arrAt_apply_of_coversWhere 2
    (fun y : S1x5632x1024.Idx => upDw (V c main_arg0) (V c main_arg1) (V c main_arg2) (y 1) (y 2))
    (P := fun y : S1x5632x1024.Idx => (y 1).val / 256 < 11) (fun β => β (1 : Fin 3) < 11) (by decide +kernel) (fun t hf y => by
      blk_simp
      rw [emb0, after0_2, out0_eq]
      refine (congrArg _ (row_eq y)).trans ((product0_at _ _ _ _).trans ?_)
      exact Finset.sum_congr rfl fun k _ => congrArg₂ (· * ·)
        ((dug_block V c t _ _).trans (sideBySide_gate _ _ _ t _).symm) (h_block0 V c t _ _)) (fun j => Iff.rfl) y
  exact e.trans (if_pos (c := (y 1).val / 256 < 11) (by omega))

/-- The second call, where it finds the gates' half in place, leaves the whole result. -/
theorem array1 (h0 : ∀ y : S1x5632x1024.Idx, (y 1).val < 2816 →
      V c main_v1 y = upDw (V c main_arg0) (V c main_arg1) (V c main_arg2) (y 1) (y 2)) :
    (dat1 V c).arrAt 2 cfg1.N = fun y : S1x5632x1024.Idx => upDw (V c main_arg0) (V c main_arg1) (V c main_arg2) (y 1) (y 2) := by
  refine (dat1 V c).arrAt_eq_of_coversWhere_of_agree 2 _ (fun β => 11 ≤ β (1 : Fin 3)) (by decide +kernel) (fun t hf y => ?_) fun j hj => ?_
  · blk_simp
    rw [emb1, after1_2, out1_eq]
    refine (congrArg _ (row_eq y)).trans ((product1_at _ _ _ _).trans ?_)
    exact Finset.sum_congr rfl fun k _ => congrArg₂ (· * ·)
      ((duv_block V c t _ _).trans (sideBySide_value _ _ _ t _).symm) (h_block1 V c t _ _)
  · have hj' : ¬11 ≤ (j (1 : Fin 3)).val / 256 := hj
    exact h0 j (by omega)

/-! ## The launch -/

variable (m : (ℓ : Loc nD τ sig) → Buf (Elt Ideal) ℓ) (ρ : Dev nD → PrngReg)

/-- The result of `main`, from the arguments. -/
theorem result (c : Dev nD) : W3 m ρ c (Proc.devRef .tc main_v1) = fun y : S1x5632x1024.Idx =>
    upDw (m ((c.tc : Thread nD τ).loc main_arg0)) (m ((c.tc : Thread nD τ).loc main_arg1)) (m ((c.tc : Thread nD τ).loc main_arg2)) (y 1) (y 2) := by
  have a0 : V2 m ρ c main_arg0 = m ((c.tc : Thread nD τ).loc main_arg0) := W2_args m ρ c main_arg0 (by decide)
  have a1 : V2 m ρ c main_arg1 = m ((c.tc : Thread nD τ).loc main_arg1) := W2_args m ρ c main_arg1 (by decide)
  have a2 : V2 m ρ c main_arg2 = m ((c.tc : Thread nD τ).loc main_arg2) := W2_args m ρ c main_arg2 (by decide)
  have e := array1 (V2 m ρ) c fun y hy => by
    rw [a0, a1, a2]
    refine Eq.trans ?_ (array0 (V0 m ρ) c y hy)
    refine Eq.trans ?_ (congrFun (W1_arr m ρ c 2) y)
    show StableHlo.after hostOps1 (W1 m ρ c) (Proc.devRef .tc main_v1) y = _
    refine congrFun ?_ y
    after_results
    rfl
  rw [a0, a1, a2] at e
  exact (W3_arr m ρ c 2).trans e

open Idealize.SL Idealize.SL.RA Idealize.SL.BI Idealize.SL.BI.BIBase Idealize.SL.BI.Laws Idealize.SL.ProofMode
open Idealize.ShloMosaic.Rounds Idealize.ShloMosaic.Tactic
open scoped Idealize.SL.BI

/-- The resources the launch is stated over. -/
abbrev Res : Type := MT nD τ sig Unit (Elt Ideal) ℕ (UR sig nD τ) ℕ

set_option backward.isDefEq.respectTransparency.types false in
/-- `main` ends with that result, and with its arguments as they were. -/
theorem run : θ_run defs (onTc (τ := τ) (main (F := Ideal))) ⟨m, fun _ => 0, ρ⟩ fun r => ∀ c : Dev nD,
      r.2.mem ((c.tc : Thread nD τ).loc main_v1) = (fun y : S1x5632x1024.Idx => upDw (m ((c.tc : Thread nD τ).loc main_arg0))
        (m ((c.tc : Thread nD τ).loc main_arg1)) (m ((c.tc : Thread nD τ).loc main_arg2)) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => ⟨(h c _ (mem_uc main_v1 (by decide))).trans (result m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c)⟩)

end Cert.UpDwIdeal.Ffn

namespace Cert.UpDwRefIdeal.Ffn

open Cert.UpDwRefIdeal Cert.UpDwRefIdeal.Gen Idealize.ShloMosaic Idealize.ShloMosaic.TcCoe Idealize.SL.Sem
open _root_.Ffn (upDw sideBySide)

/-- The gradients of gates and values side by side. -/
def both (a a' : FVec Ideal S4096x2816 .bf16) : FVec Ideal S4096x5632 .bf16 :=
  concatenate S4096x5632 1 [⟨S4096x2816, a⟩, ⟨S4096x2816, a'⟩] concatenates_S4096x2816_S4096x2816_S4096x5632_d1

theorem both_at (a a' : FVec Ideal S4096x2816 .bf16) (k : Fin 4096) (f : Fin 5632) : both a a' (ix2 k f) = sideBySide a a' k f := by
  unfold both sideBySide
  pointwise []

theorem product_at (u : FVec Ideal S4096x5632 .bf16) (h : FVec Ideal S4096x1024 .bf16) (o : Fin 1) (f : Fin 5632) (d : Fin 1024) :
    (broadcastInDim S1x5632x1024 ![1, 2] bcast_S5632x1024_S1x5632x1024_1_2 (truncf .bf16 (transpose S5632x1024 [1, 0] (transpose S1024x5632 [1, 0]
      (Host.dotGeneral dot_S4096x5632_S4096x1024_S5632x1024_0_0_1_1_n_n none (extf .f32 u bitsLt_bf16_f32) (extf .f32 h bitsLt_bf16_f32) :
      FVec Ideal S5632x1024 .f32) transposes_S5632x1024_S1024x5632_1_0) transposes_S1024x5632_S5632x1024_1_0) bitsLt_bf16_f32) :
      FVec Ideal S1x5632x1024 .bf16) (ix3 o f d) = ∑ k : Fin 4096, u (ix2 k f) * h (ix2 k d) := by
  pointwise []

theorem value_at (a a' : FVec Ideal S4096x2816 .bf16) (h : FVec Ideal S4096x1024 .bf16) (f : Fin 5632) (d : Fin 1024) :
    ∑ k : Fin 4096, both a a' (ix2 k f) * h (ix2 k d) = upDw a a' h f d := by
  unfold upDw
  simp only [both_at]

end Cert.UpDwRefIdeal.Ffn

namespace Cert.Proof

open Idealize.ShloMosaic Idealize.SL.Sem

attribute [local instance] Cert.UpDw.Gen.facts Cert.UpDwIdeal.Gen.facts Cert.UpDwRefIdeal.Gen.facts

theorem frame_upDw : Cert.quiescent_UpDw := fun m ρ _ => Cert.UpDw.Gen.frame m ρ
theorem frame_upDwIdeal : Cert.quiescent_UpDwIdeal := fun m ρ _ => Cert.UpDwIdeal.Gen.frame m ρ

theorem frame_upDwRefIdeal : Cert.quiescent_UpDwRefIdeal := fun m ρ _ =>
  (θ_run Cert.UpDwRefIdeal.defs _ _).mono
    (fun r hr => ⟨fun c => (hr c).2, sem_eq_zero_of_no_sems (by decide) r.2⟩) (Cert.UpDwRefIdeal.Value.run m ρ)

theorem preserves_upDw : Cert.preserves_UpDw_UpDwIdeal := trivial

/-- Kernel and reference end with the same gradient of the up projection. -/
theorem algebraic_upDw : Cert.algebraic_UpDwIdeal_UpDwRefIdeal := by
  intro m g m' g' _ hargs
  refine ⟨fun c y => _root_.Ffn.upDw (m ((c.tc : Thread Cert.UpDwIdeal.nD Cert.UpDwIdeal.τ).loc Cert.UpDwIdeal.main_arg0))
    (m ((c.tc : Thread Cert.UpDwIdeal.nD Cert.UpDwIdeal.τ).loc Cert.UpDwIdeal.main_arg1))
    (m ((c.tc : Thread Cert.UpDwIdeal.nD Cert.UpDwIdeal.τ).loc Cert.UpDwIdeal.main_arg2)) (y 1) (y 2), Cert.UpDwIdeal.Ffn.run m g, ?_⟩
  refine (θ_run Cert.UpDwRefIdeal.defs _ _).mono (fun r hr c => ⟨(hr c).1.trans ?_, (hr c).2⟩) (Cert.UpDwRefIdeal.Value.run m' g')
  refine funext fun y => (congrArg _ (eq_ix3 y)).trans ((Cert.UpDwRefIdeal.Ffn.product_at _ _ (y 0) (y 1) (y 2)).trans ?_)
  refine (Cert.UpDwRefIdeal.Ffn.value_at _ _ _ (y 1) (y 2)).trans ?_
  rw [(hargs c).1, (hargs c).2.1, (hargs c).2.2]

end Cert.Proof

end
-- ==== Proof.MixoutDmain.lean ====
/- The gradient of the mixer's output, through its columns of the output projection, against the reference's. -/
module

public import proofs.«01_k».proof.Defs
public import proofs.«01_k».proof.Proof.Gen.MixoutDmain.Frame
public import proofs.«01_k».proof.Proof.Gen.MixoutDmainIdeal.Frame
public import proofs.«01_k».proof.Proof.Gen.MixoutDmainIdeal.Value
public import proofs.«01_k».proof.Proof.Gen.MixoutDmainRefIdeal.Run
public import Idealize.ShloMosaic.Lib.Pipeline.ValueKit
public import Idealize.ShloMosaic.Lib.Pointwise

@[expose] public section

set_option maxRecDepth 16384

noncomputable section

namespace Ffn

open Idealize.ShloMosaic

/-- A row of the output projection that the mixer's output meets. -/
def mainRow (f : Fin 768) : Fin 1024 := ⟨f, by omega⟩

/-- The gradient of the mixer's output: each row of `dy` against each of its rows of the output projection. -/
def mixDmain (w : (⟨2, ![1024, 1024]⟩ : Shape).Idx → EReal) (dy : (⟨2, ![4096, 1024]⟩ : Shape).Idx → EReal) (r : Fin 4096) (f : Fin 768) : EReal :=
  ∑ k : Fin 1024, dy (ix2 r k) * w (ix2 (mainRow f) k)

end Ffn

namespace Cert.MixoutDmainIdeal.Ffn

open Cert.MixoutDmainIdeal Cert.MixoutDmainIdeal.Gen Idealize.ShloMosaic Idealize.ShloMosaic.TcCoe Idealize.SL.Sem
open _root_.Ffn (mixDmain mainRow)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem lt4 (t : Fin cfg0.N) : t.val < 4 := t.isLt

/-- Row `i` of a grid point's row block. -/
def row (t : Fin cfg0.N) (i : Fin 1024) : Fin 4096 := ⟨1024 * t.val + i, by have := lt4 t; omega⟩

theorem product_at (a : Vec Ideal S1024x1024 .bf16) (b : Vec Ideal S768x1024 .bf16) (i : Fin 1024) (j : Fin 768) :
    k0_pay1 (F := Ideal) a b (ix2 i j) = ∑ k : Fin 1024, a (ix2 i k) * b (ix2 j k) := by
  pointwise [k0_pay1]

variable (m : (ℓ : Loc nD τ sig) → Buf (Elt Ideal) ℓ) (c : Dev nD) (t : Fin cfg0.N)

theorem out_eq : outsAt0 m c t = k0_pay1 (F := Ideal) (iblk m c 0 t) (X0_1 m c t) := by
  unfold outsAt0 out0_A_2
  rw [View.read_writes_eq_canon _ _ _ (cover0_A_2 c _ _ _ _ _ _ _ _ _)]
  refine (View.canon_unit_zero (by funext a; fin_cases a <;> rfl) _ _).trans ?_
  refine congrArg₂ (k0_pay1 (F := Ideal)) ?_ ?_
  · exact (congrArg (fun x => View.ld x _) ((hs0_0 t).read_unread _)).trans (View.ld_unit_zero (by funext a; fin_cases a <;> rfl) _ _)
  · exact (congrArg (fun x => View.ld x _) ((hs0_1 t).read_unread _)).trans (View.ld_unit_zero (by funext a; fin_cases a <;> rfl) _ _)

theorem dy_block (i k : Fin 1024) : iblk m c 0 t (ix2 i k) = (m ((c.tc : Thread nD τ).loc main_arg1)) (ix2 (row t i) k) := by
  blk_ext [iblk, V, idx0 t, row]

theorem w_block (j : Fin 768) (k : Fin 1024) : X0_1 m c t (ix2 j k) = (m ((c.tc : Thread nD τ).loc main_arg0)) (ix2 (mainRow j) k) := by
  unfold X0_1 Pipeline.Window.fill
  rw [dif_pos (moved0_1 t _)]
  blk_ext [iblk, V, idx1 t, mainRow]

theorem emb2 (y : S1024x768.Idx) : (win0_2.blk t).view.emb y = ix2 (row t (y 0)) (y 1) := by
  blk_ext [idx2 t, row]

theorem array : (dats m 0 c).arrAt 2 cfg0.N = fun y : S4096x768.Idx => mixDmain (m ((c.tc : Thread nD τ).loc main_arg0)) (m ((c.tc : Thread nD τ).loc main_arg1)) (y 0) (y 1) := by
  refine (dats m 0 c).arrAt_eq_of_covers 2 _ (by decide +kernel) fun t hf y => ?_
  blk_simp
  rw [emb2, after0_2, out_eq]
  refine (congrArg _ (eq_ix2 y)).trans ((product_at _ _ _ _).trans ?_)
  exact Finset.sum_congr rfl fun k _ => congrArg₂ (· * ·) (dy_block m c t _ _) (w_block m c t _ _)

end Cert.MixoutDmainIdeal.Ffn

namespace Cert.MixoutDmainRefIdeal.Ffn

open Cert.MixoutDmainRefIdeal Cert.MixoutDmainRefIdeal.Gen Idealize.ShloMosaic Idealize.ShloMosaic.TcCoe Idealize.SL.Sem
open _root_.Ffn (mixDmain mainRow)

theorem product_at (w : FVec Ideal S1024x1024 .bf16) (dy : FVec Ideal S4096x1024 .bf16) (r : Fin 4096) (f : Fin 768) :
    (extractStridedSlice S4096x768 ![0, 0] (Host.dotGeneral dot_S4096x1024_S1024x1024_S4096x1024_1_1_0_0_n_n none
      (extf .f32 dy bitsLt_bf16_f32) (extf .f32 w bitsLt_bf16_f32) : FVec Ideal S4096x1024 .f32) slices_S4096x1024_S4096x768_0_0 :
      FVec Ideal S4096x768 .f32) (ix2 r f) = mixDmain w dy r f := by
  unfold mixDmain mainRow
  pointwise []

end Cert.MixoutDmainRefIdeal.Ffn

namespace Cert.Proof

open Idealize.ShloMosaic Idealize.SL.Sem

attribute [local instance] Cert.MixoutDmain.Gen.facts Cert.MixoutDmainIdeal.Gen.facts Cert.MixoutDmainRefIdeal.Gen.facts

theorem frame_mixoutDmain : Cert.quiescent_MixoutDmain := fun m ρ _ => Cert.MixoutDmain.Gen.frame m ρ
theorem frame_mixoutDmainIdeal : Cert.quiescent_MixoutDmainIdeal := fun m ρ _ => Cert.MixoutDmainIdeal.Gen.frame m ρ

theorem frame_mixoutDmainRefIdeal : Cert.quiescent_MixoutDmainRefIdeal := fun m ρ _ =>
  (θ_run Cert.MixoutDmainRefIdeal.defs _ _).mono
    (fun r hr => ⟨fun c => (hr c).2, sem_eq_zero_of_no_sems (by decide) r.2⟩) (Cert.MixoutDmainRefIdeal.Value.run m ρ)

theorem preserves_mixoutDmain : Cert.preserves_MixoutDmain_MixoutDmainIdeal := trivial

/-- Kernel and reference end with the same gradient of the mixer's output. -/
theorem algebraic_mixoutDmain : Cert.algebraic_MixoutDmainIdeal_MixoutDmainRefIdeal := by
  intro m g m' g' _ hargs
  refine ⟨fun c y => _root_.Ffn.mixDmain (m ((c.tc : Thread Cert.MixoutDmainIdeal.nD Cert.MixoutDmainIdeal.τ).loc Cert.MixoutDmainIdeal.main_arg0))
    (m ((c.tc : Thread Cert.MixoutDmainIdeal.nD Cert.MixoutDmainIdeal.τ).loc Cert.MixoutDmainIdeal.main_arg1)) (y 0) (y 1), ?_, ?_⟩
  · exact (θ_run Cert.MixoutDmainIdeal.defs _ _).mono (fun r hr c => ⟨(hr c).1.trans (Cert.MixoutDmainIdeal.Ffn.array m c), (hr c).2⟩) (Cert.MixoutDmainIdeal.Value.run_blocks m g)
  · refine (θ_run Cert.MixoutDmainRefIdeal.defs _ _).mono (fun r hr c => ⟨(hr c).1.trans ?_, (hr c).2⟩) (Cert.MixoutDmainRefIdeal.Value.run m' g')
    refine funext fun y => (congrArg _ (eq_ix2 y)).trans ((Cert.MixoutDmainRefIdeal.Ffn.product_at _ _ (y 0) (y 1)).trans ?_)
    rw [(hargs c).1, (hargs c).2]

end Cert.Proof

end
-- ==== Proof.MixoutDmem.lean ====
/- The gradient of the memory attention's output, through its columns of the output projection, against the reference's. -/
module

public import proofs.«01_k».proof.Defs
public import proofs.«01_k».proof.Proof.Gen.MixoutDmem.Frame
public import proofs.«01_k».proof.Proof.Gen.MixoutDmemIdeal.Frame
public import proofs.«01_k».proof.Proof.Gen.MixoutDmemIdeal.Value
public import proofs.«01_k».proof.Proof.Gen.MixoutDmemRefIdeal.Run
public import Idealize.ShloMosaic.Lib.Pipeline.ValueKit
public import Idealize.ShloMosaic.Lib.Pointwise

@[expose] public section

set_option maxRecDepth 16384

noncomputable section

namespace Ffn

open Idealize.ShloMosaic

/-- A row of the output projection that the memory attention's output meets. -/
def memRow (f : Fin 256) : Fin 1024 := ⟨768 + f, by omega⟩

/-- The gradient of the memory attention's output: each row of `dy` against each of its rows of the output projection. -/
def mixDmem (w : (⟨2, ![1024, 1024]⟩ : Shape).Idx → EReal) (dy : (⟨2, ![4096, 1024]⟩ : Shape).Idx → EReal) (r : Fin 4096) (f : Fin 256) : EReal :=
  ∑ k : Fin 1024, dy (ix2 r k) * w (ix2 (memRow f) k)

end Ffn

namespace Cert.MixoutDmemIdeal.Ffn

open Cert.MixoutDmemIdeal Cert.MixoutDmemIdeal.Gen Idealize.ShloMosaic Idealize.ShloMosaic.TcCoe Idealize.SL.Sem
open _root_.Ffn (mixDmem memRow)

theorem idx0 : ∀ t : Fin cfg0.N, win0_0.index t = ![t.val, 0] := (by decide +kernel : ∀ t : Fin grid0.N, _)
theorem idx1 : ∀ t : Fin cfg0.N, win0_1.index t = ![3, 0] := (by decide +kernel : ∀ t : Fin grid0.N, _)
theorem idx2 : ∀ t : Fin cfg0.N, win0_2.index t = ![t.val, 0] := (by decide +kernel : ∀ t : Fin grid0.N, _)

theorem lt4 (t : Fin cfg0.N) : t.val < 4 := t.isLt

/-- Row `i` of a grid point's row block. -/
def row (t : Fin cfg0.N) (i : Fin 1024) : Fin 4096 := ⟨1024 * t.val + i, by have := lt4 t; omega⟩

theorem product_at (a : Vec Ideal S1024x1024 .bf16) (b : Vec Ideal S256x1024 .bf16) (i : Fin 1024) (j : Fin 256) :
    k0_pay1 (F := Ideal) a b (ix2 i j) = ∑ k : Fin 1024, a (ix2 i k) * b (ix2 j k) := by
  pointwise [k0_pay1]

variable (m : (ℓ : Loc nD τ sig) → Buf (Elt Ideal) ℓ) (c : Dev nD) (t : Fin cfg0.N)

theorem out_eq (a : Vec Ideal S1024x1024 .bf16) (b : Vec Ideal S256x1024 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

theorem dy_block (i k : Fin 1024) : iblk m c 0 t (ix2 i k) = (m ((c.tc : Thread nD τ).loc main_arg1)) (ix2 (row t i) k) := by
  blk_ext [iblk, V, idx0 t, row]

theorem w_block (j : Fin 256) (k : Fin 1024) : iblk m c 1 t (ix2 j k) = (m ((c.tc : Thread nD τ).loc main_arg0)) (ix2 (memRow j) k) := by
  blk_ext [iblk, V, idx1 t, memRow]

theorem emb2 (y : S1024x256.Idx) : (win0_2.blk t).view.emb y = ix2 (row t (y 0)) (y 1) := by
  blk_ext [idx2 t, row]

theorem array : (dats m 0 c).arrAt 2 cfg0.N = fun y : S4096x256.Idx => mixDmem (m ((c.tc : Thread nD τ).loc main_arg0)) (m ((c.tc : Thread nD τ).loc main_arg1)) (y 0) (y 1) := by
  refine (dats m 0 c).arrAt_eq_of_covers 2 _ (by decide +kernel) fun t hf y => ?_
  blk_simp
  rw [emb2, after0_2, out_eq]
  refine (congrArg _ (eq_ix2 y)).trans ((product_at _ _ _ _).trans ?_)
  exact Finset.sum_congr rfl fun k _ => congrArg₂ (· * ·) (dy_block m c t _ _) (w_block m c t _ _)

end Cert.MixoutDmemIdeal.Ffn

namespace Cert.MixoutDmemRefIdeal.Ffn

open Cert.MixoutDmemRefIdeal Cert.MixoutDmemRefIdeal.Gen Idealize.ShloMosaic Idealize.ShloMosaic.TcCoe Idealize.SL.Sem
open _root_.Ffn (mixDmem memRow)

theorem product_at (w : FVec Ideal S1024x1024 .bf16) (dy : FVec Ideal S4096x1024 .bf16) (r : Fin 4096) (f : Fin 256) :
    (extractStridedSlice S4096x256 ![0, 768] (Host.dotGeneral dot_S4096x1024_S1024x1024_S4096x1024_1_1_0_0_n_n none
      (extf .f32 dy bitsLt_bf16_f32) (extf .f32 w bitsLt_bf16_f32) : FVec Ideal S4096x1024 .f32) slices_S4096x1024_S4096x256_0_768 :
      FVec Ideal S4096x256 .f32) (ix2 r f) = mixDmem w dy r f := by
  unfold mixDmem memRow
  pointwise []

end Cert.MixoutDmemRefIdeal.Ffn

namespace Cert.Proof

open Idealize.ShloMosaic Idealize.SL.Sem

attribute [local instance] Cert.MixoutDmem.Gen.facts Cert.MixoutDmemIdeal.Gen.facts Cert.MixoutDmemRefIdeal.Gen.facts

theorem frame_mixoutDmem : Cert.quiescent_MixoutDmem := fun m ρ _ => Cert.MixoutDmem.Gen.frame m ρ
theorem frame_mixoutDmemIdeal : Cert.quiescent_MixoutDmemIdeal := fun m ρ _ => Cert.MixoutDmemIdeal.Gen.frame m ρ

theorem frame_mixoutDmemRefIdeal : Cert.quiescent_MixoutDmemRefIdeal := fun m ρ _ =>
  (θ_run Cert.MixoutDmemRefIdeal.defs _ _).mono
    (fun r hr => ⟨fun c => (hr c).2, sem_eq_zero_of_no_sems (by decide) r.2⟩) (Cert.MixoutDmemRefIdeal.Value.run m ρ)

theorem preserves_mixoutDmem : Cert.preserves_MixoutDmem_MixoutDmemIdeal := trivial

/-- Kernel and reference end with the same gradient of the memory attention's output. -/
theorem algebraic_mixoutDmem : Cert.algebraic_MixoutDmemIdeal_MixoutDmemRefIdeal := by
  intro m g m' g' _ hargs
  refine ⟨fun c y => _root_.Ffn.mixDmem (m ((c.tc : Thread Cert.MixoutDmemIdeal.nD Cert.MixoutDmemIdeal.τ).loc Cert.MixoutDmemIdeal.main_arg0))
    (m ((c.tc : Thread Cert.MixoutDmemIdeal.nD Cert.MixoutDmemIdeal.τ).loc Cert.MixoutDmemIdeal.main_arg1)) (y 0) (y 1), ?_, ?_⟩
  · exact (θ_run Cert.MixoutDmemIdeal.defs _ _).mono (fun r hr c => ⟨(hr c).1.trans (Cert.MixoutDmemIdeal.Ffn.array m c), (hr c).2⟩) (Cert.MixoutDmemIdeal.Value.run_blocks m g)
  · refine (θ_run Cert.MixoutDmemRefIdeal.defs _ _).mono (fun r hr c => ⟨(hr c).1.trans ?_, (hr c).2⟩) (Cert.MixoutDmemRefIdeal.Value.run m' g')
    refine funext fun y => (congrArg _ (eq_ix2 y)).trans ((Cert.MixoutDmemRefIdeal.Ffn.product_at _ _ (y 0) (y 1)).trans ?_)
    rw [(hargs c).1, (hargs c).2]

end Cert.Proof

end
-- ==== Proof.MixoutDw.lean ====
/- The gradient of the mixers' output projection, written by two calls into the rows of one array, against the reference's. -/
module

public import proofs.«01_k».proof.Defs
public import proofs.«01_k».proof.Proof.Gen.MixoutDw.Frame
public import proofs.«01_k».proof.Proof.Gen.MixoutDwIdeal.Frame
public import proofs.«01_k».proof.Proof.Gen.MixoutDwRefIdeal.Run
public import Idealize.ShloMosaic.Lib.Pipeline.ValueKit
public import Idealize.ShloMosaic.Lib.Pointwise

@[expose] public section

set_option maxRecDepth 16384

noncomputable section

namespace Ffn

open Idealize.ShloMosaic

/-- Column `f` of the mixer's outputs followed by the memory attention's. -/
def outputs (a : (⟨2, ![4096, 768]⟩ : Shape).Idx → EReal) (b : (⟨2, ![4096, 256]⟩ : Shape).Idx → EReal) (k : Fin 4096) (f : Fin 1024) : EReal :=
  if h : f.val < 768 then a (ix2 k ⟨f, h⟩) else b (ix2 k ⟨f - 768, by omega⟩)

/-- The gradient of the output projection: each column of both outputs against each column of `dy`, over the tokens. -/
def mixDw (a : (⟨2, ![4096, 768]⟩ : Shape).Idx → EReal) (b : (⟨2, ![4096, 256]⟩ : Shape).Idx → EReal) (dy : (⟨2, ![4096, 1024]⟩ : Shape).Idx → EReal) (f : Fin 1024) (d : Fin 1024) : EReal :=
  ∑ k : Fin 4096, outputs a b k f * dy (ix2 k d)

end Ffn

namespace Cert.MixoutDwIdeal.Ffn

open Cert.MixoutDwIdeal Cert.MixoutDwIdeal.Gen Idealize.ShloMosaic Idealize.ShloMosaic.TcCoe Idealize.SL.Sem
open _root_.Ffn (mixDw outputs)

/-! ## The calls' blocks -/

theorem idx0_0 : ∀ t : Fin cfg0.N, win0_0.index t = ![0, t.val] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, t.val, 0] := (by decide +kernel : ∀ t : Fin grid0.N, _)
theorem lt0 (t : Fin cfg0.N) : t.val < 3 := t.isLt

theorem idx1_0 : ∀ t : Fin cfg1.N, win1_0.index t = ![0, t.val] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 3 + t.val, 0] := (by decide +kernel : ∀ t : Fin grid1.N, _)
theorem lt1 (t : Fin cfg1.N) : t.val < 1 := t.isLt

/-- Column `i` of a grid point's block of its operand, and the row of the result it makes. -/
def col0 (t : Fin cfg0.N) (i : Fin 256) : Fin 768 := ⟨256 * t.val + i, by have := lt0 t; omega⟩
def row0 (t : Fin cfg0.N) (i : Fin 256) : Fin 1024 := ⟨256 * t.val + i, by have := lt0 t; omega⟩
def col1 (t : Fin cfg1.N) (i : Fin 256) : Fin 256 := ⟨256 * t.val + i, by have := lt1 t; omega⟩
def row1 (t : Fin cfg1.N) (i : Fin 256) : Fin 1024 := ⟨768 + 256 * t.val + i, by have := lt1 t; omega⟩

theorem product0_at (a : Vec Ideal S4096x256 .bf16) (b : Vec Ideal S4096x1024 .bf16) (i : Fin 256) (j : Fin 1024) :
    k0_pay1 (F := Ideal) a b (ix3 0 i j) = ∑ k : Fin 4096, a (ix2 k i) * b (ix2 k j) := by
  pointwise [k0_pay1]

theorem product1_at (a : Vec Ideal S4096x256 .bf16) (b : Vec Ideal S4096x1024 .bf16) (i : Fin 256) (j : Fin 1024) :
    k1_pay1 (F := Ideal) a b (ix3 0 i j) = ∑ k : Fin 4096, a (ix2 k i) * b (ix2 k j) := by
  pointwise [k1_pay1]

theorem out0_eq (a : Vec Ideal S4096x256 .bf16) (b : Vec Ideal S4096x1024 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

theorem row_eq {a b : Nat} (y : (⟨3, ![1, a, b]⟩ : Shape).Idx) : y = ix3 0 (y 1) (y 2) := by
  funext a
  fin_cases a
  · exact Subsingleton.elim (α := Fin 1) _ _
  · rfl
  · rfl

variable (V : (c : Dev nD) → (b : Ref sig .tc) → Buf (Elt Ideal) ((c : Thread nD τ).loc b)) (c : Dev nD)

theorem out1_eq (t : Fin cfg1.N) : outsAt1 V c t = k1_pay1 (F := Ideal) (iblk1 V c 0 t) (iblk1 V c 1 t) := by
  unfold outsAt1 out1_A_2
  rw [View.read_writes_eq_canon _ _ _ (cover1_A_2 c _ _ _ _ _ _ _ _ _)]
  refine (View.canon_unit_zero (by funext a; fin_cases a <;> rfl) _ _).trans ?_
  refine congrArg₂ (k1_pay1 (F := Ideal)) ?_ ?_
  · exact (congrArg (fun x => View.ld x _) ((hs1_0 t).read_unread _)).trans (View.ld_unit_zero (by funext a; fin_cases a <;> rfl) _ _)
  · exact (congrArg (fun x => View.ld x _) ((hs1_1 t).read_unread _)).trans (View.ld_unit_zero (by funext a; fin_cases a <;> rfl) _ _)

theorem piece_block0 (t : Fin cfg0.N) (k : Fin 4096) (i : Fin 256) : iblk0 V c 0 t (ix2 k i) = V c main_arg0 (ix2 k (col0 t i)) := by
  blk_ext [iblk0, idx0_0 t, col0]

theorem h_block0 (t : Fin cfg0.N) (k : Fin 4096) (j : Fin 1024) : iblk0 V c 1 t (ix2 k j) = V c main_arg2 (ix2 k j) := by
  blk_ext [iblk0, idx0_1 t]

theorem emb0 (t : Fin cfg0.N) (y : S1x256x1024.Idx) : (win0_2.blk t).view.emb y = ix3 0 (row0 t (y 1)) (y 2) := by
  blk_ext [idx0_2 t, row0]

theorem piece_block1 (t : Fin cfg1.N) (k : Fin 4096) (i : Fin 256) : iblk1 V c 0 t (ix2 k i) = V c main_arg1 (ix2 k (col1 t i)) := by
  blk_ext [iblk1, idx1_0 t, col1]

theorem h_block1 (t : Fin cfg1.N) (k : Fin 4096) (j : Fin 1024) : iblk1 V c 1 t (ix2 k j) = V c main_arg2 (ix2 k j) := by
  blk_ext [iblk1, idx1_1 t]

theorem emb1 (t : Fin cfg1.N) (y : S1x256x1024.Idx) : (win1_2.blk t).view.emb y = ix3 0 (row1 t (y 1)) (y 2) := by
  blk_ext [idx1_2 t, row1]

theorem side0 (a : (⟨2, ![4096, 768]⟩ : Shape).Idx → EReal) (b : (⟨2, ![4096, 256]⟩ : Shape).Idx → EReal) (k : Fin 4096) (t : Fin cfg0.N) (i : Fin 256) :
    outputs a b k (row0 t i) = a (ix2 k (col0 t i)) := by
  rw [outputs, dif_pos (by have := lt0 t; simp only [row0]; omega)]
  rfl

theorem side1 (a : (⟨2, ![4096, 768]⟩ : Shape).Idx → EReal) (b : (⟨2, ![4096, 256]⟩ : Shape).Idx → EReal) (k : Fin 4096) (t : Fin cfg1.N) (i : Fin 256) :
    outputs a b k (row1 t i) = b (ix2 k (col1 t i)) := by
  rw [outputs, dif_neg (by simp only [row1]; omega)]
  exact congrArg (fun f => b (ix2 k f)) (Fin.ext (by simp only [row1, col1]; omega))

/-! ## The array after each call -/

/-- The first call leaves the first operand's rows of the result. -/
theorem array0 (y : S1x1024x1024.Idx) (hy : (y 1).val < 768) : (dat0 V c).arrAt 2 cfg0.N y = mixDw (V c main_arg0) (V c main_arg1) (V c main_arg2) (y 1) (y 2) := by
  have e := (dat0 V c).arrAt_apply_of_coversWhere 2
    (fun y : S1x1024x1024.Idx => mixDw (V c main_arg0) (V c main_arg1) (V c main_arg2) (y 1) (y 2))
    (P := fun y : S1x1024x1024.Idx => (y 1).val / 256 < 3) (fun β => β (1 : Fin 3) < 3) (by decide +kernel) (fun t hf y => by
      blk_simp
      rw [emb0, after0_2, out0_eq]
      refine (congrArg _ (row_eq y)).trans ((product0_at _ _ _ _).trans ?_)
      exact Finset.sum_congr rfl fun k _ => congrArg₂ (· * ·)
        ((piece_block0 V c t _ _).trans (side0 _ _ _ t _).symm) (h_block0 V c t _ _)) (fun j => Iff.rfl) y
  exact e.trans (if_pos (c := (y 1).val / 256 < 3) (by omega))

/-- The last call, where it finds the rows before its own in place, leaves the whole result. -/
theorem array1 (h0 : ∀ y : S1x1024x1024.Idx, (y 1).val < 768 → V c main_v1 y = mixDw (V c main_arg0) (V c main_arg1) (V c main_arg2) (y 1) (y 2)) :
    (dat1 V c).arrAt 2 cfg1.N = fun y : S1x1024x1024.Idx => mixDw (V c main_arg0) (V c main_arg1) (V c main_arg2) (y 1) (y 2) := by
  refine (dat1 V c).arrAt_eq_of_coversWhere_of_agree 2 _ (fun β => 3 ≤ β (1 : Fin 3)) (by decide +kernel) (fun t hf y => ?_) fun j hj => ?_
  · blk_simp
    rw [emb1, after1_2, out1_eq]
    refine (congrArg _ (row_eq y)).trans ((product1_at _ _ _ _).trans ?_)
    exact Finset.sum_congr rfl fun k _ => congrArg₂ (· * ·)
      ((piece_block1 V c t _ _).trans (side1 _ _ _ t _).symm) (h_block1 V c t _ _)
  · have hj' : ¬3 ≤ (j (1 : Fin 3)).val / 256 := hj
    exact h0 j (by omega)

/-! ## The launch -/

variable (m : (ℓ : Loc nD τ sig) → Buf (Elt Ideal) ℓ) (ρ : Dev nD → PrngReg)

/-- The first operand's rows, as the second call finds them. -/
theorem found1 (c : Dev nD) (y : S1x1024x1024.Idx) (hy : (y 1).val < 768) : V2 m ρ c main_v1 y = mixDw (m ((c.tc : Thread nD τ).loc main_arg0)) (m ((c.tc : Thread nD τ).loc main_arg1)) (m ((c.tc : Thread nD τ).loc main_arg2)) (y 1) (y 2) := by
  refine Eq.trans ?_ (array0 (V0 m ρ) c y hy)
  refine Eq.trans ?_ (congrFun (W1_arr m ρ c 2) y)
  show StableHlo.after hostOps1 (W1 m ρ c) (Proc.devRef .tc main_v1) y = _
  refine congrFun ?_ y
  after_results
  rfl

/-- The result of `main`, from the arguments. -/
theorem result (c : Dev nD) : W3 m ρ c (Proc.devRef .tc main_v1) = fun y : S1x1024x1024.Idx => mixDw (m ((c.tc : Thread nD τ).loc main_arg0)) (m ((c.tc : Thread nD τ).loc main_arg1)) (m ((c.tc : Thread nD τ).loc main_arg2)) (y 1) (y 2) := by
  have e := array1 (V2 m ρ) c fun y hy => by
    rw [show V2 m ρ c main_arg0 = _ from W2_args m ρ c main_arg0 (by decide), show V2 m ρ c main_arg1 = _ from W2_args m ρ c main_arg1 (by decide), show V2 m ρ c main_arg2 = _ from W2_args m ρ c main_arg2 (by decide)]
    exact found1 m ρ c y hy
  rw [show V2 m ρ c main_arg0 = _ from W2_args m ρ c main_arg0 (by decide), show V2 m ρ c main_arg1 = _ from W2_args m ρ c main_arg1 (by decide), show V2 m ρ c main_arg2 = _ from W2_args m ρ c main_arg2 (by decide)] at e
  exact (W3_arr m ρ c 2).trans e

open Idealize.SL Idealize.SL.RA Idealize.SL.BI Idealize.SL.BI.BIBase Idealize.SL.BI.Laws Idealize.SL.ProofMode
open Idealize.ShloMosaic.Rounds Idealize.ShloMosaic.Tactic
open scoped Idealize.SL.BI

/-- The resources the launch is stated over. -/
abbrev Res : Type := MT nD τ sig Unit (Elt Ideal) ℕ (UR sig nD τ) ℕ

set_option backward.isDefEq.respectTransparency.types false in
/-- `main` ends with that result, and with its arguments as they were. -/
theorem run : θ_run defs (onTc (τ := τ) (main (F := Ideal))) ⟨m, fun _ => 0, ρ⟩ fun r => ∀ c : Dev nD,
      r.2.mem ((c.tc : Thread nD τ).loc main_v1) = (fun y : S1x1024x1024.Idx => mixDw (m ((c.tc : Thread nD τ).loc main_arg0)) (m ((c.tc : Thread nD τ).loc main_arg1)) (m ((c.tc : Thread nD τ).loc main_arg2)) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => ⟨(h c _ (mem_uc main_v1 (by decide))).trans (result m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c)⟩)

end Cert.MixoutDwIdeal.Ffn

namespace Cert.MixoutDwRefIdeal.Ffn

open Cert.MixoutDwRefIdeal Cert.MixoutDwRefIdeal.Gen Idealize.ShloMosaic Idealize.ShloMosaic.TcCoe Idealize.SL.Sem
open _root_.Ffn (mixDw outputs)

/-- The two outputs side by side. -/
def both (a : FVec Ideal S4096x768 .bf16) (b : FVec Ideal S4096x256 .bf16) : FVec Ideal S4096x1024 .f32 :=
  concatenate S4096x1024 1 [⟨S4096x768, extf .f32 a bitsLt_bf16_f32⟩, ⟨S4096x256, extf .f32 b bitsLt_bf16_f32⟩]
    concatenates_S4096x768_S4096x256_S4096x1024_d1

theorem both_at (a : FVec Ideal S4096x768 .bf16) (b : FVec Ideal S4096x256 .bf16) (k : Fin 4096) (f : Fin 1024) :
    both a b (ix2 k f) = outputs a b k f := by
  unfold both outputs
  pointwise []

theorem dot_at (u : FVec Ideal S4096x1024 .f32) (dy : FVec Ideal S4096x1024 .bf16) (o : Fin 1) (f d : Fin 1024) :
    (broadcastInDim S1x1024x1024 ![1, 2] bcast_S1024x1024_S1x1024x1024_1_2 (truncf .bf16 (transpose S1024x1024 [1, 0]
      (Host.dotGeneral dot_S4096x1024_S4096x1024_S1024x1024_0_0_1_1_n_n none (extf .f32 dy bitsLt_bf16_f32) u :
      FVec Ideal S1024x1024 .f32) transposes_S1024x1024_S1024x1024_1_0) bitsLt_bf16_f32) :
      FVec Ideal S1x1024x1024 .bf16) (ix3 o f d) = ∑ k : Fin 4096, dy (ix2 k d) * u (ix2 k f) := by
  pointwise []

theorem product_at (a : FVec Ideal S4096x768 .bf16) (b : FVec Ideal S4096x256 .bf16) (dy : FVec Ideal S4096x1024 .bf16) (o : Fin 1) (f d : Fin 1024) :
    (broadcastInDim S1x1024x1024 ![1, 2] bcast_S1024x1024_S1x1024x1024_1_2 (truncf .bf16 (transpose S1024x1024 [1, 0]
      (Host.dotGeneral dot_S4096x1024_S4096x1024_S1024x1024_0_0_1_1_n_n none (extf .f32 dy bitsLt_bf16_f32) (both a b) :
      FVec Ideal S1024x1024 .f32) transposes_S1024x1024_S1024x1024_1_0) bitsLt_bf16_f32) :
      FVec Ideal S1x1024x1024 .bf16) (ix3 o f d) = mixDw a b dy f d := by
  refine (dot_at _ dy o f d).trans ?_
  unfold mixDw
  exact Finset.sum_congr rfl fun k _ => (mul_comm _ _).trans (congrArg (· * _) (both_at a b k f))

end Cert.MixoutDwRefIdeal.Ffn

namespace Cert.Proof

open Idealize.ShloMosaic Idealize.SL.Sem

attribute [local instance] Cert.MixoutDw.Gen.facts Cert.MixoutDwIdeal.Gen.facts Cert.MixoutDwRefIdeal.Gen.facts

theorem frame_mixoutDw : Cert.quiescent_MixoutDw := fun m ρ _ => Cert.MixoutDw.Gen.frame m ρ
theorem frame_mixoutDwIdeal : Cert.quiescent_MixoutDwIdeal := fun m ρ _ => Cert.MixoutDwIdeal.Gen.frame m ρ

theorem frame_mixoutDwRefIdeal : Cert.quiescent_MixoutDwRefIdeal := fun m ρ _ =>
  (θ_run Cert.MixoutDwRefIdeal.defs _ _).mono
    (fun r hr => ⟨fun c => (hr c).2, sem_eq_zero_of_no_sems (by decide) r.2⟩) (Cert.MixoutDwRefIdeal.Value.run m ρ)

theorem preserves_mixoutDw : Cert.preserves_MixoutDw_MixoutDwIdeal := trivial

/-- Kernel and reference end with the same gradient of the output projection. -/
theorem algebraic_mixoutDw : Cert.algebraic_MixoutDwIdeal_MixoutDwRefIdeal := by
  intro m g m' g' _ hargs
  refine ⟨fun c y => _root_.Ffn.mixDw (m ((c.tc : Thread Cert.MixoutDwIdeal.nD Cert.MixoutDwIdeal.τ).loc Cert.MixoutDwIdeal.main_arg0)) (m ((c.tc : Thread Cert.MixoutDwIdeal.nD Cert.MixoutDwIdeal.τ).loc Cert.MixoutDwIdeal.main_arg1))
    (m ((c.tc : Thread Cert.MixoutDwIdeal.nD Cert.MixoutDwIdeal.τ).loc Cert.MixoutDwIdeal.main_arg2)) (y 1) (y 2), Cert.MixoutDwIdeal.Ffn.run m g, ?_⟩
  refine (θ_run Cert.MixoutDwRefIdeal.defs _ _).mono (fun r hr c => ⟨(hr c).1.trans ?_, (hr c).2⟩) (Cert.MixoutDwRefIdeal.Value.run m' g')
  refine funext fun y => (congrArg _ (eq_ix3 y)).trans ((Cert.MixoutDwRefIdeal.Ffn.product_at _ _ _ (y 0) (y 1) (y 2)).trans ?_)
  rw [(hargs c).1, (hargs c).2.1, (hargs c).2.2]

end Cert.Proof

end
-- ==== Proof.InADx.lean ====
/- The gradient of the first kind of layer's projected input, from the projection's three parts, against the reference's. -/
module

public import proofs.«01_k».proof.Defs
public import proofs.«01_k».proof.Proof.Gen.InADx.Frame
public import proofs.«01_k».proof.Proof.Gen.InADxIdeal.Frame
public import proofs.«01_k».proof.Proof.Gen.InADxIdeal.Value
public import proofs.«01_k».proof.Proof.Gen.InADxRefIdeal.Run
public import Idealize.ShloMosaic.Lib.Pipeline.ValueKit
public import Idealize.ShloMosaic.Lib.Pointwise

@[expose] public section

set_option maxRecDepth 16384

noncomputable section

namespace Ffn

open Idealize.ShloMosaic

/-- A row of each part of the transposed projection. -/
def partRow0 (f : Fin 768) : Fin 1792 := ⟨f, by omega⟩
def partRow1 (f : Fin 768) : Fin 1792 := ⟨768 + f, by omega⟩
def partRow2 (f : Fin 256) : Fin 1792 := ⟨1536 + f, by omega⟩

/-- The gradient of the projection's input: each part's gradients against its rows of the transposed projection. -/
def inADx (w : (⟨2, ![1792, 1024]⟩ : Shape).Idx → EReal) (a b : (⟨2, ![4096, 768]⟩ : Shape).Idx → EReal) (c : (⟨2, ![4096, 256]⟩ : Shape).Idx → EReal) (r : Fin 4096) (d : Fin 1024) : EReal :=
  (∑ k : Fin 768, a (ix2 r k) * w (ix2 (partRow0 k) d)) + (∑ k : Fin 768, b (ix2 r k) * w (ix2 (partRow1 k) d))
    + ∑ k : Fin 256, c (ix2 r k) * w (ix2 (partRow2 k) d)

end Ffn

namespace Cert.InADxIdeal.Ffn

open Cert.InADxIdeal Cert.InADxIdeal.Gen Idealize.ShloMosaic Idealize.ShloMosaic.TcCoe Idealize.SL.Sem
open _root_.Ffn (inADx partRow0 partRow1 partRow2)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![1, 0] := (by decide +kernel : ∀ t : Fin grid0.N, _)
theorem idx5 : ∀ t : Fin cfg0.N, win0_5.index t = ![6, 0] := (by decide +kernel : ∀ t : Fin grid0.N, _)
theorem idx6 : ∀ t : Fin cfg0.N, win0_6.index t = ![t.val, 0] := (by decide +kernel : ∀ t : Fin grid0.N, _)

theorem lt4 (t : Fin cfg0.N) : t.val < 4 := t.isLt

/-- Row `i` of a grid point's row block. -/
def row (t : Fin cfg0.N) (i : Fin 1024) : Fin 4096 := ⟨1024 * t.val + i, by have := lt4 t; omega⟩

theorem product_at (a : Vec Ideal S1024x768 .bf16) (w : Vec Ideal S768x1024 .bf16) (b : Vec Ideal S1024x768 .bf16) (w' : Vec Ideal S768x1024 .bf16)
    (c : Vec Ideal S1024x256 .bf16) (w'' : Vec Ideal S256x1024 .bf16) (i j : Fin 1024) : k0_pay1 (F := Ideal) a w b w' c w'' (ix2 i j) =
      (∑ k : Fin 768, a (ix2 i k) * w (ix2 k j)) + (∑ k : Fin 768, b (ix2 i k) * w' (ix2 k j)) + ∑ k : Fin 256, c (ix2 i k) * w'' (ix2 k j) := by
  pointwise [k0_pay1]

theorem product_congr {a a' b b' : Vec Ideal S1024x768 .bf16} {w w' v v' : Vec Ideal S768x1024 .bf16} {c c' : Vec Ideal S1024x256 .bf16}
    {u u' : Vec Ideal S256x1024 .bf16} (ha : a = a') (hw : w = w') (hb : b = b') (hv : v = v') (hc : c = c') (hu : u = u') :
    k0_pay1 (F := Ideal) a w b v c u = k0_pay1 a' w' b' v' c' u' := by
  subst ha hw hb hv hc hu
  rfl

variable (m : (ℓ : Loc nD τ sig) → Buf (Elt Ideal) ℓ) (c : Dev nD) (t : Fin cfg0.N)

theorem out_eq : outsAt0 m c t =
    k0_pay1 (F := Ideal) (iblk m c 0 t) (X0_3 m c t) (iblk m c 1 t) (X0_4 m c t) (iblk m c 2 t) (iblk m c 5 t) := by
  unfold outsAt0 out0_A_6
  rw [View.read_writes_eq_canon _ _ _ (cover0_A_6 c _ _ _ _ _ _ _ _ _ _ _ _ _ _ _ _ _ _ _ _ _)]
  refine (View.canon_unit_zero (by funext a; fin_cases a <;> rfl) _ _).trans ?_
  refine product_congr ?_ ?_ ?_ ?_ ?_ ?_
  · exact (congrArg (fun x => View.ld x _) ((hs0_0 t).read_unread _)).trans (View.ld_unit_zero (by funext a; fin_cases a <;> rfl) _ _)
  · exact (congrArg (fun x => View.ld x _) ((hs0_3 t).read_unread _)).trans (View.ld_unit_zero (by funext a; fin_cases a <;> rfl) _ _)
  · exact (congrArg (fun x => View.ld x _) ((hs0_1 t).read_unread _)).trans (View.ld_unit_zero (by funext a; fin_cases a <;> rfl) _ _)
  · exact (congrArg (fun x => View.ld x _) ((hs0_4 t).read_unread _)).trans (View.ld_unit_zero (by funext a; fin_cases a <;> rfl) _ _)
  · exact (congrArg (fun x => View.ld x _) ((hs0_2 t).read_unread _)).trans (View.ld_unit_zero (by funext a; fin_cases a <;> rfl) _ _)
  · exact (congrArg (fun x => View.ld x _) ((hs0_5 t).read_unread _)).trans (View.ld_unit_zero (by funext a; fin_cases a <;> rfl) _ _)

theorem a_block (i : Fin 1024) (k : Fin 768) : iblk m c 0 t (ix2 i k) = (m ((c.tc : Thread nD τ).loc main_arg1)) (ix2 (row t i) k) := by
  blk_ext [iblk, V, idx0 t, row]

theorem b_block (i : Fin 1024) (k : Fin 768) : iblk m c 1 t (ix2 i k) = (m ((c.tc : Thread nD τ).loc main_arg2)) (ix2 (row t i) k) := by
  blk_ext [iblk, V, idx1 t, row]

theorem c_block (i : Fin 1024) (k : Fin 256) : iblk m c 2 t (ix2 i k) = (m ((c.tc : Thread nD τ).loc main_arg3)) (ix2 (row t i) k) := by
  blk_ext [iblk, V, idx2 t, row]

theorem w_block0 (k : Fin 768) (j : Fin 1024) : X0_3 m c t (ix2 k j) = (m ((c.tc : Thread nD τ).loc main_arg0)) (ix2 (partRow0 k) j) := by
  unfold X0_3 Pipeline.Window.fill
  rw [dif_pos (moved0_3 t _)]
  blk_ext [iblk, V, idx3 t, partRow0]

theorem w_block1 (k : Fin 768) (j : Fin 1024) : X0_4 m c t (ix2 k j) = (m ((c.tc : Thread nD τ).loc main_arg0)) (ix2 (partRow1 k) j) := by
  unfold X0_4 Pipeline.Window.fill
  rw [dif_pos (moved0_4 t _)]
  blk_ext [iblk, V, idx4 t, partRow1]

theorem w_block2 (k : Fin 256) (j : Fin 1024) : iblk m c 5 t (ix2 k j) = (m ((c.tc : Thread nD τ).loc main_arg0)) (ix2 (partRow2 k) j) := by
  blk_ext [iblk, V, idx5 t, partRow2]

theorem emb6 (y : S1024x1024.Idx) : (win0_6.blk t).view.emb y = ix2 (row t (y 0)) (y 1) := by
  blk_ext [idx6 t, row]

theorem array : (dats m 0 c).arrAt 6 cfg0.N = fun y : S4096x1024.Idx => inADx (m ((c.tc : Thread nD τ).loc main_arg0))
    (m ((c.tc : Thread nD τ).loc main_arg1)) (m ((c.tc : Thread nD τ).loc main_arg2)) (m ((c.tc : Thread nD τ).loc main_arg3)) (y 0) (y 1) := by
  refine (dats m 0 c).arrAt_eq_of_covers 6 _ (by decide +kernel) fun t hf y => ?_
  blk_simp
  rw [emb6, after0_6, out_eq]
  refine (congrArg _ (eq_ix2 y)).trans ((product_at _ _ _ _ _ _ _ _).trans ?_)
  exact congrArg₂ (· + ·) (congrArg₂ (· + ·)
      (Finset.sum_congr rfl fun k _ => congrArg₂ (· * ·) (a_block m c t _ _) (w_block0 m c t _ _))
      (Finset.sum_congr rfl fun k _ => congrArg₂ (· * ·) (b_block m c t _ _) (w_block1 m c t _ _)))
    (Finset.sum_congr rfl fun k _ => congrArg₂ (· * ·) (c_block m c t _ _) (w_block2 m c t _ _))

end Cert.InADxIdeal.Ffn

namespace Cert.InADxRefIdeal.Ffn

open Cert.InADxRefIdeal Cert.InADxRefIdeal.Gen Idealize.ShloMosaic Idealize.ShloMosaic.TcCoe Idealize.SL.Sem
open _root_.Ffn (inADx partRow0 partRow1 partRow2)

/-- The parts' gradients, each padded to the projection's width, added. -/
def padded (a b : FVec Ideal S4096x768 .bf16) (c : FVec Ideal S4096x256 .bf16) : FVec Ideal S4096x1792 .f32 :=
  addf (addf (pad S4096x1792 ![0, 1536] ![0, 0] ![0, 0] (extf .f32 c bitsLt_bf16_f32) (constant S_ .f32 0x00000000#32) pads_S4096x256_S4096x1792_000_153600 h_S_)
    (pad S4096x1792 ![0, 768] ![0, 256] ![0, 0] (extf .f32 b bitsLt_bf16_f32) (constant S_ .f32 0x00000000#32) pads_S4096x768_S4096x1792_000_7682560 h_S_))
    (pad S4096x1792 ![0, 0] ![0, 1024] ![0, 0] (extf .f32 a bitsLt_bf16_f32) (constant S_ .f32 0x00000000#32) pads_S4096x768_S4096x1792_000_010240 h_S_)

theorem padded_part0 (a b : FVec Ideal S4096x768 .bf16) (c : FVec Ideal S4096x256 .bf16) (r : Fin 4096) (f : Fin 768) :
    padded a b c (ix2 r (partRow0 f)) = a (ix2 r f) := by
  have hf := f.isLt
  unfold padded partRow0
  pointwise []
  rw [dif_neg (by omega), dif_neg fun h => h.1, zero_add, zero_add]

theorem padded_part1 (a b : FVec Ideal S4096x768 .bf16) (c : FVec Ideal S4096x256 .bf16) (r : Fin 4096) (f : Fin 768) :
    padded a b c (ix2 r (partRow1 f)) = b (ix2 r f) := by
  have hf := f.isLt
  unfold padded partRow1
  pointwise []
  rw [dif_neg (by omega), zero_add]

theorem padded_part2 (a b : FVec Ideal S4096x768 .bf16) (c : FVec Ideal S4096x256 .bf16) (r : Fin 4096) (f : Fin 256) :
    padded a b c (ix2 r (partRow2 f)) = c (ix2 r f) := by
  have hf := f.isLt
  unfold padded partRow2
  pointwise []
  rw [dif_neg (by omega), dif_neg (by omega), add_zero, add_zero]

theorem dot_at (u : FVec Ideal S4096x1792 .f32) (w : FVec Ideal S1792x1024 .bf16) (r : Fin 4096) (d : Fin 1024) :
    (Host.dotGeneral dot_S4096x1792_S1024x1792_S4096x1024_1_1_0_0_n_n none u
      (extf .f32 (transpose S1024x1792 [1, 0] w transposes_S1792x1024_S1024x1792_1_0) bitsLt_bf16_f32) : FVec Ideal S4096x1024 .f32) (ix2 r d)
      = ∑ k : Fin 1792, u (ix2 r k) * w (ix2 k d) := by
  pointwise []

theorem thirds (f : Fin 1792 → EReal) : ∑ k, f k = (∑ k, f (partRow0 k)) + (∑ k, f (partRow1 k)) + ∑ k, f (partRow2 k) := by
  refine (Fin.sum_univ_add (a := 1536) (b := 256) f).trans (congrArg₂ (· + ·) ?_ rfl)
  exact Fin.sum_univ_add (a := 768) (b := 768) fun k => f (Fin.castAdd 256 k)

theorem product_at (w : FVec Ideal S1792x1024 .bf16) (a b : FVec Ideal S4096x768 .bf16) (c : FVec Ideal S4096x256 .bf16) (r : Fin 4096) (d : Fin 1024) :
    (Host.dotGeneral dot_S4096x1792_S1024x1792_S4096x1024_1_1_0_0_n_n none (padded a b c)
      (extf .f32 (transpose S1024x1792 [1, 0] w transposes_S1792x1024_S1024x1792_1_0) bitsLt_bf16_f32) : FVec Ideal S4096x1024 .f32) (ix2 r d)
      = inADx w a b c r d := by
  refine (dot_at _ w r d).trans ?_
  rw [thirds, inADx]
  simp only [padded_part0, padded_part1, padded_part2]

end Cert.InADxRefIdeal.Ffn

namespace Cert.Proof

open Idealize.ShloMosaic Idealize.SL.Sem

attribute [local instance] Cert.InADx.Gen.facts Cert.InADxIdeal.Gen.facts Cert.InADxRefIdeal.Gen.facts

theorem frame_inADx : Cert.quiescent_InADx := fun m ρ _ => Cert.InADx.Gen.frame m ρ
theorem frame_inADxIdeal : Cert.quiescent_InADxIdeal := fun m ρ _ => Cert.InADxIdeal.Gen.frame m ρ

theorem frame_inADxRefIdeal : Cert.quiescent_InADxRefIdeal := fun m ρ _ =>
  (θ_run Cert.InADxRefIdeal.defs _ _).mono
    (fun r hr => ⟨fun c => (hr c).2, sem_eq_zero_of_no_sems (by decide) r.2⟩) (Cert.InADxRefIdeal.Value.run m ρ)

theorem preserves_inADx : Cert.preserves_InADx_InADxIdeal := trivial

/-- Kernel and reference end with the same gradient of the projected input. -/
theorem algebraic_inADx : Cert.algebraic_InADxIdeal_InADxRefIdeal := by
  intro m g m' g' _ hargs
  refine ⟨fun c y => _root_.Ffn.inADx (m ((c.tc : Thread Cert.InADxIdeal.nD Cert.InADxIdeal.τ).loc Cert.InADxIdeal.main_arg0)) (m ((c.tc : Thread Cert.InADxIdeal.nD Cert.InADxIdeal.τ).loc Cert.InADxIdeal.main_arg1)) (m ((c.tc : Thread Cert.InADxIdeal.nD Cert.InADxIdeal.τ).loc Cert.InADxIdeal.main_arg2)) (m ((c.tc : Thread Cert.InADxIdeal.nD Cert.InADxIdeal.τ).loc Cert.InADxIdeal.main_arg3))
    (y 0) (y 1), ?_, ?_⟩
  · exact (θ_run Cert.InADxIdeal.defs _ _).mono (fun r hr c => ⟨(hr c).1.trans (Cert.InADxIdeal.Ffn.array m c), (hr c).2⟩) (Cert.InADxIdeal.Value.run_blocks m g)
  · refine (θ_run Cert.InADxRefIdeal.defs _ _).mono (fun r hr c => ⟨(hr c).1.trans ?_, (hr c).2⟩) (Cert.InADxRefIdeal.Value.run m' g')
    refine funext fun y => (congrArg _ (eq_ix2 y)).trans ((Cert.InADxRefIdeal.Ffn.product_at _ _ _ _ (y 0) (y 1)).trans ?_)
    rw [(hargs c).1, (hargs c).2.1, (hargs c).2.2.1, (hargs c).2.2.2]

end Cert.Proof

end
-- ==== Proof.InADw.lean ====
/- The gradient of the first kind of layer's input projection, written by three calls into the rows of one array, against the reference's. -/
module

public import proofs.«01_k».proof.Defs
public import proofs.«01_k».proof.Proof.Gen.InADw.Frame
public import proofs.«01_k».proof.Proof.Gen.InADwIdeal.Frame
public import proofs.«01_k».proof.Proof.Gen.InADwRefIdeal.Run
public import Idealize.ShloMosaic.Lib.Pipeline.ValueKit
public import Idealize.ShloMosaic.Lib.Pointwise

@[expose] public section

set_option maxRecDepth 16384

noncomputable section

namespace Ffn

open Idealize.ShloMosaic

/-- Column `f` of the gradients of the projection's three parts side by side. -/
def parts (a b : (⟨2, ![4096, 768]⟩ : Shape).Idx → EReal) (c : (⟨2, ![4096, 256]⟩ : Shape).Idx → EReal) (k : Fin 4096) (f : Fin 1792) : EReal :=
  if h : f.val < 768 then a (ix2 k ⟨f, h⟩) else if h' : f.val < 1536 then b (ix2 k ⟨f - 768, by omega⟩) else c (ix2 k ⟨f - 1536, by omega⟩)

/-- The gradient of the projection: each column of its parts' gradients against each column of its input, over the tokens. -/
def inADw (a b : (⟨2, ![4096, 768]⟩ : Shape).Idx → EReal) (c : (⟨2, ![4096, 256]⟩ : Shape).Idx → EReal) (h : (⟨2, ![4096, 1024]⟩ : Shape).Idx → EReal) (f : Fin 1792) (d : Fin 1024) : EReal :=
  ∑ k : Fin 4096, parts a b c k f * h (ix2 k d)

end Ffn

namespace Cert.InADwIdeal.Ffn

open Cert.InADwIdeal Cert.InADwIdeal.Gen Idealize.ShloMosaic Idealize.ShloMosaic.TcCoe Idealize.SL.Sem
open _root_.Ffn (inADw parts)

/-! ## The calls' blocks -/

theorem idx0_0 : ∀ t : Fin cfg0.N, win0_0.index t = ![0, t.val] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, t.val, 0] := (by decide +kernel : ∀ t : Fin grid0.N, _)
theorem lt0 (t : Fin cfg0.N) : t.val < 3 := t.isLt

theorem idx1_0 : ∀ t : Fin cfg1.N, win1_0.index t = ![0, t.val] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 3 + t.val, 0] := (by decide +kernel : ∀ t : Fin grid1.N, _)
theorem lt1 (t : Fin cfg1.N) : t.val < 3 := t.isLt

theorem idx2_0 : ∀ t : Fin cfg2.N, win2_0.index t = ![0, t.val] := (by decide +kernel : ∀ t : Fin grid2.N, _)
theorem idx2_1 : ∀ t : Fin cfg2.N, win2_1.index t = ![0, 0] := (by decide +kernel : ∀ t : Fin grid2.N, _)
theorem idx2_2 : ∀ t : Fin cfg2.N, win2_2.index t = ![0, 6 + t.val, 0] := (by decide +kernel : ∀ t : Fin grid2.N, _)
theorem lt2 (t : Fin cfg2.N) : t.val < 1 := t.isLt

/-- Column `i` of a grid point's block of its operand, and the row of the result it makes. -/
def col0 (t : Fin cfg0.N) (i : Fin 256) : Fin 768 := ⟨256 * t.val + i, by have := lt0 t; omega⟩
def row0 (t : Fin cfg0.N) (i : Fin 256) : Fin 1792 := ⟨256 * t.val + i, by have := lt0 t; omega⟩
def col1 (t : Fin cfg1.N) (i : Fin 256) : Fin 768 := ⟨256 * t.val + i, by have := lt1 t; omega⟩
def row1 (t : Fin cfg1.N) (i : Fin 256) : Fin 1792 := ⟨768 + 256 * t.val + i, by have := lt1 t; omega⟩
def col2 (t : Fin cfg2.N) (i : Fin 256) : Fin 256 := ⟨256 * t.val + i, by have := lt2 t; omega⟩
def row2 (t : Fin cfg2.N) (i : Fin 256) : Fin 1792 := ⟨1536 + 256 * t.val + i, by have := lt2 t; omega⟩

theorem product0_at (a : Vec Ideal S4096x256 .bf16) (b : Vec Ideal S4096x1024 .bf16) (i : Fin 256) (j : Fin 1024) :
    k0_pay1 (F := Ideal) a b (ix3 0 i j) = ∑ k : Fin 4096, a (ix2 k i) * b (ix2 k j) := by
  pointwise [k0_pay1]

theorem product1_at (a : Vec Ideal S4096x256 .bf16) (b : Vec Ideal S4096x1024 .bf16) (i : Fin 256) (j : Fin 1024) :
    k1_pay1 (F := Ideal) a b (ix3 0 i j) = ∑ k : Fin 4096, a (ix2 k i) * b (ix2 k j) := by
  pointwise [k1_pay1]

theorem product2_at (a : Vec Ideal S4096x256 .bf16) (b : Vec Ideal S4096x1024 .bf16) (i : Fin 256) (j : Fin 1024) :
    k2_pay1 (F := Ideal) a b (ix3 0 i j) = ∑ k : Fin 4096, a (ix2 k i) * b (ix2 k j) := by
  pointwise [k2_pay1]

theorem out0_eq (a : Vec Ideal S4096x256 .bf16) (b : Vec Ideal S4096x1024 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

theorem row_eq {a b : Nat} (y : (⟨3, ![1, a, b]⟩ : Shape).Idx) : y = ix3 0 (y 1) (y 2) := by
  funext a
  fin_cases a
  · exact Subsingleton.elim (α := Fin 1) _ _
  · rfl
  · rfl

variable (V : (c : Dev nD) → (b : Ref sig .tc) → Buf (Elt Ideal) ((c : Thread nD τ).loc b)) (c : Dev nD)

theorem out1_eq (t : Fin cfg1.N) : outsAt1 V c t = k1_pay1 (F := Ideal) (iblk1 V c 0 t) (iblk1 V c 1 t) := by
  unfold outsAt1 out1_A_2
  rw [View.read_writes_eq_canon _ _ _ (cover1_A_2 c _ _ _ _ _ _ _ _ _)]
  refine (View.canon_unit_zero (by funext a; fin_cases a <;> rfl) _ _).trans ?_
  refine congrArg₂ (k1_pay1 (F := Ideal)) ?_ ?_
  · exact (congrArg (fun x => View.ld x _) ((hs1_0 t).read_unread _)).trans (View.ld_unit_zero (by funext a; fin_cases a <;> rfl) _ _)
  · exact (congrArg (fun x => View.ld x _) ((hs1_1 t).read_unread _)).trans (View.ld_unit_zero (by funext a; fin_cases a <;> rfl) _ _)

theorem out2_eq (t : Fin cfg2.N) : outsAt2 V c t = k2_pay1 (F := Ideal) (iblk2 V c 0 t) (iblk2 V c 1 t) := by
  unfold outsAt2 out2_A_2
  rw [View.read_writes_eq_canon _ _ _ (cover2_A_2 c _ _ _ _ _ _ _ _ _)]
  refine (View.canon_unit_zero (by funext a; fin_cases a <;> rfl) _ _).trans ?_
  refine congrArg₂ (k2_pay1 (F := Ideal)) ?_ ?_
  · exact (congrArg (fun x => View.ld x _) ((hs2_0 t).read_unread _)).trans (View.ld_unit_zero (by funext a; fin_cases a <;> rfl) _ _)
  · exact (congrArg (fun x => View.ld x _) ((hs2_1 t).read_unread _)).trans (View.ld_unit_zero (by funext a; fin_cases a <;> rfl) _ _)

theorem piece_block0 (t : Fin cfg0.N) (k : Fin 4096) (i : Fin 256) : iblk0 V c 0 t (ix2 k i) = V c main_arg1 (ix2 k (col0 t i)) := by
  blk_ext [iblk0, idx0_0 t, col0]

theorem h_block0 (t : Fin cfg0.N) (k : Fin 4096) (j : Fin 1024) : iblk0 V c 1 t (ix2 k j) = V c main_arg0 (ix2 k j) := by
  blk_ext [iblk0, idx0_1 t]

theorem emb0 (t : Fin cfg0.N) (y : S1x256x1024.Idx) : (win0_2.blk t).view.emb y = ix3 0 (row0 t (y 1)) (y 2) := by
  blk_ext [idx0_2 t, row0]

theorem piece_block1 (t : Fin cfg1.N) (k : Fin 4096) (i : Fin 256) : iblk1 V c 0 t (ix2 k i) = V c main_arg2 (ix2 k (col1 t i)) := by
  blk_ext [iblk1, idx1_0 t, col1]

theorem h_block1 (t : Fin cfg1.N) (k : Fin 4096) (j : Fin 1024) : iblk1 V c 1 t (ix2 k j) = V c main_arg0 (ix2 k j) := by
  blk_ext [iblk1, idx1_1 t]

theorem emb1 (t : Fin cfg1.N) (y : S1x256x1024.Idx) : (win1_2.blk t).view.emb y = ix3 0 (row1 t (y 1)) (y 2) := by
  blk_ext [idx1_2 t, row1]

theorem piece_block2 (t : Fin cfg2.N) (k : Fin 4096) (i : Fin 256) : iblk2 V c 0 t (ix2 k i) = V c main_arg3 (ix2 k (col2 t i)) := by
  blk_ext [iblk2, idx2_0 t, col2]

theorem h_block2 (t : Fin cfg2.N) (k : Fin 4096) (j : Fin 1024) : iblk2 V c 1 t (ix2 k j) = V c main_arg0 (ix2 k j) := by
  blk_ext [iblk2, idx2_1 t]

theorem emb2 (t : Fin cfg2.N) (y : S1x256x1024.Idx) : (win2_2.blk t).view.emb y = ix3 0 (row2 t (y 1)) (y 2) := by
  blk_ext [idx2_2 t, row2]

theorem side0 (a b : (⟨2, ![4096, 768]⟩ : Shape).Idx → EReal) (c : (⟨2, ![4096, 256]⟩ : Shape).Idx → EReal) (k : Fin 4096) (t : Fin cfg0.N) (i : Fin 256) :
    parts a b c k (row0 t i) = a (ix2 k (col0 t i)) := by
  rw [parts, dif_pos (by have := lt0 t; simp only [row0]; omega)]
  rfl

theorem side1 (a b : (⟨2, ![4096, 768]⟩ : Shape).Idx → EReal) (c : (⟨2, ![4096, 256]⟩ : Shape).Idx → EReal) (k : Fin 4096) (t : Fin cfg1.N) (i : Fin 256) :
    parts a b c k (row1 t i) = b (ix2 k (col1 t i)) := by
  rw [parts, dif_neg (by simp only [row1]; omega), dif_pos (by have := lt1 t; simp only [row1]; omega)]
  exact congrArg (fun f => b (ix2 k f)) (Fin.ext (by simp only [row1, col1]; omega))

theorem side2 (a b : (⟨2, ![4096, 768]⟩ : Shape).Idx → EReal) (c : (⟨2, ![4096, 256]⟩ : Shape).Idx → EReal) (k : Fin 4096) (t : Fin cfg2.N) (i : Fin 256) :
    parts a b c k (row2 t i) = c (ix2 k (col2 t i)) := by
  rw [parts, dif_neg (by simp only [row2]; omega), dif_neg (by simp only [row2]; omega)]
  exact congrArg (fun f => c (ix2 k f)) (Fin.ext (by simp only [row2, col2]; omega))

/-! ## The array after each call -/

/-- The first call leaves the first operand's rows of the result. -/
theorem array0 (y : S1x1792x1024.Idx) (hy : (y 1).val < 768) : (dat0 V c).arrAt 2 cfg0.N y = inADw (V c main_arg1) (V c main_arg2) (V c main_arg3) (V c main_arg0) (y 1) (y 2) := by
  have e := (dat0 V c).arrAt_apply_of_coversWhere 2
    (fun y : S1x1792x1024.Idx => inADw (V c main_arg1) (V c main_arg2) (V c main_arg3) (V c main_arg0) (y 1) (y 2))
    (P := fun y : S1x1792x1024.Idx => (y 1).val / 256 < 3) (fun β => β (1 : Fin 3) < 3) (by decide +kernel) (fun t hf y => by
      blk_simp
      rw [emb0, after0_2, out0_eq]
      refine (congrArg _ (row_eq y)).trans ((product0_at _ _ _ _).trans ?_)
      exact Finset.sum_congr rfl fun k _ => congrArg₂ (· * ·)
        ((piece_block0 V c t _ _).trans (side0 _ _ _ _ t _).symm) (h_block0 V c t _ _)) (fun j => Iff.rfl) y
  exact e.trans (if_pos (c := (y 1).val / 256 < 3) (by omega))

/-- The next call adds the second operand's rows to those it finds. -/
theorem array1 (h0 : ∀ y : S1x1792x1024.Idx, (y 1).val < 768 → V c main_v1 y = inADw (V c main_arg1) (V c main_arg2) (V c main_arg3) (V c main_arg0) (y 1) (y 2))
    (y : S1x1792x1024.Idx) (hy : (y 1).val < 1536) : (dat1 V c).arrAt 2 cfg1.N y = inADw (V c main_arg1) (V c main_arg2) (V c main_arg3) (V c main_arg0) (y 1) (y 2) := by
  have e := (dat1 V c).arrAt_apply_of_coversWhere 2
    (fun y : S1x1792x1024.Idx => inADw (V c main_arg1) (V c main_arg2) (V c main_arg3) (V c main_arg0) (y 1) (y 2))
    (P := fun y : S1x1792x1024.Idx => 3 ≤ (y 1).val / 256 ∧ (y 1).val / 256 < 6) (fun β => 3 ≤ β (1 : Fin 3) ∧ β (1 : Fin 3) < 6) (by decide +kernel) (fun t hf y => by
      blk_simp
      rw [emb1, after1_2, out1_eq]
      refine (congrArg _ (row_eq y)).trans ((product1_at _ _ _ _).trans ?_)
      exact Finset.sum_congr rfl fun k _ => congrArg₂ (· * ·)
        ((piece_block1 V c t _ _).trans (side1 _ _ _ _ t _).symm) (h_block1 V c t _ _)) (fun j => Iff.rfl) y
  refine e.trans ?_
  by_cases hs : 3 ≤ (y 1).val / 256
  · exact if_pos (c := 3 ≤ (y 1).val / 256 ∧ (y 1).val / 256 < 6) ⟨hs, by omega⟩
  · exact (if_neg (c := 3 ≤ (y 1).val / 256 ∧ (y 1).val / 256 < 6) fun h => hs h.1).trans (h0 y (by omega))

/-- The last call, where it finds the rows before its own in place, leaves the whole result. -/
theorem array2 (h0 : ∀ y : S1x1792x1024.Idx, (y 1).val < 1536 → V c main_v2 y = inADw (V c main_arg1) (V c main_arg2) (V c main_arg3) (V c main_arg0) (y 1) (y 2)) :
    (dat2 V c).arrAt 2 cfg2.N = fun y : S1x1792x1024.Idx => inADw (V c main_arg1) (V c main_arg2) (V c main_arg3) (V c main_arg0) (y 1) (y 2) := by
  refine (dat2 V c).arrAt_eq_of_coversWhere_of_agree 2 _ (fun β => 6 ≤ β (1 : Fin 3)) (by decide +kernel) (fun t hf y => ?_) fun j hj => ?_
  · blk_simp
    rw [emb2, after2_2, out2_eq]
    refine (congrArg _ (row_eq y)).trans ((product2_at _ _ _ _).trans ?_)
    exact Finset.sum_congr rfl fun k _ => congrArg₂ (· * ·)
      ((piece_block2 V c t _ _).trans (side2 _ _ _ _ t _).symm) (h_block2 V c t _ _)
  · have hj' : ¬6 ≤ (j (1 : Fin 3)).val / 256 := hj
    exact h0 j (by omega)

/-! ## The launch -/

variable (m : (ℓ : Loc nD τ sig) → Buf (Elt Ideal) ℓ) (ρ : Dev nD → PrngReg)

/-- The first operand's rows, as the second call finds them. -/
theorem found1 (c : Dev nD) (y : S1x1792x1024.Idx) (hy : (y 1).val < 768) : V2 m ρ c main_v1 y = inADw (m ((c.tc : Thread nD τ).loc main_arg1)) (m ((c.tc : Thread nD τ).loc main_arg2)) (m ((c.tc : Thread nD τ).loc main_arg3)) (m ((c.tc : Thread nD τ).loc main_arg0)) (y 1) (y 2) := by
  refine Eq.trans ?_ (array0 (V0 m ρ) c y hy)
  refine Eq.trans ?_ (congrFun (W1_arr m ρ c 2) y)
  show StableHlo.after hostOps1 (W1 m ρ c) (Proc.devRef .tc main_v1) y = _
  refine congrFun ?_ y
  after_results
  rfl

/-- The first two operands' rows, as the third call finds them. -/
theorem found2 (c : Dev nD) (y : S1x1792x1024.Idx) (hy : (y 1).val < 1536) : V4 m ρ c main_v2 y = inADw (m ((c.tc : Thread nD τ).loc main_arg1)) (m ((c.tc : Thread nD τ).loc main_arg2)) (m ((c.tc : Thread nD τ).loc main_arg3)) (m ((c.tc : Thread nD τ).loc main_arg0)) (y 1) (y 2) := by
  have e := array1 (V2 m ρ) c (fun y hy => by
    rw [show V2 m ρ c main_arg0 = _ from W2_args m ρ c main_arg0 (by decide), show V2 m ρ c main_arg1 = _ from W2_args m ρ c main_arg1 (by decide), show V2 m ρ c main_arg2 = _ from W2_args m ρ c main_arg2 (by decide), show V2 m ρ c main_arg3 = _ from W2_args m ρ c main_arg3 (by decide)]
    exact found1 m ρ c y hy) y hy
  rw [show V2 m ρ c main_arg0 = _ from W2_args m ρ c main_arg0 (by decide), show V2 m ρ c main_arg1 = _ from W2_args m ρ c main_arg1 (by decide), show V2 m ρ c main_arg2 = _ from W2_args m ρ c main_arg2 (by decide), show V2 m ρ c main_arg3 = _ from W2_args m ρ c main_arg3 (by decide)] at e
  refine Eq.trans ?_ e
  refine Eq.trans ?_ (congrFun (W3_arr m ρ c 2) y)
  show StableHlo.after hostOps2 (W3 m ρ c) (Proc.devRef .tc main_v2) y = _
  refine congrFun ?_ y
  after_results
  rfl

/-- The result of `main`, from the arguments. -/
theorem result (c : Dev nD) : W5 m ρ c (Proc.devRef .tc main_v2) = fun y : S1x1792x1024.Idx => inADw (m ((c.tc : Thread nD τ).loc main_arg1)) (m ((c.tc : Thread nD τ).loc main_arg2)) (m ((c.tc : Thread nD τ).loc main_arg3)) (m ((c.tc : Thread nD τ).loc main_arg0)) (y 1) (y 2) := by
  have e := array2 (V4 m ρ) c fun y hy => by
    rw [show V4 m ρ c main_arg0 = _ from W4_args m ρ c main_arg0 (by decide), show V4 m ρ c main_arg1 = _ from W4_args m ρ c main_arg1 (by decide), show V4 m ρ c main_arg2 = _ from W4_args m ρ c main_arg2 (by decide), show V4 m ρ c main_arg3 = _ from W4_args m ρ c main_arg3 (by decide)]
    exact found2 m ρ c y hy
  rw [show V4 m ρ c main_arg0 = _ from W4_args m ρ c main_arg0 (by decide), show V4 m ρ c main_arg1 = _ from W4_args m ρ c main_arg1 (by decide), show V4 m ρ c main_arg2 = _ from W4_args m ρ c main_arg2 (by decide), show V4 m ρ c main_arg3 = _ from W4_args m ρ c main_arg3 (by decide)] at e
  exact (W5_arr m ρ c 2).trans e

open Idealize.SL Idealize.SL.RA Idealize.SL.BI Idealize.SL.BI.BIBase Idealize.SL.BI.Laws Idealize.SL.ProofMode
open Idealize.ShloMosaic.Rounds Idealize.ShloMosaic.Tactic
open scoped Idealize.SL.BI

/-- The resources the launch is stated over. -/
abbrev Res : Type := MT nD τ sig Unit (Elt Ideal) ℕ (UR sig nD τ) ℕ

set_option backward.isDefEq.respectTransparency.types false in
/-- `main` ends with that result, and with its arguments as they were. -/
theorem run : θ_run defs (onTc (τ := τ) (main (F := Ideal))) ⟨m, fun _ => 0, ρ⟩ fun r => ∀ c : Dev nD,
      r.2.mem ((c.tc : Thread nD τ).loc main_v2) = (fun y : S1x1792x1024.Idx => inADw (m ((c.tc : Thread nD τ).loc main_arg1)) (m ((c.tc : Thread nD τ).loc main_arg2)) (m ((c.tc : Thread nD τ).loc main_arg3)) (m ((c.tc : Thread nD τ).loc main_arg0)) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => ⟨(h c _ (mem_uc main_v2 (by decide))).trans (result m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c)⟩)

end Cert.InADwIdeal.Ffn

namespace Cert.InADwRefIdeal.Ffn

open Cert.InADwRefIdeal Cert.InADwRefIdeal.Gen Idealize.ShloMosaic Idealize.ShloMosaic.TcCoe Idealize.SL.Sem
open _root_.Ffn (inADw parts)

/-- The parts' gradients, each padded to the projection's width, added. -/
def padded (a b : FVec Ideal S4096x768 .bf16) (c : FVec Ideal S4096x256 .bf16) : FVec Ideal S4096x1792 .f32 :=
  addf (addf (pad S4096x1792 ![0, 1536] ![0, 0] ![0, 0] (extf .f32 c bitsLt_bf16_f32) (constant S_ .f32 0x00000000#32) pads_S4096x256_S4096x1792_000_153600 h_S_)
    (pad S4096x1792 ![0, 768] ![0, 256] ![0, 0] (extf .f32 b bitsLt_bf16_f32) (constant S_ .f32 0x00000000#32) pads_S4096x768_S4096x1792_000_7682560 h_S_))
    (pad S4096x1792 ![0, 0] ![0, 1024] ![0, 0] (extf .f32 a bitsLt_bf16_f32) (constant S_ .f32 0x00000000#32) pads_S4096x768_S4096x1792_000_010240 h_S_)

theorem padded_at (a b : FVec Ideal S4096x768 .bf16) (c : FVec Ideal S4096x256 .bf16) (k : Fin 4096) (f : Fin 1792) :
    padded a b c (ix2 k f) = parts a b c k f := by
  have hf := f.isLt
  unfold padded parts
  pointwise []
  by_cases h : f.val < 768
  · rw [dif_neg (by omega), dif_neg (by omega), dif_pos h, dif_pos h, zero_add, zero_add]
  · by_cases h' : f.val < 1536
    · rw [dif_neg (by omega), dif_pos (by omega), dif_neg h, dif_neg h, dif_pos h', zero_add, add_zero]
    · rw [dif_pos (by omega), dif_neg (by omega), dif_neg h, dif_neg h, dif_neg h', add_zero, add_zero]

theorem dot_at (u : FVec Ideal S4096x1792 .f32) (h : FVec Ideal S4096x1024 .bf16) (o : Fin 1) (f : Fin 1792) (d : Fin 1024) :
    (broadcastInDim S1x1792x1024 ![1, 2] bcast_S1792x1024_S1x1792x1024_1_2 (truncf .bf16 (transpose S1792x1024 [1, 0] (transpose S1024x1792 [1, 0]
      (Host.dotGeneral dot_S4096x1792_S4096x1024_S1792x1024_0_0_1_1_n_n none u (extf .f32 h bitsLt_bf16_f32) :
      FVec Ideal S1792x1024 .f32) transposes_S1792x1024_S1024x1792_1_0) transposes_S1024x1792_S1792x1024_1_0) bitsLt_bf16_f32) :
      FVec Ideal S1x1792x1024 .bf16) (ix3 o f d) = ∑ k : Fin 4096, u (ix2 k f) * h (ix2 k d) := by
  pointwise []

theorem product_at (h : FVec Ideal S4096x1024 .bf16) (a b : FVec Ideal S4096x768 .bf16) (c : FVec Ideal S4096x256 .bf16)
    (o : Fin 1) (f : Fin 1792) (d : Fin 1024) :
    (broadcastInDim S1x1792x1024 ![1, 2] bcast_S1792x1024_S1x1792x1024_1_2 (truncf .bf16 (transpose S1792x1024 [1, 0] (transpose S1024x1792 [1, 0]
      (Host.dotGeneral dot_S4096x1792_S4096x1024_S1792x1024_0_0_1_1_n_n none (padded a b c) (extf .f32 h bitsLt_bf16_f32) :
      FVec Ideal S1792x1024 .f32) transposes_S1792x1024_S1024x1792_1_0) transposes_S1024x1792_S1792x1024_1_0) bitsLt_bf16_f32) :
      FVec Ideal S1x1792x1024 .bf16) (ix3 o f d) = inADw a b c h f d := by
  refine (dot_at _ h o f d).trans ?_
  unfold inADw
  exact Finset.sum_congr rfl fun k _ => congrArg (· * _) (padded_at a b c k f)

end Cert.InADwRefIdeal.Ffn

namespace Cert.Proof

open Idealize.ShloMosaic Idealize.SL.Sem

attribute [local instance] Cert.InADw.Gen.facts Cert.InADwIdeal.Gen.facts Cert.InADwRefIdeal.Gen.facts

theorem frame_inADw : Cert.quiescent_InADw := fun m ρ _ => Cert.InADw.Gen.frame m ρ
theorem frame_inADwIdeal : Cert.quiescent_InADwIdeal := fun m ρ _ => Cert.InADwIdeal.Gen.frame m ρ

theorem frame_inADwRefIdeal : Cert.quiescent_InADwRefIdeal := fun m ρ _ =>
  (θ_run Cert.InADwRefIdeal.defs _ _).mono
    (fun r hr => ⟨fun c => (hr c).2, sem_eq_zero_of_no_sems (by decide) r.2⟩) (Cert.InADwRefIdeal.Value.run m ρ)

theorem preserves_inADw : Cert.preserves_InADw_InADwIdeal := trivial

/-- Kernel and reference end with the same gradient of the input projection. -/
theorem algebraic_inADw : Cert.algebraic_InADwIdeal_InADwRefIdeal := by
  intro m g m' g' _ hargs
  refine ⟨fun c y => _root_.Ffn.inADw (m ((c.tc : Thread Cert.InADwIdeal.nD Cert.InADwIdeal.τ).loc Cert.InADwIdeal.main_arg1)) (m ((c.tc : Thread Cert.InADwIdeal.nD Cert.InADwIdeal.τ).loc Cert.InADwIdeal.main_arg2)) (m ((c.tc : Thread Cert.InADwIdeal.nD Cert.InADwIdeal.τ).loc Cert.InADwIdeal.main_arg3))
    (m ((c.tc : Thread Cert.InADwIdeal.nD Cert.InADwIdeal.τ).loc Cert.InADwIdeal.main_arg0)) (y 1) (y 2), Cert.InADwIdeal.Ffn.run m g, ?_⟩
  refine (θ_run Cert.InADwRefIdeal.defs _ _).mono (fun r hr c => ⟨(hr c).1.trans ?_, (hr c).2⟩) (Cert.InADwRefIdeal.Value.run m' g')
  refine funext fun y => (congrArg _ (eq_ix3 y)).trans ((Cert.InADwRefIdeal.Ffn.product_at _ _ _ _ (y 0) (y 1) (y 2)).trans ?_)
  rw [(hargs c).1, (hargs c).2.1, (hargs c).2.2.1, (hargs c).2.2.2]

end Cert.Proof

end
-- ==== Proof.InBDx.lean ====
/- The gradient of the second kind of layer's projected input, from the projection's two parts, against the reference's. -/
module

public import proofs.«01_k».proof.Defs
public import proofs.«01_k».proof.Proof.Gen.InBDx.Frame
public import proofs.«01_k».proof.Proof.Gen.InBDxIdeal.Frame
public import proofs.«01_k».proof.Proof.Gen.InBDxIdeal.Value
public import proofs.«01_k».proof.Proof.Gen.InBDxRefIdeal.Run
public import Idealize.ShloMosaic.Lib.Pipeline.ValueKit
public import Idealize.ShloMosaic.Lib.Pointwise

@[expose] public section

set_option maxRecDepth 16384

noncomputable section

namespace Ffn

open Idealize.ShloMosaic

/-- A column of each part of the projection. -/
def queryColumn (f : Fin 768) : Fin 1024 := ⟨f, by omega⟩
def memoryColumn (f : Fin 256) : Fin 1024 := ⟨768 + f, by omega⟩

/-- The gradient of the projection's input: each part's gradients against its columns of the projection. -/
def inBDx (w : (⟨2, ![1024, 1024]⟩ : Shape).Idx → EReal) (a : (⟨2, ![4096, 768]⟩ : Shape).Idx → EReal) (b : (⟨2, ![4096, 256]⟩ : Shape).Idx → EReal) (r : Fin 4096) (d : Fin 1024) : EReal :=
  (∑ k : Fin 768, a (ix2 r k) * w (ix2 d (queryColumn k))) + ∑ k : Fin 256, b (ix2 r k) * w (ix2 d (memoryColumn k))

end Ffn

namespace Cert.InBDxIdeal.Ffn

open Cert.InBDxIdeal Cert.InBDxIdeal.Gen Idealize.ShloMosaic Idealize.ShloMosaic.TcCoe Idealize.SL.Sem
open _root_.Ffn (inBDx queryColumn memoryColumn)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 3] := (by decide +kernel : ∀ t : Fin grid0.N, _)
theorem idx4 : ∀ t : Fin cfg0.N, win0_4.index t = ![t.val, 0] := (by decide +kernel : ∀ t : Fin grid0.N, _)

theorem lt4 (t : Fin cfg0.N) : t.val < 4 := t.isLt

/-- Row `i` of a grid point's row block. -/
def row (t : Fin cfg0.N) (i : Fin 1024) : Fin 4096 := ⟨1024 * t.val + i, by have := lt4 t; omega⟩

theorem product_at (a w : Vec Ideal S1024x768 .bf16) (b w' : Vec Ideal S1024x256 .bf16) (i j : Fin 1024) : k0_pay1 (F := Ideal) a w b w' (ix2 i j) =
      (∑ k : Fin 768, a (ix2 i k) * w (ix2 j k)) + ∑ k : Fin 256, b (ix2 i k) * w' (ix2 j k) := by
  pointwise [k0_pay1]

theorem product_congr {a a' w w' : Vec Ideal S1024x768 .bf16} {b b' v v' : Vec Ideal S1024x256 .bf16}
    (ha : a = a') (hw : w = w') (hb : b = b') (hv : v = v') : k0_pay1 (F := Ideal) a w b v = k0_pay1 a' w' b' v' := by
  subst ha hw hb hv
  rfl

variable (m : (ℓ : Loc nD τ sig) → Buf (Elt Ideal) ℓ) (c : Dev nD) (t : Fin cfg0.N)

theorem out_eq : outsAt0 m c t = k0_pay1 (F := Ideal) (iblk m c 0 t) (X0_2 m c t) (iblk m c 1 t) (iblk m c 3 t) := by
  unfold outsAt0 out0_A_4
  rw [View.read_writes_eq_canon _ _ _ (cover0_A_4 c _ _ _ _ _ _ _ _ _ _ _ _ _ _ _)]
  refine (View.canon_unit_zero (by funext a; fin_cases a <;> rfl) _ _).trans ?_
  refine product_congr ?_ ?_ ?_ ?_
  · exact (congrArg (fun x => View.ld x _) ((hs0_0 t).read_unread _)).trans (View.ld_unit_zero (by funext a; fin_cases a <;> rfl) _ _)
  · exact (congrArg (fun x => View.ld x _) ((hs0_2 t).read_unread _)).trans (View.ld_unit_zero (by funext a; fin_cases a <;> rfl) _ _)
  · exact (congrArg (fun x => View.ld x _) ((hs0_1 t).read_unread _)).trans (View.ld_unit_zero (by funext a; fin_cases a <;> rfl) _ _)
  · exact (congrArg (fun x => View.ld x _) ((hs0_3 t).read_unread _)).trans (View.ld_unit_zero (by funext a; fin_cases a <;> rfl) _ _)

theorem a_block (i : Fin 1024) (k : Fin 768) : iblk m c 0 t (ix2 i k) = (m ((c.tc : Thread nD τ).loc main_arg1)) (ix2 (row t i) k) := by
  blk_ext [iblk, V, idx0 t, row]

theorem b_block (i : Fin 1024) (k : Fin 256) : iblk m c 1 t (ix2 i k) = (m ((c.tc : Thread nD τ).loc main_arg2)) (ix2 (row t i) k) := by
  blk_ext [iblk, V, idx1 t, row]

theorem w_block0 (j : Fin 1024) (k : Fin 768) : X0_2 m c t (ix2 j k) = (m ((c.tc : Thread nD τ).loc main_arg0)) (ix2 j (queryColumn k)) := by
  unfold X0_2 Pipeline.Window.fill
  rw [dif_pos (moved0_2 t _)]
  blk_ext [iblk, V, idx2 t, queryColumn]

theorem w_block1 (j : Fin 1024) (k : Fin 256) : iblk m c 3 t (ix2 j k) = (m ((c.tc : Thread nD τ).loc main_arg0)) (ix2 j (memoryColumn k)) := by
  blk_ext [iblk, V, idx3 t, memoryColumn]

theorem emb4 (y : S1024x1024.Idx) : (win0_4.blk t).view.emb y = ix2 (row t (y 0)) (y 1) := by
  blk_ext [idx4 t, row]

theorem array : (dats m 0 c).arrAt 4 cfg0.N = fun y : S4096x1024.Idx => inBDx (m ((c.tc : Thread nD τ).loc main_arg0))
    (m ((c.tc : Thread nD τ).loc main_arg1)) (m ((c.tc : Thread nD τ).loc main_arg2)) (y 0) (y 1) := by
  refine (dats m 0 c).arrAt_eq_of_covers 4 _ (by decide +kernel) fun t hf y => ?_
  blk_simp
  rw [emb4, after0_4, out_eq]
  refine (congrArg _ (eq_ix2 y)).trans ((product_at _ _ _ _ _ _).trans ?_)
  exact congrArg₂ (· + ·)
    (Finset.sum_congr rfl fun k _ => congrArg₂ (· * ·) (a_block m c t _ _) (w_block0 m c t _ _))
    (Finset.sum_congr rfl fun k _ => congrArg₂ (· * ·) (b_block m c t _ _) (w_block1 m c t _ _))

end Cert.InBDxIdeal.Ffn

namespace Cert.InBDxRefIdeal.Ffn

open Cert.InBDxRefIdeal Cert.InBDxRefIdeal.Gen Idealize.ShloMosaic Idealize.ShloMosaic.TcCoe Idealize.SL.Sem
open _root_.Ffn (inBDx queryColumn memoryColumn)

/-- The parts' gradients, each padded to the projection's width, added. -/
def padded (a : FVec Ideal S4096x768 .bf16) (b : FVec Ideal S4096x256 .bf16) : FVec Ideal S4096x1024 .f32 :=
  addf (pad S4096x1024 ![0, 768] ![0, 0] ![0, 0] (extf .f32 b bitsLt_bf16_f32) (constant S_ .f32 0x00000000#32) pads_S4096x256_S4096x1024_000_76800 h_S_)
    (pad S4096x1024 ![0, 0] ![0, 256] ![0, 0] (extf .f32 a bitsLt_bf16_f32) (constant S_ .f32 0x00000000#32) pads_S4096x768_S4096x1024_000_02560 h_S_)

theorem padded_query (a : FVec Ideal S4096x768 .bf16) (b : FVec Ideal S4096x256 .bf16) (r : Fin 4096) (f : Fin 768) :
    padded a b (ix2 r (queryColumn f)) = a (ix2 r f) := by
  have hf := f.isLt
  unfold padded queryColumn
  pointwise []
  rw [dif_neg fun h => h.1, zero_add]

theorem padded_memory (a : FVec Ideal S4096x768 .bf16) (b : FVec Ideal S4096x256 .bf16) (r : Fin 4096) (f : Fin 256) :
    padded a b (ix2 r (memoryColumn f)) = b (ix2 r f) := by
  have hf := f.isLt
  unfold padded memoryColumn
  pointwise []

theorem dot_at (u : FVec Ideal S4096x1024 .f32) (w : FVec Ideal S1024x1024 .bf16) (r : Fin 4096) (d : Fin 1024) :
    (Host.dotGeneral dot_S4096x1024_S1024x1024_S4096x1024_1_1_0_0_n_n none u (extf .f32 w bitsLt_bf16_f32) : FVec Ideal S4096x1024 .f32) (ix2 r d)
      = ∑ k : Fin 1024, u (ix2 r k) * w (ix2 d k) := by
  pointwise []

theorem halves (f : Fin 1024 → EReal) : ∑ k, f k = (∑ k, f (queryColumn k)) + ∑ k, f (memoryColumn k) :=
  Fin.sum_univ_add (a := 768) (b := 256) f

theorem product_at (w : FVec Ideal S1024x1024 .bf16) (a : FVec Ideal S4096x768 .bf16) (b : FVec Ideal S4096x256 .bf16) (r : Fin 4096) (d : Fin 1024) :
    (Host.dotGeneral dot_S4096x1024_S1024x1024_S4096x1024_1_1_0_0_n_n none (padded a b) (extf .f32 w bitsLt_bf16_f32) :
      FVec Ideal S4096x1024 .f32) (ix2 r d) = inBDx w a b r d := by
  refine (dot_at _ w r d).trans ?_
  rw [halves, inBDx]
  simp only [padded_query, padded_memory]

end Cert.InBDxRefIdeal.Ffn

namespace Cert.Proof

open Idealize.ShloMosaic Idealize.SL.Sem

attribute [local instance] Cert.InBDx.Gen.facts Cert.InBDxIdeal.Gen.facts Cert.InBDxRefIdeal.Gen.facts

theorem frame_inBDx : Cert.quiescent_InBDx := fun m ρ _ => Cert.InBDx.Gen.frame m ρ
theorem frame_inBDxIdeal : Cert.quiescent_InBDxIdeal := fun m ρ _ => Cert.InBDxIdeal.Gen.frame m ρ

theorem frame_inBDxRefIdeal : Cert.quiescent_InBDxRefIdeal := fun m ρ _ =>
  (θ_run Cert.InBDxRefIdeal.defs _ _).mono
    (fun r hr => ⟨fun c => (hr c).2, sem_eq_zero_of_no_sems (by decide) r.2⟩) (Cert.InBDxRefIdeal.Value.run m ρ)

theorem preserves_inBDx : Cert.preserves_InBDx_InBDxIdeal := trivial

/-- Kernel and reference end with the same gradient of the projected input. -/
theorem algebraic_inBDx : Cert.algebraic_InBDxIdeal_InBDxRefIdeal := by
  intro m g m' g' _ hargs
  refine ⟨fun c y => _root_.Ffn.inBDx (m ((c.tc : Thread Cert.InBDxIdeal.nD Cert.InBDxIdeal.τ).loc Cert.InBDxIdeal.main_arg0)) (m ((c.tc : Thread Cert.InBDxIdeal.nD Cert.InBDxIdeal.τ).loc Cert.InBDxIdeal.main_arg1)) (m ((c.tc : Thread Cert.InBDxIdeal.nD Cert.InBDxIdeal.τ).loc Cert.InBDxIdeal.main_arg2))
    (y 0) (y 1), ?_, ?_⟩
  · exact (θ_run Cert.InBDxIdeal.defs _ _).mono (fun r hr c => ⟨(hr c).1.trans (Cert.InBDxIdeal.Ffn.array m c), (hr c).2⟩) (Cert.InBDxIdeal.Value.run_blocks m g)
  · refine (θ_run Cert.InBDxRefIdeal.defs _ _).mono (fun r hr c => ⟨(hr c).1.trans ?_, (hr c).2⟩) (Cert.InBDxRefIdeal.Value.run m' g')
    refine funext fun y => (congrArg _ (eq_ix2 y)).trans ((Cert.InBDxRefIdeal.Ffn.product_at _ _ _ (y 0) (y 1)).trans ?_)
    rw [(hargs c).1, (hargs c).2.1, (hargs c).2.2]

end Cert.Proof

end
-- ==== Proof.InBDw.lean ====
/- The gradient of the second kind of layer's input projection, written by two calls into the columns of one array, against the reference's. -/
module

public import proofs.«01_k».proof.Defs
public import proofs.«01_k».proof.Proof.Gen.InBDw.Frame
public import proofs.«01_k».proof.Proof.Gen.InBDwIdeal.Frame
public import proofs.«01_k».proof.Proof.Gen.InBDwRefIdeal.Run
public import Idealize.ShloMosaic.Lib.Pipeline.ValueKit
public import Idealize.ShloMosaic.Lib.Pointwise

@[expose] public section

set_option maxRecDepth 16384

noncomputable section

namespace Ffn

open Idealize.ShloMosaic

/-- Column `f` of the gradients of the projection's two parts side by side. -/
def twoParts (a : (⟨2, ![4096, 768]⟩ : Shape).Idx → EReal) (b : (⟨2, ![4096, 256]⟩ : Shape).Idx → EReal) (k : Fin 4096) (f : Fin 1024) : EReal :=
  if h : f.val < 768 then a (ix2 k ⟨f, h⟩) else b (ix2 k ⟨f - 768, by omega⟩)

/-- The gradient of the projection: each column of its input against each column of its parts' gradients, over the tokens. -/
def inBDw (h : (⟨2, ![4096, 1024]⟩ : Shape).Idx → EReal) (a : (⟨2, ![4096, 768]⟩ : Shape).Idx → EReal) (b : (⟨2, ![4096, 256]⟩ : Shape).Idx → EReal) (d f : Fin 1024) : EReal :=
  ∑ k : Fin 4096, h (ix2 k d) * twoParts a b k f

end Ffn

namespace Cert.InBDwIdeal.Ffn

open Cert.InBDwIdeal Cert.InBDwIdeal.Gen Idealize.ShloMosaic Idealize.ShloMosaic.TcCoe Idealize.SL.Sem
open _root_.Ffn (inBDw twoParts)

theorem idx0_0 : ∀ t : Fin cfg0.N, win0_0.index t = ![0, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0, 0] := (by decide +kernel : ∀ t : Fin grid0.N, _)
theorem idx1_0 : ∀ t : Fin cfg1.N, win1_0.index t = ![0, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 0, 3] := (by decide +kernel : ∀ t : Fin grid1.N, _)

/-- The column of the result that a column of each part makes. -/
def queryColumn' (f : Fin 768) : Fin 1024 := ⟨f, by omega⟩
def memoryColumn' (f : Fin 256) : Fin 1024 := ⟨768 + f, by omega⟩

theorem product0_at (a : Vec Ideal S4096x1024 .bf16) (b : Vec Ideal S4096x768 .bf16) (i : Fin 1024) (j : Fin 768) :
    k0_pay1 (F := Ideal) a b (ix3 0 i j) = ∑ k : Fin 4096, a (ix2 k i) * b (ix2 k j) := by
  pointwise [k0_pay1]

theorem product1_at (a : Vec Ideal S4096x1024 .bf16) (b : Vec Ideal S4096x256 .bf16) (i : Fin 1024) (j : Fin 256) :
    k1_pay1 (F := Ideal) a b (ix3 0 i j) = ∑ k : Fin 4096, a (ix2 k i) * b (ix2 k j) := by
  pointwise [k1_pay1]

theorem out0_eq (a : Vec Ideal S4096x1024 .bf16) (b : Vec Ideal S4096x768 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

theorem row_eq {a b : Nat} (y : (⟨3, ![1, a, b]⟩ : Shape).Idx) : y = ix3 0 (y 1) (y 2) := by
  funext a
  fin_cases a
  · exact Subsingleton.elim (α := Fin 1) _ _
  · rfl
  · rfl

variable (V : (c : Dev nD) → (b : Ref sig .tc) → Buf (Elt Ideal) ((c : Thread nD τ).loc b)) (c : Dev nD)

theorem out1_eq (t : Fin cfg1.N) : outsAt1 V c t = k1_pay1 (F := Ideal) (iblk1 V c 0 t) (iblk1 V c 1 t) := by
  unfold outsAt1 out1_A_2
  rw [View.read_writes_eq_canon _ _ _ (cover1_A_2 c _ _ _ _ _ _ _ _ _)]
  refine (View.canon_unit_zero (by funext a; fin_cases a <;> rfl) _ _).trans ?_
  refine congrArg₂ (k1_pay1 (F := Ideal)) ?_ ?_
  · exact (congrArg (fun x => View.ld x _) ((hs1_0 t).read_unread _)).trans (View.ld_unit_zero (by funext a; fin_cases a <;> rfl) _ _)
  · exact (congrArg (fun x => View.ld x _) ((hs1_1 t).read_unread _)).trans (View.ld_unit_zero (by funext a; fin_cases a <;> rfl) _ _)

theorem h_block0 (t : Fin cfg0.N) (k : Fin 4096) (i : Fin 1024) : iblk0 V c 0 t (ix2 k i) = V c main_arg0 (ix2 k i) := by
  blk_ext [iblk0, idx0_0 t]

theorem piece_block0 (t : Fin cfg0.N) (k : Fin 4096) (j : Fin 768) : iblk0 V c 1 t (ix2 k j) = V c main_arg1 (ix2 k j) := by
  blk_ext [iblk0, idx0_1 t]

theorem emb0 (t : Fin cfg0.N) (y : (win0_2.xblock (grid0.coords t)).Idx) : (win0_2.blk t).view.emb y = ix3 0 (win0_2.xinj _ y 1) (queryColumn' (win0_2.xinj _ y 2)) := by
  blk_ext [idx0_2 t, queryColumn']

theorem h_block1 (t : Fin cfg1.N) (k : Fin 4096) (i : Fin 1024) : iblk1 V c 0 t (ix2 k i) = V c main_arg0 (ix2 k i) := by
  blk_ext [iblk1, idx1_0 t]

theorem piece_block1 (t : Fin cfg1.N) (k : Fin 4096) (j : Fin 256) : iblk1 V c 1 t (ix2 k j) = V c main_arg2 (ix2 k j) := by
  blk_ext [iblk1, idx1_1 t]

theorem emb1 (t : Fin cfg1.N) (y : S1x1024x256.Idx) : (win1_2.blk t).view.emb y = ix3 0 (y 1) (memoryColumn' (y 2)) := by
  blk_ext [idx1_2 t, memoryColumn']

theorem side0 (a : (⟨2, ![4096, 768]⟩ : Shape).Idx → EReal) (b : (⟨2, ![4096, 256]⟩ : Shape).Idx → EReal) (k : Fin 4096) (f : Fin 768) : twoParts a b k (queryColumn' f) = a (ix2 k f) := by
  rw [twoParts, dif_pos (by simp only [queryColumn']; omega)]
  rfl

theorem side1 (a : (⟨2, ![4096, 768]⟩ : Shape).Idx → EReal) (b : (⟨2, ![4096, 256]⟩ : Shape).Idx → EReal) (k : Fin 4096) (f : Fin 256) : twoParts a b k (memoryColumn' f) = b (ix2 k f) := by
  rw [twoParts, dif_neg (by simp only [memoryColumn']; omega)]
  exact congrArg (fun f => b (ix2 k f)) (Fin.ext (by simp only [memoryColumn']; omega))

/-! ## The array after each call -/

/-- The first call leaves the first part's columns of the result. -/
theorem array0 (y : S1x1024x1024.Idx) (hy : (y 2).val < 768) : (dat0 V c).arrAt 2 cfg0.N y = inBDw (V c main_arg0) (V c main_arg1) (V c main_arg2) (y 1) (y 2) := by
  have e := (dat0 V c).arrAt_apply_of_coversWhere 2
    (fun y : S1x1024x1024.Idx => inBDw (V c main_arg0) (V c main_arg1) (V c main_arg2) (y 1) (y 2))
    (P := fun y : S1x1024x1024.Idx => (y 2).val / 768 < 1) (fun β => β (2 : Fin 3) < 1) (by decide +kernel) (fun t hf y => by
      blk_simp
      rw [emb0, after0_2, out0_eq]
      refine (congrArg _ (row_eq (win0_2.xinj _ y))).trans ((product0_at _ _ _ _).trans ?_)
      exact Finset.sum_congr rfl fun k _ => congrArg₂ (· * ·) (h_block0 V c t _ _) ((piece_block0 V c t _ _).trans (side0 _ _ _ _).symm))
    (fun j => Iff.rfl) y
  exact e.trans (if_pos (c := (y 2).val / 768 < 1) (by omega))

/-- The second call, where it finds those in place, leaves the whole result. -/
theorem array1 (h0 : ∀ y : S1x1024x1024.Idx, (y 2).val < 768 → V c main_v1 y = inBDw (V c main_arg0) (V c main_arg1) (V c main_arg2) (y 1) (y 2)) :
    (dat1 V c).arrAt 2 cfg1.N = fun y : S1x1024x1024.Idx => inBDw (V c main_arg0) (V c main_arg1) (V c main_arg2) (y 1) (y 2) := by
  refine (dat1 V c).arrAt_eq_of_coversWhere_of_agree 2 _ (fun β => 3 ≤ β (2 : Fin 3)) (by decide +kernel) (fun t hf y => ?_) fun j hj => ?_
  · blk_simp
    rw [emb1, after1_2, out1_eq]
    refine (congrArg _ (row_eq y)).trans ((product1_at _ _ _ _).trans ?_)
    exact Finset.sum_congr rfl fun k _ => congrArg₂ (· * ·) (h_block1 V c t _ _) ((piece_block1 V c t _ _).trans (side1 _ _ _ _).symm)
  · have hj' : ¬3 ≤ (j (2 : Fin 3)).val / 256 := hj
    exact h0 j (by omega)

/-! ## The launch -/

variable (m : (ℓ : Loc nD τ sig) → Buf (Elt Ideal) ℓ) (ρ : Dev nD → PrngReg)

/-- The first part's columns, as the second call finds them. -/
theorem found (c : Dev nD) (y : S1x1024x1024.Idx) (hy : (y 2).val < 768) : V2 m ρ c main_v1 y = inBDw (m ((c.tc : Thread nD τ).loc main_arg0)) (m ((c.tc : Thread nD τ).loc main_arg1)) (m ((c.tc : Thread nD τ).loc main_arg2)) (y 1) (y 2) := by
  refine Eq.trans ?_ (array0 (V0 m ρ) c y hy)
  refine Eq.trans ?_ (congrFun (W1_arr m ρ c 2) y)
  show StableHlo.after hostOps1 (W1 m ρ c) (Proc.devRef .tc main_v1) y = _
  refine congrFun ?_ y
  after_results
  rfl

/-- The result of `main`, from the arguments. -/
theorem result (c : Dev nD) : W3 m ρ c (Proc.devRef .tc main_v1) = fun y : S1x1024x1024.Idx => inBDw (m ((c.tc : Thread nD τ).loc main_arg0)) (m ((c.tc : Thread nD τ).loc main_arg1)) (m ((c.tc : Thread nD τ).loc main_arg2)) (y 1) (y 2) := by
  have e := array1 (V2 m ρ) c fun y hy => by
    rw [show V2 m ρ c main_arg0 = _ from W2_args m ρ c main_arg0 (by decide), show V2 m ρ c main_arg1 = _ from W2_args m ρ c main_arg1 (by decide), show V2 m ρ c main_arg2 = _ from W2_args m ρ c main_arg2 (by decide)]
    exact found m ρ c y hy
  rw [show V2 m ρ c main_arg0 = _ from W2_args m ρ c main_arg0 (by decide), show V2 m ρ c main_arg1 = _ from W2_args m ρ c main_arg1 (by decide), show V2 m ρ c main_arg2 = _ from W2_args m ρ c main_arg2 (by decide)] at e
  exact (W3_arr m ρ c 2).trans e

open Idealize.SL Idealize.SL.RA Idealize.SL.BI Idealize.SL.BI.BIBase Idealize.SL.BI.Laws Idealize.SL.ProofMode
open Idealize.ShloMosaic.Rounds Idealize.ShloMosaic.Tactic
open scoped Idealize.SL.BI

/-- The resources the launch is stated over. -/
abbrev Res : Type := MT nD τ sig Unit (Elt Ideal) ℕ (UR sig nD τ) ℕ

set_option backward.isDefEq.respectTransparency.types false in
/-- `main` ends with that result, and with its arguments as they were. -/
theorem run : θ_run defs (onTc (τ := τ) (main (F := Ideal))) ⟨m, fun _ => 0, ρ⟩ fun r => ∀ c : Dev nD,
      r.2.mem ((c.tc : Thread nD τ).loc main_v1) = (fun y : S1x1024x1024.Idx => inBDw (m ((c.tc : Thread nD τ).loc main_arg0)) (m ((c.tc : Thread nD τ).loc main_arg1)) (m ((c.tc : Thread nD τ).loc main_arg2)) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => ⟨(h c _ (mem_uc main_v1 (by decide))).trans (result m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c)⟩)

end Cert.InBDwIdeal.Ffn

namespace Cert.InBDwRefIdeal.Ffn

open Cert.InBDwRefIdeal Cert.InBDwRefIdeal.Gen Idealize.ShloMosaic Idealize.ShloMosaic.TcCoe Idealize.SL.Sem
open _root_.Ffn (inBDw twoParts)

/-- The parts' gradients, each padded to the projection's width, added. -/
def padded (a : FVec Ideal S4096x768 .bf16) (b : FVec Ideal S4096x256 .bf16) : FVec Ideal S4096x1024 .f32 :=
  addf (pad S4096x1024 ![0, 768] ![0, 0] ![0, 0] (extf .f32 b bitsLt_bf16_f32) (constant S_ .f32 0x00000000#32) pads_S4096x256_S4096x1024_000_76800 h_S_)
    (pad S4096x1024 ![0, 0] ![0, 256] ![0, 0] (extf .f32 a bitsLt_bf16_f32) (constant S_ .f32 0x00000000#32) pads_S4096x768_S4096x1024_000_02560 h_S_)

theorem padded_at (a : FVec Ideal S4096x768 .bf16) (b : FVec Ideal S4096x256 .bf16) (k : Fin 4096) (f : Fin 1024) :
    padded a b (ix2 k f) = twoParts a b k f := by
  have hf := f.isLt
  unfold padded twoParts
  pointwise []
  by_cases h : f.val < 768
  · rw [dif_neg (by omega), dif_pos h, dif_pos h, zero_add]
  · rw [dif_pos (by omega), dif_neg h, dif_neg h, add_zero]

theorem dot_at (u : FVec Ideal S4096x1024 .f32) (h : FVec Ideal S4096x1024 .bf16) (o : Fin 1) (d f : Fin 1024) :
    (broadcastInDim S1x1024x1024 ![1, 2] bcast_S1024x1024_S1x1024x1024_1_2 (truncf .bf16 (transpose S1024x1024 [1, 0]
      (Host.dotGeneral dot_S4096x1024_S4096x1024_S1024x1024_0_0_1_1_n_n none u (extf .f32 h bitsLt_bf16_f32) :
      FVec Ideal S1024x1024 .f32) transposes_S1024x1024_S1024x1024_1_0) bitsLt_bf16_f32) :
      FVec Ideal S1x1024x1024 .bf16) (ix3 o d f) = ∑ k : Fin 4096, u (ix2 k f) * h (ix2 k d) := by
  pointwise []

theorem product_at (h : FVec Ideal S4096x1024 .bf16) (a : FVec Ideal S4096x768 .bf16) (b : FVec Ideal S4096x256 .bf16) (o : Fin 1) (d f : Fin 1024) :
    (broadcastInDim S1x1024x1024 ![1, 2] bcast_S1024x1024_S1x1024x1024_1_2 (truncf .bf16 (transpose S1024x1024 [1, 0]
      (Host.dotGeneral dot_S4096x1024_S4096x1024_S1024x1024_0_0_1_1_n_n none (padded a b) (extf .f32 h bitsLt_bf16_f32) :
      FVec Ideal S1024x1024 .f32) transposes_S1024x1024_S1024x1024_1_0) bitsLt_bf16_f32) :
      FVec Ideal S1x1024x1024 .bf16) (ix3 o d f) = inBDw h a b d f := by
  refine (dot_at _ h o d f).trans ?_
  unfold inBDw
  exact Finset.sum_congr rfl fun k _ => (mul_comm _ _).trans (congrArg (_ * ·) (padded_at a b k f))

end Cert.InBDwRefIdeal.Ffn

namespace Cert.Proof

open Idealize.ShloMosaic Idealize.SL.Sem

attribute [local instance] Cert.InBDw.Gen.facts Cert.InBDwIdeal.Gen.facts Cert.InBDwRefIdeal.Gen.facts

theorem frame_inBDw : Cert.quiescent_InBDw := fun m ρ _ => Cert.InBDw.Gen.frame m ρ
theorem frame_inBDwIdeal : Cert.quiescent_InBDwIdeal := fun m ρ _ => Cert.InBDwIdeal.Gen.frame m ρ

theorem frame_inBDwRefIdeal : Cert.quiescent_InBDwRefIdeal := fun m ρ _ =>
  (θ_run Cert.InBDwRefIdeal.defs _ _).mono
    (fun r hr => ⟨fun c => (hr c).2, sem_eq_zero_of_no_sems (by decide) r.2⟩) (Cert.InBDwRefIdeal.Value.run m ρ)

theorem preserves_inBDw : Cert.preserves_InBDw_InBDwIdeal := trivial

/-- Kernel and reference end with the same gradient of the input projection. -/
theorem algebraic_inBDw : Cert.algebraic_InBDwIdeal_InBDwRefIdeal := by
  intro m g m' g' _ hargs
  refine ⟨fun c y => _root_.Ffn.inBDw (m ((c.tc : Thread Cert.InBDwIdeal.nD Cert.InBDwIdeal.τ).loc Cert.InBDwIdeal.main_arg0)) (m ((c.tc : Thread Cert.InBDwIdeal.nD Cert.InBDwIdeal.τ).loc Cert.InBDwIdeal.main_arg1)) (m ((c.tc : Thread Cert.InBDwIdeal.nD Cert.InBDwIdeal.τ).loc Cert.InBDwIdeal.main_arg2))
    (y 1) (y 2), Cert.InBDwIdeal.Ffn.run m g, ?_⟩
  refine (θ_run Cert.InBDwRefIdeal.defs _ _).mono (fun r hr c => ⟨(hr c).1.trans ?_, (hr c).2⟩) (Cert.InBDwRefIdeal.Value.run m' g')
  refine funext fun y => (congrArg _ (eq_ix3 y)).trans ((Cert.InBDwRefIdeal.Ffn.product_at _ _ _ (y 0) (y 1) (y 2)).trans ?_)
  rw [(hargs c).1, (hargs c).2.1, (hargs c).2.2]

end Cert.Proof

end
-- ==== Proof.Gates.lean ====
/- The gradients of the recurrence's gate projections, of their input and of both weights, against the reference's. -/
module

public import proofs.«01_k».proof.Defs
public import proofs.«01_k».proof.Proof.Gen.Gates.Frame
public import proofs.«01_k».proof.Proof.Gen.GatesIdeal.Frame
public import proofs.«01_k».proof.Proof.Gen.GatesRefIdeal.Run
public import Idealize.ShloMosaic.Lib.Pipeline.ValueKit
public import Idealize.ShloMosaic.Lib.Pointwise

@[expose] public section

set_option maxRecDepth 16384

noncomputable section

namespace Ffn

open Idealize.ShloMosaic

/-- A column of the first gate's half and of the second gate's half of the weights. -/
def firstGate (f : Fin 768) : Fin 1536 := ⟨f, by omega⟩
def secondGate (f : Fin 768) : Fin 1536 := ⟨768 + f, by omega⟩

/-- The gradient of the gates' input: what comes from elsewhere, plus each gate's gradients against its half of the weights. -/
def gatesDx (w : (⟨2, ![768, 1536]⟩ : Shape).Idx → EReal) (dr di dx : (⟨2, ![4096, 768]⟩ : Shape).Idx → EReal) (r : Fin 4096) (d : Fin 768) : EReal :=
  dx (ix2 r d) + (∑ k : Fin 768, dr (ix2 r k) * w (ix2 d (firstGate k))) + ∑ k : Fin 768, di (ix2 r k) * w (ix2 d (secondGate k))

/-- The gradient of a gate's weight: each column of the input against each column of the gate's gradients, over the tokens. -/
def gatesDw (x dg : (⟨2, ![4096, 768]⟩ : Shape).Idx → EReal) (d f : Fin 768) : EReal := ∑ k : Fin 4096, x (ix2 k d) * dg (ix2 k f)

end Ffn

namespace Cert.GatesIdeal.Ffn

open Cert.GatesIdeal Cert.GatesIdeal.Gen Idealize.ShloMosaic Idealize.ShloMosaic.TcCoe Idealize.SL.Sem
open _root_.Ffn (gatesDx gatesDw firstGate secondGate)

theorem idx0_0 : ∀ t : Fin cfg0.N, win0_0.index t = ![0, t.val] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0] := (by decide +kernel : ∀ t : Fin grid0.N, _)
theorem idx1_0 : ∀ t : Fin cfg1.N, win1_0.index t = ![0, t.val] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![t.val, 0] := (by decide +kernel : ∀ t : Fin grid1.N, _)
theorem idx2_0 : ∀ t : Fin cfg2.N, win2_0.index t = ![t.val, 0] := (by decide +kernel : ∀ t : Fin grid2.N, _)
theorem idx2_1 : ∀ t : Fin cfg2.N, win2_1.index t = ![t.val, 0] := (by decide +kernel : ∀ t : Fin grid2.N, _)
theorem idx2_2 : ∀ t : Fin cfg2.N, win2_2.index t = ![0, 0] := (by decide +kernel : ∀ t : Fin grid2.N, _)
theorem idx2_3 : ∀ t : Fin cfg2.N, win2_3.index t = ![0, 1] := (by decide +kernel : ∀ t : Fin grid2.N, _)
theorem idx2_4 : ∀ t : Fin cfg2.N, win2_4.index t = ![t.val, 0] := (by decide +kernel : ∀ t : Fin grid2.N, _)
theorem idx2_5 : ∀ t : Fin cfg2.N, win2_5.index t = ![t.val, 0] := (by decide +kernel : ∀ t : Fin grid2.N, _)

theorem lt0 (t : Fin cfg0.N) : t.val < 3 := t.isLt
theorem lt1 (t : Fin cfg1.N) : t.val < 3 := t.isLt
theorem lt2 (t : Fin cfg2.N) : t.val < 4 := t.isLt

/-- Column `i` of a grid point's block of the input. -/
def col0 (t : Fin cfg0.N) (i : Fin 256) : Fin 768 := ⟨256 * t.val + i, by have := lt0 t; omega⟩
def col1 (t : Fin cfg1.N) (i : Fin 256) : Fin 768 := ⟨256 * t.val + i, by have := lt1 t; omega⟩

/-- Row `i` of a grid point's row block. -/
def row (t : Fin cfg2.N) (i : Fin 1024) : Fin 4096 := ⟨1024 * t.val + i, by have := lt2 t; omega⟩

theorem product0_at (a : Vec Ideal S4096x256 .f32) (b : Vec Ideal S4096x768 .bf16) (i : Fin 256) (j : Fin 768) :
    k0_pay1 (F := Ideal) a b (ix2 i j) = ∑ k : Fin 4096, a (ix2 k i) * b (ix2 k j) := by
  pointwise [k0_pay1]

theorem out0_eq (a : Vec Ideal S4096x256 .f32) (b : Vec Ideal S4096x768 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

theorem product1_at (a : Vec Ideal S4096x256 .f32) (b : Vec Ideal S4096x768 .bf16) (i : Fin 256) (j : Fin 768) :
    k1_pay1 (F := Ideal) a b (ix2 i j) = ∑ k : Fin 4096, a (ix2 k i) * b (ix2 k j) := by
  pointwise [k1_pay1]

theorem out1_eq (a : Vec Ideal S4096x256 .f32) (b : Vec Ideal S4096x768 .bf16) : out1_2 a b = k1_pay1 a b := by
  unfold out1_2
  rw [View.canon_unit_zero (by funext a; fin_cases a <;> rfl), View.ld_unit_zero (by funext a; fin_cases a <;> rfl),
    View.ld_unit_zero (by funext a; fin_cases a <;> rfl)]

theorem product2_at (x : Vec Ideal S1024x768 .f32) (a : Vec Ideal S1024x768 .bf16) (w : Vec Ideal S768x768 .bf16) (a' : Vec Ideal S1024x768 .bf16)
    (w' : Vec Ideal S768x768 .bf16) (i : Fin 1024) (j : Fin 768) : k2_pay1 (F := Ideal) x a w a' w' (ix2 i j) =
      x (ix2 i j) + (∑ k : Fin 768, a (ix2 i k) * w (ix2 j k)) + ∑ k : Fin 768, a' (ix2 i k) * w' (ix2 j k) := by
  pointwise [k2_pay1]

theorem out2_eq (a a' : Vec Ideal S1024x768 .bf16) (w w' : Vec Ideal S768x768 .bf16) (x : Vec Ideal S1024x768 .f32) :
    out2_5 a a' w w' x = k2_pay1 x a w a' w' := by
  unfold out2_5
  rw [View.canon_unit_zero (by funext a; fin_cases a <;> rfl), View.ld_unit_zero (by funext a; fin_cases a <;> rfl),
    View.ld_unit_zero (by funext a; fin_cases a <;> rfl), View.ld_unit_zero (by funext a; fin_cases a <;> rfl),
    View.ld_unit_zero (by funext a; fin_cases a <;> rfl), View.ld_unit_zero (by funext a; fin_cases a <;> rfl)]

variable (V : (c : Dev nD) → (b : Ref sig .tc) → Buf (Elt Ideal) ((c : Thread nD τ).loc b)) (c : Dev nD)

theorem x_block0 (t : Fin cfg0.N) (k : Fin 4096) (i : Fin 256) : iblk0 V c 0 t (ix2 k i) = V c main_arg0 (ix2 k (col0 t i)) := by
  blk_ext [iblk0, idx0_0 t, col0]

theorem gate_block0 (t : Fin cfg0.N) (k : Fin 4096) (j : Fin 768) : iblk0 V c 1 t (ix2 k j) = V c main_arg2 (ix2 k j) := by
  blk_ext [iblk0, idx0_1 t]

theorem emb0 (t : Fin cfg0.N) (y : S256x768.Idx) : (win0_2.blk t).view.emb y = ix2 (col0 t (y 0)) (y 1) := by
  blk_ext [idx0_2 t, col0]

theorem array0 : (dat0 V c).arrAt 2 cfg0.N = fun y : S768x768.Idx => gatesDw (V c main_arg0) (V c main_arg2) (y 0) (y 1) := by
  refine (dat0 V c).arrAt_eq_of_covers 2 _ (by decide +kernel) fun t hf y => ?_
  blk_simp
  rw [emb0, after0_2, out0_eq]
  refine (congrArg _ (eq_ix2 y)).trans ((product0_at _ _ _ _).trans ?_)
  exact Finset.sum_congr rfl fun k _ => congrArg₂ (· * ·) (x_block0 V c t _ _) (gate_block0 V c t _ _)

theorem x_block1 (t : Fin cfg1.N) (k : Fin 4096) (i : Fin 256) : iblk1 V c 0 t (ix2 k i) = V c main_arg0 (ix2 k (col1 t i)) := by
  blk_ext [iblk1, idx1_0 t, col1]

theorem gate_block1 (t : Fin cfg1.N) (k : Fin 4096) (j : Fin 768) : iblk1 V c 1 t (ix2 k j) = V c main_arg3 (ix2 k j) := by
  blk_ext [iblk1, idx1_1 t]

theorem emb1 (t : Fin cfg1.N) (y : S256x768.Idx) : (win1_2.blk t).view.emb y = ix2 (col1 t (y 0)) (y 1) := by
  blk_ext [idx1_2 t, col1]

theorem array1 : (dat1 V c).arrAt 2 cfg1.N = fun y : S768x768.Idx => gatesDw (V c main_arg0) (V c main_arg3) (y 0) (y 1) := by
  refine (dat1 V c).arrAt_eq_of_covers 2 _ (by decide +kernel) fun t hf y => ?_
  blk_simp
  rw [emb1, after1_2, out1_eq]
  refine (congrArg _ (eq_ix2 y)).trans ((product1_at _ _ _ _).trans ?_)
  exact Finset.sum_congr rfl fun k _ => congrArg₂ (· * ·) (x_block1 V c t _ _) (gate_block1 V c t _ _)

theorem dr_block (t : Fin cfg2.N) (i : Fin 1024) (k : Fin 768) : iblk2 V c 0 t (ix2 i k) = V c main_arg2 (ix2 (row t i) k) := by
  blk_ext [iblk2, idx2_0 t, row]

theorem di_block (t : Fin cfg2.N) (i : Fin 1024) (k : Fin 768) : iblk2 V c 1 t (ix2 i k) = V c main_arg3 (ix2 (row t i) k) := by
  blk_ext [iblk2, idx2_1 t, row]

theorem dx_block (t : Fin cfg2.N) (i : Fin 1024) (k : Fin 768) : iblk2 V c 4 t (ix2 i k) = V c main_arg4 (ix2 (row t i) k) := by
  blk_ext [iblk2, idx2_4 t, row]

theorem firstGate_block (t : Fin cfg2.N) (i k : Fin 768) : iblk2 V c 2 t (ix2 i k) = V c main_arg1 (ix2 i (firstGate k)) := by
  blk_ext [iblk2, idx2_2 t, firstGate]

theorem secondGate_block (t : Fin cfg2.N) (i k : Fin 768) : iblk2 V c 3 t (ix2 i k) = V c main_arg1 (ix2 i (secondGate k)) := by
  blk_ext [iblk2, idx2_3 t, secondGate]

theorem emb2 (t : Fin cfg2.N) (y : S1024x768.Idx) : (win2_5.blk t).view.emb y = ix2 (row t (y 0)) (y 1) := by
  blk_ext [idx2_5 t, row]

theorem array2 : (dat2 V c).arrAt 5 cfg2.N =
    fun y : S4096x768.Idx => gatesDx (V c main_arg1) (V c main_arg2) (V c main_arg3) (V c main_arg4) (y 0) (y 1) := by
  refine (dat2 V c).arrAt_eq_of_covers 5 _ (by decide +kernel) fun t hf y => ?_
  blk_simp
  rw [emb2, after2_5, out2_eq]
  refine (congrArg _ (eq_ix2 y)).trans ((product2_at _ _ _ _ _ _ _).trans ?_)
  exact congrArg₂ (· + ·) (congrArg₂ (· + ·) (dx_block V c t _ _)
      (Finset.sum_congr rfl fun k _ => congrArg₂ (· * ·) (dr_block V c t _ _) (firstGate_block V c t _ _)))
    (Finset.sum_congr rfl fun k _ => congrArg₂ (· * ·) (di_block V c t _ _) (secondGate_block V c t _ _))

/-! ## The launch -/

variable (m : (ℓ : Loc nD τ sig) → Buf (Elt Ideal) ℓ) (ρ : Dev nD → PrngReg)

theorem result_dx (c : Dev nD) : W3 m ρ c (Proc.devRef .tc main_v2) = fun y : S4096x768.Idx => gatesDx (m ((c.tc : Thread nD τ).loc main_arg1)) (m ((c.tc : Thread nD τ).loc main_arg2)) (m ((c.tc : Thread nD τ).loc main_arg3)) (m ((c.tc : Thread nD τ).loc main_arg4)) (y 0) (y 1) := by
  refine (W3_arr m ρ c 5).trans ((array2 (V2 m ρ) c).trans ?_)
  rw [show V2 m ρ c main_arg1 = _ from W2_args m ρ c main_arg1 (by decide), show V2 m ρ c main_arg2 = _ from W2_args m ρ c main_arg2 (by decide), show V2 m ρ c main_arg3 = _ from W2_args m ρ c main_arg3 (by decide), show V2 m ρ c main_arg4 = _ from W2_args m ρ c main_arg4 (by decide)]

theorem result_first (c : Dev nD) : W3 m ρ c (Proc.devRef .tc main_v0) = fun y : S768x768.Idx => gatesDw (m ((c.tc : Thread nD τ).loc main_arg0)) (m ((c.tc : Thread nD τ).loc main_arg2)) (y 0) (y 1) :=
  (W3_of m ρ c main_v0 (by decide +kernel)).trans ((W2_of m ρ c main_v0 (by decide +kernel)).trans ((W1_arr m ρ c 2).trans (array0 (V0 m ρ) c)))

theorem result_second (c : Dev nD) : W3 m ρ c (Proc.devRef .tc main_v1) = fun y : S768x768.Idx => gatesDw (m ((c.tc : Thread nD τ).loc main_arg0)) (m ((c.tc : Thread nD τ).loc main_arg3)) (y 0) (y 1) := by
  refine (W3_of m ρ c main_v1 (by decide +kernel)).trans ((W2_arr m ρ c 2).trans ((array1 (V1 m ρ) c).trans ?_))
  rw [show V1 m ρ c main_arg0 = _ from W1_args m ρ c main_arg0 (by decide), show V1 m ρ c main_arg3 = _ from W1_args m ρ c main_arg3 (by decide)]

open Idealize.SL Idealize.SL.RA Idealize.SL.BI Idealize.SL.BI.BIBase Idealize.SL.BI.Laws Idealize.SL.ProofMode
open Idealize.ShloMosaic.Rounds Idealize.ShloMosaic.Tactic
open scoped Idealize.SL.BI

/-- The resources the launch is stated over. -/
abbrev Res : Type := MT nD τ sig Unit (Elt Ideal) ℕ (UR sig nD τ) ℕ

set_option backward.isDefEq.respectTransparency.types false in
/-- `main` ends with those results, and with its arguments as they were. -/
theorem run : θ_run defs (onTc (τ := τ) (main (F := Ideal))) ⟨m, fun _ => 0, ρ⟩ fun r => ∀ c : Dev nD,
      r.2.mem ((c.tc : Thread nD τ).loc main_v2) = (fun y : S4096x768.Idx => gatesDx (m ((c.tc : Thread nD τ).loc main_arg1)) (m ((c.tc : Thread nD τ).loc main_arg2)) (m ((c.tc : Thread nD τ).loc main_arg3)) (m ((c.tc : Thread nD τ).loc main_arg4)) (y 0) (y 1))
      ∧ r.2.mem ((c.tc : Thread nD τ).loc main_v0) = (fun y : S768x768.Idx => gatesDw (m ((c.tc : Thread nD τ).loc main_arg0)) (m ((c.tc : Thread nD τ).loc main_arg2)) (y 0) (y 1))
      ∧ r.2.mem ((c.tc : Thread nD τ).loc main_v1) = (fun y : S768x768.Idx => gatesDw (m ((c.tc : Thread nD τ).loc main_arg0)) (m ((c.tc : Thread nD τ).loc main_arg3)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => ⟨(h c _ (mem_uc main_v2 (by decide))).trans (result_dx m ρ c),
      (h c _ (mem_uc main_v0 (by decide))).trans (result_first m ρ c),
      (h c _ (mem_uc main_v1 (by decide))).trans (result_second m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c)⟩)

end Cert.GatesIdeal.Ffn

namespace Cert.GatesRefIdeal.Ffn

open Cert.GatesRefIdeal Cert.GatesRefIdeal.Gen Idealize.ShloMosaic Idealize.ShloMosaic.TcCoe Idealize.SL.Sem
open _root_.Ffn (gatesDx gatesDw firstGate secondGate)

theorem dx_at (w : FVec Ideal S768x1536 .bf16) (dr di : FVec Ideal S4096x768 .bf16) (dx : FVec Ideal S4096x768 .f32) (r : Fin 4096) (d : Fin 768) :
    (addf (addf dx (Host.dotGeneral dot_S4096x768_S768x768_S4096x768_1_1_0_0_n_n none (extf .f32 di bitsLt_bf16_f32)
        (extractStridedSlice S768x768 ![0, 768] (extf .f32 w bitsLt_bf16_f32) slices_S768x1536_S768x768_0_768)))
      (Host.dotGeneral dot_S4096x768_S768x768_S4096x768_1_1_0_0_n_n none (extf .f32 dr bitsLt_bf16_f32)
        (extractStridedSlice S768x768 ![0, 0] (extf .f32 w bitsLt_bf16_f32) slices_S768x1536_S768x768_0_0)) : FVec Ideal S4096x768 .f32) (ix2 r d)
      = gatesDx w dr di dx r d := by
  unfold gatesDx
  rw [add_right_comm]
  unfold firstGate secondGate
  pointwise []

theorem dw_at (x : FVec Ideal S4096x768 .f32) (u : FVec Ideal S4096x768 .bf16) (d f : Fin 768) :
    (transpose S768x768 [1, 0] (Host.dotGeneral dot_S4096x768_S4096x768_S768x768_0_0_1_1_n_n none (extf .f32 u bitsLt_bf16_f32) x :
      FVec Ideal S768x768 .f32) transposes_S768x768_S768x768_1_0 : FVec Ideal S768x768 .f32) (ix2 d f) = gatesDw x u d f := by
  unfold gatesDw
  refine Eq.trans (b := ∑ k : Fin 4096, u (ix2 k f) * x (ix2 k d)) ?_ (Finset.sum_congr rfl fun k _ => mul_comm _ _)
  pointwise []

end Cert.GatesRefIdeal.Ffn

namespace Cert.Proof

open Idealize.ShloMosaic Idealize.SL.Sem

attribute [local instance] Cert.Gates.Gen.facts Cert.GatesIdeal.Gen.facts Cert.GatesRefIdeal.Gen.facts

theorem frame_gates : Cert.quiescent_Gates := fun m ρ _ => Cert.Gates.Gen.frame m ρ
theorem frame_gatesIdeal : Cert.quiescent_GatesIdeal := fun m ρ _ => Cert.GatesIdeal.Gen.frame m ρ

theorem frame_gatesRefIdeal : Cert.quiescent_GatesRefIdeal := fun m ρ _ =>
  (θ_run Cert.GatesRefIdeal.defs _ _).mono
    (fun r hr => ⟨fun c => (hr c).2.2.2, sem_eq_zero_of_no_sems (by decide) r.2⟩) (Cert.GatesRefIdeal.Value.run m ρ)

theorem preserves_gates : Cert.preserves_Gates_GatesIdeal := trivial

/-- Kernel and reference end with the same gradients of the gate projections. -/
theorem algebraic_gates : Cert.algebraic_GatesIdeal_GatesRefIdeal := by
  intro m g m' g' _ hargs
  refine ⟨fun c y => _root_.Ffn.gatesDx (m ((c.tc : Thread Cert.GatesIdeal.nD Cert.GatesIdeal.τ).loc Cert.GatesIdeal.main_arg1)) (m ((c.tc : Thread Cert.GatesIdeal.nD Cert.GatesIdeal.τ).loc Cert.GatesIdeal.main_arg2))
      (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (y 0) (y 1),
    fun c y => _root_.Ffn.gatesDw (m ((c.tc : Thread Cert.GatesIdeal.nD Cert.GatesIdeal.τ).loc Cert.GatesIdeal.main_arg0)) (m ((c.tc : Thread Cert.GatesIdeal.nD Cert.GatesIdeal.τ).loc Cert.GatesIdeal.main_arg2)) (y 0) (y 1),
    fun c y => _root_.Ffn.gatesDw (m ((c.tc : Thread Cert.GatesIdeal.nD Cert.GatesIdeal.τ).loc Cert.GatesIdeal.main_arg0)) (m ((c.tc : Thread Cert.GatesIdeal.nD Cert.GatesIdeal.τ).loc Cert.GatesIdeal.main_arg3)) (y 0) (y 1),
    Cert.GatesIdeal.Ffn.run m g, ?_⟩
  refine (θ_run Cert.GatesRefIdeal.defs _ _).mono
    (fun r hr c => ⟨(hr c).1.trans ?_, (hr c).2.1.trans ?_, (hr c).2.2.1.trans ?_, (hr c).2.2.2⟩) (Cert.GatesRefIdeal.Value.run m' g')
  · refine funext fun y => (congrArg _ (eq_ix2 y)).trans ((Cert.GatesRefIdeal.Ffn.dx_at _ _ _ _ (y 0) (y 1)).trans ?_)
    rw [(hargs c).2.1, (hargs c).2.2.1, (hargs c).2.2.2.1, (hargs c).2.2.2.2]
  · refine funext fun y => (congrArg _ (eq_ix2 y)).trans ((Cert.GatesRefIdeal.Ffn.dw_at _ _ (y 0) (y 1)).trans ?_)
    rw [(hargs c).1, (hargs c).2.2.1]
  · refine funext fun y => (congrArg _ (eq_ix2 y)).trans ((Cert.GatesRefIdeal.Ffn.dw_at _ _ (y 0) (y 1)).trans ?_)
    rw [(hargs c).1, (hargs c).2.2.2.1]

end Cert.Proof

end
-- ==== Proof.Kv.lean ====
/- The gradients of the key and value projection, of its input and of its weight, against the reference's. -/
module

public import proofs.«01_k».proof.Defs
public import proofs.«01_k».proof.Proof.Gen.Kv.Frame
public import proofs.«01_k».proof.Proof.Gen.KvIdeal.Frame
public import proofs.«01_k».proof.Proof.Gen.KvRefIdeal.Run
public import Idealize.ShloMosaic.Lib.Pipeline.ValueKit
public import Idealize.ShloMosaic.Lib.Pointwise

@[expose] public section

set_option maxRecDepth 16384

noncomputable section

namespace Ffn

open Idealize.ShloMosaic

/-- The gradient of the projection's input: each row of the keys' and values' gradients against each row of the weight. -/
def kvDx (dkv : (⟨2, ![4096, 512]⟩ : Shape).Idx → EReal) (w : (⟨2, ![1024, 512]⟩ : Shape).Idx → EReal) (r : Fin 4096) (d : Fin 1024) : EReal :=
  ∑ k : Fin 512, dkv (ix2 r k) * w (ix2 d k)

/-- The gradient of the weight: each column of the input against each column of the keys' and values' gradients, over the tokens. -/
def kvDw (h : (⟨2, ![4096, 1024]⟩ : Shape).Idx → EReal) (dkv : (⟨2, ![4096, 512]⟩ : Shape).Idx → EReal) (d : Fin 1024) (f : Fin 512) : EReal :=
  ∑ k : Fin 4096, h (ix2 k d) * dkv (ix2 k f)

end Ffn

namespace Cert.KvIdeal.Ffn

open Cert.KvIdeal Cert.KvIdeal.Gen Idealize.ShloMosaic Idealize.ShloMosaic.TcCoe Idealize.SL.Sem
open _root_.Ffn (kvDx kvDw)

theorem idx0_0 : ∀ t : Fin cfg0.N, win0_0.index t = ![0, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0, 0] := (by decide +kernel : ∀ t : Fin grid0.N, _)
theorem idx1_0 : ∀ t : Fin cfg1.N, win1_0.index t = ![t.val, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![t.val, 0] := (by decide +kernel : ∀ t : Fin grid1.N, _)

theorem lt1 (t : Fin cfg1.N) : t.val < 4 := t.isLt

/-- Row `i` of a grid point's row block. -/
def row (t : Fin cfg1.N) (i : Fin 1024) : Fin 4096 := ⟨1024 * t.val + i, by have := lt1 t; omega⟩

theorem product0_at (a : Vec Ideal S4096x1024 .bf16) (b : Vec Ideal S4096x512 .bf16) (i : Fin 1024) (j : Fin 512) :
    k0_pay1 (F := Ideal) a b (ix3 0 i j) = ∑ k : Fin 4096, a (ix2 k i) * b (ix2 k j) := by
  pointwise [k0_pay1]

theorem product1_at (a : Vec Ideal S1024x512 .bf16) (b : Vec Ideal S1024x512 .bf16) (i j : Fin 1024) :
    k1_pay1 (F := Ideal) a b (ix2 i j) = ∑ k : Fin 512, a (ix2 i k) * b (ix2 j k) := by
  pointwise [k1_pay1]

theorem out0_eq (a : Vec Ideal S4096x1024 .bf16) (b : Vec Ideal S4096x512 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

theorem out1_eq (a b : Vec Ideal S1024x512 .bf16) : out1_2 a b = k1_pay1 a b := by
  unfold out1_2
  rw [View.canon_unit_zero (by funext a; fin_cases a <;> rfl), View.ld_unit_zero (by funext a; fin_cases a <;> rfl),
    View.ld_unit_zero (by funext a; fin_cases a <;> rfl)]

theorem row_eq {a b : Nat} (y : (⟨3, ![1, a, b]⟩ : Shape).Idx) : y = ix3 0 (y 1) (y 2) := by
  funext a
  fin_cases a
  · exact Subsingleton.elim (α := Fin 1) _ _
  · rfl
  · rfl

variable (V : (c : Dev nD) → (b : Ref sig .tc) → Buf (Elt Ideal) ((c : Thread nD τ).loc b)) (c : Dev nD)

theorem h_block (t : Fin cfg0.N) (k : Fin 4096) (i : Fin 1024) : iblk0 V c 0 t (ix2 k i) = V c main_arg0 (ix2 k i) := by
  blk_ext [iblk0, idx0_0 t]

theorem dkv_block0 (t : Fin cfg0.N) (k : Fin 4096) (j : Fin 512) : iblk0 V c 1 t (ix2 k j) = V c main_arg2 (ix2 k j) := by
  blk_ext [iblk0, idx0_1 t]

theorem dkv_block1 (t : Fin cfg1.N) (i : Fin 1024) (k : Fin 512) : iblk1 V c 0 t (ix2 i k) = V c main_arg2 (ix2 (row t i) k) := by
  blk_ext [iblk1, idx1_0 t, row]

theorem w_block (t : Fin cfg1.N) (j : Fin 1024) (k : Fin 512) : iblk1 V c 1 t (ix2 j k) = V c main_arg1 (ix2 j k) := by
  blk_ext [iblk1, idx1_1 t]

theorem emb0 (t : Fin cfg0.N) (y : S1x1024x512.Idx) : (win0_2.blk t).view.emb y = ix3 0 (y 1) (y 2) := by
  blk_ext [idx0_2 t]

theorem emb1 (t : Fin cfg1.N) (y : S1024x1024.Idx) : (win1_2.blk t).view.emb y = ix2 (row t (y 0)) (y 1) := by
  blk_ext [idx1_2 t, row]

/-! ## The array after each call -/

theorem array0 : (dat0 V c).arrAt 2 cfg0.N = fun y : S1x1024x512.Idx => kvDw (V c main_arg0) (V c main_arg2) (y 1) (y 2) := by
  refine (dat0 V c).arrAt_eq_of_covers 2 _ (by decide +kernel) fun t hf y => ?_
  blk_simp
  rw [emb0, after0_2, out0_eq]
  refine (congrArg _ (row_eq y)).trans ((product0_at _ _ _ _).trans ?_)
  exact Finset.sum_congr rfl fun k _ => congrArg₂ (· * ·) (h_block V c t _ _) (dkv_block0 V c t _ _)

theorem array1 : (dat1 V c).arrAt 2 cfg1.N = fun y : S4096x1024.Idx => kvDx (V c main_arg2) (V c main_arg1) (y 0) (y 1) := by
  refine (dat1 V c).arrAt_eq_of_covers 2 _ (by decide +kernel) fun t hf y => ?_
  blk_simp
  rw [emb1, after1_2, out1_eq]
  refine (congrArg _ (eq_ix2 y)).trans ((product1_at _ _ _ _).trans ?_)
  exact Finset.sum_congr rfl fun k _ => congrArg₂ (· * ·) (dkv_block1 V c t _ _) (w_block V c t _ _)

/-! ## The launch -/

variable (m : (ℓ : Loc nD τ sig) → Buf (Elt Ideal) ℓ) (ρ : Dev nD → PrngReg)

theorem result_dx (c : Dev nD) : W2 m ρ c (Proc.devRef .tc main_v1) = fun y : S4096x1024.Idx => kvDx (m ((c.tc : Thread nD τ).loc main_arg2)) (m ((c.tc : Thread nD τ).loc main_arg1)) (y 0) (y 1) := by
  refine (W2_arr m ρ c 2).trans ((array1 (V1 m ρ) c).trans ?_)
  rw [show V1 m ρ c main_arg1 = _ from W1_args m ρ c main_arg1 (by decide), show V1 m ρ c main_arg2 = _ from W1_args m ρ c main_arg2 (by decide)]

theorem result_dw (c : Dev nD) : W2 m ρ c (Proc.devRef .tc main_v0) = fun y : S1x1024x512.Idx => kvDw (m ((c.tc : Thread nD τ).loc main_arg0)) (m ((c.tc : Thread nD τ).loc main_arg2)) (y 1) (y 2) :=
  (W2_of m ρ c main_v0 (by decide +kernel)).trans ((W1_arr m ρ c 2).trans (array0 (V0 m ρ) c))

open Idealize.SL Idealize.SL.RA Idealize.SL.BI Idealize.SL.BI.BIBase Idealize.SL.BI.Laws Idealize.SL.ProofMode
open Idealize.ShloMosaic.Rounds Idealize.ShloMosaic.Tactic
open scoped Idealize.SL.BI

/-- The resources the launch is stated over. -/
abbrev Res : Type := MT nD τ sig Unit (Elt Ideal) ℕ (UR sig nD τ) ℕ

set_option backward.isDefEq.respectTransparency.types false in
/-- `main` ends with those results, and with its arguments as they were. -/
theorem run : θ_run defs (onTc (τ := τ) (main (F := Ideal))) ⟨m, fun _ => 0, ρ⟩ fun r => ∀ c : Dev nD,
      r.2.mem ((c.tc : Thread nD τ).loc main_v1) = (fun y : S4096x1024.Idx => kvDx (m ((c.tc : Thread nD τ).loc main_arg2)) (m ((c.tc : Thread nD τ).loc main_arg1)) (y 0) (y 1))
      ∧ r.2.mem ((c.tc : Thread nD τ).loc main_v0) = (fun y : S1x1024x512.Idx => kvDw (m ((c.tc : Thread nD τ).loc main_arg0)) (m ((c.tc : Thread nD τ).loc main_arg2)) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c => ⟨(h c _ (mem_uc main_v1 (by decide))).trans (result_dx m ρ c),
      (h c _ (mem_uc main_v0 (by decide))).trans (result_dw m ρ c),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c)⟩)

end Cert.KvIdeal.Ffn

namespace Cert.KvRefIdeal.Ffn

open Cert.KvRefIdeal Cert.KvRefIdeal.Gen Idealize.ShloMosaic Idealize.ShloMosaic.TcCoe Idealize.SL.Sem
open _root_.Ffn (kvDx kvDw)

theorem dx_at (a : FVec Ideal S4096x512 .bf16) (b : FVec Ideal S1024x512 .bf16) (r : Fin 4096) (d : Fin 1024) :
    (Host.dotGeneral dot_S4096x512_S1024x512_S4096x1024_1_1_0_0_n_n none (extf .f32 a bitsLt_bf16_f32) (extf .f32 b bitsLt_bf16_f32) :
      FVec Ideal S4096x1024 .f32) (ix2 r d) = kvDx a b r d := by
  unfold kvDx
  pointwise []

theorem dw_at (h : FVec Ideal S4096x1024 .bf16) (u : FVec Ideal S4096x512 .bf16) (o : Fin 1) (d : Fin 1024) (f : Fin 512) :
    (broadcastInDim S1x1024x512 ![1, 2] bcast_S1024x512_S1x1024x512_1_2 (truncf .bf16 (transpose S1024x512 [1, 0]
      (Host.dotGeneral dot_S4096x512_S4096x1024_S512x1024_0_0_1_1_n_n none (extf .f32 u bitsLt_bf16_f32) (extf .f32 h bitsLt_bf16_f32) :
      FVec Ideal S512x1024 .f32) transposes_S512x1024_S1024x512_1_0) bitsLt_bf16_f32) :
      FVec Ideal S1x1024x512 .bf16) (ix3 o d f) = kvDw h u d f := by
  unfold kvDw
  refine Eq.trans (b := ∑ k : Fin 4096, u (ix2 k f) * h (ix2 k d)) ?_ (Finset.sum_congr rfl fun k _ => mul_comm _ _)
  pointwise []

end Cert.KvRefIdeal.Ffn

namespace Cert.Proof

open Idealize.ShloMosaic Idealize.SL.Sem

attribute [local instance] Cert.Kv.Gen.facts Cert.KvIdeal.Gen.facts Cert.KvRefIdeal.Gen.facts

theorem frame_kv : Cert.quiescent_Kv := fun m ρ _ => Cert.Kv.Gen.frame m ρ
theorem frame_kvIdeal : Cert.quiescent_KvIdeal := fun m ρ _ => Cert.KvIdeal.Gen.frame m ρ

theorem frame_kvRefIdeal : Cert.quiescent_KvRefIdeal := fun m ρ _ =>
  (θ_run Cert.KvRefIdeal.defs _ _).mono
    (fun r hr => ⟨fun c => (hr c).2.2, sem_eq_zero_of_no_sems (by decide) r.2⟩) (Cert.KvRefIdeal.Value.run m ρ)

theorem preserves_kv : Cert.preserves_Kv_KvIdeal := trivial

/-- Kernel and reference end with the same gradients of the key and value projection. -/
theorem algebraic_kv : Cert.algebraic_KvIdeal_KvRefIdeal := by
  intro m g m' g' _ hargs
  refine ⟨fun c y => _root_.Ffn.kvDx (m ((c.tc : Thread Cert.KvIdeal.nD Cert.KvIdeal.τ).loc Cert.KvIdeal.main_arg2)) (m ((c.tc : Thread Cert.KvIdeal.nD Cert.KvIdeal.τ).loc Cert.KvIdeal.main_arg1)) (y 0) (y 1), fun c y => _root_.Ffn.kvDw (m ((c.tc : Thread Cert.KvIdeal.nD Cert.KvIdeal.τ).loc Cert.KvIdeal.main_arg0)) (m ((c.tc : Thread Cert.KvIdeal.nD Cert.KvIdeal.τ).loc Cert.KvIdeal.main_arg2)) (y 1) (y 2),
    Cert.KvIdeal.Ffn.run m g, ?_⟩
  refine (θ_run Cert.KvRefIdeal.defs _ _).mono (fun r hr c => ⟨(hr c).1.trans ?_, (hr c).2.1.trans ?_, (hr c).2.2⟩) (Cert.KvRefIdeal.Value.run m' g')
  · refine funext fun y => (congrArg _ (eq_ix2 y)).trans ((Cert.KvRefIdeal.Ffn.dx_at _ _ (y 0) (y 1)).trans ?_)
    rw [(hargs c).2.1, (hargs c).2.2]
  · refine funext fun y => (congrArg _ (eq_ix3 y)).trans ((Cert.KvRefIdeal.Ffn.dw_at _ _ (y 0) (y 1) (y 2)).trans ?_)
    rw [(hargs c).1, (hargs c).2.2]

end Cert.Proof

end
-- ==== Proof.MemkvFwd.lean ====
/- The memory's key and value projection against the reference's. -/
module

public import proofs.«01_k».proof.Defs
public import proofs.«01_k».proof.Proof.Gen.MemkvFwd.Frame
public import proofs.«01_k».proof.Proof.Gen.MemkvFwdIdeal.Frame
public import proofs.«01_k».proof.Proof.Gen.MemkvFwdIdeal.Value
public import proofs.«01_k».proof.Proof.Gen.MemkvFwdRefIdeal.Run
public import Idealize.ShloMosaic.Lib.Pipeline.ValueKit
public import Idealize.ShloMosaic.Lib.Pointwise

@[expose] public section

set_option maxRecDepth 16384

noncomputable section

namespace Ffn

open Idealize.ShloMosaic

/-- The memory's key and value projection: each row of the normed memory against each column of the weight. -/
def memkvProduct (a : (⟨2, ![512, 1024]⟩ : Shape).Idx → EReal) (w : (⟨2, ![1024, 512]⟩ : Shape).Idx → EReal) (r : Fin 512) (f : Fin 512) : EReal :=
  ∑ k : Fin 1024, a (ix2 r k) * w (ix2 k f)

end Ffn

namespace Cert.MemkvFwdIdeal.Ffn

open Cert.MemkvFwdIdeal Cert.MemkvFwdIdeal.Gen Idealize.ShloMosaic Idealize.ShloMosaic.TcCoe Idealize.SL.Sem
open _root_.Ffn (memkvProduct)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

theorem points (t : Fin cfg0.N) : t.val < 1 := t.isLt

/-- Row `i` of a grid point's row block, and column `j` of its column block. -/
def row (t : Fin cfg0.N) (i : Fin 512) : Fin 512 := ⟨512 * (0) + i, by have := points t; omega⟩
def col (t : Fin cfg0.N) (j : Fin 512) : Fin 512 := ⟨512 * (0) + j, by have := points t; omega⟩

theorem product_at (a : Vec Ideal S512x1024 .bf16) (b : Vec Ideal S1024x512 .bf16) (i : Fin 512) (j : Fin 512) :
    k0_pay1 (F := Ideal) a b (ix2 i j) = ∑ k : Fin 1024, a (ix2 i k) * b (ix2 k j) := by
  pointwise [k0_pay1]

theorem out_eq (a : Vec Ideal S512x1024 .bf16) (b : Vec Ideal S1024x512 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

variable (m : (ℓ : Loc nD τ sig) → Buf (Elt Ideal) ℓ) (c : Dev nD) (t : Fin cfg0.N)

theorem a_block (i : Fin 512) (k : Fin 1024) : iblk m c 0 t (ix2 i k) = (m ((c.tc : Thread nD τ).loc main_arg0)) (ix2 (row t i) k) := by
  blk_ext [iblk, V, idx0 t, row]

theorem w_block (k : Fin 1024) (j : Fin 512) : iblk m c 1 t (ix2 k j) = (m ((c.tc : Thread nD τ).loc main_arg1)) (ix2 k (col t j)) := by
  blk_ext [iblk, V, idx1 t, col]

theorem emb2 (y : S512x512.Idx) : (win0_2.blk t).view.emb y = ix2 (row t (y 0)) (col t (y 1)) := by
  blk_ext [idx2 t, row, col]

theorem array : (dats m 0 c).arrAt 2 cfg0.N =
    fun y : S512x512.Idx => memkvProduct (m ((c.tc : Thread nD τ).loc main_arg0)) (m ((c.tc : Thread nD τ).loc main_arg1)) (y 0) (y 1) := by
  refine (dats m 0 c).arrAt_eq_of_covers 2 _ (by decide +kernel) fun t hf y => ?_
  blk_simp
  rw [emb2, after0_2, out_eq]
  refine (congrArg _ (eq_ix2 y)).trans ((product_at _ _ _ _).trans ?_)
  exact Finset.sum_congr rfl fun k _ => congrArg₂ (· * ·) (a_block m c t _ _) (w_block m c t _ _)

end Cert.MemkvFwdIdeal.Ffn

namespace Cert.MemkvFwdRefIdeal.Ffn

open Cert.MemkvFwdRefIdeal Cert.MemkvFwdRefIdeal.Gen Idealize.ShloMosaic Idealize.ShloMosaic.TcCoe Idealize.SL.Sem
open _root_.Ffn (memkvProduct)

theorem product_at (a : FVec Ideal S512x1024 .bf16) (w : FVec Ideal S1024x512 .bf16) (r : Fin 512) (f : Fin 512) :
    (Host.dotGeneral dot_S512x1024_S1024x512_S512x512_1_0_0_1_n_n none (extf .f32 a bitsLt_bf16_f32) (extf .f32 w bitsLt_bf16_f32) :
      FVec Ideal S512x512 .f32) (ix2 r f) = memkvProduct a w r f := by
  unfold memkvProduct
  pointwise []

end Cert.MemkvFwdRefIdeal.Ffn

namespace Cert.Proof

open Idealize.ShloMosaic Idealize.SL.Sem

attribute [local instance] Cert.MemkvFwd.Gen.facts Cert.MemkvFwdIdeal.Gen.facts Cert.MemkvFwdRefIdeal.Gen.facts

theorem frame_memkvFwd : Cert.quiescent_MemkvFwd := fun m ρ _ => Cert.MemkvFwd.Gen.frame m ρ
theorem frame_memkvFwdIdeal : Cert.quiescent_MemkvFwdIdeal := fun m ρ _ => Cert.MemkvFwdIdeal.Gen.frame m ρ

theorem frame_memkvFwdRefIdeal : Cert.quiescent_MemkvFwdRefIdeal := fun m ρ _ =>
  (θ_run Cert.MemkvFwdRefIdeal.defs _ _).mono
    (fun r hr => ⟨fun c => (hr c).2, sem_eq_zero_of_no_sems (by decide) r.2⟩) (Cert.MemkvFwdRefIdeal.Value.run m ρ)

theorem preserves_memkvFwd : Cert.preserves_MemkvFwd_MemkvFwdIdeal := trivial

/-- Kernel and reference end with the same keys and values of the memory. -/
theorem algebraic_memkvFwd : Cert.algebraic_MemkvFwdIdeal_MemkvFwdRefIdeal := by
  intro m g m' g' _ hargs
  refine ⟨fun c y => _root_.Ffn.memkvProduct (m ((c.tc : Thread Cert.MemkvFwdIdeal.nD Cert.MemkvFwdIdeal.τ).loc Cert.MemkvFwdIdeal.main_arg0)) (m ((c.tc : Thread Cert.MemkvFwdIdeal.nD Cert.MemkvFwdIdeal.τ).loc Cert.MemkvFwdIdeal.main_arg1)) (y 0) (y 1), ?_, ?_⟩
  · exact (θ_run Cert.MemkvFwdIdeal.defs _ _).mono (fun r hr c => ⟨(hr c).1.trans (Cert.MemkvFwdIdeal.Ffn.array m c), (hr c).2⟩) (Cert.MemkvFwdIdeal.Value.run_blocks m g)
  · refine (θ_run Cert.MemkvFwdRefIdeal.defs _ _).mono (fun r hr c => ⟨(hr c).1.trans ?_, (hr c).2⟩) (Cert.MemkvFwdRefIdeal.Value.run m' g')
    refine funext fun y => (congrArg _ (eq_ix2 y)).trans ((Cert.MemkvFwdRefIdeal.Ffn.product_at _ _ (y 0) (y 1)).trans ?_)
    rw [(hargs c).1, (hargs c).2]

end Cert.Proof

end
-- ==== Proof.Norm.lean ====
/- The norm of a row and its gradient over the extended reals, and the two ways of writing that gradient. -/
module

public import Idealize.ShloMosaic.Lib.Pipeline.ValueKit
public import Idealize.ShloMosaic.Lib.Pointwise

@[expose] public section

set_option maxRecDepth 16384

noncomputable section

namespace Norm

open Idealize.ShloMosaic

/-- The mean of a row's squares, and the small number added to it. -/
def meanSq (x : Fin 1024 → EReal) : EReal :=
  Ideal.div (∑ k, x k * x k) (Ideal.ofBits .f32 0x44800000#32) + Ideal.ofBits .f32 0x358637BD#32

/-- What a row is multiplied by. -/
def scale (x : Fin 1024 → EReal) : EReal := Ideal.rsqrt (meanSq x)

/-- The normed row. -/
def normed (x g : Fin 1024 → EReal) (d : Fin 1024) : EReal := x d * scale x * g d

/-- The gradient of a row. -/
def normDx (x g dy : Fin 1024 → EReal) (d : Fin 1024) : EReal :=
  scale x * (dy d * g d) - x d * (scale x * scale x * scale x * Ideal.div (∑ k, dy k * g k * x k) (Ideal.ofBits .f32 0x44800000#32))

/-- A row of a matrix. -/
def row {n : ℕ} (x : (⟨2, ![n, 1024]⟩ : Shape).Idx → EReal) (i : Fin n) : Fin 1024 → EReal := fun k => x (ix2 i k)

/-- The gradient of the gain: a sum over all rows. -/
def normDg {n : ℕ} (x dy : (⟨2, ![n, 1024]⟩ : Shape).Idx → EReal) (d : Fin 1024) : EReal :=
  ∑ i : Fin n, dy (ix2 i d) * x (ix2 i d) * scale (row x i)

/-- Row `i` of block `s`. -/
def at_ (s : Fin 8) (i : Fin 512) : Fin 4096 := ⟨s.val * 512 + i.val, by omega⟩

/-- Block `s`'s part of the gain's gradient. -/
def partDg (x dy : (⟨2, ![4096, 1024]⟩ : Shape).Idx → EReal) (d : Fin 1024) (s : Fin 8) : EReal :=
  ∑ i : Fin 512, dy (ix2 (at_ s i) d) * x (ix2 (at_ s i) d) * scale (row x (at_ s i))

theorem parts (x dy : (⟨2, ![4096, 1024]⟩ : Shape).Idx → EReal) (d : Fin 1024) : ∑ s, partDg x dy d s = normDg x dy d :=
  (Fin.sum_univ_tiles 8 512 rfl fun i : Fin 4096 => dy (ix2 i d) * x (ix2 i d) * scale (row x i)).symm

/-- A sum gathered over eight grid points. -/
theorem gathered (f p : Fin 8 → EReal) (h0 : f 0 = 0 + p 0) (hs : ∀ (n : ℕ) (h : n + 1 < 8), f ⟨n + 1, h⟩ = f ⟨n, by omega⟩ + p ⟨n + 1, h⟩) :
    f 7 = ∑ s, p s := by
  have h1 : f 1 = f 0 + p 1 := hs 0 (by omega)
  have h2 : f 2 = f 1 + p 2 := hs 1 (by omega)
  have h3 : f 3 = f 2 + p 3 := hs 2 (by omega)
  have h4 : f 4 = f 3 + p 4 := hs 3 (by omega)
  have h5 : f 5 = f 4 + p 5 := hs 4 (by omega)
  have h6 : f 6 = f 5 + p 6 := hs 5 (by omega)
  have h7 : f 7 = f 6 + p 7 := hs 6 (by omega)
  rw [h7, h6, h5, h4, h3, h2, h1, h0, zero_add, Fin.sum_univ_eight]

theorem width_eq : Ideal.ofBits .f32 0x44800000#32 = ((1024 : ℝ) : EReal) := by
  simp [Ideal.ofBits, Ideal.ieee, -EReal.coe_mul]
  norm_num

theorem half_eq : Ideal.ofBits .f32 0xBF000000#32 = ((-1 / 2 : ℝ) : EReal) := by
  simp [Ideal.ofBits, Ideal.ieee, -EReal.coe_mul]
  norm_num

theorem eps_eq : Ideal.ofBits .f32 0x358637BD#32 = ((8796093 / 8796093022208 : ℝ) : EReal) := by
  simp [Ideal.ofBits, Ideal.ieee, -EReal.coe_mul]
  norm_num

theorem eps_pos : (0 : EReal) < Ideal.ofBits .f32 0x358637BD#32 := by
  rw [eps_eq]
  exact EReal.coe_pos.mpr (by norm_num)

theorem square_nonneg (a : EReal) : 0 ≤ a * a := by
  induction a with
  | bot => simp
  | top => simp
  | coe a => exact EReal.coe_nonneg.mpr (mul_self_nonneg a)

theorem meanSq_pos (x : Fin 1024 → EReal) : 0 < meanSq x := by
  rw [meanSq, width_eq, Ideal.div_coe (by norm_num)]
  refine lt_of_lt_of_le eps_pos (le_add_of_nonneg_left (EReal.mul_nonneg (Finset.sum_nonneg fun k _ => square_nonneg _) ?_))
  exact EReal.coe_nonneg.mpr (by norm_num)

/-- The two ways of writing the part of the gradient that goes through the mean. -/
theorem turn (x s M : EReal) (hM : 0 < M) :
    x * Ideal.div (s * (Ideal.ofBits .f32 0xBF000000#32 * Ideal.div (Ideal.rsqrt M) M)) (Ideal.ofBits .f32 0x44800000#32) +
      Ideal.div (s * (Ideal.ofBits .f32 0xBF000000#32 * Ideal.div (Ideal.rsqrt M) M)) (Ideal.ofBits .f32 0x44800000#32) * x =
      -(x * (Ideal.rsqrt M * Ideal.rsqrt M * Ideal.rsqrt M * Ideal.div s (Ideal.ofBits .f32 0x44800000#32))) := by
  rw [half_eq, width_eq, Ideal.div_coe (by norm_num), Ideal.div_coe (by norm_num), mul_comm (_ * _) x]
  induction M with
  | bot => exact absurd hM (by simp)
  | top =>
    have e : Ideal.div (0 : EReal) ⊤ = 0 := by simp [Ideal.div]
    simp [Ideal.rsqrt_top, e]
  | coe M =>
    have hM' : 0 < M := EReal.coe_pos.mp hM
    rw [Ideal.rsqrt_coe, if_neg (not_lt.mpr hM'.le), if_neg hM'.ne', Ideal.div_coe hM'.ne']
    have hr : (√M)⁻¹ * (1 / M) = (√M)⁻¹ * (√M)⁻¹ * (√M)⁻¹ := by
      rw [mul_assoc, ← mul_inv, Real.mul_self_sqrt hM'.le, one_div]
    generalize (√M)⁻¹ = r at hr
    rw [← EReal.coe_mul, hr, ← EReal.coe_mul, ← EReal.coe_mul, ← EReal.coe_mul]
    generalize r * r * r = k
    have e2 : ∀ a : EReal, a + a = a * ((2 : ℝ) : EReal) := fun a => by
      have : ((2 : ℝ) : EReal) = 1 + 1 := by
        rw [← EReal.coe_one, ← EReal.coe_add]
        norm_num
      rw [this, EReal.left_distrib_of_nonneg (by norm_num) (by norm_num), mul_one]
    rw [e2, mul_assoc x, mul_assoc s, ← EReal.coe_mul, mul_assoc s, ← EReal.coe_mul, mul_comm (k : EReal), mul_assoc s, ← EReal.coe_mul,
      ← mul_neg, ← mul_neg, ← EReal.coe_neg]
    congr 3
    ring

/-- The gradient as the product rule gives it. -/
theorem normDx_eq (x g dy : Fin 1024 → EReal) (d : Fin 1024) :
    dy d * g d * scale x + x d * Ideal.div ((∑ k, x k * (dy k * g k)) * (Ideal.ofBits .f32 0xBF000000#32 * Ideal.div (scale x) (meanSq x)))
        (Ideal.ofBits .f32 0x44800000#32) +
      Ideal.div ((∑ k, x k * (dy k * g k)) * (Ideal.ofBits .f32 0xBF000000#32 * Ideal.div (scale x) (meanSq x)))
        (Ideal.ofBits .f32 0x44800000#32) * x d = normDx x g dy d := by
  rw [add_assoc, scale, turn _ _ _ (meanSq_pos x), normDx, mul_comm (dy d * g d), sub_eq_add_neg]
  rw [show ∑ k, x k * (dy k * g k) = ∑ k, dy k * g k * x k from Finset.sum_congr rfl fun k _ => mul_comm _ _, scale]

end Norm

end
-- ==== Proof.RmsPair.lean ====
/- The gradients of two norms in a row, against the reference's. -/
module

public import proofs.«01_k».proof.Defs
public import proofs.«01_k».proof.Proof.Norm
public import proofs.«01_k».proof.Proof.Gen.RmsPair.Frame
public import proofs.«01_k».proof.Proof.Gen.RmsPairIdeal.Frame
public import proofs.«01_k».proof.Proof.Gen.RmsPairIdeal.Value
public import proofs.«01_k».proof.Proof.Gen.RmsPairRefIdeal.Run
public import Idealize.ShloMosaic.Lib.Pipeline.ValueKit
public import Idealize.ShloMosaic.Lib.Pointwise

@[expose] public section

set_option maxRecDepth 16384

noncomputable section

namespace Cert.RmsPairIdeal.Norm

open Cert.RmsPairIdeal Cert.RmsPairIdeal.Gen Idealize.ShloMosaic Idealize.ShloMosaic.TcCoe Idealize.SL.Sem
open _root_.Norm (meanSq scale normDx normDg row at_ partDg parts gathered)

/-- The gradient after the first norm, the residual's gradient added. -/
def da (xa : S4096x1024.Idx → EReal) (ga : S1x1024.Idx → EReal) (dya a : S4096x1024.Idx → EReal) (y : S4096x1024.Idx) : EReal :=
  normDx (row xa (y 0)) (row ga 0) (row dya (y 0)) (y 1) + a y

theorem da_at (x dy : Vec Ideal S512x1024 .f32) (g : Vec Ideal S1x1024 .f32) (a : Vec Ideal S512x1024 .f32) (i : Fin 512) (d : Fin 1024) :
    k0_pay3 x dy g a (ix2 i d) = normDx (row x i) (row g 0) (row dy i) d + a (ix2 i d) := by
  pointwise [k0_pay3, k0_pay1]
  rfl

theorem dga_at (x dy : Vec Ideal S512x1024 .f32) (o : Vec Ideal S1x1024 .f32) (d : Fin 1024) :
    k0_pay9 (k0_pay2 x dy) o (ix2 0 d) = o (ix2 0 d) + normDg x dy d := by
  pointwise [k0_pay9, k0_pay2, k0_pay1]
  rfl

theorem db_at (x v : Vec Ideal S512x1024 .f32) (g : Vec Ideal S1x1024 .f32) (i : Fin 512) (d : Fin 1024) :
    k0_pay6 v x (k0_pay4 x) (FloatOps.ofBits FTy.f32 0x44800000#32) g (ix2 i d) = normDx (row x i) (row g 0) (row v i) d := by
  pointwise [k0_pay6, k0_pay4, k0_pay5]
  rfl

theorem dgb_at (x v : Vec Ideal S512x1024 .f32) (o : Vec Ideal S1x1024 .f32) (d : Fin 1024) :
    k0_pay10 v x (k0_pay4 x) (FloatOps.ofBits FTy.f32 0x44800000#32) o (ix2 0 d) = o (ix2 0 d) + normDg x v d := by
  pointwise [k0_pay10, k0_pay4, k0_pay5]
  rfl

theorem zero7 (d : Fin 1024) : (k0_pay7 : FVec Ideal S1x1024 .f32) (ix2 0 d) = 0 := by
  pointwise [k0_pay7]

theorem zero8 (d : Fin 1024) : (k0_pay8 : FVec Ideal S1x1024 .f32) (ix2 0 d) = 0 := by
  pointwise [k0_pay8]

theorem idx0 : ∀ t : Fin cfg0.N, win0_0.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx1 : ∀ t : Fin cfg0.N, win0_1.index t = ![0, 0] := (by decide +kernel : ∀ t : Fin grid0.N, _)
theorem idx5 : ∀ t : Fin cfg0.N, win0_5.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

/-- A grid point as a block of rows. -/
def pt (t : Fin cfg0.N) : Fin 8 := ⟨t.val, t.isLt⟩

variable (m : (ℓ : Loc nD τ sig) → Buf (Elt Ideal) ℓ) (c : Dev nD) (t : Fin cfg0.N)

theorem block0 (i : Fin 512) (d : Fin 1024) : iblk m c 0 t (ix2 i d) = m ((c.tc : Thread nD τ).loc main_arg0) (ix2 (at_ (pt t) i) d) := by
  blk_ext [iblk, V, idx0 t, at_, pt]

theorem block2 (i : Fin 512) (d : Fin 1024) : iblk m c 2 t (ix2 i d) = m ((c.tc : Thread nD τ).loc main_arg2) (ix2 (at_ (pt t) i) d) := by
  blk_ext [iblk, V, idx2 t, at_, pt]

theorem block3 (i : Fin 512) (d : Fin 1024) : iblk m c 3 t (ix2 i d) = m ((c.tc : Thread nD τ).loc main_arg3) (ix2 (at_ (pt t) i) d) := by
  blk_ext [iblk, V, idx3 t, at_, pt]

theorem block4 (i : Fin 512) (d : Fin 1024) : iblk m c 4 t (ix2 i d) = m ((c.tc : Thread nD τ).loc main_arg4) (ix2 (at_ (pt t) i) d) := by
  blk_ext [iblk, V, idx4 t, at_, pt]

theorem block1 (d : Fin 1024) : iblk m c 1 t (ix2 0 d) = m ((c.tc : Thread nD τ).loc main_arg1) (ix2 0 d) := by
  blk_ext [iblk, V, idx1 t]

theorem block5 (d : Fin 1024) : iblk m c 5 t (ix2 0 d) = m ((c.tc : Thread nD τ).loc main_arg5) (ix2 0 d) := by
  blk_ext [iblk, V, idx5 t]

theorem emb6 (y : S512x1024.Idx) : (win0_6.blk t).view.emb y = ix2 (at_ (pt t) (y 0)) (y 1) := by
  blk_ext [idx6 t, at_, pt]

theorem emb7 (y : S512x1024.Idx) : (win0_7.blk t).view.emb y = ix2 (at_ (pt t) (y 0)) (y 1) := by
  blk_ext [idx7 t, at_, pt]

/-- Rows of blocks are rows of the arrays. -/
theorem rows_eq (X : Vec Ideal S512x1024 .f32) (x : S4096x1024.Idx → EReal) (h : ∀ i d, X (ix2 i d) = x (ix2 (at_ (pt t) i) d)) (i : Fin 512) :
    row X i = row x (at_ (pt t) i) := funext fun d => h i d

theorem gain_eq (G : Vec Ideal S1x1024 .f32) (g : S1x1024.Idx → EReal) (h : ∀ d, G (ix2 0 d) = g (ix2 0 d)) : row G 0 = row g 0 :=
  funext fun d => h d

theorem part_eq (X D : Vec Ideal S512x1024 .f32) (x dy : S4096x1024.Idx → EReal) (hX : ∀ i d, X (ix2 i d) = x (ix2 (at_ (pt t) i) d))
    (hD : ∀ i d, D (ix2 i d) = dy (ix2 (at_ (pt t) i) d)) (d : Fin 1024) : normDg X D d = partDg x dy d (pt t) :=
  Finset.sum_congr rfl fun i _ => congrArg₂ (· * ·) (congrArg₂ (· * ·) (hD i d) (hX i d)) (congrArg scale (rows_eq t X x hX i))

/-- One block of the gradient after the first norm. -/
theorem da_block (i : Fin 512) (d : Fin 1024) : k0_pay3 (iblk m c 0 t) (iblk m c 2 t) (iblk m c 1 t) (iblk m c 3 t) (ix2 i d) =
    da (m ((c.tc : Thread nD τ).loc main_arg0)) (m ((c.tc : Thread nD τ).loc main_arg1)) (m ((c.tc : Thread nD τ).loc main_arg2)) (m ((c.tc : Thread nD τ).loc main_arg3)) (ix2 (at_ (pt t) i) d) := by
  refine (da_at _ _ _ _ i d).trans ?_
  rw [rows_eq t _ _ (block0 m c t) i, rows_eq t _ _ (block2 m c t) i, gain_eq _ _ (block1 m c t)]
  exact congrArg (_ + ·) (block3 m c t i d)

theorem after6_eq (i : Fin 512) (d : Fin 1024) : (dats m 0 c).after 6 t (ix2 i d) = da (m ((c.tc : Thread nD τ).loc main_arg0)) (m ((c.tc : Thread nD τ).loc main_arg1)) (m ((c.tc : Thread nD τ).loc main_arg2)) (m ((c.tc : Thread nD τ).loc main_arg3)) (ix2 (at_ (pt t) i) d) := by
  by_cases h0 : t.val % 8 = 0
  · rw [after0_6, outsAt0_A m c t h0]
    frame_out
    exact da_block m c t i d
  · rw [after0_6, outsAt0_B m c t h0]
    frame_out
    exact da_block m c t i d

theorem db_block (i : Fin 512) (d : Fin 1024) : normDx (row (iblk m c 4 t : Vec Ideal S512x1024 .f32) i) (row (iblk m c 5 t : Vec Ideal S1x1024 .f32) 0)
    (row (k0_pay3 (iblk m c 0 t) (iblk m c 2 t) (iblk m c 1 t) (iblk m c 3 t) : Vec Ideal S512x1024 .f32) i) d =
    normDx (row (m ((c.tc : Thread nD τ).loc main_arg4)) (at_ (pt t) i)) (row (m ((c.tc : Thread nD τ).loc main_arg5)) 0) (row (da (m ((c.tc : Thread nD τ).loc main_arg0)) (m ((c.tc : Thread nD τ).loc main_arg1)) (m ((c.tc : Thread nD τ).loc main_arg2)) (m ((c.tc : Thread nD τ).loc main_arg3))) (at_ (pt t) i)) d := by
  rw [rows_eq t _ _ (block4 m c t) i, rows_eq t _ _ (da_block m c t) i, gain_eq _ _ (block5 m c t)]

theorem after7_eq (i : Fin 512) (d : Fin 1024) : (dats m 0 c).after 7 t (ix2 i d) =
    normDx (row (m ((c.tc : Thread nD τ).loc main_arg4)) (at_ (pt t) i)) (row (m ((c.tc : Thread nD τ).loc main_arg5)) 0) (row (da (m ((c.tc : Thread nD τ).loc main_arg0)) (m ((c.tc : Thread nD τ).loc main_arg1)) (m ((c.tc : Thread nD τ).loc main_arg2)) (m ((c.tc : Thread nD τ).loc main_arg3))) (at_ (pt t) i)) d := by
  by_cases h0 : t.val % 8 = 0
  · rw [after0_7, outsAt0_A m c t h0]
    frame_out
    exact (db_at _ _ _ i d).trans (db_block m c t i d)
  · rw [after0_7, outsAt0_B m c t h0]
    frame_out
    exact (db_at _ _ _ i d).trans (db_block m c t i d)

/-- The running gradients of the two gains. -/
def gainA (t : Fin cfg0.N) : S1x1024.Idx → EReal := (dats m 0 c).after 8 t
def gainB (t : Fin cfg0.N) : S1x1024.Idx → EReal := (dats m 0 c).after 9 t

theorem gainA_first (h0 : t.val % 8 = 0) (d : Fin 1024) : gainA m c t (ix2 0 d) = 0 + partDg (m ((c.tc : Thread nD τ).loc main_arg0)) (m ((c.tc : Thread nD τ).loc main_arg2)) d (pt t) := by
  unfold gainA
  rw [after0_8, outsAt0_A m c t h0]
  frame_out
  refine (dga_at _ _ _ d).trans ?_
  exact congrArg₂ (· + ·) (zero7 d) (part_eq t _ _ _ _ (block0 m c t) (block2 m c t) d)

theorem gainA_next (h0 : ¬t.val % 8 = 0) (d : Fin 1024) :
    gainA m c t (ix2 0 d) = gainA m c ⟨t.val - 1, by omega⟩ (ix2 0 d) + partDg (m ((c.tc : Thread nD τ).loc main_arg0)) (m ((c.tc : Thread nD τ).loc main_arg2)) d (pt t) := by
  unfold gainA
  rw [after0_8, after0_8, outsAt0_B m c t h0]
  frame_out
  refine (dga_at _ _ _ d).trans ?_
  exact congrArg₂ (· + ·) rfl (part_eq t _ _ _ _ (block0 m c t) (block2 m c t) d)

theorem gainB_first (h0 : t.val % 8 = 0) (d : Fin 1024) : gainB m c t (ix2 0 d) = 0 + partDg (m ((c.tc : Thread nD τ).loc main_arg4)) (da (m ((c.tc : Thread nD τ).loc main_arg0)) (m ((c.tc : Thread nD τ).loc main_arg1)) (m ((c.tc : Thread nD τ).loc main_arg2)) (m ((c.tc : Thread nD τ).loc main_arg3))) d (pt t) := by
  unfold gainB
  rw [after0_9, outsAt0_A m c t h0]
  frame_out
  refine (dgb_at _ _ _ d).trans ?_
  exact congrArg₂ (· + ·) (zero8 d) (part_eq t _ _ _ _ (block4 m c t) (da_block m c t) d)

theorem gainB_next (h0 : ¬t.val % 8 = 0) (d : Fin 1024) :
    gainB m c t (ix2 0 d) = gainB m c ⟨t.val - 1, by omega⟩ (ix2 0 d) + partDg (m ((c.tc : Thread nD τ).loc main_arg4)) (da (m ((c.tc : Thread nD τ).loc main_arg0)) (m ((c.tc : Thread nD τ).loc main_arg1)) (m ((c.tc : Thread nD τ).loc main_arg2)) (m ((c.tc : Thread nD τ).loc main_arg3))) d (pt t) := by
  unfold gainB
  rw [after0_9, after0_9, outsAt0_B m c t h0]
  frame_out
  refine (dgb_at _ _ _ d).trans ?_
  exact congrArg₂ (· + ·) rfl (part_eq t _ _ _ _ (block4 m c t) (da_block m c t) d)

theorem gainA_all (d : Fin 1024) : gainA m c ⟨7, by decide⟩ (ix2 0 d) = normDg (m ((c.tc : Thread nD τ).loc main_arg0)) (m ((c.tc : Thread nD τ).loc main_arg2)) d :=
  (gathered (fun s : Fin 8 => gainA m c ⟨s.val, s.isLt⟩ (ix2 0 d)) _ (gainA_first m c ⟨0, by decide⟩ rfl d)
    fun n h => gainA_next m c ⟨n + 1, h⟩ (by show ¬(n + 1) % 8 = 0; omega) d).trans (parts _ _ d)

theorem gainB_all (d : Fin 1024) : gainB m c ⟨7, by decide⟩ (ix2 0 d) = normDg (m ((c.tc : Thread nD τ).loc main_arg4)) (da (m ((c.tc : Thread nD τ).loc main_arg0)) (m ((c.tc : Thread nD τ).loc main_arg1)) (m ((c.tc : Thread nD τ).loc main_arg2)) (m ((c.tc : Thread nD τ).loc main_arg3))) d :=
  (gathered (fun s : Fin 8 => gainB m c ⟨s.val, s.isLt⟩ (ix2 0 d)) _ (gainB_first m c ⟨0, by decide⟩ rfl d)
    fun n h => gainB_next m c ⟨n + 1, h⟩ (by show ¬(n + 1) % 8 = 0; omega) d).trans (parts _ _ d)

theorem row1_eq (y : S1x1024.Idx) : y = ix2 0 (y 1) := by
  funext a
  fin_cases a
  · exact Subsingleton.elim (α := Fin 1) _ _
  · rfl

theorem da_array : (dats m 0 c).arrAt 6 cfg0.N = da (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  blk_simp
  rw [emb6]
  exact (congrArg _ (eq_ix2 y)).trans (after6_eq m c t _ _)

theorem db_array : (dats m 0 c).arrAt 7 cfg0.N =
    fun y : S4096x1024.Idx => normDx (row (m ((c.tc : Thread nD τ).loc main_arg4)) (y 0)) (row (m ((c.tc : Thread nD τ).loc main_arg5)) 0) (row (da (m ((c.tc : Thread nD τ).loc main_arg0)) (m ((c.tc : Thread nD τ).loc main_arg1)) (m ((c.tc : Thread nD τ).loc main_arg2)) (m ((c.tc : Thread nD τ).loc main_arg3))) (y 0)) (y 1) := by
  refine (dats m 0 c).arrAt_eq_of_covers 7 _ (by decide +kernel) fun t hf y => ?_
  blk_simp
  rw [emb7]
  exact (congrArg _ (eq_ix2 y)).trans (after7_eq m c t _ _)

theorem dga_array : (dats m 0 c).arrAt 8 cfg0.N = fun y : S1x1024.Idx => normDg (m ((c.tc : Thread nD τ).loc main_arg0)) (m ((c.tc : Thread nD τ).loc main_arg2)) (y 1) := by
  refine (dats m 0 c).arrAt_eq_of_after_last 8 ⟨7, by decide⟩ (by decide +kernel) _ fun y => ?_
  blk_simp
  exact (congrArg (gainA m c ⟨7, by decide⟩) (row1_eq y)).trans (gainA_all m c (y 1))

theorem dgb_array : (dats m 0 c).arrAt 9 cfg0.N = fun y : S1x1024.Idx => normDg (m ((c.tc : Thread nD τ).loc main_arg4)) (da (m ((c.tc : Thread nD τ).loc main_arg0)) (m ((c.tc : Thread nD τ).loc main_arg1)) (m ((c.tc : Thread nD τ).loc main_arg2)) (m ((c.tc : Thread nD τ).loc main_arg3))) (y 1) := by
  refine (dats m 0 c).arrAt_eq_of_after_last 9 ⟨7, by decide⟩ (by decide +kernel) _ fun y => ?_
  blk_simp
  exact (congrArg (gainB m c ⟨7, by decide⟩) (row1_eq y)).trans (gainB_all m c (y 1))

end Cert.RmsPairIdeal.Norm

namespace Cert.RmsPairRefIdeal.Norm

open Cert.RmsPairRefIdeal Cert.RmsPairRefIdeal.Gen Idealize.ShloMosaic Idealize.ShloMosaic.TcCoe Idealize.SL.Sem
open _root_.Norm (meanSq scale normDx normDg row normDx_eq)

theorem da_at (xa dya a : FVec Ideal S4096x1024 .f32) (ga : FVec Ideal S1x1024 .f32) (i : Fin 4096) (d : Fin 1024) :
    (addf (addf (addf (mulf (mulf dya (broadcastInDim S4096x1024 ![0, 1] bcast_S1x1024_S4096x1024_0_1 ga)) (broadcastInDim S4096x1024 ![0, 1] bcast_S4096x1_S4096x1024_0_1 (Host.rsqrt (addf (Host.divf (broadcastInDim S4096x1 ![0] bcast_S4096_S4096x1_0 (Host.reduceAdd (mulf xa xa) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf xa (broadcastInDim S4096x1024 ![0] bcast_S4096_S4096x1024_0 (Host.reduceAdd (Host.divf (mulf (shapeCast _ (Host.reduceAdd (mulf xa (mulf dya (broadcastInDim S4096x1024 ![0, 1] bcast_S1x1024_S4096x1024_0_1 ga))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf xa xa) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf xa xa) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf xa (mulf dya (broadcastInDim S4096x1024 ![0, 1] bcast_S1x1024_S4096x1024_0_1 ga))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf xa xa) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf xa xa) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) xa)) a : FVec Ideal S4096x1024 .f32) (ix2 i d) = normDx (row xa i) (row ga 0) (row dya i) d + a (ix2 i d) := by
  pointwise []
  rw [← normDx_eq]
  simp only [meanSq, scale, row, zero_add, Finset.univ_unique, Finset.sum_singleton]

theorem db_at (xb v : FVec Ideal S4096x1024 .f32) (gb : FVec Ideal S1x1024 .f32) (i : Fin 4096) (d : Fin 1024) :
    (truncf .bf16 (addf (addf (mulf (mulf v (broadcastInDim S4096x1024 ![0, 1] bcast_S1x1024_S4096x1024_0_1 gb)) (broadcastInDim S4096x1024 ![0, 1] bcast_S4096x1_S4096x1024_0_1 (Host.rsqrt (addf (Host.divf (broadcastInDim S4096x1 ![0] bcast_S4096_S4096x1_0 (Host.reduceAdd (mulf xb xb) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf xb (broadcastInDim S4096x1024 ![0] bcast_S4096_S4096x1024_0 (Host.reduceAdd (Host.divf (mulf (shapeCast _ (Host.reduceAdd (mulf xb (mulf v (broadcastInDim S4096x1024 ![0, 1] bcast_S1x1024_S4096x1024_0_1 gb))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf xb xb) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf xb xb) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf xb (mulf v (broadcastInDim S4096x1024 ![0, 1] bcast_S1x1024_S4096x1024_0_1 gb))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf xb xb) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf xb xb) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) xb)) bitsLt_bf16_f32 : FVec Ideal S4096x1024 .bf16) (ix2 i d) = normDx (row xb i) (row gb 0) (row v i) d := by
  pointwise []
  rw [← normDx_eq]
  simp only [meanSq, scale, row, zero_add, Finset.univ_unique, Finset.sum_singleton]

theorem dg_at (xa dya : FVec Ideal S4096x1024 .f32) (o : Fin 1) (d : Fin 1024) :
    (shapeCast _ (Host.reduceAdd (mulf (mulf xa (broadcastInDim S4096x1024 ![0, 1] bcast_S4096x1_S4096x1024_0_1 (Host.rsqrt (addf (Host.divf (broadcastInDim S4096x1 ![0] bcast_S4096_S4096x1_0 (Host.reduceAdd (mulf xa xa) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) dya) (constant S_ .f32 0x00000000#32) reducesTo_S4096x1024_S1024_d0 h_S_) shapeCasts_S1024_S1x1024 : FVec Ideal S1x1024 .f32) (ix2 o d) = normDg xa dya d := by
  pointwise []
  simp only [normDg, meanSq, scale, row, zero_add]
  exact Finset.sum_congr rfl fun i _ => (mul_comm _ _).trans (mul_assoc _ _ _).symm

end Cert.RmsPairRefIdeal.Norm

namespace Cert.Proof

open Idealize.ShloMosaic Idealize.SL.Sem

attribute [local instance] Cert.RmsPair.Gen.facts Cert.RmsPairIdeal.Gen.facts Cert.RmsPairRefIdeal.Gen.facts

theorem frame_rmsPair : Cert.quiescent_RmsPair := fun m ρ _ => Cert.RmsPair.Gen.frame m ρ
theorem frame_rmsPairIdeal : Cert.quiescent_RmsPairIdeal := fun m ρ _ => Cert.RmsPairIdeal.Gen.frame m ρ

theorem frame_rmsPairRefIdeal : Cert.quiescent_RmsPairRefIdeal := fun m ρ _ =>
  (θ_run Cert.RmsPairRefIdeal.defs _ _).mono
    (fun r hr => ⟨fun c => (hr c).2.2.2.2, sem_eq_zero_of_no_sems (by decide) r.2⟩) (Cert.RmsPairRefIdeal.Value.run m ρ)

theorem preserves_rmsPair : Cert.preserves_RmsPair_RmsPairIdeal := trivial

/-- Kernel and reference end with the same two gradients of rows and the same two gradients of gains. -/
theorem algebraic_rmsPair : Cert.algebraic_RmsPairIdeal_RmsPairRefIdeal := by
  intro m g m' g' _ hargs
  refine ⟨fun c => Cert.RmsPairIdeal.Norm.da (m ((c.tc : Thread Cert.RmsPairIdeal.nD Cert.RmsPairIdeal.τ).loc Cert.RmsPairIdeal.main_arg0)) (m ((c.tc : Thread Cert.RmsPairIdeal.nD Cert.RmsPairIdeal.τ).loc Cert.RmsPairIdeal.main_arg1)) (m ((c.tc : Thread Cert.RmsPairIdeal.nD Cert.RmsPairIdeal.τ).loc Cert.RmsPairIdeal.main_arg2)) (m ((c.tc : Thread Cert.RmsPairIdeal.nD Cert.RmsPairIdeal.τ).loc Cert.RmsPairIdeal.main_arg3)),
    fun c y => _root_.Norm.normDx (_root_.Norm.row (m ((c.tc : Thread Cert.RmsPairIdeal.nD Cert.RmsPairIdeal.τ).loc Cert.RmsPairIdeal.main_arg4)) (y 0)) (_root_.Norm.row (m ((c.tc : Thread Cert.RmsPairIdeal.nD Cert.RmsPairIdeal.τ).loc Cert.RmsPairIdeal.main_arg5)) 0) (_root_.Norm.row (Cert.RmsPairIdeal.Norm.da (m ((c.tc : Thread Cert.RmsPairIdeal.nD Cert.RmsPairIdeal.τ).loc Cert.RmsPairIdeal.main_arg0)) (m ((c.tc : Thread Cert.RmsPairIdeal.nD Cert.RmsPairIdeal.τ).loc Cert.RmsPairIdeal.main_arg1)) (m ((c.tc : Thread Cert.RmsPairIdeal.nD Cert.RmsPairIdeal.τ).loc Cert.RmsPairIdeal.main_arg2)) (m ((c.tc : Thread Cert.RmsPairIdeal.nD Cert.RmsPairIdeal.τ).loc Cert.RmsPairIdeal.main_arg3))) (y 0)) (y 1),
    fun c y => _root_.Norm.normDg (m ((c.tc : Thread Cert.RmsPairIdeal.nD Cert.RmsPairIdeal.τ).loc Cert.RmsPairIdeal.main_arg0)) (m ((c.tc : Thread Cert.RmsPairIdeal.nD Cert.RmsPairIdeal.τ).loc Cert.RmsPairIdeal.main_arg2)) (y 1), fun c y => _root_.Norm.normDg (m ((c.tc : Thread Cert.RmsPairIdeal.nD Cert.RmsPairIdeal.τ).loc Cert.RmsPairIdeal.main_arg4)) (Cert.RmsPairIdeal.Norm.da (m ((c.tc : Thread Cert.RmsPairIdeal.nD Cert.RmsPairIdeal.τ).loc Cert.RmsPairIdeal.main_arg0)) (m ((c.tc : Thread Cert.RmsPairIdeal.nD Cert.RmsPairIdeal.τ).loc Cert.RmsPairIdeal.main_arg1)) (m ((c.tc : Thread Cert.RmsPairIdeal.nD Cert.RmsPairIdeal.τ).loc Cert.RmsPairIdeal.main_arg2)) (m ((c.tc : Thread Cert.RmsPairIdeal.nD Cert.RmsPairIdeal.τ).loc Cert.RmsPairIdeal.main_arg3))) (y 1), ?_, ?_⟩
  · exact (θ_run Cert.RmsPairIdeal.defs _ _).mono (fun r hr c => ⟨(hr c).1.trans (Cert.RmsPairIdeal.Norm.da_array m c),
      (hr c).2.1.trans (Cert.RmsPairIdeal.Norm.db_array m c), (hr c).2.2.1.trans (Cert.RmsPairIdeal.Norm.dga_array m c),
      (hr c).2.2.2.1.trans (Cert.RmsPairIdeal.Norm.dgb_array m c), (hr c).2.2.2.2⟩)
      (Cert.RmsPairIdeal.Value.run_blocks m g)
  · refine (θ_run Cert.RmsPairRefIdeal.defs _ _).mono (fun r hr c => ⟨(hr c).1.trans ?_, (hr c).2.1.trans ?_, (hr c).2.2.1.trans ?_,
      (hr c).2.2.2.1.trans ?_, (hr c).2.2.2.2⟩) (Cert.RmsPairRefIdeal.Value.run m' g')
    · refine funext fun y => (congrArg _ (eq_ix2 y)).trans ((Cert.RmsPairRefIdeal.Norm.da_at _ _ _ _ (y 0) (y 1)).trans ?_)
      rw [(hargs c).1, (hargs c).2.1, (hargs c).2.2.1, (hargs c).2.2.2.1]
      exact congrArg (_ + ·) (congrArg _ (eq_ix2 y).symm)
    · refine funext fun y => (congrArg _ (eq_ix2 y)).trans ((Cert.RmsPairRefIdeal.Norm.db_at _ _ _ (y 0) (y 1)).trans ?_)
      refine congr (congr (congrArg₂ _root_.Norm.normDx ?_ ?_) ?_) rfl
      · rw [(hargs c).2.2.2.2.1]
      · rw [(hargs c).2.2.2.2.2]
      · refine funext fun d => (Cert.RmsPairRefIdeal.Norm.da_at _ _ _ _ (y 0) d).trans ?_
        rw [(hargs c).1, (hargs c).2.1, (hargs c).2.2.1, (hargs c).2.2.2.1]
        rfl
    · refine funext fun y => (congrArg _ (eq_ix2 y)).trans ((Cert.RmsPairRefIdeal.Norm.dg_at _ _ (y 0) (y 1)).trans ?_)
      rw [(hargs c).1, (hargs c).2.2.1]
    · refine funext fun y => (congrArg _ (eq_ix2 y)).trans ((Cert.RmsPairRefIdeal.Norm.dg_at _ _ (y 0) (y 1)).trans ?_)
      refine congrFun (congrArg₂ _root_.Norm.normDg ?_ ?_) _
      · rw [(hargs c).2.2.2.2.1]
      · refine funext fun y => (congrArg _ (eq_ix2 y)).trans ((Cert.RmsPairRefIdeal.Norm.da_at _ _ _ _ (y 0) (y 1)).trans ?_)
        rw [(hargs c).1, (hargs c).2.1, (hargs c).2.2.1, (hargs c).2.2.2.1]
        exact congrArg (_ + ·) (congrArg _ (eq_ix2 y).symm)

end Cert.Proof

end
-- ==== Proof.RmsPost.lean ====
/- The gradient of the norm after a branch, against the reference's. -/
module

public import proofs.«01_k».proof.Defs
public import proofs.«01_k».proof.Proof.Norm
public import proofs.«01_k».proof.Proof.Gen.RmsPost.Frame
public import proofs.«01_k».proof.Proof.Gen.RmsPostIdeal.Frame
public import proofs.«01_k».proof.Proof.Gen.RmsPostIdeal.Value
public import proofs.«01_k».proof.Proof.Gen.RmsPostRefIdeal.Run
public import Idealize.ShloMosaic.Lib.Pipeline.ValueKit
public import Idealize.ShloMosaic.Lib.Pointwise

@[expose] public section

set_option maxRecDepth 16384

noncomputable section

namespace Cert.RmsPostIdeal.Norm

open Cert.RmsPostIdeal Cert.RmsPostIdeal.Gen Idealize.ShloMosaic Idealize.ShloMosaic.TcCoe Idealize.SL.Sem
open _root_.Norm (meanSq scale normDx normDg row at_ partDg parts gathered)

theorem dx_at (x dy : Vec Ideal S512x1024 .f32) (g : Vec Ideal S1x1024 .f32) (i : Fin 512) (d : Fin 1024) :
    k0_pay2 x dy g (ix2 i d) = normDx (row x i) (row g 0) (row dy i) d := by
  pointwise [k0_pay2, k0_pay1]
  rfl

theorem dg_at (x dy : Vec Ideal S512x1024 .f32) (o : Vec Ideal S1x1024 .f32) (d : Fin 1024) :
    k0_pay4 x dy o (ix2 0 d) = o (ix2 0 d) + normDg x dy d := by
  pointwise [k0_pay4, k0_pay1]
  rfl

theorem zero_at (d : Fin 1024) : (k0_pay3 : FVec Ideal S1x1024 .f32) (ix2 0 d) = 0 := by
  pointwise [k0_pay3]

theorem idx0 : ∀ t : Fin cfg0.N, win0_0.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx1 : ∀ t : Fin cfg0.N, win0_1.index t = ![0, 0] := (by decide +kernel : ∀ t : Fin grid0.N, _)
theorem idx4 : ∀ t : Fin cfg0.N, win0_4.index t = ![0, 0] := (by decide +kernel : ∀ t : Fin grid0.N, _)

/-- A grid point as a block of rows. -/
def pt (t : Fin cfg0.N) : Fin 8 := ⟨t.val, t.isLt⟩

variable (m : (ℓ : Loc nD τ sig) → Buf (Elt Ideal) ℓ) (c : Dev nD) (t : Fin cfg0.N)

theorem block0 (i : Fin 512) (d : Fin 1024) : iblk m c 0 t (ix2 i d) = m ((c.tc : Thread nD τ).loc main_arg0) (ix2 (at_ (pt t) i) d) := by
  blk_ext [iblk, V, idx0 t, at_, pt]

theorem block2 (i : Fin 512) (d : Fin 1024) : iblk m c 2 t (ix2 i d) = m ((c.tc : Thread nD τ).loc main_arg2) (ix2 (at_ (pt t) i) d) := by
  blk_ext [iblk, V, idx2 t, at_, pt]

theorem block1 (d : Fin 1024) : iblk m c 1 t (ix2 0 d) = m ((c.tc : Thread nD τ).loc main_arg1) (ix2 0 d) := by
  blk_ext [iblk, V, idx1 t]

theorem emb3 (y : S512x1024.Idx) : (win0_3.blk t).view.emb y = ix2 (at_ (pt t) (y 0)) (y 1) := by
  blk_ext [idx3 t, at_, pt]

/-- Rows of blocks are rows of the arrays. -/
theorem rows_eq (X : Vec Ideal S512x1024 .f32) (x : S4096x1024.Idx → EReal) (h : ∀ i d, X (ix2 i d) = x (ix2 (at_ (pt t) i) d)) (i : Fin 512) :
    row X i = row x (at_ (pt t) i) := funext fun d => h i d

theorem gain_eq (G : Vec Ideal S1x1024 .f32) (g : S1x1024.Idx → EReal) (h : ∀ d, G (ix2 0 d) = g (ix2 0 d)) : row G 0 = row g 0 :=
  funext fun d => h d

theorem part_eq (X D : Vec Ideal S512x1024 .f32) (x dy : S4096x1024.Idx → EReal) (hX : ∀ i d, X (ix2 i d) = x (ix2 (at_ (pt t) i) d))
    (hD : ∀ i d, D (ix2 i d) = dy (ix2 (at_ (pt t) i) d)) (d : Fin 1024) : normDg X D d = partDg x dy d (pt t) :=
  Finset.sum_congr rfl fun i _ => congrArg₂ (· * ·) (congrArg₂ (· * ·) (hD i d) (hX i d)) (congrArg scale (rows_eq t X x hX i))

theorem dx_block (i : Fin 512) (d : Fin 1024) : k0_pay2 (iblk m c 0 t) (iblk m c 2 t) (iblk m c 1 t) (ix2 i d) =
    normDx (row (m ((c.tc : Thread nD τ).loc main_arg0)) (at_ (pt t) i)) (row (m ((c.tc : Thread nD τ).loc main_arg1)) 0) (row (m ((c.tc : Thread nD τ).loc main_arg2)) (at_ (pt t) i)) d := by
  refine (dx_at _ _ _ i d).trans ?_
  rw [rows_eq t _ _ (block0 m c t) i, rows_eq t _ _ (block2 m c t) i, gain_eq _ _ (block1 m c t)]

theorem rows_after (i : Fin 512) (d : Fin 1024) : (dats m 0 c).after 3 t (ix2 i d) =
    (normDx (row (m ((c.tc : Thread nD τ).loc main_arg0)) (at_ (pt t) i)) (row (m ((c.tc : Thread nD τ).loc main_arg1)) 0) (row (m ((c.tc : Thread nD τ).loc main_arg2)) (at_ (pt t) i)) d : EReal) := by
  by_cases h0 : t.val % 8 = 0
  · rw [after0_3, outsAt0_A m c t h0]
    frame_out
    exact dx_block m c t i d
  · rw [after0_3, outsAt0_B m c t h0]
    frame_out
    exact dx_block m c t i d

/-- The running gradient of the gain. -/
def gain (t : Fin cfg0.N) : S1x1024.Idx → EReal := (dats m 0 c).after 4 t

theorem gain_first (h0 : t.val % 8 = 0) (d : Fin 1024) : gain m c t (ix2 0 d) = 0 + partDg (m ((c.tc : Thread nD τ).loc main_arg0)) (m ((c.tc : Thread nD τ).loc main_arg2)) d (pt t) := by
  unfold gain
  rw [after0_4, outsAt0_A m c t h0]
  frame_out
  refine (dg_at _ _ _ d).trans ?_
  exact congrArg₂ (· + ·) (zero_at d) (part_eq t _ _ _ _ (block0 m c t) (block2 m c t) d)

theorem gain_next (h0 : ¬t.val % 8 = 0) (d : Fin 1024) :
    gain m c t (ix2 0 d) = gain m c ⟨t.val - 1, by omega⟩ (ix2 0 d) + partDg (m ((c.tc : Thread nD τ).loc main_arg0)) (m ((c.tc : Thread nD τ).loc main_arg2)) d (pt t) := by
  unfold gain
  rw [after0_4, after0_4, outsAt0_B m c t h0]
  frame_out
  refine (dg_at _ _ _ d).trans ?_
  exact congrArg₂ (· + ·) rfl (part_eq t _ _ _ _ (block0 m c t) (block2 m c t) d)

theorem gain_all (d : Fin 1024) : gain m c ⟨7, by decide⟩ (ix2 0 d) = normDg (m ((c.tc : Thread nD τ).loc main_arg0)) (m ((c.tc : Thread nD τ).loc main_arg2)) d :=
  (gathered (fun s : Fin 8 => gain m c ⟨s.val, s.isLt⟩ (ix2 0 d)) _ (gain_first m c ⟨0, by decide⟩ rfl d)
    fun n h => gain_next m c ⟨n + 1, h⟩ (by show ¬(n + 1) % 8 = 0; omega) d).trans (parts _ _ d)

theorem row1_eq (y : S1x1024.Idx) : y = ix2 0 (y 1) := by
  funext a
  fin_cases a
  · exact Subsingleton.elim (α := Fin 1) _ _
  · rfl

theorem dx_array : (dats m 0 c).arrAt 3 cfg0.N = fun y : S4096x1024.Idx => normDx (row (m ((c.tc : Thread nD τ).loc main_arg0)) (y 0)) (row (m ((c.tc : Thread nD τ).loc main_arg1)) 0) (row (m ((c.tc : Thread nD τ).loc main_arg2)) (y 0)) (y 1) := by
  refine (dats m 0 c).arrAt_eq_of_covers 3 _ (by decide +kernel) fun t hf y => ?_
  blk_simp
  rw [emb3]
  exact (congrArg _ (eq_ix2 y)).trans (rows_after m c t _ _)

theorem dg_array : (dats m 0 c).arrAt 4 cfg0.N = fun y : S1x1024.Idx => normDg (m ((c.tc : Thread nD τ).loc main_arg0)) (m ((c.tc : Thread nD τ).loc main_arg2)) (y 1) := by
  refine (dats m 0 c).arrAt_eq_of_after_last 4 ⟨7, by decide⟩ (by decide +kernel) _ fun y => ?_
  blk_simp
  exact (congrArg (gain m c ⟨7, by decide⟩) (row1_eq y)).trans (gain_all m c (y 1))

end Cert.RmsPostIdeal.Norm

namespace Cert.RmsPostRefIdeal.Norm

open Cert.RmsPostRefIdeal Cert.RmsPostRefIdeal.Gen Idealize.ShloMosaic Idealize.ShloMosaic.TcCoe Idealize.SL.Sem
open _root_.Norm (meanSq scale normDx normDg row normDx_eq)

theorem dx_at (x dy : FVec Ideal S4096x1024 .f32) (g : FVec Ideal S1x1024 .f32) (i : Fin 4096) (d : Fin 1024) :
    (truncf .bf16 (addf (addf (mulf (mulf dy (broadcastInDim S4096x1024 ![0, 1] bcast_S1x1024_S4096x1024_0_1 g)) (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf x (broadcastInDim S4096x1024 ![0] bcast_S4096_S4096x1024_0 (Host.reduceAdd (Host.divf (mulf (shapeCast _ (Host.reduceAdd (mulf x (mulf dy (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x (mulf dy (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x)) bitsLt_bf16_f32 : FVec Ideal S4096x1024 .bf16) (ix2 i d) = normDx (row x i) (row g 0) (row dy i) d := by
  pointwise []
  rw [← normDx_eq]
  simp only [meanSq, scale, row, zero_add, Finset.univ_unique, Finset.sum_singleton]

theorem dg_at (x dy : FVec Ideal S4096x1024 .f32) (o : Fin 1) (d : Fin 1024) :
    (shapeCast _ (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) dy) (constant S_ .f32 0x00000000#32) reducesTo_S4096x1024_S1024_d0 h_S_) shapeCasts_S1024_S1x1024 : FVec Ideal S1x1024 .f32) (ix2 o d) = normDg x dy d := by
  pointwise []
  simp only [normDg, meanSq, scale, row, zero_add]
  exact Finset.sum_congr rfl fun i _ => (mul_comm _ _).trans (mul_assoc _ _ _).symm

end Cert.RmsPostRefIdeal.Norm

namespace Cert.Proof

open Idealize.ShloMosaic Idealize.SL.Sem

attribute [local instance] Cert.RmsPost.Gen.facts Cert.RmsPostIdeal.Gen.facts Cert.RmsPostRefIdeal.Gen.facts

theorem frame_rmsPost : Cert.quiescent_RmsPost := fun m ρ _ => Cert.RmsPost.Gen.frame m ρ
theorem frame_rmsPostIdeal : Cert.quiescent_RmsPostIdeal := fun m ρ _ => Cert.RmsPostIdeal.Gen.frame m ρ

theorem frame_rmsPostRefIdeal : Cert.quiescent_RmsPostRefIdeal := fun m ρ _ =>
  (θ_run Cert.RmsPostRefIdeal.defs _ _).mono
    (fun r hr => ⟨fun c => (hr c).2.2, sem_eq_zero_of_no_sems (by decide) r.2⟩) (Cert.RmsPostRefIdeal.Value.run m ρ)

theorem preserves_rmsPost : Cert.preserves_RmsPost_RmsPostIdeal := trivial

/-- Kernel and reference end with the same gradients of rows and gain. -/
theorem algebraic_rmsPost : Cert.algebraic_RmsPostIdeal_RmsPostRefIdeal := by
  intro m g m' g' _ hargs
  refine ⟨fun c y => _root_.Norm.normDx (_root_.Norm.row (m ((c.tc : Thread Cert.RmsPostIdeal.nD Cert.RmsPostIdeal.τ).loc Cert.RmsPostIdeal.main_arg0)) (y 0)) (_root_.Norm.row (m ((c.tc : Thread Cert.RmsPostIdeal.nD Cert.RmsPostIdeal.τ).loc Cert.RmsPostIdeal.main_arg1)) 0) (_root_.Norm.row (m ((c.tc : Thread Cert.RmsPostIdeal.nD Cert.RmsPostIdeal.τ).loc Cert.RmsPostIdeal.main_arg2)) (y 0)) (y 1),
    fun c y => _root_.Norm.normDg (m ((c.tc : Thread Cert.RmsPostIdeal.nD Cert.RmsPostIdeal.τ).loc Cert.RmsPostIdeal.main_arg0)) (m ((c.tc : Thread Cert.RmsPostIdeal.nD Cert.RmsPostIdeal.τ).loc Cert.RmsPostIdeal.main_arg2)) (y 1), ?_, ?_⟩
  · exact (θ_run Cert.RmsPostIdeal.defs _ _).mono (fun r hr c => ⟨(hr c).1.trans (Cert.RmsPostIdeal.Norm.dx_array m c),
      (hr c).2.1.trans (Cert.RmsPostIdeal.Norm.dg_array m c), (hr c).2.2⟩)
      (Cert.RmsPostIdeal.Value.run_blocks m g)
  · refine (θ_run Cert.RmsPostRefIdeal.defs _ _).mono (fun r hr c => ⟨(hr c).1.trans ?_, (hr c).2.1.trans ?_, (hr c).2.2⟩)
      (Cert.RmsPostRefIdeal.Value.run m' g')
    · refine funext fun y => (congrArg _ (eq_ix2 y)).trans ((Cert.RmsPostRefIdeal.Norm.dx_at _ _ _ (y 0) (y 1)).trans ?_)
      rw [(hargs c).1, (hargs c).2.1, (hargs c).2.2]
    · refine funext fun y => (congrArg _ (eq_ix2 y)).trans ((Cert.RmsPostRefIdeal.Norm.dg_at _ _ (y 0) (y 1)).trans ?_)
      rw [(hargs c).1, (hargs c).2.2]

end Cert.Proof

end
-- ==== Proof.RmsPre.lean ====
/- The gradient of the norm before a branch, the residual's gradient added, against the reference's. -/
module

public import proofs.«01_k».proof.Defs
public import proofs.«01_k».proof.Proof.Norm
public import proofs.«01_k».proof.Proof.Gen.RmsPre.Frame
public import proofs.«01_k».proof.Proof.Gen.RmsPreIdeal.Frame
public import proofs.«01_k».proof.Proof.Gen.RmsPreIdeal.Value
public import proofs.«01_k».proof.Proof.Gen.RmsPreRefIdeal.Run
public import Idealize.ShloMosaic.Lib.Pipeline.ValueKit
public import Idealize.ShloMosaic.Lib.Pointwise

@[expose] public section

set_option maxRecDepth 16384

noncomputable section

namespace Cert.RmsPreIdeal.Norm

open Cert.RmsPreIdeal Cert.RmsPreIdeal.Gen Idealize.ShloMosaic Idealize.ShloMosaic.TcCoe Idealize.SL.Sem
open _root_.Norm (meanSq scale normDx normDg row at_ partDg parts gathered)

theorem dx_at (x dy : Vec Ideal S512x1024 .f32) (g : Vec Ideal S1x1024 .f32) (a : Vec Ideal S512x1024 .f32) (i : Fin 512) (d : Fin 1024) :
    k0_pay3 x dy g a (ix2 i d) = normDx (row x i) (row g 0) (row dy i) d + a (ix2 i d) := by
  pointwise [k0_pay3, k0_pay2]
  rfl

theorem dg_at (x dy : Vec Ideal S512x1024 .f32) (o : Vec Ideal S1x1024 .f32) (d : Fin 1024) :
    k0_pay1 (k0_pay5 o) (k0_pay6 x dy) (ix2 0 d) = o (ix2 0 d) + normDg x dy d := by
  pointwise [k0_pay1, k0_pay5, k0_pay6, k0_pay2]
  rfl

theorem zero_at (d : Fin 1024) : (k0_pay4 : FVec Ideal S1x1024 .f32) (ix2 0 d) = 0 := by
  pointwise [k0_pay4]

theorem idx0 : ∀ t : Fin cfg0.N, win0_0.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx1 : ∀ t : Fin cfg0.N, win0_1.index t = ![0, 0] := (by decide +kernel : ∀ t : Fin grid0.N, _)
theorem idx5 : ∀ t : Fin cfg0.N, win0_5.index t = ![0, 0] := (by decide +kernel : ∀ t : Fin grid0.N, _)

/-- A grid point as a block of rows. -/
def pt (t : Fin cfg0.N) : Fin 8 := ⟨t.val, t.isLt⟩

variable (m : (ℓ : Loc nD τ sig) → Buf (Elt Ideal) ℓ) (c : Dev nD) (t : Fin cfg0.N)

theorem block0 (i : Fin 512) (d : Fin 1024) : iblk m c 0 t (ix2 i d) = m ((c.tc : Thread nD τ).loc main_arg0) (ix2 (at_ (pt t) i) d) := by
  blk_ext [iblk, V, idx0 t, at_, pt]

theorem block2 (i : Fin 512) (d : Fin 1024) : iblk m c 2 t (ix2 i d) = m ((c.tc : Thread nD τ).loc main_arg2) (ix2 (at_ (pt t) i) d) := by
  blk_ext [iblk, V, idx2 t, at_, pt]

theorem block3 (i : Fin 512) (d : Fin 1024) : iblk m c 3 t (ix2 i d) = m ((c.tc : Thread nD τ).loc main_arg3) (ix2 (at_ (pt t) i) d) := by
  blk_ext [iblk, V, idx3 t, at_, pt]

theorem block1 (d : Fin 1024) : iblk m c 1 t (ix2 0 d) = m ((c.tc : Thread nD τ).loc main_arg1) (ix2 0 d) := by
  blk_ext [iblk, V, idx1 t]

theorem emb4 (y : S512x1024.Idx) : (win0_4.blk t).view.emb y = ix2 (at_ (pt t) (y 0)) (y 1) := by
  blk_ext [idx4 t, at_, pt]

/-- Rows of blocks are rows of the arrays. -/
theorem rows_eq (X : Vec Ideal S512x1024 .f32) (x : S4096x1024.Idx → EReal) (h : ∀ i d, X (ix2 i d) = x (ix2 (at_ (pt t) i) d)) (i : Fin 512) :
    row X i = row x (at_ (pt t) i) := funext fun d => h i d

theorem gain_eq (G : Vec Ideal S1x1024 .f32) (g : S1x1024.Idx → EReal) (h : ∀ d, G (ix2 0 d) = g (ix2 0 d)) : row G 0 = row g 0 :=
  funext fun d => h d

theorem part_eq (X D : Vec Ideal S512x1024 .f32) (x dy : S4096x1024.Idx → EReal) (hX : ∀ i d, X (ix2 i d) = x (ix2 (at_ (pt t) i) d))
    (hD : ∀ i d, D (ix2 i d) = dy (ix2 (at_ (pt t) i) d)) (d : Fin 1024) : normDg X D d = partDg x dy d (pt t) :=
  Finset.sum_congr rfl fun i _ => congrArg₂ (· * ·) (congrArg₂ (· * ·) (hD i d) (hX i d)) (congrArg scale (rows_eq t X x hX i))

theorem dx_block (i : Fin 512) (d : Fin 1024) : k0_pay3 (iblk m c 0 t) (iblk m c 2 t) (iblk m c 1 t) (iblk m c 3 t) (ix2 i d) =
    normDx (row (m ((c.tc : Thread nD τ).loc main_arg0)) (at_ (pt t) i)) (row (m ((c.tc : Thread nD τ).loc main_arg1)) 0) (row (m ((c.tc : Thread nD τ).loc main_arg2)) (at_ (pt t) i)) d + (m ((c.tc : Thread nD τ).loc main_arg3)) (ix2 (at_ (pt t) i) d) := by
  refine (dx_at _ _ _ _ i d).trans ?_
  rw [rows_eq t _ _ (block0 m c t) i, rows_eq t _ _ (block2 m c t) i, gain_eq _ _ (block1 m c t)]
  exact congrArg (_ + ·) (block3 m c t i d)

theorem rows_after (i : Fin 512) (d : Fin 1024) : (dats m 0 c).after 4 t (ix2 i d) =
    (normDx (row (m ((c.tc : Thread nD τ).loc main_arg0)) (at_ (pt t) i)) (row (m ((c.tc : Thread nD τ).loc main_arg1)) 0) (row (m ((c.tc : Thread nD τ).loc main_arg2)) (at_ (pt t) i)) d + (m ((c.tc : Thread nD τ).loc main_arg3)) (ix2 (at_ (pt t) i) d) : EReal) := by
  by_cases h0 : t.val % 8 = 0
  · rw [after0_4, outsAt0_A m c t h0]
    frame_out
    exact dx_block m c t i d
  · rw [after0_4, outsAt0_B m c t h0]
    frame_out
    exact dx_block m c t i d

/-- The running gradient of the gain. -/
def gain (t : Fin cfg0.N) : S1x1024.Idx → EReal := (dats m 0 c).after 5 t

theorem gain_first (h0 : t.val % 8 = 0) (d : Fin 1024) : gain m c t (ix2 0 d) = 0 + partDg (m ((c.tc : Thread nD τ).loc main_arg0)) (m ((c.tc : Thread nD τ).loc main_arg2)) d (pt t) := by
  unfold gain
  rw [after0_5, outsAt0_A m c t h0]
  frame_out
  refine (dg_at _ _ _ d).trans ?_
  exact congrArg₂ (· + ·) (zero_at d) (part_eq t _ _ _ _ (block0 m c t) (block2 m c t) d)

theorem gain_next (h0 : ¬t.val % 8 = 0) (d : Fin 1024) :
    gain m c t (ix2 0 d) = gain m c ⟨t.val - 1, by omega⟩ (ix2 0 d) + partDg (m ((c.tc : Thread nD τ).loc main_arg0)) (m ((c.tc : Thread nD τ).loc main_arg2)) d (pt t) := by
  unfold gain
  rw [after0_5, after0_5, outsAt0_B m c t h0]
  frame_out
  refine (dg_at _ _ _ d).trans ?_
  exact congrArg₂ (· + ·) rfl (part_eq t _ _ _ _ (block0 m c t) (block2 m c t) d)

theorem gain_all (d : Fin 1024) : gain m c ⟨7, by decide⟩ (ix2 0 d) = normDg (m ((c.tc : Thread nD τ).loc main_arg0)) (m ((c.tc : Thread nD τ).loc main_arg2)) d :=
  (gathered (fun s : Fin 8 => gain m c ⟨s.val, s.isLt⟩ (ix2 0 d)) _ (gain_first m c ⟨0, by decide⟩ rfl d)
    fun n h => gain_next m c ⟨n + 1, h⟩ (by show ¬(n + 1) % 8 = 0; omega) d).trans (parts _ _ d)

theorem row1_eq (y : S1x1024.Idx) : y = ix2 0 (y 1) := by
  funext a
  fin_cases a
  · exact Subsingleton.elim (α := Fin 1) _ _
  · rfl

/-- The gradient of the rows, the residual's gradient added. -/
def dx (x : S4096x1024.Idx → EReal) (g : S1x1024.Idx → EReal) (dy a : S4096x1024.Idx → EReal) (y : S4096x1024.Idx) : EReal :=
  normDx (row x (y 0)) (row g 0) (row dy (y 0)) (y 1) + a y

theorem dx_array : (dats m 0 c).arrAt 4 cfg0.N = dx (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [emb4]
  exact (congrArg _ (eq_ix2 y)).trans (rows_after m c t _ _)

theorem dg_array : (dats m 0 c).arrAt 5 cfg0.N = fun y : S1x1024.Idx => normDg (m ((c.tc : Thread nD τ).loc main_arg0)) (m ((c.tc : Thread nD τ).loc main_arg2)) (y 1) := by
  refine (dats m 0 c).arrAt_eq_of_after_last 5 ⟨7, by decide⟩ (by decide +kernel) _ fun y => ?_
  blk_simp
  exact (congrArg (gain m c ⟨7, by decide⟩) (row1_eq y)).trans (gain_all m c (y 1))

end Cert.RmsPreIdeal.Norm

namespace Cert.RmsPreRefIdeal.Norm

open Cert.RmsPreRefIdeal Cert.RmsPreRefIdeal.Gen Idealize.ShloMosaic Idealize.ShloMosaic.TcCoe Idealize.SL.Sem
open _root_.Norm (meanSq scale normDx normDg row normDx_eq)

theorem dx_at (x dy a : FVec Ideal S4096x1024 .f32) (g : FVec Ideal S1x1024 .f32) (i : Fin 4096) (d : Fin 1024) :
    (addf (addf (addf (mulf (mulf dy (broadcastInDim S4096x1024 ![0, 1] bcast_S1x1024_S4096x1024_0_1 g)) (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf x (broadcastInDim S4096x1024 ![0] bcast_S4096_S4096x1024_0 (Host.reduceAdd (Host.divf (mulf (shapeCast _ (Host.reduceAdd (mulf x (mulf dy (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x (mulf dy (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x)) a : FVec Ideal S4096x1024 .f32) (ix2 i d) = normDx (row x i) (row g 0) (row dy i) d + a (ix2 i d) := by
  pointwise []
  rw [← normDx_eq]
  simp only [meanSq, scale, row, zero_add, Finset.univ_unique, Finset.sum_singleton]

theorem dg_at (x dy : FVec Ideal S4096x1024 .f32) (o : Fin 1) (d : Fin 1024) :
    (shapeCast _ (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) dy) (constant S_ .f32 0x00000000#32) reducesTo_S4096x1024_S1024_d0 h_S_) shapeCasts_S1024_S1x1024 : FVec Ideal S1x1024 .f32) (ix2 o d) = normDg x dy d := by
  pointwise []
  simp only [normDg, meanSq, scale, row, zero_add]
  exact Finset.sum_congr rfl fun i _ => (mul_comm _ _).trans (mul_assoc _ _ _).symm

end Cert.RmsPreRefIdeal.Norm

namespace Cert.Proof

open Idealize.ShloMosaic Idealize.SL.Sem

attribute [local instance] Cert.RmsPre.Gen.facts Cert.RmsPreIdeal.Gen.facts Cert.RmsPreRefIdeal.Gen.facts

theorem frame_rmsPre : Cert.quiescent_RmsPre := fun m ρ _ => Cert.RmsPre.Gen.frame m ρ
theorem frame_rmsPreIdeal : Cert.quiescent_RmsPreIdeal := fun m ρ _ => Cert.RmsPreIdeal.Gen.frame m ρ

theorem frame_rmsPreRefIdeal : Cert.quiescent_RmsPreRefIdeal := fun m ρ _ =>
  (θ_run Cert.RmsPreRefIdeal.defs _ _).mono
    (fun r hr => ⟨fun c => (hr c).2.2, sem_eq_zero_of_no_sems (by decide) r.2⟩) (Cert.RmsPreRefIdeal.Value.run m ρ)

theorem preserves_rmsPre : Cert.preserves_RmsPre_RmsPreIdeal := trivial

/-- Kernel and reference end with the same gradients of rows and gain. -/
theorem algebraic_rmsPre : Cert.algebraic_RmsPreIdeal_RmsPreRefIdeal := by
  intro m g m' g' _ hargs
  refine ⟨fun c => Cert.RmsPreIdeal.Norm.dx (m ((c.tc : Thread Cert.RmsPreIdeal.nD Cert.RmsPreIdeal.τ).loc Cert.RmsPreIdeal.main_arg0)) (m ((c.tc : Thread Cert.RmsPreIdeal.nD Cert.RmsPreIdeal.τ).loc Cert.RmsPreIdeal.main_arg1)) (m ((c.tc : Thread Cert.RmsPreIdeal.nD Cert.RmsPreIdeal.τ).loc Cert.RmsPreIdeal.main_arg2)) (m ((c.tc : Thread Cert.RmsPreIdeal.nD Cert.RmsPreIdeal.τ).loc Cert.RmsPreIdeal.main_arg3)),
    fun c y => _root_.Norm.normDg (m ((c.tc : Thread Cert.RmsPreIdeal.nD Cert.RmsPreIdeal.τ).loc Cert.RmsPreIdeal.main_arg0)) (m ((c.tc : Thread Cert.RmsPreIdeal.nD Cert.RmsPreIdeal.τ).loc Cert.RmsPreIdeal.main_arg2)) (y 1), ?_, ?_⟩
  · exact (θ_run Cert.RmsPreIdeal.defs _ _).mono (fun r hr c => ⟨(hr c).1.trans (Cert.RmsPreIdeal.Norm.dx_array m c),
      (hr c).2.1.trans (Cert.RmsPreIdeal.Norm.dg_array m c), (hr c).2.2⟩)
      (Cert.RmsPreIdeal.Value.run_blocks m g)
  · refine (θ_run Cert.RmsPreRefIdeal.defs _ _).mono (fun r hr c => ⟨(hr c).1.trans ?_, (hr c).2.1.trans ?_, (hr c).2.2⟩)
      (Cert.RmsPreRefIdeal.Value.run m' g')
    · refine funext fun y => (congrArg _ (eq_ix2 y)).trans ((Cert.RmsPreRefIdeal.Norm.dx_at _ _ _ _ (y 0) (y 1)).trans ?_)
      rw [(hargs c).1, (hargs c).2.1, (hargs c).2.2.1, (hargs c).2.2.2]
      exact congrArg (_ + ·) (congrArg _ (eq_ix2 y).symm)
    · refine funext fun y => (congrArg _ (eq_ix2 y)).trans ((Cert.RmsPreRefIdeal.Norm.dg_at _ _ (y 0) (y 1)).trans ?_)
      rw [(hargs c).1, (hargs c).2.2.1]

end Cert.Proof

end
-- ==== Proof.RmsMem.lean ====
/- The gradient of the norm of the memory, against the reference's. -/
module

public import proofs.«01_k».proof.Defs
public import proofs.«01_k».proof.Proof.Norm
public import proofs.«01_k».proof.Proof.Gen.RmsMem.Frame
public import proofs.«01_k».proof.Proof.Gen.RmsMemIdeal.Frame
public import proofs.«01_k».proof.Proof.Gen.RmsMemIdeal.Value
public import proofs.«01_k».proof.Proof.Gen.RmsMemRefIdeal.Run
public import Idealize.ShloMosaic.Lib.Pipeline.ValueKit
public import Idealize.ShloMosaic.Lib.Pointwise

@[expose] public section

set_option maxRecDepth 16384

noncomputable section

namespace Cert.RmsMemIdeal.Norm

open Cert.RmsMemIdeal Cert.RmsMemIdeal.Gen Idealize.ShloMosaic Idealize.ShloMosaic.TcCoe Idealize.SL.Sem
open _root_.Norm (meanSq scale normDx normDg row at_ partDg parts gathered)

theorem dx_at (x dy : Vec Ideal S512x1024 .f32) (g : Vec Ideal S1x1024 .f32) (i : Fin 512) (d : Fin 1024) :
    k0_pay2 x dy g (ix2 i d) = normDx (row x i) (row g 0) (row dy i) d := by
  pointwise [k0_pay2, k0_pay1]
  rfl

theorem dg_at (x dy : Vec Ideal S512x1024 .f32) (o : Vec Ideal S1x1024 .f32) (d : Fin 1024) :
    k0_pay4 x dy o (ix2 0 d) = o (ix2 0 d) + normDg x dy d := by
  pointwise [k0_pay4, k0_pay1]
  rfl

theorem zero_at (d : Fin 1024) : (k0_pay3 : FVec Ideal S1x1024 .f32) (ix2 0 d) = 0 := by
  pointwise [k0_pay3]

theorem idx0 : ∀ t : Fin cfg0.N, win0_0.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx1 : ∀ t : Fin cfg0.N, win0_1.index t = ![0, 0] := (by decide +kernel : ∀ t : Fin grid0.N, _)
theorem idx4 : ∀ t : Fin cfg0.N, win0_4.index t = ![0, 0] := (by decide +kernel : ∀ t : Fin grid0.N, _)

variable (m : (ℓ : Loc nD τ sig) → Buf (Elt Ideal) ℓ) (c : Dev nD) (t : Fin cfg0.N)

theorem block0 (i : Fin 512) (d : Fin 1024) : iblk m c 0 t (ix2 i d) = m ((c.tc : Thread nD τ).loc main_arg0) (ix2 i d) := by
  blk_ext [iblk, V, idx0 t]

theorem block2 (i : Fin 512) (d : Fin 1024) : iblk m c 2 t (ix2 i d) = m ((c.tc : Thread nD τ).loc main_arg2) (ix2 i d) := by
  blk_ext [iblk, V, idx2 t]

theorem block1 (d : Fin 1024) : iblk m c 1 t (ix2 0 d) = m ((c.tc : Thread nD τ).loc main_arg1) (ix2 0 d) := by
  blk_ext [iblk, V, idx1 t]

theorem emb3 (y : S512x1024.Idx) : (win0_3.blk t).view.emb y = ix2 (y 0) (y 1) := by
  blk_ext [idx3 t]

/-- Rows of blocks are rows of the arrays. -/
theorem rows_eq (X : Vec Ideal S512x1024 .f32) (x : S512x1024.Idx → EReal) (h : ∀ i d, X (ix2 i d) = x (ix2 i d)) (i : Fin 512) :
    row X i = row x i := funext fun d => h i d

theorem gain_eq (G : Vec Ideal S1x1024 .f32) (g : S1x1024.Idx → EReal) (h : ∀ d, G (ix2 0 d) = g (ix2 0 d)) : row G 0 = row g 0 :=
  funext fun d => h d

theorem part_eq (X D : Vec Ideal S512x1024 .f32) (x dy : S512x1024.Idx → EReal) (hX : ∀ i d, X (ix2 i d) = x (ix2 i d))
    (hD : ∀ i d, D (ix2 i d) = dy (ix2 i d)) (d : Fin 1024) : normDg X D d = normDg x dy d :=
  Finset.sum_congr rfl fun i _ => congrArg₂ (· * ·) (congrArg₂ (· * ·) (hD i d) (hX i d)) (congrArg scale (rows_eq X x hX i))

theorem dx_block (i : Fin 512) (d : Fin 1024) : k0_pay2 (iblk m c 0 t) (iblk m c 2 t) (iblk m c 1 t) (ix2 i d) =
    normDx (row (m ((c.tc : Thread nD τ).loc main_arg0)) i) (row (m ((c.tc : Thread nD τ).loc main_arg1)) 0) (row (m ((c.tc : Thread nD τ).loc main_arg2)) i) d := by
  refine (dx_at _ _ _ i d).trans ?_
  rw [rows_eq _ _ (block0 m c t) i, rows_eq _ _ (block2 m c t) i, gain_eq _ _ (block1 m c t)]

theorem rows_after (i : Fin 512) (d : Fin 1024) : (dats m 0 c).after 3 t (ix2 i d) =
    (normDx (row (m ((c.tc : Thread nD τ).loc main_arg0)) i) (row (m ((c.tc : Thread nD τ).loc main_arg1)) 0) (row (m ((c.tc : Thread nD τ).loc main_arg2)) i) d : EReal) := by
  rw [after0_3]
  unfold outsAt0
  frame_out
  exact dx_block m c t i d

/-- The gradient of the gain, gathered in one grid point. -/
def gain (t : Fin cfg0.N) : S1x1024.Idx → EReal := (dats m 0 c).after 4 t

theorem gain_all (d : Fin 1024) : gain m c t (ix2 0 d) = normDg (m ((c.tc : Thread nD τ).loc main_arg0)) (m ((c.tc : Thread nD τ).loc main_arg2)) d := by
  unfold gain
  rw [after0_4]
  unfold outsAt0
  frame_out
  refine (dg_at _ _ _ d).trans ?_
  exact (congrArg₂ (· + ·) (zero_at d) (part_eq _ _ _ _ (block0 m c t) (block2 m c t) d)).trans (zero_add _)

theorem row1_eq (y : S1x1024.Idx) : y = ix2 0 (y 1) := by
  funext a
  fin_cases a
  · exact Subsingleton.elim (α := Fin 1) _ _
  · rfl

theorem dx_array : (dats m 0 c).arrAt 3 cfg0.N = fun y : S512x1024.Idx => normDx (row (m ((c.tc : Thread nD τ).loc main_arg0)) (y 0)) (row (m ((c.tc : Thread nD τ).loc main_arg1)) 0) (row (m ((c.tc : Thread nD τ).loc main_arg2)) (y 0)) (y 1) := by
  refine (dats m 0 c).arrAt_eq_of_covers 3 _ (by decide +kernel) fun t hf y => ?_
  blk_simp
  rw [emb3]
  exact (congrArg _ (eq_ix2 y)).trans (rows_after m c t _ _)

theorem dg_array : (dats m 0 c).arrAt 4 cfg0.N = fun y : S1x1024.Idx => normDg (m ((c.tc : Thread nD τ).loc main_arg0)) (m ((c.tc : Thread nD τ).loc main_arg2)) (y 1) := by
  refine (dats m 0 c).arrAt_eq_of_after_last 4 ⟨0, by decide⟩ (by decide +kernel) _ fun y => ?_
  blk_simp
  exact (congrArg (gain m c ⟨0, by decide⟩) (row1_eq y)).trans (gain_all m c ⟨0, by decide⟩ (y 1))

end Cert.RmsMemIdeal.Norm

namespace Cert.RmsMemRefIdeal.Norm

open Cert.RmsMemRefIdeal Cert.RmsMemRefIdeal.Gen Idealize.ShloMosaic Idealize.ShloMosaic.TcCoe Idealize.SL.Sem
open _root_.Norm (meanSq scale normDx normDg row normDx_eq)

theorem dx_at (x dy : FVec Ideal S512x1024 .f32) (g : FVec Ideal S1x1024 .f32) (i : Fin 512) (d : Fin 1024) :
    (addf (addf (mulf (mulf dy (broadcastInDim S512x1024 ![0, 1] bcast_S1x1024_S512x1024_0_1 g)) (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (mulf x (broadcastInDim S512x1024 ![0] bcast_S512_S512x1024_0 (Host.reduceAdd (Host.divf (mulf (shapeCast _ (Host.reduceAdd (mulf x (mulf dy (broadcastInDim S512x1024 ![0, 1] bcast_S1x1024_S512x1024_0_1 g))) (constant S_ .f32 0x00000000#32) reducesTo_S512x1024_S512_d1 h_S_) shapeCasts_S512_S512x1) (mulf (broadcastInDim S512x1 ![] bcast_S_S512x1 (constant S_ .f32 0xBF000000#32)) (Host.divf (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))) (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1 ![] bcast_S_S512x1 (constant S_ .f32 0x44800000#32))) (constant S_ .f32 0x00000000#32) reducesTo_S512x1_S512_d1 h_S_)))) (mulf (broadcastInDim S512x1024 ![0] bcast_S512_S512x1024_0 (Host.reduceAdd (Host.divf (mulf (shapeCast _ (Host.reduceAdd (mulf x (mulf dy (broadcastInDim S512x1024 ![0, 1] bcast_S1x1024_S512x1024_0_1 g))) (constant S_ .f32 0x00000000#32) reducesTo_S512x1024_S512_d1 h_S_) shapeCasts_S512_S512x1) (mulf (broadcastInDim S512x1 ![] bcast_S_S512x1 (constant S_ .f32 0xBF000000#32)) (Host.divf (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))) (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1 ![] bcast_S_S512x1 (constant S_ .f32 0x44800000#32))) (constant S_ .f32 0x00000000#32) reducesTo_S512x1_S512_d1 h_S_)) x) : FVec Ideal S512x1024 .f32) (ix2 i d) = normDx (row x i) (row g 0) (row dy i) d := by
  pointwise []
  rw [← normDx_eq]
  simp only [meanSq, scale, row, zero_add, Finset.univ_unique, Finset.sum_singleton]

theorem dg_at (x dy : FVec Ideal S512x1024 .f32) (o : Fin 1) (d : Fin 1024) :
    (shapeCast _ (Host.reduceAdd (mulf (mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) dy) (constant S_ .f32 0x00000000#32) reducesTo_S512x1024_S1024_d0 h_S_) shapeCasts_S1024_S1x1024 : FVec Ideal S1x1024 .f32) (ix2 o d) = normDg x dy d := by
  pointwise []
  simp only [normDg, meanSq, scale, row, zero_add]
  exact Finset.sum_congr rfl fun i _ => (mul_comm _ _).trans (mul_assoc _ _ _).symm

end Cert.RmsMemRefIdeal.Norm

namespace Cert.Proof

open Idealize.ShloMosaic Idealize.SL.Sem

attribute [local instance] Cert.RmsMem.Gen.facts Cert.RmsMemIdeal.Gen.facts Cert.RmsMemRefIdeal.Gen.facts

theorem frame_rmsMem : Cert.quiescent_RmsMem := fun m ρ _ => Cert.RmsMem.Gen.frame m ρ
theorem frame_rmsMemIdeal : Cert.quiescent_RmsMemIdeal := fun m ρ _ => Cert.RmsMemIdeal.Gen.frame m ρ

theorem frame_rmsMemRefIdeal : Cert.quiescent_RmsMemRefIdeal := fun m ρ _ =>
  (θ_run Cert.RmsMemRefIdeal.defs _ _).mono
    (fun r hr => ⟨fun c => (hr c).2.2, sem_eq_zero_of_no_sems (by decide) r.2⟩) (Cert.RmsMemRefIdeal.Value.run m ρ)

theorem preserves_rmsMem : Cert.preserves_RmsMem_RmsMemIdeal := trivial

/-- Kernel and reference end with the same gradients of rows and gain. -/
theorem algebraic_rmsMem : Cert.algebraic_RmsMemIdeal_RmsMemRefIdeal := by
  intro m g m' g' _ hargs
  refine ⟨fun c y => _root_.Norm.normDx (_root_.Norm.row (m ((c.tc : Thread Cert.RmsMemIdeal.nD Cert.RmsMemIdeal.τ).loc Cert.RmsMemIdeal.main_arg0)) (y 0)) (_root_.Norm.row (m ((c.tc : Thread Cert.RmsMemIdeal.nD Cert.RmsMemIdeal.τ).loc Cert.RmsMemIdeal.main_arg1)) 0) (_root_.Norm.row (m ((c.tc : Thread Cert.RmsMemIdeal.nD Cert.RmsMemIdeal.τ).loc Cert.RmsMemIdeal.main_arg2)) (y 0)) (y 1),
    fun c y => _root_.Norm.normDg (m ((c.tc : Thread Cert.RmsMemIdeal.nD Cert.RmsMemIdeal.τ).loc Cert.RmsMemIdeal.main_arg0)) (m ((c.tc : Thread Cert.RmsMemIdeal.nD Cert.RmsMemIdeal.τ).loc Cert.RmsMemIdeal.main_arg2)) (y 1), ?_, ?_⟩
  · exact (θ_run Cert.RmsMemIdeal.defs _ _).mono (fun r hr c => ⟨(hr c).1.trans (Cert.RmsMemIdeal.Norm.dx_array m c),
      (hr c).2.1.trans (Cert.RmsMemIdeal.Norm.dg_array m c), (hr c).2.2⟩)
      (Cert.RmsMemIdeal.Value.run_blocks m g)
  · refine (θ_run Cert.RmsMemRefIdeal.defs _ _).mono (fun r hr c => ⟨(hr c).1.trans ?_, (hr c).2.1.trans ?_, (hr c).2.2⟩)
      (Cert.RmsMemRefIdeal.Value.run m' g')
    · refine funext fun y => (congrArg _ (eq_ix2 y)).trans ((Cert.RmsMemRefIdeal.Norm.dx_at _ _ _ (y 0) (y 1)).trans ?_)
      rw [(hargs c).1, (hargs c).2.1, (hargs c).2.2]
    · refine funext fun y => (congrArg _ (eq_ix2 y)).trans ((Cert.RmsMemRefIdeal.Norm.dg_at _ _ (y 0) (y 1)).trans ?_)
      rw [(hargs c).1, (hargs c).2.2]

end Cert.Proof

end
-- ==== Proof.Turn.lean ====
/- The last norm, the loss it goes into, and the gradients that come back through both, against the reference's. -/
module

public import proofs.«01_k».proof.Defs
public import proofs.«01_k».proof.Proof.Norm
public import proofs.«01_k».proof.Proof.Gen.Turn.Frame
public import proofs.«01_k».proof.Proof.Gen.TurnIdeal.Frame
public import proofs.«01_k».proof.Proof.Gen.TurnIdeal.Value
public import proofs.«01_k».proof.Proof.Gen.TurnRefIdeal.Run
public import Idealize.ShloMosaic.Lib.Pipeline.ValueKit
public import Idealize.ShloMosaic.Lib.Pointwise

@[expose] public section

set_option maxRecDepth 16384

noncomputable section

namespace Cert.TurnIdeal.Norm

open Cert.TurnIdeal Cert.TurnIdeal.Gen Idealize.ShloMosaic Idealize.ShloMosaic.TcCoe Idealize.SL.Sem
open _root_.Norm (meanSq scale normed normDx normDg row at_ partDg parts gathered)

/-- What the last rows miss the target by. -/
def miss (f : S4096x1024.Idx → EReal) (g : S1x1024.Idx → EReal) (res t : S4096x1024.Idx → EReal) (z : S4096x1024.Idx) : EReal :=
  res z + normed (row f (z 0)) (row g 0) (z 1) - t z

/-- The loss's gradient: the miss over the width. -/
def missDx (f : S4096x1024.Idx → EReal) (g : S1x1024.Idx → EReal) (res t : S4096x1024.Idx → EReal) (z : S4096x1024.Idx) : EReal :=
  miss f g res t z * Ideal.ofBits .f32 0x3A800000#32

/-- The squares of block `s`'s rows in one column, over twice the width. -/
def partLoss (e : S4096x1024.Idx → EReal) (d : Fin 1024) (s : Fin 8) : EReal :=
  (∑ i : Fin 512, e (ix2 (at_ s i) d) * e (ix2 (at_ s i) d)) * Ideal.ofBits .f32 0x3A000000#32

/-- The loss's share of one column: half the sum over all rows of the squares over the width. -/
def lossCol (e : S4096x1024.Idx → EReal) (d : Fin 1024) : EReal :=
  (∑ i : Fin 4096, e (ix2 i d) * e (ix2 i d)) * Ideal.ofBits .f32 0x3A000000#32

theorem twice_width_eq : Ideal.ofBits .f32 0x3A000000#32 = ((1 / 2048 : ℝ) : EReal) := by
  simp [Ideal.ofBits, Ideal.ieee, -EReal.coe_mul]
  norm_num

/-- A factor comes out of a sum of terms that are not negative. -/
theorem sum_factor {ι : Type} (u : Finset ι) (p : ι → EReal) (hp : ∀ i, 0 ≤ p i) (k : EReal) : ∑ i ∈ u, p i * k = (∑ i ∈ u, p i) * k := by
  classical
  induction u using Finset.induction_on with
  | empty => simp
  | insert a u ha ih =>
    rw [Finset.sum_insert ha, Finset.sum_insert ha, ih, EReal.right_distrib_of_nonneg (hp a) (Finset.sum_nonneg fun i _ => hp i)]

theorem loss_parts (e : S4096x1024.Idx → EReal) (d : Fin 1024) : ∑ s, partLoss e d s = lossCol e d := by
  refine (sum_factor Finset.univ (fun s : Fin 8 => ∑ i : Fin 512, e (ix2 (at_ s i) d) * e (ix2 (at_ s i) d))
    (fun s => Finset.sum_nonneg fun i _ => _root_.Norm.square_nonneg _) _).trans ?_
  exact congrArg (· * _) (Fin.sum_univ_tiles 8 512 rfl fun i : Fin 4096 => e (ix2 i d) * e (ix2 i d)).symm

theorem miss_at (f res : Vec Ideal S512x1024 .f32) (g : Vec Ideal S1x1024 .f32) (t : Vec Ideal S512x1024 .f32) (i : Fin 512) (d : Fin 1024) :
    k0_pay6 f res g t (ix2 i d) = res (ix2 i d) + normed (row f i) (row g 0) d - t (ix2 i d) := by
  pointwise [k0_pay6, k0_pay5]
  rfl

theorem dx_at (f res : Vec Ideal S512x1024 .f32) (g : Vec Ideal S1x1024 .f32) (t : Vec Ideal S512x1024 .f32) (i : Fin 512) (d : Fin 1024) :
    k0_pay7 f res g t (ix2 i d) = k0_pay6 f res g t (ix2 i d) * Ideal.ofBits .f32 0x3A800000#32 := by
  pointwise [k0_pay7]

theorem df_at (f res : Vec Ideal S512x1024 .f32) (g : Vec Ideal S1x1024 .f32) (t : Vec Ideal S512x1024 .f32) (i : Fin 512) (d : Fin 1024) :
    k0_pay8 f res g t g (ix2 i d) = normDx (row f i) (row g 0) (row (k0_pay7 f res g t : Vec Ideal S512x1024 .f32) i) d := by
  pointwise [k0_pay8, k0_pay5]
  rfl

theorem loss_at (e : Vec Ideal S512x1024 .f32) (o : Vec Ideal S1x1024 .f32) (d : Fin 1024) :
    k0_pay3 e o (ix2 0 d) = o (ix2 0 d) + (∑ i : Fin 512, e (ix2 i d) * e (ix2 i d)) * Ideal.ofBits .f32 0x3A000000#32 := by
  pointwise [k0_pay3]

theorem dg_at (f v : Vec Ideal S512x1024 .f32) (o : Vec Ideal S1x1024 .f32) (d : Fin 1024) :
    k0_pay4 f (k0_pay5 f) v o (ix2 0 d) = o (ix2 0 d) + normDg f v d := by
  pointwise [k0_pay4, k0_pay5]
  rfl

theorem zero1 (d : Fin 1024) : (k0_pay1 : FVec Ideal S1x1024 .f32) (ix2 0 d) = 0 := by
  pointwise [k0_pay1]

theorem zero2 (d : Fin 1024) : (k0_pay2 : FVec Ideal S1x1024 .f32) (ix2 0 d) = 0 := by
  pointwise [k0_pay2]

theorem idx0 : ∀ t : Fin cfg0.N, win0_0.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx1 : ∀ t : Fin cfg0.N, win0_1.index t = ![0, 0] := (by decide +kernel : ∀ t : Fin grid0.N, _)

/-- A grid point as a block of rows. -/
def pt (t : Fin cfg0.N) : Fin 8 := ⟨t.val, t.isLt⟩

variable (m : (ℓ : Loc nD τ sig) → Buf (Elt Ideal) ℓ) (c : Dev nD) (t : Fin cfg0.N)

theorem block0 (i : Fin 512) (d : Fin 1024) : iblk m c 0 t (ix2 i d) = m ((c.tc : Thread nD τ).loc main_arg0) (ix2 (at_ (pt t) i) d) := by
  blk_ext [iblk, V, idx0 t, at_, pt]

theorem block2 (i : Fin 512) (d : Fin 1024) : iblk m c 2 t (ix2 i d) = m ((c.tc : Thread nD τ).loc main_arg2) (ix2 (at_ (pt t) i) d) := by
  blk_ext [iblk, V, idx2 t, at_, pt]

theorem block3 (i : Fin 512) (d : Fin 1024) : iblk m c 3 t (ix2 i d) = m ((c.tc : Thread nD τ).loc main_arg3) (ix2 (at_ (pt t) i) d) := by
  blk_ext [iblk, V, idx3 t, at_, pt]

theorem block1 (d : Fin 1024) : iblk m c 1 t (ix2 0 d) = m ((c.tc : Thread nD τ).loc main_arg1) (ix2 0 d) := by
  blk_ext [iblk, V, idx1 t]

theorem emb4 (y : S512x1024.Idx) : (win0_4.blk t).view.emb y = ix2 (at_ (pt t) (y 0)) (y 1) := by
  blk_ext [idx4 t, at_, pt]

theorem emb5 (y : S512x1024.Idx) : (win0_5.blk t).view.emb y = ix2 (at_ (pt t) (y 0)) (y 1) := by
  blk_ext [idx5 t, at_, pt]

/-- Rows of blocks are rows of the arrays. -/
theorem rows_eq (X : Vec Ideal S512x1024 .f32) (x : S4096x1024.Idx → EReal) (h : ∀ i d, X (ix2 i d) = x (ix2 (at_ (pt t) i) d)) (i : Fin 512) :
    row X i = row x (at_ (pt t) i) := funext fun d => h i d

theorem gain_eq (G : Vec Ideal S1x1024 .f32) (g : S1x1024.Idx → EReal) (h : ∀ d, G (ix2 0 d) = g (ix2 0 d)) : row G 0 = row g 0 :=
  funext fun d => h d

theorem part_eq (X D : Vec Ideal S512x1024 .f32) (x dy : S4096x1024.Idx → EReal) (hX : ∀ i d, X (ix2 i d) = x (ix2 (at_ (pt t) i) d))
    (hD : ∀ i d, D (ix2 i d) = dy (ix2 (at_ (pt t) i) d)) (d : Fin 1024) : normDg X D d = partDg x dy d (pt t) :=
  Finset.sum_congr rfl fun i _ => congrArg₂ (· * ·) (congrArg₂ (· * ·) (hD i d) (hX i d)) (congrArg scale (rows_eq t X x hX i))

theorem miss_block (i : Fin 512) (d : Fin 1024) : k0_pay6 (iblk m c 0 t) (iblk m c 2 t) (iblk m c 1 t) (iblk m c 3 t) (ix2 i d) = miss (m ((c.tc : Thread nD τ).loc main_arg0)) (m ((c.tc : Thread nD τ).loc main_arg1)) (m ((c.tc : Thread nD τ).loc main_arg2)) (m ((c.tc : Thread nD τ).loc main_arg3)) (ix2 (at_ (pt t) i) d) := by
  refine (miss_at _ _ _ _ i d).trans ?_
  rw [rows_eq t _ _ (block0 m c t) i, gain_eq _ _ (block1 m c t)]
  exact congrArg₂ (fun a b => a + _ - b) (block2 m c t i d) (block3 m c t i d)

theorem dx_block (i : Fin 512) (d : Fin 1024) : k0_pay7 (iblk m c 0 t) (iblk m c 2 t) (iblk m c 1 t) (iblk m c 3 t) (ix2 i d) = missDx (m ((c.tc : Thread nD τ).loc main_arg0)) (m ((c.tc : Thread nD τ).loc main_arg1)) (m ((c.tc : Thread nD τ).loc main_arg2)) (m ((c.tc : Thread nD τ).loc main_arg3)) (ix2 (at_ (pt t) i) d) :=
  (dx_at _ _ _ _ i d).trans (congrArg (· * _) (miss_block m c t i d))

theorem df_block (i : Fin 512) (d : Fin 1024) : k0_pay8 (iblk m c 0 t) (iblk m c 2 t) (iblk m c 1 t) (iblk m c 3 t) (iblk m c 1 t) (ix2 i d) =
    normDx (row (m ((c.tc : Thread nD τ).loc main_arg0)) (at_ (pt t) i)) (row (m ((c.tc : Thread nD τ).loc main_arg1)) 0) (row (missDx (m ((c.tc : Thread nD τ).loc main_arg0)) (m ((c.tc : Thread nD τ).loc main_arg1)) (m ((c.tc : Thread nD τ).loc main_arg2)) (m ((c.tc : Thread nD τ).loc main_arg3))) (at_ (pt t) i)) d := by
  refine (df_at _ _ _ _ i d).trans ?_
  rw [rows_eq t _ _ (block0 m c t) i, rows_eq t _ _ (dx_block m c t) i, gain_eq _ _ (block1 m c t)]

theorem dx_after (i : Fin 512) (d : Fin 1024) : (dats m 0 c).after 4 t (ix2 i d) =
    missDx (m ((c.tc : Thread nD τ).loc main_arg0)) (m ((c.tc : Thread nD τ).loc main_arg1)) (m ((c.tc : Thread nD τ).loc main_arg2)) (m ((c.tc : Thread nD τ).loc main_arg3)) (ix2 (at_ (pt t) i) d) := by
  by_cases h0 : t.val % 8 = 0
  · rw [after0_4, outsAt0_A m c t h0]
    frame_out
    exact dx_block m c t i d
  · rw [after0_4, outsAt0_B m c t h0]
    frame_out
    exact dx_block m c t i d

theorem df_after (i : Fin 512) (d : Fin 1024) : (dats m 0 c).after 5 t (ix2 i d) =
    normDx (row (m ((c.tc : Thread nD τ).loc main_arg0)) (at_ (pt t) i)) (row (m ((c.tc : Thread nD τ).loc main_arg1)) 0) (row (missDx (m ((c.tc : Thread nD τ).loc main_arg0)) (m ((c.tc : Thread nD τ).loc main_arg1)) (m ((c.tc : Thread nD τ).loc main_arg2)) (m ((c.tc : Thread nD τ).loc main_arg3))) (at_ (pt t) i)) d := by
  by_cases h0 : t.val % 8 = 0
  · rw [after0_5, outsAt0_A m c t h0]
    frame_out
    exact df_block m c t i d
  · rw [after0_5, outsAt0_B m c t h0]
    frame_out
    exact df_block m c t i d

/-- The running loss and the running gradient of the gain. -/
def lossSoFar (t : Fin cfg0.N) : S1x1024.Idx → EReal := (dats m 0 c).after 6 t
def gainSoFar (t : Fin cfg0.N) : S1x1024.Idx → EReal := (dats m 0 c).after 7 t

theorem lossSoFar_first (h0 : t.val % 8 = 0) (d : Fin 1024) : lossSoFar m c t (ix2 0 d) = 0 + partLoss (miss (m ((c.tc : Thread nD τ).loc main_arg0)) (m ((c.tc : Thread nD τ).loc main_arg1)) (m ((c.tc : Thread nD τ).loc main_arg2)) (m ((c.tc : Thread nD τ).loc main_arg3))) d (pt t) := by
  unfold lossSoFar
  rw [after0_6, outsAt0_A m c t h0]
  frame_out
  refine (loss_at _ _ d).trans ?_
  exact congrArg₂ (· + ·) (zero1 d) (congrArg (· * _) (Finset.sum_congr rfl fun i _ => congrArg₂ (· * ·) (miss_block m c t i d) (miss_block m c t i d)))

theorem lossSoFar_next (h0 : ¬t.val % 8 = 0) (d : Fin 1024) :
    lossSoFar m c t (ix2 0 d) = lossSoFar m c ⟨t.val - 1, by omega⟩ (ix2 0 d) + partLoss (miss (m ((c.tc : Thread nD τ).loc main_arg0)) (m ((c.tc : Thread nD τ).loc main_arg1)) (m ((c.tc : Thread nD τ).loc main_arg2)) (m ((c.tc : Thread nD τ).loc main_arg3))) d (pt t) := by
  unfold lossSoFar
  rw [after0_6, after0_6, outsAt0_B m c t h0]
  frame_out
  refine (loss_at _ _ d).trans ?_
  exact congrArg₂ (· + ·) rfl (congrArg (· * _) (Finset.sum_congr rfl fun i _ => congrArg₂ (· * ·) (miss_block m c t i d) (miss_block m c t i d)))

theorem gainSoFar_first (h0 : t.val % 8 = 0) (d : Fin 1024) : gainSoFar m c t (ix2 0 d) = 0 + partDg (m ((c.tc : Thread nD τ).loc main_arg0)) (missDx (m ((c.tc : Thread nD τ).loc main_arg0)) (m ((c.tc : Thread nD τ).loc main_arg1)) (m ((c.tc : Thread nD τ).loc main_arg2)) (m ((c.tc : Thread nD τ).loc main_arg3))) d (pt t) := by
  unfold gainSoFar
  rw [after0_7, outsAt0_A m c t h0]
  frame_out
  refine (dg_at _ _ _ d).trans ?_
  exact congrArg₂ (· + ·) (zero2 d) (part_eq t _ _ _ _ (block0 m c t) (dx_block m c t) d)

theorem gainSoFar_next (h0 : ¬t.val % 8 = 0) (d : Fin 1024) :
    gainSoFar m c t (ix2 0 d) = gainSoFar m c ⟨t.val - 1, by omega⟩ (ix2 0 d) + partDg (m ((c.tc : Thread nD τ).loc main_arg0)) (missDx (m ((c.tc : Thread nD τ).loc main_arg0)) (m ((c.tc : Thread nD τ).loc main_arg1)) (m ((c.tc : Thread nD τ).loc main_arg2)) (m ((c.tc : Thread nD τ).loc main_arg3))) d (pt t) := by
  unfold gainSoFar
  rw [after0_7, after0_7, outsAt0_B m c t h0]
  frame_out
  refine (dg_at _ _ _ d).trans ?_
  exact congrArg₂ (· + ·) rfl (part_eq t _ _ _ _ (block0 m c t) (dx_block m c t) d)

theorem lossSoFar_all (d : Fin 1024) : lossSoFar m c ⟨7, by decide⟩ (ix2 0 d) = lossCol (miss (m ((c.tc : Thread nD τ).loc main_arg0)) (m ((c.tc : Thread nD τ).loc main_arg1)) (m ((c.tc : Thread nD τ).loc main_arg2)) (m ((c.tc : Thread nD τ).loc main_arg3))) d :=
  (gathered (fun s : Fin 8 => lossSoFar m c ⟨s.val, s.isLt⟩ (ix2 0 d)) _ (lossSoFar_first m c ⟨0, by decide⟩ rfl d)
    fun n h => lossSoFar_next m c ⟨n + 1, h⟩ (by show ¬(n + 1) % 8 = 0; omega) d).trans (loss_parts _ d)

theorem gainSoFar_all (d : Fin 1024) : gainSoFar m c ⟨7, by decide⟩ (ix2 0 d) = normDg (m ((c.tc : Thread nD τ).loc main_arg0)) (missDx (m ((c.tc : Thread nD τ).loc main_arg0)) (m ((c.tc : Thread nD τ).loc main_arg1)) (m ((c.tc : Thread nD τ).loc main_arg2)) (m ((c.tc : Thread nD τ).loc main_arg3))) d :=
  (gathered (fun s : Fin 8 => gainSoFar m c ⟨s.val, s.isLt⟩ (ix2 0 d)) _ (gainSoFar_first m c ⟨0, by decide⟩ rfl d)
    fun n h => gainSoFar_next m c ⟨n + 1, h⟩ (by show ¬(n + 1) % 8 = 0; omega) d).trans (parts _ _ d)

theorem row1_eq (y : S1x1024.Idx) : y = ix2 0 (y 1) := by
  funext a
  fin_cases a
  · exact Subsingleton.elim (α := Fin 1) _ _
  · rfl

theorem dx_array : (dats m 0 c).arrAt 4 cfg0.N = missDx (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [emb4]
  exact (congrArg _ (eq_ix2 y)).trans (dx_after m c t _ _)

theorem df_array : (dats m 0 c).arrAt 5 cfg0.N =
    fun y : S4096x1024.Idx => normDx (row (m ((c.tc : Thread nD τ).loc main_arg0)) (y 0)) (row (m ((c.tc : Thread nD τ).loc main_arg1)) 0) (row (missDx (m ((c.tc : Thread nD τ).loc main_arg0)) (m ((c.tc : Thread nD τ).loc main_arg1)) (m ((c.tc : Thread nD τ).loc main_arg2)) (m ((c.tc : Thread nD τ).loc main_arg3))) (y 0)) (y 1) := by
  refine (dats m 0 c).arrAt_eq_of_covers 5 _ (by decide +kernel) fun t hf y => ?_
  blk_simp
  rw [emb5]
  exact (congrArg _ (eq_ix2 y)).trans (df_after m c t _ _)

theorem loss_array : (dats m 0 c).arrAt 6 cfg0.N = fun y : S1x1024.Idx => lossCol (miss (m ((c.tc : Thread nD τ).loc main_arg0)) (m ((c.tc : Thread nD τ).loc main_arg1)) (m ((c.tc : Thread nD τ).loc main_arg2)) (m ((c.tc : Thread nD τ).loc main_arg3))) (y 1) := by
  refine (dats m 0 c).arrAt_eq_of_after_last 6 ⟨7, by decide⟩ (by decide +kernel) _ fun y => ?_
  blk_simp
  exact (congrArg (lossSoFar m c ⟨7, by decide⟩) (row1_eq y)).trans (lossSoFar_all m c (y 1))

theorem dg_array : (dats m 0 c).arrAt 7 cfg0.N = fun y : S1x1024.Idx => normDg (m ((c.tc : Thread nD τ).loc main_arg0)) (missDx (m ((c.tc : Thread nD τ).loc main_arg0)) (m ((c.tc : Thread nD τ).loc main_arg1)) (m ((c.tc : Thread nD τ).loc main_arg2)) (m ((c.tc : Thread nD τ).loc main_arg3))) (y 1) := by
  refine (dats m 0 c).arrAt_eq_of_after_last 7 ⟨7, by decide⟩ (by decide +kernel) _ fun y => ?_
  blk_simp
  exact (congrArg (gainSoFar m c ⟨7, by decide⟩) (row1_eq y)).trans (gainSoFar_all m c (y 1))

end Cert.TurnIdeal.Norm

namespace Cert.TurnRefIdeal.Norm

open Cert.TurnRefIdeal Cert.TurnRefIdeal.Gen Idealize.ShloMosaic Idealize.ShloMosaic.TcCoe Idealize.SL.Sem
open _root_.Norm (meanSq scale normed normDx normDg row normDx_eq width_eq)

theorem width_inv_eq : Ideal.ofBits .f32 0x3A800000#32 = ((1 / 1024 : ℝ) : EReal) := by
  simp [Ideal.ofBits, Ideal.ieee, -EReal.coe_mul]
  norm_num

theorem halves_eq : Ideal.ofBits .f32 0x3F000000#32 = ((1 / 2 : ℝ) : EReal) := by
  simp [Ideal.ofBits, Ideal.ieee, -EReal.coe_mul]
  norm_num

theorem two_eq : Ideal.ofBits .f32 0x40000000#32 = ((2 : ℝ) : EReal) := by
  simp [Ideal.ofBits, Ideal.ieee, -EReal.coe_mul]
  norm_num

theorem miss_at (f : FVec Ideal S4096x1024 .f32) (g : FVec Ideal S1x1024 .f32) (res t : FVec Ideal S4096x1024 .f32) (i : Fin 4096) (d : Fin 1024) :
    ((subf (addf res (mulf (mulf f (broadcastInDim S4096x1024 ![0, 1] bcast_S4096x1_S4096x1024_0_1 (Host.rsqrt (addf (Host.divf (broadcastInDim S4096x1 ![0] bcast_S4096_S4096x1_0 (Host.reduceAdd (mulf f f) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g))) t) : FVec Ideal S4096x1024 .f32) (ix2 i d) = res (ix2 i d) + normed (row f i) (row g 0) d - t (ix2 i d) := by
  pointwise []
  simp only [normed, meanSq, scale, row, zero_add]

theorem dx_at (e : FVec Ideal S4096x1024 .f32) (i : Fin 4096) (d : Fin 1024) :
    (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) e) : FVec Ideal S4096x1024 .f32) (ix2 i d) = e (ix2 i d) * Ideal.ofBits .f32 0x3A800000#32 := by
  pointwise []
  rw [width_inv_eq, width_eq, halves_eq, two_eq, Ideal.div_coe (by norm_num), ← EReal.coe_mul, ← mul_assoc, ← EReal.coe_mul,
    mul_comm]
  congr 2
  norm_num

theorem df_at (f v : FVec Ideal S4096x1024 .f32) (g : FVec Ideal S1x1024 .f32) (i : Fin 4096) (d : Fin 1024) :
    (truncf .bf16 (addf (addf (mulf (mulf v (broadcastInDim S4096x1024 ![0, 1] bcast_S1x1024_S4096x1024_0_1 g)) (broadcastInDim S4096x1024 ![0, 1] bcast_S4096x1_S4096x1024_0_1 (Host.rsqrt (addf (Host.divf (broadcastInDim S4096x1 ![0] bcast_S4096_S4096x1_0 (Host.reduceAdd (mulf f f) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf f (broadcastInDim S4096x1024 ![0] bcast_S4096_S4096x1024_0 (Host.reduceAdd (Host.divf (mulf (shapeCast _ (Host.reduceAdd (mulf f (mulf v (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf f f) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf f f) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf f (mulf v (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf f f) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf f f) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) f)) bitsLt_bf16_f32 : FVec Ideal S4096x1024 .bf16) (ix2 i d) = normDx (row f i) (row g 0) (row v i) d := by
  pointwise []
  rw [← normDx_eq]
  simp only [meanSq, scale, row, zero_add, Finset.univ_unique, Finset.sum_singleton]

theorem loss_at (e : FVec Ideal S4096x1024 .f32) (o : Fin 1) (d : Fin 1024) :
    (mulf (broadcastInDim S1x1024 ![] bcast_S_S1x1024 (constant S_ .f32 0x3F000000#32)) (broadcastInDim S1x1024 ![1] bcast_S1024_S1x1024_1 (Host.reduceAdd (Host.divf (mulf e e) (broadcastInDim S4096x1024 ![] bcast_S_S4096x1024 (constant S_ .f32 0x44800000#32))) (constant S_ .f32 0x00000000#32) reducesTo_S4096x1024_S1024_d0 h_S_)) : FVec Ideal S1x1024 .f32) (ix2 o d) = Cert.TurnIdeal.Norm.lossCol e d := by
  pointwise []
  simp only [zero_add, width_eq, halves_eq, Ideal.div_coe (show (1024 : ℝ) ≠ 0 by norm_num)]
  rw [Cert.TurnIdeal.Norm.lossCol, Cert.TurnIdeal.Norm.twice_width_eq,
    Cert.TurnIdeal.Norm.sum_factor Finset.univ _ (fun i => _root_.Norm.square_nonneg _), mul_comm, mul_assoc, ← EReal.coe_mul]
  congr 2
  norm_num

theorem dg_at (f v : FVec Ideal S4096x1024 .f32) (o : Fin 1) (d : Fin 1024) :
    (shapeCast _ (Host.reduceAdd (mulf (mulf f (broadcastInDim S4096x1024 ![0, 1] bcast_S4096x1_S4096x1024_0_1 (Host.rsqrt (addf (Host.divf (broadcastInDim S4096x1 ![0] bcast_S4096_S4096x1_0 (Host.reduceAdd (mulf f f) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) v) (constant S_ .f32 0x00000000#32) reducesTo_S4096x1024_S1024_d0 h_S_) shapeCasts_S1024_S1x1024 : FVec Ideal S1x1024 .f32) (ix2 o d) = normDg f v d := by
  pointwise []
  simp only [normDg, meanSq, scale, row, zero_add]
  exact Finset.sum_congr rfl fun i _ => (mul_comm _ _).trans (mul_assoc _ _ _).symm

/-- The reference's miss as a whole. -/
theorem miss_all (f : FVec Ideal S4096x1024 .f32) (g : FVec Ideal S1x1024 .f32) (res t : FVec Ideal S4096x1024 .f32) :
    ((subf (addf res (mulf (mulf f (broadcastInDim S4096x1024 ![0, 1] bcast_S4096x1_S4096x1024_0_1 (Host.rsqrt (addf (Host.divf (broadcastInDim S4096x1 ![0] bcast_S4096_S4096x1_0 (Host.reduceAdd (mulf f f) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g))) t) : FVec Ideal S4096x1024 .f32) = Cert.TurnIdeal.Norm.miss f g res t :=
  funext fun y => (congrArg _ (eq_ix2 y)).trans ((miss_at f g res t (y 0) (y 1)).trans (congrArg₂ (fun a b => a + _ - b) (congrArg res (eq_ix2 y).symm) (congrArg t (eq_ix2 y).symm)))

/-- The reference's gradient of the loss as a whole. -/
theorem dx_all (f : FVec Ideal S4096x1024 .f32) (g : FVec Ideal S1x1024 .f32) (res t : FVec Ideal S4096x1024 .f32) :
    (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (addf res (mulf (mulf f (broadcastInDim S4096x1024 ![0, 1] bcast_S4096x1_S4096x1024_0_1 (Host.rsqrt (addf (Host.divf (broadcastInDim S4096x1 ![0] bcast_S4096_S4096x1_0 (Host.reduceAdd (mulf f f) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g))) t)) : FVec Ideal S4096x1024 .f32) = Cert.TurnIdeal.Norm.missDx f g res t := by
  rw [miss_all]
  exact funext fun y => (congrArg _ (eq_ix2 y)).trans ((dx_at _ (y 0) (y 1)).trans (congrArg (· * _) (congrArg _ (eq_ix2 y).symm)))

end Cert.TurnRefIdeal.Norm

namespace Cert.Proof

open Idealize.ShloMosaic Idealize.SL.Sem

attribute [local instance] Cert.Turn.Gen.facts Cert.TurnIdeal.Gen.facts Cert.TurnRefIdeal.Gen.facts

theorem frame_turn : Cert.quiescent_Turn := fun m ρ _ => Cert.Turn.Gen.frame m ρ
theorem frame_turnIdeal : Cert.quiescent_TurnIdeal := fun m ρ _ => Cert.TurnIdeal.Gen.frame m ρ

theorem frame_turnRefIdeal : Cert.quiescent_TurnRefIdeal := fun m ρ _ =>
  (θ_run Cert.TurnRefIdeal.defs _ _).mono
    (fun r hr => ⟨fun c => (hr c).2.2.2.2, sem_eq_zero_of_no_sems (by decide) r.2⟩) (Cert.TurnRefIdeal.Value.run m ρ)

theorem preserves_turn : Cert.preserves_Turn_TurnIdeal := trivial

/-- Kernel and reference end with the same loss, column by column, and the same three gradients. -/
theorem algebraic_turn : Cert.algebraic_TurnIdeal_TurnRefIdeal := by
  intro m g m' g' _ hargs
  refine ⟨fun c => Cert.TurnIdeal.Norm.missDx (m ((c.tc : Thread Cert.TurnIdeal.nD Cert.TurnIdeal.τ).loc Cert.TurnIdeal.main_arg0)) (m ((c.tc : Thread Cert.TurnIdeal.nD Cert.TurnIdeal.τ).loc Cert.TurnIdeal.main_arg1)) (m ((c.tc : Thread Cert.TurnIdeal.nD Cert.TurnIdeal.τ).loc Cert.TurnIdeal.main_arg2)) (m ((c.tc : Thread Cert.TurnIdeal.nD Cert.TurnIdeal.τ).loc Cert.TurnIdeal.main_arg3)),
    fun c y => _root_.Norm.normDx (_root_.Norm.row (m ((c.tc : Thread Cert.TurnIdeal.nD Cert.TurnIdeal.τ).loc Cert.TurnIdeal.main_arg0)) (y 0)) (_root_.Norm.row (m ((c.tc : Thread Cert.TurnIdeal.nD Cert.TurnIdeal.τ).loc Cert.TurnIdeal.main_arg1)) 0) (_root_.Norm.row (Cert.TurnIdeal.Norm.missDx (m ((c.tc : Thread Cert.TurnIdeal.nD Cert.TurnIdeal.τ).loc Cert.TurnIdeal.main_arg0)) (m ((c.tc : Thread Cert.TurnIdeal.nD Cert.TurnIdeal.τ).loc Cert.TurnIdeal.main_arg1)) (m ((c.tc : Thread Cert.TurnIdeal.nD Cert.TurnIdeal.τ).loc Cert.TurnIdeal.main_arg2)) (m ((c.tc : Thread Cert.TurnIdeal.nD Cert.TurnIdeal.τ).loc Cert.TurnIdeal.main_arg3))) (y 0)) (y 1),
    fun c y => Cert.TurnIdeal.Norm.lossCol (Cert.TurnIdeal.Norm.miss (m ((c.tc : Thread Cert.TurnIdeal.nD Cert.TurnIdeal.τ).loc Cert.TurnIdeal.main_arg0)) (m ((c.tc : Thread Cert.TurnIdeal.nD Cert.TurnIdeal.τ).loc Cert.TurnIdeal.main_arg1)) (m ((c.tc : Thread Cert.TurnIdeal.nD Cert.TurnIdeal.τ).loc Cert.TurnIdeal.main_arg2)) (m ((c.tc : Thread Cert.TurnIdeal.nD Cert.TurnIdeal.τ).loc Cert.TurnIdeal.main_arg3))) (y 1),
    fun c y => _root_.Norm.normDg (m ((c.tc : Thread Cert.TurnIdeal.nD Cert.TurnIdeal.τ).loc Cert.TurnIdeal.main_arg0)) (Cert.TurnIdeal.Norm.missDx (m ((c.tc : Thread Cert.TurnIdeal.nD Cert.TurnIdeal.τ).loc Cert.TurnIdeal.main_arg0)) (m ((c.tc : Thread Cert.TurnIdeal.nD Cert.TurnIdeal.τ).loc Cert.TurnIdeal.main_arg1)) (m ((c.tc : Thread Cert.TurnIdeal.nD Cert.TurnIdeal.τ).loc Cert.TurnIdeal.main_arg2)) (m ((c.tc : Thread Cert.TurnIdeal.nD Cert.TurnIdeal.τ).loc Cert.TurnIdeal.main_arg3))) (y 1), ?_, ?_⟩
  · exact (θ_run Cert.TurnIdeal.defs _ _).mono (fun r hr c => ⟨(hr c).1.trans (Cert.TurnIdeal.Norm.dx_array m c),
      (hr c).2.1.trans (Cert.TurnIdeal.Norm.df_array m c), (hr c).2.2.1.trans (Cert.TurnIdeal.Norm.loss_array m c),
      (hr c).2.2.2.1.trans (Cert.TurnIdeal.Norm.dg_array m c), (hr c).2.2.2.2⟩)
      (Cert.TurnIdeal.Value.run_blocks m g)
  · refine (θ_run Cert.TurnRefIdeal.defs _ _).mono (fun r hr c => ⟨(hr c).1.trans ?_, (hr c).2.1.trans ?_, (hr c).2.2.1.trans ?_,
      (hr c).2.2.2.1.trans ?_, (hr c).2.2.2.2⟩) (Cert.TurnRefIdeal.Value.run m' g')
    · refine (Cert.TurnRefIdeal.Norm.dx_all _ _ _ _).trans ?_
      rw [(hargs c).1, (hargs c).2.1, (hargs c).2.2.1, (hargs c).2.2.2]
    · refine funext fun y => (congrArg _ (eq_ix2 y)).trans (((Cert.TurnRefIdeal.Norm.df_at _ _ _ (y 0) (y 1)).trans ?_))
      rw [Cert.TurnRefIdeal.Norm.dx_all, (hargs c).1, (hargs c).2.1, (hargs c).2.2.1, (hargs c).2.2.2]
    · refine funext fun y => (congrArg _ (eq_ix2 y)).trans (((Cert.TurnRefIdeal.Norm.loss_at _ (y 0) (y 1)).trans ?_))
      rw [Cert.TurnRefIdeal.Norm.miss_all, (hargs c).1, (hargs c).2.1, (hargs c).2.2.1, (hargs c).2.2.2]
    · refine funext fun y => (congrArg _ (eq_ix2 y)).trans (((Cert.TurnRefIdeal.Norm.dg_at _ _ (y 0) (y 1)).trans ?_))
      rw [Cert.TurnRefIdeal.Norm.dx_all, (hargs c).1, (hargs c).2.1, (hargs c).2.2.1, (hargs c).2.2.2]

end Cert.Proof

end
-- ==== Proof.RmsFwd.lean ====
/- The norm before the first branch, against the reference's. -/
module

public import proofs.«01_k».proof.Defs
public import proofs.«01_k».proof.Proof.Norm
public import proofs.«01_k».proof.Proof.Gen.RmsFwd.Frame
public import proofs.«01_k».proof.Proof.Gen.RmsFwdIdeal.Frame
public import proofs.«01_k».proof.Proof.Gen.RmsFwdIdeal.Value
public import proofs.«01_k».proof.Proof.Gen.RmsFwdRefIdeal.Run
public import Idealize.ShloMosaic.Lib.Pipeline.ValueKit
public import Idealize.ShloMosaic.Lib.Pointwise

@[expose] public section

set_option maxRecDepth 16384

noncomputable section

namespace Cert.RmsFwdIdeal.Norm

open Cert.RmsFwdIdeal Cert.RmsFwdIdeal.Gen Idealize.ShloMosaic Idealize.ShloMosaic.TcCoe Idealize.SL.Sem
open _root_.Norm (meanSq scale normed row at_)

theorem out_at (x : Vec Ideal S512x1024 .f32) (g : Vec Ideal S1x1024 .f32) (i : Fin 512) (d : Fin 1024) :
    k0_pay1 x g (ix2 i d) = normed (row x i) (row g 0) d := by
  pointwise [k0_pay1]
  rfl

theorem idx0 : ∀ t : Fin cfg0.N, win0_0.index t = ![t.val, 0] := (by decide +kernel : ∀ t : Fin grid0.N, _)
theorem idx2 : ∀ t : Fin cfg0.N, win0_2.index t = ![t.val, 0] := (by decide +kernel : ∀ t : Fin grid0.N, _)
theorem idx1 : ∀ t : Fin cfg0.N, win0_1.index t = ![0, 0] := (by decide +kernel : ∀ t : Fin grid0.N, _)

/-- A grid point as a block of rows. -/
def pt (t : Fin cfg0.N) : Fin 8 := ⟨t.val, t.isLt⟩

variable (m : (ℓ : Loc nD τ sig) → Buf (Elt Ideal) ℓ) (c : Dev nD) (t : Fin cfg0.N)

theorem block0 (i : Fin 512) (d : Fin 1024) : iblk m c 0 t (ix2 i d) = m ((c.tc : Thread nD τ).loc main_arg0) (ix2 (at_ (pt t) i) d) := by
  blk_ext [iblk, V, idx0 t, at_, pt]

theorem block1 (d : Fin 1024) : iblk m c 1 t (ix2 0 d) = m ((c.tc : Thread nD τ).loc main_arg1) (ix2 0 d) := by
  blk_ext [iblk, V, idx1 t]

theorem emb2 (y : S512x1024.Idx) : (win0_2.blk t).view.emb y = ix2 (at_ (pt t) (y 0)) (y 1) := by
  blk_ext [idx2 t, at_, pt]

/-- Rows of blocks are rows of the arrays. -/
theorem rows_eq (X : Vec Ideal S512x1024 .f32) (x : S4096x1024.Idx → EReal) (h : ∀ i d, X (ix2 i d) = x (ix2 (at_ (pt t) i) d)) (i : Fin 512) :
    row X i = row x (at_ (pt t) i) := funext fun d => h i d

theorem gain_eq (G : Vec Ideal S1x1024 .f32) (g : S1x1024.Idx → EReal) (h : ∀ d, G (ix2 0 d) = g (ix2 0 d)) : row G 0 = row g 0 :=
  funext fun d => h d

theorem rows_after (i : Fin 512) (d : Fin 1024) : (dats m 0 c).after 2 t (ix2 i d) = normed (row (m ((c.tc : Thread nD τ).loc main_arg0)) (at_ (pt t) i)) (row (m ((c.tc : Thread nD τ).loc main_arg1)) 0) d := by
  rw [after0_2]
  frame_out
  refine (out_at _ _ i d).trans ?_
  rw [rows_eq t _ _ (block0 m c t) i, gain_eq _ _ (block1 m c t)]

theorem out_array : (dats m 0 c).arrAt 2 cfg0.N = fun y : S4096x1024.Idx => normed (row (m ((c.tc : Thread nD τ).loc main_arg0)) (y 0)) (row (m ((c.tc : Thread nD τ).loc main_arg1)) 0) (y 1) := by
  refine (dats m 0 c).arrAt_eq_of_covers 2 _ (by decide +kernel) fun t hf y => ?_
  blk_simp
  rw [emb2]
  exact (congrArg _ (eq_ix2 y)).trans (rows_after m c t _ _)

end Cert.RmsFwdIdeal.Norm

namespace Cert.RmsFwdRefIdeal.Norm

open Cert.RmsFwdRefIdeal Cert.RmsFwdRefIdeal.Gen Idealize.ShloMosaic Idealize.ShloMosaic.TcCoe Idealize.SL.Sem
open _root_.Norm (meanSq scale normed row)

theorem out_at (x : FVec Ideal S4096x1024 .f32) (g : FVec Ideal S1x1024 .f32) (i : Fin 4096) (d : Fin 1024) :
    (truncf .bf16 (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) bitsLt_bf16_f32 : FVec Ideal S4096x1024 .bf16) (ix2 i d) = normed (row x i) (row g 0) d := by
  pointwise []
  simp only [normed, meanSq, scale, row, zero_add]

end Cert.RmsFwdRefIdeal.Norm

namespace Cert.Proof

open Idealize.ShloMosaic Idealize.SL.Sem

attribute [local instance] Cert.RmsFwd.Gen.facts Cert.RmsFwdIdeal.Gen.facts Cert.RmsFwdRefIdeal.Gen.facts

theorem frame_rmsFwd : Cert.quiescent_RmsFwd := fun m ρ _ => Cert.RmsFwd.Gen.frame m ρ
theorem frame_rmsFwdIdeal : Cert.quiescent_RmsFwdIdeal := fun m ρ _ => Cert.RmsFwdIdeal.Gen.frame m ρ

theorem frame_rmsFwdRefIdeal : Cert.quiescent_RmsFwdRefIdeal := fun m ρ _ =>
  (θ_run Cert.RmsFwdRefIdeal.defs _ _).mono
    (fun r hr => ⟨fun c => (hr c).2, sem_eq_zero_of_no_sems (by decide) r.2⟩) (Cert.RmsFwdRefIdeal.Value.run m ρ)

theorem preserves_rmsFwd : Cert.preserves_RmsFwd_RmsFwdIdeal := trivial

/-- Kernel and reference end with the same normed rows. -/
theorem algebraic_rmsFwd : Cert.algebraic_RmsFwdIdeal_RmsFwdRefIdeal := by
  intro m g m' g' _ hargs
  refine ⟨fun c y => _root_.Norm.normed (_root_.Norm.row (m ((c.tc : Thread Cert.RmsFwdIdeal.nD Cert.RmsFwdIdeal.τ).loc Cert.RmsFwdIdeal.main_arg0)) (y 0)) (_root_.Norm.row (m ((c.tc : Thread Cert.RmsFwdIdeal.nD Cert.RmsFwdIdeal.τ).loc Cert.RmsFwdIdeal.main_arg1)) 0) (y 1), ?_, ?_⟩
  · exact (θ_run Cert.RmsFwdIdeal.defs _ _).mono (fun r hr c => ⟨(hr c).1.trans (Cert.RmsFwdIdeal.Norm.out_array m c), (hr c).2⟩)
      (Cert.RmsFwdIdeal.Value.run_blocks m g)
  · refine (θ_run Cert.RmsFwdRefIdeal.defs _ _).mono (fun r hr c => ⟨(hr c).1.trans ?_, (hr c).2⟩) (Cert.RmsFwdRefIdeal.Value.run m' g')
    refine funext fun y => (congrArg _ (eq_ix2 y)).trans ((Cert.RmsFwdRefIdeal.Norm.out_at _ _ (y 0) (y 1)).trans ?_)
    rw [(hargs c).1, (hargs c).2]

end Cert.Proof

end
-- ==== Proof.RmsMemFwd.lean ====
/- The norm of the memory, against the reference's. -/
module

public import proofs.«01_k».proof.Defs
public import proofs.«01_k».proof.Proof.Norm
public import proofs.«01_k».proof.Proof.Gen.RmsMemFwd.Frame
public import proofs.«01_k».proof.Proof.Gen.RmsMemFwdIdeal.Frame
public import proofs.«01_k».proof.Proof.Gen.RmsMemFwdIdeal.Value
public import proofs.«01_k».proof.Proof.Gen.RmsMemFwdRefIdeal.Run
public import Idealize.ShloMosaic.Lib.Pipeline.ValueKit
public import Idealize.ShloMosaic.Lib.Pointwise

@[expose] public section

set_option maxRecDepth 16384

noncomputable section

namespace Cert.RmsMemFwdIdeal.Norm

open Cert.RmsMemFwdIdeal Cert.RmsMemFwdIdeal.Gen Idealize.ShloMosaic Idealize.ShloMosaic.TcCoe Idealize.SL.Sem
open _root_.Norm (meanSq scale normed row at_)

theorem out_at (x : Vec Ideal S512x1024 .f32) (g : Vec Ideal S1x1024 .f32) (i : Fin 512) (d : Fin 1024) :
    k0_pay1 x g (ix2 i d) = normed (row x i) (row g 0) d := by
  pointwise [k0_pay1]
  rfl

theorem idx0 : ∀ t : Fin cfg0.N, win0_0.index t = ![0, 0] := (by decide +kernel : ∀ t : Fin grid0.N, _)
theorem idx2 : ∀ t : Fin cfg0.N, win0_2.index t = ![0, 0] := (by decide +kernel : ∀ t : Fin grid0.N, _)
theorem idx1 : ∀ t : Fin cfg0.N, win0_1.index t = ![0, 0] := (by decide +kernel : ∀ t : Fin grid0.N, _)

variable (m : (ℓ : Loc nD τ sig) → Buf (Elt Ideal) ℓ) (c : Dev nD) (t : Fin cfg0.N)

theorem block0 (i : Fin 512) (d : Fin 1024) : iblk m c 0 t (ix2 i d) = m ((c.tc : Thread nD τ).loc main_arg0) (ix2 i d) := by
  blk_ext [iblk, V, idx0 t]

theorem block1 (d : Fin 1024) : iblk m c 1 t (ix2 0 d) = m ((c.tc : Thread nD τ).loc main_arg1) (ix2 0 d) := by
  blk_ext [iblk, V, idx1 t]

theorem emb2 (y : S512x1024.Idx) : (win0_2.blk t).view.emb y = ix2 (y 0) (y 1) := by
  blk_ext [idx2 t]

/-- Rows of blocks are rows of the arrays. -/
theorem rows_eq (X : Vec Ideal S512x1024 .f32) (x : S512x1024.Idx → EReal) (h : ∀ i d, X (ix2 i d) = x (ix2 i d)) (i : Fin 512) :
    row X i = row x i := funext fun d => h i d

theorem gain_eq (G : Vec Ideal S1x1024 .f32) (g : S1x1024.Idx → EReal) (h : ∀ d, G (ix2 0 d) = g (ix2 0 d)) : row G 0 = row g 0 :=
  funext fun d => h d

theorem rows_after (i : Fin 512) (d : Fin 1024) : (dats m 0 c).after 2 t (ix2 i d) = normed (row (m ((c.tc : Thread nD τ).loc main_arg0)) i) (row (m ((c.tc : Thread nD τ).loc main_arg1)) 0) d := by
  rw [after0_2]
  frame_out
  refine (out_at _ _ i d).trans ?_
  rw [rows_eq _ _ (block0 m c t) i, gain_eq _ _ (block1 m c t)]

theorem out_array : (dats m 0 c).arrAt 2 cfg0.N = fun y : S512x1024.Idx => normed (row (m ((c.tc : Thread nD τ).loc main_arg0)) (y 0)) (row (m ((c.tc : Thread nD τ).loc main_arg1)) 0) (y 1) := by
  refine (dats m 0 c).arrAt_eq_of_covers 2 _ (by decide +kernel) fun t hf y => ?_
  blk_simp
  rw [emb2]
  exact (congrArg _ (eq_ix2 y)).trans (rows_after m c t _ _)

end Cert.RmsMemFwdIdeal.Norm

namespace Cert.RmsMemFwdRefIdeal.Norm

open Cert.RmsMemFwdRefIdeal Cert.RmsMemFwdRefIdeal.Gen Idealize.ShloMosaic Idealize.ShloMosaic.TcCoe Idealize.SL.Sem
open _root_.Norm (meanSq scale normed row)

theorem out_at (x : FVec Ideal S512x1024 .f32) (g : FVec Ideal S1x1024 .f32) (i : Fin 512) (d : Fin 1024) :
    (truncf .bf16 (mulf (mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 g)) bitsLt_bf16_f32 : FVec Ideal S512x1024 .bf16) (ix2 i d) = normed (row x i) (row g 0) d := by
  pointwise []
  simp only [normed, meanSq, scale, row, zero_add]

end Cert.RmsMemFwdRefIdeal.Norm

namespace Cert.Proof

open Idealize.ShloMosaic Idealize.SL.Sem

attribute [local instance] Cert.RmsMemFwd.Gen.facts Cert.RmsMemFwdIdeal.Gen.facts Cert.RmsMemFwdRefIdeal.Gen.facts

theorem frame_rmsMemFwd : Cert.quiescent_RmsMemFwd := fun m ρ _ => Cert.RmsMemFwd.Gen.frame m ρ
theorem frame_rmsMemFwdIdeal : Cert.quiescent_RmsMemFwdIdeal := fun m ρ _ => Cert.RmsMemFwdIdeal.Gen.frame m ρ

theorem frame_rmsMemFwdRefIdeal : Cert.quiescent_RmsMemFwdRefIdeal := fun m ρ _ =>
  (θ_run Cert.RmsMemFwdRefIdeal.defs _ _).mono
    (fun r hr => ⟨fun c => (hr c).2, sem_eq_zero_of_no_sems (by decide) r.2⟩) (Cert.RmsMemFwdRefIdeal.Value.run m ρ)

theorem preserves_rmsMemFwd : Cert.preserves_RmsMemFwd_RmsMemFwdIdeal := trivial

/-- Kernel and reference end with the same normed rows. -/
theorem algebraic_rmsMemFwd : Cert.algebraic_RmsMemFwdIdeal_RmsMemFwdRefIdeal := by
  intro m g m' g' _ hargs
  refine ⟨fun c y => _root_.Norm.normed (_root_.Norm.row (m ((c.tc : Thread Cert.RmsMemFwdIdeal.nD Cert.RmsMemFwdIdeal.τ).loc Cert.RmsMemFwdIdeal.main_arg0)) (y 0)) (_root_.Norm.row (m ((c.tc : Thread Cert.RmsMemFwdIdeal.nD Cert.RmsMemFwdIdeal.τ).loc Cert.RmsMemFwdIdeal.main_arg1)) 0) (y 1), ?_, ?_⟩
  · exact (θ_run Cert.RmsMemFwdIdeal.defs _ _).mono (fun r hr c => ⟨(hr c).1.trans (Cert.RmsMemFwdIdeal.Norm.out_array m c), (hr c).2⟩)
      (Cert.RmsMemFwdIdeal.Value.run_blocks m g)
  · refine (θ_run Cert.RmsMemFwdRefIdeal.defs _ _).mono (fun r hr c => ⟨(hr c).1.trans ?_, (hr c).2⟩) (Cert.RmsMemFwdRefIdeal.Value.run m' g')
    refine funext fun y => (congrArg _ (eq_ix2 y)).trans ((Cert.RmsMemFwdRefIdeal.Norm.out_at _ _ (y 0) (y 1)).trans ?_)
    rw [(hargs c).1, (hargs c).2]

end Cert.Proof

end
-- ==== Proof.RmsPairFwd.lean ====
/- A norm, the residual, and the norm of the sum, against the reference's. -/
module

public import proofs.«01_k».proof.Defs
public import proofs.«01_k».proof.Proof.Norm
public import proofs.«01_k».proof.Proof.Gen.RmsPairFwd.Frame
public import proofs.«01_k».proof.Proof.Gen.RmsPairFwdIdeal.Frame
public import proofs.«01_k».proof.Proof.Gen.RmsPairFwdIdeal.Value
public import proofs.«01_k».proof.Proof.Gen.RmsPairFwdRefIdeal.Run
public import Idealize.ShloMosaic.Lib.Pipeline.ValueKit
public import Idealize.ShloMosaic.Lib.Pointwise

@[expose] public section

set_option maxRecDepth 16384

noncomputable section

namespace Cert.RmsPairFwdIdeal.Norm

open Cert.RmsPairFwdIdeal Cert.RmsPairFwdIdeal.Gen Idealize.ShloMosaic Idealize.ShloMosaic.TcCoe Idealize.SL.Sem
open _root_.Norm (meanSq scale normed row at_)

/-- The normed branch added to the residual. -/
def resid (y : S4096x1024.Idx → EReal) (gp : S1x1024.Idx → EReal) (r : S4096x1024.Idx → EReal) (z : S4096x1024.Idx) : EReal :=
  r z + normed (row y (z 0)) (row gp 0) (z 1)

theorem x_at (y r : Vec Ideal S512x1024 .f32) (gp : Vec Ideal S1x1024 .f32) (i : Fin 512) (d : Fin 1024) :
    k0_pay1 y r gp (ix2 i d) = r (ix2 i d) + normed (row y i) (row gp 0) d := by
  pointwise [k0_pay1]
  rfl

theorem h0_at (y r : Vec Ideal S512x1024 .f32) (gp g : Vec Ideal S1x1024 .f32) (i : Fin 512) (d : Fin 1024) :
    k0_pay2 y r gp g (ix2 i d) = normed (row (k0_pay1 y r gp : Vec Ideal S512x1024 .f32) i) (row g 0) d := by
  pointwise [k0_pay2]
  rfl

theorem idx0 : ∀ t : Fin cfg0.N, win0_0.index t = ![t.val, 0] := (by decide +kernel : ∀ t : Fin grid0.N, _)
theorem idx2 : ∀ t : Fin cfg0.N, win0_2.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx1 : ∀ t : Fin cfg0.N, win0_1.index t = ![0, 0] := (by decide +kernel : ∀ t : Fin grid0.N, _)
theorem idx3 : ∀ t : Fin cfg0.N, win0_3.index t = ![0, 0] := (by decide +kernel : ∀ t : Fin grid0.N, _)

/-- A grid point as a block of rows. -/
def pt (t : Fin cfg0.N) : Fin 8 := ⟨t.val, t.isLt⟩

variable (m : (ℓ : Loc nD τ sig) → Buf (Elt Ideal) ℓ) (c : Dev nD) (t : Fin cfg0.N)

theorem block0 (i : Fin 512) (d : Fin 1024) : iblk m c 0 t (ix2 i d) = m ((c.tc : Thread nD τ).loc main_arg0) (ix2 (at_ (pt t) i) d) := by
  blk_ext [iblk, V, idx0 t, at_, pt]

theorem block2 (i : Fin 512) (d : Fin 1024) : iblk m c 2 t (ix2 i d) = m ((c.tc : Thread nD τ).loc main_arg2) (ix2 (at_ (pt t) i) d) := by
  blk_ext [iblk, V, idx2 t, at_, pt]

theorem block1 (d : Fin 1024) : iblk m c 1 t (ix2 0 d) = m ((c.tc : Thread nD τ).loc main_arg1) (ix2 0 d) := by
  blk_ext [iblk, V, idx1 t]

theorem block3 (d : Fin 1024) : iblk m c 3 t (ix2 0 d) = m ((c.tc : Thread nD τ).loc main_arg3) (ix2 0 d) := by
  blk_ext [iblk, V, idx3 t]

theorem emb4 (y : S512x1024.Idx) : (win0_4.blk t).view.emb y = ix2 (at_ (pt t) (y 0)) (y 1) := by
  blk_ext [idx4 t, at_, pt]

theorem emb5 (y : S512x1024.Idx) : (win0_5.blk t).view.emb y = ix2 (at_ (pt t) (y 0)) (y 1) := by
  blk_ext [idx5 t, at_, pt]

/-- Rows of blocks are rows of the arrays. -/
theorem rows_eq (X : Vec Ideal S512x1024 .f32) (x : S4096x1024.Idx → EReal) (h : ∀ i d, X (ix2 i d) = x (ix2 (at_ (pt t) i) d)) (i : Fin 512) :
    row X i = row x (at_ (pt t) i) := funext fun d => h i d

theorem gain_eq (G : Vec Ideal S1x1024 .f32) (g : S1x1024.Idx → EReal) (h : ∀ d, G (ix2 0 d) = g (ix2 0 d)) : row G 0 = row g 0 :=
  funext fun d => h d

theorem x_block (i : Fin 512) (d : Fin 1024) : k0_pay1 (iblk m c 0 t) (iblk m c 2 t) (iblk m c 1 t) (ix2 i d) =
    resid (m ((c.tc : Thread nD τ).loc main_arg0)) (m ((c.tc : Thread nD τ).loc main_arg1)) (m ((c.tc : Thread nD τ).loc main_arg2)) (ix2 (at_ (pt t) i) d) := by
  refine (x_at _ _ _ i d).trans ?_
  rw [rows_eq t _ _ (block0 m c t) i, gain_eq _ _ (block1 m c t)]
  exact congrArg (· + _) (block2 m c t i d)

theorem x_after (i : Fin 512) (d : Fin 1024) : (dats m 0 c).after 4 t (ix2 i d) = resid (m ((c.tc : Thread nD τ).loc main_arg0)) (m ((c.tc : Thread nD τ).loc main_arg1)) (m ((c.tc : Thread nD τ).loc main_arg2)) (ix2 (at_ (pt t) i) d) := by
  rw [after0_4]
  frame_out
  exact x_block m c t i d

theorem x_array : (dats m 0 c).arrAt 4 cfg0.N = resid (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [emb4]
  exact (congrArg _ (eq_ix2 y)).trans (x_after m c t _ _)

theorem h0_after (i : Fin 512) (d : Fin 1024) : (dats m 0 c).after 5 t (ix2 i d) =
    normed (row (resid (m ((c.tc : Thread nD τ).loc main_arg0)) (m ((c.tc : Thread nD τ).loc main_arg1)) (m ((c.tc : Thread nD τ).loc main_arg2))) (at_ (pt t) i)) (row (m ((c.tc : Thread nD τ).loc main_arg3)) 0) d := by
  rw [after0_5]
  frame_out
  refine (h0_at _ _ _ _ i d).trans ?_
  rw [rows_eq t _ _ (x_block m c t) i, gain_eq _ _ (block3 m c t)]

theorem h0_array : (dats m 0 c).arrAt 5 cfg0.N = fun y : S4096x1024.Idx => normed (row (resid (m ((c.tc : Thread nD τ).loc main_arg0)) (m ((c.tc : Thread nD τ).loc main_arg1)) (m ((c.tc : Thread nD τ).loc main_arg2))) (y 0)) (row (m ((c.tc : Thread nD τ).loc main_arg3)) 0) (y 1) := by
  refine (dats m 0 c).arrAt_eq_of_covers 5 _ (by decide +kernel) fun t hf y => ?_
  blk_simp
  rw [emb5]
  exact (congrArg _ (eq_ix2 y)).trans (h0_after m c t _ _)

end Cert.RmsPairFwdIdeal.Norm

namespace Cert.RmsPairFwdRefIdeal.Norm

open Cert.RmsPairFwdRefIdeal Cert.RmsPairFwdRefIdeal.Gen Idealize.ShloMosaic Idealize.ShloMosaic.TcCoe Idealize.SL.Sem
open _root_.Norm (meanSq scale normed row)

theorem x_at (y r : FVec Ideal S4096x1024 .f32) (gp : FVec Ideal S1x1024 .f32) (i : Fin 4096) (d : Fin 1024) :
    (addf r (mulf (mulf y (broadcastInDim S4096x1024 ![0, 1] bcast_S4096x1_S4096x1024_0_1 (Host.rsqrt (addf (Host.divf (broadcastInDim S4096x1 ![0] bcast_S4096_S4096x1_0 (Host.reduceAdd (mulf y y) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 gp)) : FVec Ideal S4096x1024 .f32) (ix2 i d) = r (ix2 i d) + normed (row y i) (row gp 0) d := by
  pointwise []
  simp only [normed, meanSq, scale, row, zero_add]

theorem h_at (v : FVec Ideal S4096x1024 .f32) (g : FVec Ideal S1x1024 .f32) (i : Fin 4096) (d : Fin 1024) :
    (truncf .bf16 (mulf (mulf v (broadcastInDim S4096x1024 ![0, 1] bcast_S4096x1_S4096x1024_0_1 (Host.rsqrt (addf (Host.divf (broadcastInDim S4096x1 ![0] bcast_S4096_S4096x1_0 (Host.reduceAdd (mulf v v) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) bitsLt_bf16_f32 : FVec Ideal S4096x1024 .bf16) (ix2 i d) = normed (row v i) (row g 0) d := by
  pointwise []
  simp only [normed, meanSq, scale, row, zero_add]

end Cert.RmsPairFwdRefIdeal.Norm

namespace Cert.Proof

open Idealize.ShloMosaic Idealize.SL.Sem

attribute [local instance] Cert.RmsPairFwd.Gen.facts Cert.RmsPairFwdIdeal.Gen.facts Cert.RmsPairFwdRefIdeal.Gen.facts

theorem frame_rmsPairFwd : Cert.quiescent_RmsPairFwd := fun m ρ _ => Cert.RmsPairFwd.Gen.frame m ρ
theorem frame_rmsPairFwdIdeal : Cert.quiescent_RmsPairFwdIdeal := fun m ρ _ => Cert.RmsPairFwdIdeal.Gen.frame m ρ

theorem frame_rmsPairFwdRefIdeal : Cert.quiescent_RmsPairFwdRefIdeal := fun m ρ _ =>
  (θ_run Cert.RmsPairFwdRefIdeal.defs _ _).mono
    (fun r hr => ⟨fun c => (hr c).2.2, sem_eq_zero_of_no_sems (by decide) r.2⟩) (Cert.RmsPairFwdRefIdeal.Value.run m ρ)

theorem preserves_rmsPairFwd : Cert.preserves_RmsPairFwd_RmsPairFwdIdeal := trivial

/-- Kernel and reference end with the same rows and the same normed rows. -/
theorem algebraic_rmsPairFwd : Cert.algebraic_RmsPairFwdIdeal_RmsPairFwdRefIdeal := by
  intro m g m' g' _ hargs
  refine ⟨fun c => Cert.RmsPairFwdIdeal.Norm.resid (m ((c.tc : Thread Cert.RmsPairFwdIdeal.nD Cert.RmsPairFwdIdeal.τ).loc Cert.RmsPairFwdIdeal.main_arg0)) (m ((c.tc : Thread Cert.RmsPairFwdIdeal.nD Cert.RmsPairFwdIdeal.τ).loc Cert.RmsPairFwdIdeal.main_arg1)) (m ((c.tc : Thread Cert.RmsPairFwdIdeal.nD Cert.RmsPairFwdIdeal.τ).loc Cert.RmsPairFwdIdeal.main_arg2)),
    fun c y => _root_.Norm.normed (_root_.Norm.row (Cert.RmsPairFwdIdeal.Norm.resid (m ((c.tc : Thread Cert.RmsPairFwdIdeal.nD Cert.RmsPairFwdIdeal.τ).loc Cert.RmsPairFwdIdeal.main_arg0)) (m ((c.tc : Thread Cert.RmsPairFwdIdeal.nD Cert.RmsPairFwdIdeal.τ).loc Cert.RmsPairFwdIdeal.main_arg1)) (m ((c.tc : Thread Cert.RmsPairFwdIdeal.nD Cert.RmsPairFwdIdeal.τ).loc Cert.RmsPairFwdIdeal.main_arg2))) (y 0)) (_root_.Norm.row (m ((c.tc : Thread Cert.RmsPairFwdIdeal.nD Cert.RmsPairFwdIdeal.τ).loc Cert.RmsPairFwdIdeal.main_arg3)) 0) (y 1),
    ?_, ?_⟩
  · exact (θ_run Cert.RmsPairFwdIdeal.defs _ _).mono (fun r hr c => ⟨(hr c).1.trans (Cert.RmsPairFwdIdeal.Norm.x_array m c),
      (hr c).2.1.trans (Cert.RmsPairFwdIdeal.Norm.h0_array m c), (hr c).2.2⟩)
      (Cert.RmsPairFwdIdeal.Value.run_blocks m g)
  · refine (θ_run Cert.RmsPairFwdRefIdeal.defs _ _).mono (fun r hr c => ⟨(hr c).1.trans ?_, (hr c).2.1.trans ?_, (hr c).2.2⟩)
      (Cert.RmsPairFwdRefIdeal.Value.run m' g')
    · refine funext fun y => (congrArg _ (eq_ix2 y)).trans ((Cert.RmsPairFwdRefIdeal.Norm.x_at _ _ _ (y 0) (y 1)).trans ?_)
      rw [(hargs c).1, (hargs c).2.1, (hargs c).2.2.1]
      exact congrArg (· + _) (congrArg _ (eq_ix2 y).symm)
    · refine funext fun y => (congrArg _ (eq_ix2 y)).trans ((Cert.RmsPairFwdRefIdeal.Norm.h_at _ _ (y 0) (y 1)).trans ?_)
      refine congrFun (congrArg₂ _root_.Norm.normed ?_ ?_) _
      · refine funext fun d => (Cert.RmsPairFwdRefIdeal.Norm.x_at _ _ _ (y 0) d).trans ?_
        rw [(hargs c).1, (hargs c).2.1, (hargs c).2.2.1]
        rfl
      · rw [(hargs c).2.2.2]

end Cert.Proof

end
-- ==== Proof.RmsThreeFwd.lean ====
/- A norm, the residual, and two norms of the sum, against the reference's. -/
module

public import proofs.«01_k».proof.Defs
public import proofs.«01_k».proof.Proof.Norm
public import proofs.«01_k».proof.Proof.Gen.RmsThreeFwd.Frame
public import proofs.«01_k».proof.Proof.Gen.RmsThreeFwdIdeal.Frame
public import proofs.«01_k».proof.Proof.Gen.RmsThreeFwdIdeal.Value
public import proofs.«01_k».proof.Proof.Gen.RmsThreeFwdRefIdeal.Run
public import Idealize.ShloMosaic.Lib.Pipeline.ValueKit
public import Idealize.ShloMosaic.Lib.Pointwise

@[expose] public section

set_option maxRecDepth 16384

noncomputable section

namespace Cert.RmsThreeFwdIdeal.Norm

open Cert.RmsThreeFwdIdeal Cert.RmsThreeFwdIdeal.Gen Idealize.ShloMosaic Idealize.ShloMosaic.TcCoe Idealize.SL.Sem
open _root_.Norm (meanSq scale normed row at_)

/-- The normed branch added to the residual. -/
def resid (y : S4096x1024.Idx → EReal) (gp : S1x1024.Idx → EReal) (r : S4096x1024.Idx → EReal) (z : S4096x1024.Idx) : EReal :=
  r z + normed (row y (z 0)) (row gp 0) (z 1)

theorem x_at (y r : Vec Ideal S512x1024 .f32) (gp : Vec Ideal S1x1024 .f32) (i : Fin 512) (d : Fin 1024) :
    k0_pay1 y r gp (ix2 i d) = r (ix2 i d) + normed (row y i) (row gp 0) d := by
  pointwise [k0_pay1]
  rfl

theorem h0_at (y r : Vec Ideal S512x1024 .f32) (gp g : Vec Ideal S1x1024 .f32) (i : Fin 512) (d : Fin 1024) :
    k0_pay3 y r gp g (ix2 i d) = normed (row (k0_pay1 y r gp : Vec Ideal S512x1024 .f32) i) (row g 0) d := by
  pointwise [k0_pay3, k0_pay2]
  rfl

theorem h1_at (y r : Vec Ideal S512x1024 .f32) (gp g : Vec Ideal S1x1024 .f32) (i : Fin 512) (d : Fin 1024) :
    k0_pay4 y r gp g (ix2 i d) = normed (row (k0_pay1 y r gp : Vec Ideal S512x1024 .f32) i) (row g 0) d := by
  pointwise [k0_pay4, k0_pay2]
  rfl

theorem idx0 : ∀ t : Fin cfg0.N, win0_0.index t = ![t.val, 0] := (by decide +kernel : ∀ t : Fin grid0.N, _)
theorem idx2 : ∀ t : Fin cfg0.N, win0_2.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx1 : ∀ t : Fin cfg0.N, win0_1.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

/-- A grid point as a block of rows. -/
def pt (t : Fin cfg0.N) : Fin 8 := ⟨t.val, t.isLt⟩

variable (m : (ℓ : Loc nD τ sig) → Buf (Elt Ideal) ℓ) (c : Dev nD) (t : Fin cfg0.N)

theorem block0 (i : Fin 512) (d : Fin 1024) : iblk m c 0 t (ix2 i d) = m ((c.tc : Thread nD τ).loc main_arg0) (ix2 (at_ (pt t) i) d) := by
  blk_ext [iblk, V, idx0 t, at_, pt]

theorem block2 (i : Fin 512) (d : Fin 1024) : iblk m c 2 t (ix2 i d) = m ((c.tc : Thread nD τ).loc main_arg2) (ix2 (at_ (pt t) i) d) := by
  blk_ext [iblk, V, idx2 t, at_, pt]

theorem block1 (d : Fin 1024) : iblk m c 1 t (ix2 0 d) = m ((c.tc : Thread nD τ).loc main_arg1) (ix2 0 d) := by
  blk_ext [iblk, V, idx1 t]

theorem block3 (d : Fin 1024) : iblk m c 3 t (ix2 0 d) = m ((c.tc : Thread nD τ).loc main_arg3) (ix2 0 d) := by
  blk_ext [iblk, V, idx3 t]

theorem block4 (d : Fin 1024) : iblk m c 4 t (ix2 0 d) = m ((c.tc : Thread nD τ).loc main_arg4) (ix2 0 d) := by
  blk_ext [iblk, V, idx4 t]

theorem emb5 (y : S512x1024.Idx) : (win0_5.blk t).view.emb y = ix2 (at_ (pt t) (y 0)) (y 1) := by
  blk_ext [idx5 t, at_, pt]

theorem emb6 (y : S512x1024.Idx) : (win0_6.blk t).view.emb y = ix2 (at_ (pt t) (y 0)) (y 1) := by
  blk_ext [idx6 t, at_, pt]

theorem emb7 (y : S512x1024.Idx) : (win0_7.blk t).view.emb y = ix2 (at_ (pt t) (y 0)) (y 1) := by
  blk_ext [idx7 t, at_, pt]

/-- Rows of blocks are rows of the arrays. -/
theorem rows_eq (X : Vec Ideal S512x1024 .f32) (x : S4096x1024.Idx → EReal) (h : ∀ i d, X (ix2 i d) = x (ix2 (at_ (pt t) i) d)) (i : Fin 512) :
    row X i = row x (at_ (pt t) i) := funext fun d => h i d

theorem gain_eq (G : Vec Ideal S1x1024 .f32) (g : S1x1024.Idx → EReal) (h : ∀ d, G (ix2 0 d) = g (ix2 0 d)) : row G 0 = row g 0 :=
  funext fun d => h d

theorem x_block (i : Fin 512) (d : Fin 1024) : k0_pay1 (iblk m c 0 t) (iblk m c 2 t) (iblk m c 1 t) (ix2 i d) =
    resid (m ((c.tc : Thread nD τ).loc main_arg0)) (m ((c.tc : Thread nD τ).loc main_arg1)) (m ((c.tc : Thread nD τ).loc main_arg2)) (ix2 (at_ (pt t) i) d) := by
  refine (x_at _ _ _ i d).trans ?_
  rw [rows_eq t _ _ (block0 m c t) i, gain_eq _ _ (block1 m c t)]
  exact congrArg (· + _) (block2 m c t i d)

theorem x_after (i : Fin 512) (d : Fin 1024) : (dats m 0 c).after 5 t (ix2 i d) = resid (m ((c.tc : Thread nD τ).loc main_arg0)) (m ((c.tc : Thread nD τ).loc main_arg1)) (m ((c.tc : Thread nD τ).loc main_arg2)) (ix2 (at_ (pt t) i) d) := by
  rw [after0_5]
  frame_out
  exact x_block m c t i d

theorem x_array : (dats m 0 c).arrAt 5 cfg0.N = resid (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [emb5]
  exact (congrArg _ (eq_ix2 y)).trans (x_after m c t _ _)

theorem h0_after (i : Fin 512) (d : Fin 1024) : (dats m 0 c).after 6 t (ix2 i d) =
    normed (row (resid (m ((c.tc : Thread nD τ).loc main_arg0)) (m ((c.tc : Thread nD τ).loc main_arg1)) (m ((c.tc : Thread nD τ).loc main_arg2))) (at_ (pt t) i)) (row (m ((c.tc : Thread nD τ).loc main_arg3)) 0) d := by
  rw [after0_6]
  frame_out
  refine (h0_at _ _ _ _ i d).trans ?_
  rw [rows_eq t _ _ (x_block m c t) i, gain_eq _ _ (block3 m c t)]

theorem h0_array : (dats m 0 c).arrAt 6 cfg0.N = fun y : S4096x1024.Idx => normed (row (resid (m ((c.tc : Thread nD τ).loc main_arg0)) (m ((c.tc : Thread nD τ).loc main_arg1)) (m ((c.tc : Thread nD τ).loc main_arg2))) (y 0)) (row (m ((c.tc : Thread nD τ).loc main_arg3)) 0) (y 1) := by
  refine (dats m 0 c).arrAt_eq_of_covers 6 _ (by decide +kernel) fun t hf y => ?_
  blk_simp
  rw [emb6]
  exact (congrArg _ (eq_ix2 y)).trans (h0_after m c t _ _)

theorem h1_after (i : Fin 512) (d : Fin 1024) : (dats m 0 c).after 7 t (ix2 i d) =
    normed (row (resid (m ((c.tc : Thread nD τ).loc main_arg0)) (m ((c.tc : Thread nD τ).loc main_arg1)) (m ((c.tc : Thread nD τ).loc main_arg2))) (at_ (pt t) i)) (row (m ((c.tc : Thread nD τ).loc main_arg4)) 0) d := by
  rw [after0_7]
  frame_out
  refine (h1_at _ _ _ _ i d).trans ?_
  rw [rows_eq t _ _ (x_block m c t) i, gain_eq _ _ (block4 m c t)]

theorem h1_array : (dats m 0 c).arrAt 7 cfg0.N = fun y : S4096x1024.Idx => normed (row (resid (m ((c.tc : Thread nD τ).loc main_arg0)) (m ((c.tc : Thread nD τ).loc main_arg1)) (m ((c.tc : Thread nD τ).loc main_arg2))) (y 0)) (row (m ((c.tc : Thread nD τ).loc main_arg4)) 0) (y 1) := by
  refine (dats m 0 c).arrAt_eq_of_covers 7 _ (by decide +kernel) fun t hf y => ?_
  blk_simp
  rw [emb7]
  exact (congrArg _ (eq_ix2 y)).trans (h1_after m c t _ _)

end Cert.RmsThreeFwdIdeal.Norm

namespace Cert.RmsThreeFwdRefIdeal.Norm

open Cert.RmsThreeFwdRefIdeal Cert.RmsThreeFwdRefIdeal.Gen Idealize.ShloMosaic Idealize.ShloMosaic.TcCoe Idealize.SL.Sem
open _root_.Norm (meanSq scale normed row)

theorem x_at (y r : FVec Ideal S4096x1024 .f32) (gp : FVec Ideal S1x1024 .f32) (i : Fin 4096) (d : Fin 1024) :
    (addf r (mulf (mulf y (broadcastInDim S4096x1024 ![0, 1] bcast_S4096x1_S4096x1024_0_1 (Host.rsqrt (addf (Host.divf (broadcastInDim S4096x1 ![0] bcast_S4096_S4096x1_0 (Host.reduceAdd (mulf y y) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 gp)) : FVec Ideal S4096x1024 .f32) (ix2 i d) = r (ix2 i d) + normed (row y i) (row gp 0) d := by
  pointwise []
  simp only [normed, meanSq, scale, row, zero_add]

theorem h_at (v : FVec Ideal S4096x1024 .f32) (g : FVec Ideal S1x1024 .f32) (i : Fin 4096) (d : Fin 1024) :
    (truncf .bf16 (mulf (mulf v (broadcastInDim S4096x1024 ![0, 1] bcast_S4096x1_S4096x1024_0_1 (Host.rsqrt (addf (Host.divf (broadcastInDim S4096x1 ![0] bcast_S4096_S4096x1_0 (Host.reduceAdd (mulf v v) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) bitsLt_bf16_f32 : FVec Ideal S4096x1024 .bf16) (ix2 i d) = normed (row v i) (row g 0) d := by
  pointwise []
  simp only [normed, meanSq, scale, row, zero_add]

end Cert.RmsThreeFwdRefIdeal.Norm

namespace Cert.Proof

open Idealize.ShloMosaic Idealize.SL.Sem

attribute [local instance] Cert.RmsThreeFwd.Gen.facts Cert.RmsThreeFwdIdeal.Gen.facts Cert.RmsThreeFwdRefIdeal.Gen.facts

theorem frame_rmsThreeFwd : Cert.quiescent_RmsThreeFwd := fun m ρ _ => Cert.RmsThreeFwd.Gen.frame m ρ
theorem frame_rmsThreeFwdIdeal : Cert.quiescent_RmsThreeFwdIdeal := fun m ρ _ => Cert.RmsThreeFwdIdeal.Gen.frame m ρ

theorem frame_rmsThreeFwdRefIdeal : Cert.quiescent_RmsThreeFwdRefIdeal := fun m ρ _ =>
  (θ_run Cert.RmsThreeFwdRefIdeal.defs _ _).mono
    (fun r hr => ⟨fun c => (hr c).2.2.2, sem_eq_zero_of_no_sems (by decide) r.2⟩) (Cert.RmsThreeFwdRefIdeal.Value.run m ρ)

theorem preserves_rmsThreeFwd : Cert.preserves_RmsThreeFwd_RmsThreeFwdIdeal := trivial

/-- Kernel and reference end with the same rows and the same normed rows. -/
theorem algebraic_rmsThreeFwd : Cert.algebraic_RmsThreeFwdIdeal_RmsThreeFwdRefIdeal := by
  intro m g m' g' _ hargs
  refine ⟨fun c => Cert.RmsThreeFwdIdeal.Norm.resid (m ((c.tc : Thread Cert.RmsThreeFwdIdeal.nD Cert.RmsThreeFwdIdeal.τ).loc Cert.RmsThreeFwdIdeal.main_arg0)) (m ((c.tc : Thread Cert.RmsThreeFwdIdeal.nD Cert.RmsThreeFwdIdeal.τ).loc Cert.RmsThreeFwdIdeal.main_arg1)) (m ((c.tc : Thread Cert.RmsThreeFwdIdeal.nD Cert.RmsThreeFwdIdeal.τ).loc Cert.RmsThreeFwdIdeal.main_arg2)),
    fun c y => _root_.Norm.normed (_root_.Norm.row (Cert.RmsThreeFwdIdeal.Norm.resid (m ((c.tc : Thread Cert.RmsThreeFwdIdeal.nD Cert.RmsThreeFwdIdeal.τ).loc Cert.RmsThreeFwdIdeal.main_arg0)) (m ((c.tc : Thread Cert.RmsThreeFwdIdeal.nD Cert.RmsThreeFwdIdeal.τ).loc Cert.RmsThreeFwdIdeal.main_arg1)) (m ((c.tc : Thread Cert.RmsThreeFwdIdeal.nD Cert.RmsThreeFwdIdeal.τ).loc Cert.RmsThreeFwdIdeal.main_arg2))) (y 0)) (_root_.Norm.row (m ((c.tc : Thread Cert.RmsThreeFwdIdeal.nD Cert.RmsThreeFwdIdeal.τ).loc Cert.RmsThreeFwdIdeal.main_arg3)) 0) (y 1),
    fun c y => _root_.Norm.normed (_root_.Norm.row (Cert.RmsThreeFwdIdeal.Norm.resid (m ((c.tc : Thread Cert.RmsThreeFwdIdeal.nD Cert.RmsThreeFwdIdeal.τ).loc Cert.RmsThreeFwdIdeal.main_arg0)) (m ((c.tc : Thread Cert.RmsThreeFwdIdeal.nD Cert.RmsThreeFwdIdeal.τ).loc Cert.RmsThreeFwdIdeal.main_arg1)) (m ((c.tc : Thread Cert.RmsThreeFwdIdeal.nD Cert.RmsThreeFwdIdeal.τ).loc Cert.RmsThreeFwdIdeal.main_arg2))) (y 0)) (_root_.Norm.row (m ((c.tc : Thread Cert.RmsThreeFwdIdeal.nD Cert.RmsThreeFwdIdeal.τ).loc Cert.RmsThreeFwdIdeal.main_arg4)) 0) (y 1),
    ?_, ?_⟩
  · exact (θ_run Cert.RmsThreeFwdIdeal.defs _ _).mono (fun r hr c => ⟨(hr c).1.trans (Cert.RmsThreeFwdIdeal.Norm.x_array m c),
      (hr c).2.1.trans (Cert.RmsThreeFwdIdeal.Norm.h0_array m c), (hr c).2.2.1.trans (Cert.RmsThreeFwdIdeal.Norm.h1_array m c), (hr c).2.2.2⟩)
      (Cert.RmsThreeFwdIdeal.Value.run_blocks m g)
  · refine (θ_run Cert.RmsThreeFwdRefIdeal.defs _ _).mono (fun r hr c => ⟨(hr c).1.trans ?_, (hr c).2.1.trans ?_, (hr c).2.2.1.trans ?_, (hr c).2.2.2⟩)
      (Cert.RmsThreeFwdRefIdeal.Value.run m' g')
    · refine funext fun y => (congrArg _ (eq_ix2 y)).trans ((Cert.RmsThreeFwdRefIdeal.Norm.x_at _ _ _ (y 0) (y 1)).trans ?_)
      rw [(hargs c).1, (hargs c).2.1, (hargs c).2.2.1]
      exact congrArg (· + _) (congrArg _ (eq_ix2 y).symm)
    · refine funext fun y => (congrArg _ (eq_ix2 y)).trans ((Cert.RmsThreeFwdRefIdeal.Norm.h_at _ _ (y 0) (y 1)).trans ?_)
      refine congrFun (congrArg₂ _root_.Norm.normed ?_ ?_) _
      · refine funext fun d => (Cert.RmsThreeFwdRefIdeal.Norm.x_at _ _ _ (y 0) d).trans ?_
        rw [(hargs c).1, (hargs c).2.1, (hargs c).2.2.1]
        rfl
      · rw [(hargs c).2.2.2.1]
    · refine funext fun y => (congrArg _ (eq_ix2 y)).trans ((Cert.RmsThreeFwdRefIdeal.Norm.h_at _ _ (y 0) (y 1)).trans ?_)
      refine congrFun (congrArg₂ _root_.Norm.normed ?_ ?_) _
      · refine funext fun d => (Cert.RmsThreeFwdRefIdeal.Norm.x_at _ _ _ (y 0) d).trans ?_
        rw [(hargs c).1, (hargs c).2.1, (hargs c).2.2.1]
        rfl
      · rw [(hargs c).2.2.2.2]

end Cert.Proof

end
-- ==== Proof.Conv.lean ====
/- The gradients of the gated branch's causal convolution, against the reference's. -/
module

public import proofs.«01_k».proof.Defs
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Run
public import Idealize.ShloMosaic.Lib.Pipeline.ValueKit
public import Idealize.ShloMosaic.Lib.Pointwise
public import Idealize.ShloMosaic.Lib.WordCmp
public import Idealize.ShloMosaic.Lib.WholeRead
public import Idealize.ShloMosaic.Lib.ValueLayout

@[expose] public section

set_option maxRecDepth 16384

noncomputable section

namespace Taps

open Idealize.ShloMosaic

/-- A column moved `s` steps later in time, with zeros in front. -/
def later (f : Fin 2048 → EReal) (s : ℕ) (t : Fin 2048) : EReal := if s ≤ t.val then f ⟨t.val - s, by omega⟩ else 0

/-- A column moved `s` steps earlier in time, with zeros behind. -/
def earlier (f : Fin 2048 → EReal) (s : ℕ) (t : Fin 2048) : EReal := if h : t.val + s < 2048 then f ⟨t.val + s, h⟩ else 0

/-- The convolution's backward step in time: four taps, each moving the gradient the other way. -/
def back (f : Fin 2048 → EReal) (w : Fin 4 → EReal) (t : Fin 2048) : EReal :=
  f t * w 3 + earlier f 1 t * w 2 + earlier f 2 t * w 1 + earlier f 3 t * w 0

/-- The gradient of the convolution's input. -/
def convDx (dy : (⟨3, ![2, 2048, 768]⟩ : Shape).Idx → EReal) (w : (⟨2, ![4, 768]⟩ : Shape).Idx → EReal) (b : Fin 2) (t : Fin 2048)
    (d : Fin 768) : EReal :=
  back (fun s => dy (ix3 b s d)) (fun k => w (ix2 k d)) t

/-- The gradient of the convolution's taps: the output's gradient against the input moved in time, over both sequences. -/
def convDw (dy : (⟨3, ![2, 2048, 768]⟩ : Shape).Idx → EReal) (x : (⟨3, ![2, 2048, 1792]⟩ : Shape).Idx → EReal) (k : Fin 4)
    (d : Fin 768) : EReal :=
  ∑ b : Fin 2, ∑ t : Fin 2048, dy (ix3 b t d) * later (fun s => x (ix3 b s ⟨768 + d, by omega⟩)) (3 - k.val) t

/-- One sequence's part of the taps' gradient. -/
def partDw (dy : (⟨3, ![2, 2048, 768]⟩ : Shape).Idx → EReal) (x : (⟨3, ![2, 2048, 1792]⟩ : Shape).Idx → EReal) (k : Fin 4)
    (d : Fin 768) (b : Fin 2) : EReal :=
  ∑ t : Fin 2048, dy (ix3 b t d) * later (fun s => x (ix3 b s ⟨768 + d, by omega⟩)) (3 - k.val) t

/-- One sequence's part of the bias's gradient. -/
def partDb (dy : (⟨3, ![2, 2048, 768]⟩ : Shape).Idx → EReal) (d : Fin 768) (b : Fin 2) : EReal := ∑ t : Fin 2048, dy (ix3 b t d)

/-- The gradient of the convolution's bias. -/
def convDb (dy : (⟨3, ![2, 2048, 768]⟩ : Shape).Idx → EReal) (d : Fin 768) : EReal := ∑ b : Fin 2, ∑ t : Fin 2048, dy (ix3 b t d)

/-- Equal positions on the middle axis. -/
theorem same3 {n0 n1 n2 : ℕ} (x : (⟨3, ![n0, n1, n2]⟩ : Shape).Idx → EReal) (b : Fin n0) (d : Fin n2) {i i' : Fin n1} (h : i.val = i'.val) :
    x (ix3 b i d) = x (ix3 b i' d) := by rw [Fin.ext h]

theorem pick_ge (i s : ℕ) (hi : i < 2048) (hs : s < 2048) (a b : EReal) :
    Scalar.select (IntOp.cmpi .sge (BitVec.ofNat 32 i) (BitVec.ofNat 32 s)) a b = if s ≤ i then a else b := by
  rw [WordCmp.cmpi_sge_ofNat (by omega) (by omega)]
  by_cases h : s ≤ i <;> simp [h, Scalar.select]

theorem pick_lt (i s : ℕ) (hi : i < 2048) (hs : s < 2049) (a b : EReal) :
    Scalar.select (IntOp.cmpi .slt (BitVec.ofNat 32 i) (BitVec.ofNat 32 s)) a b = if i < s then a else b := by
  rw [WordCmp.cmpi_slt_ofNat (by omega) (by omega)]
  by_cases h : i < s <;> simp [h, Scalar.select]

end Taps

namespace Cert.ConvIdeal.Taps

open Cert.ConvIdeal Cert.ConvIdeal.Gen Idealize.ShloMosaic Idealize.ShloMosaic.TcCoe Idealize.SL.Sem
open _root_.Taps (same3 later earlier back convDx convDw convDb partDw partDb pick_ge pick_lt)

theorem idx0 : ∀ t : Fin cfg0.N, win0_0.index t = ![t.val % 2, 0, t.val / 2] := (by decide +kernel : ∀ t : Fin grid0.N, _)
theorem idx1 : ∀ t : Fin cfg0.N, win0_1.index t = ![t.val % 2, 0, t.val / 2 + 6] := (by decide +kernel : ∀ t : Fin grid0.N, _)
theorem idx2 : ∀ t : Fin cfg0.N, win0_2.index t = ![0, t.val / 2] := (by decide +kernel : ∀ t : Fin grid0.N, _)
theorem idx3 : ∀ t : Fin cfg0.N, win0_3.index t = ![t.val % 2, 0, t.val / 2] := (by decide +kernel : ∀ t : Fin grid0.N, _)
theorem idx4 : ∀ t : Fin cfg0.N, win0_4.index t = ![0, t.val / 2] := (by decide +kernel : ∀ t : Fin grid0.N, _)
theorem idx5 : ∀ t : Fin cfg0.N, win0_5.index t = ![0, t.val / 2] := (by decide +kernel : ∀ t : Fin grid0.N, _)

theorem lt12 (t : Fin cfg0.N) : t.val < 12 := t.isLt

/-- Column `j` of a grid point's block, among all columns, and the point's sequence. -/
def col (t : Fin cfg0.N) (j : Fin 128) : Fin 768 := ⟨128 * (t.val / 2) + j, by have := lt12 t; omega⟩
def seq (t : Fin cfg0.N) : Fin 2 := ⟨t.val % 2, by omega⟩

/-- A column of a block. -/
def column (x : Vec Ideal S1x2048x128 .f32) (j : Fin 128) (i : Fin 2048) : EReal := x (ix3 0 i j)

section
variable (h : Vec Ideal S16x128 .f32) (r : Vec Ideal S2032x128 .f32) (x : Vec Ideal S1x2048x128 .f32)
  (hh : ∀ (i : Fin 16) (j : Fin 128), h (ix2 i j) = x (ix3 0 ⟨i, by omega⟩ j))
include hh

theorem tap1_at (hr : ∀ (i : Fin 2032) (j : Fin 128), r (ix2 i j) = x (ix3 0 ⟨15 + i, by omega⟩ j)) (i : Fin 2048) (j : Fin 128) :
    k0_pay8 h r (ix2 i j) = later (column x j) 1 i := by
  pointwise [k0_pay8]
  simp only [hh, hr, pick_ge i.val 1 i.isLt (by decide), later, column]
  split_ifs <;> first
    | rfl
    | omega
    | exact same3 (n0 := 1) (n1 := 2048) (n2 := 128) x _ _ (by first | omega | (dsimp only <;> omega))
    | exact (same3 (n0 := 1) (n1 := 2048) (n2 := 128) x _ _ (by first | omega | (dsimp only <;> omega))).trans (if_pos (by omega)).symm

theorem tap2_at (hr : ∀ (i : Fin 2032) (j : Fin 128), r (ix2 i j) = x (ix3 0 ⟨14 + i, by omega⟩ j)) (i : Fin 2048) (j : Fin 128) :
    k0_pay9 h r (ix2 i j) = later (column x j) 2 i := by
  pointwise [k0_pay9]
  simp only [hh, hr, pick_ge i.val 2 i.isLt (by decide), later, column]
  split_ifs <;> first
    | rfl
    | omega
    | exact same3 (n0 := 1) (n1 := 2048) (n2 := 128) x _ _ (by first | omega | (dsimp only <;> omega))
    | exact (same3 (n0 := 1) (n1 := 2048) (n2 := 128) x _ _ (by first | omega | (dsimp only <;> omega))).trans (if_pos (by omega)).symm

theorem tap3_at (hr : ∀ (i : Fin 2032) (j : Fin 128), r (ix2 i j) = x (ix3 0 ⟨13 + i, by omega⟩ j)) (i : Fin 2048) (j : Fin 128) :
    k0_pay11 h k0_pay10 3#32 r (ix2 i j) = later (column x j) 3 i := by
  pointwise [k0_pay11, k0_pay10]
  simp only [hh, hr, pick_ge i.val 3 i.isLt (by decide), later, column]
  split_ifs <;> first
    | rfl
    | omega
    | exact same3 (n0 := 1) (n1 := 2048) (n2 := 128) x _ _ (by first | omega | (dsimp only <;> omega))
    | exact (same3 (n0 := 1) (n1 := 2048) (n2 := 128) x _ _ (by first | omega | (dsimp only <;> omega))).trans (if_pos (by omega)).symm

end

theorem dx_at (d : Vec Ideal S1x2048x128 .f32) (w0 w1 w2 w3 : Vec Ideal S1x128 .f32) (i : Fin 2048) (j : Fin 128) :
    k0_pay1 (iota .tc S2048x128 32 [0] iota_S2048x128_d0_w32) (k0_pay6 d)
      (k0_pay14 (iota .tc S2048x128 32 [0] iota_S2048x128_d0_w32) (k0_pay6 d) w3 w2 w1) k0_pay16 w0 (ix3 0 i j) =
      back (column d j) (fun k => (![w0, w1, w2, w3] : Fin 4 → Vec Ideal S1x128 .f32) k (ix2 0 j)) i := by
  pointwise [k0_pay1, k0_pay6, k0_pay14, k0_pay16]
  simp only [pick_lt _ _ i.isLt (by decide : 2047 < 2049), pick_lt _ _ i.isLt (by decide : 2046 < 2049), pick_lt _ _ i.isLt (by decide : 2045 < 2049)]
  refine congrArg₂ (· + ·) (congrArg₂ (· + ·) (congrArg₂ (· + ·) rfl ?_) ?_) ?_ <;>
  · simp only [earlier, column]
    split_ifs <;> first
      | omega
      | exact congrArg (· * _) (same3 d _ _ (by first | omega | (dsimp only <;> omega)))
      | exact (zero_mul _).symm

theorem dw_at (d x : Vec Ideal S1x2048x128 .f32) (x1 x2 x3 : FVec Ideal S2048x128 .f32) (o : Vec Ideal S4x128 .f32)
    (h1 : ∀ i j, x1 (ix2 i j) = later (column x j) 1 i) (h2 : ∀ i j, x2 (ix2 i j) = later (column x j) 2 i)
    (h3 : ∀ i j, x3 (ix2 i j) = later (column x j) 3 i) (k : Fin 4) (j : Fin 128) :
    k0_pay4 (k0_pay6 d) x3 (k0_pay12 (k0_pay6 d) (k0_pay7 x)) (k0_pay13 (k0_pay6 d) x1) (k0_pay15 (k0_pay6 d) x2) o (ix2 k j) =
      o (ix2 k j) + ∑ i : Fin 2048, d (ix3 0 i j) * later (column x j) (3 - k.val) i := by
  pointwise [k0_pay4, k0_pay6, k0_pay12, k0_pay7, k0_pay13, k0_pay15]
  simp only [h1, h2, h3]
  refine congrArg (o (ix2 k j) + ·) ?_
  fin_cases k
  · rfl
  · rfl
  · rfl
  · show ∑ i : Fin 2048, d (ix3 0 i j) * x (ix3 0 i j) = ∑ i : Fin 2048, d (ix3 0 i j) * later (column x j) 0 i
    exact Finset.sum_congr rfl fun i _ => congrArg (d (ix3 0 i j) * ·) (if_pos (Nat.zero_le _)).symm

theorem db_at (d : Vec Ideal S1x2048x128 .f32) (o : Vec Ideal S1x128 .f32) (j : Fin 128) :
    k0_pay5 (k0_pay6 d) o (ix2 0 j) = o (ix2 0 j) + ∑ i : Fin 2048, d (ix3 0 i j) := by
  pointwise [k0_pay5, k0_pay6]

theorem zeros4 (k : Fin 4) (j : Fin 128) : (k0_pay2 : FVec Ideal S4x128 .f32) (ix2 k j) = 0 := by
  pointwise [k0_pay2]

theorem zeros1 (j : Fin 128) : (k0_pay3 : FVec Ideal S1x128 .f32) (ix2 0 j) = 0 := by
  pointwise [k0_pay3]

variable (m : (ℓ : Loc nD τ sig) → Buf (Elt Ideal) ℓ) (c : Dev nD) (t : Fin cfg0.N)

/-- A block read as a matrix. -/
theorem squeezed {M : Memref sig .tc .vmem S1x2048x128 .f32} (h : M.IsWhole) (X : Vec Ideal S1x2048x128 .f32)
    (inb : ∀ a, (![0, 0, 0] : Fin 3 → ℕ) a + ![1, 2048, 128] a ≤ S1x2048x128.size a)
    (hn : S2048x128.numel = (Rect.unit (s := S1x2048x128) ![0, 0, 0] ![1, 2048, 128] inb).shape.numel) :
    View.read (Elt Ideal) ((M.view.slice (Rect.unit ![0, 0, 0] ![1, 2048, 128] inb)).reshape S2048x128 hn) (h.unread X) =
      fun y => X (ix3 0 (y 0) (y 1)) := by
  funext y
  refine (congrFun (h.read_unread X) _).trans (congrArg X ?_)
  obtain ⟨a, b, rfl⟩ : ∃ a b, y = ix2 a b := ⟨y 0, y 1, eq_ix2 y⟩
  refine (congrArg (Rect.unit (s := S1x2048x128) ![0, 0, 0] ![1, 2048, 128] inb).emb (ValueIdx.reshapeEquiv_ix2_1ab hn a b)).trans ?_
  funext a
  fin_cases a <;> exact Fin.ext (by simp)

theorem dy_block (i : Fin 2048) (j : Fin 128) : iblk m c 0 t (ix3 0 i j) = m ((c.tc : Thread nD τ).loc main_arg0) (ix3 (seq t) i (col t j)) := by
  blk_ext [iblk, V, idx0 t, col, seq]

theorem x_block (i : Fin 2048) (j : Fin 128) :
    iblk m c 1 t (ix3 0 i j) = m ((c.tc : Thread nD τ).loc main_arg1) (ix3 (seq t) i ⟨768 + col t j, by omega⟩) := by
  blk_ext [iblk, V, idx1 t, col, seq]

theorem w_block (k : Fin 4) (j : Fin 128) : iblk m c 2 t (ix2 k j) = m ((c.tc : Thread nD τ).loc main_arg2) (ix2 k (col t j)) := by
  blk_ext [iblk, V, idx2 t, col]

theorem emb3 (y : S1x2048x128.Idx) : (win0_3.blk t).view.emb y = ix3 (seq t) (y 1) (col t (y 2)) := by
  blk_ext [idx3 t, col, seq]

theorem emb4 (y : S4x128.Idx) : (win0_4.blk t).view.emb y = ix2 (y 0) (col t (y 1)) := by
  blk_ext [idx4 t, col]

theorem emb5 (y : S1x128.Idx) : (win0_5.blk t).view.emb y = ix2 0 (col t (y 1)) := by
  blk_ext [idx5 t, col]

/-- A row of a block of taps. -/
theorem tap_row (k : Fin 4) (inb : ∀ a, (![k.val, 0] : Fin 2 → ℕ) a + ![1, 128] a ≤ S4x128.size a) (j : Fin 128) :
    View.ld (iblk m c 2 t) (Rect.unit (s := S4x128) ![k.val, 0] ![1, 128] inb) (ix2 0 j) = m ((c.tc : Thread nD τ).loc main_arg2) (ix2 k (col t j)) := by
  refine Eq.trans ?_ (w_block m c t k j)
  refine congrArg (iblk m c 2 t) ?_
  funext a
  fin_cases a <;> exact Fin.ext (by simp)

/-- The gradient block's column. -/
theorem dy_column (j : Fin 128) : column (iblk m c 0 t) j = fun i => m ((c.tc : Thread nD τ).loc main_arg0) (ix3 (seq t) i (col t j)) :=
  funext fun i => dy_block m c t i j

/-- Rows of a block from row `o` on. -/
theorem rows_at (X : Vec Ideal S1x2048x128 .f32) (o n : ℕ) (inb : ∀ a, (![o, 0] : Fin 2 → ℕ) a + ![n, 128] a ≤ S2048x128.size a)
    (i : Fin n) (j : Fin 128) (hi : o + i.val < 2048) :
    View.ld (fun y : S2048x128.Idx => X (ix3 0 (y 0) (y 1))) (Rect.unit (s := S2048x128) ![o, 0] ![n, 128] inb) (ix2 i j) = X (ix3 0 ⟨o + i, hi⟩ j) := by
  refine congrArg X ?_
  funext a
  fin_cases a
  · rfl
  · exact Fin.ext (by simp)
  · exact Fin.ext (by simp)

theorem head_at (X : Vec Ideal S1x2048x128 .f32) (inb : ∀ a, (![0, 0] : Fin 2 → ℕ) a + ![16, 128] a ≤ S2048x128.size a)
    (i : Fin 16) (j : Fin 128) :
    View.ld (fun y : S2048x128.Idx => X (ix3 0 (y 0) (y 1))) (Rect.unit (s := S2048x128) ![0, 0] ![16, 128] inb) (ix2 i j) = X (ix3 0 ⟨i, by omega⟩ j) :=
  (rows_at X 0 16 inb i j (by omega)).trans (congrArg X (congrArg (fun i => ix3 0 i j) (Fin.ext (by simp))))

theorem part_eq (D X : Vec Ideal S1x2048x128 .f32) (dy : S2x2048x768.Idx → EReal) (x : S2x2048x1792.Idx → EReal)
    (hD : ∀ i j, D (ix3 0 i j) = dy (ix3 (seq t) i (col t j)))
    (hX : ∀ i j, X (ix3 0 i j) = x (ix3 (seq t) i ⟨768 + col t j, by omega⟩)) (k : Fin 4) (j : Fin 128) :
    ∑ i : Fin 2048, D (ix3 0 i j) * later (column X j) (3 - k.val) i = partDw dy x k (col t j) (seq t) := by
  rw [show column X j = fun i => x (ix3 (seq t) i ⟨768 + col t j, by omega⟩) from funext fun i => hX i j]
  exact Finset.sum_congr rfl fun i _ => congrArg₂ (· * ·) (hD i j) rfl

theorem db_part (D : Vec Ideal S1x2048x128 .f32) (dy : S2x2048x768.Idx → EReal) (hD : ∀ i j, D (ix3 0 i j) = dy (ix3 (seq t) i (col t j)))
    (j : Fin 128) : ∑ i : Fin 2048, D (ix3 0 i j) = partDb dy (col t j) (seq t) :=
  Finset.sum_congr rfl fun i _ => hD i j

/-- The running gradients of the taps and of the bias. -/
def taps (t : Fin cfg0.N) : S4x128.Idx → EReal := (dats m 0 c).after 4 t
def bias (t : Fin cfg0.N) : S1x128.Idx → EReal := (dats m 0 c).after 5 t

theorem after3_eq (i : Fin 2048) (j : Fin 128) :
    (dats m 0 c).after 3 t (ix3 0 i j) =
      convDx (m ((c.tc : Thread nD τ).loc main_arg0)) (m ((c.tc : Thread nD τ).loc main_arg2)) (seq t) i (col t j) := by
  have e : ∀ k : Fin 4, (![View.ld (iblk m c 2 t) (Rect.unit (s := S4x128) ![0, 0] ![1, 128] inb_S4x128_S1x128_0_0),
      View.ld (iblk m c 2 t) (Rect.unit (s := S4x128) ![1, 0] ![1, 128] inb_S4x128_S1x128_1_0),
      View.ld (iblk m c 2 t) (Rect.unit (s := S4x128) ![2, 0] ![1, 128] inb_S4x128_S1x128_2_0),
      View.ld (iblk m c 2 t) (Rect.unit (s := S4x128) ![3, 0] ![1, 128] inb_S4x128_S1x128_3_0)] : Fin 4 → Vec Ideal S1x128 .f32) k (ix2 0 j) =
      m ((c.tc : Thread nD τ).loc main_arg2) (ix2 k (col t j)) := by
    intro k
    fin_cases k
    · exact tap_row m c t 0 _ j
    · exact tap_row m c t 1 _ j
    · exact tap_row m c t 2 _ j
    · exact tap_row m c t 3 _ j
  rw [after0_3]
  by_cases h0 : t.val % 2 = 0
  · rw [outsAt0_A m c t h0]
    frame_out
    refine (dx_at _ _ _ _ _ i j).trans ?_
    exact congrArg₂ (fun f w => back f w i) (dy_column m c t j) (funext e)
  · rw [outsAt0_B m c t h0]
    frame_out
    refine (dx_at _ _ _ _ _ i j).trans ?_
    exact congrArg₂ (fun f w => back f w i) (dy_column m c t j) (funext e)

theorem after4_first (h0 : t.val % 2 = 0) (k : Fin 4) (j : Fin 128) :
    taps m c t (ix2 k j) = 0 + partDw (m ((c.tc : Thread nD τ).loc main_arg0)) (m ((c.tc : Thread nD τ).loc main_arg1)) k (col t j) (seq t) := by
  unfold taps
  rw [after0_4, outsAt0_A m c t h0]
  frame_out
  simp only [squeezed (hs0_1 t)]
  refine (dw_at _ _ _ _ _ _ (tap1_at _ _ _ ?_ ?_) (tap2_at _ _ _ ?_ ?_) (tap3_at _ _ _ ?_ ?_) k j).trans ?_
  rotate_left 6
  · exact congrArg₂ (· + ·) (zeros4 k j) (part_eq t _ _ _ _ (dy_block m c t) (x_block m c t) k j)
  all_goals first
    | exact head_at _ _
    | exact fun i j => rows_at _ _ _ _ i j (by omega)

theorem after4_next (h0 : ¬t.val % 2 = 0) (k : Fin 4) (j : Fin 128) :
    taps m c t (ix2 k j) = taps m c ⟨t.val - 1, by omega⟩ (ix2 k j) + partDw (m ((c.tc : Thread nD τ).loc main_arg0)) (m ((c.tc : Thread nD τ).loc main_arg1)) k (col t j) (seq t) := by
  unfold taps
  rw [after0_4, after0_4, outsAt0_B m c t h0]
  frame_out
  simp only [squeezed (hs0_1 t)]
  refine (dw_at _ _ _ _ _ _ (tap1_at _ _ _ ?_ ?_) (tap2_at _ _ _ ?_ ?_) (tap3_at _ _ _ ?_ ?_) k j).trans ?_
  rotate_left 6
  · exact congrArg₂ (· + ·) rfl (part_eq t _ _ _ _ (dy_block m c t) (x_block m c t) k j)
  all_goals first
    | exact head_at _ _
    | exact fun i j => rows_at _ _ _ _ i j (by omega)

theorem after5_first (h0 : t.val % 2 = 0) (j : Fin 128) :
    bias m c t (ix2 0 j) = 0 + partDb (m ((c.tc : Thread nD τ).loc main_arg0)) (col t j) (seq t) := by
  unfold bias
  rw [after0_5, outsAt0_A m c t h0]
  frame_out
  refine (db_at _ _ j).trans ?_
  exact congrArg₂ (· + ·) (zeros1 j) (db_part t _ _ (dy_block m c t) j)

theorem after5_next (h0 : ¬t.val % 2 = 0) (j : Fin 128) :
    bias m c t (ix2 0 j) = bias m c ⟨t.val - 1, by omega⟩ (ix2 0 j) +
      partDb (m ((c.tc : Thread nD τ).loc main_arg0)) (col t j) (seq t) := by
  unfold bias
  rw [after0_5, after0_5, outsAt0_B m c t h0]
  frame_out
  refine (db_at _ _ j).trans ?_
  exact congrArg₂ (· + ·) rfl (db_part t _ _ (dy_block m c t) j)

theorem row_eq (y : S1x2048x128.Idx) : y = ix3 0 (y 1) (y 2) := by
  funext a
  fin_cases a
  · exact Subsingleton.elim (α := Fin 1) _ _
  · rfl
  · rfl

theorem row1_eq (y : S1x128.Idx) : y = ix2 0 (y 1) := by
  funext a
  fin_cases a
  · exact Subsingleton.elim (α := Fin 1) _ _
  · rfl

theorem dx_array : (dats m 0 c).arrAt 3 cfg0.N =
    fun y : S2x2048x768.Idx => convDx (m ((c.tc : Thread nD τ).loc main_arg0)) (m ((c.tc : Thread nD τ).loc main_arg2)) (y 0) (y 1) (y 2) := by
  refine (dats m 0 c).arrAt_eq_of_covers 3 _ (by decide +kernel) fun t hf y => ?_
  blk_simp
  rw [emb3]
  exact (congrArg _ (row_eq y)).trans (after3_eq m c t _ _)

/-- The second sequence's grid point follows the first's. -/
theorem before (h1 : t.val % 2 = 1) (j : Fin 128) :
    seq t = 1 ∧ seq ⟨t.val - 1, by omega⟩ = 0 ∧ col ⟨t.val - 1, by omega⟩ j = col t j :=
  ⟨Fin.ext h1, Fin.ext (by show (t.val - 1) % 2 = 0; omega), Fin.ext (by simp only [col]; omega)⟩

theorem taps_both (h1 : t.val % 2 = 1) (k : Fin 4) (j : Fin 128) : taps m c t (ix2 k j) = convDw (m ((c.tc : Thread nD τ).loc main_arg0)) (m ((c.tc : Thread nD τ).loc main_arg1)) k (col t j) := by
  rw [after4_next m c t (by omega), after4_first m c _ (by show (t.val - 1) % 2 = 0; omega), (before t h1 j).1, (before t h1 j).2.1,
    (before t h1 j).2.2, zero_add]
  exact (Fin.sum_univ_two (partDw (m ((c.tc : Thread nD τ).loc main_arg0)) (m ((c.tc : Thread nD τ).loc main_arg1)) k (col t j))).symm

theorem bias_both (h1 : t.val % 2 = 1) (j : Fin 128) : bias m c t (ix2 0 j) = convDb (m ((c.tc : Thread nD τ).loc main_arg0)) (col t j) := by
  rw [after5_next m c t (by omega), after5_first m c _ (by show (t.val - 1) % 2 = 0; omega), (before t h1 j).1, (before t h1 j).2.1,
    (before t h1 j).2.2, zero_add]
  exact (Fin.sum_univ_two (partDb (m ((c.tc : Thread nD τ).loc main_arg0)) (col t j))).symm

theorem dw_array : (dats m 0 c).arrAt 4 cfg0.N = fun y : S4x768.Idx => convDw (m ((c.tc : Thread nD τ).loc main_arg0)) (m ((c.tc : Thread nD τ).loc main_arg1)) (y 0) (y 1) := by
  refine (dats m 0 c).arrAt_eq_of_covers 4 _ (by decide +kernel) fun t hf y => ?_
  have h1 := (flush0_4 t).mp hf
  blk_simp
  rw [emb4]
  exact (congrArg _ (eq_ix2 y)).trans (taps_both m c t h1 _ _)

theorem db_array : (dats m 0 c).arrAt 5 cfg0.N = fun y : S1x768.Idx => convDb (m ((c.tc : Thread nD τ).loc main_arg0)) (y 1) := by
  refine (dats m 0 c).arrAt_eq_of_covers 5 _ (by decide +kernel) fun t hf y => ?_
  have h1 := (flush0_5 t).mp hf
  blk_simp
  rw [emb5]
  exact (congrArg _ (row1_eq y)).trans (bias_both m c t h1 _)

end Cert.ConvIdeal.Taps

namespace Cert.ConvRefIdeal.Taps

open Cert.ConvRefIdeal Cert.ConvRefIdeal.Gen Idealize.ShloMosaic Idealize.ShloMosaic.TcCoe Idealize.SL.Sem
open _root_.Taps (same3 later earlier back convDx convDw convDb)

/-- A sum over the first two axes of three. -/
theorem sum_outer {n0 n1 n2 : ℕ} (h : (⟨3, ![n0, n1, n2]⟩ : Shape).ReducesTo [0, 1] ⟨1, ![n2]⟩) (v : (⟨3, ![n0, n1, n2]⟩ : Shape).Idx → EReal)
    (z : EReal) (d : Fin n2) : Ideal.hostReduceAdd h v z (ix1 d) = z + ∑ a : Fin n0, ∑ b : Fin n1, v (ix3 a b d) := by
  refine congrArg (z + ·) ?_
  refine (Finset.sum_filter_eq_sum_of_fiber _ (fun k : Fin n0 × Fin n1 => ix3 k.1 k.2 d) (fun _ _ e => Prod.ext (congrFun e 0) (congrFun e 1))
    (fun i => ⟨fun e => ⟨(i 0, i 1), ?_⟩, ?_⟩) v).trans (Fintype.sum_prod_type _)
  · have e2 : (i 2).val = d.val := congrArg Fin.val (congrFun e 0)
    funext a
    fin_cases a
    · rfl
    · rfl
    · exact Fin.ext e2.symm
  · rintro ⟨k, rfl⟩
    funext a
    fin_cases a
    rfl

theorem dx_at (dy : FVec Ideal S2x2048x768 .f32) (w : FVec Ideal S4x768 .f32) (b : Fin 2) (t : Fin 2048) (d : Fin 768) :
    (truncf .bf16 (extractStridedSlice S2x2048x768 ![0, 3, 0] (addf (addf (addf (pad S2x2051x768 ![0, 3, 0] ![0, 0, 0] ![0, 0, 0] (mulf (broadcastInDim S2x2048x768 ![0, 1, 2] bcast_S1x1x768_S2x2048x768_0_1_2 (broadcastInDim S1x1x768 ![1, 2] bcast_S1x768_S1x1x768_1_2 (extractStridedSlice S1x768 ![3, 0] w slices_S4x768_S1x768_3_0))) (shapeCast _ dy shapeCasts_S2x2048x768_S2x2048x768)) (constant S_ .f32 0x00000000#32) pads_S2x2048x768_S2x2051x768_000_300_000 h_S_) (pad S2x2051x768 ![0, 2, 0] ![0, 1, 0] ![0, 0, 0] (mulf (broadcastInDim S2x2048x768 ![0, 1, 2] bcast_S1x1x768_S2x2048x768_0_1_2 (broadcastInDim S1x1x768 ![1, 2] bcast_S1x768_S1x1x768_1_2 (extractStridedSlice S1x768 ![2, 0] w slices_S4x768_S1x768_2_0))) (shapeCast _ dy shapeCasts_S2x2048x768_S2x2048x768)) (constant S_ .f32 0x00000000#32) pads_S2x2048x768_S2x2051x768_000_210_000 h_S_)) (pad S2x2051x768 ![0, 1, 0] ![0, 2, 0] ![0, 0, 0] (mulf (broadcastInDim S2x2048x768 ![0, 1, 2] bcast_S1x1x768_S2x2048x768_0_1_2 (broadcastInDim S1x1x768 ![1, 2] bcast_S1x768_S1x1x768_1_2 (extractStridedSlice S1x768 ![1, 0] w slices_S4x768_S1x768_1_0))) (shapeCast _ dy shapeCasts_S2x2048x768_S2x2048x768)) (constant S_ .f32 0x00000000#32) pads_S2x2048x768_S2x2051x768_000_120_000 h_S_)) (pad S2x2051x768 ![0, 0, 0] ![0, 3, 0] ![0, 0, 0] (mulf (broadcastInDim S2x2048x768 ![0, 1, 2] bcast_S1x1x768_S2x2048x768_0_1_2 (broadcastInDim S1x1x768 ![1, 2] bcast_S1x768_S1x1x768_1_2 (extractStridedSlice S1x768 ![0, 0] w slices_S4x768_S1x768_0_0))) (shapeCast _ dy shapeCasts_S2x2048x768_S2x2048x768)) (constant S_ .f32 0x00000000#32) pads_S2x2048x768_S2x2051x768_000_030_000 h_S_)) slices_S2x2051x768_S2x2048x768_0_3_0) bitsLt_bf16_f32 : FVec Ideal S2x2048x768 .bf16) (ix3 b t d) = convDx dy w b t d := by
  pointwise []
  refine congrArg₂ (· + ·) (congrArg₂ (· + ·) (congrArg₂ (· + ·) (mul_comm _ _) ?_) ?_) ?_ <;>
  · simp only [earlier]
    split_ifs <;> first
      | omega
      | exact (mul_comm _ _).trans (congrArg (· * _) (same3 dy _ _ (by first | omega | (dsimp only <;> omega))))
      | exact (zero_mul _).symm

theorem db_at (dy : FVec Ideal S2x2048x768 .f32) (o : Fin 1) (d : Fin 768) :
    (broadcastInDim S1x768 ![1] bcast_S768_S1x768_1 (Host.reduceAdd (shapeCast _ (Host.reduceAdd dy (constant S_ .f32 0x00000000#32) reducesTo_S2x2048x768_S768_d0_1 h_S_) shapeCasts_S768_S1x1x768) (constant S_ .f32 0x00000000#32) reducesTo_S1x1x768_S768_d0_1 h_S_) : FVec Ideal S1x768 .f32) (ix2 o d) = convDb dy d := by
  pointwise []
  rw [sum_outer]
  simp only [Fin.sum_univ_one]
  pointwise []
  rw [sum_outer]
  simp only [zero_add]
  rfl

theorem tap_at (dy x : FVec Ideal S2x2048x768 .f32) (d : Fin 768) :
   (broadcastInDim S1x768 ![1] bcast_S768_S1x768_1 (Host.reduceAdd (shapeCast _ (Host.reduceAdd (mulf (shapeCast _ dy shapeCasts_S2x2048x768_S2x2048x768) x) (constant S_ .f32 0x00000000#32) reducesTo_S2x2048x768_S768_d0_1 h_S_) shapeCasts_S768_S1x1x768) (constant S_ .f32 0x00000000#32) reducesTo_S1x1x768_S768_d0_1 h_S_) : FVec Ideal S1x768 .f32) (ix2 0 d) = ∑ b : Fin 2, ∑ t : Fin 2048, dy (ix3 b t d) * x (ix3 b t d) := by
  pointwise []
  rw [sum_outer]
  simp only [Fin.sum_univ_one]
  pointwise []
  rw [sum_outer]
  simp only [zero_add]
  exact Finset.sum_congr rfl fun b _ => Finset.sum_congr rfl fun t _ => by pointwise []

theorem stack_at (r3 r2 r1 r0 : FVec Ideal S1x768 .f32) (k : Fin 4) (d : Fin 768) :
    (addf (addf (addf (pad S4x768 ![3, 0] ![0, 0] ![0, 0] r3 (constant S_ .f32 0x00000000#32) pads_S1x768_S4x768_300_000 h_S_) (pad S4x768 ![2, 0] ![1, 0] ![0, 0] r2 (constant S_ .f32 0x00000000#32) pads_S1x768_S4x768_210_000 h_S_)) (pad S4x768 ![1, 0] ![2, 0] ![0, 0] r1 (constant S_ .f32 0x00000000#32) pads_S1x768_S4x768_120_000 h_S_)) (pad S4x768 ![0, 0] ![3, 0] ![0, 0] r0 (constant S_ .f32 0x00000000#32) pads_S1x768_S4x768_030_000 h_S_) : FVec Ideal S4x768 .f32) (ix2 k d) = (![r0, r1, r2, r3] : Fin 4 → FVec Ideal S1x768 .f32) k (ix2 0 d) := by
  pointwise []
  fin_cases k <;> simp

theorem moved1_at (x : FVec Ideal S2x2048x1792 .f32) (b : Fin 2) (t : Fin 2048) (d : Fin 768) :
    (extractStridedSlice S2x2048x768 ![0, 2, 0] (concatenate S2x2051x768 1 [⟨S2x3x768, (broadcastInDim S2x3x768 ![] bcast_S_S2x3x768 (constant S_ .f32 0x00000000#32))⟩, ⟨S2x2048x768, (extractStridedSlice S2x2048x768 ![0, 0, 768] x slices_S2x2048x1792_S2x2048x768_0_0_768)⟩] concatenates_S2x3x768_S2x2048x768_S2x2051x768_d1) slices_S2x2051x768_S2x2048x768_0_2_0 : FVec Ideal S2x2048x768 .f32) (ix3 b t d) =
      later (fun s => x (ix3 b s ⟨768 + d, by omega⟩)) 1 t := by
  pointwise []
  simp only [later]
  split_ifs <;> first
    | rfl
    | omega
    | exact same3 (n0 := 2) (n1 := 2048) (n2 := 1792) x _ _ (by first | omega | (dsimp only <;> omega))
    | exact (same3 (n0 := 2) (n1 := 2048) (n2 := 1792) x _ _ (by first | omega | (dsimp only <;> omega))).trans (if_pos (by omega)).symm

theorem moved2_at (x : FVec Ideal S2x2048x1792 .f32) (b : Fin 2) (t : Fin 2048) (d : Fin 768) :
    (extractStridedSlice S2x2048x768 ![0, 1, 0] (concatenate S2x2051x768 1 [⟨S2x3x768, (broadcastInDim S2x3x768 ![] bcast_S_S2x3x768 (constant S_ .f32 0x00000000#32))⟩, ⟨S2x2048x768, (extractStridedSlice S2x2048x768 ![0, 0, 768] x slices_S2x2048x1792_S2x2048x768_0_0_768)⟩] concatenates_S2x3x768_S2x2048x768_S2x2051x768_d1) slices_S2x2051x768_S2x2048x768_0_1_0 : FVec Ideal S2x2048x768 .f32) (ix3 b t d) =
      later (fun s => x (ix3 b s ⟨768 + d, by omega⟩)) 2 t := by
  pointwise []
  simp only [later]
  split_ifs <;> first
    | rfl
    | omega
    | exact same3 (n0 := 2) (n1 := 2048) (n2 := 1792) x _ _ (by first | omega | (dsimp only <;> omega))
    | exact (same3 (n0 := 2) (n1 := 2048) (n2 := 1792) x _ _ (by first | omega | (dsimp only <;> omega))).trans (if_pos (by omega)).symm

theorem moved3_at (x : FVec Ideal S2x2048x1792 .f32) (b : Fin 2) (t : Fin 2048) (d : Fin 768) :
    (extractStridedSlice S2x2048x768 ![0, 0, 0] (concatenate S2x2051x768 1 [⟨S2x3x768, (broadcastInDim S2x3x768 ![] bcast_S_S2x3x768 (constant S_ .f32 0x00000000#32))⟩, ⟨S2x2048x768, (extractStridedSlice S2x2048x768 ![0, 0, 768] x slices_S2x2048x1792_S2x2048x768_0_0_768)⟩] concatenates_S2x3x768_S2x2048x768_S2x2051x768_d1) slices_S2x2051x768_S2x2048x768_0_0_0 : FVec Ideal S2x2048x768 .f32) (ix3 b t d) =
      later (fun s => x (ix3 b s ⟨768 + d, by omega⟩)) 3 t := by
  pointwise []
  simp only [later]
  split_ifs <;> first
    | rfl
    | omega
    | exact same3 (n0 := 2) (n1 := 2048) (n2 := 1792) x _ _ (by first | omega | (dsimp only <;> omega))
    | exact (same3 (n0 := 2) (n1 := 2048) (n2 := 1792) x _ _ (by first | omega | (dsimp only <;> omega))).trans (if_pos (by omega)).symm

theorem moved0_at (x : FVec Ideal S2x2048x1792 .f32) (b : Fin 2) (t : Fin 2048) (d : Fin 768) :
    (extractStridedSlice S2x2048x768 ![0, 3, 0] (concatenate S2x2051x768 1 [⟨S2x3x768, (broadcastInDim S2x3x768 ![] bcast_S_S2x3x768 (constant S_ .f32 0x00000000#32))⟩, ⟨S2x2048x768, (extractStridedSlice S2x2048x768 ![0, 0, 768] x slices_S2x2048x1792_S2x2048x768_0_0_768)⟩] concatenates_S2x3x768_S2x2048x768_S2x2051x768_d1) slices_S2x2051x768_S2x2048x768_0_3_0 : FVec Ideal S2x2048x768 .f32) (ix3 b t d) =
      later (fun s => x (ix3 b s ⟨768 + d, by omega⟩)) 0 t := by
  pointwise []
  exact (if_pos (Nat.zero_le _)).symm

/-- A row of the taps' gradient. -/
theorem dw_row (dy : FVec Ideal S2x2048x768 .f32) (x : FVec Ideal S2x2048x1792 .f32) (k : Fin 4) (d : Fin 768) :
    (![broadcastInDim S1x768 ![1] bcast_S768_S1x768_1 (Host.reduceAdd (shapeCast _ (Host.reduceAdd (mulf (shapeCast _ dy shapeCasts_S2x2048x768_S2x2048x768) (extractStridedSlice S2x2048x768 ![0, 0, 0] (concatenate S2x2051x768 1 [⟨S2x3x768, (broadcastInDim S2x3x768 ![] bcast_S_S2x3x768 (constant S_ .f32 0x00000000#32))⟩, ⟨S2x2048x768, (extractStridedSlice S2x2048x768 ![0, 0, 768] x slices_S2x2048x1792_S2x2048x768_0_0_768)⟩] concatenates_S2x3x768_S2x2048x768_S2x2051x768_d1) slices_S2x2051x768_S2x2048x768_0_0_0)) (constant S_ .f32 0x00000000#32) reducesTo_S2x2048x768_S768_d0_1 h_S_) shapeCasts_S768_S1x1x768) (constant S_ .f32 0x00000000#32) reducesTo_S1x1x768_S768_d0_1 h_S_),
      broadcastInDim S1x768 ![1] bcast_S768_S1x768_1 (Host.reduceAdd (shapeCast _ (Host.reduceAdd (mulf (shapeCast _ dy shapeCasts_S2x2048x768_S2x2048x768) (extractStridedSlice S2x2048x768 ![0, 1, 0] (concatenate S2x2051x768 1 [⟨S2x3x768, (broadcastInDim S2x3x768 ![] bcast_S_S2x3x768 (constant S_ .f32 0x00000000#32))⟩, ⟨S2x2048x768, (extractStridedSlice S2x2048x768 ![0, 0, 768] x slices_S2x2048x1792_S2x2048x768_0_0_768)⟩] concatenates_S2x3x768_S2x2048x768_S2x2051x768_d1) slices_S2x2051x768_S2x2048x768_0_1_0)) (constant S_ .f32 0x00000000#32) reducesTo_S2x2048x768_S768_d0_1 h_S_) shapeCasts_S768_S1x1x768) (constant S_ .f32 0x00000000#32) reducesTo_S1x1x768_S768_d0_1 h_S_),
      broadcastInDim S1x768 ![1] bcast_S768_S1x768_1 (Host.reduceAdd (shapeCast _ (Host.reduceAdd (mulf (shapeCast _ dy shapeCasts_S2x2048x768_S2x2048x768) (extractStridedSlice S2x2048x768 ![0, 2, 0] (concatenate S2x2051x768 1 [⟨S2x3x768, (broadcastInDim S2x3x768 ![] bcast_S_S2x3x768 (constant S_ .f32 0x00000000#32))⟩, ⟨S2x2048x768, (extractStridedSlice S2x2048x768 ![0, 0, 768] x slices_S2x2048x1792_S2x2048x768_0_0_768)⟩] concatenates_S2x3x768_S2x2048x768_S2x2051x768_d1) slices_S2x2051x768_S2x2048x768_0_2_0)) (constant S_ .f32 0x00000000#32) reducesTo_S2x2048x768_S768_d0_1 h_S_) shapeCasts_S768_S1x1x768) (constant S_ .f32 0x00000000#32) reducesTo_S1x1x768_S768_d0_1 h_S_),
      broadcastInDim S1x768 ![1] bcast_S768_S1x768_1 (Host.reduceAdd (shapeCast _ (Host.reduceAdd (mulf (shapeCast _ dy shapeCasts_S2x2048x768_S2x2048x768) (extractStridedSlice S2x2048x768 ![0, 3, 0] (concatenate S2x2051x768 1 [⟨S2x3x768, (broadcastInDim S2x3x768 ![] bcast_S_S2x3x768 (constant S_ .f32 0x00000000#32))⟩, ⟨S2x2048x768, (extractStridedSlice S2x2048x768 ![0, 0, 768] x slices_S2x2048x1792_S2x2048x768_0_0_768)⟩] concatenates_S2x3x768_S2x2048x768_S2x2051x768_d1) slices_S2x2051x768_S2x2048x768_0_3_0)) (constant S_ .f32 0x00000000#32) reducesTo_S2x2048x768_S768_d0_1 h_S_) shapeCasts_S768_S1x1x768) (constant S_ .f32 0x00000000#32) reducesTo_S1x1x768_S768_d0_1 h_S_)] : Fin 4 → FVec Ideal S1x768 .f32) k (ix2 0 d) = convDw dy x k d := by
  fin_cases k
  · refine (tap_at dy _ d).trans ?_
    exact Finset.sum_congr rfl fun b _ => Finset.sum_congr rfl fun t _ => congrArg (dy (ix3 b t d) * ·) (moved3_at x b t d)
  · refine (tap_at dy _ d).trans ?_
    exact Finset.sum_congr rfl fun b _ => Finset.sum_congr rfl fun t _ => congrArg (dy (ix3 b t d) * ·) (moved2_at x b t d)
  · refine (tap_at dy _ d).trans ?_
    exact Finset.sum_congr rfl fun b _ => Finset.sum_congr rfl fun t _ => congrArg (dy (ix3 b t d) * ·) (moved1_at x b t d)
  · refine (tap_at dy _ d).trans ?_
    exact Finset.sum_congr rfl fun b _ => Finset.sum_congr rfl fun t _ => congrArg (dy (ix3 b t d) * ·) (moved0_at x b t d)

end Cert.ConvRefIdeal.Taps

namespace Cert.Proof

open Idealize.ShloMosaic Idealize.SL.Sem

attribute [local instance] Cert.Conv.Gen.facts Cert.ConvIdeal.Gen.facts Cert.ConvRefIdeal.Gen.facts

theorem frame_conv : Cert.quiescent_Conv := fun m ρ _ => Cert.Conv.Gen.frame m ρ
theorem frame_convIdeal : Cert.quiescent_ConvIdeal := fun m ρ _ => Cert.ConvIdeal.Gen.frame m ρ

theorem frame_convRefIdeal : Cert.quiescent_ConvRefIdeal := fun m ρ _ =>
  (θ_run Cert.ConvRefIdeal.defs _ _).mono
    (fun r hr => ⟨fun c => (hr c).2.2.2, sem_eq_zero_of_no_sems (by decide) r.2⟩) (Cert.ConvRefIdeal.Value.run m ρ)

theorem preserves_conv : Cert.preserves_Conv_ConvIdeal := trivial

/-- Kernel and reference end with the same gradients of the convolution's input, taps and bias. -/
theorem algebraic_conv : Cert.algebraic_ConvIdeal_ConvRefIdeal := by
  intro m g m' g' _ hargs
  refine ⟨fun c y => _root_.Taps.convDx (m ((c.tc : Thread Cert.ConvIdeal.nD Cert.ConvIdeal.τ).loc Cert.ConvIdeal.main_arg0)) (m ((c.tc : Thread Cert.ConvIdeal.nD Cert.ConvIdeal.τ).loc Cert.ConvIdeal.main_arg2)) (y 0) (y 1) (y 2),
    fun c y => _root_.Taps.convDw (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (y 0) (y 1),
    fun c y => _root_.Taps.convDb (m ((c.tc : Thread Cert.ConvIdeal.nD Cert.ConvIdeal.τ).loc Cert.ConvIdeal.main_arg0)) (y 1), ?_, ?_⟩
  · exact (θ_run Cert.ConvIdeal.defs _ _).mono (fun r hr c => ⟨(hr c).1.trans (Cert.ConvIdeal.Taps.dx_array m c),
      (hr c).2.1.trans (Cert.ConvIdeal.Taps.dw_array m c), (hr c).2.2.1.trans (Cert.ConvIdeal.Taps.db_array m c), (hr c).2.2.2⟩)
      (Cert.ConvIdeal.Value.run_blocks m g)
  · refine (θ_run Cert.ConvRefIdeal.defs _ _).mono (fun r hr c => ⟨(hr c).1.trans ?_, (hr c).2.1.trans ?_, (hr c).2.2.1.trans ?_, (hr c).2.2.2⟩)
      (Cert.ConvRefIdeal.Value.run m' g')
    · refine funext fun y => (congrArg _ (eq_ix3 y)).trans ((Cert.ConvRefIdeal.Taps.dx_at _ _ (y 0) (y 1) (y 2)).trans ?_)
      rw [(hargs c).1, (hargs c).2.2]
    · refine funext fun y => (congrArg _ (eq_ix2 y)).trans ((Cert.ConvRefIdeal.Taps.stack_at _ _ _ _ (y 0) (y 1)).trans ?_)
      refine (Cert.ConvRefIdeal.Taps.dw_row _ _ (y 0) (y 1)).trans ?_
      rw [(hargs c).1, (hargs c).2.1]
    · refine funext fun y => (congrArg _ (eq_ix2 y)).trans ((Cert.ConvRefIdeal.Taps.db_at _ (y 0) (y 1)).trans ?_)
      rw [(hargs c).1]

end Cert.Proof

end
-- ==== Proof.ConvFwd.lean ====
/- The gated branch's causal convolution, against the reference's. -/
module

public import proofs.«01_k».proof.Defs
public import proofs.«01_k».proof.Proof.Conv
public import proofs.«01_k».proof.Proof.Gen.ConvFwd.Frame
public import proofs.«01_k».proof.Proof.Gen.ConvFwdIdeal.Frame
public import proofs.«01_k».proof.Proof.Gen.ConvFwdIdeal.Value
public import proofs.«01_k».proof.Proof.Gen.ConvFwdRefIdeal.Run
public import Idealize.ShloMosaic.Lib.Pipeline.ValueKit
public import Idealize.ShloMosaic.Lib.Pointwise
public import Idealize.ShloMosaic.Lib.WholeRead
public import Idealize.ShloMosaic.Lib.ValueLayout

@[expose] public section

set_option maxRecDepth 16384

noncomputable section

namespace Taps

open Idealize.ShloMosaic

/-- The convolution at one time: four taps over a column and its past, and the bias. -/
def forth (f : Fin 2048 → EReal) (w : Fin 4 → EReal) (b : EReal) (t : Fin 2048) : EReal :=
  f t * w 3 + b + later f 1 t * w 2 + later f 2 t * w 1 + later f 3 t * w 0

end Taps

namespace Cert.ConvFwdIdeal.Taps

open Cert.ConvFwdIdeal Cert.ConvFwdIdeal.Gen Idealize.ShloMosaic Idealize.ShloMosaic.TcCoe Idealize.SL.Sem
open _root_.Taps (same3 later forth pick_ge)

/-- The convolution of the columns from 768 on. -/
def conv (x : S2x2048x1792.Idx → EReal) (w : S4x768.Idx → EReal) (b : S1x768.Idx → EReal) (y : S2x2048x768.Idx) : EReal :=
  forth (fun s => x (ix3 (y 0) s ⟨768 + (y 2).val, by have : (y 2).val < 768 := (y 2).isLt; omega⟩)) (fun k => w (ix2 k (y 2))) (b (ix2 0 (y 2))) (y 1)

theorem idx0 : ∀ t : Fin cfg0.N, win0_0.index t = ![t.val % 2, 0, t.val / 2 + 6] := (by decide +kernel : ∀ t : Fin grid0.N, _)
theorem idx1 : ∀ t : Fin cfg0.N, win0_1.index t = ![0, t.val / 2] := (by decide +kernel : ∀ t : Fin grid0.N, _)
theorem idx2 : ∀ t : Fin cfg0.N, win0_2.index t = ![0, t.val / 2] := (by decide +kernel : ∀ t : Fin grid0.N, _)
theorem idx3 : ∀ t : Fin cfg0.N, win0_3.index t = ![t.val % 2, 0, t.val / 2] := (by decide +kernel : ∀ t : Fin grid0.N, _)

theorem lt12 (t : Fin cfg0.N) : t.val < 12 := t.isLt

/-- Column `j` of a grid point's block, among all columns, and the point's sequence. -/
def col (t : Fin cfg0.N) (j : Fin 128) : Fin 768 := ⟨128 * (t.val / 2) + j, by have := lt12 t; omega⟩
def seq (t : Fin cfg0.N) : Fin 2 := ⟨t.val % 2, by omega⟩

/-- The convolution of a block's column. -/
def blockConv (x : Vec Ideal S1x2048x128 .f32) (w0 w1 w2 w3 b : Vec Ideal S1x128 .f32) (i : Fin 2048) (j : Fin 128) : EReal :=
  forth (fun s => x (ix3 0 s j)) (fun k => (![w0, w1, w2, w3] : Fin 4 → Vec Ideal S1x128 .f32) k (ix2 0 j)) (b (ix2 0 j)) i

/-- The first sixteen times, where the past may run out. -/
theorem first_at (x : Vec Ideal S1x2048x128 .f32) (w0 w1 w2 w3 b : Vec Ideal S1x128 .f32) (h : Vec Ideal S1x16x128 .f32)
    (hh : ∀ (i : Fin 16) (j : Fin 128), h (ix3 0 i j) = x (ix3 0 ⟨i, by omega⟩ j)) (i : Fin 16) (j : Fin 128) :
    k0_pay1 (k0_pay6 h) (k0_pay7 h w3 b w2) (k0_pay8 h w1) w0 (ix3 0 i j) = blockConv x w0 w1 w2 w3 b ⟨i, by omega⟩ j := by
  pointwise [k0_pay1, k0_pay6, k0_pay7, k0_pay8, k0_pay5]
  simp only [hh, pick_ge i.val 1 (by omega) (by decide), pick_ge i.val 2 (by omega) (by decide), pick_ge i.val 3 (by omega) (by decide)]
  refine congrArg₂ (· + ·) (congrArg₂ (· + ·) (congrArg₂ (· + ·) rfl ?_) ?_) ?_ <;>
  · simp only [later]
    split_ifs <;> first
      | omega
      | exact (zero_mul _).symm
      | exact congrArg₂ (fun u v : EReal => u * v) (same3 (n0 := 1) (n1 := 2048) (n2 := 128) x _ _ (by first | omega | (dsimp only <;> omega))) rfl

/-- The times from sixteen on. -/
theorem rest_at (x : Vec Ideal S1x2048x128 .f32) (w0 w1 w2 w3 b : Vec Ideal S1x128 .f32) (r0 r1 r2 r3 : Vec Ideal S2032x128 .f32)
    (h0 : ∀ (i : Fin 2032) (j : Fin 128), r0 (ix2 i j) = x (ix3 0 ⟨16 + i, by omega⟩ j))
    (h1 : ∀ (i : Fin 2032) (j : Fin 128), r1 (ix2 i j) = x (ix3 0 ⟨15 + i, by omega⟩ j))
    (h2 : ∀ (i : Fin 2032) (j : Fin 128), r2 (ix2 i j) = x (ix3 0 ⟨14 + i, by omega⟩ j))
    (h3 : ∀ (i : Fin 2032) (j : Fin 128), r3 (ix2 i j) = x (ix3 0 ⟨13 + i, by omega⟩ j)) (i : Fin 2032) (j : Fin 128) :
    k0_pay4 (k0_pay2 r0 w3 b r1 w2 r2 w1) r3 (k0_pay3 w0) (ix3 0 i j) = blockConv x w0 w1 w2 w3 b ⟨16 + i, by omega⟩ j := by
  pointwise [k0_pay4, k0_pay2, k0_pay3]
  simp only [h0, h1, h2, h3]
  refine congrArg₂ (· + ·) (congrArg₂ (· + ·) (congrArg₂ (· + ·) rfl ?_) ?_) ?_ <;>
  · refine congrArg (· * _) ?_
    simp only [later]
    exact (same3 (n0 := 1) (n1 := 2048) (n2 := 128) x _ _ (by first | omega | (dsimp only <;> omega))).trans (if_pos (by omega)).symm

variable (m : (ℓ : Loc nD τ sig) → Buf (Elt Ideal) ℓ) (c : Dev nD) (t : Fin cfg0.N)

/-- A block read as a matrix. -/
theorem flat {M : Memref sig .tc .vmem S1x2048x128 .f32} (h : M.IsWhole) (X : Vec Ideal S1x2048x128 .f32)
    (inb : ∀ a, (![0, 0, 0] : Fin 3 → ℕ) a + ![1, 2048, 128] a ≤ S1x2048x128.size a)
    (hn : S2048x128.numel = (Rect.unit (s := S1x2048x128) ![0, 0, 0] ![1, 2048, 128] inb).shape.numel) :
    View.read (Elt Ideal) ((M.view.slice (Rect.unit ![0, 0, 0] ![1, 2048, 128] inb)).reshape S2048x128 hn) (h.unread X) =
      fun y => X (ix3 0 (y 0) (y 1)) := by
  funext y
  refine (congrFun (h.read_unread X) _).trans (congrArg X ?_)
  obtain ⟨a, b, rfl⟩ : ∃ a b, y = ix2 a b := ⟨y 0, y 1, eq_ix2 y⟩
  refine (congrArg (Rect.unit (s := S1x2048x128) ![0, 0, 0] ![1, 2048, 128] inb).emb (ValueIdx.reshapeEquiv_ix2_1ab hn a b)).trans ?_
  funext a
  fin_cases a <;> exact Fin.ext (by simp)

theorem x_block (i : Fin 2048) (j : Fin 128) :
    iblk m c 0 t (ix3 0 i j) = (m ((c.tc : Thread nD τ).loc main_arg0)) (ix3 (seq t) i ⟨768 + (col t j).val, by omega⟩) := by
  blk_ext [iblk, V, idx0 t, col, seq]

theorem w_block (k : Fin 4) (j : Fin 128) : iblk m c 1 t (ix2 k j) = (m ((c.tc : Thread nD τ).loc main_arg1)) (ix2 k (col t j)) := by
  blk_ext [iblk, V, idx1 t, col]

theorem b_block (j : Fin 128) : iblk m c 2 t (ix2 0 j) = (m ((c.tc : Thread nD τ).loc main_arg2)) (ix2 0 (col t j)) := by
  blk_ext [iblk, V, idx2 t, col]

theorem emb3 (y : S1x2048x128.Idx) : (win0_3.blk t).view.emb y = ix3 (seq t) (y 1) (col t (y 2)) := by
  blk_ext [idx3 t, col, seq]

/-- A row of a block of taps. -/
theorem tap_row (k : Fin 4) (inb : ∀ a, (![k.val, 0] : Fin 2 → ℕ) a + ![1, 128] a ≤ S4x128.size a) (j : Fin 128) :
    View.ld (iblk m c 1 t) (Rect.unit (s := S4x128) ![k.val, 0] ![1, 128] inb) (ix2 0 j) = (m ((c.tc : Thread nD τ).loc main_arg1)) (ix2 k (col t j)) := by
  refine Eq.trans ?_ (w_block m c t k j)
  refine congrArg (iblk m c 1 t) ?_
  funext a
  fin_cases a <;> exact Fin.ext (by simp)

/-- Rows of a block from row `o` on. -/
theorem rows_at (X : Vec Ideal S1x2048x128 .f32) (o n : ℕ) (inb : ∀ a, (![o, 0] : Fin 2 → ℕ) a + ![n, 128] a ≤ S2048x128.size a)
    (i : Fin n) (j : Fin 128) (hi : o + i.val < 2048) :
    View.ld (fun y : S2048x128.Idx => X (ix3 0 (y 0) (y 1))) (Rect.unit (s := S2048x128) ![o, 0] ![n, 128] inb) (ix2 i j) = X (ix3 0 ⟨o + i, hi⟩ j) := by
  refine congrArg X ?_
  funext a
  fin_cases a
  · rfl
  · exact Fin.ext (by simp)
  · exact Fin.ext (by simp)

/-- The first rows of a block. -/
theorem first_rows (X : Vec Ideal S1x2048x128 .f32) (inb : ∀ a, (![0, 0, 0] : Fin 3 → ℕ) a + ![1, 16, 128] a ≤ S1x2048x128.size a)
    (i : Fin 16) (j : Fin 128) :
    View.ld X (Rect.unit (s := S1x2048x128) ![0, 0, 0] ![1, 16, 128] inb) (ix3 0 i j) = X (ix3 0 ⟨i, by omega⟩ j) := by
  refine congrArg X ?_
  funext a
  fin_cases a <;> exact Fin.ext (by simp)

/-- A block's convolution is the arrays'. -/
theorem block_conv (w0 w1 w2 w3 b : Vec Ideal S1x128 .f32) (i : Fin 2048) (j : Fin 128)
    (h0 : w0 (ix2 0 j) = (m ((c.tc : Thread nD τ).loc main_arg1)) (ix2 0 (col t j))) (h1 : w1 (ix2 0 j) = (m ((c.tc : Thread nD τ).loc main_arg1)) (ix2 1 (col t j)))
    (h2 : w2 (ix2 0 j) = (m ((c.tc : Thread nD τ).loc main_arg1)) (ix2 2 (col t j))) (h3 : w3 (ix2 0 j) = (m ((c.tc : Thread nD τ).loc main_arg1)) (ix2 3 (col t j)))
    (hb : b (ix2 0 j) = (m ((c.tc : Thread nD τ).loc main_arg2)) (ix2 0 (col t j))) :
    blockConv (iblk m c 0 t) w0 w1 w2 w3 b i j = conv (m ((c.tc : Thread nD τ).loc main_arg0)) (m ((c.tc : Thread nD τ).loc main_arg1)) (m ((c.tc : Thread nD τ).loc main_arg2)) (ix3 (seq t) i (col t j)) := by
  unfold blockConv conv
  rw [hb, show (fun s => iblk m c 0 t (ix3 0 s j)) = _ from funext fun s => x_block m c t s j]
  refine congrArg (fun w => forth _ w _ _) (funext fun k => ?_)
  fin_cases k
  · exact h0
  · exact h1
  · exact h2
  · exact h3

theorem after3_eq (i : Fin 2048) (j : Fin 128) : (dats m 0 c).after 3 t (ix3 0 i j) = conv (m ((c.tc : Thread nD τ).loc main_arg0)) (m ((c.tc : Thread nD τ).loc main_arg1)) (m ((c.tc : Thread nD τ).loc main_arg2)) (ix3 (seq t) i (col t j)) := by
  rw [after0_3]
  unfold outsAt0
  frame_out
  canon_tiles x h using View.cover_of_tiledBy _ ![1, 16, 128] (by sl_kernel_rfl) _
  · obtain ⟨a, p, q, rfl⟩ : ∃ (a : Fin 1) (p : Fin 16) (q : Fin 128), x = ix3 a p q := ⟨x 0, x 1, x 2, eq_ix3 x⟩
    obtain rfl : a = 0 := Subsingleton.elim _ _
    obtain rfl : i = ⟨p.val, by have := p.isLt; clear* - this; omega⟩ := Fin.ext h1
    obtain rfl : j = q := Fin.ext h2
    exact (first_at (iblk m c 0 t) _ _ _ _ _ _ (first_rows _ _) p j).trans
      (block_conv m c t _ _ _ _ _ _ _ (tap_row m c t 0 _ _) (tap_row m c t 1 _ _) (tap_row m c t 2 _ _) (tap_row m c t 3 _ _) (b_block m c t _))
  · obtain ⟨a, p, q, rfl⟩ : ∃ (a : Fin 1) (p : Fin 2032) (q : Fin 128), x = ix3 a p q := ⟨x 0, x 1, x 2, eq_ix3 x⟩
    obtain rfl : a = 0 := Subsingleton.elim _ _
    obtain rfl : i = ⟨16 + p.val, by have := p.isLt; clear* - this; omega⟩ := Fin.ext h1
    obtain rfl : j = q := Fin.ext h2
    rw [flat]
    exact (rest_at (iblk m c 0 t) _ _ _ _ _ _ _ _ _ (fun a b => rows_at _ 16 2032 _ a b (by omega)) (fun a b => rows_at _ 15 2032 _ a b (by omega))
      (fun a b => rows_at _ 14 2032 _ a b (by omega)) (fun a b => rows_at _ 13 2032 _ a b (by omega)) p j).trans
      (block_conv m c t _ _ _ _ _ _ _ (tap_row m c t 0 _ _) (tap_row m c t 1 _ _) (tap_row m c t 2 _ _) (tap_row m c t 3 _ _) (b_block m c t _))

theorem row_eq (y : S1x2048x128.Idx) : y = ix3 0 (y 1) (y 2) := by
  funext a
  fin_cases a
  · exact Subsingleton.elim (α := Fin 1) _ _
  · rfl
  · rfl

theorem out_array : (dats m 0 c).arrAt 3 cfg0.N = conv (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [emb3]
  exact (congrArg _ (row_eq y)).trans (after3_eq m c t _ _)

end Cert.ConvFwdIdeal.Taps

namespace Cert.ConvFwdRefIdeal.Taps

open Cert.ConvFwdRefIdeal Cert.ConvFwdRefIdeal.Gen Idealize.ShloMosaic Idealize.ShloMosaic.TcCoe Idealize.SL.Sem
open _root_.Taps (same3 later forth)

theorem reorder (a b c d e : EReal) : d + c + b + a + e = a + e + b + c + d := by
  rw [add_comm (a + e + b + c), add_comm (a + e + b), add_comm (a + e), add_assoc _ a e, ← add_assoc d, ← add_assoc (d + c)]

theorem conv_at (x : FVec Ideal S2x2048x1792 .f32) (w : FVec Ideal S4x768 .f32) (b : FVec Ideal S1x768 .f32) (i : Fin 2) (t : Fin 2048) (d : Fin 768) :
    (addf (addf (addf (addf (mulf (broadcastInDim S2x2048x768 ![0, 1, 2] bcast_S1x1x768_S2x2048x768_0_1_2 (broadcastInDim S1x1x768 ![1, 2] bcast_S1x768_S1x1x768_1_2 (extractStridedSlice S1x768 ![0, 0] w slices_S4x768_S1x768_0_0))) (extractStridedSlice S2x2048x768 ![0, 0, 0] (concatenate S2x2051x768 1 [⟨S2x3x768, (broadcastInDim S2x3x768 ![] bcast_S_S2x3x768 (constant S_ .f32 0x00000000#32))⟩, ⟨S2x2048x768, (extractStridedSlice S2x2048x768 ![0, 0, 768] x slices_S2x2048x1792_S2x2048x768_0_0_768)⟩] concatenates_S2x3x768_S2x2048x768_S2x2051x768_d1) slices_S2x2051x768_S2x2048x768_0_0_0)) (mulf (broadcastInDim S2x2048x768 ![0, 1, 2] bcast_S1x1x768_S2x2048x768_0_1_2 (broadcastInDim S1x1x768 ![1, 2] bcast_S1x768_S1x1x768_1_2 (extractStridedSlice S1x768 ![1, 0] w slices_S4x768_S1x768_1_0))) (extractStridedSlice S2x2048x768 ![0, 1, 0] (concatenate S2x2051x768 1 [⟨S2x3x768, (broadcastInDim S2x3x768 ![] bcast_S_S2x3x768 (constant S_ .f32 0x00000000#32))⟩, ⟨S2x2048x768, (extractStridedSlice S2x2048x768 ![0, 0, 768] x slices_S2x2048x1792_S2x2048x768_0_0_768)⟩] concatenates_S2x3x768_S2x2048x768_S2x2051x768_d1) slices_S2x2051x768_S2x2048x768_0_1_0))) (mulf (broadcastInDim S2x2048x768 ![0, 1, 2] bcast_S1x1x768_S2x2048x768_0_1_2 (broadcastInDim S1x1x768 ![1, 2] bcast_S1x768_S1x1x768_1_2 (extractStridedSlice S1x768 ![2, 0] w slices_S4x768_S1x768_2_0))) (extractStridedSlice S2x2048x768 ![0, 2, 0] (concatenate S2x2051x768 1 [⟨S2x3x768, (broadcastInDim S2x3x768 ![] bcast_S_S2x3x768 (constant S_ .f32 0x00000000#32))⟩, ⟨S2x2048x768, (extractStridedSlice S2x2048x768 ![0, 0, 768] x slices_S2x2048x1792_S2x2048x768_0_0_768)⟩] concatenates_S2x3x768_S2x2048x768_S2x2051x768_d1) slices_S2x2051x768_S2x2048x768_0_2_0))) (mulf (broadcastInDim S2x2048x768 ![0, 1, 2] bcast_S1x1x768_S2x2048x768_0_1_2 (broadcastInDim S1x1x768 ![1, 2] bcast_S1x768_S1x1x768_1_2 (extractStridedSlice S1x768 ![3, 0] w slices_S4x768_S1x768_3_0))) (extractStridedSlice S2x2048x768 ![0, 3, 0] (concatenate S2x2051x768 1 [⟨S2x3x768, (broadcastInDim S2x3x768 ![] bcast_S_S2x3x768 (constant S_ .f32 0x00000000#32))⟩, ⟨S2x2048x768, (extractStridedSlice S2x2048x768 ![0, 0, 768] x slices_S2x2048x1792_S2x2048x768_0_0_768)⟩] concatenates_S2x3x768_S2x2048x768_S2x2051x768_d1) slices_S2x2051x768_S2x2048x768_0_3_0))) (broadcastInDim S2x2048x768 ![0, 1, 2] bcast_S1x1x768_S2x2048x768_0_1_2 (broadcastInDim S1x1x768 ![1, 2] bcast_S1x768_S1x1x768_1_2 b)) : FVec Ideal S2x2048x768 .f32) (ix3 i t d) = Cert.ConvFwdIdeal.Taps.conv x w b (ix3 i t d) := by
  have e : ((ix3 i t d : S2x2048x768.Idx) 1).val = t.val := rfl
  pointwise []
  refine (reorder _ _ _ _ _).trans ?_
  refine congrArg₂ (· + ·) (congrArg₂ (· + ·) (congrArg₂ (· + ·) (congrArg (· + _) (mul_comm _ _)) ?_) ?_) ?_ <;>
  · refine (mul_comm _ _).trans (congrArg (· * _) ?_)
    simp only [later]
    split_ifs <;> first
      | rfl
      | omega
      | exact same3 (n0 := 2) (n1 := 2048) (n2 := 1792) x _ _ (by first | omega | (dsimp only <;> omega))
      | exact (same3 (n0 := 2) (n1 := 2048) (n2 := 1792) x _ _ (by first | omega | (dsimp only <;> omega))).trans (if_pos (by omega)).symm

end Cert.ConvFwdRefIdeal.Taps

namespace Cert.Proof

open Idealize.ShloMosaic Idealize.SL.Sem

attribute [local instance] Cert.ConvFwd.Gen.facts Cert.ConvFwdIdeal.Gen.facts Cert.ConvFwdRefIdeal.Gen.facts

theorem frame_convFwd : Cert.quiescent_ConvFwd := fun m ρ _ => Cert.ConvFwd.Gen.frame m ρ
theorem frame_convFwdIdeal : Cert.quiescent_ConvFwdIdeal := fun m ρ _ => Cert.ConvFwdIdeal.Gen.frame m ρ

theorem frame_convFwdRefIdeal : Cert.quiescent_ConvFwdRefIdeal := fun m ρ _ =>
  (θ_run Cert.ConvFwdRefIdeal.defs _ _).mono
    (fun r hr => ⟨fun c => (hr c).2, sem_eq_zero_of_no_sems (by decide) r.2⟩) (Cert.ConvFwdRefIdeal.Value.run m ρ)

theorem preserves_convFwd : Cert.preserves_ConvFwd_ConvFwdIdeal := trivial

/-- Kernel and reference end with the same convolution. -/
theorem algebraic_convFwd : Cert.algebraic_ConvFwdIdeal_ConvFwdRefIdeal := by
  intro m g m' g' _ hargs
  refine ⟨fun c => Cert.ConvFwdIdeal.Taps.conv (m ((c.tc : Thread Cert.ConvFwdIdeal.nD Cert.ConvFwdIdeal.τ).loc Cert.ConvFwdIdeal.main_arg0)) (m ((c.tc : Thread Cert.ConvFwdIdeal.nD Cert.ConvFwdIdeal.τ).loc Cert.ConvFwdIdeal.main_arg1)) (m ((c.tc : Thread Cert.ConvFwdIdeal.nD Cert.ConvFwdIdeal.τ).loc Cert.ConvFwdIdeal.main_arg2)), ?_, ?_⟩
  · exact (θ_run Cert.ConvFwdIdeal.defs _ _).mono (fun r hr c => ⟨(hr c).1.trans (Cert.ConvFwdIdeal.Taps.out_array m c), (hr c).2⟩)
      (Cert.ConvFwdIdeal.Value.run_blocks m g)
  · refine (θ_run Cert.ConvFwdRefIdeal.defs _ _).mono (fun r hr c => ⟨(hr c).1.trans ?_, (hr c).2⟩) (Cert.ConvFwdRefIdeal.Value.run m' g')
    refine funext fun y => (congrArg _ (eq_ix3 y)).trans ((Cert.ConvFwdRefIdeal.Taps.conv_at _ _ _ (y 0) (y 1) (y 2)).trans ?_)
    rw [(hargs c).1, (hargs c).2.1, (hargs c).2.2]
    exact congrArg _ (eq_ix3 y).symm

end Cert.Proof

end
-- ==== Proof.FfnMid.lean ====
/- The gated FFN's convolution and gate, against the reference's. -/
module

public import proofs.«01_k».proof.Defs
public import proofs.«01_k».proof.Proof.Conv
public import proofs.«01_k».proof.Proof.Gen.FfnMid.Frame
public import proofs.«01_k».proof.Proof.Gen.FfnMidIdeal.Frame
public import proofs.«01_k».proof.Proof.Gen.FfnMidIdeal.Value
public import proofs.«01_k».proof.Proof.Gen.FfnMidRefIdeal.Run
public import Idealize.ShloMosaic.Lib.Pipeline.ValueKit
public import Idealize.ShloMosaic.Lib.Pointwise
public import Idealize.ShloMosaic.Lib.WholeRead
public import Idealize.ShloMosaic.Lib.ValueLayout

@[expose] public section

set_option maxRecDepth 16384

noncomputable section

namespace Taps

open Idealize.ShloMosaic

/-- The convolution at one time: three taps over a column and its past, and the bias. -/
def three (f : Fin 2048 → EReal) (w : Fin 3 → EReal) (b : EReal) (t : Fin 2048) : EReal :=
  f t * w 2 + b + later f 1 t * w 1 + later f 2 t * w 0

/-- The smooth gate, by its tanh form. -/
def gelu (g : EReal) : EReal :=
  Ideal.ofBits .f32 0x3F000000#32 * g *
    (1 +
      Ideal.tanh (Ideal.ofBits .f32 0x3F4C422A#32 * (g + Ideal.ofBits .f32 0x3D372713#32 * g * g * g)))

end Taps

namespace Cert.FfnMidIdeal.Taps

open Cert.FfnMidIdeal Cert.FfnMidIdeal.Gen Idealize.ShloMosaic Idealize.ShloMosaic.TcCoe Idealize.SL.Sem
open _root_.Taps (same3 later three gelu pick_ge)

/-- The convolution of all columns. -/
def mixed (x : S2x2048x5632.Idx → EReal) (w : S3x5632.Idx → EReal) (b : S1x5632.Idx → EReal) (i : Fin 2) (t : Fin 2048) (d : Fin 5632) : EReal :=
  three (fun s => x (ix3 i s d)) (fun k => w (ix2 k d)) (b (ix2 0 d)) t

/-- The first half of the columns, through the gate, times the second half. -/
def gated (x : S2x2048x5632.Idx → EReal) (w : S3x5632.Idx → EReal) (b : S1x5632.Idx → EReal) (i : Fin 2) (t : Fin 2048) (d : Fin 2816) : EReal :=
  gelu (mixed x w b i t ⟨d.val, by omega⟩) * mixed x w b i t ⟨2816 + d.val, by omega⟩

theorem idx0 : ∀ t : Fin cfg0.N, win0_0.index t = ![t.val % 2, 0, t.val / 2] := (by decide +kernel : ∀ t : Fin grid0.N, _)
theorem idx1 : ∀ t : Fin cfg0.N, win0_1.index t = ![t.val % 2, 0, t.val / 2 + 22] := (by decide +kernel : ∀ t : Fin grid0.N, _)
theorem idx2 : ∀ t : Fin cfg0.N, win0_2.index t = ![0, t.val / 2] := (by decide +kernel : ∀ t : Fin grid0.N, _)
theorem idx3 : ∀ t : Fin cfg0.N, win0_3.index t = ![0, t.val / 2 + 22] := (by decide +kernel : ∀ t : Fin grid0.N, _)
theorem idx4 : ∀ t : Fin cfg0.N, win0_4.index t = ![0, t.val / 2] := (by decide +kernel : ∀ t : Fin grid0.N, _)
theorem idx5 : ∀ t : Fin cfg0.N, win0_5.index t = ![0, t.val / 2 + 22] := (by decide +kernel : ∀ t : Fin grid0.N, _)
theorem idx6 : ∀ t : Fin cfg0.N, win0_6.index t = ![t.val % 2, 0, t.val / 2] := (by decide +kernel : ∀ t : Fin grid0.N, _)

theorem lt44 (t : Fin cfg0.N) : t.val < 44 := t.isLt

/-- Column `j` of a grid point's block, among the output's columns, and the point's sequence. -/
def col (t : Fin cfg0.N) (j : Fin 128) : Fin 2816 := ⟨128 * (t.val / 2) + j, by have := lt44 t; omega⟩
def seq (t : Fin cfg0.N) : Fin 2 := ⟨t.val % 2, by omega⟩

/-- The convolution of a block's column. -/
def blockThree (x : Vec Ideal S1x2048x128 .f32) (w0 w1 w2 b : Vec Ideal S1x128 .f32) (i : Fin 2048) (j : Fin 128) : EReal :=
  three (fun s => x (ix3 0 s j)) (fun k => (![w0, w1, w2] : Fin 3 → Vec Ideal S1x128 .f32) k (ix2 0 j)) (b (ix2 0 j)) i

section
variable (x : Vec Ideal S1x2048x128 .f32) (w0 w1 w2 b : Vec Ideal S1x128 .f32)

/-- The first sixteen times of the gate's half, where the past may run out. -/
theorem first_gate (h : Vec Ideal S1x16x128 .f32) (hh : ∀ (i : Fin 16) (j : Fin 128), h (ix3 0 i j) = x (ix3 0 ⟨i, by omega⟩ j))
    (i : Fin 16) (j : Fin 128) : k0_pay5 h w2 b w1 w0 (ix2 i j) = blockThree x w0 w1 w2 b ⟨i, by omega⟩ j := by
  pointwise [k0_pay5]
  simp only [hh, pick_ge i.val 1 (by omega) (by decide), pick_ge i.val 2 (by omega) (by decide)]
  refine congrArg₂ (· + ·) (congrArg₂ (· + ·) rfl ?_) ?_ <;>
  · simp only [later]
    split_ifs <;> first
      | omega
      | exact (zero_mul _).symm
      | exact congrArg₂ (fun u v : EReal => u * v) (same3 (n0 := 1) (n1 := 2048) (n2 := 128) x _ _ (by first | omega | (dsimp only <;> omega))) rfl

/-- The first sixteen times. -/
theorem first_at (g : FVec Ideal S16x128 .f32) (h : Vec Ideal S1x16x128 .f32) (hh : ∀ (i : Fin 16) (j : Fin 128), h (ix3 0 i j) = x (ix3 0 ⟨i, by omega⟩ j))
    (i : Fin 16) (j : Fin 128) :
    k0_pay1 g (k0_pay6 h) (iota .tc S16x128 32 [0] iota_S16x128_d0_w32) (k0_pay7 h) k0_pay8 w2 b w1 w0 (ix3 0 i j) =
      gelu (g (ix2 i j)) * blockThree x w0 w1 w2 b ⟨i, by omega⟩ j := by
  pointwise [k0_pay1, k0_pay6, k0_pay7, k0_pay8]
  simp only [hh, pick_ge i.val 1 (by omega) (by decide), pick_ge i.val 2 (by omega) (by decide)]
  refine congrArg₂ (· * ·) rfl (congrArg₂ (· + ·) (congrArg₂ (· + ·) rfl ?_) ?_) <;>
  · simp only [later]
    split_ifs <;> first
      | omega
      | exact (zero_mul _).symm
      | exact congrArg₂ (fun u v : EReal => u * v) (same3 (n0 := 1) (n1 := 2048) (n2 := 128) x _ _ (by first | omega | (dsimp only <;> omega))) rfl

variable (r0 r1 r2 : Vec Ideal S2032x128 .f32) (h0 : ∀ (i : Fin 2032) (j : Fin 128), r0 (ix2 i j) = x (ix3 0 ⟨16 + i, by omega⟩ j))
  (h1 : ∀ (i : Fin 2032) (j : Fin 128), r1 (ix2 i j) = x (ix3 0 ⟨15 + i, by omega⟩ j))
  (h2 : ∀ (i : Fin 2032) (j : Fin 128), r2 (ix2 i j) = x (ix3 0 ⟨14 + i, by omega⟩ j))
include h0 h1 h2

/-- The times from sixteen on of the gate's half. -/
theorem rest_gate (i : Fin 2032) (j : Fin 128) : k0_pay2 r0 w2 b r1 w1 r2 w0 (ix2 i j) = blockThree x w0 w1 w2 b ⟨16 + i, by omega⟩ j := by
  pointwise [k0_pay2]
  simp only [h0, h1, h2]
  refine congrArg₂ (· + ·) (congrArg₂ (· + ·) rfl ?_) ?_ <;>
  · refine congrArg (· * _) ?_
    simp only [later]
    exact (same3 (n0 := 1) (n1 := 2048) (n2 := 128) x _ _ (by first | omega | (dsimp only <;> omega))).trans (if_pos (by omega)).symm

/-- The times from sixteen on. -/
theorem rest_at (g : FVec Ideal S2032x128 .f32) (i : Fin 2032) (j : Fin 128) :
    k0_pay4 g r0 (k0_pay3 w2) b r1 w1 r2 w0 (ix3 0 i j) = gelu (g (ix2 i j)) * blockThree x w0 w1 w2 b ⟨16 + i, by omega⟩ j := by
  pointwise [k0_pay4, k0_pay3]
  simp only [h0, h1, h2]
  refine congrArg₂ (· * ·) rfl (congrArg₂ (· + ·) (congrArg₂ (· + ·) rfl ?_) ?_) <;>
  · refine congrArg (· * _) ?_
    simp only [later]
    exact (same3 (n0 := 1) (n1 := 2048) (n2 := 128) x _ _ (by first | omega | (dsimp only <;> omega))).trans (if_pos (by omega)).symm

end

variable (m : (ℓ : Loc nD τ sig) → Buf (Elt Ideal) ℓ) (c : Dev nD) (t : Fin cfg0.N)

/-- A block read as a matrix. -/
theorem flat {M : Memref sig .tc .vmem S1x2048x128 .f32} (h : M.IsWhole) (X : Vec Ideal S1x2048x128 .f32)
    (inb : ∀ a, (![0, 0, 0] : Fin 3 → ℕ) a + ![1, 2048, 128] a ≤ S1x2048x128.size a)
    (hn : S2048x128.numel = (Rect.unit (s := S1x2048x128) ![0, 0, 0] ![1, 2048, 128] inb).shape.numel) :
    View.read (Elt Ideal) ((M.view.slice (Rect.unit ![0, 0, 0] ![1, 2048, 128] inb)).reshape S2048x128 hn) (h.unread X) =
      fun y => X (ix3 0 (y 0) (y 1)) := by
  funext y
  refine (congrFun (h.read_unread X) _).trans (congrArg X ?_)
  obtain ⟨a, b, rfl⟩ : ∃ a b, y = ix2 a b := ⟨y 0, y 1, eq_ix2 y⟩
  refine (congrArg (Rect.unit (s := S1x2048x128) ![0, 0, 0] ![1, 2048, 128] inb).emb (ValueIdx.reshapeEquiv_ix2_1ab hn a b)).trans ?_
  funext a
  fin_cases a <;> exact Fin.ext (by simp)

/-- A grid point's two columns among all columns: the gate's and the value's. -/
def gcol (j : Fin 128) : Fin 5632 := ⟨(col t j).val, by omega⟩
def vcol (j : Fin 128) : Fin 5632 := ⟨2816 + (col t j).val, by omega⟩

theorem x_block0 (i : Fin 2048) (j : Fin 128) : iblk m c 0 t (ix3 0 i j) = (m ((c.tc : Thread nD τ).loc main_arg0)) (ix3 (seq t) i (gcol t j)) := by
  blk_ext [iblk, V, idx0 t, col, seq, gcol]

theorem x_block1 (i : Fin 2048) (j : Fin 128) : iblk m c 1 t (ix3 0 i j) = (m ((c.tc : Thread nD τ).loc main_arg0)) (ix3 (seq t) i (vcol t j)) := by
  blk_ext [iblk, V, idx1 t, col, seq, vcol]

theorem w_block2 (k : Fin 3) (j : Fin 128) : iblk m c 2 t (ix2 k j) = (m ((c.tc : Thread nD τ).loc main_arg1)) (ix2 k (gcol t j)) := by
  blk_ext [iblk, V, idx2 t, col, gcol]

/-- A row of a block of taps. -/
theorem tap_row2 (k : Fin 3) (inb : ∀ a, (![k.val, 0] : Fin 2 → ℕ) a + ![1, 128] a ≤ S3x128.size a) (j : Fin 128) :
    View.ld (iblk m c 2 t) (Rect.unit (s := S3x128) ![k.val, 0] ![1, 128] inb) (ix2 0 j) = (m ((c.tc : Thread nD τ).loc main_arg1)) (ix2 k (gcol t j)) := by
  refine Eq.trans ?_ (w_block2 m c t k j)
  refine congrArg (iblk m c 2 t) ?_
  funext a
  fin_cases a <;> exact Fin.ext (by simp)

theorem w_block3 (k : Fin 3) (j : Fin 128) : iblk m c 3 t (ix2 k j) = (m ((c.tc : Thread nD τ).loc main_arg1)) (ix2 k (vcol t j)) := by
  blk_ext [iblk, V, idx3 t, col, vcol]

/-- A row of a block of taps. -/
theorem tap_row3 (k : Fin 3) (inb : ∀ a, (![k.val, 0] : Fin 2 → ℕ) a + ![1, 128] a ≤ S3x128.size a) (j : Fin 128) :
    View.ld (iblk m c 3 t) (Rect.unit (s := S3x128) ![k.val, 0] ![1, 128] inb) (ix2 0 j) = (m ((c.tc : Thread nD τ).loc main_arg1)) (ix2 k (vcol t j)) := by
  refine Eq.trans ?_ (w_block3 m c t k j)
  refine congrArg (iblk m c 3 t) ?_
  funext a
  fin_cases a <;> exact Fin.ext (by simp)

theorem b_block4 (j : Fin 128) : iblk m c 4 t (ix2 0 j) = (m ((c.tc : Thread nD τ).loc main_arg2)) (ix2 0 (gcol t j)) := by
  blk_ext [iblk, V, idx4 t, col, gcol]

theorem b_block5 (j : Fin 128) : iblk m c 5 t (ix2 0 j) = (m ((c.tc : Thread nD τ).loc main_arg2)) (ix2 0 (vcol t j)) := by
  blk_ext [iblk, V, idx5 t, col, vcol]

theorem emb6 (y : S1x2048x128.Idx) : (win0_6.blk t).view.emb y = ix3 (seq t) (y 1) (col t (y 2)) := by
  blk_ext [idx6 t, col, seq]

/-- Rows of a block from row `o` on. -/
theorem rows_at (X : Vec Ideal S1x2048x128 .f32) (o n : ℕ) (inb : ∀ a, (![o, 0] : Fin 2 → ℕ) a + ![n, 128] a ≤ S2048x128.size a)
    (i : Fin n) (j : Fin 128) (hi : o + i.val < 2048) :
    View.ld (fun y : S2048x128.Idx => X (ix3 0 (y 0) (y 1))) (Rect.unit (s := S2048x128) ![o, 0] ![n, 128] inb) (ix2 i j) = X (ix3 0 ⟨o + i, hi⟩ j) := by
  refine congrArg X ?_
  funext a
  fin_cases a
  · rfl
  · exact Fin.ext (by simp)
  · exact Fin.ext (by simp)

/-- The first rows of a block. -/
theorem first_rows (X : Vec Ideal S1x2048x128 .f32) (inb : ∀ a, (![0, 0, 0] : Fin 3 → ℕ) a + ![1, 16, 128] a ≤ S1x2048x128.size a)
    (i : Fin 16) (j : Fin 128) :
    View.ld X (Rect.unit (s := S1x2048x128) ![0, 0, 0] ![1, 16, 128] inb) (ix3 0 i j) = X (ix3 0 ⟨i, by omega⟩ j) := by
  refine congrArg X ?_
  funext a
  fin_cases a <;> exact Fin.ext (by simp)

/-- A block's convolution is the arrays', in the gate's half. -/
theorem gate_block (w0 w1 w2 b : Vec Ideal S1x128 .f32) (i : Fin 2048) (j : Fin 128) (h0 : w0 (ix2 0 j) = (m ((c.tc : Thread nD τ).loc main_arg1)) (ix2 0 (gcol t j)))
    (h1 : w1 (ix2 0 j) = (m ((c.tc : Thread nD τ).loc main_arg1)) (ix2 1 (gcol t j))) (h2 : w2 (ix2 0 j) = (m ((c.tc : Thread nD τ).loc main_arg1)) (ix2 2 (gcol t j))) (hb : b (ix2 0 j) = (m ((c.tc : Thread nD τ).loc main_arg2)) (ix2 0 (gcol t j))) :
    blockThree (iblk m c 0 t) w0 w1 w2 b i j = mixed (m ((c.tc : Thread nD τ).loc main_arg0)) (m ((c.tc : Thread nD τ).loc main_arg1)) (m ((c.tc : Thread nD τ).loc main_arg2)) (seq t) i (gcol t j) := by
  unfold blockThree mixed
  rw [hb, show (fun s => iblk m c 0 t (ix3 0 s j)) = _ from funext fun s => x_block0 m c t s j]
  refine congrArg (fun w => three _ w _ _) (funext fun k => ?_)
  fin_cases k
  · exact h0
  · exact h1
  · exact h2

/-- A block's convolution is the arrays', in the value's half. -/
theorem value_block (w0 w1 w2 b : Vec Ideal S1x128 .f32) (i : Fin 2048) (j : Fin 128) (h0 : w0 (ix2 0 j) = (m ((c.tc : Thread nD τ).loc main_arg1)) (ix2 0 (vcol t j)))
    (h1 : w1 (ix2 0 j) = (m ((c.tc : Thread nD τ).loc main_arg1)) (ix2 1 (vcol t j))) (h2 : w2 (ix2 0 j) = (m ((c.tc : Thread nD τ).loc main_arg1)) (ix2 2 (vcol t j))) (hb : b (ix2 0 j) = (m ((c.tc : Thread nD τ).loc main_arg2)) (ix2 0 (vcol t j))) :
    blockThree (iblk m c 1 t) w0 w1 w2 b i j = mixed (m ((c.tc : Thread nD τ).loc main_arg0)) (m ((c.tc : Thread nD τ).loc main_arg1)) (m ((c.tc : Thread nD τ).loc main_arg2)) (seq t) i (vcol t j) := by
  unfold blockThree mixed
  rw [hb, show (fun s => iblk m c 1 t (ix3 0 s j)) = _ from funext fun s => x_block1 m c t s j]
  refine congrArg (fun w => three _ w _ _) (funext fun k => ?_)
  fin_cases k
  · exact h0
  · exact h1
  · exact h2

theorem after6_eq (i : Fin 2048) (j : Fin 128) : (dats m 0 c).after 6 t (ix3 0 i j) = gated (m ((c.tc : Thread nD τ).loc main_arg0)) (m ((c.tc : Thread nD τ).loc main_arg1)) (m ((c.tc : Thread nD τ).loc main_arg2)) (seq t) i (col t j) := by
  rw [after0_6]
  unfold outsAt0
  frame_out
  canon_tiles x h using View.cover_of_tiledBy _ ![1, 16, 128] (by sl_kernel_rfl) _
  · obtain ⟨a, p, q, rfl⟩ : ∃ (a : Fin 1) (p : Fin 16) (q : Fin 128), x = ix3 a p q := ⟨x 0, x 1, x 2, eq_ix3 x⟩
    obtain rfl : a = 0 := Subsingleton.elim _ _
    obtain rfl : i = ⟨p.val, by have := p.isLt; clear* - this; omega⟩ := Fin.ext h1
    obtain rfl : j = q := Fin.ext h2
    refine (first_at (iblk m c 1 t) _ _ _ _ _ _ (first_rows _ _) p j).trans (congrArg₂ (fun u v : EReal => gelu u * v) ?_ ?_)
    · exact (first_gate (iblk m c 0 t) _ _ _ _ _ (first_rows _ _) p j).trans
        (gate_block m c t _ _ _ _ _ _ (tap_row2 m c t 0 _ _) (tap_row2 m c t 1 _ _) (tap_row2 m c t 2 _ _) (b_block4 m c t _))
    · exact (value_block m c t _ _ _ _ _ _ (tap_row3 m c t 0 _ _) (tap_row3 m c t 1 _ _) (tap_row3 m c t 2 _ _) (b_block5 m c t _))
  · obtain ⟨a, p, q, rfl⟩ : ∃ (a : Fin 1) (p : Fin 2032) (q : Fin 128), x = ix3 a p q := ⟨x 0, x 1, x 2, eq_ix3 x⟩
    obtain rfl : a = 0 := Subsingleton.elim _ _
    obtain rfl : i = ⟨16 + p.val, by have := p.isLt; clear* - this; omega⟩ := Fin.ext h1
    obtain rfl : j = q := Fin.ext h2
    rw [flat (hs0_0 t), flat (hs0_1 t)]
    refine (rest_at (iblk m c 1 t) _ _ _ _ _ _ _ (fun a b => rows_at _ 16 2032 _ a b (by omega)) (fun a b => rows_at _ 15 2032 _ a b (by omega)) (fun a b => rows_at _ 14 2032 _ a b (by omega)) _ p j).trans
      (congrArg₂ (fun u v : EReal => gelu u * v) ?_ ?_)
    · exact (rest_gate (iblk m c 0 t) _ _ _ _ _ _ _ (fun a b => rows_at _ 16 2032 _ a b (by omega)) (fun a b => rows_at _ 15 2032 _ a b (by omega)) (fun a b => rows_at _ 14 2032 _ a b (by omega)) p j).trans
        (gate_block m c t _ _ _ _ _ _ (tap_row2 m c t 0 _ _) (tap_row2 m c t 1 _ _) (tap_row2 m c t 2 _ _) (b_block4 m c t _))
    · exact (value_block m c t _ _ _ _ _ _ (tap_row3 m c t 0 _ _) (tap_row3 m c t 1 _ _) (tap_row3 m c t 2 _ _) (b_block5 m c t _))

theorem row_eq (y : S1x2048x128.Idx) : y = ix3 0 (y 1) (y 2) := by
  funext a
  fin_cases a
  · exact Subsingleton.elim (α := Fin 1) _ _
  · rfl
  · rfl

theorem out_array : (dats m 0 c).arrAt 6 cfg0.N = fun y : S2x2048x2816.Idx => gated (m ((c.tc : Thread nD τ).loc main_arg0)) (m ((c.tc : Thread nD τ).loc main_arg1)) (m ((c.tc : Thread nD τ).loc main_arg2)) (y 0) (y 1) (y 2) := by
  refine (dats m 0 c).arrAt_eq_of_covers 6 _ (by decide +kernel) fun t hf y => ?_
  blk_simp
  rw [emb6]
  exact (congrArg _ (row_eq y)).trans (after6_eq m c t _ _)

end Cert.FfnMidIdeal.Taps

namespace Cert.FfnMidRefIdeal.Taps

open Cert.FfnMidRefIdeal Cert.FfnMidRefIdeal.Gen Idealize.ShloMosaic Idealize.ShloMosaic.TcCoe Idealize.SL.Sem
open _root_.Taps (same3 later three gelu)

theorem reorder (a b c e : EReal) : a + b + c + e = c + e + b + a := by
  rw [add_comm (c + e + b), add_comm (c + e), add_assoc a, add_assoc a, add_assoc b]

theorem mixed_at (x : FVec Ideal S2x2048x5632 .f32) (w : FVec Ideal S3x5632 .f32) (b : FVec Ideal S1x5632 .f32) (i : Fin 2) (t : Fin 2048) (d : Fin 5632) :
    ((addf (addf (addf (mulf (broadcastInDim S2x2048x5632 ![0, 1, 2] bcast_S1x1x5632_S2x2048x5632_0_1_2 (broadcastInDim S1x1x5632 ![1, 2] bcast_S1x5632_S1x1x5632_1_2 (extractStridedSlice S1x5632 ![0, 0] w slices_S3x5632_S1x5632_0_0))) (extractStridedSlice S2x2048x5632 ![0, 0, 0] (concatenate S2x2050x5632 1 [⟨S2x2x5632, (broadcastInDim S2x2x5632 ![] bcast_S_S2x2x5632 (constant S_ .f32 0x00000000#32))⟩, ⟨S2x2048x5632, x⟩] concatenates_S2x2x5632_S2x2048x5632_S2x2050x5632_d1) slices_S2x2050x5632_S2x2048x5632_0_0_0)) (mulf (broadcastInDim S2x2048x5632 ![0, 1, 2] bcast_S1x1x5632_S2x2048x5632_0_1_2 (broadcastInDim S1x1x5632 ![1, 2] bcast_S1x5632_S1x1x5632_1_2 (extractStridedSlice S1x5632 ![1, 0] w slices_S3x5632_S1x5632_1_0))) (extractStridedSlice S2x2048x5632 ![0, 1, 0] (concatenate S2x2050x5632 1 [⟨S2x2x5632, (broadcastInDim S2x2x5632 ![] bcast_S_S2x2x5632 (constant S_ .f32 0x00000000#32))⟩, ⟨S2x2048x5632, x⟩] concatenates_S2x2x5632_S2x2048x5632_S2x2050x5632_d1) slices_S2x2050x5632_S2x2048x5632_0_1_0))) (mulf (broadcastInDim S2x2048x5632 ![0, 1, 2] bcast_S1x1x5632_S2x2048x5632_0_1_2 (broadcastInDim S1x1x5632 ![1, 2] bcast_S1x5632_S1x1x5632_1_2 (extractStridedSlice S1x5632 ![2, 0] w slices_S3x5632_S1x5632_2_0))) (extractStridedSlice S2x2048x5632 ![0, 2, 0] (concatenate S2x2050x5632 1 [⟨S2x2x5632, (broadcastInDim S2x2x5632 ![] bcast_S_S2x2x5632 (constant S_ .f32 0x00000000#32))⟩, ⟨S2x2048x5632, x⟩] concatenates_S2x2x5632_S2x2048x5632_S2x2050x5632_d1) slices_S2x2050x5632_S2x2048x5632_0_2_0))) (broadcastInDim S2x2048x5632 ![0, 1, 2] bcast_S1x1x5632_S2x2048x5632_0_1_2 (broadcastInDim S1x1x5632 ![1, 2] bcast_S1x5632_S1x1x5632_1_2 b))) : FVec Ideal S2x2048x5632 .f32) (ix3 i t d) = Cert.FfnMidIdeal.Taps.mixed x w b i t d := by
  have e : ((ix3 i t d : S2x2048x5632.Idx) 1).val = t.val := rfl
  pointwise []
  refine (reorder _ _ _ _).trans ?_
  refine congrArg₂ (· + ·) (congrArg₂ (· + ·) (congrArg (· + _) (mul_comm _ _)) ?_) ?_ <;>
  · refine (mul_comm _ _).trans (congrArg (· * _) ?_)
    simp only [later]
    split_ifs <;> first
      | rfl
      | omega
      | exact same3 (n0 := 2) (n1 := 2048) (n2 := 5632) x _ _ (by first | omega | (dsimp only <;> omega))
      | exact (same3 (n0 := 2) (n1 := 2048) (n2 := 5632) x _ _ (by first | omega | (dsimp only <;> omega))).trans (if_pos (by omega)).symm

theorem gated_at (v : FVec Ideal S2x2048x5632 .f32) (i : Fin 2) (t : Fin 2048) (d : Fin 2816) :
    (truncf .bf16 (mulf (mulf (extractStridedSlice S2x2048x2816 ![0, 0, 0] v slices_S2x2048x5632_S2x2048x2816_0_0_0) (mulf (broadcastInDim S2x2048x2816 ![] bcast_S_S2x2048x2816 (constant S_ .f32 0x3F000000#32)) (addf (broadcastInDim S2x2048x2816 ![] bcast_S_S2x2048x2816 (constant S_ .f32 0x3F800000#32)) (Host.tanh (mulf (broadcastInDim S2x2048x2816 ![] bcast_S_S2x2048x2816 (constant S_ .f32 0x3F4C422A#32)) (addf (extractStridedSlice S2x2048x2816 ![0, 0, 0] v slices_S2x2048x5632_S2x2048x2816_0_0_0) (mulf (broadcastInDim S2x2048x2816 ![] bcast_S_S2x2048x2816 (constant S_ .f32 0x3D372713#32)) (mulf (mulf (extractStridedSlice S2x2048x2816 ![0, 0, 0] v slices_S2x2048x5632_S2x2048x2816_0_0_0) (extractStridedSlice S2x2048x2816 ![0, 0, 0] v slices_S2x2048x5632_S2x2048x2816_0_0_0)) (extractStridedSlice S2x2048x2816 ![0, 0, 0] v slices_S2x2048x5632_S2x2048x2816_0_0_0))))))))) (extractStridedSlice S2x2048x2816 ![0, 0, 2816] v slices_S2x2048x5632_S2x2048x2816_0_0_2816)) bitsLt_bf16_f32 : FVec Ideal S2x2048x2816 .bf16) (ix3 i t d) = gelu (v (ix3 i t ⟨d.val, by omega⟩)) * v (ix3 i t ⟨2816 + d.val, by omega⟩) := by
  pointwise []
  refine congrArg₂ (· * ·) ?_ rfl
  simp only [gelu, mul_assoc]
  exact mul_left_comm (_ : EReal) _ _

end Cert.FfnMidRefIdeal.Taps

namespace Cert.Proof

open Idealize.ShloMosaic Idealize.SL.Sem

attribute [local instance] Cert.FfnMid.Gen.facts Cert.FfnMidIdeal.Gen.facts Cert.FfnMidRefIdeal.Gen.facts

theorem frame_ffnMid : Cert.quiescent_FfnMid := fun m ρ _ => Cert.FfnMid.Gen.frame m ρ
theorem frame_ffnMidIdeal : Cert.quiescent_FfnMidIdeal := fun m ρ _ => Cert.FfnMidIdeal.Gen.frame m ρ

theorem frame_ffnMidRefIdeal : Cert.quiescent_FfnMidRefIdeal := fun m ρ _ =>
  (θ_run Cert.FfnMidRefIdeal.defs _ _).mono
    (fun r hr => ⟨fun c => (hr c).2, sem_eq_zero_of_no_sems (by decide) r.2⟩) (Cert.FfnMidRefIdeal.Value.run m ρ)

theorem preserves_ffnMid : Cert.preserves_FfnMid_FfnMidIdeal := trivial

/-- Kernel and reference end with the same gated columns. -/
theorem algebraic_ffnMid : Cert.algebraic_FfnMidIdeal_FfnMidRefIdeal := by
  intro m g m' g' _ hargs
  refine ⟨fun c y => Cert.FfnMidIdeal.Taps.gated (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1)) (m ((c.tc : Thread Cert.FfnMidIdeal.nD Cert.FfnMidIdeal.τ).loc Cert.FfnMidIdeal.main_arg2)) (y 0) (y 1) (y 2), ?_, ?_⟩
  · exact (θ_run Cert.FfnMidIdeal.defs _ _).mono (fun r hr c => ⟨(hr c).1.trans (Cert.FfnMidIdeal.Taps.out_array m c), (hr c).2⟩)
      (Cert.FfnMidIdeal.Value.run_blocks m g)
  · refine (θ_run Cert.FfnMidRefIdeal.defs _ _).mono (fun r hr c => ⟨(hr c).1.trans ?_, (hr c).2⟩) (Cert.FfnMidRefIdeal.Value.run m' g')
    refine funext fun y => (congrArg _ (eq_ix3 y)).trans ((Cert.FfnMidRefIdeal.Taps.gated_at _ (y 0) (y 1) (y 2)).trans ?_)
    refine (congrArg₂ (fun u v : EReal => _root_.Taps.gelu u * v) (Cert.FfnMidRefIdeal.Taps.mixed_at _ _ _ _ _ _)
      (Cert.FfnMidRefIdeal.Taps.mixed_at _ _ _ _ _ _)).trans ?_
    rw [(hargs c).1, (hargs c).2.1, (hargs c).2.2]
    rfl

end Cert.Proof

end
-- ==== Proof.KvFwd.lean ====
/- The shared key and value projection against the reference's. -/
module

public import proofs.«01_k».proof.Defs
public import proofs.«01_k».proof.Proof.Gen.KvFwd.Frame
public import proofs.«01_k».proof.Proof.Gen.KvFwdIdeal.Frame
public import proofs.«01_k».proof.Proof.Gen.KvFwdIdeal.Value
public import proofs.«01_k».proof.Proof.Gen.KvFwdRefIdeal.Run
public import Idealize.ShloMosaic.Lib.Pipeline.ValueKit
public import Idealize.ShloMosaic.Lib.Pointwise

@[expose] public section

set_option maxRecDepth 16384

noncomputable section

namespace Ffn

open Idealize.ShloMosaic

/-- The key and value projection: each row of the normed input against each column of the weight. -/
def kvProduct (a : (⟨2, ![4096, 1024]⟩ : Shape).Idx → EReal) (w : (⟨2, ![1024, 512]⟩ : Shape).Idx → EReal) (r : Fin 4096) (f : Fin 512) : EReal :=
  ∑ k : Fin 1024, a (ix2 r k) * w (ix2 k f)

end Ffn

namespace Cert.KvFwdIdeal.Ffn

open Cert.KvFwdIdeal Cert.KvFwdIdeal.Gen Idealize.ShloMosaic Idealize.ShloMosaic.TcCoe Idealize.SL.Sem
open _root_.Ffn (kvProduct)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem points (t : Fin cfg0.N) : t.val < 4 := t.isLt

/-- Row `i` of a grid point's row block, and column `j` of its column block. -/
def row (t : Fin cfg0.N) (i : Fin 1024) : Fin 4096 := ⟨1024 * (t.val) + i, by have := points t; omega⟩
def col (t : Fin cfg0.N) (j : Fin 512) : Fin 512 := ⟨512 * (0) + j, by have := points t; omega⟩

theorem product_at (a : Vec Ideal S1024x1024 .bf16) (b : Vec Ideal S1024x512 .bf16) (i : Fin 1024) (j : Fin 512) :
    k0_pay1 (F := Ideal) a b (ix2 i j) = ∑ k : Fin 1024, a (ix2 i k) * b (ix2 k j) := by
  pointwise [k0_pay1]

theorem out_eq (a : Vec Ideal S1024x1024 .bf16) (b : Vec Ideal S1024x512 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

variable (m : (ℓ : Loc nD τ sig) → Buf (Elt Ideal) ℓ) (c : Dev nD) (t : Fin cfg0.N)

theorem a_block (i : Fin 1024) (k : Fin 1024) : iblk m c 0 t (ix2 i k) = (m ((c.tc : Thread nD τ).loc main_arg0)) (ix2 (row t i) k) := by
  blk_ext [iblk, V, idx0 t, row]

theorem w_block (k : Fin 1024) (j : Fin 512) : iblk m c 1 t (ix2 k j) = (m ((c.tc : Thread nD τ).loc main_arg1)) (ix2 k (col t j)) := by
  blk_ext [iblk, V, idx1 t, col]

theorem emb2 (y : S1024x512.Idx) : (win0_2.blk t).view.emb y = ix2 (row t (y 0)) (col t (y 1)) := by
  blk_ext [idx2 t, row, col]

theorem array : (dats m 0 c).arrAt 2 cfg0.N =
    fun y : S4096x512.Idx => kvProduct (m ((c.tc : Thread nD τ).loc main_arg0)) (m ((c.tc : Thread nD τ).loc main_arg1)) (y 0) (y 1) := by
  refine (dats m 0 c).arrAt_eq_of_covers 2 _ (by decide +kernel) fun t hf y => ?_
  blk_simp
  rw [emb2, after0_2, out_eq]
  refine (congrArg _ (eq_ix2 y)).trans ((product_at _ _ _ _).trans ?_)
  exact Finset.sum_congr rfl fun k _ => congrArg₂ (· * ·) (a_block m c t _ _) (w_block m c t _ _)

end Cert.KvFwdIdeal.Ffn

namespace Cert.KvFwdRefIdeal.Ffn

open Cert.KvFwdRefIdeal Cert.KvFwdRefIdeal.Gen Idealize.ShloMosaic Idealize.ShloMosaic.TcCoe Idealize.SL.Sem
open _root_.Ffn (kvProduct)

theorem product_at (a : FVec Ideal S4096x1024 .bf16) (w : FVec Ideal S1024x512 .bf16) (r : Fin 4096) (f : Fin 512) :
    (Host.dotGeneral dot_S4096x1024_S1024x512_S4096x512_1_0_0_1_n_n none (extf .f32 a bitsLt_bf16_f32) (extf .f32 w bitsLt_bf16_f32) :
      FVec Ideal S4096x512 .f32) (ix2 r f) = kvProduct a w r f := by
  unfold kvProduct
  pointwise []

end Cert.KvFwdRefIdeal.Ffn

namespace Cert.Proof

open Idealize.ShloMosaic Idealize.SL.Sem

attribute [local instance] Cert.KvFwd.Gen.facts Cert.KvFwdIdeal.Gen.facts Cert.KvFwdRefIdeal.Gen.facts

theorem frame_kvFwd : Cert.quiescent_KvFwd := fun m ρ _ => Cert.KvFwd.Gen.frame m ρ
theorem frame_kvFwdIdeal : Cert.quiescent_KvFwdIdeal := fun m ρ _ => Cert.KvFwdIdeal.Gen.frame m ρ

theorem frame_kvFwdRefIdeal : Cert.quiescent_KvFwdRefIdeal := fun m ρ _ =>
  (θ_run Cert.KvFwdRefIdeal.defs _ _).mono
    (fun r hr => ⟨fun c => (hr c).2, sem_eq_zero_of_no_sems (by decide) r.2⟩) (Cert.KvFwdRefIdeal.Value.run m ρ)

theorem preserves_kvFwd : Cert.preserves_KvFwd_KvFwdIdeal := trivial

/-- Kernel and reference end with the same keys and values. -/
theorem algebraic_kvFwd : Cert.algebraic_KvFwdIdeal_KvFwdRefIdeal := by
  intro m g m' g' _ hargs
  refine ⟨fun c y => _root_.Ffn.kvProduct (m ((c.tc : Thread Cert.KvFwdIdeal.nD Cert.KvFwdIdeal.τ).loc Cert.KvFwdIdeal.main_arg0)) (m ((c.tc : Thread Cert.KvFwdIdeal.nD Cert.KvFwdIdeal.τ).loc Cert.KvFwdIdeal.main_arg1)) (y 0) (y 1), ?_, ?_⟩
  · exact (θ_run Cert.KvFwdIdeal.defs _ _).mono (fun r hr c => ⟨(hr c).1.trans (Cert.KvFwdIdeal.Ffn.array m c), (hr c).2⟩) (Cert.KvFwdIdeal.Value.run_blocks m g)
  · refine (θ_run Cert.KvFwdRefIdeal.defs _ _).mono (fun r hr c => ⟨(hr c).1.trans ?_, (hr c).2⟩) (Cert.KvFwdRefIdeal.Value.run m' g')
    refine funext fun y => (congrArg _ (eq_ix2 y)).trans ((Cert.KvFwdRefIdeal.Ffn.product_at _ _ (y 0) (y 1)).trans ?_)
    rw [(hargs c).1, (hargs c).2]

end Cert.Proof

end
-- ==== Proof.GatesFwd.lean ====
/- The RG-LRU's gate products against the reference's. -/
module

public import proofs.«01_k».proof.Defs
public import proofs.«01_k».proof.Proof.Gen.GatesFwd.Frame
public import proofs.«01_k».proof.Proof.Gen.GatesFwdIdeal.Frame
public import proofs.«01_k».proof.Proof.Gen.GatesFwdIdeal.Value
public import proofs.«01_k».proof.Proof.Gen.GatesFwdRefIdeal.Run
public import Idealize.ShloMosaic.Lib.Pipeline.ValueKit
public import Idealize.ShloMosaic.Lib.Pointwise

@[expose] public section

set_option maxRecDepth 16384

noncomputable section

namespace Ffn

open Idealize.ShloMosaic

/-- The gate products: each row of the convolved input against each column of the two gates' weights side by side. -/
def gatesProduct (a : (⟨2, ![4096, 768]⟩ : Shape).Idx → EReal) (w : (⟨2, ![768, 1536]⟩ : Shape).Idx → EReal) (r : Fin 4096) (f : Fin 1536) : EReal :=
  ∑ k : Fin 768, a (ix2 r k) * w (ix2 k f)

end Ffn

namespace Cert.GatesFwdIdeal.Ffn

open Cert.GatesFwdIdeal Cert.GatesFwdIdeal.Gen Idealize.ShloMosaic Idealize.ShloMosaic.TcCoe Idealize.SL.Sem
open _root_.Ffn (gatesProduct)

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

theorem points (t : Fin cfg0.N) : t.val < 8 := t.isLt

/-- Row `i` of a grid point's row block, and column `j` of its column block. -/
def row (t : Fin cfg0.N) (i : Fin 1024) : Fin 4096 := ⟨1024 * (t.val / 2) + i, by have := points t; omega⟩
def col (t : Fin cfg0.N) (j : Fin 768) : Fin 1536 := ⟨768 * (t.val % 2) + j, by have := points t; omega⟩

theorem product_at (a : Vec Ideal S1024x768 .f32) (b : Vec Ideal S768x768 .bf16) (i : Fin 1024) (j : Fin 768) :
    k0_pay1 (F := Ideal) a b (ix2 i j) = ∑ k : Fin 768, a (ix2 i k) * b (ix2 k j) := by
  pointwise [k0_pay1]

theorem out_eq (a : Vec Ideal S1024x768 .f32) (b : Vec Ideal S768x768 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

variable (m : (ℓ : Loc nD τ sig) → Buf (Elt Ideal) ℓ) (c : Dev nD) (t : Fin cfg0.N)

theorem a_block (i : Fin 1024) (k : Fin 768) : iblk m c 0 t (ix2 i k) = (m ((c.tc : Thread nD τ).loc main_arg0)) (ix2 (row t i) k) := by
  blk_ext [iblk, V, idx0 t, row]

theorem w_block (k : Fin 768) (j : Fin 768) : iblk m c 1 t (ix2 k j) = (m ((c.tc : Thread nD τ).loc main_arg1)) (ix2 k (col t j)) := by
  blk_ext [iblk, V, idx1 t, col]

theorem emb2 (y : S1024x768.Idx) : (win0_2.blk t).view.emb y = ix2 (row t (y 0)) (col t (y 1)) := by
  blk_ext [idx2 t, row, col]

theorem array : (dats m 0 c).arrAt 2 cfg0.N =
    fun y : S4096x1536.Idx => gatesProduct (m ((c.tc : Thread nD τ).loc main_arg0)) (m ((c.tc : Thread nD τ).loc main_arg1)) (y 0) (y 1) := by
  refine (dats m 0 c).arrAt_eq_of_covers 2 _ (by decide +kernel) fun t hf y => ?_
  blk_simp
  rw [emb2, after0_2, out_eq]
  refine (congrArg _ (eq_ix2 y)).trans ((product_at _ _ _ _).trans ?_)
  exact Finset.sum_congr rfl fun k _ => congrArg₂ (· * ·) (a_block m c t _ _) (w_block m c t _ _)

end Cert.GatesFwdIdeal.Ffn

namespace Cert.GatesFwdRefIdeal.Ffn

open Cert.GatesFwdRefIdeal Cert.GatesFwdRefIdeal.Gen Idealize.ShloMosaic Idealize.ShloMosaic.TcCoe Idealize.SL.Sem
open _root_.Ffn (gatesProduct)

/-- The two gates' products, each with its half of the weights. -/
def first (a : FVec Ideal S4096x768 .f32) (w : FVec Ideal S768x1536 .bf16) : FVec Ideal S4096x768 .f32 :=
  (Host.dotGeneral dot_S4096x768_S768x768_S4096x768_1_0_0_1_n_n none a (extractStridedSlice S768x768 ![0, 0] (extf .f32 w bitsLt_bf16_f32) slices_S768x1536_S768x768_0_0) : FVec Ideal S4096x768 .f32)
def second (a : FVec Ideal S4096x768 .f32) (w : FVec Ideal S768x1536 .bf16) : FVec Ideal S4096x768 .f32 :=
  (Host.dotGeneral dot_S4096x768_S768x768_S4096x768_1_0_0_1_n_n none a (extractStridedSlice S768x768 ![0, 768] (extf .f32 w bitsLt_bf16_f32) slices_S768x1536_S768x768_0_768) : FVec Ideal S4096x768 .f32)

theorem first_at (a : FVec Ideal S4096x768 .f32) (w : FVec Ideal S768x1536 .bf16) (r : Fin 4096) (f : Fin 768) :
    first a w (ix2 r f) = gatesProduct a w r ⟨f, by omega⟩ := by
  unfold first gatesProduct
  pointwise []

theorem second_at (a : FVec Ideal S4096x768 .f32) (w : FVec Ideal S768x1536 .bf16) (r : Fin 4096) (f : Fin 768) :
    second a w (ix2 r f) = gatesProduct a w r ⟨768 + f, by omega⟩ := by
  unfold second gatesProduct
  pointwise []

theorem concat_at (u v : FVec Ideal S4096x768 .f32) (r : Fin 4096) (f : Fin 1536) :
    (concatenate S4096x1536 1 [⟨S4096x768, u⟩, ⟨S4096x768, v⟩] concatenates_S4096x768_S4096x768_S4096x1536_d1 :
      FVec Ideal S4096x1536 .f32) (ix2 r f) = if h : f.val < 768 then u (ix2 r ⟨f, h⟩) else v (ix2 r ⟨f - 768, by omega⟩) := by
  pointwise []

theorem product_at (a : FVec Ideal S4096x768 .f32) (w : FVec Ideal S768x1536 .bf16) (r : Fin 4096) (f : Fin 1536) :
    (concatenate S4096x1536 1 [⟨S4096x768, first a w⟩, ⟨S4096x768, second a w⟩] concatenates_S4096x768_S4096x768_S4096x1536_d1 :
      FVec Ideal S4096x1536 .f32) (ix2 r f) = gatesProduct a w r f := by
  refine (concat_at _ _ r f).trans ?_
  by_cases h : f.val < 768
  · rw [dif_pos h, first_at]
  · rw [dif_neg h, second_at]
    exact congrArg (gatesProduct a w r) (Fin.ext (by simp only []; omega))

end Cert.GatesFwdRefIdeal.Ffn

namespace Cert.Proof

open Idealize.ShloMosaic Idealize.SL.Sem

attribute [local instance] Cert.GatesFwd.Gen.facts Cert.GatesFwdIdeal.Gen.facts Cert.GatesFwdRefIdeal.Gen.facts

theorem frame_gatesFwd : Cert.quiescent_GatesFwd := fun m ρ _ => Cert.GatesFwd.Gen.frame m ρ
theorem frame_gatesFwdIdeal : Cert.quiescent_GatesFwdIdeal := fun m ρ _ => Cert.GatesFwdIdeal.Gen.frame m ρ

theorem frame_gatesFwdRefIdeal : Cert.quiescent_GatesFwdRefIdeal := fun m ρ _ =>
  (θ_run Cert.GatesFwdRefIdeal.defs _ _).mono
    (fun r hr => ⟨fun c => (hr c).2, sem_eq_zero_of_no_sems (by decide) r.2⟩) (Cert.GatesFwdRefIdeal.Value.run m ρ)

theorem preserves_gatesFwd : Cert.preserves_GatesFwd_GatesFwdIdeal := trivial

/-- Kernel and reference end with the same gates. -/
theorem algebraic_gatesFwd : Cert.algebraic_GatesFwdIdeal_GatesFwdRefIdeal := by
  intro m g m' g' _ hargs
  refine ⟨fun c y => _root_.Ffn.gatesProduct (m ((c.tc : Thread Cert.GatesFwdIdeal.nD Cert.GatesFwdIdeal.τ).loc Cert.GatesFwdIdeal.main_arg0)) (m ((c.tc : Thread Cert.GatesFwdIdeal.nD Cert.GatesFwdIdeal.τ).loc Cert.GatesFwdIdeal.main_arg1)) (y 0) (y 1), ?_, ?_⟩
  · exact (θ_run Cert.GatesFwdIdeal.defs _ _).mono (fun r hr c => ⟨(hr c).1.trans (Cert.GatesFwdIdeal.Ffn.array m c), (hr c).2⟩) (Cert.GatesFwdIdeal.Value.run_blocks m g)
  · refine (θ_run Cert.GatesFwdRefIdeal.defs _ _).mono (fun r hr c => ⟨(hr c).1.trans ?_, (hr c).2⟩) (Cert.GatesFwdRefIdeal.Value.run m' g')
    refine funext fun y => (congrArg _ (eq_ix2 y)).trans ((Cert.GatesFwdRefIdeal.Ffn.product_at _ _ (y 0) (y 1)).trans ?_)
    rw [(hargs c).1, (hargs c).2]

end Cert.Proof

end
-- ==== Proof.InB.lean ====
/- The second kind of layer's input projection against the reference's. -/
module

public import proofs.«01_k».proof.Defs
public import proofs.«01_k».proof.Proof.Gen.InB.Frame
public import proofs.«01_k».proof.Proof.Gen.InBIdeal.Frame
public import proofs.«01_k».proof.Proof.Gen.InBIdeal.Value
public import proofs.«01_k».proof.Proof.Gen.InBRefIdeal.Run
public import Idealize.ShloMosaic.Lib.Pipeline.ValueKit
public import Idealize.ShloMosaic.Lib.Pointwise

@[expose] public section

set_option maxRecDepth 16384

noncomputable section

namespace Ffn

open Idealize.ShloMosaic

/-- The input projection: each row of the normed input against each column of the weight. -/
def inBProduct (a : (⟨2, ![4096, 1024]⟩ : Shape).Idx → EReal) (w : (⟨2, ![1024, 1024]⟩ : Shape).Idx → EReal) (r : Fin 4096) (f : Fin 1024) : EReal :=
  ∑ k : Fin 1024, a (ix2 r k) * w (ix2 k f)

end Ffn

namespace Cert.InBIdeal.Ffn

open Cert.InBIdeal Cert.InBIdeal.Gen Idealize.ShloMosaic Idealize.ShloMosaic.TcCoe Idealize.SL.Sem
open _root_.Ffn (inBProduct)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem points (t : Fin cfg0.N) : t.val < 4 := t.isLt

/-- Row `i` of a grid point's row block, and column `j` of its column block. -/
def row (t : Fin cfg0.N) (i : Fin 1024) : Fin 4096 := ⟨1024 * (t.val) + i, by have := points t; omega⟩
def col (t : Fin cfg0.N) (j : Fin 1024) : Fin 1024 := ⟨1024 * (0) + j, by have := points t; omega⟩

theorem product_at (a : Vec Ideal S1024x1024 .bf16) (b : Vec Ideal S1024x1024 .bf16) (i : Fin 1024) (j : Fin 1024) :
    k0_pay1 (F := Ideal) a b (ix2 i j) = ∑ k : Fin 1024, a (ix2 i k) * b (ix2 k j) := by
  pointwise [k0_pay1]

theorem out_eq (a : Vec Ideal S1024x1024 .bf16) (b : Vec Ideal S1024x1024 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

variable (m : (ℓ : Loc nD τ sig) → Buf (Elt Ideal) ℓ) (c : Dev nD) (t : Fin cfg0.N)

theorem a_block (i : Fin 1024) (k : Fin 1024) : iblk m c 0 t (ix2 i k) = (m ((c.tc : Thread nD τ).loc main_arg0)) (ix2 (row t i) k) := by
  blk_ext [iblk, V, idx0 t, row]

theorem w_block (k : Fin 1024) (j : Fin 1024) : iblk m c 1 t (ix2 k j) = (m ((c.tc : Thread nD τ).loc main_arg1)) (ix2 k (col t j)) := by
  blk_ext [iblk, V, idx1 t, col]

theorem emb2 (y : S1024x1024.Idx) : (win0_2.blk t).view.emb y = ix2 (row t (y 0)) (col t (y 1)) := by
  blk_ext [idx2 t, row, col]

theorem array : (dats m 0 c).arrAt 2 cfg0.N =
    fun y : S4096x1024.Idx => inBProduct (m ((c.tc : Thread nD τ).loc main_arg0)) (m ((c.tc : Thread nD τ).loc main_arg1)) (y 0) (y 1) := by
  refine (dats m 0 c).arrAt_eq_of_covers 2 _ (by decide +kernel) fun t hf y => ?_
  blk_simp
  rw [emb2, after0_2, out_eq]
  refine (congrArg _ (eq_ix2 y)).trans ((product_at _ _ _ _).trans ?_)
  exact Finset.sum_congr rfl fun k _ => congrArg₂ (· * ·) (a_block m c t _ _) (w_block m c t _ _)

end Cert.InBIdeal.Ffn

namespace Cert.InBRefIdeal.Ffn

open Cert.InBRefIdeal Cert.InBRefIdeal.Gen Idealize.ShloMosaic Idealize.ShloMosaic.TcCoe Idealize.SL.Sem
open _root_.Ffn (inBProduct)

theorem product_at (a : FVec Ideal S4096x1024 .bf16) (w : FVec Ideal S1024x1024 .bf16) (r : Fin 4096) (f : Fin 1024) :
    (Host.dotGeneral dot_S4096x1024_S1024x1024_S4096x1024_1_0_0_1_n_n none (extf .f32 a bitsLt_bf16_f32) (extf .f32 w bitsLt_bf16_f32) :
      FVec Ideal S4096x1024 .f32) (ix2 r f) = inBProduct a w r f := by
  unfold inBProduct
  pointwise []

end Cert.InBRefIdeal.Ffn

namespace Cert.Proof

open Idealize.ShloMosaic Idealize.SL.Sem

attribute [local instance] Cert.InB.Gen.facts Cert.InBIdeal.Gen.facts Cert.InBRefIdeal.Gen.facts

theorem frame_inB : Cert.quiescent_InB := fun m ρ _ => Cert.InB.Gen.frame m ρ
theorem frame_inBIdeal : Cert.quiescent_InBIdeal := fun m ρ _ => Cert.InBIdeal.Gen.frame m ρ

theorem frame_inBRefIdeal : Cert.quiescent_InBRefIdeal := fun m ρ _ =>
  (θ_run Cert.InBRefIdeal.defs _ _).mono
    (fun r hr => ⟨fun c => (hr c).2, sem_eq_zero_of_no_sems (by decide) r.2⟩) (Cert.InBRefIdeal.Value.run m ρ)

theorem preserves_inB : Cert.preserves_InB_InBIdeal := trivial

/-- Kernel and reference end with the same projected input. -/
theorem algebraic_inB : Cert.algebraic_InBIdeal_InBRefIdeal := by
  intro m g m' g' _ hargs
  refine ⟨fun c y => _root_.Ffn.inBProduct (m ((c.tc : Thread Cert.InBIdeal.nD Cert.InBIdeal.τ).loc Cert.InBIdeal.main_arg0)) (m ((c.tc : Thread Cert.InBIdeal.nD Cert.InBIdeal.τ).loc Cert.InBIdeal.main_arg1)) (y 0) (y 1), ?_, ?_⟩
  · exact (θ_run Cert.InBIdeal.defs _ _).mono (fun r hr c => ⟨(hr c).1.trans (Cert.InBIdeal.Ffn.array m c), (hr c).2⟩) (Cert.InBIdeal.Value.run_blocks m g)
  · refine (θ_run Cert.InBRefIdeal.defs _ _).mono (fun r hr c => ⟨(hr c).1.trans ?_, (hr c).2⟩) (Cert.InBRefIdeal.Value.run m' g')
    refine funext fun y => (congrArg _ (eq_ix2 y)).trans ((Cert.InBRefIdeal.Ffn.product_at _ _ (y 0) (y 1)).trans ?_)
    rw [(hargs c).1, (hargs c).2]

end Cert.Proof

end
-- ==== Proof.InA.lean ====
/- The first kind of layer's input projection against the reference's. -/
module

public import proofs.«01_k».proof.Defs
public import proofs.«01_k».proof.Proof.Gen.InA.Frame
public import proofs.«01_k».proof.Proof.Gen.InAIdeal.Frame
public import proofs.«01_k».proof.Proof.Gen.InAIdeal.Value
public import proofs.«01_k».proof.Proof.Gen.InARefIdeal.Run
public import Idealize.ShloMosaic.Lib.Pipeline.ValueKit
public import Idealize.ShloMosaic.Lib.Pointwise

@[expose] public section

set_option maxRecDepth 16384

noncomputable section

namespace Ffn

open Idealize.ShloMosaic

/-- The input projection: each row of the normed input against each row of the transposed weight. -/
def inAProduct (a : (⟨2, ![4096, 1024]⟩ : Shape).Idx → EReal) (w : (⟨2, ![1792, 1024]⟩ : Shape).Idx → EReal) (r : Fin 4096) (f : Fin 1792) : EReal :=
  ∑ k : Fin 1024, a (ix2 r k) * w (ix2 f k)

end Ffn

namespace Cert.InAIdeal.Ffn

open Cert.InAIdeal Cert.InAIdeal.Gen Idealize.ShloMosaic Idealize.ShloMosaic.TcCoe Idealize.SL.Sem
open _root_.Ffn (inAProduct)

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

theorem points (t : Fin cfg0.N) : t.val < 8 := t.isLt

/-- Row `i` of a grid point's row block, and column `j` of its column block. -/
def row (t : Fin cfg0.N) (i : Fin 1024) : Fin 4096 := ⟨1024 * (t.val / 2) + i, by have := points t; omega⟩
def col (t : Fin cfg0.N) (j : Fin 896) : Fin 1792 := ⟨896 * (t.val % 2) + j, by have := points t; omega⟩

theorem product_at (a : Vec Ideal S1024x1024 .bf16) (b : Vec Ideal S896x1024 .bf16) (i : Fin 1024) (j : Fin 896) :
    k0_pay1 (F := Ideal) a b (ix2 i j) = ∑ k : Fin 1024, a (ix2 i k) * b (ix2 j k) := by
  pointwise [k0_pay1]

theorem out_eq (a : Vec Ideal S1024x1024 .bf16) (b : Vec Ideal S896x1024 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

variable (m : (ℓ : Loc nD τ sig) → Buf (Elt Ideal) ℓ) (c : Dev nD) (t : Fin cfg0.N)

theorem a_block (i : Fin 1024) (k : Fin 1024) : iblk m c 0 t (ix2 i k) = (m ((c.tc : Thread nD τ).loc main_arg0)) (ix2 (row t i) k) := by
  blk_ext [iblk, V, idx0 t, row]

theorem w_block (k : Fin 1024) (j : Fin 896) : iblk m c 1 t (ix2 j k) = (m ((c.tc : Thread nD τ).loc main_arg1)) (ix2 (col t j) k) := by
  blk_ext [iblk, V, idx1 t, col]

theorem emb2 (y : S1024x896.Idx) : (win0_2.blk t).view.emb y = ix2 (row t (y 0)) (col t (y 1)) := by
  blk_ext [idx2 t, row, col]

theorem array : (dats m 0 c).arrAt 2 cfg0.N =
    fun y : S4096x1792.Idx => inAProduct (m ((c.tc : Thread nD τ).loc main_arg0)) (m ((c.tc : Thread nD τ).loc main_arg1)) (y 0) (y 1) := by
  refine (dats m 0 c).arrAt_eq_of_covers 2 _ (by decide +kernel) fun t hf y => ?_
  blk_simp
  rw [emb2, after0_2, out_eq]
  refine (congrArg _ (eq_ix2 y)).trans ((product_at _ _ _ _).trans ?_)
  exact Finset.sum_congr rfl fun k _ => congrArg₂ (· * ·) (a_block m c t _ _) (w_block m c t _ _)

end Cert.InAIdeal.Ffn

namespace Cert.InARefIdeal.Ffn

open Cert.InARefIdeal Cert.InARefIdeal.Gen Idealize.ShloMosaic Idealize.ShloMosaic.TcCoe Idealize.SL.Sem
open _root_.Ffn (inAProduct)

theorem product_at (a : FVec Ideal S4096x1024 .bf16) (w : FVec Ideal S1792x1024 .bf16) (r : Fin 4096) (f : Fin 1792) :
    (Host.dotGeneral dot_S4096x1024_S1024x1792_S4096x1792_1_0_0_1_n_n none (extf .f32 a bitsLt_bf16_f32) (extf .f32 (transpose S1024x1792 [1, 0] w transposes_S1792x1024_S1024x1792_1_0) bitsLt_bf16_f32) :
      FVec Ideal S4096x1792 .f32) (ix2 r f) = inAProduct a w r f := by
  unfold inAProduct
  pointwise []

end Cert.InARefIdeal.Ffn

namespace Cert.Proof

open Idealize.ShloMosaic Idealize.SL.Sem

attribute [local instance] Cert.InA.Gen.facts Cert.InAIdeal.Gen.facts Cert.InARefIdeal.Gen.facts

theorem frame_inA : Cert.quiescent_InA := fun m ρ _ => Cert.InA.Gen.frame m ρ
theorem frame_inAIdeal : Cert.quiescent_InAIdeal := fun m ρ _ => Cert.InAIdeal.Gen.frame m ρ

theorem frame_inARefIdeal : Cert.quiescent_InARefIdeal := fun m ρ _ =>
  (θ_run Cert.InARefIdeal.defs _ _).mono
    (fun r hr => ⟨fun c => (hr c).2, sem_eq_zero_of_no_sems (by decide) r.2⟩) (Cert.InARefIdeal.Value.run m ρ)

theorem preserves_inA : Cert.preserves_InA_InAIdeal := trivial

/-- Kernel and reference end with the same projected input. -/
theorem algebraic_inA : Cert.algebraic_InAIdeal_InARefIdeal := by
  intro m g m' g' _ hargs
  refine ⟨fun c y => _root_.Ffn.inAProduct (m ((c.tc : Thread Cert.InAIdeal.nD Cert.InAIdeal.τ).loc Cert.InAIdeal.main_arg0)) (m ((c.tc : Thread Cert.InAIdeal.nD Cert.InAIdeal.τ).loc Cert.InAIdeal.main_arg1)) (y 0) (y 1), ?_, ?_⟩
  · exact (θ_run Cert.InAIdeal.defs _ _).mono (fun r hr c => ⟨(hr c).1.trans (Cert.InAIdeal.Ffn.array m c), (hr c).2⟩) (Cert.InAIdeal.Value.run_blocks m g)
  · refine (θ_run Cert.InARefIdeal.defs _ _).mono (fun r hr c => ⟨(hr c).1.trans ?_, (hr c).2⟩) (Cert.InARefIdeal.Value.run m' g')
    refine funext fun y => (congrArg _ (eq_ix2 y)).trans ((Cert.InARefIdeal.Ffn.product_at _ _ (y 0) (y 1)).trans ?_)
    rw [(hargs c).1, (hargs c).2]

end Cert.Proof

end
-- ==== Proof.Mixout.lean ====
/- The mixing layers' output projection, from the main and the memory part of its input, against the reference's. -/
module

public import proofs.«01_k».proof.Defs
public import proofs.«01_k».proof.Proof.Gen.Mixout.Frame
public import proofs.«01_k».proof.Proof.Gen.MixoutIdeal.Frame
public import proofs.«01_k».proof.Proof.Gen.MixoutIdeal.Value
public import proofs.«01_k».proof.Proof.Gen.MixoutRefIdeal.Run
public import Idealize.ShloMosaic.Lib.Pipeline.ValueKit
public import Idealize.ShloMosaic.Lib.Pointwise

@[expose] public section

set_option maxRecDepth 16384

noncomputable section

namespace Ffn

open Idealize.ShloMosaic

/-- A row of each part of the projection. -/
def partRowMain (f : Fin 768) : Fin 1024 := ⟨f, by omega⟩
def partRowMem (f : Fin 256) : Fin 1024 := ⟨768 + f, by omega⟩

/-- The output projection: each part of the input against its rows of the weight. -/
def mixoutProduct (a : (⟨2, ![4096, 768]⟩ : Shape).Idx → EReal) (b : (⟨2, ![4096, 256]⟩ : Shape).Idx → EReal) (w : (⟨2, ![1024, 1024]⟩ : Shape).Idx → EReal) (r : Fin 4096) (d : Fin 1024) : EReal :=
  (∑ k : Fin 768, a (ix2 r k) * w (ix2 (partRowMain k) d)) + ∑ k : Fin 256, b (ix2 r k) * w (ix2 (partRowMem k) d)

end Ffn

namespace Cert.MixoutIdeal.Ffn

open Cert.MixoutIdeal Cert.MixoutIdeal.Gen Idealize.ShloMosaic Idealize.ShloMosaic.TcCoe Idealize.SL.Sem
open _root_.Ffn (mixoutProduct partRowMain partRowMem)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![3, 0] := (by decide +kernel : ∀ t : Fin grid0.N, _)
theorem idx4 : ∀ t : Fin cfg0.N, win0_4.index t = ![t.val, 0] := (by decide +kernel : ∀ t : Fin grid0.N, _)

theorem points (t : Fin cfg0.N) : t.val < 4 := t.isLt

/-- Row `i` of a grid point's row block. -/
def row (t : Fin cfg0.N) (i : Fin 1024) : Fin 4096 := ⟨1024 * t.val + i, by have := points t; omega⟩

theorem product_at (a : Vec Ideal S1024x768 .bf16) (w : Vec Ideal S768x1024 .bf16) (b : Vec Ideal S1024x256 .bf16) (w' : Vec Ideal S256x1024 .bf16) (i j : Fin 1024) :
    k0_pay1 (F := Ideal) a w b w' (ix2 i j) = (∑ k : Fin 768, a (ix2 i k) * w (ix2 k j)) + ∑ k : Fin 256, b (ix2 i k) * w' (ix2 k j) := by
  pointwise [k0_pay1]

theorem product_congr {a a' : Vec Ideal S1024x768 .bf16} {w w' : Vec Ideal S768x1024 .bf16} {b b' : Vec Ideal S1024x256 .bf16} {v v' : Vec Ideal S256x1024 .bf16}
    (ha : a = a') (hw : w = w') (hb : b = b') (hv : v = v') : k0_pay1 (F := Ideal) a w b v = k0_pay1 a' w' b' v' := by
  subst ha hw hb hv
  rfl

variable (m : (ℓ : Loc nD τ sig) → Buf (Elt Ideal) ℓ) (c : Dev nD) (t : Fin cfg0.N)

theorem out_eq : outsAt0 m c t = k0_pay1 (F := Ideal) (iblk m c 0 t) (X0_2 m c t) (iblk m c 1 t) (iblk m c 3 t) := by
  unfold outsAt0 out0_A_4
  rw [View.read_writes_eq_canon _ _ _ (cover0_A_4 c _ _ _ _ _ _ _ _ _ _ _ _ _ _ _)]
  refine (View.canon_unit_zero (by funext a; fin_cases a <;> rfl) _ _).trans ?_
  refine product_congr ?_ ?_ ?_ ?_
  · exact (congrArg (fun x => View.ld x _) ((hs0_0 t).read_unread _)).trans (View.ld_unit_zero (by funext a; fin_cases a <;> rfl) _ _)
  · exact (congrArg (fun x => View.ld x _) ((hs0_2 t).read_unread _)).trans (View.ld_unit_zero (by funext a; fin_cases a <;> rfl) _ _)
  · exact (congrArg (fun x => View.ld x _) ((hs0_1 t).read_unread _)).trans (View.ld_unit_zero (by funext a; fin_cases a <;> rfl) _ _)
  · exact (congrArg (fun x => View.ld x _) ((hs0_3 t).read_unread _)).trans (View.ld_unit_zero (by funext a; fin_cases a <;> rfl) _ _)

theorem a_block (i : Fin 1024) (k : Fin 768) : iblk m c 0 t (ix2 i k) = (m ((c.tc : Thread nD τ).loc main_arg0)) (ix2 (row t i) k) := by
  blk_ext [iblk, V, idx0 t, row]

theorem b_block (i : Fin 1024) (k : Fin 256) : iblk m c 1 t (ix2 i k) = (m ((c.tc : Thread nD τ).loc main_arg1)) (ix2 (row t i) k) := by
  blk_ext [iblk, V, idx1 t, row]

theorem w_block0 (k : Fin 768) (j : Fin 1024) : X0_2 m c t (ix2 k j) = (m ((c.tc : Thread nD τ).loc main_arg2)) (ix2 (partRowMain k) j) := by
  unfold X0_2 Pipeline.Window.fill
  rw [dif_pos (moved0_2 t _)]
  blk_ext [iblk, V, idx2 t, partRowMain]

theorem w_block1 (k : Fin 256) (j : Fin 1024) : iblk m c 3 t (ix2 k j) = (m ((c.tc : Thread nD τ).loc main_arg2)) (ix2 (partRowMem k) j) := by
  blk_ext [iblk, V, idx3 t, partRowMem]

theorem emb4 (y : S1024x1024.Idx) : (win0_4.blk t).view.emb y = ix2 (row t (y 0)) (y 1) := by
  blk_ext [idx4 t, row]

theorem array : (dats m 0 c).arrAt 4 cfg0.N = fun y : S4096x1024.Idx => mixoutProduct (m ((c.tc : Thread nD τ).loc main_arg0))
    (m ((c.tc : Thread nD τ).loc main_arg1)) (m ((c.tc : Thread nD τ).loc main_arg2)) (y 0) (y 1) := by
  refine (dats m 0 c).arrAt_eq_of_covers 4 _ (by decide +kernel) fun t hf y => ?_
  blk_simp
  rw [emb4, after0_4, out_eq]
  refine (congrArg _ (eq_ix2 y)).trans ((product_at _ _ _ _ _ _).trans ?_)
  exact congrArg₂ (· + ·)
    (Finset.sum_congr rfl fun k _ => congrArg₂ (· * ·) (a_block m c t _ _) (w_block0 m c t _ _))
    (Finset.sum_congr rfl fun k _ => congrArg₂ (· * ·) (b_block m c t _ _) (w_block1 m c t _ _))

end Cert.MixoutIdeal.Ffn

namespace Cert.MixoutRefIdeal.Ffn

open Cert.MixoutRefIdeal Cert.MixoutRefIdeal.Gen Idealize.ShloMosaic Idealize.ShloMosaic.TcCoe Idealize.SL.Sem
open _root_.Ffn (mixoutProduct partRowMain partRowMem)

/-- The two parts of the input side by side. -/
def both (a : FVec Ideal S4096x768 .bf16) (b : FVec Ideal S4096x256 .bf16) : FVec Ideal S4096x1024 .f32 :=
  concatenate S4096x1024 1 [⟨S4096x768, (extf .f32 a bitsLt_bf16_f32)⟩, ⟨S4096x256, (extf .f32 b bitsLt_bf16_f32)⟩] concatenates_S4096x768_S4096x256_S4096x1024_d1

theorem both_at (a : FVec Ideal S4096x768 .bf16) (b : FVec Ideal S4096x256 .bf16) (r : Fin 4096) (f : Fin 1024) :
    both a b (ix2 r f) = if h : f.val < 768 then a (ix2 r ⟨f, h⟩) else b (ix2 r ⟨f - 768, by omega⟩) := by
  unfold both
  pointwise []

theorem dot_at (u : FVec Ideal S4096x1024 .f32) (w : FVec Ideal S1024x1024 .bf16) (r : Fin 4096) (d : Fin 1024) :
    (Host.dotGeneral dot_S4096x1024_S1024x1024_S4096x1024_1_0_0_1_n_n none u (extf .f32 w bitsLt_bf16_f32) : FVec Ideal S4096x1024 .f32) (ix2 r d)
      = ∑ k : Fin 1024, u (ix2 r k) * w (ix2 k d) := by
  pointwise []

theorem product_at (a : FVec Ideal S4096x768 .bf16) (b : FVec Ideal S4096x256 .bf16) (w : FVec Ideal S1024x1024 .bf16) (r : Fin 4096) (d : Fin 1024) :
    (Host.dotGeneral dot_S4096x1024_S1024x1024_S4096x1024_1_0_0_1_n_n none (both a b) (extf .f32 w bitsLt_bf16_f32) :
      FVec Ideal S4096x1024 .f32) (ix2 r d) = mixoutProduct a b w r d := by
  refine (dot_at _ w r d).trans ((Fin.sum_univ_add (a := 768) (b := 256) _).trans ?_)
  unfold mixoutProduct
  refine congrArg₂ (· + ·) (Finset.sum_congr rfl fun k _ => congrArg (· * _) ?_) (Finset.sum_congr rfl fun k _ => congrArg (· * _) ?_)
  · exact (both_at a b r _).trans (dif_pos k.isLt)
  · refine (both_at a b r _).trans ((dif_neg (show ¬768 + k.val < 768 by omega)).trans ?_)
    exact congrArg (fun f => b (ix2 r f)) (Fin.ext (show 768 + k.val - 768 = k.val by omega))

end Cert.MixoutRefIdeal.Ffn

namespace Cert.Proof

open Idealize.ShloMosaic Idealize.SL.Sem

attribute [local instance] Cert.Mixout.Gen.facts Cert.MixoutIdeal.Gen.facts Cert.MixoutRefIdeal.Gen.facts

theorem frame_mixout : Cert.quiescent_Mixout := fun m ρ _ => Cert.Mixout.Gen.frame m ρ
theorem frame_mixoutIdeal : Cert.quiescent_MixoutIdeal := fun m ρ _ => Cert.MixoutIdeal.Gen.frame m ρ

theorem frame_mixoutRefIdeal : Cert.quiescent_MixoutRefIdeal := fun m ρ _ =>
  (θ_run Cert.MixoutRefIdeal.defs _ _).mono
    (fun r hr => ⟨fun c => (hr c).2, sem_eq_zero_of_no_sems (by decide) r.2⟩) (Cert.MixoutRefIdeal.Value.run m ρ)

theorem preserves_mixout : Cert.preserves_Mixout_MixoutIdeal := trivial

/-- Kernel and reference end with the same output projection. -/
theorem algebraic_mixout : Cert.algebraic_MixoutIdeal_MixoutRefIdeal := by
  intro m g m' g' _ hargs
  refine ⟨fun c y => _root_.Ffn.mixoutProduct (m ((c.tc : Thread Cert.MixoutIdeal.nD Cert.MixoutIdeal.τ).loc Cert.MixoutIdeal.main_arg0)) (m ((c.tc : Thread Cert.MixoutIdeal.nD Cert.MixoutIdeal.τ).loc Cert.MixoutIdeal.main_arg1)) (m ((c.tc : Thread Cert.MixoutIdeal.nD Cert.MixoutIdeal.τ).loc Cert.MixoutIdeal.main_arg2))
    (y 0) (y 1), ?_, ?_⟩
  · exact (θ_run Cert.MixoutIdeal.defs _ _).mono (fun r hr c => ⟨(hr c).1.trans (Cert.MixoutIdeal.Ffn.array m c), (hr c).2⟩) (Cert.MixoutIdeal.Value.run_blocks m g)
  · refine (θ_run Cert.MixoutRefIdeal.defs _ _).mono (fun r hr c => ⟨(hr c).1.trans ?_, (hr c).2⟩) (Cert.MixoutRefIdeal.Value.run m' g')
    refine funext fun y => (congrArg _ (eq_ix2 y)).trans ((Cert.MixoutRefIdeal.Ffn.product_at _ _ _ (y 0) (y 1)).trans ?_)
    rw [(hargs c).1, (hargs c).2.1, (hargs c).2.2]

end Cert.Proof

end
-- ==== Proof.Down.lean ====
/- The FFN's down projection against the reference's. -/
module

public import proofs.«01_k».proof.Defs
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import Idealize.ShloMosaic.Lib.Pipeline.ValueKit
public import Idealize.ShloMosaic.Lib.Pointwise

@[expose] public section

set_option maxRecDepth 16384

noncomputable section

namespace Ffn

open Idealize.ShloMosaic

/-- The down projection: each row of the gated activations against each column of the weight. -/
def downProduct (a : (⟨2, ![4096, 2816]⟩ : Shape).Idx → EReal) (w : (⟨2, ![2816, 1024]⟩ : Shape).Idx → EReal) (r : Fin 4096) (f : Fin 1024) : EReal :=
  ∑ k : Fin 2816, a (ix2 r k) * w (ix2 k f)

end Ffn

namespace Cert.DownIdeal.Ffn

open Cert.DownIdeal Cert.DownIdeal.Gen Idealize.ShloMosaic Idealize.ShloMosaic.TcCoe Idealize.SL.Sem
open _root_.Ffn (downProduct)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem points (t : Fin cfg0.N) : t.val < 4 := t.isLt

/-- Row `i` of a grid point's row block, and column `j` of its column block. -/
def row (t : Fin cfg0.N) (i : Fin 1024) : Fin 4096 := ⟨1024 * (t.val) + i, by have := points t; omega⟩
def col (t : Fin cfg0.N) (j : Fin 1024) : Fin 1024 := ⟨1024 * (0) + j, by have := points t; omega⟩

theorem product_at (a : Vec Ideal S1024x2816 .bf16) (b : Vec Ideal S2816x1024 .bf16) (i : Fin 1024) (j : Fin 1024) :
    k0_pay1 (F := Ideal) a b (ix2 i j) = ∑ k : Fin 2816, a (ix2 i k) * b (ix2 k j) := by
  pointwise [k0_pay1]

theorem out_eq (a : Vec Ideal S1024x2816 .bf16) (b : Vec Ideal S2816x1024 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

variable (m : (ℓ : Loc nD τ sig) → Buf (Elt Ideal) ℓ) (c : Dev nD) (t : Fin cfg0.N)

theorem a_block (i : Fin 1024) (k : Fin 2816) : iblk m c 0 t (ix2 i k) = (m ((c.tc : Thread nD τ).loc main_arg0)) (ix2 (row t i) k) := by
  blk_ext [iblk, V, idx0 t, row]

theorem w_block (k : Fin 2816) (j : Fin 1024) : iblk m c 1 t (ix2 k j) = (m ((c.tc : Thread nD τ).loc main_arg1)) (ix2 k (col t j)) := by
  blk_ext [iblk, V, idx1 t, col]

theorem emb2 (y : S1024x1024.Idx) : (win0_2.blk t).view.emb y = ix2 (row t (y 0)) (col t (y 1)) := by
  blk_ext [idx2 t, row, col]

theorem array : (dats m 0 c).arrAt 2 cfg0.N =
    fun y : S4096x1024.Idx => downProduct (m ((c.tc : Thread nD τ).loc main_arg0)) (m ((c.tc : Thread nD τ).loc main_arg1)) (y 0) (y 1) := by
  refine (dats m 0 c).arrAt_eq_of_covers 2 _ (by decide +kernel) fun t hf y => ?_
  blk_simp
  rw [emb2, after0_2, out_eq]
  refine (congrArg _ (eq_ix2 y)).trans ((product_at _ _ _ _).trans ?_)
  exact Finset.sum_congr rfl fun k _ => congrArg₂ (· * ·) (a_block m c t _ _) (w_block m c t _ _)

end Cert.DownIdeal.Ffn

namespace Cert.DownRefIdeal.Ffn

open Cert.DownRefIdeal Cert.DownRefIdeal.Gen Idealize.ShloMosaic Idealize.ShloMosaic.TcCoe Idealize.SL.Sem
open _root_.Ffn (downProduct)

theorem product_at (a : FVec Ideal S4096x2816 .bf16) (w : FVec Ideal S2816x1024 .bf16) (r : Fin 4096) (f : Fin 1024) :
    (Host.dotGeneral dot_S4096x2816_S2816x1024_S4096x1024_1_0_0_1_n_n none (extf .f32 a bitsLt_bf16_f32) (extf .f32 w bitsLt_bf16_f32) :
      FVec Ideal S4096x1024 .f32) (ix2 r f) = downProduct a w r f := by
  unfold downProduct
  pointwise []

end Cert.DownRefIdeal.Ffn

namespace Cert.Proof

open Idealize.ShloMosaic Idealize.SL.Sem

attribute [local instance] Cert.Down.Gen.facts Cert.DownIdeal.Gen.facts Cert.DownRefIdeal.Gen.facts

theorem frame_down : Cert.quiescent_Down := fun m ρ _ => Cert.Down.Gen.frame m ρ
theorem frame_downIdeal : Cert.quiescent_DownIdeal := fun m ρ _ => Cert.DownIdeal.Gen.frame m ρ

theorem frame_downRefIdeal : Cert.quiescent_DownRefIdeal := fun m ρ _ =>
  (θ_run Cert.DownRefIdeal.defs _ _).mono
    (fun r hr => ⟨fun c => (hr c).2, sem_eq_zero_of_no_sems (by decide) r.2⟩) (Cert.DownRefIdeal.Value.run m ρ)

theorem preserves_down : Cert.preserves_Down_DownIdeal := trivial

/-- Kernel and reference end with the same output of the FFN. -/
theorem algebraic_down : Cert.algebraic_DownIdeal_DownRefIdeal := by
  intro m g m' g' _ hargs
  refine ⟨fun c y => _root_.Ffn.downProduct (m ((c.tc : Thread Cert.DownIdeal.nD Cert.DownIdeal.τ).loc Cert.DownIdeal.main_arg0)) (m ((c.tc : Thread Cert.DownIdeal.nD Cert.DownIdeal.τ).loc Cert.DownIdeal.main_arg1)) (y 0) (y 1), ?_, ?_⟩
  · exact (θ_run Cert.DownIdeal.defs _ _).mono (fun r hr c => ⟨(hr c).1.trans (Cert.DownIdeal.Ffn.array m c), (hr c).2⟩) (Cert.DownIdeal.Value.run_blocks m g)
  · refine (θ_run Cert.DownRefIdeal.defs _ _).mono (fun r hr c => ⟨(hr c).1.trans ?_, (hr c).2⟩) (Cert.DownRefIdeal.Value.run m' g')
    refine funext fun y => (congrArg _ (eq_ix2 y)).trans ((Cert.DownRefIdeal.Ffn.product_at _ _ (y 0) (y 1)).trans ?_)
    rw [(hargs c).1, (hargs c).2]

end Cert.Proof

end
-- ==== Proof.Up.lean ====
/- The FFN's up projection against the reference's. -/
module

public import proofs.«01_k».proof.Defs
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import Idealize.ShloMosaic.Lib.Pipeline.ValueKit
public import Idealize.ShloMosaic.Lib.Pointwise

@[expose] public section

set_option maxRecDepth 16384

noncomputable section

namespace Ffn

open Idealize.ShloMosaic

/-- The up projection: each row of the normed input against each row of the transposed weight. -/
def upProduct (a : (⟨2, ![4096, 1024]⟩ : Shape).Idx → EReal) (w : (⟨2, ![5632, 1024]⟩ : Shape).Idx → EReal) (r : Fin 4096) (f : Fin 5632) : EReal :=
  ∑ k : Fin 1024, a (ix2 r k) * w (ix2 f k)

end Ffn

namespace Cert.UpIdeal.Ffn

open Cert.UpIdeal Cert.UpIdeal.Gen Idealize.ShloMosaic Idealize.ShloMosaic.TcCoe Idealize.SL.Sem
open _root_.Ffn (upProduct)

theorem idx0 : ∀ t : Fin cfg0.N, win0_0.index t = ![t.val / 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, t.val % 4] := (by decide +kernel : ∀ t : Fin grid0.N, _)

theorem points (t : Fin cfg0.N) : t.val < 16 := t.isLt

/-- Row `i` of a grid point's row block, and column `j` of its column block. -/
def row (t : Fin cfg0.N) (i : Fin 1024) : Fin 4096 := ⟨1024 * (t.val / 4) + i, by have := points t; omega⟩
def col (t : Fin cfg0.N) (j : Fin 1408) : Fin 5632 := ⟨1408 * (t.val % 4) + j, by have := points t; omega⟩

theorem product_at (a : Vec Ideal S1024x1024 .bf16) (b : Vec Ideal S1408x1024 .bf16) (i : Fin 1024) (j : Fin 1408) :
    k0_pay1 (F := Ideal) a b (ix2 i j) = ∑ k : Fin 1024, a (ix2 i k) * b (ix2 j k) := by
  pointwise [k0_pay1]

theorem out_eq (a : Vec Ideal S1024x1024 .bf16) (b : Vec Ideal S1408x1024 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

variable (m : (ℓ : Loc nD τ sig) → Buf (Elt Ideal) ℓ) (c : Dev nD) (t : Fin cfg0.N)

theorem a_block (i : Fin 1024) (k : Fin 1024) : iblk m c 0 t (ix2 i k) = (m ((c.tc : Thread nD τ).loc main_arg0)) (ix2 (row t i) k) := by
  blk_ext [iblk, V, idx0 t, row]

theorem w_block (k : Fin 1024) (j : Fin 1408) : iblk m c 1 t (ix2 j k) = (m ((c.tc : Thread nD τ).loc main_arg1)) (ix2 (col t j) k) := by
  blk_ext [iblk, V, idx1 t, col]

theorem emb2 (y : S1024x1408.Idx) : (win0_2.blk t).view.emb y = ix2 (row t (y 0)) (col t (y 1)) := by
  blk_ext [idx2 t, row, col]

theorem array : (dats m 0 c).arrAt 2 cfg0.N =
    fun y : S4096x5632.Idx => upProduct (m ((c.tc : Thread nD τ).loc main_arg0)) (m ((c.tc : Thread nD τ).loc main_arg1)) (y 0) (y 1) := by
  refine (dats m 0 c).arrAt_eq_of_covers 2 _ (by decide +kernel) fun t hf y => ?_
  blk_simp
  rw [emb2, after0_2, out_eq]
  refine (congrArg _ (eq_ix2 y)).trans ((product_at _ _ _ _).trans ?_)
  exact Finset.sum_congr rfl fun k _ => congrArg₂ (· * ·) (a_block m c t _ _) (w_block m c t _ _)

end Cert.UpIdeal.Ffn

namespace Cert.UpRefIdeal.Ffn

open Cert.UpRefIdeal Cert.UpRefIdeal.Gen Idealize.ShloMosaic Idealize.ShloMosaic.TcCoe Idealize.SL.Sem
open _root_.Ffn (upProduct)

theorem product_at (a : FVec Ideal S4096x1024 .bf16) (w : FVec Ideal S5632x1024 .bf16) (r : Fin 4096) (f : Fin 5632) :
    (Host.dotGeneral dot_S4096x1024_S1024x5632_S4096x5632_1_0_0_1_n_n none (extf .f32 a bitsLt_bf16_f32) (extf .f32 (transpose S1024x5632 [1, 0] w transposes_S5632x1024_S1024x5632_1_0) bitsLt_bf16_f32) :
      FVec Ideal S4096x5632 .f32) (ix2 r f) = upProduct a w r f := by
  unfold upProduct
  pointwise []

end Cert.UpRefIdeal.Ffn

namespace Cert.Proof

open Idealize.ShloMosaic Idealize.SL.Sem

attribute [local instance] Cert.Up.Gen.facts Cert.UpIdeal.Gen.facts Cert.UpRefIdeal.Gen.facts

theorem frame_up : Cert.quiescent_Up := fun m ρ _ => Cert.Up.Gen.frame m ρ
theorem frame_upIdeal : Cert.quiescent_UpIdeal := fun m ρ _ => Cert.UpIdeal.Gen.frame m ρ

theorem frame_upRefIdeal : Cert.quiescent_UpRefIdeal := fun m ρ _ =>
  (θ_run Cert.UpRefIdeal.defs _ _).mono
    (fun r hr => ⟨fun c => (hr c).2, sem_eq_zero_of_no_sems (by decide) r.2⟩) (Cert.UpRefIdeal.Value.run m ρ)

theorem preserves_up : Cert.preserves_Up_UpIdeal := trivial

/-- Kernel and reference end with the same gates and values before the convolution. -/
theorem algebraic_up : Cert.algebraic_UpIdeal_UpRefIdeal := by
  intro m g m' g' _ hargs
  refine ⟨fun c y => _root_.Ffn.upProduct (m ((c.tc : Thread Cert.UpIdeal.nD Cert.UpIdeal.τ).loc Cert.UpIdeal.main_arg0)) (m ((c.tc : Thread Cert.UpIdeal.nD Cert.UpIdeal.τ).loc Cert.UpIdeal.main_arg1)) (y 0) (y 1), ?_, ?_⟩
  · exact (θ_run Cert.UpIdeal.defs _ _).mono (fun r hr c => ⟨(hr c).1.trans (Cert.UpIdeal.Ffn.array m c), (hr c).2⟩) (Cert.UpIdeal.Value.run_blocks m g)
  · refine (θ_run Cert.UpRefIdeal.defs _ _).mono (fun r hr c => ⟨(hr c).1.trans ?_, (hr c).2⟩) (Cert.UpRefIdeal.Value.run m' g')
    refine funext fun y => (congrArg _ (eq_ix2 y)).trans ((Cert.UpRefIdeal.Ffn.product_at _ _ (y 0) (y 1)).trans ?_)
    rw [(hargs c).1, (hargs c).2]

end Cert.Proof

end
-- ==== Proof.Memkv.lean ====
/- The gradients of the memory's key and value projection, of its input and of its weight, against the reference's. -/
module

public import proofs.«01_k».proof.Defs
public import proofs.«01_k».proof.Proof.Gen.Memkv.Frame
public import proofs.«01_k».proof.Proof.Gen.MemkvIdeal.Frame
public import proofs.«01_k».proof.Proof.Gen.MemkvRefIdeal.Run
public import Idealize.ShloMosaic.Lib.Pipeline.ValueKit
public import Idealize.ShloMosaic.Lib.Pointwise

@[expose] public section

set_option maxRecDepth 16384

noncomputable section

namespace Ffn

open Idealize.ShloMosaic

/-- The gradient of the projection's input: each row of the keys' and values' gradients against each row of the weight. -/
def memkvDx (dkv : (⟨2, ![512, 512]⟩ : Shape).Idx → EReal) (w : (⟨2, ![1024, 512]⟩ : Shape).Idx → EReal) (r : Fin 512) (d : Fin 1024) : EReal :=
  ∑ k : Fin 512, dkv (ix2 r k) * w (ix2 d k)

/-- The gradient of the weight: each column of the input against each column of the keys' and values' gradients, over the memory's tokens. -/
def memkvDw (h : (⟨2, ![512, 1024]⟩ : Shape).Idx → EReal) (dkv : (⟨2, ![512, 512]⟩ : Shape).Idx → EReal) (d : Fin 1024) (f : Fin 512) : EReal :=
  ∑ k : Fin 512, h (ix2 k d) * dkv (ix2 k f)

end Ffn

namespace Cert.MemkvIdeal.Ffn

open Cert.MemkvIdeal Cert.MemkvIdeal.Gen Idealize.ShloMosaic Idealize.ShloMosaic.TcCoe Idealize.SL.Sem
open _root_.Ffn (memkvDx memkvDw)

theorem idx0_0 : ∀ t : Fin cfg0.N, win0_0.index t = ![0, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0, 0] := (by decide +kernel : ∀ t : Fin grid0.N, _)
theorem idx1_0 : ∀ t : Fin cfg1.N, win1_0.index t = ![0, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 0] := (by decide +kernel : ∀ t : Fin grid1.N, _)

theorem product0_at (a : Vec Ideal S512x1024 .bf16) (b : Vec Ideal S512x512 .f32) (i : Fin 1024) (j : Fin 512) :
    k0_pay1 (F := Ideal) a b (ix3 0 i j) = ∑ k : Fin 512, a (ix2 k i) * b (ix2 k j) := by
  pointwise [k0_pay1]

theorem product1_at (a : Vec Ideal S512x512 .f32) (b : Vec Ideal S1024x512 .bf16) (i : Fin 512) (j : Fin 1024) :
    k1_pay1 (F := Ideal) a b (ix2 i j) = ∑ k : Fin 512, a (ix2 i k) * b (ix2 j k) := by
  pointwise [k1_pay1]

theorem out0_eq (a : Vec Ideal S512x1024 .bf16) (b : Vec Ideal S512x512 .f32) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

theorem out1_eq (a : Vec Ideal S512x512 .f32) (b : Vec Ideal S1024x512 .bf16) : out1_2 a b = k1_pay1 a b := by
  unfold out1_2
  rw [View.canon_unit_zero (by funext a; fin_cases a <;> rfl), View.ld_unit_zero (by funext a; fin_cases a <;> rfl),
    View.ld_unit_zero (by funext a; fin_cases a <;> rfl)]

theorem row_eq {a b : Nat} (y : (⟨3, ![1, a, b]⟩ : Shape).Idx) : y = ix3 0 (y 1) (y 2) := by
  funext a
  fin_cases a
  · exact Subsingleton.elim (α := Fin 1) _ _
  · rfl
  · rfl

variable (V : (c : Dev nD) → (b : Ref sig .tc) → Buf (Elt Ideal) ((c : Thread nD τ).loc b)) (c : Dev nD)

theorem h_block (t : Fin cfg0.N) (k : Fin 512) (i : Fin 1024) : iblk0 V c 0 t (ix2 k i) = V c main_arg0 (ix2 k i) := by
  blk_ext [iblk0, idx0_0 t]

theorem dkv_block0 (t : Fin cfg0.N) (k : Fin 512) (j : Fin 512) : iblk0 V c 1 t (ix2 k j) = V c main_arg2 (ix2 k j) := by
  blk_ext [iblk0, idx0_1 t]

theorem dkv_block1 (t : Fin cfg1.N) (i : Fin 512) (k : Fin 512) : iblk1 V c 0 t (ix2 i k) = V c main_arg2 (ix2 i k) := by
  blk_ext [iblk1, idx1_0 t]

theorem w_block (t : Fin cfg1.N) (j : Fin 1024) (k : Fin 512) : iblk1 V c 1 t (ix2 j k) = V c main_arg1 (ix2 j k) := by
  blk_ext [iblk1, idx1_1 t]

theorem emb0 (t : Fin cfg0.N) (y : S1x1024x512.Idx) : (win0_2.blk t).view.emb y = ix3 0 (y 1) (y 2) := by
  blk_ext [idx0_2 t]

theorem emb1 (t : Fin cfg1.N) (y : S512x1024.Idx) : (win1_2.blk t).view.emb y = ix2 (y 0) (y 1) := by
  blk_ext [idx1_2 t]

/-! ## The array after each call -/

theorem array0 : (dat0 V c).arrAt 2 cfg0.N = fun y : S1x1024x512.Idx => memkvDw (V c main_arg0) (V c main_arg2) (y 1) (y 2) := by
  refine (dat0 V c).arrAt_eq_of_covers 2 _ (by decide +kernel) fun t hf y => ?_
  blk_simp
  rw [emb0, after0_2, out0_eq]
  refine (congrArg _ (row_eq y)).trans ((product0_at _ _ _ _).trans ?_)
  exact Finset.sum_congr rfl fun k _ => congrArg₂ (· * ·) (h_block V c t _ _) (dkv_block0 V c t _ _)

theorem array1 : (dat1 V c).arrAt 2 cfg1.N = fun y : S512x1024.Idx => memkvDx (V c main_arg2) (V c main_arg1) (y 0) (y 1) := by
  refine (dat1 V c).arrAt_eq_of_covers 2 _ (by decide +kernel) fun t hf y => ?_
  blk_simp
  rw [emb1, after1_2, out1_eq]
  refine (congrArg _ (eq_ix2 y)).trans ((product1_at _ _ _ _).trans ?_)
  exact Finset.sum_congr rfl fun k _ => congrArg₂ (· * ·) (dkv_block1 V c t _ _) (w_block V c t _ _)

/-! ## The launch -/

variable (m : (ℓ : Loc nD τ sig) → Buf (Elt Ideal) ℓ) (ρ : Dev nD → PrngReg)

theorem result_dx (c : Dev nD) : W2 m ρ c (Proc.devRef .tc main_v1) = fun y : S512x1024.Idx => memkvDx (m ((c.tc : Thread nD τ).loc main_arg2)) (m ((c.tc : Thread nD τ).loc main_arg1)) (y 0) (y 1) := by
  refine (W2_arr m ρ c 2).trans ((array1 (V1 m ρ) c).trans ?_)
  rw [show V1 m ρ c main_arg1 = _ from W1_args m ρ c main_arg1 (by decide), show V1 m ρ c main_arg2 = _ from W1_args m ρ c main_arg2 (by decide)]

theorem result_dw (c : Dev nD) : W2 m ρ c (Proc.devRef .tc main_v0) = fun y : S1x1024x512.Idx => memkvDw (m ((c.tc : Thread nD τ).loc main_arg0)) (m ((c.tc : Thread nD τ).loc main_arg2)) (y 1) (y 2) :=
  (W2_of m ρ c main_v0 (by decide +kernel)).trans ((W1_arr m ρ c 2).trans (array0 (V0 m ρ) c))

open Idealize.SL Idealize.SL.RA Idealize.SL.BI Idealize.SL.BI.BIBase Idealize.SL.BI.Laws Idealize.SL.ProofMode
open Idealize.ShloMosaic.Rounds Idealize.ShloMosaic.Tactic
open scoped Idealize.SL.BI

/-- The resources the launch is stated over. -/
abbrev Res : Type := MT nD τ sig Unit (Elt Ideal) ℕ (UR sig nD τ) ℕ

set_option backward.isDefEq.respectTransparency.types false in
/-- `main` ends with those results, and with its arguments as they were. -/
theorem run : θ_run defs (onTc (τ := τ) (main (F := Ideal))) ⟨m, fun _ => 0, ρ⟩ fun r => ∀ c : Dev nD,
      r.2.mem ((c.tc : Thread nD τ).loc main_v1) = (fun y : S512x1024.Idx => memkvDx (m ((c.tc : Thread nD τ).loc main_arg2)) (m ((c.tc : Thread nD τ).loc main_arg1)) (y 0) (y 1))
      ∧ r.2.mem ((c.tc : Thread nD τ).loc main_v0) = (fun y : S1x1024x512.Idx => memkvDw (m ((c.tc : Thread nD τ).loc main_arg0)) (m ((c.tc : Thread nD τ).loc main_arg2)) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c => ⟨(h c _ (mem_uc main_v1 (by decide))).trans (result_dx m ρ c),
      (h c _ (mem_uc main_v0 (by decide))).trans (result_dw m ρ c),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c)⟩)

end Cert.MemkvIdeal.Ffn

namespace Cert.MemkvRefIdeal.Ffn

open Cert.MemkvRefIdeal Cert.MemkvRefIdeal.Gen Idealize.ShloMosaic Idealize.ShloMosaic.TcCoe Idealize.SL.Sem
open _root_.Ffn (memkvDx memkvDw)

theorem dx_at (a : FVec Ideal S512x512 .f32) (b : FVec Ideal S1024x512 .bf16) (r : Fin 512) (d : Fin 1024) :
    (Host.dotGeneral dot_S512x512_S1024x512_S512x1024_1_1_0_0_n_n none a (extf .f32 b bitsLt_bf16_f32) :
      FVec Ideal S512x1024 .f32) (ix2 r d) = memkvDx a b r d := by
  unfold memkvDx
  pointwise []

theorem dw_at (h : FVec Ideal S512x1024 .bf16) (u : FVec Ideal S512x512 .f32) (o : Fin 1) (d : Fin 1024) (f : Fin 512) :
    (broadcastInDim S1x1024x512 ![1, 2] bcast_S1024x512_S1x1024x512_1_2 (truncf .bf16 (transpose S1024x512 [1, 0]
      (Host.dotGeneral dot_S512x512_S512x1024_S512x1024_0_0_1_1_n_n none u (extf .f32 h bitsLt_bf16_f32) :
      FVec Ideal S512x1024 .f32) transposes_S512x1024_S1024x512_1_0) bitsLt_bf16_f32) :
      FVec Ideal S1x1024x512 .bf16) (ix3 o d f) = memkvDw h u d f := by
  unfold memkvDw
  refine Eq.trans (b := ∑ k : Fin 512, u (ix2 k f) * h (ix2 k d)) ?_ (Finset.sum_congr rfl fun k _ => mul_comm _ _)
  pointwise []

end Cert.MemkvRefIdeal.Ffn

namespace Cert.Proof

open Idealize.ShloMosaic Idealize.SL.Sem

attribute [local instance] Cert.Memkv.Gen.facts Cert.MemkvIdeal.Gen.facts Cert.MemkvRefIdeal.Gen.facts

theorem frame_memkv : Cert.quiescent_Memkv := fun m ρ _ => Cert.Memkv.Gen.frame m ρ
theorem frame_memkvIdeal : Cert.quiescent_MemkvIdeal := fun m ρ _ => Cert.MemkvIdeal.Gen.frame m ρ

theorem frame_memkvRefIdeal : Cert.quiescent_MemkvRefIdeal := fun m ρ _ =>
  (θ_run Cert.MemkvRefIdeal.defs _ _).mono
    (fun r hr => ⟨fun c => (hr c).2.2, sem_eq_zero_of_no_sems (by decide) r.2⟩) (Cert.MemkvRefIdeal.Value.run m ρ)

theorem preserves_memkv : Cert.preserves_Memkv_MemkvIdeal := trivial

/-- Kernel and reference end with the same gradients of the memory's key and value projection. -/
theorem algebraic_memkv : Cert.algebraic_MemkvIdeal_MemkvRefIdeal := by
  intro m g m' g' _ hargs
  refine ⟨fun c y => _root_.Ffn.memkvDx (m ((c.tc : Thread Cert.MemkvIdeal.nD Cert.MemkvIdeal.τ).loc Cert.MemkvIdeal.main_arg2)) (m ((c.tc : Thread Cert.MemkvIdeal.nD Cert.MemkvIdeal.τ).loc Cert.MemkvIdeal.main_arg1)) (y 0) (y 1), fun c y => _root_.Ffn.memkvDw (m ((c.tc : Thread Cert.MemkvIdeal.nD Cert.MemkvIdeal.τ).loc Cert.MemkvIdeal.main_arg0)) (m ((c.tc : Thread Cert.MemkvIdeal.nD Cert.MemkvIdeal.τ).loc Cert.MemkvIdeal.main_arg2)) (y 1) (y 2),
    Cert.MemkvIdeal.Ffn.run m g, ?_⟩
  refine (θ_run Cert.MemkvRefIdeal.defs _ _).mono (fun r hr c => ⟨(hr c).1.trans ?_, (hr c).2.1.trans ?_, (hr c).2.2⟩) (Cert.MemkvRefIdeal.Value.run m' g')
  · refine funext fun y => (congrArg _ (eq_ix2 y)).trans ((Cert.MemkvRefIdeal.Ffn.dx_at _ _ (y 0) (y 1)).trans ?_)
    rw [(hargs c).2.1, (hargs c).2.2]
  · refine funext fun y => (congrArg _ (eq_ix3 y)).trans ((Cert.MemkvRefIdeal.Ffn.dw_at _ _ (y 0) (y 1) (y 2)).trans ?_)
    rw [(hargs c).1, (hargs c).2.2]

end Cert.Proof

end
-- ==== Proof.lean ====
module

public import proofs.«01_k».proof.Defs
public import proofs.«01_k».proof.Proof.Swa
public import proofs.«01_k».proof.Proof.DownDx
public import proofs.«01_k».proof.Proof.DownDw
public import proofs.«01_k».proof.Proof.UpDx
public import proofs.«01_k».proof.Proof.UpDw
public import proofs.«01_k».proof.Proof.MixoutDmain
public import proofs.«01_k».proof.Proof.MixoutDmem
public import proofs.«01_k».proof.Proof.MixoutDw
public import proofs.«01_k».proof.Proof.InADx
public import proofs.«01_k».proof.Proof.InADw
public import proofs.«01_k».proof.Proof.InBDx
public import proofs.«01_k».proof.Proof.InBDw
public import proofs.«01_k».proof.Proof.Gates
public import proofs.«01_k».proof.Proof.Kv
public import proofs.«01_k».proof.Proof.MemkvFwd
public import proofs.«01_k».proof.Proof.RmsPair
public import proofs.«01_k».proof.Proof.RmsPost
public import proofs.«01_k».proof.Proof.RmsPre
public import proofs.«01_k».proof.Proof.RmsMem
public import proofs.«01_k».proof.Proof.Turn
public import proofs.«01_k».proof.Proof.RmsFwd
public import proofs.«01_k».proof.Proof.RmsMemFwd
public import proofs.«01_k».proof.Proof.RmsPairFwd
public import proofs.«01_k».proof.Proof.RmsThreeFwd
public import proofs.«01_k».proof.Proof.ConvFwd
public import proofs.«01_k».proof.Proof.FfnMid
public import proofs.«01_k».proof.Proof.Conv
public import proofs.«01_k».proof.Proof.KvFwd
public import proofs.«01_k».proof.Proof.GatesFwd
public import proofs.«01_k».proof.Proof.InB
public import proofs.«01_k».proof.Proof.InA
public import proofs.«01_k».proof.Proof.Mixout
public import proofs.«01_k».proof.Proof.Down
public import proofs.«01_k».proof.Proof.Up
public import proofs.«01_k».proof.Proof.Memkv

@[expose] public section

noncomputable section

namespace Cert.Proof

theorem claim : Cert.Claim :=
  ⟨Cert.Kernel.Gen.facts, Cert.KernelIdeal.Gen.facts, Cert.ReferenceIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.MixoutDmain.Gen.facts, Cert.MixoutDmainIdeal.Gen.facts, Cert.MixoutDmainRefIdeal.Gen.facts,
    Cert.MixoutDmem.Gen.facts, Cert.MixoutDmemIdeal.Gen.facts, Cert.MixoutDmemRefIdeal.Gen.facts,
    Cert.MixoutDw.Gen.facts, Cert.MixoutDwIdeal.Gen.facts, Cert.MixoutDwRefIdeal.Gen.facts,
    Cert.InADx.Gen.facts, Cert.InADxIdeal.Gen.facts, Cert.InADxRefIdeal.Gen.facts,
    Cert.InADw.Gen.facts, Cert.InADwIdeal.Gen.facts, Cert.InADwRefIdeal.Gen.facts,
    Cert.InBDx.Gen.facts, Cert.InBDxIdeal.Gen.facts, Cert.InBDxRefIdeal.Gen.facts,
    Cert.InBDw.Gen.facts, Cert.InBDwIdeal.Gen.facts, Cert.InBDwRefIdeal.Gen.facts,
    Cert.Gates.Gen.facts, Cert.GatesIdeal.Gen.facts, Cert.GatesRefIdeal.Gen.facts,
    Cert.Kv.Gen.facts, Cert.KvIdeal.Gen.facts, Cert.KvRefIdeal.Gen.facts,
    Cert.Memkv.Gen.facts, Cert.MemkvIdeal.Gen.facts, Cert.MemkvRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Mixout.Gen.facts, Cert.MixoutIdeal.Gen.facts, Cert.MixoutRefIdeal.Gen.facts,
    Cert.InA.Gen.facts, Cert.InAIdeal.Gen.facts, Cert.InARefIdeal.Gen.facts,
    Cert.InB.Gen.facts, Cert.InBIdeal.Gen.facts, Cert.InBRefIdeal.Gen.facts,
    Cert.GatesFwd.Gen.facts, Cert.GatesFwdIdeal.Gen.facts, Cert.GatesFwdRefIdeal.Gen.facts,
    Cert.KvFwd.Gen.facts, Cert.KvFwdIdeal.Gen.facts, Cert.KvFwdRefIdeal.Gen.facts,
    Cert.MemkvFwd.Gen.facts, Cert.MemkvFwdIdeal.Gen.facts, Cert.MemkvFwdRefIdeal.Gen.facts,
    Cert.Conv.Gen.facts, Cert.ConvIdeal.Gen.facts, Cert.ConvRefIdeal.Gen.facts,
    Cert.RmsPair.Gen.facts, Cert.RmsPairIdeal.Gen.facts, Cert.RmsPairRefIdeal.Gen.facts,
    Cert.RmsPost.Gen.facts, Cert.RmsPostIdeal.Gen.facts, Cert.RmsPostRefIdeal.Gen.facts,
    Cert.RmsPre.Gen.facts, Cert.RmsPreIdeal.Gen.facts, Cert.RmsPreRefIdeal.Gen.facts,
    Cert.RmsMem.Gen.facts, Cert.RmsMemIdeal.Gen.facts, Cert.RmsMemRefIdeal.Gen.facts,
    Cert.Turn.Gen.facts, Cert.TurnIdeal.Gen.facts, Cert.TurnRefIdeal.Gen.facts,
    Cert.RmsFwd.Gen.facts, Cert.RmsFwdIdeal.Gen.facts, Cert.RmsFwdRefIdeal.Gen.facts,
    Cert.RmsMemFwd.Gen.facts, Cert.RmsMemFwdIdeal.Gen.facts, Cert.RmsMemFwdRefIdeal.Gen.facts,
    Cert.RmsPairFwd.Gen.facts, Cert.RmsPairFwdIdeal.Gen.facts, Cert.RmsPairFwdRefIdeal.Gen.facts,
    Cert.RmsThreeFwd.Gen.facts, Cert.RmsThreeFwdIdeal.Gen.facts, Cert.RmsThreeFwdRefIdeal.Gen.facts,
    Cert.ConvFwd.Gen.facts, Cert.ConvFwdIdeal.Gen.facts, Cert.ConvFwdRefIdeal.Gen.facts,
    Cert.FfnMid.Gen.facts, Cert.FfnMidIdeal.Gen.facts, Cert.FfnMidRefIdeal.Gen.facts,
    Cert.Pre_finite.facts,
    frame_kernel, frame_kernelIdeal, frame_kernelIdeal_finite, frame_referenceIdeal, frame_referenceIdeal_finite,
    frame_downDx, frame_downDxIdeal, frame_downDxRefIdeal,
    frame_downDw, frame_downDwIdeal, frame_downDwRefIdeal,
    frame_upDx, frame_upDxIdeal, frame_upDxRefIdeal,
    frame_upDw, frame_upDwIdeal, frame_upDwRefIdeal,
    frame_mixoutDmain, frame_mixoutDmainIdeal, frame_mixoutDmainRefIdeal,
    frame_mixoutDmem, frame_mixoutDmemIdeal, frame_mixoutDmemRefIdeal,
    frame_mixoutDw, frame_mixoutDwIdeal, frame_mixoutDwRefIdeal,
    frame_inADx, frame_inADxIdeal, frame_inADxRefIdeal,
    frame_inADw, frame_inADwIdeal, frame_inADwRefIdeal,
    frame_inBDx, frame_inBDxIdeal, frame_inBDxRefIdeal,
    frame_inBDw, frame_inBDwIdeal, frame_inBDwRefIdeal,
    frame_gates, frame_gatesIdeal, frame_gatesRefIdeal,
    frame_kv, frame_kvIdeal, frame_kvRefIdeal,
    frame_memkv, frame_memkvIdeal, frame_memkvRefIdeal,
    frame_up, frame_upIdeal, frame_upRefIdeal,
    frame_down, frame_downIdeal, frame_downRefIdeal,
    frame_mixout, frame_mixoutIdeal, frame_mixoutRefIdeal,
    frame_inA, frame_inAIdeal, frame_inARefIdeal,
    frame_inB, frame_inBIdeal, frame_inBRefIdeal,
    frame_gatesFwd, frame_gatesFwdIdeal, frame_gatesFwdRefIdeal,
    frame_kvFwd, frame_kvFwdIdeal, frame_kvFwdRefIdeal,
    frame_memkvFwd, frame_memkvFwdIdeal, frame_memkvFwdRefIdeal,
    frame_conv, frame_convIdeal, frame_convRefIdeal,
    frame_rmsPair, frame_rmsPairIdeal, frame_rmsPairRefIdeal,
    frame_rmsPost, frame_rmsPostIdeal, frame_rmsPostRefIdeal,
    frame_rmsPre, frame_rmsPreIdeal, frame_rmsPreRefIdeal,
    frame_rmsMem, frame_rmsMemIdeal, frame_rmsMemRefIdeal,
    frame_turn, frame_turnIdeal, frame_turnRefIdeal,
    frame_rmsFwd, frame_rmsFwdIdeal, frame_rmsFwdRefIdeal,
    frame_rmsMemFwd, frame_rmsMemFwdIdeal, frame_rmsMemFwdRefIdeal,
    frame_rmsPairFwd, frame_rmsPairFwdIdeal, frame_rmsPairFwdRefIdeal,
    frame_rmsThreeFwd, frame_rmsThreeFwdIdeal, frame_rmsThreeFwdRefIdeal,
    frame_convFwd, frame_convFwdIdeal, frame_convFwdRefIdeal,
    frame_ffnMid, frame_ffnMidIdeal, frame_ffnMidRefIdeal,
    preserves, algebraic, preserves_downDx, algebraic_downDx, preserves_downDw, algebraic_downDw,
    preserves_upDx, algebraic_upDx, preserves_upDw, algebraic_upDw,
    preserves_mixoutDmain, algebraic_mixoutDmain,
    preserves_mixoutDmem, algebraic_mixoutDmem,
    preserves_mixoutDw, algebraic_mixoutDw,
    preserves_inADx, algebraic_inADx,
    preserves_inADw, algebraic_inADw,
    preserves_inBDx, algebraic_inBDx,
    preserves_inBDw, algebraic_inBDw,
    preserves_gates, algebraic_gates,
    preserves_kv, algebraic_kv,
    preserves_memkv, algebraic_memkv,
    preserves_up, algebraic_up,
    preserves_down, algebraic_down,
    preserves_mixout, algebraic_mixout,
    preserves_inA, algebraic_inA,
    preserves_inB, algebraic_inB,
    preserves_gatesFwd, algebraic_gatesFwd,
    preserves_kvFwd, algebraic_kvFwd,
    preserves_memkvFwd, algebraic_memkvFwd,
    preserves_conv, algebraic_conv,
    preserves_rmsPair, algebraic_rmsPair,
    preserves_rmsPost, algebraic_rmsPost,
    preserves_rmsPre, algebraic_rmsPre,
    preserves_rmsMem, algebraic_rmsMem,
    preserves_turn, algebraic_turn,
    preserves_rmsFwd, algebraic_rmsFwd,
    preserves_rmsMemFwd, algebraic_rmsMemFwd,
    preserves_rmsPairFwd, algebraic_rmsPairFwd,
    preserves_rmsThreeFwd, algebraic_rmsThreeFwd,
    preserves_convFwd, algebraic_convFwd,
    preserves_ffnMid, algebraic_ffnMid⟩

end Cert.Proof

end
